-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_ExpDown [hPre_routed3 : Cert.Pre_routed3.Facts] (m : (ℓ : Loc Cert.ExpDown.nD Cert.ExpDown.τ Cert.ExpDown.sig) → Buf (Elt Bits) ℓ) : Prop :=
  ∀ c : Dev Cert.ExpDown.nD,
    (Cert.Pre_routed3.fn (F := Bits) (m ((c.tc : Thread Cert.ExpDown.nD Cert.ExpDown.τ).loc Cert.ExpDown.main_arg0)) (m ((c.tc : Thread Cert.ExpDown.nD Cert.ExpDown.τ).loc Cert.ExpDown.main_arg1)) (m ((c.tc : Thread Cert.ExpDown.nD Cert.ExpDown.τ).loc Cert.ExpDown.main_arg2)) (m ((c.tc : Thread Cert.ExpDown.nD Cert.ExpDown.τ).loc Cert.ExpDown.main_arg3)) (m ((c.tc : Thread Cert.ExpDown.nD Cert.ExpDown.τ).loc Cert.ExpDown.main_arg4))) = (fun _ => 1#1)

def Pre_ExpDownIdeal [hPre_routed3 : Cert.Pre_routed3.Facts] (m : (ℓ : Loc Cert.ExpDownIdeal.nD Cert.ExpDownIdeal.τ Cert.ExpDownIdeal.sig) → Buf (Elt Ideal) ℓ) : Prop :=
  ∀ c : Dev Cert.ExpDownIdeal.nD,
    (Cert.Pre_routed3.fn (F := Ideal) (m ((c.tc : Thread Cert.ExpDownIdeal.nD Cert.ExpDownIdeal.τ).loc Cert.ExpDownIdeal.main_arg0)) (m ((c.tc : Thread Cert.ExpDownIdeal.nD Cert.ExpDownIdeal.τ).loc Cert.ExpDownIdeal.main_arg1)) (m ((c.tc : Thread Cert.ExpDownIdeal.nD Cert.ExpDownIdeal.τ).loc Cert.ExpDownIdeal.main_arg2)) (m ((c.tc : Thread Cert.ExpDownIdeal.nD Cert.ExpDownIdeal.τ).loc Cert.ExpDownIdeal.main_arg3)) (m ((c.tc : Thread Cert.ExpDownIdeal.nD Cert.ExpDownIdeal.τ).loc Cert.ExpDownIdeal.main_arg4))) = (fun _ => 1#1)

def Pre_ExpDownReferenceIdeal (m : (ℓ : Loc Cert.ExpDownReferenceIdeal.nD Cert.ExpDownReferenceIdeal.τ Cert.ExpDownReferenceIdeal.sig) → Buf (Elt Ideal) ℓ) : Prop :=
  True

def Pre_ExpDownReferenceIdeal_routed3 [hPre_routed3 : Cert.Pre_routed3.Facts] (m : (ℓ : Loc Cert.ExpDownReferenceIdeal.nD Cert.ExpDownReferenceIdeal.τ Cert.ExpDownReferenceIdeal.sig) → Buf (Elt Ideal) ℓ) : Prop :=
  ∀ c : Dev Cert.ExpDownReferenceIdeal.nD,
    (Cert.Pre_routed3.fn (F := Ideal) (m ((c.tc : Thread Cert.ExpDownReferenceIdeal.nD Cert.ExpDownReferenceIdeal.τ).loc Cert.ExpDownReferenceIdeal.main_arg0)) (m ((c.tc : Thread Cert.ExpDownReferenceIdeal.nD Cert.ExpDownReferenceIdeal.τ).loc Cert.ExpDownReferenceIdeal.main_arg1)) (m ((c.tc : Thread Cert.ExpDownReferenceIdeal.nD Cert.ExpDownReferenceIdeal.τ).loc Cert.ExpDownReferenceIdeal.main_arg2)) (m ((c.tc : Thread Cert.ExpDownReferenceIdeal.nD Cert.ExpDownReferenceIdeal.τ).loc Cert.ExpDownReferenceIdeal.main_arg3)) (m ((c.tc : Thread Cert.ExpDownReferenceIdeal.nD Cert.ExpDownReferenceIdeal.τ).loc Cert.ExpDownReferenceIdeal.main_arg4))) = (fun _ => 1#1)

def Pre_ExpUp [hPre_routed4 : Cert.Pre_routed4.Facts] (m : (ℓ : Loc Cert.ExpUp.nD Cert.ExpUp.τ Cert.ExpUp.sig) → Buf (Elt Bits) ℓ) : Prop :=
  ∀ c : Dev Cert.ExpUp.nD,
    (Cert.Pre_routed4.fn (F := Bits) (m ((c.tc : Thread Cert.ExpUp.nD Cert.ExpUp.τ).loc Cert.ExpUp.main_arg0)) (m ((c.tc : Thread Cert.ExpUp.nD Cert.ExpUp.τ).loc Cert.ExpUp.main_arg1)) (m ((c.tc : Thread Cert.ExpUp.nD Cert.ExpUp.τ).loc Cert.ExpUp.main_arg2)) (m ((c.tc : Thread Cert.ExpUp.nD Cert.ExpUp.τ).loc Cert.ExpUp.main_arg3)) (m ((c.tc : Thread Cert.ExpUp.nD Cert.ExpUp.τ).loc Cert.ExpUp.main_arg4)) (m ((c.tc : Thread Cert.ExpUp.nD Cert.ExpUp.τ).loc Cert.ExpUp.main_arg5))) = (fun _ => 1#1)

def Pre_ExpUpIdeal [hPre_routed4 : Cert.Pre_routed4.Facts] (m : (ℓ : Loc Cert.ExpUpIdeal.nD Cert.ExpUpIdeal.τ Cert.ExpUpIdeal.sig) → Buf (Elt Ideal) ℓ) : Prop :=
  ∀ c : Dev Cert.ExpUpIdeal.nD,
    (Cert.Pre_routed4.fn (F := Ideal) (m ((c.tc : Thread Cert.ExpUpIdeal.nD Cert.ExpUpIdeal.τ).loc Cert.ExpUpIdeal.main_arg0)) (m ((c.tc : Thread Cert.ExpUpIdeal.nD Cert.ExpUpIdeal.τ).loc Cert.ExpUpIdeal.main_arg1)) (m ((c.tc : Thread Cert.ExpUpIdeal.nD Cert.ExpUpIdeal.τ).loc Cert.ExpUpIdeal.main_arg2)) (m ((c.tc : Thread Cert.ExpUpIdeal.nD Cert.ExpUpIdeal.τ).loc Cert.ExpUpIdeal.main_arg3)) (m ((c.tc : Thread Cert.ExpUpIdeal.nD Cert.ExpUpIdeal.τ).loc Cert.ExpUpIdeal.main_arg4)) (m ((c.tc : Thread Cert.ExpUpIdeal.nD Cert.ExpUpIdeal.τ).loc Cert.ExpUpIdeal.main_arg5))) = (fun _ => 1#1)

def Pre_ExpUpReferenceIdeal (m : (ℓ : Loc Cert.ExpUpReferenceIdeal.nD Cert.ExpUpReferenceIdeal.τ Cert.ExpUpReferenceIdeal.sig) → Buf (Elt Ideal) ℓ) : Prop :=
  True

def Pre_ExpUpReferenceIdeal_routed4 [hPre_routed4 : Cert.Pre_routed4.Facts] (m : (ℓ : Loc Cert.ExpUpReferenceIdeal.nD Cert.ExpUpReferenceIdeal.τ Cert.ExpUpReferenceIdeal.sig) → Buf (Elt Ideal) ℓ) : Prop :=
  ∀ c : Dev Cert.ExpUpReferenceIdeal.nD,
    (Cert.Pre_routed4.fn (F := Ideal) (m ((c.tc : Thread Cert.ExpUpReferenceIdeal.nD Cert.ExpUpReferenceIdeal.τ).loc Cert.ExpUpReferenceIdeal.main_arg0)) (m ((c.tc : Thread Cert.ExpUpReferenceIdeal.nD Cert.ExpUpReferenceIdeal.τ).loc Cert.ExpUpReferenceIdeal.main_arg1)) (m ((c.tc : Thread Cert.ExpUpReferenceIdeal.nD Cert.ExpUpReferenceIdeal.τ).loc Cert.ExpUpReferenceIdeal.main_arg2)) (m ((c.tc : Thread Cert.ExpUpReferenceIdeal.nD Cert.ExpUpReferenceIdeal.τ).loc Cert.ExpUpReferenceIdeal.main_arg3)) (m ((c.tc : Thread Cert.ExpUpReferenceIdeal.nD Cert.ExpUpReferenceIdeal.τ).loc Cert.ExpUpReferenceIdeal.main_arg4)) (m ((c.tc : Thread Cert.ExpUpReferenceIdeal.nD Cert.ExpUpReferenceIdeal.τ).loc Cert.ExpUpReferenceIdeal.main_arg5))) = (fun _ => 1#1)

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutReferenceIdeal (m : (ℓ : Loc Cert.OddOutReferenceIdeal.nD Cert.OddOutReferenceIdeal.τ Cert.OddOutReferenceIdeal.sig) → Buf (Elt Ideal) ℓ) : Prop :=
  True

def Pre_Keys (m : (ℓ : Loc Cert.Keys.nD Cert.Keys.τ Cert.Keys.sig) → Buf (Elt Bits) ℓ) : Prop :=
  True

def Pre_KeysIdeal (m : (ℓ : Loc Cert.KeysIdeal.nD Cert.KeysIdeal.τ Cert.KeysIdeal.sig) → Buf (Elt Ideal) ℓ) : Prop :=
  True

def Pre_KeysReferenceIdeal (m : (ℓ : Loc Cert.KeysReferenceIdeal.nD Cert.KeysReferenceIdeal.τ Cert.KeysReferenceIdeal.sig) → Buf (Elt Ideal) ℓ) : Prop :=
  True

def Pre_Vals (m : (ℓ : Loc Cert.Vals.nD Cert.Vals.τ Cert.Vals.sig) → Buf (Elt Bits) ℓ) : Prop :=
  True

def Pre_ValsIdeal (m : (ℓ : Loc Cert.ValsIdeal.nD Cert.ValsIdeal.τ Cert.ValsIdeal.sig) → Buf (Elt Ideal) ℓ) : Prop :=
  True

def Pre_ValsReferenceIdeal (m : (ℓ : Loc Cert.ValsReferenceIdeal.nD Cert.ValsReferenceIdeal.τ Cert.ValsReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2))
      ∧ r.2.sem = fun _ => 0)

def quiescent_ExpDown [hExpDown : Cert.ExpDown.Facts] [hPre_routed3 : Cert.Pre_routed3.Facts] : Prop :=
  ∀ (m : (ℓ : Loc Cert.ExpDown.nD Cert.ExpDown.τ Cert.ExpDown.sig) → Buf (Elt Bits) ℓ) (g : Dev Cert.ExpDown.nD → PrngReg), Pre_ExpDown m →
    θ_run (Cert.ExpDown.defs (F := Bits)) (onTc (τ := Cert.ExpDown.τ) (Cert.ExpDown.main (F := Bits))) ⟨m, fun _ => 0, g⟩ (fun r => (∀ c : Dev Cert.ExpDown.nD,
      r.2.mem ((c.tc : Thread Cert.ExpDown.nD Cert.ExpDown.τ).loc Cert.ExpDown.main_arg0) = m ((c.tc : Thread Cert.ExpDown.nD Cert.ExpDown.τ).loc Cert.ExpDown.main_arg0)
      ∧ r.2.mem ((c.tc : Thread Cert.ExpDown.nD Cert.ExpDown.τ).loc Cert.ExpDown.main_arg1) = m ((c.tc : Thread Cert.ExpDown.nD Cert.ExpDown.τ).loc Cert.ExpDown.main_arg1)
      ∧ r.2.mem ((c.tc : Thread Cert.ExpDown.nD Cert.ExpDown.τ).loc Cert.ExpDown.main_arg2) = m ((c.tc : Thread Cert.ExpDown.nD Cert.ExpDown.τ).loc Cert.ExpDown.main_arg2)
      ∧ r.2.mem ((c.tc : Thread Cert.ExpDown.nD Cert.ExpDown.τ).loc Cert.ExpDown.main_arg3) = m ((c.tc : Thread Cert.ExpDown.nD Cert.ExpDown.τ).loc Cert.ExpDown.main_arg3)
      ∧ r.2.mem ((c.tc : Thread Cert.ExpDown.nD Cert.ExpDown.τ).loc Cert.ExpDown.main_arg4) = m ((c.tc : Thread Cert.ExpDown.nD Cert.ExpDown.τ).loc Cert.ExpDown.main_arg4))
      ∧ r.2.sem = fun _ => 0)

def quiescent_ExpDownIdeal [hExpDownIdeal : Cert.ExpDownIdeal.Facts] [hPre_routed3 : Cert.Pre_routed3.Facts] : Prop :=
  ∀ (m : (ℓ : Loc Cert.ExpDownIdeal.nD Cert.ExpDownIdeal.τ Cert.ExpDownIdeal.sig) → Buf (Elt Ideal) ℓ) (g : Dev Cert.ExpDownIdeal.nD → PrngReg), Pre_ExpDownIdeal m →
    θ_run (Cert.ExpDownIdeal.defs (F := Ideal)) (onTc (τ := Cert.ExpDownIdeal.τ) (Cert.ExpDownIdeal.main (F := Ideal))) ⟨m, fun _ => 0, g⟩ (fun r => (∀ c : Dev Cert.ExpDownIdeal.nD,
      r.2.mem ((c.tc : Thread Cert.ExpDownIdeal.nD Cert.ExpDownIdeal.τ).loc Cert.ExpDownIdeal.main_arg0) = m ((c.tc : Thread Cert.ExpDownIdeal.nD Cert.ExpDownIdeal.τ).loc Cert.ExpDownIdeal.main_arg0)
      ∧ r.2.mem ((c.tc : Thread Cert.ExpDownIdeal.nD Cert.ExpDownIdeal.τ).loc Cert.ExpDownIdeal.main_arg1) = m ((c.tc : Thread Cert.ExpDownIdeal.nD Cert.ExpDownIdeal.τ).loc Cert.ExpDownIdeal.main_arg1)
      ∧ r.2.mem ((c.tc : Thread Cert.ExpDownIdeal.nD Cert.ExpDownIdeal.τ).loc Cert.ExpDownIdeal.main_arg2) = m ((c.tc : Thread Cert.ExpDownIdeal.nD Cert.ExpDownIdeal.τ).loc Cert.ExpDownIdeal.main_arg2)
      ∧ r.2.mem ((c.tc : Thread Cert.ExpDownIdeal.nD Cert.ExpDownIdeal.τ).loc Cert.ExpDownIdeal.main_arg3) = m ((c.tc : Thread Cert.ExpDownIdeal.nD Cert.ExpDownIdeal.τ).loc Cert.ExpDownIdeal.main_arg3)
      ∧ r.2.mem ((c.tc : Thread Cert.ExpDownIdeal.nD Cert.ExpDownIdeal.τ).loc Cert.ExpDownIdeal.main_arg4) = m ((c.tc : Thread Cert.ExpDownIdeal.nD Cert.ExpDownIdeal.τ).loc Cert.ExpDownIdeal.main_arg4))
      ∧ r.2.sem = fun _ => 0)

def quiescent_ExpDownReferenceIdeal [hExpDownReferenceIdeal : Cert.ExpDownReferenceIdeal.Facts] : Prop :=
  ∀ (m : (ℓ : Loc Cert.ExpDownReferenceIdeal.nD Cert.ExpDownReferenceIdeal.τ Cert.ExpDownReferenceIdeal.sig) → Buf (Elt Ideal) ℓ) (g : Dev Cert.ExpDownReferenceIdeal.nD → PrngReg), Pre_ExpDownReferenceIdeal m →
    θ_run (Cert.ExpDownReferenceIdeal.defs (F := Ideal)) (onTc (τ := Cert.ExpDownReferenceIdeal.τ) (Cert.ExpDownReferenceIdeal.main (F := Ideal))) ⟨m, fun _ => 0, g⟩ (fun r => (∀ c : Dev Cert.ExpDownReferenceIdeal.nD,
      r.2.mem ((c.tc : Thread Cert.ExpDownReferenceIdeal.nD Cert.ExpDownReferenceIdeal.τ).loc Cert.ExpDownReferenceIdeal.main_arg0) = m ((c.tc : Thread Cert.ExpDownReferenceIdeal.nD Cert.ExpDownReferenceIdeal.τ).loc Cert.ExpDownReferenceIdeal.main_arg0)
      ∧ r.2.mem ((c.tc : Thread Cert.ExpDownReferenceIdeal.nD Cert.ExpDownReferenceIdeal.τ).loc Cert.ExpDownReferenceIdeal.main_arg1) = m ((c.tc : Thread Cert.ExpDownReferenceIdeal.nD Cert.ExpDownReferenceIdeal.τ).loc Cert.ExpDownReferenceIdeal.main_arg1)
      ∧ r.2.mem ((c.tc : Thread Cert.ExpDownReferenceIdeal.nD Cert.ExpDownReferenceIdeal.τ).loc Cert.ExpDownReferenceIdeal.main_arg2) = m ((c.tc : Thread Cert.ExpDownReferenceIdeal.nD Cert.ExpDownReferenceIdeal.τ).loc Cert.ExpDownReferenceIdeal.main_arg2)
      ∧ r.2.mem ((c.tc : Thread Cert.ExpDownReferenceIdeal.nD Cert.ExpDownReferenceIdeal.τ).loc Cert.ExpDownReferenceIdeal.main_arg3) = m ((c.tc : Thread Cert.ExpDownReferenceIdeal.nD Cert.ExpDownReferenceIdeal.τ).loc Cert.ExpDownReferenceIdeal.main_arg3)
      ∧ r.2.mem ((c.tc : Thread Cert.ExpDownReferenceIdeal.nD Cert.ExpDownReferenceIdeal.τ).loc Cert.ExpDownReferenceIdeal.main_arg4) = m ((c.tc : Thread Cert.ExpDownReferenceIdeal.nD Cert.ExpDownReferenceIdeal.τ).loc Cert.ExpDownReferenceIdeal.main_arg4))
      ∧ r.2.sem = fun _ => 0)

def quiescent_ExpDownReferenceIdeal_pre_routed3 [hExpDownReferenceIdeal : Cert.ExpDownReferenceIdeal.Facts] [hPre_routed3 : Cert.Pre_routed3.Facts] : Prop :=
  ∀ (m : (ℓ : Loc Cert.ExpDownReferenceIdeal.nD Cert.ExpDownReferenceIdeal.τ Cert.ExpDownReferenceIdeal.sig) → Buf (Elt Ideal) ℓ) (g : Dev Cert.ExpDownReferenceIdeal.nD → PrngReg), Pre_ExpDownReferenceIdeal_routed3 m →
    θ_run (Cert.ExpDownReferenceIdeal.defs (F := Ideal)) (onTc (τ := Cert.ExpDownReferenceIdeal.τ) (Cert.ExpDownReferenceIdeal.main (F := Ideal))) ⟨m, fun _ => 0, g⟩ (fun r => (∀ c : Dev Cert.ExpDownReferenceIdeal.nD,
      r.2.mem ((c.tc : Thread Cert.ExpDownReferenceIdeal.nD Cert.ExpDownReferenceIdeal.τ).loc Cert.ExpDownReferenceIdeal.main_arg0) = m ((c.tc : Thread Cert.ExpDownReferenceIdeal.nD Cert.ExpDownReferenceIdeal.τ).loc Cert.ExpDownReferenceIdeal.main_arg0)
      ∧ r.2.mem ((c.tc : Thread Cert.ExpDownReferenceIdeal.nD Cert.ExpDownReferenceIdeal.τ).loc Cert.ExpDownReferenceIdeal.main_arg1) = m ((c.tc : Thread Cert.ExpDownReferenceIdeal.nD Cert.ExpDownReferenceIdeal.τ).loc Cert.ExpDownReferenceIdeal.main_arg1)
      ∧ r.2.mem ((c.tc : Thread Cert.ExpDownReferenceIdeal.nD Cert.ExpDownReferenceIdeal.τ).loc Cert.ExpDownReferenceIdeal.main_arg2) = m ((c.tc : Thread Cert.ExpDownReferenceIdeal.nD Cert.ExpDownReferenceIdeal.τ).loc Cert.ExpDownReferenceIdeal.main_arg2)
      ∧ r.2.mem ((c.tc : Thread Cert.ExpDownReferenceIdeal.nD Cert.ExpDownReferenceIdeal.τ).loc Cert.ExpDownReferenceIdeal.main_arg3) = m ((c.tc : Thread Cert.ExpDownReferenceIdeal.nD Cert.ExpDownReferenceIdeal.τ).loc Cert.ExpDownReferenceIdeal.main_arg3)
      ∧ r.2.mem ((c.tc : Thread Cert.ExpDownReferenceIdeal.nD Cert.ExpDownReferenceIdeal.τ).loc Cert.ExpDownReferenceIdeal.main_arg4) = m ((c.tc : Thread Cert.ExpDownReferenceIdeal.nD Cert.ExpDownReferenceIdeal.τ).loc Cert.ExpDownReferenceIdeal.main_arg4))
      ∧ r.2.sem = fun _ => 0)

def quiescent_ExpUp [hExpUp : Cert.ExpUp.Facts] [hPre_routed4 : Cert.Pre_routed4.Facts] : Prop :=
  ∀ (m : (ℓ : Loc Cert.ExpUp.nD Cert.ExpUp.τ Cert.ExpUp.sig) → Buf (Elt Bits) ℓ) (g : Dev Cert.ExpUp.nD → PrngReg), Pre_ExpUp m →
    θ_run (Cert.ExpUp.defs (F := Bits)) (onTc (τ := Cert.ExpUp.τ) (Cert.ExpUp.main (F := Bits))) ⟨m, fun _ => 0, g⟩ (fun r => (∀ c : Dev Cert.ExpUp.nD,
      r.2.mem ((c.tc : Thread Cert.ExpUp.nD Cert.ExpUp.τ).loc Cert.ExpUp.main_arg0) = m ((c.tc : Thread Cert.ExpUp.nD Cert.ExpUp.τ).loc Cert.ExpUp.main_arg0)
      ∧ r.2.mem ((c.tc : Thread Cert.ExpUp.nD Cert.ExpUp.τ).loc Cert.ExpUp.main_arg1) = m ((c.tc : Thread Cert.ExpUp.nD Cert.ExpUp.τ).loc Cert.ExpUp.main_arg1)
      ∧ r.2.mem ((c.tc : Thread Cert.ExpUp.nD Cert.ExpUp.τ).loc Cert.ExpUp.main_arg2) = m ((c.tc : Thread Cert.ExpUp.nD Cert.ExpUp.τ).loc Cert.ExpUp.main_arg2)
      ∧ r.2.mem ((c.tc : Thread Cert.ExpUp.nD Cert.ExpUp.τ).loc Cert.ExpUp.main_arg3) = m ((c.tc : Thread Cert.ExpUp.nD Cert.ExpUp.τ).loc Cert.ExpUp.main_arg3)
      ∧ r.2.mem ((c.tc : Thread Cert.ExpUp.nD Cert.ExpUp.τ).loc Cert.ExpUp.main_arg4) = m ((c.tc : Thread Cert.ExpUp.nD Cert.ExpUp.τ).loc Cert.ExpUp.main_arg4)
      ∧ r.2.mem ((c.tc : Thread Cert.ExpUp.nD Cert.ExpUp.τ).loc Cert.ExpUp.main_arg5) = m ((c.tc : Thread Cert.ExpUp.nD Cert.ExpUp.τ).loc Cert.ExpUp.main_arg5))
      ∧ r.2.sem = fun _ => 0)

def quiescent_ExpUpIdeal [hExpUpIdeal : Cert.ExpUpIdeal.Facts] [hPre_routed4 : Cert.Pre_routed4.Facts] : Prop :=
  ∀ (m : (ℓ : Loc Cert.ExpUpIdeal.nD Cert.ExpUpIdeal.τ Cert.ExpUpIdeal.sig) → Buf (Elt Ideal) ℓ) (g : Dev Cert.ExpUpIdeal.nD → PrngReg), Pre_ExpUpIdeal m →
    θ_run (Cert.ExpUpIdeal.defs (F := Ideal)) (onTc (τ := Cert.ExpUpIdeal.τ) (Cert.ExpUpIdeal.main (F := Ideal))) ⟨m, fun _ => 0, g⟩ (fun r => (∀ c : Dev Cert.ExpUpIdeal.nD,
      r.2.mem ((c.tc : Thread Cert.ExpUpIdeal.nD Cert.ExpUpIdeal.τ).loc Cert.ExpUpIdeal.main_arg0) = m ((c.tc : Thread Cert.ExpUpIdeal.nD Cert.ExpUpIdeal.τ).loc Cert.ExpUpIdeal.main_arg0)
      ∧ r.2.mem ((c.tc : Thread Cert.ExpUpIdeal.nD Cert.ExpUpIdeal.τ).loc Cert.ExpUpIdeal.main_arg1) = m ((c.tc : Thread Cert.ExpUpIdeal.nD Cert.ExpUpIdeal.τ).loc Cert.ExpUpIdeal.main_arg1)
      ∧ r.2.mem ((c.tc : Thread Cert.ExpUpIdeal.nD Cert.ExpUpIdeal.τ).loc Cert.ExpUpIdeal.main_arg2) = m ((c.tc : Thread Cert.ExpUpIdeal.nD Cert.ExpUpIdeal.τ).loc Cert.ExpUpIdeal.main_arg2)
      ∧ r.2.mem ((c.tc : Thread Cert.ExpUpIdeal.nD Cert.ExpUpIdeal.τ).loc Cert.ExpUpIdeal.main_arg3) = m ((c.tc : Thread Cert.ExpUpIdeal.nD Cert.ExpUpIdeal.τ).loc Cert.ExpUpIdeal.main_arg3)
      ∧ r.2.mem ((c.tc : Thread Cert.ExpUpIdeal.nD Cert.ExpUpIdeal.τ).loc Cert.ExpUpIdeal.main_arg4) = m ((c.tc : Thread Cert.ExpUpIdeal.nD Cert.ExpUpIdeal.τ).loc Cert.ExpUpIdeal.main_arg4)
      ∧ r.2.mem ((c.tc : Thread Cert.ExpUpIdeal.nD Cert.ExpUpIdeal.τ).loc Cert.ExpUpIdeal.main_arg5) = m ((c.tc : Thread Cert.ExpUpIdeal.nD Cert.ExpUpIdeal.τ).loc Cert.ExpUpIdeal.main_arg5))
      ∧ r.2.sem = fun _ => 0)

def quiescent_ExpUpReferenceIdeal [hExpUpReferenceIdeal : Cert.ExpUpReferenceIdeal.Facts] : Prop :=
  ∀ (m : (ℓ : Loc Cert.ExpUpReferenceIdeal.nD Cert.ExpUpReferenceIdeal.τ Cert.ExpUpReferenceIdeal.sig) → Buf (Elt Ideal) ℓ) (g : Dev Cert.ExpUpReferenceIdeal.nD → PrngReg), Pre_ExpUpReferenceIdeal m →
    θ_run (Cert.ExpUpReferenceIdeal.defs (F := Ideal)) (onTc (τ := Cert.ExpUpReferenceIdeal.τ) (Cert.ExpUpReferenceIdeal.main (F := Ideal))) ⟨m, fun _ => 0, g⟩ (fun r => (∀ c : Dev Cert.ExpUpReferenceIdeal.nD,
      r.2.mem ((c.tc : Thread Cert.ExpUpReferenceIdeal.nD Cert.ExpUpReferenceIdeal.τ).loc Cert.ExpUpReferenceIdeal.main_arg0) = m ((c.tc : Thread Cert.ExpUpReferenceIdeal.nD Cert.ExpUpReferenceIdeal.τ).loc Cert.ExpUpReferenceIdeal.main_arg0)
      ∧ r.2.mem ((c.tc : Thread Cert.ExpUpReferenceIdeal.nD Cert.ExpUpReferenceIdeal.τ).loc Cert.ExpUpReferenceIdeal.main_arg1) = m ((c.tc : Thread Cert.ExpUpReferenceIdeal.nD Cert.ExpUpReferenceIdeal.τ).loc Cert.ExpUpReferenceIdeal.main_arg1)
      ∧ r.2.mem ((c.tc : Thread Cert.ExpUpReferenceIdeal.nD Cert.ExpUpReferenceIdeal.τ).loc Cert.ExpUpReferenceIdeal.main_arg2) = m ((c.tc : Thread Cert.ExpUpReferenceIdeal.nD Cert.ExpUpReferenceIdeal.τ).loc Cert.ExpUpReferenceIdeal.main_arg2)
      ∧ r.2.mem ((c.tc : Thread Cert.ExpUpReferenceIdeal.nD Cert.ExpUpReferenceIdeal.τ).loc Cert.ExpUpReferenceIdeal.main_arg3) = m ((c.tc : Thread Cert.ExpUpReferenceIdeal.nD Cert.ExpUpReferenceIdeal.τ).loc Cert.ExpUpReferenceIdeal.main_arg3)
      ∧ r.2.mem ((c.tc : Thread Cert.ExpUpReferenceIdeal.nD Cert.ExpUpReferenceIdeal.τ).loc Cert.ExpUpReferenceIdeal.main_arg4) = m ((c.tc : Thread Cert.ExpUpReferenceIdeal.nD Cert.ExpUpReferenceIdeal.τ).loc Cert.ExpUpReferenceIdeal.main_arg4)
      ∧ r.2.mem ((c.tc : Thread Cert.ExpUpReferenceIdeal.nD Cert.ExpUpReferenceIdeal.τ).loc Cert.ExpUpReferenceIdeal.main_arg5) = m ((c.tc : Thread Cert.ExpUpReferenceIdeal.nD Cert.ExpUpReferenceIdeal.τ).loc Cert.ExpUpReferenceIdeal.main_arg5))
      ∧ r.2.sem = fun _ => 0)

def quiescent_ExpUpReferenceIdeal_pre_routed4 [hExpUpReferenceIdeal : Cert.ExpUpReferenceIdeal.Facts] [hPre_routed4 : Cert.Pre_routed4.Facts] : Prop :=
  ∀ (m : (ℓ : Loc Cert.ExpUpReferenceIdeal.nD Cert.ExpUpReferenceIdeal.τ Cert.ExpUpReferenceIdeal.sig) → Buf (Elt Ideal) ℓ) (g : Dev Cert.ExpUpReferenceIdeal.nD → PrngReg), Pre_ExpUpReferenceIdeal_routed4 m →
    θ_run (Cert.ExpUpReferenceIdeal.defs (F := Ideal)) (onTc (τ := Cert.ExpUpReferenceIdeal.τ) (Cert.ExpUpReferenceIdeal.main (F := Ideal))) ⟨m, fun _ => 0, g⟩ (fun r => (∀ c : Dev Cert.ExpUpReferenceIdeal.nD,
      r.2.mem ((c.tc : Thread Cert.ExpUpReferenceIdeal.nD Cert.ExpUpReferenceIdeal.τ).loc Cert.ExpUpReferenceIdeal.main_arg0) = m ((c.tc : Thread Cert.ExpUpReferenceIdeal.nD Cert.ExpUpReferenceIdeal.τ).loc Cert.ExpUpReferenceIdeal.main_arg0)
      ∧ r.2.mem ((c.tc : Thread Cert.ExpUpReferenceIdeal.nD Cert.ExpUpReferenceIdeal.τ).loc Cert.ExpUpReferenceIdeal.main_arg1) = m ((c.tc : Thread Cert.ExpUpReferenceIdeal.nD Cert.ExpUpReferenceIdeal.τ).loc Cert.ExpUpReferenceIdeal.main_arg1)
      ∧ r.2.mem ((c.tc : Thread Cert.ExpUpReferenceIdeal.nD Cert.ExpUpReferenceIdeal.τ).loc Cert.ExpUpReferenceIdeal.main_arg2) = m ((c.tc : Thread Cert.ExpUpReferenceIdeal.nD Cert.ExpUpReferenceIdeal.τ).loc Cert.ExpUpReferenceIdeal.main_arg2)
      ∧ r.2.mem ((c.tc : Thread Cert.ExpUpReferenceIdeal.nD Cert.ExpUpReferenceIdeal.τ).loc Cert.ExpUpReferenceIdeal.main_arg3) = m ((c.tc : Thread Cert.ExpUpReferenceIdeal.nD Cert.ExpUpReferenceIdeal.τ).loc Cert.ExpUpReferenceIdeal.main_arg3)
      ∧ r.2.mem ((c.tc : Thread Cert.ExpUpReferenceIdeal.nD Cert.ExpUpReferenceIdeal.τ).loc Cert.ExpUpReferenceIdeal.main_arg4) = m ((c.tc : Thread Cert.ExpUpReferenceIdeal.nD Cert.ExpUpReferenceIdeal.τ).loc Cert.ExpUpReferenceIdeal.main_arg4)
      ∧ r.2.mem ((c.tc : Thread Cert.ExpUpReferenceIdeal.nD Cert.ExpUpReferenceIdeal.τ).loc Cert.ExpUpReferenceIdeal.main_arg5) = m ((c.tc : Thread Cert.ExpUpReferenceIdeal.nD Cert.ExpUpReferenceIdeal.τ).loc Cert.ExpUpReferenceIdeal.main_arg5))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1)
      ∧ r.2.mem ((c.tc : Thread Cert.OddOut.nD Cert.OddOut.τ).loc Cert.OddOut.main_arg2) = m ((c.tc : Thread Cert.OddOut.nD Cert.OddOut.τ).loc Cert.OddOut.main_arg2)
      ∧ r.2.mem ((c.tc : Thread Cert.OddOut.nD Cert.OddOut.τ).loc Cert.OddOut.main_arg3) = m ((c.tc : Thread Cert.OddOut.nD Cert.OddOut.τ).loc Cert.OddOut.main_arg3)
      ∧ r.2.mem ((c.tc : Thread Cert.OddOut.nD Cert.OddOut.τ).loc Cert.OddOut.main_arg4) = m ((c.tc : Thread Cert.OddOut.nD Cert.OddOut.τ).loc Cert.OddOut.main_arg4))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
      ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
      ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
      ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4))
      ∧ r.2.sem = fun _ => 0)

def quiescent_OddOutReferenceIdeal [hOddOutReferenceIdeal : Cert.OddOutReferenceIdeal.Facts] : Prop :=
  ∀ (m : (ℓ : Loc Cert.OddOutReferenceIdeal.nD Cert.OddOutReferenceIdeal.τ Cert.OddOutReferenceIdeal.sig) → Buf (Elt Ideal) ℓ) (g : Dev Cert.OddOutReferenceIdeal.nD → PrngReg), Pre_OddOutReferenceIdeal m →
    θ_run (Cert.OddOutReferenceIdeal.defs (F := Ideal)) (onTc (τ := Cert.OddOutReferenceIdeal.τ) (Cert.OddOutReferenceIdeal.main (F := Ideal))) ⟨m, fun _ => 0, g⟩ (fun r => (∀ c : Dev Cert.OddOutReferenceIdeal.nD,
      r.2.mem ((c.tc : Thread Cert.OddOutReferenceIdeal.nD Cert.OddOutReferenceIdeal.τ).loc Cert.OddOutReferenceIdeal.main_arg0) = m ((c.tc : Thread Cert.OddOutReferenceIdeal.nD Cert.OddOutReferenceIdeal.τ).loc Cert.OddOutReferenceIdeal.main_arg0)
      ∧ r.2.mem ((c.tc : Thread Cert.OddOutReferenceIdeal.nD Cert.OddOutReferenceIdeal.τ).loc Cert.OddOutReferenceIdeal.main_arg1) = m ((c.tc : Thread Cert.OddOutReferenceIdeal.nD Cert.OddOutReferenceIdeal.τ).loc Cert.OddOutReferenceIdeal.main_arg1)
      ∧ r.2.mem ((c.tc : Thread Cert.OddOutReferenceIdeal.nD Cert.OddOutReferenceIdeal.τ).loc Cert.OddOutReferenceIdeal.main_arg2) = m ((c.tc : Thread Cert.OddOutReferenceIdeal.nD Cert.OddOutReferenceIdeal.τ).loc Cert.OddOutReferenceIdeal.main_arg2)
      ∧ r.2.mem ((c.tc : Thread Cert.OddOutReferenceIdeal.nD Cert.OddOutReferenceIdeal.τ).loc Cert.OddOutReferenceIdeal.main_arg3) = m ((c.tc : Thread Cert.OddOutReferenceIdeal.nD Cert.OddOutReferenceIdeal.τ).loc Cert.OddOutReferenceIdeal.main_arg3)
      ∧ r.2.mem ((c.tc : Thread Cert.OddOutReferenceIdeal.nD Cert.OddOutReferenceIdeal.τ).loc Cert.OddOutReferenceIdeal.main_arg4) = m ((c.tc : Thread Cert.OddOutReferenceIdeal.nD Cert.OddOutReferenceIdeal.τ).loc Cert.OddOutReferenceIdeal.main_arg4))
      ∧ r.2.sem = fun _ => 0)

def quiescent_Keys [hKeys : Cert.Keys.Facts] : Prop :=
  ∀ (m : (ℓ : Loc Cert.Keys.nD Cert.Keys.τ Cert.Keys.sig) → Buf (Elt Bits) ℓ) (g : Dev Cert.Keys.nD → PrngReg), Pre_Keys m →
    θ_run (Cert.Keys.defs (F := Bits)) (onTc (τ := Cert.Keys.τ) (Cert.Keys.main (F := Bits))) ⟨m, fun _ => 0, g⟩ (fun r => (∀ c : Dev Cert.Keys.nD,
      r.2.mem ((c.tc : Thread Cert.Keys.nD Cert.Keys.τ).loc Cert.Keys.main_arg0) = m ((c.tc : Thread Cert.Keys.nD Cert.Keys.τ).loc Cert.Keys.main_arg0)
      ∧ r.2.mem ((c.tc : Thread Cert.Keys.nD Cert.Keys.τ).loc Cert.Keys.main_arg1) = m ((c.tc : Thread Cert.Keys.nD Cert.Keys.τ).loc Cert.Keys.main_arg1))
      ∧ r.2.sem = fun _ => 0)

def quiescent_KeysIdeal [hKeysIdeal : Cert.KeysIdeal.Facts] : Prop :=
  ∀ (m : (ℓ : Loc Cert.KeysIdeal.nD Cert.KeysIdeal.τ Cert.KeysIdeal.sig) → Buf (Elt Ideal) ℓ) (g : Dev Cert.KeysIdeal.nD → PrngReg), Pre_KeysIdeal m →
    θ_run (Cert.KeysIdeal.defs (F := Ideal)) (onTc (τ := Cert.KeysIdeal.τ) (Cert.KeysIdeal.main (F := Ideal))) ⟨m, fun _ => 0, g⟩ (fun r => (∀ c : Dev Cert.KeysIdeal.nD,
      r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
      ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1))
      ∧ r.2.sem = fun _ => 0)

def quiescent_KeysReferenceIdeal [hKeysReferenceIdeal : Cert.KeysReferenceIdeal.Facts] : Prop :=
  ∀ (m : (ℓ : Loc Cert.KeysReferenceIdeal.nD Cert.KeysReferenceIdeal.τ Cert.KeysReferenceIdeal.sig) → Buf (Elt Ideal) ℓ) (g : Dev Cert.KeysReferenceIdeal.nD → PrngReg), Pre_KeysReferenceIdeal m →
    θ_run (Cert.KeysReferenceIdeal.defs (F := Ideal)) (onTc (τ := Cert.KeysReferenceIdeal.τ) (Cert.KeysReferenceIdeal.main (F := Ideal))) ⟨m, fun _ => 0, g⟩ (fun r => (∀ c : Dev Cert.KeysReferenceIdeal.nD,
      r.2.mem ((c.tc : Thread Cert.KeysReferenceIdeal.nD Cert.KeysReferenceIdeal.τ).loc Cert.KeysReferenceIdeal.main_arg0) = m ((c.tc : Thread Cert.KeysReferenceIdeal.nD Cert.KeysReferenceIdeal.τ).loc Cert.KeysReferenceIdeal.main_arg0)
      ∧ r.2.mem ((c.tc : Thread Cert.KeysReferenceIdeal.nD Cert.KeysReferenceIdeal.τ).loc Cert.KeysReferenceIdeal.main_arg1) = m ((c.tc : Thread Cert.KeysReferenceIdeal.nD Cert.KeysReferenceIdeal.τ).loc Cert.KeysReferenceIdeal.main_arg1))
      ∧ r.2.sem = fun _ => 0)

def quiescent_Vals [hVals : Cert.Vals.Facts] : Prop :=
  ∀ (m : (ℓ : Loc Cert.Vals.nD Cert.Vals.τ Cert.Vals.sig) → Buf (Elt Bits) ℓ) (g : Dev Cert.Vals.nD → PrngReg), Pre_Vals m →
    θ_run (Cert.Vals.defs (F := Bits)) (onTc (τ := Cert.Vals.τ) (Cert.Vals.main (F := Bits))) ⟨m, fun _ => 0, g⟩ (fun r => (∀ c : Dev Cert.Vals.nD,
      r.2.mem ((c.tc : Thread Cert.Vals.nD Cert.Vals.τ).loc Cert.Vals.main_arg0) = m ((c.tc : Thread Cert.Vals.nD Cert.Vals.τ).loc Cert.Vals.main_arg0)
      ∧ r.2.mem ((c.tc : Thread Cert.Vals.nD Cert.Vals.τ).loc Cert.Vals.main_arg1) = m ((c.tc : Thread Cert.Vals.nD Cert.Vals.τ).loc Cert.Vals.main_arg1))
      ∧ r.2.sem = fun _ => 0)

def quiescent_ValsIdeal [hValsIdeal : Cert.ValsIdeal.Facts] : Prop :=
  ∀ (m : (ℓ : Loc Cert.ValsIdeal.nD Cert.ValsIdeal.τ Cert.ValsIdeal.sig) → Buf (Elt Ideal) ℓ) (g : Dev Cert.ValsIdeal.nD → PrngReg), Pre_ValsIdeal m →
    θ_run (Cert.ValsIdeal.defs (F := Ideal)) (onTc (τ := Cert.ValsIdeal.τ) (Cert.ValsIdeal.main (F := Ideal))) ⟨m, fun _ => 0, g⟩ (fun r => (∀ c : Dev Cert.ValsIdeal.nD,
      r.2.mem ((c.tc : Thread Cert.ValsIdeal.nD Cert.ValsIdeal.τ).loc Cert.ValsIdeal.main_arg0) = m ((c.tc : Thread Cert.ValsIdeal.nD Cert.ValsIdeal.τ).loc Cert.ValsIdeal.main_arg0)
      ∧ r.2.mem ((c.tc : Thread Cert.ValsIdeal.nD Cert.ValsIdeal.τ).loc Cert.ValsIdeal.main_arg1) = m ((c.tc : Thread Cert.ValsIdeal.nD Cert.ValsIdeal.τ).loc Cert.ValsIdeal.main_arg1))
      ∧ r.2.sem = fun _ => 0)

def quiescent_ValsReferenceIdeal [hValsReferenceIdeal : Cert.ValsReferenceIdeal.Facts] : Prop :=
  ∀ (m : (ℓ : Loc Cert.ValsReferenceIdeal.nD Cert.ValsReferenceIdeal.τ Cert.ValsReferenceIdeal.sig) → Buf (Elt Ideal) ℓ) (g : Dev Cert.ValsReferenceIdeal.nD → PrngReg), Pre_ValsReferenceIdeal m →
    θ_run (Cert.ValsReferenceIdeal.defs (F := Ideal)) (onTc (τ := Cert.ValsReferenceIdeal.τ) (Cert.ValsReferenceIdeal.main (F := Ideal))) ⟨m, fun _ => 0, g⟩ (fun r => (∀ c : Dev Cert.ValsReferenceIdeal.nD,
      r.2.mem ((c.tc : Thread Cert.ValsReferenceIdeal.nD Cert.ValsReferenceIdeal.τ).loc Cert.ValsReferenceIdeal.main_arg0) = m ((c.tc : Thread Cert.ValsReferenceIdeal.nD Cert.ValsReferenceIdeal.τ).loc Cert.ValsReferenceIdeal.main_arg0)
      ∧ r.2.mem ((c.tc : Thread Cert.ValsReferenceIdeal.nD Cert.ValsReferenceIdeal.τ).loc Cert.ValsReferenceIdeal.main_arg1) = m ((c.tc : Thread Cert.ValsReferenceIdeal.nD Cert.ValsReferenceIdeal.τ).loc Cert.ValsReferenceIdeal.main_arg1))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v5) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2))

def preserves_ExpDown_ExpDownIdeal : Prop :=
  True

def algebraic_ExpDownIdeal_ExpDownReferenceIdeal [hExpDownIdeal : Cert.ExpDownIdeal.Facts] [hExpDownReferenceIdeal : Cert.ExpDownReferenceIdeal.Facts] [hPre_routed3 : Cert.Pre_routed3.Facts] : Prop :=
  ∀ (m : (ℓ : Loc Cert.ExpDownIdeal.nD Cert.ExpDownIdeal.τ Cert.ExpDownIdeal.sig) → Buf (Elt Ideal) ℓ) (g : Dev Cert.ExpDownIdeal.nD → PrngReg)
    (m' : (ℓ : Loc Cert.ExpDownReferenceIdeal.nD Cert.ExpDownReferenceIdeal.τ Cert.ExpDownReferenceIdeal.sig) → Buf (Elt Ideal) ℓ) (g' : Dev Cert.ExpDownReferenceIdeal.nD → PrngReg), Pre_ExpDownIdeal m →
    (∀ c : Dev Cert.ExpDownIdeal.nD,
      m' ((c.tc : Thread Cert.ExpDownReferenceIdeal.nD Cert.ExpDownReferenceIdeal.τ).loc Cert.ExpDownReferenceIdeal.main_arg0) = m ((c.tc : Thread Cert.ExpDownIdeal.nD Cert.ExpDownIdeal.τ).loc Cert.ExpDownIdeal.main_arg0)
      ∧ m' ((c.tc : Thread Cert.ExpDownReferenceIdeal.nD Cert.ExpDownReferenceIdeal.τ).loc Cert.ExpDownReferenceIdeal.main_arg1) = m ((c.tc : Thread Cert.ExpDownIdeal.nD Cert.ExpDownIdeal.τ).loc Cert.ExpDownIdeal.main_arg1)
      ∧ m' ((c.tc : Thread Cert.ExpDownReferenceIdeal.nD Cert.ExpDownReferenceIdeal.τ).loc Cert.ExpDownReferenceIdeal.main_arg2) = m ((c.tc : Thread Cert.ExpDownIdeal.nD Cert.ExpDownIdeal.τ).loc Cert.ExpDownIdeal.main_arg2)
      ∧ m' ((c.tc : Thread Cert.ExpDownReferenceIdeal.nD Cert.ExpDownReferenceIdeal.τ).loc Cert.ExpDownReferenceIdeal.main_arg3) = m ((c.tc : Thread Cert.ExpDownIdeal.nD Cert.ExpDownIdeal.τ).loc Cert.ExpDownIdeal.main_arg3)
      ∧ m' ((c.tc : Thread Cert.ExpDownReferenceIdeal.nD Cert.ExpDownReferenceIdeal.τ).loc Cert.ExpDownReferenceIdeal.main_arg4) = m ((c.tc : Thread Cert.ExpDownIdeal.nD Cert.ExpDownIdeal.τ).loc Cert.ExpDownIdeal.main_arg4)) →
    ∃ (v0 : (c : Dev Cert.ExpDownIdeal.nD) → Buf (Elt Ideal) ((c.tc : Thread Cert.ExpDownIdeal.nD Cert.ExpDownIdeal.τ).loc Cert.ExpDownIdeal.main_v0)),
      θ_run (Cert.ExpDownIdeal.defs (F := Ideal)) (onTc (τ := Cert.ExpDownIdeal.τ) (Cert.ExpDownIdeal.main (F := Ideal))) ⟨m, fun _ => 0, g⟩ (fun r => ∀ c : Dev Cert.ExpDownIdeal.nD,
          r.2.mem ((c.tc : Thread Cert.ExpDownIdeal.nD Cert.ExpDownIdeal.τ).loc Cert.ExpDownIdeal.main_v0) = v0 c
          ∧ r.2.mem ((c.tc : Thread Cert.ExpDownIdeal.nD Cert.ExpDownIdeal.τ).loc Cert.ExpDownIdeal.main_arg0) = m ((c.tc : Thread Cert.ExpDownIdeal.nD Cert.ExpDownIdeal.τ).loc Cert.ExpDownIdeal.main_arg0)
          ∧ r.2.mem ((c.tc : Thread Cert.ExpDownIdeal.nD Cert.ExpDownIdeal.τ).loc Cert.ExpDownIdeal.main_arg1) = m ((c.tc : Thread Cert.ExpDownIdeal.nD Cert.ExpDownIdeal.τ).loc Cert.ExpDownIdeal.main_arg1)
          ∧ r.2.mem ((c.tc : Thread Cert.ExpDownIdeal.nD Cert.ExpDownIdeal.τ).loc Cert.ExpDownIdeal.main_arg2) = m ((c.tc : Thread Cert.ExpDownIdeal.nD Cert.ExpDownIdeal.τ).loc Cert.ExpDownIdeal.main_arg2)
          ∧ r.2.mem ((c.tc : Thread Cert.ExpDownIdeal.nD Cert.ExpDownIdeal.τ).loc Cert.ExpDownIdeal.main_arg3) = m ((c.tc : Thread Cert.ExpDownIdeal.nD Cert.ExpDownIdeal.τ).loc Cert.ExpDownIdeal.main_arg3)
          ∧ r.2.mem ((c.tc : Thread Cert.ExpDownIdeal.nD Cert.ExpDownIdeal.τ).loc Cert.ExpDownIdeal.main_arg4) = m ((c.tc : Thread Cert.ExpDownIdeal.nD Cert.ExpDownIdeal.τ).loc Cert.ExpDownIdeal.main_arg4))
      ∧ θ_run (Cert.ExpDownReferenceIdeal.defs (F := Ideal)) (onTc (τ := Cert.ExpDownReferenceIdeal.τ) (Cert.ExpDownReferenceIdeal.main (F := Ideal))) ⟨m', fun _ => 0, g'⟩ (fun r => ∀ c : Dev Cert.ExpDownReferenceIdeal.nD,
          r.2.mem ((c.tc : Thread Cert.ExpDownReferenceIdeal.nD Cert.ExpDownReferenceIdeal.τ).loc Cert.ExpDownReferenceIdeal.main_v16) = v0 c
          ∧ r.2.mem ((c.tc : Thread Cert.ExpDownReferenceIdeal.nD Cert.ExpDownReferenceIdeal.τ).loc Cert.ExpDownReferenceIdeal.main_arg0) = m' ((c.tc : Thread Cert.ExpDownReferenceIdeal.nD Cert.ExpDownReferenceIdeal.τ).loc Cert.ExpDownReferenceIdeal.main_arg0)
          ∧ r.2.mem ((c.tc : Thread Cert.ExpDownReferenceIdeal.nD Cert.ExpDownReferenceIdeal.τ).loc Cert.ExpDownReferenceIdeal.main_arg1) = m' ((c.tc : Thread Cert.ExpDownReferenceIdeal.nD Cert.ExpDownReferenceIdeal.τ).loc Cert.ExpDownReferenceIdeal.main_arg1)
          ∧ r.2.mem ((c.tc : Thread Cert.ExpDownReferenceIdeal.nD Cert.ExpDownReferenceIdeal.τ).loc Cert.ExpDownReferenceIdeal.main_arg2) = m' ((c.tc : Thread Cert.ExpDownReferenceIdeal.nD Cert.ExpDownReferenceIdeal.τ).loc Cert.ExpDownReferenceIdeal.main_arg2)
          ∧ r.2.mem ((c.tc : Thread Cert.ExpDownReferenceIdeal.nD Cert.ExpDownReferenceIdeal.τ).loc Cert.ExpDownReferenceIdeal.main_arg3) = m' ((c.tc : Thread Cert.ExpDownReferenceIdeal.nD Cert.ExpDownReferenceIdeal.τ).loc Cert.ExpDownReferenceIdeal.main_arg3)
          ∧ r.2.mem ((c.tc : Thread Cert.ExpDownReferenceIdeal.nD Cert.ExpDownReferenceIdeal.τ).loc Cert.ExpDownReferenceIdeal.main_arg4) = m' ((c.tc : Thread Cert.ExpDownReferenceIdeal.nD Cert.ExpDownReferenceIdeal.τ).loc Cert.ExpDownReferenceIdeal.main_arg4))

def preserves_ExpUp_ExpUpIdeal : Prop :=
  True

def algebraic_ExpUpIdeal_ExpUpReferenceIdeal [hExpUpIdeal : Cert.ExpUpIdeal.Facts] [hExpUpReferenceIdeal : Cert.ExpUpReferenceIdeal.Facts] [hPre_routed4 : Cert.Pre_routed4.Facts] : Prop :=
  ∀ (m : (ℓ : Loc Cert.ExpUpIdeal.nD Cert.ExpUpIdeal.τ Cert.ExpUpIdeal.sig) → Buf (Elt Ideal) ℓ) (g : Dev Cert.ExpUpIdeal.nD → PrngReg)
    (m' : (ℓ : Loc Cert.ExpUpReferenceIdeal.nD Cert.ExpUpReferenceIdeal.τ Cert.ExpUpReferenceIdeal.sig) → Buf (Elt Ideal) ℓ) (g' : Dev Cert.ExpUpReferenceIdeal.nD → PrngReg), Pre_ExpUpIdeal m →
    (∀ c : Dev Cert.ExpUpIdeal.nD,
      m' ((c.tc : Thread Cert.ExpUpReferenceIdeal.nD Cert.ExpUpReferenceIdeal.τ).loc Cert.ExpUpReferenceIdeal.main_arg0) = m ((c.tc : Thread Cert.ExpUpIdeal.nD Cert.ExpUpIdeal.τ).loc Cert.ExpUpIdeal.main_arg0)
      ∧ m' ((c.tc : Thread Cert.ExpUpReferenceIdeal.nD Cert.ExpUpReferenceIdeal.τ).loc Cert.ExpUpReferenceIdeal.main_arg1) = m ((c.tc : Thread Cert.ExpUpIdeal.nD Cert.ExpUpIdeal.τ).loc Cert.ExpUpIdeal.main_arg1)
      ∧ m' ((c.tc : Thread Cert.ExpUpReferenceIdeal.nD Cert.ExpUpReferenceIdeal.τ).loc Cert.ExpUpReferenceIdeal.main_arg2) = m ((c.tc : Thread Cert.ExpUpIdeal.nD Cert.ExpUpIdeal.τ).loc Cert.ExpUpIdeal.main_arg2)
      ∧ m' ((c.tc : Thread Cert.ExpUpReferenceIdeal.nD Cert.ExpUpReferenceIdeal.τ).loc Cert.ExpUpReferenceIdeal.main_arg3) = m ((c.tc : Thread Cert.ExpUpIdeal.nD Cert.ExpUpIdeal.τ).loc Cert.ExpUpIdeal.main_arg3)
      ∧ m' ((c.tc : Thread Cert.ExpUpReferenceIdeal.nD Cert.ExpUpReferenceIdeal.τ).loc Cert.ExpUpReferenceIdeal.main_arg4) = m ((c.tc : Thread Cert.ExpUpIdeal.nD Cert.ExpUpIdeal.τ).loc Cert.ExpUpIdeal.main_arg4)
      ∧ m' ((c.tc : Thread Cert.ExpUpReferenceIdeal.nD Cert.ExpUpReferenceIdeal.τ).loc Cert.ExpUpReferenceIdeal.main_arg5) = m ((c.tc : Thread Cert.ExpUpIdeal.nD Cert.ExpUpIdeal.τ).loc Cert.ExpUpIdeal.main_arg5)) →
    ∃ (v0 : (c : Dev Cert.ExpUpIdeal.nD) → Buf (Elt Ideal) ((c.tc : Thread Cert.ExpUpIdeal.nD Cert.ExpUpIdeal.τ).loc Cert.ExpUpIdeal.main_v0)),
      θ_run (Cert.ExpUpIdeal.defs (F := Ideal)) (onTc (τ := Cert.ExpUpIdeal.τ) (Cert.ExpUpIdeal.main (F := Ideal))) ⟨m, fun _ => 0, g⟩ (fun r => ∀ c : Dev Cert.ExpUpIdeal.nD,
          r.2.mem ((c.tc : Thread Cert.ExpUpIdeal.nD Cert.ExpUpIdeal.τ).loc Cert.ExpUpIdeal.main_v0) = v0 c
          ∧ r.2.mem ((c.tc : Thread Cert.ExpUpIdeal.nD Cert.ExpUpIdeal.τ).loc Cert.ExpUpIdeal.main_arg0) = m ((c.tc : Thread Cert.ExpUpIdeal.nD Cert.ExpUpIdeal.τ).loc Cert.ExpUpIdeal.main_arg0)
          ∧ r.2.mem ((c.tc : Thread Cert.ExpUpIdeal.nD Cert.ExpUpIdeal.τ).loc Cert.ExpUpIdeal.main_arg1) = m ((c.tc : Thread Cert.ExpUpIdeal.nD Cert.ExpUpIdeal.τ).loc Cert.ExpUpIdeal.main_arg1)
          ∧ r.2.mem ((c.tc : Thread Cert.ExpUpIdeal.nD Cert.ExpUpIdeal.τ).loc Cert.ExpUpIdeal.main_arg2) = m ((c.tc : Thread Cert.ExpUpIdeal.nD Cert.ExpUpIdeal.τ).loc Cert.ExpUpIdeal.main_arg2)
          ∧ r.2.mem ((c.tc : Thread Cert.ExpUpIdeal.nD Cert.ExpUpIdeal.τ).loc Cert.ExpUpIdeal.main_arg3) = m ((c.tc : Thread Cert.ExpUpIdeal.nD Cert.ExpUpIdeal.τ).loc Cert.ExpUpIdeal.main_arg3)
          ∧ r.2.mem ((c.tc : Thread Cert.ExpUpIdeal.nD Cert.ExpUpIdeal.τ).loc Cert.ExpUpIdeal.main_arg4) = m ((c.tc : Thread Cert.ExpUpIdeal.nD Cert.ExpUpIdeal.τ).loc Cert.ExpUpIdeal.main_arg4)
          ∧ r.2.mem ((c.tc : Thread Cert.ExpUpIdeal.nD Cert.ExpUpIdeal.τ).loc Cert.ExpUpIdeal.main_arg5) = m ((c.tc : Thread Cert.ExpUpIdeal.nD Cert.ExpUpIdeal.τ).loc Cert.ExpUpIdeal.main_arg5))
      ∧ θ_run (Cert.ExpUpReferenceIdeal.defs (F := Ideal)) (onTc (τ := Cert.ExpUpReferenceIdeal.τ) (Cert.ExpUpReferenceIdeal.main (F := Ideal))) ⟨m', fun _ => 0, g'⟩ (fun r => ∀ c : Dev Cert.ExpUpReferenceIdeal.nD,
          r.2.mem ((c.tc : Thread Cert.ExpUpReferenceIdeal.nD Cert.ExpUpReferenceIdeal.τ).loc Cert.ExpUpReferenceIdeal.main_v19) = v0 c
          ∧ r.2.mem ((c.tc : Thread Cert.ExpUpReferenceIdeal.nD Cert.ExpUpReferenceIdeal.τ).loc Cert.ExpUpReferenceIdeal.main_arg0) = m' ((c.tc : Thread Cert.ExpUpReferenceIdeal.nD Cert.ExpUpReferenceIdeal.τ).loc Cert.ExpUpReferenceIdeal.main_arg0)
          ∧ r.2.mem ((c.tc : Thread Cert.ExpUpReferenceIdeal.nD Cert.ExpUpReferenceIdeal.τ).loc Cert.ExpUpReferenceIdeal.main_arg1) = m' ((c.tc : Thread Cert.ExpUpReferenceIdeal.nD Cert.ExpUpReferenceIdeal.τ).loc Cert.ExpUpReferenceIdeal.main_arg1)
          ∧ r.2.mem ((c.tc : Thread Cert.ExpUpReferenceIdeal.nD Cert.ExpUpReferenceIdeal.τ).loc Cert.ExpUpReferenceIdeal.main_arg2) = m' ((c.tc : Thread Cert.ExpUpReferenceIdeal.nD Cert.ExpUpReferenceIdeal.τ).loc Cert.ExpUpReferenceIdeal.main_arg2)
          ∧ r.2.mem ((c.tc : Thread Cert.ExpUpReferenceIdeal.nD Cert.ExpUpReferenceIdeal.τ).loc Cert.ExpUpReferenceIdeal.main_arg3) = m' ((c.tc : Thread Cert.ExpUpReferenceIdeal.nD Cert.ExpUpReferenceIdeal.τ).loc Cert.ExpUpReferenceIdeal.main_arg3)
          ∧ r.2.mem ((c.tc : Thread Cert.ExpUpReferenceIdeal.nD Cert.ExpUpReferenceIdeal.τ).loc Cert.ExpUpReferenceIdeal.main_arg4) = m' ((c.tc : Thread Cert.ExpUpReferenceIdeal.nD Cert.ExpUpReferenceIdeal.τ).loc Cert.ExpUpReferenceIdeal.main_arg4)
          ∧ r.2.mem ((c.tc : Thread Cert.ExpUpReferenceIdeal.nD Cert.ExpUpReferenceIdeal.τ).loc Cert.ExpUpReferenceIdeal.main_arg5) = m' ((c.tc : Thread Cert.ExpUpReferenceIdeal.nD Cert.ExpUpReferenceIdeal.τ).loc Cert.ExpUpReferenceIdeal.main_arg5))

def preserves_OddOut_OddOutIdeal : Prop :=
  True

def algebraic_OddOutIdeal_OddOutReferenceIdeal [hOddOutIdeal : Cert.OddOutIdeal.Facts] [hOddOutReferenceIdeal : Cert.OddOutReferenceIdeal.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutReferenceIdeal.nD Cert.OddOutReferenceIdeal.τ Cert.OddOutReferenceIdeal.sig) → Buf (Elt Ideal) ℓ) (g' : Dev Cert.OddOutReferenceIdeal.nD → PrngReg), Pre_OddOutIdeal m →
    (∀ c : Dev Cert.OddOutIdeal.nD,
      m' ((c.tc : Thread Cert.OddOutReferenceIdeal.nD Cert.OddOutReferenceIdeal.τ).loc Cert.OddOutReferenceIdeal.main_arg0) = m ((c.tc : Thread Cert.OddOutIdeal.nD Cert.OddOutIdeal.τ).loc Cert.OddOutIdeal.main_arg0)
      ∧ m' ((c.tc : Thread Cert.OddOutReferenceIdeal.nD Cert.OddOutReferenceIdeal.τ).loc Cert.OddOutReferenceIdeal.main_arg1) = m ((c.tc : Thread Cert.OddOutIdeal.nD Cert.OddOutIdeal.τ).loc Cert.OddOutIdeal.main_arg1)
      ∧ m' ((c.tc : Thread Cert.OddOutReferenceIdeal.nD Cert.OddOutReferenceIdeal.τ).loc Cert.OddOutReferenceIdeal.main_arg2) = m ((c.tc : Thread Cert.OddOutIdeal.nD Cert.OddOutIdeal.τ).loc Cert.OddOutIdeal.main_arg2)
      ∧ m' ((c.tc : Thread Cert.OddOutReferenceIdeal.nD Cert.OddOutReferenceIdeal.τ).loc Cert.OddOutReferenceIdeal.main_arg3) = m ((c.tc : Thread Cert.OddOutIdeal.nD Cert.OddOutIdeal.τ).loc Cert.OddOutIdeal.main_arg3)
      ∧ m' ((c.tc : Thread Cert.OddOutReferenceIdeal.nD Cert.OddOutReferenceIdeal.τ).loc Cert.OddOutReferenceIdeal.main_arg4) = m ((c.tc : Thread Cert.OddOutIdeal.nD Cert.OddOutIdeal.τ).loc Cert.OddOutIdeal.main_arg4)) →
    ∃ (v0 : (c : Dev Cert.OddOutIdeal.nD) → Buf (Elt Ideal) ((c.tc : Thread Cert.OddOutIdeal.nD Cert.OddOutIdeal.τ).loc Cert.OddOutIdeal.main_v3)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v3) = v0 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
          ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
          ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
          ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4))
      ∧ θ_run (Cert.OddOutReferenceIdeal.defs (F := Ideal)) (onTc (τ := Cert.OddOutReferenceIdeal.τ) (Cert.OddOutReferenceIdeal.main (F := Ideal))) ⟨m', fun _ => 0, g'⟩ (fun r => ∀ c : Dev Cert.OddOutReferenceIdeal.nD,
          r.2.mem ((c.tc : Thread Cert.OddOutReferenceIdeal.nD Cert.OddOutReferenceIdeal.τ).loc Cert.OddOutReferenceIdeal.main_v28) = v0 c
          ∧ r.2.mem ((c.tc : Thread Cert.OddOutReferenceIdeal.nD Cert.OddOutReferenceIdeal.τ).loc Cert.OddOutReferenceIdeal.main_arg0) = m' ((c.tc : Thread Cert.OddOutReferenceIdeal.nD Cert.OddOutReferenceIdeal.τ).loc Cert.OddOutReferenceIdeal.main_arg0)
          ∧ r.2.mem ((c.tc : Thread Cert.OddOutReferenceIdeal.nD Cert.OddOutReferenceIdeal.τ).loc Cert.OddOutReferenceIdeal.main_arg1) = m' ((c.tc : Thread Cert.OddOutReferenceIdeal.nD Cert.OddOutReferenceIdeal.τ).loc Cert.OddOutReferenceIdeal.main_arg1)
          ∧ r.2.mem ((c.tc : Thread Cert.OddOutReferenceIdeal.nD Cert.OddOutReferenceIdeal.τ).loc Cert.OddOutReferenceIdeal.main_arg2) = m' ((c.tc : Thread Cert.OddOutReferenceIdeal.nD Cert.OddOutReferenceIdeal.τ).loc Cert.OddOutReferenceIdeal.main_arg2)
          ∧ r.2.mem ((c.tc : Thread Cert.OddOutReferenceIdeal.nD Cert.OddOutReferenceIdeal.τ).loc Cert.OddOutReferenceIdeal.main_arg3) = m' ((c.tc : Thread Cert.OddOutReferenceIdeal.nD Cert.OddOutReferenceIdeal.τ).loc Cert.OddOutReferenceIdeal.main_arg3)
          ∧ r.2.mem ((c.tc : Thread Cert.OddOutReferenceIdeal.nD Cert.OddOutReferenceIdeal.τ).loc Cert.OddOutReferenceIdeal.main_arg4) = m' ((c.tc : Thread Cert.OddOutReferenceIdeal.nD Cert.OddOutReferenceIdeal.τ).loc Cert.OddOutReferenceIdeal.main_arg4))

def preserves_Keys_KeysIdeal : Prop :=
  True

def algebraic_KeysIdeal_KeysReferenceIdeal [hKeysIdeal : Cert.KeysIdeal.Facts] [hKeysReferenceIdeal : Cert.KeysReferenceIdeal.Facts] : Prop :=
  ∀ (m : (ℓ : Loc Cert.KeysIdeal.nD Cert.KeysIdeal.τ Cert.KeysIdeal.sig) → Buf (Elt Ideal) ℓ) (g : Dev Cert.KeysIdeal.nD → PrngReg)
    (m' : (ℓ : Loc Cert.KeysReferenceIdeal.nD Cert.KeysReferenceIdeal.τ Cert.KeysReferenceIdeal.sig) → Buf (Elt Ideal) ℓ) (g' : Dev Cert.KeysReferenceIdeal.nD → PrngReg), Pre_KeysIdeal m →
    (∀ c : Dev Cert.KeysIdeal.nD,
      m' ((c.tc : Thread Cert.KeysReferenceIdeal.nD Cert.KeysReferenceIdeal.τ).loc Cert.KeysReferenceIdeal.main_arg0) = m ((c.tc : Thread Cert.KeysIdeal.nD Cert.KeysIdeal.τ).loc Cert.KeysIdeal.main_arg0)
      ∧ m' ((c.tc : Thread Cert.KeysReferenceIdeal.nD Cert.KeysReferenceIdeal.τ).loc Cert.KeysReferenceIdeal.main_arg1) = m ((c.tc : Thread Cert.KeysIdeal.nD Cert.KeysIdeal.τ).loc Cert.KeysIdeal.main_arg1)) →
    ∃ (v0 : (c : Dev Cert.KeysIdeal.nD) → Buf (Elt Ideal) ((c.tc : Thread Cert.KeysIdeal.nD Cert.KeysIdeal.τ).loc Cert.KeysIdeal.main_v4)),
      θ_run (Cert.KeysIdeal.defs (F := Ideal)) (onTc (τ := Cert.KeysIdeal.τ) (Cert.KeysIdeal.main (F := Ideal))) ⟨m, fun _ => 0, g⟩ (fun r => ∀ c : Dev Cert.KeysIdeal.nD,
          r.2.mem ((c.tc : Thread Cert.KeysIdeal.nD Cert.KeysIdeal.τ).loc Cert.KeysIdeal.main_v4) = v0 c
          ∧ r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
          ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1))
      ∧ θ_run (Cert.KeysReferenceIdeal.defs (F := Ideal)) (onTc (τ := Cert.KeysReferenceIdeal.τ) (Cert.KeysReferenceIdeal.main (F := Ideal))) ⟨m', fun _ => 0, g'⟩ (fun r => ∀ c : Dev Cert.KeysReferenceIdeal.nD,
          r.2.mem ((c.tc : Thread Cert.KeysReferenceIdeal.nD Cert.KeysReferenceIdeal.τ).loc Cert.KeysReferenceIdeal.main_v3) = v0 c
          ∧ r.2.mem ((c.tc : Thread Cert.KeysReferenceIdeal.nD Cert.KeysReferenceIdeal.τ).loc Cert.KeysReferenceIdeal.main_arg0) = m' ((c.tc : Thread Cert.KeysReferenceIdeal.nD Cert.KeysReferenceIdeal.τ).loc Cert.KeysReferenceIdeal.main_arg0)
          ∧ r.2.mem ((c.tc : Thread Cert.KeysReferenceIdeal.nD Cert.KeysReferenceIdeal.τ).loc Cert.KeysReferenceIdeal.main_arg1) = m' ((c.tc : Thread Cert.KeysReferenceIdeal.nD Cert.KeysReferenceIdeal.τ).loc Cert.KeysReferenceIdeal.main_arg1))

def preserves_Vals_ValsIdeal : Prop :=
  True

def algebraic_ValsIdeal_ValsReferenceIdeal [hValsIdeal : Cert.ValsIdeal.Facts] [hValsReferenceIdeal : Cert.ValsReferenceIdeal.Facts] : Prop :=
  ∀ (m : (ℓ : Loc Cert.ValsIdeal.nD Cert.ValsIdeal.τ Cert.ValsIdeal.sig) → Buf (Elt Ideal) ℓ) (g : Dev Cert.ValsIdeal.nD → PrngReg)
    (m' : (ℓ : Loc Cert.ValsReferenceIdeal.nD Cert.ValsReferenceIdeal.τ Cert.ValsReferenceIdeal.sig) → Buf (Elt Ideal) ℓ) (g' : Dev Cert.ValsReferenceIdeal.nD → PrngReg), Pre_ValsIdeal m →
    (∀ c : Dev Cert.ValsIdeal.nD,
      m' ((c.tc : Thread Cert.ValsReferenceIdeal.nD Cert.ValsReferenceIdeal.τ).loc Cert.ValsReferenceIdeal.main_arg0) = m ((c.tc : Thread Cert.ValsIdeal.nD Cert.ValsIdeal.τ).loc Cert.ValsIdeal.main_arg0)
      ∧ m' ((c.tc : Thread Cert.ValsReferenceIdeal.nD Cert.ValsReferenceIdeal.τ).loc Cert.ValsReferenceIdeal.main_arg1) = m ((c.tc : Thread Cert.ValsIdeal.nD Cert.ValsIdeal.τ).loc Cert.ValsIdeal.main_arg1)) →
    ∃ (v0 : (c : Dev Cert.ValsIdeal.nD) → Buf (Elt Ideal) ((c.tc : Thread Cert.ValsIdeal.nD Cert.ValsIdeal.τ).loc Cert.ValsIdeal.main_v4)),
      θ_run (Cert.ValsIdeal.defs (F := Ideal)) (onTc (τ := Cert.ValsIdeal.τ) (Cert.ValsIdeal.main (F := Ideal))) ⟨m, fun _ => 0, g⟩ (fun r => ∀ c : Dev Cert.ValsIdeal.nD,
          r.2.mem ((c.tc : Thread Cert.ValsIdeal.nD Cert.ValsIdeal.τ).loc Cert.ValsIdeal.main_v4) = v0 c
          ∧ r.2.mem ((c.tc : Thread Cert.ValsIdeal.nD Cert.ValsIdeal.τ).loc Cert.ValsIdeal.main_arg0) = m ((c.tc : Thread Cert.ValsIdeal.nD Cert.ValsIdeal.τ).loc Cert.ValsIdeal.main_arg0)
          ∧ r.2.mem ((c.tc : Thread Cert.ValsIdeal.nD Cert.ValsIdeal.τ).loc Cert.ValsIdeal.main_arg1) = m ((c.tc : Thread Cert.ValsIdeal.nD Cert.ValsIdeal.τ).loc Cert.ValsIdeal.main_arg1))
      ∧ θ_run (Cert.ValsReferenceIdeal.defs (F := Ideal)) (onTc (τ := Cert.ValsReferenceIdeal.τ) (Cert.ValsReferenceIdeal.main (F := Ideal))) ⟨m', fun _ => 0, g'⟩ (fun r => ∀ c : Dev Cert.ValsReferenceIdeal.nD,
          r.2.mem ((c.tc : Thread Cert.ValsReferenceIdeal.nD Cert.ValsReferenceIdeal.τ).loc Cert.ValsReferenceIdeal.main_v3) = v0 c
          ∧ r.2.mem ((c.tc : Thread Cert.ValsReferenceIdeal.nD Cert.ValsReferenceIdeal.τ).loc Cert.ValsReferenceIdeal.main_arg0) = m' ((c.tc : Thread Cert.ValsReferenceIdeal.nD Cert.ValsReferenceIdeal.τ).loc Cert.ValsReferenceIdeal.main_arg0)
          ∧ r.2.mem ((c.tc : Thread Cert.ValsReferenceIdeal.nD Cert.ValsReferenceIdeal.τ).loc Cert.ValsReferenceIdeal.main_arg1) = m' ((c.tc : Thread Cert.ValsReferenceIdeal.nD Cert.ValsReferenceIdeal.τ).loc Cert.ValsReferenceIdeal.main_arg1))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpReferenceIdeal : Cert.UpReferenceIdeal.Facts) (hExpDown : Cert.ExpDown.Facts) (hExpDownIdeal : Cert.ExpDownIdeal.Facts) (hExpDownReferenceIdeal : Cert.ExpDownReferenceIdeal.Facts) (hExpUp : Cert.ExpUp.Facts) (hExpUpIdeal : Cert.ExpUpIdeal.Facts) (hExpUpReferenceIdeal : Cert.ExpUpReferenceIdeal.Facts) (hOddOut : Cert.OddOut.Facts) (hOddOutIdeal : Cert.OddOutIdeal.Facts) (hOddOutReferenceIdeal : Cert.OddOutReferenceIdeal.Facts) (hKeys : Cert.Keys.Facts) (hKeysIdeal : Cert.KeysIdeal.Facts) (hKeysReferenceIdeal : Cert.KeysReferenceIdeal.Facts) (hVals : Cert.Vals.Facts) (hValsIdeal : Cert.ValsIdeal.Facts) (hValsReferenceIdeal : Cert.ValsReferenceIdeal.Facts) (hPre_finite : Cert.Pre_finite.Facts) (hPre_routed3 : Cert.Pre_routed3.Facts) (hPre_routed4 : Cert.Pre_routed4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp)
    ∧ quiescent_UpIdeal (hUpIdeal := hUpIdeal)
    ∧ quiescent_UpReferenceIdeal (hUpReferenceIdeal := hUpReferenceIdeal)
    ∧ quiescent_ExpDown (hExpDown := hExpDown) (hPre_routed3 := hPre_routed3)
    ∧ quiescent_ExpDownIdeal (hExpDownIdeal := hExpDownIdeal) (hPre_routed3 := hPre_routed3)
    ∧ quiescent_ExpDownReferenceIdeal (hExpDownReferenceIdeal := hExpDownReferenceIdeal)
    ∧ quiescent_ExpDownReferenceIdeal_pre_routed3 (hExpDownReferenceIdeal := hExpDownReferenceIdeal) (hPre_routed3 := hPre_routed3)
    ∧ quiescent_ExpUp (hExpUp := hExpUp) (hPre_routed4 := hPre_routed4)
    ∧ quiescent_ExpUpIdeal (hExpUpIdeal := hExpUpIdeal) (hPre_routed4 := hPre_routed4)
    ∧ quiescent_ExpUpReferenceIdeal (hExpUpReferenceIdeal := hExpUpReferenceIdeal)
    ∧ quiescent_ExpUpReferenceIdeal_pre_routed4 (hExpUpReferenceIdeal := hExpUpReferenceIdeal) (hPre_routed4 := hPre_routed4)
    ∧ quiescent_OddOut (hOddOut := hOddOut)
    ∧ quiescent_OddOutIdeal (hOddOutIdeal := hOddOutIdeal)
    ∧ quiescent_OddOutReferenceIdeal (hOddOutReferenceIdeal := hOddOutReferenceIdeal)
    ∧ quiescent_Keys (hKeys := hKeys)
    ∧ quiescent_KeysIdeal (hKeysIdeal := hKeysIdeal)
    ∧ quiescent_KeysReferenceIdeal (hKeysReferenceIdeal := hKeysReferenceIdeal)
    ∧ quiescent_Vals (hVals := hVals)
    ∧ quiescent_ValsIdeal (hValsIdeal := hValsIdeal)
    ∧ quiescent_ValsReferenceIdeal (hValsReferenceIdeal := hValsReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Up_UpIdeal
    ∧ algebraic_UpIdeal_UpReferenceIdeal (hUpIdeal := hUpIdeal) (hUpReferenceIdeal := hUpReferenceIdeal)
    ∧ preserves_ExpDown_ExpDownIdeal
    ∧ algebraic_ExpDownIdeal_ExpDownReferenceIdeal (hExpDownIdeal := hExpDownIdeal) (hExpDownReferenceIdeal := hExpDownReferenceIdeal) (hPre_routed3 := hPre_routed3)
    ∧ preserves_ExpUp_ExpUpIdeal
    ∧ algebraic_ExpUpIdeal_ExpUpReferenceIdeal (hExpUpIdeal := hExpUpIdeal) (hExpUpReferenceIdeal := hExpUpReferenceIdeal) (hPre_routed4 := hPre_routed4)
    ∧ preserves_OddOut_OddOutIdeal
    ∧ algebraic_OddOutIdeal_OddOutReferenceIdeal (hOddOutIdeal := hOddOutIdeal) (hOddOutReferenceIdeal := hOddOutReferenceIdeal)
    ∧ preserves_Keys_KeysIdeal
    ∧ algebraic_KeysIdeal_KeysReferenceIdeal (hKeysIdeal := hKeysIdeal) (hKeysReferenceIdeal := hKeysReferenceIdeal)
    ∧ preserves_Vals_ValsIdeal
    ∧ algebraic_ValsIdeal_ValsReferenceIdeal (hValsIdeal := hValsIdeal) (hValsReferenceIdeal := hValsReferenceIdeal)
-- ==== Pre_finite.lean ====
abbrev S2x8192x16x128 : Shape := ⟨4, ![2, 8192, 16, 128]⟩
abbrev S2x8192x16 : Shape := ⟨3, ![2, 8192, 16]⟩
abbrev S_ : Shape := ⟨0, ![]⟩

class Facts : Prop where
  bcast_S_S2x8192x16x128 : S_.BroadcastsInDim S2x8192x16x128 (![] : Fin 0 → Fin S2x8192x16x128.rank)
  reducesTo_S2x8192x16x128_S_d0_1_2_3 : S2x8192x16x128.ReducesTo [0, 1, 2, 3] S_
  h_S_ : 0 < S_.numel
  bcast_S_S2x8192x16 : S_.BroadcastsInDim S2x8192x16 (![] : Fin 0 → Fin S2x8192x16.rank)
  reducesTo_S2x8192x16_S_d0_1_2 : S2x8192x16.ReducesTo [0, 1, 2] S_

variable [Facts]

def fn {F : FTy → Type} [FloatOps F] (main_arg0 : FVec F S2x8192x16x128 .f32) (main_arg1 : FVec F S2x8192x16x128 .f32) (main_arg2 : FVec F S2x8192x16x128 .f32) (main_arg3 : FVec F S2x8192x16 .f32) : IVec S_ 1 :=
  let main_v0 : FVec F S2x8192x16x128 .f32 := Host.absf main_arg0
  let main_cst : FVec F S_ .f32 := constant S_ .f32 0x7F800000#32
  let main_v1 : FVec F S2x8192x16x128 .f32 := broadcastInDim S2x8192x16x128 ![] bcast_S_S2x8192x16x128 main_cst
  let main_v2 : IVec S2x8192x16x128 1 := cmpf .olt main_v0 main_v1
  let main_c : IVec S_ 1 := constantI S_ 1 1#1
  let main_v3 : IVec S_ 1 := (fun x v => Host.reduce IntOp.andi x v reducesTo_S2x8192x16x128_S_d0_1_2_3 h_S_) main_v2 main_c
  let main_v4 : FVec F S2x8192x16x128 .f32 := Host.absf main_arg1
  let main_cst_0 : FVec F S_ .f32 := constant S_ .f32 0x7F800000#32
  let main_v5 : FVec F S2x8192x16x128 .f32 := broadcastInDim S2x8192x16x128 ![] bcast_S_S2x8192x16x128 main_cst_0
  let main_v6 : IVec S2x8192x16x128 1 := cmpf .olt main_v4 main_v5
  let main_c_1 : IVec S_ 1 := constantI S_ 1 1#1
  let main_v7 : IVec S_ 1 := (fun x v => Host.reduce IntOp.andi x v reducesTo_S2x8192x16x128_S_d0_1_2_3 h_S_) main_v6 main_c_1
  let main_v8 : IVec S_ 1 := andi main_v3 main_v7
  let main_v9 : FVec F S2x8192x16 .f32 := Host.absf main_arg3
  let main_cst_2 : FVec F S_ .f32 := constant S_ .f32 0x7F800000#32
  let main_v10 : FVec F S2x8192x16 .f32 := broadcastInDim S2x8192x16 ![] bcast_S_S2x8192x16 main_cst_2
  let main_v11 : IVec S2x8192x16 1 := cmpf .olt main_v9 main_v10
  let main_c_3 : IVec S_ 1 := constantI S_ 1 1#1
  let main_v12 : IVec S_ 1 := (fun x v => Host.reduce IntOp.andi x v reducesTo_S2x8192x16_S_d0_1_2 h_S_) main_v11 main_c_3
  let main_v13 : IVec S_ 1 := andi main_v8 main_v12
  main_v13
-- ==== Pre_routed3.lean ====
abbrev S36864x5632 : Shape := ⟨2, ![36864, 5632]⟩
abbrev S8x5632x2048 : Shape := ⟨3, ![8, 5632, 2048]⟩
abbrev S72 : Shape := ⟨1, ![72]⟩
abbrev S1 : Shape := ⟨1, ![1]⟩
abbrev S_ : Shape := ⟨0, ![]⟩
abbrev S71 : Shape := ⟨1, ![71]⟩

class Facts : Prop where
  bcast_S1_S72_0 : S1.BroadcastsInDim S72 (![0] : Fin 1 → Fin S72.rank)
  shapeCasts_S1_S_ : S1.ShapeCasts S_
  bcast_S_S72 : S_.BroadcastsInDim S72 (![] : Fin 0 → Fin S72.rank)
  reducesTo_S72_S_d0 : S72.ReducesTo [0] S_
  h_S_ : 0 < S_.numel
  slices_S72_S71_0 : S72.Slices ![0] S71
  slices_S72_S71_1 : S72.Slices ![1] S71
  bcast_S_S1 : S_.BroadcastsInDim S1 (![] : Fin 0 → Fin S1.rank)
  bcast_S_S71 : S_.BroadcastsInDim S71 (![] : Fin 0 → Fin S71.rank)
  reducesTo_S71_S_d0 : S71.ReducesTo [0] S_

variable [Facts]

def fn_where {F : FTy → Type} [FloatOps F] (arg0 : IVec S72 1) (arg1 : IVec S72 1) (arg2 : IVec S_ 1) : IVec S72 1 :=
  let v0 : IVec S72 1 := broadcastInDim S72 ![] bcast_S_S72 arg2
  let v1 : IVec S72 1 := select arg0 arg1 v0
  v1

def fn_where_0 {F : FTy → Type} [FloatOps F] (arg0 : IVec S71 1) (arg1 : IVec S71 1) (arg2 : IVec S71 1) : IVec S71 1 :=
  let v0 : IVec S71 1 := select arg0 arg1 arg2
  v0

def fn_where_1 {F : FTy → Type} [FloatOps F] (arg0 : IVec S71 1) (arg1 : IVec S71 1) (arg2 : IVec S_ 1) : IVec S71 1 :=
  let v0 : IVec S71 1 := broadcastInDim S71 ![] bcast_S_S71 arg2
  let v1 : IVec S71 1 := select arg0 arg1 v0
  v1

def fn_part2 {F : FTy → Type} [FloatOps F] (main_v31 : IVec S_ 1) (main_v32 : IVec S_ 1) (main_v35 : IVec S_ 1) : IVec S_ 1 :=
  let main_v36 : IVec S_ 1 := andi main_v32 main_v35
  let main_v37 : IVec S_ 1 := andi main_v36 main_v31
  main_v37

def fn_part1 {F : FTy → Type} [FloatOps F] (main_arg3 : IVec S1 32) (main_arg4 : IVec S72 32) (main_v0 : IVec S72 32) (main_v2 : IVec S72 1) (main_v7 : IVec S_ 1) (main_v14 : IVec S_ 1) (main_v16 : IVec S71 32) (main_v17 : IVec S71 1) : IVec S_ 1 :=
  let main_v18 : IVec S71 32 := (extractStridedSlice S71 ![0] · slices_S72_S71_0) main_arg4
  let main_v19 : IVec S71 32 := (extractStridedSlice S71 ![1] · slices_S72_S71_1) main_arg4
  let main_v20 : IVec S71 1 := cmpi .eq main_v18 main_v19
  let main_v21 : IVec S71 32 := (extractStridedSlice S71 ![0] · slices_S72_S71_0) main_arg4
  let main_v22 : IVec S71 1 := cmpi .eq main_v21 main_v16
  let main_v23 : IVec S71 1 := fn_where_0 (F := F) main_v17 main_v20 main_v22
  let main_c_5 : IVec S_ 32 := constantI S_ 32 1#32
  let main_v24 : IVec S1 32 := broadcastInDim S1 ![] bcast_S_S1 main_c_5
  let main_v25 : IVec S1 32 := subi main_arg3 main_v24
  let main_v26 : IVec S72 32 := broadcastInDim S72 ![0] bcast_S1_S72_0 main_v25
  let main_v27 : IVec S72 1 := cmpi .eq main_v0 main_v26
  let main_c_6 : IVec S_ 32 := constantI S_ 32 0#32
  let main_v28 : IVec S72 32 := broadcastInDim S72 ![] bcast_S_S72 main_c_6
  let main_v29 : IVec S72 1 := cmpi .slt main_arg4 main_v28
  let main_c_7 : IVec S_ 1 := constantI S_ 1 1#1
  let main_v30 : IVec S72 1 := fn_where (F := F) main_v27 main_v29 main_c_7
  let main_c_8 : IVec S_ 1 := constantI S_ 1 1#1
  let main_v31 : IVec S_ 1 := (fun x v => Host.reduce IntOp.andi x v reducesTo_S72_S_d0 h_S_) main_v30 main_c_8
  let main_v32 : IVec S_ 1 := andi main_v7 main_v14
  let main_v33 : IVec S71 1 := (extractStridedSlice S71 ![1] · slices_S72_S71_1) main_v2
  let main_c_9 : IVec S_ 1 := constantI S_ 1 1#1
  let main_v34 : IVec S71 1 := fn_where_1 (F := F) main_v33 main_v23 main_c_9
  let main_c_10 : IVec S_ 1 := constantI S_ 1 1#1
  let main_v35 : IVec S_ 1 := (fun x v => Host.reduce IntOp.andi x v reducesTo_S71_S_d0 h_S_) main_v34 main_c_10
  fn_part2 (F := F) main_v31 main_v32 main_v35

def fn {F : FTy → Type} [FloatOps F] (main_arg0 : FVec F S36864x5632 .bf16) (main_arg1 : FVec F S8x5632x2048 .f32) (main_arg2 : IVec S72 32) (main_arg3 : IVec S1 32) (main_arg4 : IVec S72 32) : IVec S_ 1 :=
  let main_v0 : IVec S72 32 := iotaInDim S72 32 0
  let main_v1 : IVec S72 32 := broadcastInDim S72 ![0] bcast_S1_S72_0 main_arg3
  let main_v2 : IVec S72 1 := cmpi .slt main_v0 main_v1
  let main_v3 : IVec S_ 32 := shapeCast S_ main_arg3 shapeCasts_S1_S_
  let main_c : IVec S_ 32 := constantI S_ 32 1#32
  let main_v4 : IVec S_ 1 := cmpi .sge main_v3 main_c
  let main_v5 : IVec S_ 32 := shapeCast S_ main_arg3 shapeCasts_S1_S_
  let main_c_0 : IVec S_ 32 := constantI S_ 32 72#32
  let main_v6 : IVec S_ 1 := cmpi .sle main_v5 main_c_0
  let main_v7 : IVec S_ 1 := andi main_v4 main_v6
  let main_c_1 : IVec S_ 32 := constantI S_ 32 0#32
  let main_v8 : IVec S72 32 := broadcastInDim S72 ![] bcast_S_S72 main_c_1
  let main_v9 : IVec S72 1 := cmpi .sge main_arg2 main_v8
  let main_c_2 : IVec S_ 32 := constantI S_ 32 8#32
  let main_v10 : IVec S72 32 := broadcastInDim S72 ![] bcast_S_S72 main_c_2
  let main_v11 : IVec S72 1 := cmpi .slt main_arg2 main_v10
  let main_v12 : IVec S72 1 := andi main_v9 main_v11
  let main_c_3 : IVec S_ 1 := constantI S_ 1 1#1
  let main_v13 : IVec S72 1 := fn_where (F := F) main_v2 main_v12 main_c_3
  let main_c_4 : IVec S_ 1 := constantI S_ 1 1#1
  let main_v14 : IVec S_ 1 := (fun x v => Host.reduce IntOp.andi x v reducesTo_S72_S_d0 h_S_) main_v13 main_c_4
  let main_v15 : IVec S71 32 := (extractStridedSlice S71 ![0] · slices_S72_S71_0) main_arg2
  let main_v16 : IVec S71 32 := (extractStridedSlice S71 ![1] · slices_S72_S71_1) main_arg2
  let main_v17 : IVec S71 1 := cmpi .eq main_v15 main_v16
  fn_part1 (F := F) main_arg3 main_arg4 main_v0 main_v2 main_v7 main_v14 main_v16 main_v17
-- ==== Pre_routed4.lean ====
abbrev S36864x2048 : Shape := ⟨2, ![36864, 2048]⟩
abbrev S8x2048x5632 : Shape := ⟨3, ![8, 2048, 5632]⟩
abbrev S72 : Shape := ⟨1, ![72]⟩
abbrev S1 : Shape := ⟨1, ![1]⟩
abbrev S_ : Shape := ⟨0, ![]⟩
abbrev S71 : Shape := ⟨1, ![71]⟩

class Facts : Prop where
  bcast_S1_S72_0 : S1.BroadcastsInDim S72 (![0] : Fin 1 → Fin S72.rank)
  shapeCasts_S1_S_ : S1.ShapeCasts S_
  bcast_S_S72 : S_.BroadcastsInDim S72 (![] : Fin 0 → Fin S72.rank)
  reducesTo_S72_S_d0 : S72.ReducesTo [0] S_
  h_S_ : 0 < S_.numel
  slices_S72_S71_0 : S72.Slices ![0] S71
  slices_S72_S71_1 : S72.Slices ![1] S71
  bcast_S_S1 : S_.BroadcastsInDim S1 (![] : Fin 0 → Fin S1.rank)
  bcast_S_S71 : S_.BroadcastsInDim S71 (![] : Fin 0 → Fin S71.rank)
  reducesTo_S71_S_d0 : S71.ReducesTo [0] S_

variable [Facts]

def fn_where {F : FTy → Type} [FloatOps F] (arg0 : IVec S72 1) (arg1 : IVec S72 1) (arg2 : IVec S_ 1) : IVec S72 1 :=
  let v0 : IVec S72 1 := broadcastInDim S72 ![] bcast_S_S72 arg2
  let v1 : IVec S72 1 := select arg0 arg1 v0
  v1

def fn_where_0 {F : FTy → Type} [FloatOps F] (arg0 : IVec S71 1) (arg1 : IVec S71 1) (arg2 : IVec S71 1) : IVec S71 1 :=
  let v0 : IVec S71 1 := select arg0 arg1 arg2
  v0

def fn_where_1 {F : FTy → Type} [FloatOps F] (arg0 : IVec S71 1) (arg1 : IVec S71 1) (arg2 : IVec S_ 1) : IVec S71 1 :=
  let v0 : IVec S71 1 := broadcastInDim S71 ![] bcast_S_S71 arg2
  let v1 : IVec S71 1 := select arg0 arg1 v0
  v1

def fn_part2 {F : FTy → Type} [FloatOps F] (main_v31 : IVec S_ 1) (main_v32 : IVec S_ 1) (main_v35 : IVec S_ 1) : IVec S_ 1 :=
  let main_v36 : IVec S_ 1 := andi main_v32 main_v35
  let main_v37 : IVec S_ 1 := andi main_v36 main_v31
  main_v37

def fn_part1 {F : FTy → Type} [FloatOps F] (main_arg4 : IVec S1 32) (main_arg5 : IVec S72 32) (main_v0 : IVec S72 32) (main_v2 : IVec S72 1) (main_v7 : IVec S_ 1) (main_v14 : IVec S_ 1) (main_v16 : IVec S71 32) (main_v17 : IVec S71 1) : IVec S_ 1 :=
  let main_v18 : IVec S71 32 := (extractStridedSlice S71 ![0] · slices_S72_S71_0) main_arg5
  let main_v19 : IVec S71 32 := (extractStridedSlice S71 ![1] · slices_S72_S71_1) main_arg5
  let main_v20 : IVec S71 1 := cmpi .eq main_v18 main_v19
  let main_v21 : IVec S71 32 := (extractStridedSlice S71 ![0] · slices_S72_S71_0) main_arg5
  let main_v22 : IVec S71 1 := cmpi .eq main_v21 main_v16
  let main_v23 : IVec S71 1 := fn_where_0 (F := F) main_v17 main_v20 main_v22
  let main_c_5 : IVec S_ 32 := constantI S_ 32 1#32
  let main_v24 : IVec S1 32 := broadcastInDim S1 ![] bcast_S_S1 main_c_5
  let main_v25 : IVec S1 32 := subi main_arg4 main_v24
  let main_v26 : IVec S72 32 := broadcastInDim S72 ![0] bcast_S1_S72_0 main_v25
  let main_v27 : IVec S72 1 := cmpi .eq main_v0 main_v26
  let main_c_6 : IVec S_ 32 := constantI S_ 32 0#32
  let main_v28 : IVec S72 32 := broadcastInDim S72 ![] bcast_S_S72 main_c_6
  let main_v29 : IVec S72 1 := cmpi .slt main_arg5 main_v28
  let main_c_7 : IVec S_ 1 := constantI S_ 1 1#1
  let main_v30 : IVec S72 1 := fn_where (F := F) main_v27 main_v29 main_c_7
  let main_c_8 : IVec S_ 1 := constantI S_ 1 1#1
  let main_v31 : IVec S_ 1 := (fun x v => Host.reduce IntOp.andi x v reducesTo_S72_S_d0 h_S_) main_v30 main_c_8
  let main_v32 : IVec S_ 1 := andi main_v7 main_v14
  let main_v33 : IVec S71 1 := (extractStridedSlice S71 ![1] · slices_S72_S71_1) main_v2
  let main_c_9 : IVec S_ 1 := constantI S_ 1 1#1
  let main_v34 : IVec S71 1 := fn_where_1 (F := F) main_v33 main_v23 main_c_9
  let main_c_10 : IVec S_ 1 := constantI S_ 1 1#1
  let main_v35 : IVec S_ 1 := (fun x v => Host.reduce IntOp.andi x v reducesTo_S71_S_d0 h_S_) main_v34 main_c_10
  fn_part2 (F := F) main_v31 main_v32 main_v35

def fn {F : FTy → Type} [FloatOps F] (main_arg0 : FVec F S36864x2048 .f32) (main_arg1 : FVec F S8x2048x5632 .f32) (main_arg2 : FVec F S8x2048x5632 .f32) (main_arg3 : IVec S72 32) (main_arg4 : IVec S1 32) (main_arg5 : IVec S72 32) : IVec S_ 1 :=
  let main_v0 : IVec S72 32 := iotaInDim S72 32 0
  let main_v1 : IVec S72 32 := broadcastInDim S72 ![0] bcast_S1_S72_0 main_arg4
  let main_v2 : IVec S72 1 := cmpi .slt main_v0 main_v1
  let main_v3 : IVec S_ 32 := shapeCast S_ main_arg4 shapeCasts_S1_S_
  let main_c : IVec S_ 32 := constantI S_ 32 1#32
  let main_v4 : IVec S_ 1 := cmpi .sge main_v3 main_c
  let main_v5 : IVec S_ 32 := shapeCast S_ main_arg4 shapeCasts_S1_S_
  let main_c_0 : IVec S_ 32 := constantI S_ 32 72#32
  let main_v6 : IVec S_ 1 := cmpi .sle main_v5 main_c_0
  let main_v7 : IVec S_ 1 := andi main_v4 main_v6
  let main_c_1 : IVec S_ 32 := constantI S_ 32 0#32
  let main_v8 : IVec S72 32 := broadcastInDim S72 ![] bcast_S_S72 main_c_1
  let main_v9 : IVec S72 1 := cmpi .sge main_arg3 main_v8
  let main_c_2 : IVec S_ 32 := constantI S_ 32 8#32
  let main_v10 : IVec S72 32 := broadcastInDim S72 ![] bcast_S_S72 main_c_2
  let main_v11 : IVec S72 1 := cmpi .slt main_arg3 main_v10
  let main_v12 : IVec S72 1 := andi main_v9 main_v11
  let main_c_3 : IVec S_ 1 := constantI S_ 1 1#1
  let main_v13 : IVec S72 1 := fn_where (F := F) main_v2 main_v12 main_c_3
  let main_c_4 : IVec S_ 1 := constantI S_ 1 1#1
  let main_v14 : IVec S_ 1 := (fun x v => Host.reduce IntOp.andi x v reducesTo_S72_S_d0 h_S_) main_v13 main_c_4
  let main_v15 : IVec S71 32 := (extractStridedSlice S71 ![0] · slices_S72_S71_0) main_arg3
  let main_v16 : IVec S71 32 := (extractStridedSlice S71 ![1] · slices_S72_S71_1) main_arg3
  let main_v17 : IVec S71 1 := cmpi .eq main_v15 main_v16
  fn_part1 (F := F) main_arg4 main_arg5 main_v0 main_v2 main_v7 main_v14 main_v16 main_v17
-- ==== Kernel.lean ====
abbrev S2x8192x16x128 : Shape := ⟨4, ![2, 8192, 16, 128]⟩
abbrev S2x8192x16 : Shape := ⟨3, ![2, 8192, 16]⟩
abbrev S2x8192x2048 : Shape := ⟨3, ![2, 8192, 2048]⟩
abbrev S_ : Shape := ⟨0, ![]⟩
abbrev S2x2048x8192 : Shape := ⟨3, ![2, 2048, 8192]⟩
abbrev S2x16x8192 : Shape := ⟨3, ![2, 16, 8192]⟩
abbrev S2x16x1x8192 : Shape := ⟨4, ![2, 16, 1, 8192]⟩
abbrev S1x128x8192 : Shape := ⟨3, ![1, 128, 8192]⟩
abbrev S1x8192x128 : Shape := ⟨3, ![1, 8192, 128]⟩
abbrev S1x1x1x8192 : Shape := ⟨4, ![1, 1, 1, 8192]⟩
abbrev S128x1024 : Shape := ⟨2, ![128, 1024]⟩
abbrev S1024x1024 : Shape := ⟨2, ![1024, 1024]⟩
abbrev S8192x128 : Shape := ⟨2, ![8192, 128]⟩
abbrev S1x1x1x1024 : Shape := ⟨4, ![1, 1, 1, 1024]⟩
abbrev S1x1024 : Shape := ⟨2, ![1, 1024]⟩
abbrev S1024x128 : Shape := ⟨2, ![1024, 128]⟩
abbrev S1x128x1024 : Shape := ⟨3, ![1, 128, 1024]⟩
abbrev S256x1024 : Shape := ⟨2, ![256, 1024]⟩
abbrev S1x1024x128 : Shape := ⟨3, ![1, 1024, 128]⟩
abbrev S1024x256 : Shape := ⟨2, ![1024, 256]⟩
abbrev S1024 : Shape := ⟨1, ![1024]⟩
abbrev S512x256 : Shape := ⟨2, ![512, 256]⟩
abbrev S256x512 : Shape := ⟨2, ![256, 512]⟩
abbrev S512x512 : Shape := ⟨2, ![512, 512]⟩
abbrev S1024x512 : Shape := ⟨2, ![1024, 512]⟩
abbrev S1x512 : Shape := ⟨2, ![1, 512]⟩
abbrev S512 : Shape := ⟨1, ![512]⟩
abbrev S128x512 : Shape := ⟨2, ![128, 512]⟩
abbrev S1x128x512 : Shape := ⟨3, ![1, 128, 512]⟩

abbrev nBuf : Space → Nat
  | .hbm => 22
  | .vmem => 14
  | .smem => 0
  | _ => 0

abbrev bufTy : (tb : Table) → Fin (tcTables nBuf tb) → BufTy
  | .hbm, ⟨0, _⟩ => ⟨S2x8192x16x128, .f32⟩
  | .hbm, ⟨1, _⟩ => ⟨S2x8192x16x128, .f32⟩
  | .hbm, ⟨2, _⟩ => ⟨S2x8192x16x128, .f32⟩
  | .hbm, ⟨3, _⟩ => ⟨S2x8192x16, .f32⟩
  | .hbm, ⟨4, _⟩ => ⟨S2x8192x2048, .f32⟩
  | .hbm, ⟨5, _⟩ => ⟨S_, .f32⟩
  | .hbm, ⟨6, _⟩ => ⟨S2x8192x2048, .f32⟩
  | .hbm, ⟨7, _⟩ => ⟨S2x8192x2048, .f32⟩
  | .hbm, ⟨8, _⟩ => ⟨S_, .f32⟩
  | .hbm, ⟨9, _⟩ => ⟨S_, .f32⟩
  | .hbm, ⟨10, _⟩ => ⟨S2x8192x2048, .f32⟩
  | .hbm, ⟨11, _⟩ => ⟨S2x8192x2048, .f32⟩
  | .hbm, ⟨12, _⟩ => ⟨S2x8192x2048, .bf16⟩
  | .hbm, ⟨13, _⟩ => ⟨S2x2048x8192, .bf16⟩
  | .hbm, ⟨14, _⟩ => ⟨S2x8192x2048, .f32⟩
  | .hbm, ⟨15, _⟩ => ⟨S2x8192x2048, .bf16⟩
  | .hbm, ⟨16, _⟩ => ⟨S2x8192x2048, .f32⟩
  | .hbm, ⟨17, _⟩ => ⟨S2x8192x2048, .bf16⟩
  | .hbm, ⟨18, _⟩ => ⟨S2x2048x8192, .bf16⟩
  | .hbm, ⟨19, _⟩ => ⟨S2x16x8192, .f32⟩
  | .hbm, ⟨20, _⟩ => ⟨S2x16x1x8192, .f32⟩
  | .hbm, ⟨21, _⟩ => ⟨S2x8192x2048, .bf16⟩
  | .local _ .vmem, ⟨0, _⟩ => ⟨S1x128x8192, .bf16⟩
  | .local _ .vmem, ⟨1, _⟩ => ⟨S1x128x8192, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x128x8192, .bf16⟩
  | .local _ .vmem, ⟨5, _⟩ => ⟨S1x128x8192, .bf16⟩
  | .local _ .vmem, ⟨6, _⟩ => ⟨S1x1x1x8192, .f32⟩
  | .local _ .vmem, ⟨7, _⟩ => ⟨S1x1x1x8192, .f32⟩
  | .local _ .vmem, ⟨8, _⟩ => ⟨S1x8192x128, .bf16⟩
  | .local _ .vmem, ⟨9, _⟩ => ⟨S1x8192x128, .bf16⟩
  | .local _ .vmem, ⟨10, _⟩ => ⟨S128x1024, .f32⟩
  | .local _ .vmem, ⟨11, _⟩ => ⟨S1024x1024, .f32⟩
  | .local _ .vmem, ⟨12, _⟩ => ⟨S1024x1024, .f32⟩
  | .local _ .vmem, ⟨13, _⟩ => ⟨S8192x128, .bf16⟩
  | _, _ => ⟨S2x8192x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c8_i32 : BitVec 32 := 8#32
  let v1 : BitVec 32 := Scalar.addi c0_i32 c8_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c1024_i32 : BitVec 32 := 1024#32
  let v25 : BitVec 32 := Scalar.muli arg11 c1024_i32
  v25
def k0_off1 (k0_t1 : Fin k0_t1_loop.trips) : Fin 4 → Nat :=
  let c0_13 : Index := 0#32
  let c0_14 : Index := 0#32
  let c0_15 : Index := 0#32
  let c0_i32 : BitVec 32 := 0#32
  let c1_i32 : BitVec 32 := 1#32
  let arg11 : BitVec 32 := Scf.iv c0_i32 c1_i32 k0_t1
  let c1024_i32 : BitVec 32 := 1024#32
  let v25 : BitVec 32 := Scalar.muli arg11 c1024_i32
  let v26 : BitVec 32 := v25
  let v27 : Index := Scalar.indexCast v26
  ![0, 0, 0, v27.toNat]
def k0_off2 (k0_t1 : Fin k0_t1_loop.trips) : Fin 2 → Nat :=
  let c0_i32 : BitVec 32 := 0#32
  let c1_i32 : BitVec 32 := 1#32
  let arg11 : BitVec 32 := Scf.iv c0_i32 c1_i32 k0_t1
  let c1024_i32 : BitVec 32 := 1024#32
  let v25 : BitVec 32 := Scalar.muli arg11 c1024_i32
  let v26 : BitVec 32 := v25
  let v57 : Index := Scalar.indexCast v26
  let c0_20 : Index := 0#32
  ![v57.toNat, 0]
def k0_mult2 : BitVec 32 :=
  let c0_i32_1 : BitVec 32 := 0#32
  c0_i32_1
def k0_mult3 : BitVec 32 :=
  let c0_i32_3 : BitVec 32 := 0#32
  c0_i32_3
@[reducible] def k0_t2_loop : Scf.Loop 32 :=
  let c0_i32_9 : BitVec 32 := 0#32
  let c8_i32_10 : BitVec 32 := 8#32
  let v24 : BitVec 32 := Scalar.addi c0_i32_9 c8_i32_10
  let c1_i32_11 : BitVec 32 := 1#32
  ⟨c0_i32_9, v24, c1_i32_11⟩
def k0_cond1 (k0_t2 : Fin k0_t2_loop.trips) : BitVec 1 :=
  let c0_i32_9 : BitVec 32 := 0#32
  let c1_i32_11 : BitVec 32 := 1#32
  let arg11 : BitVec 32 := Scf.iv c0_i32_9 c1_i32_11 k0_t2
  let c1_i32_13 : BitVec 32 := 1#32
  let v25 : BitVec 32 := Scalar.addi arg11 c1_i32_13
  let c0_i32_14 : BitVec 32 := 0#32
  let v27 : BitVec 1 := Scalar.cmpi .sgt v25 c0_i32_14
  let v28 : BitVec 32 := Scalar.extui v27
  let c0_i32_15 : BitVec 32 := 0#32
  let v29 : BitVec 1 := Scalar.cmpi .slt v25 c0_i32_15
  let v30 : BitVec 32 := Scalar.extui v29
  let v31 : BitVec 32 := Scalar.subi v28 v30
  let c2_i32 : BitVec 32 := 2#32
  let c0_i32_16 : BitVec 32 := 0#32
  let v32 : BitVec 1 := Scalar.cmpi .sgt c2_i32 c0_i32_16
  let v33 : BitVec 32 := Scalar.extui v32
  let c0_i32_17 : BitVec 32 := 0#32
  let v34 : BitVec 1 := Scalar.cmpi .slt c2_i32 c0_i32_17
  let v35 : BitVec 32 := Scalar.extui v34
  let v36 : BitVec 32 := Scalar.subi v33 v35
  let v37 : BitVec 1 := Scalar.cmpi .ne v31 v36
  let v38 : BitVec 32 := Scalar.remsi v25 c2_i32
  let c0_i32_18 : BitVec 32 := 0#32
  let v39 : BitVec 1 := Scalar.cmpi .ne v38 c0_i32_18
  let v40 : BitVec 1 := Scalar.andi v37 v39
  let v26 : BitVec 32 := Scalar.divsi v25 c2_i32
  let c1_i32_19 : BitVec 32 := 1#32
  let v41 : BitVec 32 := Scalar.subi v26 c1_i32_19
  let v42 : BitVec 32 := Scalar.select v40 v41 v26
  let c2_i32_20 : BitVec 32 := 2#32
  let c0_i32_21 : BitVec 32 := 0#32
  let v43 : BitVec 1 := Scalar.cmpi .eq c2_i32_20 c0_i32_21
  let c1_i32_22 : BitVec 32 := 1#32
  let v44 : BitVec 32 := Scalar.select v43 c1_i32_22 c2_i32_20
  let v45 : BitVec 32 := Scalar.remsi v42 v44
  let c0_i32_24 : BitVec 32 := 0#32
  let v47 : BitVec 1 := Scalar.cmpi .slt v45 c0_i32_24
  let c0_i32_25 : BitVec 32 := 0#32
  let v48 : BitVec 1 := Scalar.cmpi .slt v44 c0_i32_25
  let v49 : BitVec 1 := Scalar.xori v47 v48
  let c0_i32_23 : BitVec 32 := 0#32
  let v46 : BitVec 1 := Scalar.cmpi .ne v45 c0_i32_23
  let v50 : BitVec 1 := Scalar.andi v49 v46
  let v51 : BitVec 32 := Scalar.addi v45 v44
  let v52 : BitVec 32 := Scalar.select v50 v51 v45
  let c0_i32_26 : BitVec 32 := 0#32
  let v53 : BitVec 1 := Scalar.cmpi .eq v52 c0_i32_26
  let v54 : BitVec 32 := Scalar.extui v53
  let c0_i32_27 : BitVec 32 := 0#32
  let v55 : BitVec 1 := Scalar.cmpi .ne v54 c0_i32_27
  v55

@[reducible] def k0_t3_loop (k0_t2 : Fin k0_t2_loop.trips) : Scf.Loop 32 :=
  let c0_i32_40 : BitVec 32 := 0#32
  let c0_i32_9 : BitVec 32 := 0#32
  let c1_i32_11 : BitVec 32 := 1#32
  let arg11 : BitVec 32 := Scf.iv c0_i32_9 c1_i32_11 k0_t2
  let c0_i32_34 : BitVec 32 := 0#32
  let v63 : BitVec 1 := Scalar.cmpi .sgt arg11 c0_i32_34
  let v64 : BitVec 32 := Scalar.extui v63
  let c0_i32_35 : BitVec 32 := 0#32
  let v65 : BitVec 1 := Scalar.cmpi .slt arg11 c0_i32_35
  let v66 : BitVec 32 := Scalar.extui v65
  let v67 : BitVec 32 := Scalar.subi v64 v66
  let c2_i32_33 : BitVec 32 := 2#32
  let c0_i32_36 : BitVec 32 := 0#32
  let v68 : BitVec 1 := Scalar.cmpi .sgt c2_i32_33 c0_i32_36
  let v69 : BitVec 32 := Scalar.extui v68
  let c0_i32_37 : BitVec 32 := 0#32
  let v70 : BitVec 1 := Scalar.cmpi .slt c2_i32_33 c0_i32_37
  let v71 : BitVec 32 := Scalar.extui v70
  let v72 : BitVec 32 := Scalar.subi v69 v71
  let v73 : BitVec 1 := Scalar.cmpi .ne v67 v72
  let v74 : BitVec 32 := Scalar.remsi arg11 c2_i32_33
  let c0_i32_38 : BitVec 32 := 0#32
  let v75 : BitVec 1 := Scalar.cmpi .ne v74 c0_i32_38
  let v76 : BitVec 1 := Scalar.andi v73 v75
  let v62 : BitVec 32 := Scalar.divsi arg11 c2_i32_33
  let c1_i32_39 : BitVec 32 := 1#32
  let v77 : BitVec 32 := Scalar.subi v62 c1_i32_39
  let v78 : BitVec 32 := Scalar.select v76 v77 v62
  let v79 : BitVec 32 := Scalar.subi v78 c0_i32_40
  let c1_i32_41 : BitVec 32 := 1#32
  let v81 : BitVec 32 := Scalar.divsi v79 c1_i32_41
  let v82 : BitVec 32 := Scalar.muli v81 c1_i32_41
  let v83 : BitVec 32 := Scalar.addi c0_i32_40 v82
  let c1_i32_42 : BitVec 32 := 1#32
  ⟨c0_i32_40, v83, c1_i32_42⟩
def k0_mult4 (k0_t2 : Fin k0_t2_loop.trips) : BitVec 32 :=
  let c0_i32_9 : BitVec 32 := 0#32
  let c1_i32_11 : BitVec 32 := 1#32
  let arg11 : BitVec 32 := Scf.iv c0_i32_9 c1_i32_11 k0_t2
  let c1024_i32_59 : BitVec 32 := 1024#32
  let v115 : BitVec 32 := Scalar.muli arg11 c1024_i32_59
  v115
def k0_off3 (k0_t2 : Fin k0_t2_loop.trips) : Fin 3 → Nat :=
  let c0_60 : Index := 0#32
  let c0_61 : Index := 0#32
  let c0_i32_9 : BitVec 32 := 0#32
  let c1_i32_11 : BitVec 32 := 1#32
  let arg11 : BitVec 32 := Scf.iv c0_i32_9 c1_i32_11 k0_t2
  let c1024_i32_59 : BitVec 32 := 1024#32
  let v115 : BitVec 32 := Scalar.muli arg11 c1024_i32_59
  let v116 : BitVec 32 := v115
  let v117 : Index := Scalar.indexCast v116
  ![0, 0, v117.toNat]
def k0_mult5 (k0_t2 : Fin k0_t2_loop.trips) (k0_t3 : Fin (k0_t3_loop k0_t2).trips) : BitVec 32 :=
  let c2_i32_57 : BitVec 32 := 2#32
  let c0_i32_40 : BitVec 32 := 0#32
  let c1_i32_42 : BitVec 32 := 1#32
  let arg12 : BitVec 32 := Scf.iv c0_i32_40 c1_i32_42 k0_t3
  let v113 : BitVec 32 := Scalar.muli c2_i32_57 arg12
  let c1_i32_58 : BitVec 32 := 1#32
  let v114 : BitVec 32 := Scalar.addi v113 c1_i32_58
  let c1024_i32_63 : BitVec 32 := 1024#32
  let v127 : BitVec 32 := Scalar.muli v114 c1024_i32_63
  v127
def k0_off4 (k0_t2 : Fin k0_t2_loop.trips) (k0_t3 : Fin (k0_t3_loop k0_t2).trips) (c1_i32_58 : BitVec 32) : Fin 3 → Nat :=
  let c0_64 : Index := 0#32
  let c2_i32_57 : BitVec 32 := 2#32
  let c0_i32_40 : BitVec 32 := 0#32
  let c1_i32_42 : BitVec 32 := 1#32
  let arg12 : BitVec 32 := Scf.iv c0_i32_40 c1_i32_42 k0_t3
  let v113 : BitVec 32 := Scalar.muli c2_i32_57 arg12
  let v114 : BitVec 32 := Scalar.addi v113 c1_i32_58
  let c1024_i32_63 : BitVec 32 := 1024#32
  let v127 : BitVec 32 := Scalar.muli v114 c1024_i32_63
  let v128 : BitVec 32 := v127
  let v129 : Index := Scalar.indexCast v128
  let c0_65 : Index := 0#32
  ![0, v129.toNat, 0]
def k0_off5 (k0_t2 : Fin k0_t2_loop.trips) (k0_t3 : Fin (k0_t3_loop k0_t2).trips) (c1_i32_58 : BitVec 32) : Fin 2 → Nat :=
  let c2_i32_57 : BitVec 32 := 2#32
  let c0_i32_40 : BitVec 32 := 0#32
  let c1_i32_42 : BitVec 32 := 1#32
  let arg12 : BitVec 32 := Scf.iv c0_i32_40 c1_i32_42 k0_t3
  let v113 : BitVec 32 := Scalar.muli c2_i32_57 arg12
  let v114 : BitVec 32 := Scalar.addi v113 c1_i32_58
  let c1024_i32_63 : BitVec 32 := 1024#32
  let v127 : BitVec 32 := Scalar.muli v114 c1024_i32_63
  let v128 : BitVec 32 := v127
  let v132 : Index := Scalar.indexCast v128
  let c0_66 : Index := 0#32
  ![v132.toNat, 0]
def k0_mult6 (k0_t2 : Fin k0_t2_loop.trips) (k0_t3 : Fin (k0_t3_loop k0_t2).trips) : BitVec 32 :=
  let c2_i32_70 : BitVec 32 := 2#32
  let c0_i32_40 : BitVec 32 := 0#32
  let c1_i32_42 : BitVec 32 := 1#32
  let arg12 : BitVec 32 := Scf.iv c0_i32_40 c1_i32_42 k0_t3
  let v139 : BitVec 32 := Scalar.muli c2_i32_70 arg12
  let c1024_i32_75 : BitVec 32 := 1024#32
  let v153 : BitVec 32 := Scalar.muli v139 c1024_i32_75
  v153
def k0_off6 (k0_t2 : Fin k0_t2_loop.trips) (k0_t3 : Fin (k0_t3_loop k0_t2).trips) : Fin 3 → Nat :=
  let c0_78 : Index := 0#32
  let c0_79 : Index := 0#32
  let c2_i32_70 : BitVec 32 := 2#32
  let c0_i32_40 : BitVec 32 := 0#32
  let c1_i32_42 : BitVec 32 := 1#32
  let arg12 : BitVec 32 := Scf.iv c0_i32_40 c1_i32_42 k0_t3
  let v139 : BitVec 32 := Scalar.muli c2_i32_70 arg12
  let c1024_i32_75 : BitVec 32 := 1024#32
  let v153 : BitVec 32 := Scalar.muli v139 c1024_i32_75
  let v154 : BitVec 32 := v153
  let v158 : Index := Scalar.indexCast v154
  ![0, 0, v158.toNat]
def k0_mult7 (k0_t2 : Fin k0_t2_loop.trips) : BitVec 32 :=
  let c0_i32_9 : BitVec 32 := 0#32
  let c1_i32_11 : BitVec 32 := 1#32
  let arg11 : BitVec 32 := Scf.iv c0_i32_9 c1_i32_11 k0_t2
  let c1024_i32_85 : BitVec 32 := 1024#32
  let v169 : BitVec 32 := Scalar.muli arg11 c1024_i32_85
  v169
def k0_mult8 (k0_t2 : Fin k0_t2_loop.trips) (k0_t3 : Fin (k0_t3_loop k0_t2).trips) : BitVec 32 :=
  let c2_i32_83 : BitVec 32 := 2#32
  let c0_i32_40 : BitVec 32 := 0#32
  let c1_i32_42 : BitVec 32 := 1#32
  let arg12 : BitVec 32 := Scf.iv c0_i32_40 c1_i32_42 k0_t3
  let v167 : BitVec 32 := Scalar.muli c2_i32_83 arg12
  let c2_i32_84 : BitVec 32 := 2#32
  let v168 : BitVec 32 := Scalar.addi v167 c2_i32_84
  let c1024_i32_89 : BitVec 32 := 1024#32
  let v181 : BitVec 32 := Scalar.muli v168 c1024_i32_89
  v181
def k0_mult9 (k0_t2 : Fin k0_t2_loop.trips) (k0_t3 : Fin (k0_t3_loop k0_t2).trips) : BitVec 32 :=
  let c2_i32_96 : BitVec 32 := 2#32
  let c0_i32_40 : BitVec 32 := 0#32
  let c1_i32_42 : BitVec 32 := 1#32
  let arg12 : BitVec 32 := Scf.iv c0_i32_40 c1_i32_42 k0_t3
  let v193 : BitVec 32 := Scalar.muli c2_i32_96 arg12
  let c1_i32_97 : BitVec 32 := 1#32
  let v194 : BitVec 32 := Scalar.addi v193 c1_i32_97
  let c1024_i32_102 : BitVec 32 := 1024#32
  let v208 : BitVec 32 := Scalar.muli v194 c1024_i32_102
  v208
def k0_off7 (k0_t2 : Fin k0_t2_loop.trips) (k0_t3 : Fin (k0_t3_loop k0_t2).trips) : Fin 3 → Nat :=
  let c0_105 : Index := 0#32
  let c0_106 : Index := 0#32
  let c2_i32_96 : BitVec 32 := 2#32
  let c0_i32_40 : BitVec 32 := 0#32
  let c1_i32_42 : BitVec 32 := 1#32
  let arg12 : BitVec 32 := Scf.iv c0_i32_40 c1_i32_42 k0_t3
  let v193 : BitVec 32 := Scalar.muli c2_i32_96 arg12
  let c1_i32_97 : BitVec 32 := 1#32
  let v194 : BitVec 32 := Scalar.addi v193 c1_i32_97
  let c1024_i32_102 : BitVec 32 := 1024#32
  let v208 : BitVec 32 := Scalar.muli v194 c1024_i32_102
  let v209 : BitVec 32 := v208
  let v213 : Index := Scalar.indexCast v209
  ![0, 0, v213.toNat]
@[reducible] def k0_t4_loop (k0_t2 : Fin k0_t2_loop.trips) : Scf.Loop 32 :=
  let c0_i32_40 : BitVec 32 := 0#32
  let c0_i32_9 : BitVec 32 := 0#32
  let c1_i32_11 : BitVec 32 := 1#32
  let arg11 : BitVec 32 := Scf.iv c0_i32_9 c1_i32_11 k0_t2
  let c0_i32_34 : BitVec 32 := 0#32
  let v63 : BitVec 1 := Scalar.cmpi .sgt arg11 c0_i32_34
  let v64 : BitVec 32 := Scalar.extui v63
  let c0_i32_35 : BitVec 32 := 0#32
  let v65 : BitVec 1 := Scalar.cmpi .slt arg11 c0_i32_35
  let v66 : BitVec 32 := Scalar.extui v65
  let v67 : BitVec 32 := Scalar.subi v64 v66
  let c2_i32_33 : BitVec 32 := 2#32
  let c0_i32_36 : BitVec 32 := 0#32
  let v68 : BitVec 1 := Scalar.cmpi .sgt c2_i32_33 c0_i32_36
  let v69 : BitVec 32 := Scalar.extui v68
  let c0_i32_37 : BitVec 32 := 0#32
  let v70 : BitVec 1 := Scalar.cmpi .slt c2_i32_33 c0_i32_37
  let v71 : BitVec 32 := Scalar.extui v70
  let v72 : BitVec 32 := Scalar.subi v69 v71
  let v73 : BitVec 1 := Scalar.cmpi .ne v67 v72
  let v74 : BitVec 32 := Scalar.remsi arg11 c2_i32_33
  let c0_i32_38 : BitVec 32 := 0#32
  let v75 : BitVec 1 := Scalar.cmpi .ne v74 c0_i32_38
  let v76 : BitVec 1 := Scalar.andi v73 v75
  let v62 : BitVec 32 := Scalar.divsi arg11 c2_i32_33
  let c1_i32_39 : BitVec 32 := 1#32
  let v77 : BitVec 32 := Scalar.subi v62 c1_i32_39
  let v78 : BitVec 32 := Scalar.select v76 v77 v62
  let v79 : BitVec 32 := Scalar.subi v78 c0_i32_40
  let c1_i32_41 : BitVec 32 := 1#32
  let v81 : BitVec 32 := Scalar.divsi v79 c1_i32_41
  let v82 : BitVec 32 := Scalar.muli v81 c1_i32_41
  let v83 : BitVec 32 := Scalar.addi c0_i32_40 v82
  let v80 : BitVec 32 := Scalar.addi c0_i32_40 v79
  let c1_i32_43 : BitVec 32 := 1#32
  ⟨v83, v80, c1_i32_43⟩
def k0_mult10 (k0_t2 : Fin k0_t2_loop.trips) : BitVec 32 :=
  let c0_i32_9 : BitVec 32 := 0#32
  let c1_i32_11 : BitVec 32 := 1#32
  let arg11 : BitVec 32 := Scf.iv c0_i32_9 c1_i32_11 k0_t2
  let c1024_i32_59 : BitVec 32 := 1024#32
  let v115 : BitVec 32 := Scalar.muli arg11 c1024_i32_59
  v115
def k0_off8 (k0_t2 : Fin k0_t2_loop.trips) : Fin 3 → Nat :=
  let c0_60 : Index := 0#32
  let c0_61 : Index := 0#32
  let c0_i32_9 : BitVec 32 := 0#32
  let c1_i32_11 : BitVec 32 := 1#32
  let arg11 : BitVec 32 := Scf.iv c0_i32_9 c1_i32_11 k0_t2
  let c1024_i32_59 : BitVec 32 := 1024#32
  let v115 : BitVec 32 := Scalar.muli arg11 c1024_i32_59
  let v116 : BitVec 32 := v115
  let v117 : Index := Scalar.indexCast v116
  ![0, 0, v117.toNat]
def k0_mult11 (k0_t2 : Fin k0_t2_loop.trips) (k0_t4 : Fin (k0_t4_loop k0_t2).trips) : BitVec 32 :=
  let c2_i32_57 : BitVec 32 := 2#32
  let c0_i32_40 : BitVec 32 := 0#32
  let c0_i32_9 : BitVec 32 := 0#32
  let c1_i32_11 : BitVec 32 := 1#32
  let arg11 : BitVec 32 := Scf.iv c0_i32_9 c1_i32_11 k0_t2
  let c0_i32_34 : BitVec 32 := 0#32
  let v63 : BitVec 1 := Scalar.cmpi .sgt arg11 c0_i32_34
  let v64 : BitVec 32 := Scalar.extui v63
  let c0_i32_35 : BitVec 32 := 0#32
  let v65 : BitVec 1 := Scalar.cmpi .slt arg11 c0_i32_35
  let v66 : BitVec 32 := Scalar.extui v65
  let v67 : BitVec 32 := Scalar.subi v64 v66
  let c2_i32_33 : BitVec 32 := 2#32
  let c0_i32_36 : BitVec 32 := 0#32
  let v68 : BitVec 1 := Scalar.cmpi .sgt c2_i32_33 c0_i32_36
  let v69 : BitVec 32 := Scalar.extui v68
  let c0_i32_37 : BitVec 32 := 0#32
  let v70 : BitVec 1 := Scalar.cmpi .slt c2_i32_33 c0_i32_37
  let v71 : BitVec 32 := Scalar.extui v70
  let v72 : BitVec 32 := Scalar.subi v69 v71
  let v73 : BitVec 1 := Scalar.cmpi .ne v67 v72
  let v74 : BitVec 32 := Scalar.remsi arg11 c2_i32_33
  let c0_i32_38 : BitVec 32 := 0#32
  let v75 : BitVec 1 := Scalar.cmpi .ne v74 c0_i32_38
  let v76 : BitVec 1 := Scalar.andi v73 v75
  let v62 : BitVec 32 := Scalar.divsi arg11 c2_i32_33
  let c1_i32_39 : BitVec 32 := 1#32
  let v77 : BitVec 32 := Scalar.subi v62 c1_i32_39
  let v78 : BitVec 32 := Scalar.select v76 v77 v62
  let v79 : BitVec 32 := Scalar.subi v78 c0_i32_40
  let c1_i32_41 : BitVec 32 := 1#32
  let v81 : BitVec 32 := Scalar.divsi v79 c1_i32_41
  let v82 : BitVec 32 := Scalar.muli v81 c1_i32_41
  let v83 : BitVec 32 := Scalar.addi c0_i32_40 v82
  let c1_i32_43 : BitVec 32 := 1#32
  let arg12 : BitVec 32 := Scf.iv v83 c1_i32_43 k0_t4
  let v113 : BitVec 32 := Scalar.muli c2_i32_57 arg12
  let c1_i32_58 : BitVec 32 := 1#32
  let v114 : BitVec 32 := Scalar.addi v113 c1_i32_58
  let c1024_i32_63 : BitVec 32 := 1024#32
  let v127 : BitVec 32 := Scalar.muli v114 c1024_i32_63
  v127
def k0_off9 (k0_t2 : Fin k0_t2_loop.trips) (k0_t4 : Fin (k0_t4_loop k0_t2).trips) (c1_i32_58 : BitVec 32) : Fin 3 → Nat :=
  let c0_64 : Index := 0#32
  let c2_i32_57 : BitVec 32 := 2#32
  let c0_i32_40 : BitVec 32 := 0#32
  let c0_i32_9 : BitVec 32 := 0#32
  let c1_i32_11 : BitVec 32 := 1#32
  let arg11 : BitVec 32 := Scf.iv c0_i32_9 c1_i32_11 k0_t2
  let c0_i32_34 : BitVec 32 := 0#32
  let v63 : BitVec 1 := Scalar.cmpi .sgt arg11 c0_i32_34
  let v64 : BitVec 32 := Scalar.extui v63
  let c0_i32_35 : BitVec 32 := 0#32
  let v65 : BitVec 1 := Scalar.cmpi .slt arg11 c0_i32_35
  let v66 : BitVec 32 := Scalar.extui v65
  let v67 : BitVec 32 := Scalar.subi v64 v66
  let c2_i32_33 : BitVec 32 := 2#32
  let c0_i32_36 : BitVec 32 := 0#32
  let v68 : BitVec 1 := Scalar.cmpi .sgt c2_i32_33 c0_i32_36
  let v69 : BitVec 32 := Scalar.extui v68
  let c0_i32_37 : BitVec 32 := 0#32
  let v70 : BitVec 1 := Scalar.cmpi .slt c2_i32_33 c0_i32_37
  let v71 : BitVec 32 := Scalar.extui v70
  let v72 : BitVec 32 := Scalar.subi v69 v71
  let v73 : BitVec 1 := Scalar.cmpi .ne v67 v72
  let v74 : BitVec 32 := Scalar.remsi arg11 c2_i32_33
  let c0_i32_38 : BitVec 32 := 0#32
  let v75 : BitVec 1 := Scalar.cmpi .ne v74 c0_i32_38
  let v76 : BitVec 1 := Scalar.andi v73 v75
  let v62 : BitVec 32 := Scalar.divsi arg11 c2_i32_33
  let c1_i32_39 : BitVec 32 := 1#32
  let v77 : BitVec 32 := Scalar.subi v62 c1_i32_39
  let v78 : BitVec 32 := Scalar.select v76 v77 v62
  let v79 : BitVec 32 := Scalar.subi v78 c0_i32_40
  let c1_i32_41 : BitVec 32 := 1#32
  let v81 : BitVec 32 := Scalar.divsi v79 c1_i32_41
  let v82 : BitVec 32 := Scalar.muli v81 c1_i32_41
  let v83 : BitVec 32 := Scalar.addi c0_i32_40 v82
  let c1_i32_43 : BitVec 32 := 1#32
  let arg12 : BitVec 32 := Scf.iv v83 c1_i32_43 k0_t4
  let v113 : BitVec 32 := Scalar.muli c2_i32_57 arg12
  let v114 : BitVec 32 := Scalar.addi v113 c1_i32_58
  let c1024_i32_63 : BitVec 32 := 1024#32
  let v127 : BitVec 32 := Scalar.muli v114 c1024_i32_63
  let v128 : BitVec 32 := v127
  let v129 : Index := Scalar.indexCast v128
  let c0_65 : Index := 0#32
  ![0, v129.toNat, 0]
def k0_off10 (k0_t2 : Fin k0_t2_loop.trips) (k0_t4 : Fin (k0_t4_loop k0_t2).trips) (c1_i32_58 : BitVec 32) : Fin 2 → Nat :=
  let c2_i32_57 : BitVec 32 := 2#32
  let c0_i32_40 : BitVec 32 := 0#32
  let c0_i32_9 : BitVec 32 := 0#32
  let c1_i32_11 : BitVec 32 := 1#32
  let arg11 : BitVec 32 := Scf.iv c0_i32_9 c1_i32_11 k0_t2
  let c0_i32_34 : BitVec 32 := 0#32
  let v63 : BitVec 1 := Scalar.cmpi .sgt arg11 c0_i32_34
  let v64 : BitVec 32 := Scalar.extui v63
  let c0_i32_35 : BitVec 32 := 0#32
  let v65 : BitVec 1 := Scalar.cmpi .slt arg11 c0_i32_35
  let v66 : BitVec 32 := Scalar.extui v65
  let v67 : BitVec 32 := Scalar.subi v64 v66
  let c2_i32_33 : BitVec 32 := 2#32
  let c0_i32_36 : BitVec 32 := 0#32
  let v68 : BitVec 1 := Scalar.cmpi .sgt c2_i32_33 c0_i32_36
  let v69 : BitVec 32 := Scalar.extui v68
  let c0_i32_37 : BitVec 32 := 0#32
  let v70 : BitVec 1 := Scalar.cmpi .slt c2_i32_33 c0_i32_37
  let v71 : BitVec 32 := Scalar.extui v70
  let v72 : BitVec 32 := Scalar.subi v69 v71
  let v73 : BitVec 1 := Scalar.cmpi .ne v67 v72
  let v74 : BitVec 32 := Scalar.remsi arg11 c2_i32_33
  let c0_i32_38 : BitVec 32 := 0#32
  let v75 : BitVec 1 := Scalar.cmpi .ne v74 c0_i32_38
  let v76 : BitVec 1 := Scalar.andi v73 v75
  let v62 : BitVec 32 := Scalar.divsi arg11 c2_i32_33
  let c1_i32_39 : BitVec 32 := 1#32
  let v77 : BitVec 32 := Scalar.subi v62 c1_i32_39
  let v78 : BitVec 32 := Scalar.select v76 v77 v62
  let v79 : BitVec 32 := Scalar.subi v78 c0_i32_40
  let c1_i32_41 : BitVec 32 := 1#32
  let v81 : BitVec 32 := Scalar.divsi v79 c1_i32_41
  let v82 : BitVec 32 := Scalar.muli v81 c1_i32_41
  let v83 : BitVec 32 := Scalar.addi c0_i32_40 v82
  let c1_i32_43 : BitVec 32 := 1#32
  let arg12 : BitVec 32 := Scf.iv v83 c1_i32_43 k0_t4
  let v113 : BitVec 32 := Scalar.muli c2_i32_57 arg12
  let v114 : BitVec 32 := Scalar.addi v113 c1_i32_58
  let c1024_i32_63 : BitVec 32 := 1024#32
  let v127 : BitVec 32 := Scalar.muli v114 c1024_i32_63
  let v128 : BitVec 32 := v127
  let v132 : Index := Scalar.indexCast v128
  let c0_66 : Index := 0#32
  ![v132.toNat, 0]
def k0_mult12 (k0_t2 : Fin k0_t2_loop.trips) (k0_t4 : Fin (k0_t4_loop k0_t2).trips) : BitVec 32 :=
  let c2_i32_70 : BitVec 32 := 2#32
  let c0_i32_40 : BitVec 32 := 0#32
  let c0_i32_9 : BitVec 32 := 0#32
  let c1_i32_11 : BitVec 32 := 1#32
  let arg11 : BitVec 32 := Scf.iv c0_i32_9 c1_i32_11 k0_t2
  let c0_i32_34 : BitVec 32 := 0#32
  let v63 : BitVec 1 := Scalar.cmpi .sgt arg11 c0_i32_34
  let v64 : BitVec 32 := Scalar.extui v63
  let c0_i32_35 : BitVec 32 := 0#32
  let v65 : BitVec 1 := Scalar.cmpi .slt arg11 c0_i32_35
  let v66 : BitVec 32 := Scalar.extui v65
  let v67 : BitVec 32 := Scalar.subi v64 v66
  let c2_i32_33 : BitVec 32 := 2#32
  let c0_i32_36 : BitVec 32 := 0#32
  let v68 : BitVec 1 := Scalar.cmpi .sgt c2_i32_33 c0_i32_36
  let v69 : BitVec 32 := Scalar.extui v68
  let c0_i32_37 : BitVec 32 := 0#32
  let v70 : BitVec 1 := Scalar.cmpi .slt c2_i32_33 c0_i32_37
  let v71 : BitVec 32 := Scalar.extui v70
  let v72 : BitVec 32 := Scalar.subi v69 v71
  let v73 : BitVec 1 := Scalar.cmpi .ne v67 v72
  let v74 : BitVec 32 := Scalar.remsi arg11 c2_i32_33
  let c0_i32_38 : BitVec 32 := 0#32
  let v75 : BitVec 1 := Scalar.cmpi .ne v74 c0_i32_38
  let v76 : BitVec 1 := Scalar.andi v73 v75
  let v62 : BitVec 32 := Scalar.divsi arg11 c2_i32_33
  let c1_i32_39 : BitVec 32 := 1#32
  let v77 : BitVec 32 := Scalar.subi v62 c1_i32_39
  let v78 : BitVec 32 := Scalar.select v76 v77 v62
  let v79 : BitVec 32 := Scalar.subi v78 c0_i32_40
  let c1_i32_41 : BitVec 32 := 1#32
  let v81 : BitVec 32 := Scalar.divsi v79 c1_i32_41
  let v82 : BitVec 32 := Scalar.muli v81 c1_i32_41
  let v83 : BitVec 32 := Scalar.addi c0_i32_40 v82
  let c1_i32_43 : BitVec 32 := 1#32
  let arg12 : BitVec 32 := Scf.iv v83 c1_i32_43 k0_t4
  let v139 : BitVec 32 := Scalar.muli c2_i32_70 arg12
  let c1024_i32_75 : BitVec 32 := 1024#32
  let v153 : BitVec 32 := Scalar.muli v139 c1024_i32_75
  v153
def k0_off11 (k0_t2 : Fin k0_t2_loop.trips) (k0_t4 : Fin (k0_t4_loop k0_t2).trips) : Fin 3 → Nat :=
  let c0_78 : Index := 0#32
  let c0_79 : Index := 0#32
  let c2_i32_70 : BitVec 32 := 2#32
  let c0_i32_40 : BitVec 32 := 0#32
  let c0_i32_9 : BitVec 32 := 0#32
  let c1_i32_11 : BitVec 32 := 1#32
  let arg11 : BitVec 32 := Scf.iv c0_i32_9 c1_i32_11 k0_t2
  let c0_i32_34 : BitVec 32 := 0#32
  let v63 : BitVec 1 := Scalar.cmpi .sgt arg11 c0_i32_34
  let v64 : BitVec 32 := Scalar.extui v63
  let c0_i32_35 : BitVec 32 := 0#32
  let v65 : BitVec 1 := Scalar.cmpi .slt arg11 c0_i32_35
  let v66 : BitVec 32 := Scalar.extui v65
  let v67 : BitVec 32 := Scalar.subi v64 v66
  let c2_i32_33 : BitVec 32 := 2#32
  let c0_i32_36 : BitVec 32 := 0#32
  let v68 : BitVec 1 := Scalar.cmpi .sgt c2_i32_33 c0_i32_36
  let v69 : BitVec 32 := Scalar.extui v68
  let c0_i32_37 : BitVec 32 := 0#32
  let v70 : BitVec 1 := Scalar.cmpi .slt c2_i32_33 c0_i32_37
  let v71 : BitVec 32 := Scalar.extui v70
  let v72 : BitVec 32 := Scalar.subi v69 v71
  let v73 : BitVec 1 := Scalar.cmpi .ne v67 v72
  let v74 : BitVec 32 := Scalar.remsi arg11 c2_i32_33
  let c0_i32_38 : BitVec 32 := 0#32
  let v75 : BitVec 1 := Scalar.cmpi .ne v74 c0_i32_38
  let v76 : BitVec 1 := Scalar.andi v73 v75
  let v62 : BitVec 32 := Scalar.divsi arg11 c2_i32_33
  let c1_i32_39 : BitVec 32 := 1#32
  let v77 : BitVec 32 := Scalar.subi v62 c1_i32_39
  let v78 : BitVec 32 := Scalar.select v76 v77 v62
  let v79 : BitVec 32 := Scalar.subi v78 c0_i32_40
  let c1_i32_41 : BitVec 32 := 1#32
  let v81 : BitVec 32 := Scalar.divsi v79 c1_i32_41
  let v82 : BitVec 32 := Scalar.muli v81 c1_i32_41
  let v83 : BitVec 32 := Scalar.addi c0_i32_40 v82
  let c1_i32_43 : BitVec 32 := 1#32
  let arg12 : BitVec 32 := Scf.iv v83 c1_i32_43 k0_t4
  let v139 : BitVec 32 := Scalar.muli c2_i32_70 arg12
  let c1024_i32_75 : BitVec 32 := 1024#32
  let v153 : BitVec 32 := Scalar.muli v139 c1024_i32_75
  let v154 : BitVec 32 := v153
  let v158 : Index := Scalar.indexCast v154
  ![0, 0, v158.toNat]
def k0_mult13 (k0_t2 : Fin k0_t2_loop.trips) : BitVec 32 :=
  let c0_i32_9 : BitVec 32 := 0#32
  let c1_i32_11 : BitVec 32 := 1#32
  let arg11 : BitVec 32 := Scf.iv c0_i32_9 c1_i32_11 k0_t2
  let c1024_i32_85 : BitVec 32 := 1024#32
  let v169 : BitVec 32 := Scalar.muli arg11 c1024_i32_85
  v169
def k0_mult14 (k0_t2 : Fin k0_t2_loop.trips) (k0_t4 : Fin (k0_t4_loop k0_t2).trips) : BitVec 32 :=
  let c2_i32_83 : BitVec 32 := 2#32
  let c0_i32_40 : BitVec 32 := 0#32
  let c0_i32_9 : BitVec 32 := 0#32
  let c1_i32_11 : BitVec 32 := 1#32
  let arg11 : BitVec 32 := Scf.iv c0_i32_9 c1_i32_11 k0_t2
  let c0_i32_34 : BitVec 32 := 0#32
  let v63 : BitVec 1 := Scalar.cmpi .sgt arg11 c0_i32_34
  let v64 : BitVec 32 := Scalar.extui v63
  let c0_i32_35 : BitVec 32 := 0#32
  let v65 : BitVec 1 := Scalar.cmpi .slt arg11 c0_i32_35
  let v66 : BitVec 32 := Scalar.extui v65
  let v67 : BitVec 32 := Scalar.subi v64 v66
  let c2_i32_33 : BitVec 32 := 2#32
  let c0_i32_36 : BitVec 32 := 0#32
  let v68 : BitVec 1 := Scalar.cmpi .sgt c2_i32_33 c0_i32_36
  let v69 : BitVec 32 := Scalar.extui v68
  let c0_i32_37 : BitVec 32 := 0#32
  let v70 : BitVec 1 := Scalar.cmpi .slt c2_i32_33 c0_i32_37
  let v71 : BitVec 32 := Scalar.extui v70
  let v72 : BitVec 32 := Scalar.subi v69 v71
  let v73 : BitVec 1 := Scalar.cmpi .ne v67 v72
  let v74 : BitVec 32 := Scalar.remsi arg11 c2_i32_33
  let c0_i32_38 : BitVec 32 := 0#32
  let v75 : BitVec 1 := Scalar.cmpi .ne v74 c0_i32_38
  let v76 : BitVec 1 := Scalar.andi v73 v75
  let v62 : BitVec 32 := Scalar.divsi arg11 c2_i32_33
  let c1_i32_39 : BitVec 32 := 1#32
  let v77 : BitVec 32 := Scalar.subi v62 c1_i32_39
  let v78 : BitVec 32 := Scalar.select v76 v77 v62
  let v79 : BitVec 32 := Scalar.subi v78 c0_i32_40
  let c1_i32_41 : BitVec 32 := 1#32
  let v81 : BitVec 32 := Scalar.divsi v79 c1_i32_41
  let v82 : BitVec 32 := Scalar.muli v81 c1_i32_41
  let v83 : BitVec 32 := Scalar.addi c0_i32_40 v82
  let c1_i32_43 : BitVec 32 := 1#32
  let arg12 : BitVec 32 := Scf.iv v83 c1_i32_43 k0_t4
  let v167 : BitVec 32 := Scalar.muli c2_i32_83 arg12
  let c2_i32_84 : BitVec 32 := 2#32
  let v168 : BitVec 32 := Scalar.addi v167 c2_i32_84
  let c1024_i32_89 : BitVec 32 := 1024#32
  let v181 : BitVec 32 := Scalar.muli v168 c1024_i32_89
  v181
def k0_mult15 (k0_t2 : Fin k0_t2_loop.trips) (k0_t4 : Fin (k0_t4_loop k0_t2).trips) : BitVec 32 :=
  let c2_i32_96 : BitVec 32 := 2#32
  let c0_i32_40 : BitVec 32 := 0#32
  let c0_i32_9 : BitVec 32 := 0#32
  let c1_i32_11 : BitVec 32 := 1#32
  let arg11 : BitVec 32 := Scf.iv c0_i32_9 c1_i32_11 k0_t2
  let c0_i32_34 : BitVec 32 := 0#32
  let v63 : BitVec 1 := Scalar.cmpi .sgt arg11 c0_i32_34
  let v64 : BitVec 32 := Scalar.extui v63
  let c0_i32_35 : BitVec 32 := 0#32
  let v65 : BitVec 1 := Scalar.cmpi .slt arg11 c0_i32_35
  let v66 : BitVec 32 := Scalar.extui v65
  let v67 : BitVec 32 := Scalar.subi v64 v66
  let c2_i32_33 : BitVec 32 := 2#32
  let c0_i32_36 : BitVec 32 := 0#32
  let v68 : BitVec 1 := Scalar.cmpi .sgt c2_i32_33 c0_i32_36
  let v69 : BitVec 32 := Scalar.extui v68
  let c0_i32_37 : BitVec 32 := 0#32
  let v70 : BitVec 1 := Scalar.cmpi .slt c2_i32_33 c0_i32_37
  let v71 : BitVec 32 := Scalar.extui v70
  let v72 : BitVec 32 := Scalar.subi v69 v71
  let v73 : BitVec 1 := Scalar.cmpi .ne v67 v72
  let v74 : BitVec 32 := Scalar.remsi arg11 c2_i32_33
  let c0_i32_38 : BitVec 32 := 0#32
  let v75 : BitVec 1 := Scalar.cmpi .ne v74 c0_i32_38
  let v76 : BitVec 1 := Scalar.andi v73 v75
  let v62 : BitVec 32 := Scalar.divsi arg11 c2_i32_33
  let c1_i32_39 : BitVec 32 := 1#32
  let v77 : BitVec 32 := Scalar.subi v62 c1_i32_39
  let v78 : BitVec 32 := Scalar.select v76 v77 v62
  let v79 : BitVec 32 := Scalar.subi v78 c0_i32_40
  let c1_i32_41 : BitVec 32 := 1#32
  let v81 : BitVec 32 := Scalar.divsi v79 c1_i32_41
  let v82 : BitVec 32 := Scalar.muli v81 c1_i32_41
  let v83 : BitVec 32 := Scalar.addi c0_i32_40 v82
  let c1_i32_43 : BitVec 32 := 1#32
  let arg12 : BitVec 32 := Scf.iv v83 c1_i32_43 k0_t4
  let v193 : BitVec 32 := Scalar.muli c2_i32_96 arg12
  let c1_i32_97 : BitVec 32 := 1#32
  let v194 : BitVec 32 := Scalar.addi v193 c1_i32_97
  let c1024_i32_102 : BitVec 32 := 1024#32
  let v208 : BitVec 32 := Scalar.muli v194 c1024_i32_102
  v208
def k0_off12 (k0_t2 : Fin k0_t2_loop.trips) (k0_t4 : Fin (k0_t4_loop k0_t2).trips) : Fin 3 → Nat :=
  let c0_105 : Index := 0#32
  let c0_106 : Index := 0#32
  let c2_i32_96 : BitVec 32 := 2#32
  let c0_i32_40 : BitVec 32 := 0#32
  let c0_i32_9 : BitVec 32 := 0#32
  let c1_i32_11 : BitVec 32 := 1#32
  let arg11 : BitVec 32 := Scf.iv c0_i32_9 c1_i32_11 k0_t2
  let c0_i32_34 : BitVec 32 := 0#32
  let v63 : BitVec 1 := Scalar.cmpi .sgt arg11 c0_i32_34
  let v64 : BitVec 32 := Scalar.extui v63
  let c0_i32_35 : BitVec 32 := 0#32
  let v65 : BitVec 1 := Scalar.cmpi .slt arg11 c0_i32_35
  let v66 : BitVec 32 := Scalar.extui v65
  let v67 : BitVec 32 := Scalar.subi v64 v66
  let c2_i32_33 : BitVec 32 := 2#32
  let c0_i32_36 : BitVec 32 := 0#32
  let v68 : BitVec 1 := Scalar.cmpi .sgt c2_i32_33 c0_i32_36
  let v69 : BitVec 32 := Scalar.extui v68
  let c0_i32_37 : BitVec 32 := 0#32
  let v70 : BitVec 1 := Scalar.cmpi .slt c2_i32_33 c0_i32_37
  let v71 : BitVec 32 := Scalar.extui v70
  let v72 : BitVec 32 := Scalar.subi v69 v71
  let v73 : BitVec 1 := Scalar.cmpi .ne v67 v72
  let v74 : BitVec 32 := Scalar.remsi arg11 c2_i32_33
  let c0_i32_38 : BitVec 32 := 0#32
  let v75 : BitVec 1 := Scalar.cmpi .ne v74 c0_i32_38
  let v76 : BitVec 1 := Scalar.andi v73 v75
  let v62 : BitVec 32 := Scalar.divsi arg11 c2_i32_33
  let c1_i32_39 : BitVec 32 := 1#32
  let v77 : BitVec 32 := Scalar.subi v62 c1_i32_39
  let v78 : BitVec 32 := Scalar.select v76 v77 v62
  let v79 : BitVec 32 := Scalar.subi v78 c0_i32_40
  let c1_i32_41 : BitVec 32 := 1#32
  let v81 : BitVec 32 := Scalar.divsi v79 c1_i32_41
  let v82 : BitVec 32 := Scalar.muli v81 c1_i32_41
  let v83 : BitVec 32 := Scalar.addi c0_i32_40 v82
  let c1_i32_43 : BitVec 32 := 1#32
  let arg12 : BitVec 32 := Scf.iv v83 c1_i32_43 k0_t4
  let v193 : BitVec 32 := Scalar.muli c2_i32_96 arg12
  let c1_i32_97 : BitVec 32 := 1#32
  let v194 : BitVec 32 := Scalar.addi v193 c1_i32_97
  let c1024_i32_102 : BitVec 32 := 1024#32
  let v208 : BitVec 32 := Scalar.muli v194 c1024_i32_102
  let v209 : BitVec 32 := v208
  let v213 : Index := Scalar.indexCast v209
  ![0, 0, v213.toNat]
def k0_cond2 (k0_t2 : Fin k0_t2_loop.trips) : BitVec 1 :=
  let c0_i32_9 : BitVec 32 := 0#32
  let c1_i32_11 : BitVec 32 := 1#32
  let arg11 : BitVec 32 := Scf.iv c0_i32_9 c1_i32_11 k0_t2
  let c2_i32_45 : BitVec 32 := 2#32
  let c0_i32_46 : BitVec 32 := 0#32
  let v88 : BitVec 1 := Scalar.cmpi .eq c2_i32_45 c0_i32_46
  let c1_i32_47 : BitVec 32 := 1#32
  let v89 : BitVec 32 := Scalar.select v88 c1_i32_47 c2_i32_45
  let v90 : BitVec 32 := Scalar.remsi arg11 v89
  let c0_i32_49 : BitVec 32 := 0#32
  let v92 : BitVec 1 := Scalar.cmpi .slt v90 c0_i32_49
  let c0_i32_50 : BitVec 32 := 0#32
  let v93 : BitVec 1 := Scalar.cmpi .slt v89 c0_i32_50
  let v94 : BitVec 1 := Scalar.xori v92 v93
  let c0_i32_48 : BitVec 32 := 0#32
  let v91 : BitVec 1 := Scalar.cmpi .ne v90 c0_i32_48
  let v95 : BitVec 1 := Scalar.andi v94 v91
  let v96 : BitVec 32 := Scalar.addi v90 v89
  let v97 : BitVec 32 := Scalar.select v95 v96 v90
  let c1_i32_51 : BitVec 32 := 1#32
  let v98 : BitVec 1 := Scalar.cmpi .eq v97 c1_i32_51
  let v99 : BitVec 32 := Scalar.extui v98
  let c0_i32_52 : BitVec 32 := 0#32
  let v100 : BitVec 1 := Scalar.cmpi .ne v99 c0_i32_52
  v100

def k0_mult16 (k0_t2 : Fin k0_t2_loop.trips) : BitVec 32 :=
  let c0_i32_9 : BitVec 32 := 0#32
  let c1_i32_11 : BitVec 32 := 1#32
  let arg11 : BitVec 32 := Scf.iv c0_i32_9 c1_i32_11 k0_t2
  let c1024_i32_57 : BitVec 32 := 1024#32
  let v113 : BitVec 32 := Scalar.muli arg11 c1024_i32_57
  v113
def k0_off13 (k0_t2 : Fin k0_t2_loop.trips) : Fin 3 → Nat :=
  let c0_58 : Index := 0#32
  let c0_59 : Index := 0#32
  let c0_i32_9 : BitVec 32 := 0#32
  let c1_i32_11 : BitVec 32 := 1#32
  let arg11 : BitVec 32 := Scf.iv c0_i32_9 c1_i32_11 k0_t2
  let c1024_i32_57 : BitVec 32 := 1024#32
  let v113 : BitVec 32 := Scalar.muli arg11 c1024_i32_57
  let v114 : BitVec 32 := v113
  let v115 : Index := Scalar.indexCast v114
  ![0, 0, v115.toNat]
def k0_mult17 (k0_t2 : Fin k0_t2_loop.trips) : BitVec 32 :=
  let c0_i32_9 : BitVec 32 := 0#32
  let c1_i32_11 : BitVec 32 := 1#32
  let arg11 : BitVec 32 := Scf.iv c0_i32_9 c1_i32_11 k0_t2
  let c1024_i32_61 : BitVec 32 := 1024#32
  let v125 : BitVec 32 := Scalar.muli arg11 c1024_i32_61
  v125
def k0_off14 (k0_t2 : Fin k0_t2_loop.trips) : Fin 3 → Nat :=
  let c0_62 : Index := 0#32
  let c0_i32_9 : BitVec 32 := 0#32
  let c1_i32_11 : BitVec 32 := 1#32
  let arg11 : BitVec 32 := Scf.iv c0_i32_9 c1_i32_11 k0_t2
  let c1024_i32_61 : BitVec 32 := 1024#32
  let v125 : BitVec 32 := Scalar.muli arg11 c1024_i32_61
  let v126 : BitVec 32 := v125
  let v127 : Index := Scalar.indexCast v126
  let c0_63 : Index := 0#32
  ![0, v127.toNat, 0]
def k0_off15 (k0_t2 : Fin k0_t2_loop.trips) : Fin 2 → Nat :=
  let c0_i32_9 : BitVec 32 := 0#32
  let c1_i32_11 : BitVec 32 := 1#32
  let arg11 : BitVec 32 := Scf.iv c0_i32_9 c1_i32_11 k0_t2
  let c1024_i32_61 : BitVec 32 := 1024#32
  let v125 : BitVec 32 := Scalar.muli arg11 c1024_i32_61
  let v126 : BitVec 32 := v125
  let v130 : Index := Scalar.indexCast v126
  let c0_64 : Index := 0#32
  ![v130.toNat, 0]
def k0_mult18 (k0_t2 : Fin k0_t2_loop.trips) : BitVec 32 :=
  let c0_i32_9 : BitVec 32 := 0#32
  let c1_i32_11 : BitVec 32 := 1#32
  let arg11 : BitVec 32 := Scf.iv c0_i32_9 c1_i32_11 k0_t2
  let c1_i32_70 : BitVec 32 := 1#32
  let v144 : BitVec 32 := Scalar.subi arg11 c1_i32_70
  let c1024_i32_75 : BitVec 32 := 1024#32
  let v158 : BitVec 32 := Scalar.muli v144 c1024_i32_75
  v158
def k0_off16 (k0_t2 : Fin k0_t2_loop.trips) : Fin 3 → Nat :=
  let c0_78 : Index := 0#32
  let c0_79 : Index := 0#32
  let c0_i32_9 : BitVec 32 := 0#32
  let c1_i32_11 : BitVec 32 := 1#32
  let arg11 : BitVec 32 := Scf.iv c0_i32_9 c1_i32_11 k0_t2
  let c1_i32_70 : BitVec 32 := 1#32
  let v144 : BitVec 32 := Scalar.subi arg11 c1_i32_70
  let c1024_i32_75 : BitVec 32 := 1024#32
  let v158 : BitVec 32 := Scalar.muli v144 c1024_i32_75
  let v159 : BitVec 32 := v158
  let v163 : Index := Scalar.indexCast v159
  ![0, 0, v163.toNat]
def k0_mult19 (k0_t2 : Fin k0_t2_loop.trips) : BitVec 32 :=
  let c0_i32_9 : BitVec 32 := 0#32
  let c1_i32_11 : BitVec 32 := 1#32
  let arg11 : BitVec 32 := Scf.iv c0_i32_9 c1_i32_11 k0_t2
  let c1_i32_44 : BitVec 32 := 1#32
  let v86 : BitVec 32 := Scalar.addi arg11 c1_i32_44
  let c7_i32 : BitVec 32 := 7#32
  let v87 : BitVec 32 := Scalar.minsi v86 c7_i32
  let c1024_i32_83 : BitVec 32 := 1024#32
  let v172 : BitVec 32 := Scalar.muli v87 c1024_i32_83
  v172
def k0_off17 (k0_t2 : Fin k0_t2_loop.trips) : Fin 3 → Nat :=
  let c0_84 : Index := 0#32
  let c0_85 : Index := 0#32
  let c0_i32_9 : BitVec 32 := 0#32
  let c1_i32_11 : BitVec 32 := 1#32
  let arg11 : BitVec 32 := Scf.iv c0_i32_9 c1_i32_11 k0_t2
  let c1_i32_44 : BitVec 32 := 1#32
  let v86 : BitVec 32 := Scalar.addi arg11 c1_i32_44
  let c7_i32 : BitVec 32 := 7#32
  let v87 : BitVec 32 := Scalar.minsi v86 c7_i32
  let c1024_i32_83 : BitVec 32 := 1024#32
  let v172 : BitVec 32 := Scalar.muli v87 c1024_i32_83
  let v173 : BitVec 32 := v172
  let v174 : Index := Scalar.indexCast v173
  ![0, 0, v174.toNat]
def k0_mult20 : BitVec 32 :=
  let c0_i32_87 : BitVec 32 := 0#32
  c0_i32_87
def k0_mult21 (k0_t2 : Fin k0_t2_loop.trips) : BitVec 32 :=
  let c0_i32_9 : BitVec 32 := 0#32
  let c1_i32_11 : BitVec 32 := 1#32
  let arg11 : BitVec 32 := Scf.iv c0_i32_9 c1_i32_11 k0_t2
  let c1024_i32_94 : BitVec 32 := 1024#32
  let v195 : BitVec 32 := Scalar.muli arg11 c1024_i32_94
  v195
def k0_off18 (k0_t2 : Fin k0_t2_loop.trips) : Fin 3 → Nat :=
  let c0_103 : Index := 0#32
  let c0_104 : Index := 0#32
  let c0_i32_9 : BitVec 32 := 0#32
  let c1_i32_11 : BitVec 32 := 1#32
  let arg11 : BitVec 32 := Scf.iv c0_i32_9 c1_i32_11 k0_t2
  let c1024_i32_94 : BitVec 32 := 1024#32
  let v195 : BitVec 32 := Scalar.muli arg11 c1024_i32_94
  let v196 : BitVec 32 := v195
  let v223 : Index := Scalar.indexCast v196
  ![0, 0, v223.toNat]
def k0_mult22 (k0_t2 : Fin k0_t2_loop.trips) : BitVec 32 :=
  let c0_i32_9 : BitVec 32 := 0#32
  let c1_i32_11 : BitVec 32 := 1#32
  let arg11 : BitVec 32 := Scf.iv c0_i32_9 c1_i32_11 k0_t2
  let c1_i32_44 : BitVec 32 := 1#32
  let v86 : BitVec 32 := Scalar.addi arg11 c1_i32_44
  let c7_i32 : BitVec 32 := 7#32
  let v87 : BitVec 32 := Scalar.minsi v86 c7_i32
  let c1024_i32_57 : BitVec 32 := 1024#32
  let v113 : BitVec 32 := Scalar.muli v87 c1024_i32_57
  v113
def k0_off19 (k0_t2 : Fin k0_t2_loop.trips) : Fin 3 → Nat :=
  let c0_58 : Index := 0#32
  let c0_59 : Index := 0#32
  let c0_i32_9 : BitVec 32 := 0#32
  let c1_i32_11 : BitVec 32 := 1#32
  let arg11 : BitVec 32 := Scf.iv c0_i32_9 c1_i32_11 k0_t2
  let c1_i32_44 : BitVec 32 := 1#32
  let v86 : BitVec 32 := Scalar.addi arg11 c1_i32_44
  let c7_i32 : BitVec 32 := 7#32
  let v87 : BitVec 32 := Scalar.minsi v86 c7_i32
  let c1024_i32_57 : BitVec 32 := 1024#32
  let v113 : BitVec 32 := Scalar.muli v87 c1024_i32_57
  let v114 : BitVec 32 := v113
  let v115 : Index := Scalar.indexCast v114
  ![0, 0, v115.toNat]
def k0_mult23 : BitVec 32 :=
  let c0_i32_61 : BitVec 32 := 0#32
  c0_i32_61
def k0_mult24 (k0_t2 : Fin k0_t2_loop.trips) : BitVec 32 :=
  let c0_i32_9 : BitVec 32 := 0#32
  let c1_i32_11 : BitVec 32 := 1#32
  let arg11 : BitVec 32 := Scf.iv c0_i32_9 c1_i32_11 k0_t2
  let c1024_i32_68 : BitVec 32 := 1024#32
  let v136 : BitVec 32 := Scalar.muli arg11 c1024_i32_68
  v136
def k0_off20 (k0_t2 : Fin k0_t2_loop.trips) : Fin 3 → Nat :=
  let c0_77 : Index := 0#32
  let c0_78 : Index := 0#32
  let c0_i32_9 : BitVec 32 := 0#32
  let c1_i32_11 : BitVec 32 := 1#32
  let arg11 : BitVec 32 := Scf.iv c0_i32_9 c1_i32_11 k0_t2
  let c1024_i32_68 : BitVec 32 := 1024#32
  let v136 : BitVec 32 := Scalar.muli arg11 c1024_i32_68
  let v137 : BitVec 32 := v136
  let v164 : Index := Scalar.indexCast v137
  ![0, 0, v164.toNat]
def k0_off21 (k0_t2 : Fin k0_t2_loop.trips) : Fin 3 → Nat :=
  let c0_88 : Index := 0#32
  let c0_89 : Index := 0#32
  let c0_i32_9 : BitVec 32 := 0#32
  let c1_i32_11 : BitVec 32 := 1#32
  let arg11 : BitVec 32 := Scf.iv c0_i32_9 c1_i32_11 k0_t2
  let c1024_i32_68 : BitVec 32 := 1024#32
  let v136 : BitVec 32 := Scalar.muli arg11 c1024_i32_68
  let v137 : BitVec 32 := v136
  let v199 : Index := Scalar.indexCast v137
  ![0, 0, v199.toNat]
def k0_mult25 (k0_t2 : Fin k0_t2_loop.trips) : BitVec 32 :=
  let c0_i32_9 : BitVec 32 := 0#32
  let c1_i32_11 : BitVec 32 := 1#32
  let arg11 : BitVec 32 := Scf.iv c0_i32_9 c1_i32_11 k0_t2
  let c1024_i32 : BitVec 32 := 1024#32
  let v107 : BitVec 32 := Scalar.muli arg11 c1024_i32
  v107
def k0_off22 (k0_t2 : Fin k0_t2_loop.trips) : Fin 3 → Nat :=
  let c0_55 : Index := 0#32
  let c0_i32_9 : BitVec 32 := 0#32
  let c1_i32_11 : BitVec 32 := 1#32
  let arg11 : BitVec 32 := Scf.iv c0_i32_9 c1_i32_11 k0_t2
  let c1024_i32 : BitVec 32 := 1024#32
  let v107 : BitVec 32 := Scalar.muli arg11 c1024_i32
  let v108 : BitVec 32 := v107
  let v109 : Index := Scalar.indexCast v108
  let c0_56 : Index := 0#32
  ![0, v109.toNat, 0]
@[reducible] def k0_t5_loop (k0_t2 : Fin k0_t2_loop.trips) : Scf.Loop 32 :=
  let c0_i32_40 : BitVec 32 := 0#32
  let c0_i32_9 : BitVec 32 := 0#32
  let c1_i32_11 : BitVec 32 := 1#32
  let arg11 : BitVec 32 := Scf.iv c0_i32_9 c1_i32_11 k0_t2
  let c0_i32_34 : BitVec 32 := 0#32
  let v63 : BitVec 1 := Scalar.cmpi .sgt arg11 c0_i32_34
  let v64 : BitVec 32 := Scalar.extui v63
  let c0_i32_35 : BitVec 32 := 0#32
  let v65 : BitVec 1 := Scalar.cmpi .slt arg11 c0_i32_35
  let v66 : BitVec 32 := Scalar.extui v65
  let v67 : BitVec 32 := Scalar.subi v64 v66
  let c2_i32_33 : BitVec 32 := 2#32
  let c0_i32_36 : BitVec 32 := 0#32
  let v68 : BitVec 1 := Scalar.cmpi .sgt c2_i32_33 c0_i32_36
  let v69 : BitVec 32 := Scalar.extui v68
  let c0_i32_37 : BitVec 32 := 0#32
  let v70 : BitVec 1 := Scalar.cmpi .slt c2_i32_33 c0_i32_37
  let v71 : BitVec 32 := Scalar.extui v70
  let v72 : BitVec 32 := Scalar.subi v69 v71
  let v73 : BitVec 1 := Scalar.cmpi .ne v67 v72
  let v74 : BitVec 32 := Scalar.remsi arg11 c2_i32_33
  let c0_i32_38 : BitVec 32 := 0#32
  let v75 : BitVec 1 := Scalar.cmpi .ne v74 c0_i32_38
  let v76 : BitVec 1 := Scalar.andi v73 v75
  let v62 : BitVec 32 := Scalar.divsi arg11 c2_i32_33
  let c1_i32_39 : BitVec 32 := 1#32
  let v77 : BitVec 32 := Scalar.subi v62 c1_i32_39
  let v78 : BitVec 32 := Scalar.select v76 v77 v62
  let v79 : BitVec 32 := Scalar.subi v78 c0_i32_40
  let c1_i32_41 : BitVec 32 := 1#32
  let v81 : BitVec 32 := Scalar.divsi v79 c1_i32_41
  let v82 : BitVec 32 := Scalar.muli v81 c1_i32_41
  let v83 : BitVec 32 := Scalar.addi c0_i32_40 v82
  let c1_i32_42 : BitVec 32 := 1#32
  ⟨c0_i32_40, v83, c1_i32_42⟩
def k0_mult26 (k0_t2 : Fin k0_t2_loop.trips) : BitVec 32 :=
  let c0_i32_9 : BitVec 32 := 0#32
  let c1_i32_11 : BitVec 32 := 1#32
  let arg11 : BitVec 32 := Scf.iv c0_i32_9 c1_i32_11 k0_t2
  let c1024_i32_59 : BitVec 32 := 1024#32
  let v115 : BitVec 32 := Scalar.muli arg11 c1024_i32_59
  v115
def k0_off23 (k0_t2 : Fin k0_t2_loop.trips) : Fin 3 → Nat :=
  let c0_60 : Index := 0#32
  let c0_61 : Index := 0#32
  let c0_i32_9 : BitVec 32 := 0#32
  let c1_i32_11 : BitVec 32 := 1#32
  let arg11 : BitVec 32 := Scf.iv c0_i32_9 c1_i32_11 k0_t2
  let c1024_i32_59 : BitVec 32 := 1024#32
  let v115 : BitVec 32 := Scalar.muli arg11 c1024_i32_59
  let v116 : BitVec 32 := v115
  let v117 : Index := Scalar.indexCast v116
  ![0, 0, v117.toNat]
def k0_mult27 (k0_t2 : Fin k0_t2_loop.trips) (k0_t5 : Fin (k0_t5_loop k0_t2).trips) : BitVec 32 :=
  let c2_i32_57 : BitVec 32 := 2#32
  let c0_i32_40 : BitVec 32 := 0#32
  let c1_i32_42 : BitVec 32 := 1#32
  let arg12 : BitVec 32 := Scf.iv c0_i32_40 c1_i32_42 k0_t5
  let v113 : BitVec 32 := Scalar.muli c2_i32_57 arg12
  let c1_i32_58 : BitVec 32 := 1#32
  let v114 : BitVec 32 := Scalar.addi v113 c1_i32_58
  let c1024_i32_63 : BitVec 32 := 1024#32
  let v127 : BitVec 32 := Scalar.muli v114 c1024_i32_63
  v127
def k0_off24 (k0_t2 : Fin k0_t2_loop.trips) (k0_t5 : Fin (k0_t5_loop k0_t2).trips) (c1_i32_58 : BitVec 32) : Fin 3 → Nat :=
  let c0_64 : Index := 0#32
  let c2_i32_57 : BitVec 32 := 2#32
  let c0_i32_40 : BitVec 32 := 0#32
  let c1_i32_42 : BitVec 32 := 1#32
  let arg12 : BitVec 32 := Scf.iv c0_i32_40 c1_i32_42 k0_t5
  let v113 : BitVec 32 := Scalar.muli c2_i32_57 arg12
  let v114 : BitVec 32 := Scalar.addi v113 c1_i32_58
  let c1024_i32_63 : BitVec 32 := 1024#32
  let v127 : BitVec 32 := Scalar.muli v114 c1024_i32_63
  let v128 : BitVec 32 := v127
  let v129 : Index := Scalar.indexCast v128
  let c0_65 : Index := 0#32
  ![0, v129.toNat, 0]
def k0_off25 (k0_t2 : Fin k0_t2_loop.trips) (k0_t5 : Fin (k0_t5_loop k0_t2).trips) (c1_i32_58 : BitVec 32) : Fin 2 → Nat :=
  let c2_i32_57 : BitVec 32 := 2#32
  let c0_i32_40 : BitVec 32 := 0#32
  let c1_i32_42 : BitVec 32 := 1#32
  let arg12 : BitVec 32 := Scf.iv c0_i32_40 c1_i32_42 k0_t5
  let v113 : BitVec 32 := Scalar.muli c2_i32_57 arg12
  let v114 : BitVec 32 := Scalar.addi v113 c1_i32_58
  let c1024_i32_63 : BitVec 32 := 1024#32
  let v127 : BitVec 32 := Scalar.muli v114 c1024_i32_63
  let v128 : BitVec 32 := v127
  let v132 : Index := Scalar.indexCast v128
  let c0_66 : Index := 0#32
  ![v132.toNat, 0]
def k0_mult28 (k0_t2 : Fin k0_t2_loop.trips) (k0_t5 : Fin (k0_t5_loop k0_t2).trips) : BitVec 32 :=
  let c2_i32_70 : BitVec 32 := 2#32
  let c0_i32_40 : BitVec 32 := 0#32
  let c1_i32_42 : BitVec 32 := 1#32
  let arg12 : BitVec 32 := Scf.iv c0_i32_40 c1_i32_42 k0_t5
  let v139 : BitVec 32 := Scalar.muli c2_i32_70 arg12
  let c1024_i32_75 : BitVec 32 := 1024#32
  let v153 : BitVec 32 := Scalar.muli v139 c1024_i32_75
  v153
def k0_off26 (k0_t2 : Fin k0_t2_loop.trips) (k0_t5 : Fin (k0_t5_loop k0_t2).trips) : Fin 3 → Nat :=
  let c0_78 : Index := 0#32
  let c0_79 : Index := 0#32
  let c2_i32_70 : BitVec 32 := 2#32
  let c0_i32_40 : BitVec 32 := 0#32
  let c1_i32_42 : BitVec 32 := 1#32
  let arg12 : BitVec 32 := Scf.iv c0_i32_40 c1_i32_42 k0_t5
  let v139 : BitVec 32 := Scalar.muli c2_i32_70 arg12
  let c1024_i32_75 : BitVec 32 := 1024#32
  let v153 : BitVec 32 := Scalar.muli v139 c1024_i32_75
  let v154 : BitVec 32 := v153
  let v158 : Index := Scalar.indexCast v154
  ![0, 0, v158.toNat]
def k0_mult29 (k0_t2 : Fin k0_t2_loop.trips) : BitVec 32 :=
  let c0_i32_9 : BitVec 32 := 0#32
  let c1_i32_11 : BitVec 32 := 1#32
  let arg11 : BitVec 32 := Scf.iv c0_i32_9 c1_i32_11 k0_t2
  let c1024_i32_85 : BitVec 32 := 1024#32
  let v169 : BitVec 32 := Scalar.muli arg11 c1024_i32_85
  v169
def k0_mult30 (k0_t2 : Fin k0_t2_loop.trips) (k0_t5 : Fin (k0_t5_loop k0_t2).trips) : BitVec 32 :=
  let c2_i32_83 : BitVec 32 := 2#32
  let c0_i32_40 : BitVec 32 := 0#32
  let c1_i32_42 : BitVec 32 := 1#32
  let arg12 : BitVec 32 := Scf.iv c0_i32_40 c1_i32_42 k0_t5
  let v167 : BitVec 32 := Scalar.muli c2_i32_83 arg12
  let c2_i32_84 : BitVec 32 := 2#32
  let v168 : BitVec 32 := Scalar.addi v167 c2_i32_84
  let c1024_i32_89 : BitVec 32 := 1024#32
  let v181 : BitVec 32 := Scalar.muli v168 c1024_i32_89
  v181
def k0_mult31 (k0_t2 : Fin k0_t2_loop.trips) (k0_t5 : Fin (k0_t5_loop k0_t2).trips) : BitVec 32 :=
  let c2_i32_96 : BitVec 32 := 2#32
  let c0_i32_40 : BitVec 32 := 0#32
  let c1_i32_42 : BitVec 32 := 1#32
  let arg12 : BitVec 32 := Scf.iv c0_i32_40 c1_i32_42 k0_t5
  let v193 : BitVec 32 := Scalar.muli c2_i32_96 arg12
  let c1_i32_97 : BitVec 32 := 1#32
  let v194 : BitVec 32 := Scalar.addi v193 c1_i32_97
  let c1024_i32_102 : BitVec 32 := 1024#32
  let v208 : BitVec 32 := Scalar.muli v194 c1024_i32_102
  v208
def k0_off27 (k0_t2 : Fin k0_t2_loop.trips) (k0_t5 : Fin (k0_t5_loop k0_t2).trips) : Fin 3 → Nat :=
  let c0_105 : Index := 0#32
  let c0_106 : Index := 0#32
  let c2_i32_96 : BitVec 32 := 2#32
  let c0_i32_40 : BitVec 32 := 0#32
  let c1_i32_42 : BitVec 32 := 1#32
  let arg12 : BitVec 32 := Scf.iv c0_i32_40 c1_i32_42 k0_t5
  let v193 : BitVec 32 := Scalar.muli c2_i32_96 arg12
  let c1_i32_97 : BitVec 32 := 1#32
  let v194 : BitVec 32 := Scalar.addi v193 c1_i32_97
  let c1024_i32_102 : BitVec 32 := 1024#32
  let v208 : BitVec 32 := Scalar.muli v194 c1024_i32_102
  let v209 : BitVec 32 := v208
  let v213 : Index := Scalar.indexCast v209
  ![0, 0, v213.toNat]
@[reducible] def k0_t6_loop (k0_t2 : Fin k0_t2_loop.trips) : Scf.Loop 32 :=
  let c0_i32_40 : BitVec 32 := 0#32
  let c0_i32_9 : BitVec 32 := 0#32
  let c1_i32_11 : BitVec 32 := 1#32
  let arg11 : BitVec 32 := Scf.iv c0_i32_9 c1_i32_11 k0_t2
  let c0_i32_34 : BitVec 32 := 0#32
  let v63 : BitVec 1 := Scalar.cmpi .sgt arg11 c0_i32_34
  let v64 : BitVec 32 := Scalar.extui v63
  let c0_i32_35 : BitVec 32 := 0#32
  let v65 : BitVec 1 := Scalar.cmpi .slt arg11 c0_i32_35
  let v66 : BitVec 32 := Scalar.extui v65
  let v67 : BitVec 32 := Scalar.subi v64 v66
  let c2_i32_33 : BitVec 32 := 2#32
  let c0_i32_36 : BitVec 32 := 0#32
  let v68 : BitVec 1 := Scalar.cmpi .sgt c2_i32_33 c0_i32_36
  let v69 : BitVec 32 := Scalar.extui v68
  let c0_i32_37 : BitVec 32 := 0#32
  let v70 : BitVec 1 := Scalar.cmpi .slt c2_i32_33 c0_i32_37
  let v71 : BitVec 32 := Scalar.extui v70
  let v72 : BitVec 32 := Scalar.subi v69 v71
  let v73 : BitVec 1 := Scalar.cmpi .ne v67 v72
  let v74 : BitVec 32 := Scalar.remsi arg11 c2_i32_33
  let c0_i32_38 : BitVec 32 := 0#32
  let v75 : BitVec 1 := Scalar.cmpi .ne v74 c0_i32_38
  let v76 : BitVec 1 := Scalar.andi v73 v75
  let v62 : BitVec 32 := Scalar.divsi arg11 c2_i32_33
  let c1_i32_39 : BitVec 32 := 1#32
  let v77 : BitVec 32 := Scalar.subi v62 c1_i32_39
  let v78 : BitVec 32 := Scalar.select v76 v77 v62
  let v79 : BitVec 32 := Scalar.subi v78 c0_i32_40
  let c1_i32_41 : BitVec 32 := 1#32
  let v81 : BitVec 32 := Scalar.divsi v79 c1_i32_41
  let v82 : BitVec 32 := Scalar.muli v81 c1_i32_41
  let v83 : BitVec 32 := Scalar.addi c0_i32_40 v82
  let v80 : BitVec 32 := Scalar.addi c0_i32_40 v79
  let c1_i32_43 : BitVec 32 := 1#32
  ⟨v83, v80, c1_i32_43⟩
def k0_mult32 (k0_t2 : Fin k0_t2_loop.trips) : BitVec 32 :=
  let c0_i32_9 : BitVec 32 := 0#32
  let c1_i32_11 : BitVec 32 := 1#32
  let arg11 : BitVec 32 := Scf.iv c0_i32_9 c1_i32_11 k0_t2
  let c1024_i32_59 : BitVec 32 := 1024#32
  let v115 : BitVec 32 := Scalar.muli arg11 c1024_i32_59
  v115
def k0_off28 (k0_t2 : Fin k0_t2_loop.trips) : Fin 3 → Nat :=
  let c0_60 : Index := 0#32
  let c0_61 : Index := 0#32
  let c0_i32_9 : BitVec 32 := 0#32
  let c1_i32_11 : BitVec 32 := 1#32
  let arg11 : BitVec 32 := Scf.iv c0_i32_9 c1_i32_11 k0_t2
  let c1024_i32_59 : BitVec 32 := 1024#32
  let v115 : BitVec 32 := Scalar.muli arg11 c1024_i32_59
  let v116 : BitVec 32 := v115
  let v117 : Index := Scalar.indexCast v116
  ![0, 0, v117.toNat]
def k0_mult33 (k0_t2 : Fin k0_t2_loop.trips) (k0_t6 : Fin (k0_t6_loop k0_t2).trips) : BitVec 32 :=
  let c2_i32_57 : BitVec 32 := 2#32
  let c0_i32_40 : BitVec 32 := 0#32
  let c0_i32_9 : BitVec 32 := 0#32
  let c1_i32_11 : BitVec 32 := 1#32
  let arg11 : BitVec 32 := Scf.iv c0_i32_9 c1_i32_11 k0_t2
  let c0_i32_34 : BitVec 32 := 0#32
  let v63 : BitVec 1 := Scalar.cmpi .sgt arg11 c0_i32_34
  let v64 : BitVec 32 := Scalar.extui v63
  let c0_i32_35 : BitVec 32 := 0#32
  let v65 : BitVec 1 := Scalar.cmpi .slt arg11 c0_i32_35
  let v66 : BitVec 32 := Scalar.extui v65
  let v67 : BitVec 32 := Scalar.subi v64 v66
  let c2_i32_33 : BitVec 32 := 2#32
  let c0_i32_36 : BitVec 32 := 0#32
  let v68 : BitVec 1 := Scalar.cmpi .sgt c2_i32_33 c0_i32_36
  let v69 : BitVec 32 := Scalar.extui v68
  let c0_i32_37 : BitVec 32 := 0#32
  let v70 : BitVec 1 := Scalar.cmpi .slt c2_i32_33 c0_i32_37
  let v71 : BitVec 32 := Scalar.extui v70
  let v72 : BitVec 32 := Scalar.subi v69 v71
  let v73 : BitVec 1 := Scalar.cmpi .ne v67 v72
  let v74 : BitVec 32 := Scalar.remsi arg11 c2_i32_33
  let c0_i32_38 : BitVec 32 := 0#32
  let v75 : BitVec 1 := Scalar.cmpi .ne v74 c0_i32_38
  let v76 : BitVec 1 := Scalar.andi v73 v75
  let v62 : BitVec 32 := Scalar.divsi arg11 c2_i32_33
  let c1_i32_39 : BitVec 32 := 1#32
  let v77 : BitVec 32 := Scalar.subi v62 c1_i32_39
  let v78 : BitVec 32 := Scalar.select v76 v77 v62
  let v79 : BitVec 32 := Scalar.subi v78 c0_i32_40
  let c1_i32_41 : BitVec 32 := 1#32
  let v81 : BitVec 32 := Scalar.divsi v79 c1_i32_41
  let v82 : BitVec 32 := Scalar.muli v81 c1_i32_41
  let v83 : BitVec 32 := Scalar.addi c0_i32_40 v82
  let c1_i32_43 : BitVec 32 := 1#32
  let arg12 : BitVec 32 := Scf.iv v83 c1_i32_43 k0_t6
  let v113 : BitVec 32 := Scalar.muli c2_i32_57 arg12
  let c1_i32_58 : BitVec 32 := 1#32
  let v114 : BitVec 32 := Scalar.addi v113 c1_i32_58
  let c1024_i32_63 : BitVec 32 := 1024#32
  let v127 : BitVec 32 := Scalar.muli v114 c1024_i32_63
  v127
def k0_off29 (k0_t2 : Fin k0_t2_loop.trips) (k0_t6 : Fin (k0_t6_loop k0_t2).trips) (c1_i32_58 : BitVec 32) : Fin 3 → Nat :=
  let c0_64 : Index := 0#32
  let c2_i32_57 : BitVec 32 := 2#32
  let c0_i32_40 : BitVec 32 := 0#32
  let c0_i32_9 : BitVec 32 := 0#32
  let c1_i32_11 : BitVec 32 := 1#32
  let arg11 : BitVec 32 := Scf.iv c0_i32_9 c1_i32_11 k0_t2
  let c0_i32_34 : BitVec 32 := 0#32
  let v63 : BitVec 1 := Scalar.cmpi .sgt arg11 c0_i32_34
  let v64 : BitVec 32 := Scalar.extui v63
  let c0_i32_35 : BitVec 32 := 0#32
  let v65 : BitVec 1 := Scalar.cmpi .slt arg11 c0_i32_35
  let v66 : BitVec 32 := Scalar.extui v65
  let v67 : BitVec 32 := Scalar.subi v64 v66
  let c2_i32_33 : BitVec 32 := 2#32
  let c0_i32_36 : BitVec 32 := 0#32
  let v68 : BitVec 1 := Scalar.cmpi .sgt c2_i32_33 c0_i32_36
  let v69 : BitVec 32 := Scalar.extui v68
  let c0_i32_37 : BitVec 32 := 0#32
  let v70 : BitVec 1 := Scalar.cmpi .slt c2_i32_33 c0_i32_37
  let v71 : BitVec 32 := Scalar.extui v70
  let v72 : BitVec 32 := Scalar.subi v69 v71
  let v73 : BitVec 1 := Scalar.cmpi .ne v67 v72
  let v74 : BitVec 32 := Scalar.remsi arg11 c2_i32_33
  let c0_i32_38 : BitVec 32 := 0#32
  let v75 : BitVec 1 := Scalar.cmpi .ne v74 c0_i32_38
  let v76 : BitVec 1 := Scalar.andi v73 v75
  let v62 : BitVec 32 := Scalar.divsi arg11 c2_i32_33
  let c1_i32_39 : BitVec 32 := 1#32
  let v77 : BitVec 32 := Scalar.subi v62 c1_i32_39
  let v78 : BitVec 32 := Scalar.select v76 v77 v62
  let v79 : BitVec 32 := Scalar.subi v78 c0_i32_40
  let c1_i32_41 : BitVec 32 := 1#32
  let v81 : BitVec 32 := Scalar.divsi v79 c1_i32_41
  let v82 : BitVec 32 := Scalar.muli v81 c1_i32_41
  let v83 : BitVec 32 := Scalar.addi c0_i32_40 v82
  let c1_i32_43 : BitVec 32 := 1#32
  let arg12 : BitVec 32 := Scf.iv v83 c1_i32_43 k0_t6
  let v113 : BitVec 32 := Scalar.muli c2_i32_57 arg12
  let v114 : BitVec 32 := Scalar.addi v113 c1_i32_58
  let c1024_i32_63 : BitVec 32 := 1024#32
  let v127 : BitVec 32 := Scalar.muli v114 c1024_i32_63
  let v128 : BitVec 32 := v127
  let v129 : Index := Scalar.indexCast v128
  let c0_65 : Index := 0#32
  ![0, v129.toNat, 0]
def k0_off30 (k0_t2 : Fin k0_t2_loop.trips) (k0_t6 : Fin (k0_t6_loop k0_t2).trips) (c1_i32_58 : BitVec 32) : Fin 2 → Nat :=
  let c2_i32_57 : BitVec 32 := 2#32
  let c0_i32_40 : BitVec 32 := 0#32
  let c0_i32_9 : BitVec 32 := 0#32
  let c1_i32_11 : BitVec 32 := 1#32
  let arg11 : BitVec 32 := Scf.iv c0_i32_9 c1_i32_11 k0_t2
  let c0_i32_34 : BitVec 32 := 0#32
  let v63 : BitVec 1 := Scalar.cmpi .sgt arg11 c0_i32_34
  let v64 : BitVec 32 := Scalar.extui v63
  let c0_i32_35 : BitVec 32 := 0#32
  let v65 : BitVec 1 := Scalar.cmpi .slt arg11 c0_i32_35
  let v66 : BitVec 32 := Scalar.extui v65
  let v67 : BitVec 32 := Scalar.subi v64 v66
  let c2_i32_33 : BitVec 32 := 2#32
  let c0_i32_36 : BitVec 32 := 0#32
  let v68 : BitVec 1 := Scalar.cmpi .sgt c2_i32_33 c0_i32_36
  let v69 : BitVec 32 := Scalar.extui v68
  let c0_i32_37 : BitVec 32 := 0#32
  let v70 : BitVec 1 := Scalar.cmpi .slt c2_i32_33 c0_i32_37
  let v71 : BitVec 32 := Scalar.extui v70
  let v72 : BitVec 32 := Scalar.subi v69 v71
  let v73 : BitVec 1 := Scalar.cmpi .ne v67 v72
  let v74 : BitVec 32 := Scalar.remsi arg11 c2_i32_33
  let c0_i32_38 : BitVec 32 := 0#32
  let v75 : BitVec 1 := Scalar.cmpi .ne v74 c0_i32_38
  let v76 : BitVec 1 := Scalar.andi v73 v75
  let v62 : BitVec 32 := Scalar.divsi arg11 c2_i32_33
  let c1_i32_39 : BitVec 32 := 1#32
  let v77 : BitVec 32 := Scalar.subi v62 c1_i32_39
  let v78 : BitVec 32 := Scalar.select v76 v77 v62
  let v79 : BitVec 32 := Scalar.subi v78 c0_i32_40
  let c1_i32_41 : BitVec 32 := 1#32
  let v81 : BitVec 32 := Scalar.divsi v79 c1_i32_41
  let v82 : BitVec 32 := Scalar.muli v81 c1_i32_41
  let v83 : BitVec 32 := Scalar.addi c0_i32_40 v82
  let c1_i32_43 : BitVec 32 := 1#32
  let arg12 : BitVec 32 := Scf.iv v83 c1_i32_43 k0_t6
  let v113 : BitVec 32 := Scalar.muli c2_i32_57 arg12
  let v114 : BitVec 32 := Scalar.addi v113 c1_i32_58
  let c1024_i32_63 : BitVec 32 := 1024#32
  let v127 : BitVec 32 := Scalar.muli v114 c1024_i32_63
  let v128 : BitVec 32 := v127
  let v132 : Index := Scalar.indexCast v128
  let c0_66 : Index := 0#32
  ![v132.toNat, 0]
def k0_mult34 (k0_t2 : Fin k0_t2_loop.trips) (k0_t6 : Fin (k0_t6_loop k0_t2).trips) : BitVec 32 :=
  let c2_i32_70 : BitVec 32 := 2#32
  let c0_i32_40 : BitVec 32 := 0#32
  let c0_i32_9 : BitVec 32 := 0#32
  let c1_i32_11 : BitVec 32 := 1#32
  let arg11 : BitVec 32 := Scf.iv c0_i32_9 c1_i32_11 k0_t2
  let c0_i32_34 : BitVec 32 := 0#32
  let v63 : BitVec 1 := Scalar.cmpi .sgt arg11 c0_i32_34
  let v64 : BitVec 32 := Scalar.extui v63
  let c0_i32_35 : BitVec 32 := 0#32
  let v65 : BitVec 1 := Scalar.cmpi .slt arg11 c0_i32_35
  let v66 : BitVec 32 := Scalar.extui v65
  let v67 : BitVec 32 := Scalar.subi v64 v66
  let c2_i32_33 : BitVec 32 := 2#32
  let c0_i32_36 : BitVec 32 := 0#32
  let v68 : BitVec 1 := Scalar.cmpi .sgt c2_i32_33 c0_i32_36
  let v69 : BitVec 32 := Scalar.extui v68
  let c0_i32_37 : BitVec 32 := 0#32
  let v70 : BitVec 1 := Scalar.cmpi .slt c2_i32_33 c0_i32_37
  let v71 : BitVec 32 := Scalar.extui v70
  let v72 : BitVec 32 := Scalar.subi v69 v71
  let v73 : BitVec 1 := Scalar.cmpi .ne v67 v72
  let v74 : BitVec 32 := Scalar.remsi arg11 c2_i32_33
  let c0_i32_38 : BitVec 32 := 0#32
  let v75 : BitVec 1 := Scalar.cmpi .ne v74 c0_i32_38
  let v76 : BitVec 1 := Scalar.andi v73 v75
  let v62 : BitVec 32 := Scalar.divsi arg11 c2_i32_33
  let c1_i32_39 : BitVec 32 := 1#32
  let v77 : BitVec 32 := Scalar.subi v62 c1_i32_39
  let v78 : BitVec 32 := Scalar.select v76 v77 v62
  let v79 : BitVec 32 := Scalar.subi v78 c0_i32_40
  let c1_i32_41 : BitVec 32 := 1#32
  let v81 : BitVec 32 := Scalar.divsi v79 c1_i32_41
  let v82 : BitVec 32 := Scalar.muli v81 c1_i32_41
  let v83 : BitVec 32 := Scalar.addi c0_i32_40 v82
  let c1_i32_43 : BitVec 32 := 1#32
  let arg12 : BitVec 32 := Scf.iv v83 c1_i32_43 k0_t6
  let v139 : BitVec 32 := Scalar.muli c2_i32_70 arg12
  let c1024_i32_75 : BitVec 32 := 1024#32
  let v153 : BitVec 32 := Scalar.muli v139 c1024_i32_75
  v153
def k0_off31 (k0_t2 : Fin k0_t2_loop.trips) (k0_t6 : Fin (k0_t6_loop k0_t2).trips) : Fin 3 → Nat :=
  let c0_78 : Index := 0#32
  let c0_79 : Index := 0#32
  let c2_i32_70 : BitVec 32 := 2#32
  let c0_i32_40 : BitVec 32 := 0#32
  let c0_i32_9 : BitVec 32 := 0#32
  let c1_i32_11 : BitVec 32 := 1#32
  let arg11 : BitVec 32 := Scf.iv c0_i32_9 c1_i32_11 k0_t2
  let c0_i32_34 : BitVec 32 := 0#32
  let v63 : BitVec 1 := Scalar.cmpi .sgt arg11 c0_i32_34
  let v64 : BitVec 32 := Scalar.extui v63
  let c0_i32_35 : BitVec 32 := 0#32
  let v65 : BitVec 1 := Scalar.cmpi .slt arg11 c0_i32_35
  let v66 : BitVec 32 := Scalar.extui v65
  let v67 : BitVec 32 := Scalar.subi v64 v66
  let c2_i32_33 : BitVec 32 := 2#32
  let c0_i32_36 : BitVec 32 := 0#32
  let v68 : BitVec 1 := Scalar.cmpi .sgt c2_i32_33 c0_i32_36
  let v69 : BitVec 32 := Scalar.extui v68
  let c0_i32_37 : BitVec 32 := 0#32
  let v70 : BitVec 1 := Scalar.cmpi .slt c2_i32_33 c0_i32_37
  let v71 : BitVec 32 := Scalar.extui v70
  let v72 : BitVec 32 := Scalar.subi v69 v71
  let v73 : BitVec 1 := Scalar.cmpi .ne v67 v72
  let v74 : BitVec 32 := Scalar.remsi arg11 c2_i32_33
  let c0_i32_38 : BitVec 32 := 0#32
  let v75 : BitVec 1 := Scalar.cmpi .ne v74 c0_i32_38
  let v76 : BitVec 1 := Scalar.andi v73 v75
  let v62 : BitVec 32 := Scalar.divsi arg11 c2_i32_33
  let c1_i32_39 : BitVec 32 := 1#32
  let v77 : BitVec 32 := Scalar.subi v62 c1_i32_39
  let v78 : BitVec 32 := Scalar.select v76 v77 v62
  let v79 : BitVec 32 := Scalar.subi v78 c0_i32_40
  let c1_i32_41 : BitVec 32 := 1#32
  let v81 : BitVec 32 := Scalar.divsi v79 c1_i32_41
  let v82 : BitVec 32 := Scalar.muli v81 c1_i32_41
  let v83 : BitVec 32 := Scalar.addi c0_i32_40 v82
  let c1_i32_43 : BitVec 32 := 1#32
  let arg12 : BitVec 32 := Scf.iv v83 c1_i32_43 k0_t6
  let v139 : BitVec 32 := Scalar.muli c2_i32_70 arg12
  let c1024_i32_75 : BitVec 32 := 1024#32
  let v153 : BitVec 32 := Scalar.muli v139 c1024_i32_75
  let v154 : BitVec 32 := v153
  let v158 : Index := Scalar.indexCast v154
  ![0, 0, v158.toNat]
def k0_mult35 (k0_t2 : Fin k0_t2_loop.trips) : BitVec 32 :=
  let c0_i32_9 : BitVec 32 := 0#32
  let c1_i32_11 : BitVec 32 := 1#32
  let arg11 : BitVec 32 := Scf.iv c0_i32_9 c1_i32_11 k0_t2
  let c1024_i32_85 : BitVec 32 := 1024#32
  let v169 : BitVec 32 := Scalar.muli arg11 c1024_i32_85
  v169
def k0_mult36 (k0_t2 : Fin k0_t2_loop.trips) (k0_t6 : Fin (k0_t6_loop k0_t2).trips) : BitVec 32 :=
  let c2_i32_83 : BitVec 32 := 2#32
  let c0_i32_40 : BitVec 32 := 0#32
  let c0_i32_9 : BitVec 32 := 0#32
  let c1_i32_11 : BitVec 32 := 1#32
  let arg11 : BitVec 32 := Scf.iv c0_i32_9 c1_i32_11 k0_t2
  let c0_i32_34 : BitVec 32 := 0#32
  let v63 : BitVec 1 := Scalar.cmpi .sgt arg11 c0_i32_34
  let v64 : BitVec 32 := Scalar.extui v63
  let c0_i32_35 : BitVec 32 := 0#32
  let v65 : BitVec 1 := Scalar.cmpi .slt arg11 c0_i32_35
  let v66 : BitVec 32 := Scalar.extui v65
  let v67 : BitVec 32 := Scalar.subi v64 v66
  let c2_i32_33 : BitVec 32 := 2#32
  let c0_i32_36 : BitVec 32 := 0#32
  let v68 : BitVec 1 := Scalar.cmpi .sgt c2_i32_33 c0_i32_36
  let v69 : BitVec 32 := Scalar.extui v68
  let c0_i32_37 : BitVec 32 := 0#32
  let v70 : BitVec 1 := Scalar.cmpi .slt c2_i32_33 c0_i32_37
  let v71 : BitVec 32 := Scalar.extui v70
  let v72 : BitVec 32 := Scalar.subi v69 v71
  let v73 : BitVec 1 := Scalar.cmpi .ne v67 v72
  let v74 : BitVec 32 := Scalar.remsi arg11 c2_i32_33
  let c0_i32_38 : BitVec 32 := 0#32
  let v75 : BitVec 1 := Scalar.cmpi .ne v74 c0_i32_38
  let v76 : BitVec 1 := Scalar.andi v73 v75
  let v62 : BitVec 32 := Scalar.divsi arg11 c2_i32_33
  let c1_i32_39 : BitVec 32 := 1#32
  let v77 : BitVec 32 := Scalar.subi v62 c1_i32_39
  let v78 : BitVec 32 := Scalar.select v76 v77 v62
  let v79 : BitVec 32 := Scalar.subi v78 c0_i32_40
  let c1_i32_41 : BitVec 32 := 1#32
  let v81 : BitVec 32 := Scalar.divsi v79 c1_i32_41
  let v82 : BitVec 32 := Scalar.muli v81 c1_i32_41
  let v83 : BitVec 32 := Scalar.addi c0_i32_40 v82
  let c1_i32_43 : BitVec 32 := 1#32
  let arg12 : BitVec 32 := Scf.iv v83 c1_i32_43 k0_t6
  let v167 : BitVec 32 := Scalar.muli c2_i32_83 arg12
  let c2_i32_84 : BitVec 32 := 2#32
  let v168 : BitVec 32 := Scalar.addi v167 c2_i32_84
  let c1024_i32_89 : BitVec 32 := 1024#32
  let v181 : BitVec 32 := Scalar.muli v168 c1024_i32_89
  v181
def k0_mult37 (k0_t2 : Fin k0_t2_loop.trips) (k0_t6 : Fin (k0_t6_loop k0_t2).trips) : BitVec 32 :=
  let c2_i32_96 : BitVec 32 := 2#32
  let c0_i32_40 : BitVec 32 := 0#32
  let c0_i32_9 : BitVec 32 := 0#32
  let c1_i32_11 : BitVec 32 := 1#32
  let arg11 : BitVec 32 := Scf.iv c0_i32_9 c1_i32_11 k0_t2
  let c0_i32_34 : BitVec 32 := 0#32
  let v63 : BitVec 1 := Scalar.cmpi .sgt arg11 c0_i32_34
  let v64 : BitVec 32 := Scalar.extui v63
  let c0_i32_35 : BitVec 32 := 0#32
  let v65 : BitVec 1 := Scalar.cmpi .slt arg11 c0_i32_35
  let v66 : BitVec 32 := Scalar.extui v65
  let v67 : BitVec 32 := Scalar.subi v64 v66
  let c2_i32_33 : BitVec 32 := 2#32
  let c0_i32_36 : BitVec 32 := 0#32
  let v68 : BitVec 1 := Scalar.cmpi .sgt c2_i32_33 c0_i32_36
  let v69 : BitVec 32 := Scalar.extui v68
  let c0_i32_37 : BitVec 32 := 0#32
  let v70 : BitVec 1 := Scalar.cmpi .slt c2_i32_33 c0_i32_37
  let v71 : BitVec 32 := Scalar.extui v70
  let v72 : BitVec 32 := Scalar.subi v69 v71
  let v73 : BitVec 1 := Scalar.cmpi .ne v67 v72
  let v74 : BitVec 32 := Scalar.remsi arg11 c2_i32_33
  let c0_i32_38 : BitVec 32 := 0#32
  let v75 : BitVec 1 := Scalar.cmpi .ne v74 c0_i32_38
  let v76 : BitVec 1 := Scalar.andi v73 v75
  let v62 : BitVec 32 := Scalar.divsi arg11 c2_i32_33
  let c1_i32_39 : BitVec 32 := 1#32
  let v77 : BitVec 32 := Scalar.subi v62 c1_i32_39
  let v78 : BitVec 32 := Scalar.select v76 v77 v62
  let v79 : BitVec 32 := Scalar.subi v78 c0_i32_40
  let c1_i32_41 : BitVec 32 := 1#32
  let v81 : BitVec 32 := Scalar.divsi v79 c1_i32_41
  let v82 : BitVec 32 := Scalar.muli v81 c1_i32_41
  let v83 : BitVec 32 := Scalar.addi c0_i32_40 v82
  let c1_i32_43 : BitVec 32 := 1#32
  let arg12 : BitVec 32 := Scf.iv v83 c1_i32_43 k0_t6
  let v193 : BitVec 32 := Scalar.muli c2_i32_96 arg12
  let c1_i32_97 : BitVec 32 := 1#32
  let v194 : BitVec 32 := Scalar.addi v193 c1_i32_97
  let c1024_i32_102 : BitVec 32 := 1024#32
  let v208 : BitVec 32 := Scalar.muli v194 c1024_i32_102
  v208
def k0_off32 (k0_t2 : Fin k0_t2_loop.trips) (k0_t6 : Fin (k0_t6_loop k0_t2).trips) : Fin 3 → Nat :=
  let c0_105 : Index := 0#32
  let c0_106 : Index := 0#32
  let c2_i32_96 : BitVec 32 := 2#32
  let c0_i32_40 : BitVec 32 := 0#32
  let c0_i32_9 : BitVec 32 := 0#32
  let c1_i32_11 : BitVec 32 := 1#32
  let arg11 : BitVec 32 := Scf.iv c0_i32_9 c1_i32_11 k0_t2
  let c0_i32_34 : BitVec 32 := 0#32
  let v63 : BitVec 1 := Scalar.cmpi .sgt arg11 c0_i32_34
  let v64 : BitVec 32 := Scalar.extui v63
  let c0_i32_35 : BitVec 32 := 0#32
  let v65 : BitVec 1 := Scalar.cmpi .slt arg11 c0_i32_35
  let v66 : BitVec 32 := Scalar.extui v65
  let v67 : BitVec 32 := Scalar.subi v64 v66
  let c2_i32_33 : BitVec 32 := 2#32
  let c0_i32_36 : BitVec 32 := 0#32
  let v68 : BitVec 1 := Scalar.cmpi .sgt c2_i32_33 c0_i32_36
  let v69 : BitVec 32 := Scalar.extui v68
  let c0_i32_37 : BitVec 32 := 0#32
  let v70 : BitVec 1 := Scalar.cmpi .slt c2_i32_33 c0_i32_37
  let v71 : BitVec 32 := Scalar.extui v70
  let v72 : BitVec 32 := Scalar.subi v69 v71
  let v73 : BitVec 1 := Scalar.cmpi .ne v67 v72
  let v74 : BitVec 32 := Scalar.remsi arg11 c2_i32_33
  let c0_i32_38 : BitVec 32 := 0#32
  let v75 : BitVec 1 := Scalar.cmpi .ne v74 c0_i32_38
  let v76 : BitVec 1 := Scalar.andi v73 v75
  let v62 : BitVec 32 := Scalar.divsi arg11 c2_i32_33
  let c1_i32_39 : BitVec 32 := 1#32
  let v77 : BitVec 32 := Scalar.subi v62 c1_i32_39
  let v78 : BitVec 32 := Scalar.select v76 v77 v62
  let v79 : BitVec 32 := Scalar.subi v78 c0_i32_40
  let c1_i32_41 : BitVec 32 := 1#32
  let v81 : BitVec 32 := Scalar.divsi v79 c1_i32_41
  let v82 : BitVec 32 := Scalar.muli v81 c1_i32_41
  let v83 : BitVec 32 := Scalar.addi c0_i32_40 v82
  let c1_i32_43 : BitVec 32 := 1#32
  let arg12 : BitVec 32 := Scf.iv v83 c1_i32_43 k0_t6
  let v193 : BitVec 32 := Scalar.muli c2_i32_96 arg12
  let c1_i32_97 : BitVec 32 := 1#32
  let v194 : BitVec 32 := Scalar.addi v193 c1_i32_97
  let c1024_i32_102 : BitVec 32 := 1024#32
  let v208 : BitVec 32 := Scalar.muli v194 c1024_i32_102
  let v209 : BitVec 32 := v208
  let v213 : Index := Scalar.indexCast v209
  ![0, 0, v213.toNat]
def k0_cond3 (k0_t2 : Fin k0_t2_loop.trips) : BitVec 1 :=
  let c0_i32_9 : BitVec 32 := 0#32
  let c1_i32_11 : BitVec 32 := 1#32
  let arg11 : BitVec 32 := Scf.iv c0_i32_9 c1_i32_11 k0_t2
  let c2_i32_45 : BitVec 32 := 2#32
  let c0_i32_46 : BitVec 32 := 0#32
  let v88 : BitVec 1 := Scalar.cmpi .eq c2_i32_45 c0_i32_46
  let c1_i32_47 : BitVec 32 := 1#32
  let v89 : BitVec 32 := Scalar.select v88 c1_i32_47 c2_i32_45
  let v90 : BitVec 32 := Scalar.remsi arg11 v89
  let c0_i32_49 : BitVec 32 := 0#32
  let v92 : BitVec 1 := Scalar.cmpi .slt v90 c0_i32_49
  let c0_i32_50 : BitVec 32 := 0#32
  let v93 : BitVec 1 := Scalar.cmpi .slt v89 c0_i32_50
  let v94 : BitVec 1 := Scalar.xori v92 v93
  let c0_i32_48 : BitVec 32 := 0#32
  let v91 : BitVec 1 := Scalar.cmpi .ne v90 c0_i32_48
  let v95 : BitVec 1 := Scalar.andi v94 v91
  let v96 : BitVec 32 := Scalar.addi v90 v89
  let v97 : BitVec 32 := Scalar.select v95 v96 v90
  let c1_i32_51 : BitVec 32 := 1#32
  let v98 : BitVec 1 := Scalar.cmpi .eq v97 c1_i32_51
  let v99 : BitVec 32 := Scalar.extui v98
  let c0_i32_52 : BitVec 32 := 0#32
  let v100 : BitVec 1 := Scalar.cmpi .ne v99 c0_i32_52
  v100

def k0_mult38 (k0_t2 : Fin k0_t2_loop.trips) : BitVec 32 :=
  let c0_i32_9 : BitVec 32 := 0#32
  let c1_i32_11 : BitVec 32 := 1#32
  let arg11 : BitVec 32 := Scf.iv c0_i32_9 c1_i32_11 k0_t2
  let c1024_i32_57 : BitVec 32 := 1024#32
  let v113 : BitVec 32 := Scalar.muli arg11 c1024_i32_57
  v113
def k0_off33 (k0_t2 : Fin k0_t2_loop.trips) : Fin 3 → Nat :=
  let c0_58 : Index := 0#32
  let c0_59 : Index := 0#32
  let c0_i32_9 : BitVec 32 := 0#32
  let c1_i32_11 : BitVec 32 := 1#32
  let arg11 : BitVec 32 := Scf.iv c0_i32_9 c1_i32_11 k0_t2
  let c1024_i32_57 : BitVec 32 := 1024#32
  let v113 : BitVec 32 := Scalar.muli arg11 c1024_i32_57
  let v114 : BitVec 32 := v113
  let v115 : Index := Scalar.indexCast v114
  ![0, 0, v115.toNat]
def k0_mult39 (k0_t2 : Fin k0_t2_loop.trips) : BitVec 32 :=
  let c0_i32_9 : BitVec 32 := 0#32
  let c1_i32_11 : BitVec 32 := 1#32
  let arg11 : BitVec 32 := Scf.iv c0_i32_9 c1_i32_11 k0_t2
  let c1024_i32_61 : BitVec 32 := 1024#32
  let v125 : BitVec 32 := Scalar.muli arg11 c1024_i32_61
  v125
def k0_off34 (k0_t2 : Fin k0_t2_loop.trips) : Fin 3 → Nat :=
  let c0_62 : Index := 0#32
  let c0_i32_9 : BitVec 32 := 0#32
  let c1_i32_11 : BitVec 32 := 1#32
  let arg11 : BitVec 32 := Scf.iv c0_i32_9 c1_i32_11 k0_t2
  let c1024_i32_61 : BitVec 32 := 1024#32
  let v125 : BitVec 32 := Scalar.muli arg11 c1024_i32_61
  let v126 : BitVec 32 := v125
  let v127 : Index := Scalar.indexCast v126
  let c0_63 : Index := 0#32
  ![0, v127.toNat, 0]
def k0_off35 (k0_t2 : Fin k0_t2_loop.trips) : Fin 2 → Nat :=
  let c0_i32_9 : BitVec 32 := 0#32
  let c1_i32_11 : BitVec 32 := 1#32
  let arg11 : BitVec 32 := Scf.iv c0_i32_9 c1_i32_11 k0_t2
  let c1024_i32_61 : BitVec 32 := 1024#32
  let v125 : BitVec 32 := Scalar.muli arg11 c1024_i32_61
  let v126 : BitVec 32 := v125
  let v130 : Index := Scalar.indexCast v126
  let c0_64 : Index := 0#32
  ![v130.toNat, 0]
def k0_mult40 (k0_t2 : Fin k0_t2_loop.trips) : BitVec 32 :=
  let c0_i32_9 : BitVec 32 := 0#32
  let c1_i32_11 : BitVec 32 := 1#32
  let arg11 : BitVec 32 := Scf.iv c0_i32_9 c1_i32_11 k0_t2
  let c1_i32_70 : BitVec 32 := 1#32
  let v144 : BitVec 32 := Scalar.subi arg11 c1_i32_70
  let c1024_i32_75 : BitVec 32 := 1024#32
  let v158 : BitVec 32 := Scalar.muli v144 c1024_i32_75
  v158
def k0_off36 (k0_t2 : Fin k0_t2_loop.trips) : Fin 3 → Nat :=
  let c0_78 : Index := 0#32
  let c0_79 : Index := 0#32
  let c0_i32_9 : BitVec 32 := 0#32
  let c1_i32_11 : BitVec 32 := 1#32
  let arg11 : BitVec 32 := Scf.iv c0_i32_9 c1_i32_11 k0_t2
  let c1_i32_70 : BitVec 32 := 1#32
  let v144 : BitVec 32 := Scalar.subi arg11 c1_i32_70
  let c1024_i32_75 : BitVec 32 := 1024#32
  let v158 : BitVec 32 := Scalar.muli v144 c1024_i32_75
  let v159 : BitVec 32 := v158
  let v163 : Index := Scalar.indexCast v159
  ![0, 0, v163.toNat]
def k0_mult41 (k0_t2 : Fin k0_t2_loop.trips) : BitVec 32 :=
  let c0_i32_9 : BitVec 32 := 0#32
  let c1_i32_11 : BitVec 32 := 1#32
  let arg11 : BitVec 32 := Scf.iv c0_i32_9 c1_i32_11 k0_t2
  let c1_i32_44 : BitVec 32 := 1#32
  let v86 : BitVec 32 := Scalar.addi arg11 c1_i32_44
  let c7_i32 : BitVec 32 := 7#32
  let v87 : BitVec 32 := Scalar.minsi v86 c7_i32
  let c1024_i32_83 : BitVec 32 := 1024#32
  let v172 : BitVec 32 := Scalar.muli v87 c1024_i32_83
  v172
def k0_off37 (k0_t2 : Fin k0_t2_loop.trips) : Fin 3 → Nat :=
  let c0_84 : Index := 0#32
  let c0_85 : Index := 0#32
  let c0_i32_9 : BitVec 32 := 0#32
  let c1_i32_11 : BitVec 32 := 1#32
  let arg11 : BitVec 32 := Scf.iv c0_i32_9 c1_i32_11 k0_t2
  let c1_i32_44 : BitVec 32 := 1#32
  let v86 : BitVec 32 := Scalar.addi arg11 c1_i32_44
  let c7_i32 : BitVec 32 := 7#32
  let v87 : BitVec 32 := Scalar.minsi v86 c7_i32
  let c1024_i32_83 : BitVec 32 := 1024#32
  let v172 : BitVec 32 := Scalar.muli v87 c1024_i32_83
  let v173 : BitVec 32 := v172
  let v174 : Index := Scalar.indexCast v173
  ![0, 0, v174.toNat]
def k0_mult42 : BitVec 32 :=
  let c0_i32_87 : BitVec 32 := 0#32
  c0_i32_87
def k0_mult43 (k0_t2 : Fin k0_t2_loop.trips) : BitVec 32 :=
  let c0_i32_9 : BitVec 32 := 0#32
  let c1_i32_11 : BitVec 32 := 1#32
  let arg11 : BitVec 32 := Scf.iv c0_i32_9 c1_i32_11 k0_t2
  let c1024_i32_94 : BitVec 32 := 1024#32
  let v195 : BitVec 32 := Scalar.muli arg11 c1024_i32_94
  v195
def k0_off38 (k0_t2 : Fin k0_t2_loop.trips) : Fin 3 → Nat :=
  let c0_103 : Index := 0#32
  let c0_104 : Index := 0#32
  let c0_i32_9 : BitVec 32 := 0#32
  let c1_i32_11 : BitVec 32 := 1#32
  let arg11 : BitVec 32 := Scf.iv c0_i32_9 c1_i32_11 k0_t2
  let c1024_i32_94 : BitVec 32 := 1024#32
  let v195 : BitVec 32 := Scalar.muli arg11 c1024_i32_94
  let v196 : BitVec 32 := v195
  let v223 : Index := Scalar.indexCast v196
  ![0, 0, v223.toNat]
def k0_mult44 (k0_t2 : Fin k0_t2_loop.trips) : BitVec 32 :=
  let c0_i32_9 : BitVec 32 := 0#32
  let c1_i32_11 : BitVec 32 := 1#32
  let arg11 : BitVec 32 := Scf.iv c0_i32_9 c1_i32_11 k0_t2
  let c1_i32_44 : BitVec 32 := 1#32
  let v86 : BitVec 32 := Scalar.addi arg11 c1_i32_44
  let c7_i32 : BitVec 32 := 7#32
  let v87 : BitVec 32 := Scalar.minsi v86 c7_i32
  let c1024_i32_57 : BitVec 32 := 1024#32
  let v113 : BitVec 32 := Scalar.muli v87 c1024_i32_57
  v113
def k0_off39 (k0_t2 : Fin k0_t2_loop.trips) : Fin 3 → Nat :=
  let c0_58 : Index := 0#32
  let c0_59 : Index := 0#32
  let c0_i32_9 : BitVec 32 := 0#32
  let c1_i32_11 : BitVec 32 := 1#32
  let arg11 : BitVec 32 := Scf.iv c0_i32_9 c1_i32_11 k0_t2
  let c1_i32_44 : BitVec 32 := 1#32
  let v86 : BitVec 32 := Scalar.addi arg11 c1_i32_44
  let c7_i32 : BitVec 32 := 7#32
  let v87 : BitVec 32 := Scalar.minsi v86 c7_i32
  let c1024_i32_57 : BitVec 32 := 1024#32
  let v113 : BitVec 32 := Scalar.muli v87 c1024_i32_57
  let v114 : BitVec 32 := v113
  let v115 : Index := Scalar.indexCast v114
  ![0, 0, v115.toNat]
def k0_mult45 : BitVec 32 :=
  let c0_i32_61 : BitVec 32 := 0#32
  c0_i32_61
def k0_mult46 (k0_t2 : Fin k0_t2_loop.trips) : BitVec 32 :=
  let c0_i32_9 : BitVec 32 := 0#32
  let c1_i32_11 : BitVec 32 := 1#32
  let arg11 : BitVec 32 := Scf.iv c0_i32_9 c1_i32_11 k0_t2
  let c1024_i32_68 : BitVec 32 := 1024#32
  let v136 : BitVec 32 := Scalar.muli arg11 c1024_i32_68
  v136
def k0_off40 (k0_t2 : Fin k0_t2_loop.trips) : Fin 3 → Nat :=
  let c0_77 : Index := 0#32
  let c0_78 : Index := 0#32
  let c0_i32_9 : BitVec 32 := 0#32
  let c1_i32_11 : BitVec 32 := 1#32
  let arg11 : BitVec 32 := Scf.iv c0_i32_9 c1_i32_11 k0_t2
  let c1024_i32_68 : BitVec 32 := 1024#32
  let v136 : BitVec 32 := Scalar.muli arg11 c1024_i32_68
  let v137 : BitVec 32 := v136
  let v164 : Index := Scalar.indexCast v137
  ![0, 0, v164.toNat]
def k0_off41 (k0_t2 : Fin k0_t2_loop.trips) : Fin 3 → Nat :=
  let c0_88 : Index := 0#32
  let c0_89 : Index := 0#32
  let c0_i32_9 : BitVec 32 := 0#32
  let c1_i32_11 : BitVec 32 := 1#32
  let arg11 : BitVec 32 := Scf.iv c0_i32_9 c1_i32_11 k0_t2
  let c1024_i32_68 : BitVec 32 := 1024#32
  let v136 : BitVec 32 := Scalar.muli arg11 c1024_i32_68
  let v137 : BitVec 32 := v136
  let v199 : Index := Scalar.indexCast v137
  ![0, 0, v199.toNat]
def k0_mult47 (k0_t2 : Fin k0_t2_loop.trips) : BitVec 32 :=
  let c0_i32_9 : BitVec 32 := 0#32
  let c1_i32_11 : BitVec 32 := 1#32
  let arg11 : BitVec 32 := Scf.iv c0_i32_9 c1_i32_11 k0_t2
  let c1024_i32 : BitVec 32 := 1024#32
  let v107 : BitVec 32 := Scalar.muli arg11 c1024_i32
  v107
def k0_off42 (k0_t2 : Fin k0_t2_loop.trips) : Fin 3 → Nat :=
  let c0_55 : Index := 0#32
  let c0_i32_9 : BitVec 32 := 0#32
  let c1_i32_11 : BitVec 32 := 1#32
  let arg11 : BitVec 32 := Scf.iv c0_i32_9 c1_i32_11 k0_t2
  let c1024_i32 : BitVec 32 := 1024#32
  let v107 : BitVec 32 := Scalar.muli arg11 c1024_i32
  let v108 : BitVec 32 := v107
  let v109 : Index := Scalar.indexCast v108
  let c0_56 : Index := 0#32
  ![0, v109.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x128x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | "neg_log2e" => some ((-((Real.log 2)⁻¹) : ℝ) : EReal)
  | _ => none
-- ==== ReferenceIdeal.lean ====
abbrev S2x8192x16x128 : Shape := ⟨4, ![2, 8192, 16, 128]⟩
abbrev S2x8192x16 : Shape := ⟨3, ![2, 8192, 16]⟩
abbrev S8192 : Shape := ⟨1, ![8192]⟩
abbrev S2x16x8192x8192 : Shape := ⟨4, ![2, 16, 8192, 8192]⟩
abbrev S_ : Shape := ⟨0, ![]⟩
abbrev S2x16x8192 : Shape := ⟨3, ![2, 16, 8192]⟩
abbrev S2x16x8192x1 : Shape := ⟨4, ![2, 16, 8192, 1]⟩
abbrev S2x16x1x8192 : Shape := ⟨4, ![2, 16, 1, 8192]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S2x16x128x8192 : Shape := ⟨4, ![2, 16, 128, 8192]⟩
abbrev S2x8192x2048 : Shape := ⟨3, ![2, 8192, 2048]⟩

abbrev nBuf : Space → Nat
  | .hbm => 45
  | .vmem => 0
  | .smem => 0
  | _ => 0

abbrev bufTy : (tb : Table) → Fin (tcTables nBuf tb) → BufTy
  | .hbm, ⟨0, _⟩ => ⟨S2x8192x16x128, .f32⟩
  | .hbm, ⟨1, _⟩ => ⟨S2x8192x16x128, .f32⟩
  | .hbm, ⟨2, _⟩ => ⟨S2x8192x16x128, .f32⟩
  | .hbm, ⟨3, _⟩ => ⟨S2x8192x16, .f32⟩
  | .hbm, ⟨4, _⟩ => ⟨S8192, .i32⟩
  | .hbm, ⟨5, _⟩ => ⟨S2x16x8192x8192, .f32⟩
  | .hbm, ⟨6, _⟩ => ⟨S_, .f32⟩
  | .hbm, ⟨7, _⟩ => ⟨S2x16x8192x8192, .f32⟩
  | .hbm, ⟨8, _⟩ => ⟨S2x16x8192x8192, .f32⟩
  | .hbm, ⟨9, _⟩ => ⟨S2x16x8192, .f32⟩
  | .hbm, ⟨10, _⟩ => ⟨S2x16x8192x1, .f32⟩
  | .hbm, ⟨11, _⟩ => ⟨S2x16x1x8192, .f32⟩
  | .hbm, ⟨12, _⟩ => ⟨S2x16x8192x8192, .f32⟩
  | .hbm, ⟨13, _⟩ => ⟨S2x16x8192x8192, .f32⟩
  | .hbm, ⟨14, _⟩ => ⟨S2x16x8192x8192, .f32⟩
  | .hbm, ⟨15, _⟩ => ⟨S2x16x8192x8192, .f32⟩
  | .hbm, ⟨16, _⟩ => ⟨S1x8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S1x1x8192x8192, .i1⟩
  | .hbm, ⟨22, _⟩ => ⟨S_, .f32⟩
  | .hbm, ⟨23, _⟩ => ⟨S_, .f32⟩
  | .hbm, ⟨24, _⟩ => ⟨S2x16x8192x8192, .i1⟩
  | .hbm, ⟨25, _⟩ => ⟨S2x16x8192x8192, .f32⟩
  | .hbm, ⟨26, _⟩ => ⟨S2x16x8192x8192, .f32⟩
  | .hbm, ⟨27, _⟩ => ⟨S_, .f32⟩
  | .hbm, ⟨28, _⟩ => ⟨S2x16x8192, .f32⟩
  | .hbm, ⟨29, _⟩ => ⟨S_, .f32⟩
  | .hbm, ⟨30, _⟩ => ⟨S2x16x8192, .f32⟩
  | .hbm, ⟨31, _⟩ => ⟨S2x16x8192, .f32⟩
  | .hbm, ⟨32, _⟩ => ⟨S2x16x8192x1, .f32⟩
  | .hbm, ⟨33, _⟩ => ⟨S2x16x8192x8192, .f32⟩
  | .hbm, ⟨34, _⟩ => ⟨S2x16x8192x8192, .f32⟩
  | .hbm, ⟨35, _⟩ => ⟨S2x16x8192x8192, .f32⟩
  | .hbm, ⟨36, _⟩ => ⟨S_, .f32⟩
  | .hbm, ⟨37, _⟩ => ⟨S2x16x8192, .f32⟩
  | .hbm, ⟨38, _⟩ => ⟨S2x16x8192x1, .f32⟩
  | .hbm, ⟨39, _⟩ => ⟨S2x16x8192x8192, .f32⟩
  | .hbm, ⟨40, _⟩ => ⟨S2x16x8192x8192, .f32⟩
  | .hbm, ⟨41, _⟩ => ⟨S2x16x128x8192, .f32⟩
  | .hbm, ⟨42, _⟩ => ⟨S2x8192x16x128, .f32⟩
  | .hbm, ⟨43, _⟩ => ⟨S2x8192x2048, .f32⟩
  | .hbm, ⟨44, _⟩ => ⟨S2x8192x2048, .bf16⟩
  | _, _ => ⟨S2x8192x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Up.lean ====
abbrev S2x8192x2048 : Shape := ⟨3, ![2, 8192, 2048]⟩
abbrev S2048x5632 : Shape := ⟨2, ![2048, 5632]⟩
abbrev S16384x2048 : Shape := ⟨2, ![16384, 2048]⟩
abbrev S16384x5632 : Shape := ⟨2, ![16384, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 10
  | .smem => 0
  | _ => 0

abbrev bufTy : (tb : Table) → Fin (tcTables nBuf tb) → BufTy
  | .hbm, ⟨0, _⟩ => ⟨S2x8192x2048, .f32⟩
  | .hbm, ⟨1, _⟩ => ⟨S2048x5632, .f32⟩
  | .hbm, ⟨2, _⟩ => ⟨S2048x5632, .f32⟩
  | .hbm, ⟨3, _⟩ => ⟨S16384x2048, .f32⟩
  | .hbm, ⟨4, _⟩ => ⟨S16384x2048, .bf16⟩
  | .hbm, ⟨5, _⟩ => ⟨S16384x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S1024x512, .bf16⟩
  | .local _ .vmem, ⟨7, _⟩ => ⟨S1024x512, .bf16⟩
  | .local _ .vmem, ⟨8, _⟩ => ⟨S2048x512, .bf16⟩
  | .local _ .vmem, ⟨9, _⟩ => ⟨S2048x512, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpReferenceIdeal.lean ====
abbrev S2x8192x2048 : Shape := ⟨3, ![2, 8192, 2048]⟩
abbrev S2048x5632 : Shape := ⟨2, ![2048, 5632]⟩
abbrev S2x8192x5632 : Shape := ⟨3, ![2, 8192, 5632]⟩
abbrev S_ : Shape := ⟨0, ![]⟩
abbrev S16384x5632 : Shape := ⟨2, ![16384, 5632]⟩

abbrev nBuf : Space → Nat
  | .hbm => 17
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048x5632, .f32⟩
  | .hbm, ⟨2, _⟩ => ⟨S2048x5632, .f32⟩
  | .hbm, ⟨3, _⟩ => ⟨S2x8192x5632, .f32⟩
  | .hbm, ⟨4, _⟩ => ⟨S2x8192x5632, .f32⟩
  | .hbm, ⟨5, _⟩ => ⟨S2x8192x5632, .f32⟩
  | .hbm, ⟨6, _⟩ => ⟨S_, .f32⟩
  | .hbm, ⟨7, _⟩ => ⟨S2x8192x5632, .f32⟩
  | .hbm, ⟨8, _⟩ => ⟨S2x8192x5632, .f32⟩
  | .hbm, ⟨9, _⟩ => ⟨S_, .f32⟩
  | .hbm, ⟨10, _⟩ => ⟨S2x8192x5632, .f32⟩
  | .hbm, ⟨11, _⟩ => ⟨S2x8192x5632, .f32⟩
  | .hbm, ⟨12, _⟩ => ⟨S2x8192x5632, .f32⟩
  | .hbm, ⟨13, _⟩ => ⟨S2x8192x5632, .f32⟩
  | .hbm, ⟨14, _⟩ => ⟨S2x8192x5632, .f32⟩
  | .hbm, ⟨15, _⟩ => ⟨S16384x5632, .f32⟩
  | .hbm, ⟨16, _⟩ => ⟨S16384x5632, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== ExpDown.lean ====
abbrev S36864x5632 : Shape := ⟨2, ![36864, 5632]⟩
abbrev S8x5632x2048 : Shape := ⟨3, ![8, 5632, 2048]⟩
abbrev S72 : Shape := ⟨1, ![72]⟩
abbrev S1 : Shape := ⟨1, ![1]⟩
abbrev S36864x2048 : Shape := ⟨2, ![36864, 2048]⟩
abbrev S512x5632 : Shape := ⟨2, ![512, 5632]⟩
abbrev S512x1024 : Shape := ⟨2, ![512, 1024]⟩
abbrev S5632x1024 : Shape := ⟨2, ![5632, 1024]⟩
abbrev S_ : Shape := ⟨0, ![]⟩
abbrev S1x5632x1024 : Shape := ⟨3, ![1, 5632, 1024]⟩
abbrev S256x1024 : Shape := ⟨2, ![256, 1024]⟩
abbrev S5632x512 : Shape := ⟨2, ![5632, 512]⟩
abbrev S512x512 : Shape := ⟨2, ![512, 512]⟩

abbrev nBuf : Space → Nat
  | .hbm => 3
  | .vmem => 6
  | .smem => 3
  | _ => 0

abbrev bufTy : (tb : Table) → Fin (tcTables nBuf tb) → BufTy
  | .hbm, ⟨0, _⟩ => ⟨S36864x5632, .bf16⟩
  | .hbm, ⟨1, _⟩ => ⟨S8x5632x2048, .f32⟩
  | .hbm, ⟨2, _⟩ => ⟨S36864x2048, .f32⟩
  | .local _ .vmem, ⟨0, _⟩ => ⟨S512x5632, .bf16⟩
  | .local _ .vmem, ⟨1, _⟩ => ⟨S512x5632, .bf16⟩
  | .local _ .vmem, ⟨2, _⟩ => ⟨S512x1024, .f32⟩
  | .local _ .vmem, ⟨3, _⟩ => ⟨S512x1024, .f32⟩
  | .local _ .vmem, ⟨4, _⟩ => ⟨S5632x1024, .f32⟩
  | .local _ .vmem, ⟨5, _⟩ => ⟨S5632x1024, .bf16⟩
  | .local _ .smem, ⟨0, _⟩ => ⟨S72, .i32⟩
  | .local _ .smem, ⟨1, _⟩ => ⟨S1, .i32⟩
  | .local _ .smem, ⟨2, _⟩ => ⟨S72, .i32⟩
  | _, _ => ⟨S36864x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev main_arg3 : Ref sig .tc := ⟨.smem, 1, rfl⟩
abbrev main_arg4 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 72], ![false, false]⟩

abbrev pre0 : Pipeline.Prefetch sig := ⟨3, ![main_arg2.idx, main_arg3.idx, main_arg4.idx], fun | 0 => main_arg2.names | 1 => main_arg3.names | 2 => main_arg4.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v3 : Index := Scalar.indexCast arg1
  ![v3.toNat]
def k0_off2 (i : grid0.Coords) : Fin 1 → Nat :=
  let arg1 : BitVec 32 := BitVec.ofNat 32 (i 1).val
  let c1_i32 : BitVec 32 := 1#32
  let v5 : BitVec 32 := Scalar.subi arg1 c1_i32
  let c0_i32_0 : BitVec 32 := 0#32
  let v6 : BitVec 32 := Scalar.maxsi v5 c0_i32_0
  let v7 : Index := Scalar.indexCast v6
  ![v7.toNat]
def k0_cond1 (i : grid0.Coords) : BitVec 1 :=
  let arg0 : BitVec 32 := BitVec.ofNat 32 (i 0).val
  let c0_i32_1 : BitVec 32 := 0#32
  let v11 : BitVec 1 := Scalar.cmpi .eq arg0 c0_i32_1
  let arg1 : BitVec 32 := BitVec.ofNat 32 (i 1).val
  let c0_i32_2 : BitVec 32 := 0#32
  let v12 : BitVec 1 := Scalar.cmpi .eq arg1 c0_i32_2
  let v13 : BitVec 1 := Scalar.andi v11 v12
  let v14 : BitVec 32 := Scalar.extui v13
  let c0_i32_3 : BitVec 32 := 0#32
  let v15 : BitVec 1 := Scalar.cmpi .ne v14 c0_i32_3
  v15

def k0_mult1 : BitVec 32 :=
  let c0_i32_8 : BitVec 32 := 0#32
  c0_i32_8
def k0_off3 (v24 : BitVec 32) : Fin 3 → Nat :=
  let c0_i32_9 : BitVec 32 := 0#32
  let c0_i32_8 : BitVec 32 := 0#32
  let v25 : BitVec 32 := c0_i32_8
  ![v24.toNat, 0, 0]

def k0_chk1 (i : grid0.Coords) (v24 : BitVec 32) : Prop :=
  (∀ (k0_h1 : k0_cond1 i = 1#1), ∀ a, (k0_off3 v24) a + S1x5632x1024.size a ≤ S8x5632x2048.size a)
theorem k0_off3_inb : ∀ (i : grid0.Coords) (v24 : BitVec 32) (k0_hw1 : k0_chk1 i v24), ∀ (k0_h1 : k0_cond1 i = 1#1), ∀ a, (k0_off3 v24) a + S1x5632x1024.size a ≤ S8x5632x2048.size a := fun i v24 k0_hw1 k0_h1 => k0_hw1 k0_h1

def k0_off4 (i : grid0.Coords) : Fin 1 → Nat :=
  let arg1 : BitVec 32 := BitVec.ofNat 32 (i 1).val
  let v24 : Index := Scalar.indexCast arg1
  ![v24.toNat]
def k0_mult2 (i : grid0.Coords) : BitVec 32 :=
  let arg0 : BitVec 32 := BitVec.ofNat 32 (i 0).val
  let c1024_i32 : BitVec 32 := 1024#32
  let v26 : BitVec 32 := Scalar.muli arg0 c1024_i32
  v26
def k0_off5 (i : grid0.Coords) (v25 : BitVec 32) : Fin 3 → Nat :=
  let c0_i32_7 : BitVec 32 := 0#32
  let arg0 : BitVec 32 := BitVec.ofNat 32 (i 0).val
  let c1024_i32 : BitVec 32 := 1024#32
  let v26 : BitVec 32 := Scalar.muli arg0 c1024_i32
  let v27 : BitVec 32 := v26
  ![v25.toNat, 0, v27.toNat]
def k0_cond2 (i : grid0.Coords) (v0 : BitVec 32) (v4 : BitVec 32) (v8 : BitVec 32) : BitVec 1 :=
  let arg1 : BitVec 32 := BitVec.ofNat 32 (i 1).val
  let v1 : BitVec 1 := Scalar.cmpi .slt arg1 v0
  let c0_i32 : BitVec 32 := 0#32
  let v2 : BitVec 1 := Scalar.cmpi .eq arg1 c0_i32
  let v9 : BitVec 1 := Scalar.cmpi .ne v4 v8
  let v10 : BitVec 1 := Scalar.ori v2 v9
  let v16 : BitVec 1 := Scalar.andi v1 v10
  let v17 : BitVec 32 := Scalar.extui v16
  let c0_i32_4 : BitVec 32 := 0#32
  let v18 : BitVec 1 := Scalar.cmpi .ne v17 c0_i32_4
  v18

def k0_chk2 (i : grid0.Coords) (v0 : BitVec 32) (v4 : BitVec 32) (v8 : BitVec 32) (v25 : BitVec 32) : Prop :=
  (∀ (k0_h2 : k0_cond2 i v0 v4 v8 = 1#1), ∀ a, (k0_off5 i v25) a + S1x5632x1024.size a ≤ S8x5632x2048.size a)
theorem k0_off5_inb : ∀ (i : grid0.Coords) (v0 : BitVec 32) (v4 : BitVec 32) (v8 : BitVec 32) (v25 : BitVec 32) (k0_hw2 : k0_chk2 i v0 v4 v8 v25), ∀ (k0_h2 : k0_cond2 i v0 v4 v8 = 1#1), ∀ a, (k0_off5 i v25) a + S1x5632x1024.size a ≤ S8x5632x2048.size a := fun i v0 v4 v8 v25 k0_hw2 k0_h2 => k0_hw2 k0_h2

@[reducible] def k0_t1_loop : Scf.Loop 32 :=
  let c0_i32_8 : BitVec 32 := 0#32
  let c22_i32 : BitVec 32 := 22#32
  let v30 : BitVec 32 := Scalar.addi c0_i32_8 c22_i32
  let c1_i32_9 : BitVec 32 := 1#32
  ⟨c0_i32_8, v30, c1_i32_9⟩
def k0_mult3 (k0_t1 : Fin k0_t1_loop.trips) : BitVec 32 :=
  let c0_i32_8 : BitVec 32 := 0#32
  let c1_i32_9 : BitVec 32 := 1#32
  let arg11 : BitVec 32 := Scf.iv c0_i32_8 c1_i32_9 k0_t1
  let c256_i32 : BitVec 32 := 256#32
  let v42 : BitVec 32 := Scalar.muli arg11 c256_i32
  v42
def k0_off6 (k0_t1 : Fin k0_t1_loop.trips) : Fin 2 → Nat :=
  let c0_i32_8 : BitVec 32 := 0#32
  let c1_i32_9 : BitVec 32 := 1#32
  let arg11 : BitVec 32 := Scf.iv c0_i32_8 c1_i32_9 k0_t1
  let c256_i32 : BitVec 32 := 256#32
  let v42 : BitVec 32 := Scalar.muli arg11 c256_i32
  let v43 : BitVec 32 := v42
  let v44 : Index := Scalar.indexCast v43
  let c0_16 : Index := 0#32
  ![v44.toNat, 0]
def k0_off7 (i : grid0.Coords) : Fin 1 → Nat :=
  let arg1 : BitVec 32 := BitVec.ofNat 32 (i 1).val
  let v31 : Index := Scalar.indexCast arg1
  ![v31.toNat]
def k0_mult4 (i : grid0.Coords) : BitVec 32 :=
  let arg0 : BitVec 32 := BitVec.ofNat 32 (i 0).val
  let c1024_i32_16 : BitVec 32 := 1024#32
  let v42 : BitVec 32 := Scalar.muli arg0 c1024_i32_16
  v42
def k0_off8 (i : grid0.Coords) (v32 : BitVec 32) : Fin 3 → Nat :=
  let c0_i32_17 : BitVec 32 := 0#32
  let arg0 : BitVec 32 := BitVec.ofNat 32 (i 0).val
  let c1024_i32_16 : BitVec 32 := 1024#32
  let v42 : BitVec 32 := Scalar.muli arg0 c1024_i32_16
  let v43 : BitVec 32 := v42
  ![v32.toNat, 0, v43.toNat]
def k0_cond3 (v32 : BitVec 32) : BitVec 1 :=
  let c0_i32_11 : BitVec 32 := 0#32
  let v33 : BitVec 1 := Scalar.cmpi .sge v32 c0_i32_11
  let v34 : BitVec 32 := Scalar.extui v33
  let c0_i32_12 : BitVec 32 := 0#32
  let v35 : BitVec 1 := Scalar.cmpi .ne v34 c0_i32_12
  v35

def k0_chk3 (i : grid0.Coords) (v0 : BitVec 32) (v4 : BitVec 32) (v8 : BitVec 32) (v32 : BitVec 32) : Prop :=
  (∀ (k0_h2 : k0_cond2 i v0 v4 v8 = 1#1), ∀ (k0_h3 : k0_cond3 v32 = 1#1), ∀ a, (k0_off8 i v32) a + S1x5632x1024.size a ≤ S8x5632x2048.size a)
theorem k0_off8_inb : ∀ (i : grid0.Coords) (v0 : BitVec 32) (v4 : BitVec 32) (v8 : BitVec 32) (v32 : BitVec 32) (k0_hw3 : k0_chk3 i v0 v4 v8 v32), ∀ (k0_h2 : k0_cond2 i v0 v4 v8 = 1#1), ∀ (k0_h3 : k0_cond3 v32 = 1#1), ∀ a, (k0_off8 i v32) a + S1x5632x1024.size a ≤ S8x5632x2048.size a := fun i v0 v4 v8 v32 k0_hw3 k0_h2 k0_h3 => k0_hw3 k0_h2 k0_h3

def k0_mult5 (i : grid0.Coords) : BitVec 32 :=
  let arg0 : BitVec 32 := BitVec.ofNat 32 (i 0).val
  let c1_i32_17 : BitVec 32 := 1#32
  let v43 : BitVec 32 := Scalar.addi arg0 c1_i32_17
  let c1024_i32_18 : BitVec 32 := 1024#32
  let v44 : BitVec 32 := Scalar.muli v43 c1024_i32_18
  v44
def k0_off9 (i : grid0.Coords) (v42 : BitVec 32) : Fin 3 → Nat :=
  let c0_i32_19 : BitVec 32 := 0#32
  let arg0 : BitVec 32 := BitVec.ofNat 32 (i 0).val
  let c1_i32_17 : BitVec 32 := 1#32
  let v43 : BitVec 32 := Scalar.addi arg0 c1_i32_17
  let c1024_i32_18 : BitVec 32 := 1024#32
  let v44 : BitVec 32 := Scalar.muli v43 c1024_i32_18
  let v45 : BitVec 32 := v44
  ![v42.toNat, 0, v45.toNat]
def k0_cond4 (i : grid0.Coords) (v32 : BitVec 32) : BitVec 1 :=
  let c0_i32_13 : BitVec 32 := 0#32
  let v36 : BitVec 1 := Scalar.cmpi .slt v32 c0_i32_13
  let arg0 : BitVec 32 := BitVec.ofNat 32 (i 0).val
  let c1_i32_14 : BitVec 32 := 1#32
  let v37 : BitVec 32 := Scalar.addi arg0 c1_i32_14
  let c2_i32 : BitVec 32 := 2#32
  let v38 : BitVec 1 := Scalar.cmpi .slt v37 c2_i32
  let v39 : BitVec 1 := Scalar.andi v36 v38
  let v40 : BitVec 32 := Scalar.extui v39
  let c0_i32_15 : BitVec 32 := 0#32
  let v41 : BitVec 1 := Scalar.cmpi .ne v40 c0_i32_15
  v41

def k0_chk4 (i : grid0.Coords) (v0 : BitVec 32) (v4 : BitVec 32) (v8 : BitVec 32) (v32 : BitVec 32) (v42 : BitVec 32) : Prop :=
  (∀ (k0_h2 : k0_cond2 i v0 v4 v8 = 1#1), ∀ (k0_h4 : k0_cond4 i v32 = 1#1), ∀ a, (k0_off9 i v42) a + S1x5632x1024.size a ≤ S8x5632x2048.size a)
theorem k0_off9_inb : ∀ (i : grid0.Coords) (v0 : BitVec 32) (v4 : BitVec 32) (v8 : BitVec 32) (v32 : BitVec 32) (v42 : BitVec 32) (k0_hw4 : k0_chk4 i v0 v4 v8 v32 v42), ∀ (k0_h2 : k0_cond2 i v0 v4 v8 = 1#1), ∀ (k0_h4 : k0_cond4 i v32 = 1#1), ∀ a, (k0_off9 i v42) a + S1x5632x1024.size a ≤ S8x5632x2048.size a := fun i v0 v4 v8 v32 v42 k0_hw4 k0_h2 k0_h4 => k0_hw4 k0_h2 k0_h4

def k0_cond5 (i : grid0.Coords) (v0 : BitVec 32) : BitVec 1 :=
  let arg1 : BitVec 32 := BitVec.ofNat 32 (i 1).val
  let v1 : BitVec 1 := Scalar.cmpi .slt arg1 v0
  let v19 : BitVec 32 := Scalar.extui v1
  let c0_i32_5 : BitVec 32 := 0#32
  let v20 : BitVec 1 := Scalar.cmpi .ne v19 c0_i32_5
  v20

def k0_cond6 (i : grid0.Coords) (v0 : BitVec 32) : BitVec 1 :=
  let arg1 : BitVec 32 := BitVec.ofNat 32 (i 1).val
  let v1 : BitVec 1 := Scalar.cmpi .slt arg1 v0
  let v_true : BitVec 1 := 1#1
  let v21 : BitVec 1 := Scalar.xori v1 v_true
  let v22 : BitVec 32 := Scalar.extui v21
  let c0_i32_6 : BitVec 32 := 0#32
  let v23 : BitVec 1 := Scalar.cmpi .ne v22 c0_i32_6
  v23

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ExpDownReferenceIdeal.lean ====
abbrev S36864x5632 : Shape := ⟨2, ![36864, 5632]⟩
abbrev S8x5632x2048 : Shape := ⟨3, ![8, 5632, 2048]⟩
abbrev S72 : Shape := ⟨1, ![72]⟩
abbrev S1 : Shape := ⟨1, ![1]⟩
abbrev S_ : Shape := ⟨0, ![]⟩
abbrev S72x512 : Shape := ⟨2, ![72, 512]⟩
abbrev S36864 : Shape := ⟨1, ![36864]⟩
abbrev S36864x8x2048 : Shape := ⟨3, ![36864, 8, 2048]⟩
abbrev S36864x1 : Shape := ⟨2, ![36864, 1]⟩
abbrev S8 : Shape := ⟨1, ![8]⟩
abbrev S1x8 : Shape := ⟨2, ![1, 8]⟩
abbrev S36864x8 : Shape := ⟨2, ![36864, 8]⟩
abbrev S36864x8x1 : Shape := ⟨3, ![36864, 8, 1]⟩
abbrev S36864x2048 : Shape := ⟨2, ![36864, 2048]⟩

abbrev nBuf : Space → Nat
  | .hbm => 30
  | .vmem => 0
  | .smem => 0
  | _ => 0

abbrev bufTy : (tb : Table) → Fin (tcTables nBuf tb) → BufTy
  | .hbm, ⟨0, _⟩ => ⟨S36864x5632, .bf16⟩
  | .hbm, ⟨1, _⟩ => ⟨S8x5632x2048, .f32⟩
  | .hbm, ⟨2, _⟩ => ⟨S72, .i32⟩
  | .hbm, ⟨3, _⟩ => ⟨S1, .i32⟩
  | .hbm, ⟨4, _⟩ => ⟨S72, .i32⟩
  | .hbm, ⟨5, _⟩ => ⟨S72, .i32⟩
  | .hbm, ⟨6, _⟩ => ⟨S72, .i32⟩
  | .hbm, ⟨7, _⟩ => ⟨S72, .i1⟩
  | .hbm, ⟨8, _⟩ => ⟨S_, .i32⟩
  | .hbm, ⟨9, _⟩ => ⟨S_, .i32⟩
  | .hbm, ⟨10, _⟩ => ⟨S72, .i32⟩
  | .hbm, ⟨11, _⟩ => ⟨S72, .i32⟩
  | .hbm, ⟨12, _⟩ => ⟨S72x512, .i32⟩
  | .hbm, ⟨13, _⟩ => ⟨S36864, .i32⟩
  | .hbm, ⟨14, _⟩ => ⟨S36864x5632, .f32⟩
  | .hbm, ⟨15, _⟩ => ⟨S36864x8x2048, .f32⟩
  | .hbm, ⟨16, _⟩ => ⟨S36864x1, .i32⟩
  | .hbm, ⟨17, _⟩ => ⟨S8, .i32⟩
  | .hbm, ⟨18, _⟩ => ⟨S1x8, .i32⟩
  | .hbm, ⟨19, _⟩ => ⟨S36864x8, .i32⟩
  | .hbm, ⟨20, _⟩ => ⟨S36864x8, .i32⟩
  | .hbm, ⟨21, _⟩ => ⟨S36864x8, .i1⟩
  | .hbm, ⟨22, _⟩ => ⟨S36864x8x1, .i1⟩
  | .hbm, ⟨23, _⟩ => ⟨S_, .f32⟩
  | .hbm, ⟨24, _⟩ => ⟨S_, .f32⟩
  | .hbm, ⟨25, _⟩ => ⟨S36864x8x2048, .i1⟩
  | .hbm, ⟨26, _⟩ => ⟨S36864x8x2048, .f32⟩
  | .hbm, ⟨27, _⟩ => ⟨S36864x8x2048, .f32⟩
  | .hbm, ⟨28, _⟩ => ⟨S_, .f32⟩
  | .hbm, ⟨29, _⟩ => ⟨S36864x2048, .f32⟩
  | _, _ => ⟨S36864x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩

abbrev nD : Nat := 1
abbrev τ : Topo := Topo.v7x

variable {F : FTy → Type} [FloatOps F]
-- ==== ExpUp.lean ====
abbrev S36864x2048 : Shape := ⟨2, ![36864, 2048]⟩
abbrev S8x2048x5632 : Shape := ⟨3, ![8, 2048, 5632]⟩
abbrev S72 : Shape := ⟨1, ![72]⟩
abbrev S1 : Shape := ⟨1, ![1]⟩
abbrev S36864x5632 : Shape := ⟨2, ![36864, 5632]⟩
abbrev S512x2048 : Shape := ⟨2, ![512, 2048]⟩
abbrev S512x1408 : Shape := ⟨2, ![512, 1408]⟩
abbrev S2048x1408 : Shape := ⟨2, ![2048, 1408]⟩
abbrev S2048x2816 : Shape := ⟨2, ![2048, 2816]⟩
abbrev S2 : Shape := ⟨1, ![2]⟩
abbrev S_ : Shape := ⟨0, ![]⟩
abbrev S1x2048x1408 : Shape := ⟨3, ![1, 2048, 1408]⟩
abbrev S256x256 : Shape := ⟨2, ![256, 256]⟩
abbrev S256x128 : Shape := ⟨2, ![256, 128]⟩
abbrev S2048x512 : Shape := ⟨2, ![2048, 512]⟩
abbrev S512x512 : Shape := ⟨2, ![512, 512]⟩
abbrev S512x256 : Shape := ⟨2, ![512, 256]⟩
abbrev S2048x256 : Shape := ⟨2, ![2048, 256]⟩
abbrev S512x128 : Shape := ⟨2, ![512, 128]⟩

abbrev nBuf : Space → Nat
  | .hbm => 4
  | .vmem => 7
  | .smem => 3
  | _ => 0

abbrev bufTy : (tb : Table) → Fin (tcTables nBuf tb) → BufTy
  | .hbm, ⟨0, _⟩ => ⟨S36864x2048, .f32⟩
  | .hbm, ⟨1, _⟩ => ⟨S8x2048x5632, .f32⟩
  | .hbm, ⟨2, _⟩ => ⟨S8x2048x5632, .f32⟩
  | .hbm, ⟨3, _⟩ => ⟨S36864x5632, .bf16⟩
  | .local _ .vmem, ⟨0, _⟩ => ⟨S512x2048, .f32⟩
  | .local _ .vmem, ⟨1, _⟩ => ⟨S512x2048, .f32⟩
  | .local _ .vmem, ⟨2, _⟩ => ⟨S512x1408, .bf16⟩
  | .local _ .vmem, ⟨3, _⟩ => ⟨S512x1408, .bf16⟩
  | .local _ .vmem, ⟨4, _⟩ => ⟨S2048x1408, .f32⟩
  | .local _ .vmem, ⟨5, _⟩ => ⟨S2048x1408, .f32⟩
  | .local _ .vmem, ⟨6, _⟩ => ⟨S2048x2816, .bf16⟩
  | .local _ .smem, ⟨0, _⟩ => ⟨S72, .i32⟩
  | .local _ .smem, ⟨1, _⟩ => ⟨S1, .i32⟩
  | .local _ .smem, ⟨2, _⟩ => ⟨S72, .i32⟩
  | _, _ => ⟨S36864x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg3 : Ref sig .tc := ⟨.smem, 0, rfl⟩
abbrev main_arg4 : Ref sig .tc := ⟨.smem, 1, rfl⟩
abbrev main_arg5 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 72], ![false, false]⟩

abbrev pre0 : Pipeline.Prefetch sig := ⟨3, ![main_arg3.idx, main_arg4.idx, main_arg5.idx], fun | 0 => main_arg3.names | 1 => main_arg4.names | 2 => main_arg5.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v3 : Index := Scalar.indexCast arg1
  ![v3.toNat]
def k0_off2 (i : grid0.Coords) : Fin 1 → Nat :=
  let arg1 : BitVec 32 := BitVec.ofNat 32 (i 1).val
  let c1_i32 : BitVec 32 := 1#32
  let v5 : BitVec 32 := Scalar.subi arg1 c1_i32
  let c0_i32_0 : BitVec 32 := 0#32
  let v6 : BitVec 32 := Scalar.maxsi v5 c0_i32_0
  let v7 : Index := Scalar.indexCast v6
  ![v7.toNat]
def k0_cond1 (i : grid0.Coords) : BitVec 1 :=
  let arg0 : BitVec 32 := BitVec.ofNat 32 (i 0).val
  let c0_i32_1 : BitVec 32 := 0#32
  let v11 : BitVec 1 := Scalar.cmpi .eq arg0 c0_i32_1
  let arg1 : BitVec 32 := BitVec.ofNat 32 (i 1).val
  let c0_i32_2 : BitVec 32 := 0#32
  let v12 : BitVec 1 := Scalar.cmpi .eq arg1 c0_i32_2
  let v13 : BitVec 1 := Scalar.andi v11 v12
  let v14 : BitVec 32 := Scalar.extui v13
  let c0_i32_3 : BitVec 32 := 0#32
  let v15 : BitVec 1 := Scalar.cmpi .ne v14 c0_i32_3
  v15

def k0_mult1 : BitVec 32 :=
  let c0_i32_8 : BitVec 32 := 0#32
  c0_i32_8
def k0_off3 (v24 : BitVec 32) : Fin 3 → Nat :=
  let c0_i32_10 : BitVec 32 := 0#32
  let c0_i32_8 : BitVec 32 := 0#32
  let v25 : BitVec 32 := c0_i32_8
  ![v24.toNat, 0, 0]

def k0_chk1 (i : grid0.Coords) (v24 : BitVec 32) : Prop :=
  (∀ (k0_h1 : k0_cond1 i = 1#1), ∀ a, (k0_off3 v24) a + S1x2048x1408.size a ≤ S8x2048x5632.size a)
theorem k0_off3_inb : ∀ (i : grid0.Coords) (v24 : BitVec 32) (k0_hw1 : k0_chk1 i v24), ∀ (k0_h1 : k0_cond1 i = 1#1), ∀ a, (k0_off3 v24) a + S1x2048x1408.size a ≤ S8x2048x5632.size a := fun i v24 k0_hw1 k0_h1 => k0_hw1 k0_h1

def k0_off4 (i : grid0.Coords) : Fin 1 → Nat :=
  let arg1 : BitVec 32 := BitVec.ofNat 32 (i 1).val
  let v24 : Index := Scalar.indexCast arg1
  ![v24.toNat]
def k0_mult2 (i : grid0.Coords) : BitVec 32 :=
  let arg0 : BitVec 32 := BitVec.ofNat 32 (i 0).val
  let c1408_i32 : BitVec 32 := 1408#32
  let v26 : BitVec 32 := Scalar.muli arg0 c1408_i32
  v26
def k0_off5 (i : grid0.Coords) (v25 : BitVec 32) : Fin 3 → Nat :=
  let c0_i32_8 : BitVec 32 := 0#32
  let arg0 : BitVec 32 := BitVec.ofNat 32 (i 0).val
  let c1408_i32 : BitVec 32 := 1408#32
  let v26 : BitVec 32 := Scalar.muli arg0 c1408_i32
  let v27 : BitVec 32 := v26
  ![v25.toNat, 0, v27.toNat]
def k0_cond2 (i : grid0.Coords) (v0 : BitVec 32) (v4 : BitVec 32) (v8 : BitVec 32) : BitVec 1 :=
  let arg1 : BitVec 32 := BitVec.ofNat 32 (i 1).val
  let v1 : BitVec 1 := Scalar.cmpi .slt arg1 v0
  let c0_i32 : BitVec 32 := 0#32
  let v2 : BitVec 1 := Scalar.cmpi .eq arg1 c0_i32
  let v9 : BitVec 1 := Scalar.cmpi .ne v4 v8
  let v10 : BitVec 1 := Scalar.ori v2 v9
  let v16 : BitVec 1 := Scalar.andi v1 v10
  let v17 : BitVec 32 := Scalar.extui v16
  let c0_i32_4 : BitVec 32 := 0#32
  let v18 : BitVec 1 := Scalar.cmpi .ne v17 c0_i32_4
  v18

def k0_chk2 (i : grid0.Coords) (v0 : BitVec 32) (v4 : BitVec 32) (v8 : BitVec 32) (v25 : BitVec 32) : Prop :=
  (∀ (k0_h2 : k0_cond2 i v0 v4 v8 = 1#1), ∀ a, (k0_off5 i v25) a + S1x2048x1408.size a ≤ S8x2048x5632.size a)
theorem k0_off5_inb : ∀ (i : grid0.Coords) (v0 : BitVec 32) (v4 : BitVec 32) (v8 : BitVec 32) (v25 : BitVec 32) (k0_hw2 : k0_chk2 i v0 v4 v8 v25), ∀ (k0_h2 : k0_cond2 i v0 v4 v8 = 1#1), ∀ a, (k0_off5 i v25) a + S1x2048x1408.size a ≤ S8x2048x5632.size a := fun i v0 v4 v8 v25 k0_hw2 k0_h2 => k0_hw2 k0_h2

@[reducible] def k0_t1_loop : Scf.Loop 32 :=
  let c0_i32_11 : BitVec 32 := 0#32
  let c8_i32 : BitVec 32 := 8#32
  let v36 : BitVec 32 := Scalar.addi c0_i32_11 c8_i32
  let c1_i32_12 : BitVec 32 := 1#32
  ⟨c0_i32_11, v36, c1_i32_12⟩
def k0_mult3 (k0_t1 : Fin k0_t1_loop.trips) : BitVec 32 :=
  let c0_i32_11 : BitVec 32 := 0#32
  let c1_i32_12 : BitVec 32 := 1#32
  let arg13 : BitVec 32 := Scf.iv c0_i32_11 c1_i32_12 k0_t1
  let c256_i32 : BitVec 32 := 256#32
  let v48 : BitVec 32 := Scalar.muli arg13 c256_i32
  v48
def k0_off6 (k0_t1 : Fin k0_t1_loop.trips) : Fin 2 → Nat :=
  let c0_i32_11 : BitVec 32 := 0#32
  let c1_i32_12 : BitVec 32 := 1#32
  let arg13 : BitVec 32 := Scf.iv c0_i32_11 c1_i32_12 k0_t1
  let c256_i32 : BitVec 32 := 256#32
  let v48 : BitVec 32 := Scalar.muli arg13 c256_i32
  let v49 : BitVec 32 := v48
  let v50 : Index := Scalar.indexCast v49
  let c0_19 : Index := 0#32
  ![v50.toNat, 0]
def k0_off7 (k0_t1 : Fin k0_t1_loop.trips) : Fin 2 → Nat :=
  let c0_i32_11 : BitVec 32 := 0#32
  let c1_i32_12 : BitVec 32 := 1#32
  let arg13 : BitVec 32 := Scf.iv c0_i32_11 c1_i32_12 k0_t1
  let c256_i32 : BitVec 32 := 256#32
  let v48 : BitVec 32 := Scalar.muli arg13 c256_i32
  let v49 : BitVec 32 := v48
  let v53 : Index := Scalar.indexCast v49
  let c0_20 : Index := 0#32
  ![v53.toNat, 0]
def k0_off8 (k0_t1 : Fin k0_t1_loop.trips) : Fin 2 → Nat :=
  let c0_i32_11 : BitVec 32 := 0#32
  let c1_i32_12 : BitVec 32 := 1#32
  let arg13 : BitVec 32 := Scf.iv c0_i32_11 c1_i32_12 k0_t1
  let c256_i32 : BitVec 32 := 256#32
  let v48 : BitVec 32 := Scalar.muli arg13 c256_i32
  let v49 : BitVec 32 := v48
  let v60 : Index := Scalar.indexCast v49
  let c256 : Index := 256#32
  ![v60.toNat, 256]
def k0_off9 (k0_t1 : Fin k0_t1_loop.trips) : Fin 2 → Nat :=
  let c0_i32_11 : BitVec 32 := 0#32
  let c1_i32_12 : BitVec 32 := 1#32
  let arg13 : BitVec 32 := Scf.iv c0_i32_11 c1_i32_12 k0_t1
  let c256_i32 : BitVec 32 := 256#32
  let v48 : BitVec 32 := Scalar.muli arg13 c256_i32
  let v49 : BitVec 32 := v48
  let v64 : Index := Scalar.indexCast v49
  let c256_22 : Index := 256#32
  ![v64.toNat, 256]
def k0_off10 (k0_t1 : Fin k0_t1_loop.trips) : Fin 2 → Nat :=
  let c0_i32_11 : BitVec 32 := 0#32
  let c1_i32_12 : BitVec 32 := 1#32
  let arg13 : BitVec 32 := Scf.iv c0_i32_11 c1_i32_12 k0_t1
  let c256_i32 : BitVec 32 := 256#32
  let v48 : BitVec 32 := Scalar.muli arg13 c256_i32
  let v49 : BitVec 32 := v48
  let v67 : Index := Scalar.indexCast v49
  let c512 : Index := 512#32
  ![v67.toNat, 512]
def k0_off11 (k0_t1 : Fin k0_t1_loop.trips) : Fin 2 → Nat :=
  let c0_i32_11 : BitVec 32 := 0#32
  let c1_i32_12 : BitVec 32 := 1#32
  let arg13 : BitVec 32 := Scf.iv c0_i32_11 c1_i32_12 k0_t1
  let c256_i32 : BitVec 32 := 256#32
  let v48 : BitVec 32 := Scalar.muli arg13 c256_i32
  let v49 : BitVec 32 := v48
  let v74 : Index := Scalar.indexCast v49
  let c768 : Index := 768#32
  ![v74.toNat, 768]
def k0_off12 (k0_t1 : Fin k0_t1_loop.trips) : Fin 2 → Nat :=
  let c0_i32_11 : BitVec 32 := 0#32
  let c1_i32_12 : BitVec 32 := 1#32
  let arg13 : BitVec 32 := Scf.iv c0_i32_11 c1_i32_12 k0_t1
  let c256_i32 : BitVec 32 := 256#32
  let v48 : BitVec 32 := Scalar.muli arg13 c256_i32
  let v49 : BitVec 32 := v48
  let v78 : Index := Scalar.indexCast v49
  let c512_24 : Index := 512#32
  ![v78.toNat, 512]
def k0_off13 (k0_t1 : Fin k0_t1_loop.trips) : Fin 2 → Nat :=
  let c0_i32_11 : BitVec 32 := 0#32
  let c1_i32_12 : BitVec 32 := 1#32
  let arg13 : BitVec 32 := Scf.iv c0_i32_11 c1_i32_12 k0_t1
  let c256_i32 : BitVec 32 := 256#32
  let v48 : BitVec 32 := Scalar.muli arg13 c256_i32
  let v49 : BitVec 32 := v48
  let v81 : Index := Scalar.indexCast v49
  let c1024 : Index := 1024#32
  ![v81.toNat, 1024]
def k0_off14 (k0_t1 : Fin k0_t1_loop.trips) : Fin 2 → Nat :=
  let c0_i32_11 : BitVec 32 := 0#32
  let c1_i32_12 : BitVec 32 := 1#32
  let arg13 : BitVec 32 := Scf.iv c0_i32_11 c1_i32_12 k0_t1
  let c256_i32 : BitVec 32 := 256#32
  let v48 : BitVec 32 := Scalar.muli arg13 c256_i32
  let v49 : BitVec 32 := v48
  let v88 : Index := Scalar.indexCast v49
  let c1280 : Index := 1280#32
  ![v88.toNat, 1280]
def k0_off15 (k0_t1 : Fin k0_t1_loop.trips) : Fin 2 → Nat :=
  let c0_i32_11 : BitVec 32 := 0#32
  let c1_i32_12 : BitVec 32 := 1#32
  let arg13 : BitVec 32 := Scf.iv c0_i32_11 c1_i32_12 k0_t1
  let c256_i32 : BitVec 32 := 256#32
  let v48 : BitVec 32 := Scalar.muli arg13 c256_i32
  let v49 : BitVec 32 := v48
  let v92 : Index := Scalar.indexCast v49
  let c768_26 : Index := 768#32
  ![v92.toNat, 768]
def k0_off16 (k0_t1 : Fin k0_t1_loop.trips) : Fin 2 → Nat :=
  let c0_i32_11 : BitVec 32 := 0#32
  let c1_i32_12 : BitVec 32 := 1#32
  let arg13 : BitVec 32 := Scf.iv c0_i32_11 c1_i32_12 k0_t1
  let c256_i32 : BitVec 32 := 256#32
  let v48 : BitVec 32 := Scalar.muli arg13 c256_i32
  let v49 : BitVec 32 := v48
  let v95 : Index := Scalar.indexCast v49
  let c1536 : Index := 1536#32
  ![v95.toNat, 1536]
def k0_off17 (k0_t1 : Fin k0_t1_loop.trips) : Fin 2 → Nat :=
  let c0_i32_11 : BitVec 32 := 0#32
  let c1_i32_12 : BitVec 32 := 1#32
  let arg13 : BitVec 32 := Scf.iv c0_i32_11 c1_i32_12 k0_t1
  let c256_i32 : BitVec 32 := 256#32
  let v48 : BitVec 32 := Scalar.muli arg13 c256_i32
  let v49 : BitVec 32 := v48
  let v102 : Index := Scalar.indexCast v49
  let c1792 : Index := 1792#32
  ![v102.toNat, 1792]
def k0_off18 (k0_t1 : Fin k0_t1_loop.trips) : Fin 2 → Nat :=
  let c0_i32_11 : BitVec 32 := 0#32
  let c1_i32_12 : BitVec 32 := 1#32
  let arg13 : BitVec 32 := Scf.iv c0_i32_11 c1_i32_12 k0_t1
  let c256_i32 : BitVec 32 := 256#32
  let v48 : BitVec 32 := Scalar.muli arg13 c256_i32
  let v49 : BitVec 32 := v48
  let v106 : Index := Scalar.indexCast v49
  let c1024_28 : Index := 1024#32
  ![v106.toNat, 1024]
def k0_off19 (k0_t1 : Fin k0_t1_loop.trips) : Fin 2 → Nat :=
  let c0_i32_11 : BitVec 32 := 0#32
  let c1_i32_12 : BitVec 32 := 1#32
  let arg13 : BitVec 32 := Scf.iv c0_i32_11 c1_i32_12 k0_t1
  let c256_i32 : BitVec 32 := 256#32
  let v48 : BitVec 32 := Scalar.muli arg13 c256_i32
  let v49 : BitVec 32 := v48
  let v109 : Index := Scalar.indexCast v49
  let c2048 : Index := 2048#32
  ![v109.toNat, 2048]
def k0_off20 (k0_t1 : Fin k0_t1_loop.trips) : Fin 2 → Nat :=
  let c0_i32_11 : BitVec 32 := 0#32
  let c1_i32_12 : BitVec 32 := 1#32
  let arg13 : BitVec 32 := Scf.iv c0_i32_11 c1_i32_12 k0_t1
  let c256_i32 : BitVec 32 := 256#32
  let v48 : BitVec 32 := Scalar.muli arg13 c256_i32
  let v49 : BitVec 32 := v48
  let v116 : Index := Scalar.indexCast v49
  let c2304 : Index := 2304#32
  ![v116.toNat, 2304]
def k0_off21 (k0_t1 : Fin k0_t1_loop.trips) : Fin 2 → Nat :=
  let c0_i32_11 : BitVec 32 := 0#32
  let c1_i32_12 : BitVec 32 := 1#32
  let arg13 : BitVec 32 := Scf.iv c0_i32_11 c1_i32_12 k0_t1
  let c256_i32 : BitVec 32 := 256#32
  let v48 : BitVec 32 := Scalar.muli arg13 c256_i32
  let v49 : BitVec 32 := v48
  let v120 : Index := Scalar.indexCast v49
  let c1280_30 : Index := 1280#32
  ![v120.toNat, 1280]
def k0_off22 (k0_t1 : Fin k0_t1_loop.trips) : Fin 2 → Nat :=
  let c0_i32_11 : BitVec 32 := 0#32
  let c1_i32_12 : BitVec 32 := 1#32
  let arg13 : BitVec 32 := Scf.iv c0_i32_11 c1_i32_12 k0_t1
  let c256_i32 : BitVec 32 := 256#32
  let v48 : BitVec 32 := Scalar.muli arg13 c256_i32
  let v49 : BitVec 32 := v48
  let v123 : Index := Scalar.indexCast v49
  let c2560 : Index := 2560#32
  ![v123.toNat, 2560]
def k0_off23 (k0_t1 : Fin k0_t1_loop.trips) : Fin 2 → Nat :=
  let c0_i32_11 : BitVec 32 := 0#32
  let c1_i32_12 : BitVec 32 := 1#32
  let arg13 : BitVec 32 := Scf.iv c0_i32_11 c1_i32_12 k0_t1
  let c256_i32 : BitVec 32 := 256#32
  let v48 : BitVec 32 := Scalar.muli arg13 c256_i32
  let v49 : BitVec 32 := v48
  let v130 : Index := Scalar.indexCast v49
  let c2688 : Index := 2688#32
  ![v130.toNat, 2688]
def k0_off24 (i : grid0.Coords) : Fin 1 → Nat :=
  let arg1 : BitVec 32 := BitVec.ofNat 32 (i 1).val
  let v37 : Index := Scalar.indexCast arg1
  ![v37.toNat]
def k0_mult4 (i : grid0.Coords) : BitVec 32 :=
  let arg0 : BitVec 32 := BitVec.ofNat 32 (i 0).val
  let c1408_i32_19 : BitVec 32 := 1408#32
  let v48 : BitVec 32 := Scalar.muli arg0 c1408_i32_19
  v48
def k0_off25 (i : grid0.Coords) (v38 : BitVec 32) : Fin 3 → Nat :=
  let c0_i32_21 : BitVec 32 := 0#32
  let arg0 : BitVec 32 := BitVec.ofNat 32 (i 0).val
  let c1408_i32_19 : BitVec 32 := 1408#32
  let v48 : BitVec 32 := Scalar.muli arg0 c1408_i32_19
  let v49 : BitVec 32 := v48
  ![v38.toNat, 0, v49.toNat]
def k0_cond3 (v38 : BitVec 32) : BitVec 1 :=
  let c0_i32_14 : BitVec 32 := 0#32
  let v39 : BitVec 1 := Scalar.cmpi .sge v38 c0_i32_14
  let v40 : BitVec 32 := Scalar.extui v39
  let c0_i32_15 : BitVec 32 := 0#32
  let v41 : BitVec 1 := Scalar.cmpi .ne v40 c0_i32_15
  v41

def k0_chk3 (i : grid0.Coords) (v0 : BitVec 32) (v4 : BitVec 32) (v8 : BitVec 32) (v38 : BitVec 32) : Prop :=
  (∀ (k0_h2 : k0_cond2 i v0 v4 v8 = 1#1), ∀ (k0_h3 : k0_cond3 v38 = 1#1), ∀ a, (k0_off25 i v38) a + S1x2048x1408.size a ≤ S8x2048x5632.size a)
theorem k0_off25_inb : ∀ (i : grid0.Coords) (v0 : BitVec 32) (v4 : BitVec 32) (v8 : BitVec 32) (v38 : BitVec 32) (k0_hw3 : k0_chk3 i v0 v4 v8 v38), ∀ (k0_h2 : k0_cond2 i v0 v4 v8 = 1#1), ∀ (k0_h3 : k0_cond3 v38 = 1#1), ∀ a, (k0_off25 i v38) a + S1x2048x1408.size a ≤ S8x2048x5632.size a := fun i v0 v4 v8 v38 k0_hw3 k0_h2 k0_h3 => k0_hw3 k0_h2 k0_h3

def k0_mult5 (i : grid0.Coords) : BitVec 32 :=
  let arg0 : BitVec 32 := BitVec.ofNat 32 (i 0).val
  let c1_i32_20 : BitVec 32 := 1#32
  let v49 : BitVec 32 := Scalar.addi arg0 c1_i32_20
  let c1408_i32_21 : BitVec 32 := 1408#32
  let v50 : BitVec 32 := Scalar.muli v49 c1408_i32_21
  v50
def k0_off26 (i : grid0.Coords) (v48 : BitVec 32) : Fin 3 → Nat :=
  let c0_i32_23 : BitVec 32 := 0#32
  let arg0 : BitVec 32 := BitVec.ofNat 32 (i 0).val
  let c1_i32_20 : BitVec 32 := 1#32
  let v49 : BitVec 32 := Scalar.addi arg0 c1_i32_20
  let c1408_i32_21 : BitVec 32 := 1408#32
  let v50 : BitVec 32 := Scalar.muli v49 c1408_i32_21
  let v51 : BitVec 32 := v50
  ![v48.toNat, 0, v51.toNat]
def k0_cond4 (i : grid0.Coords) (v38 : BitVec 32) : BitVec 1 :=
  let c0_i32_16 : BitVec 32 := 0#32
  let v42 : BitVec 1 := Scalar.cmpi .slt v38 c0_i32_16
  let arg0 : BitVec 32 := BitVec.ofNat 32 (i 0).val
  let c1_i32_17 : BitVec 32 := 1#32
  let v43 : BitVec 32 := Scalar.addi arg0 c1_i32_17
  let c4_i32 : BitVec 32 := 4#32
  let v44 : BitVec 1 := Scalar.cmpi .slt v43 c4_i32
  let v45 : BitVec 1 := Scalar.andi v42 v44
  let v46 : BitVec 32 := Scalar.extui v45
  let c0_i32_18 : BitVec 32 := 0#32
  let v47 : BitVec 1 := Scalar.cmpi .ne v46 c0_i32_18
  v47

def k0_chk4 (i : grid0.Coords) (v0 : BitVec 32) (v4 : BitVec 32) (v8 : BitVec 32) (v38 : BitVec 32) (v48 : BitVec 32) : Prop :=
  (∀ (k0_h2 : k0_cond2 i v0 v4 v8 = 1#1), ∀ (k0_h4 : k0_cond4 i v38 = 1#1), ∀ a, (k0_off26 i v48) a + S1x2048x1408.size a ≤ S8x2048x5632.size a)
theorem k0_off26_inb : ∀ (i : grid0.Coords) (v0 : BitVec 32) (v4 : BitVec 32) (v8 : BitVec 32) (v38 : BitVec 32) (v48 : BitVec 32) (k0_hw4 : k0_chk4 i v0 v4 v8 v38 v48), ∀ (k0_h2 : k0_cond2 i v0 v4 v8 = 1#1), ∀ (k0_h4 : k0_cond4 i v38 = 1#1), ∀ a, (k0_off26 i v48) a + S1x2048x1408.size a ≤ S8x2048x5632.size a := fun i v0 v4 v8 v38 v48 k0_hw4 k0_h2 k0_h4 => k0_hw4 k0_h2 k0_h4

def k0_cond5 (i : grid0.Coords) (v0 : BitVec 32) : BitVec 1 :=
  let arg1 : BitVec 32 := BitVec.ofNat 32 (i 1).val
  let v1 : BitVec 1 := Scalar.cmpi .slt arg1 v0
  let v19 : BitVec 32 := Scalar.extui v1
  let c0_i32_5 : BitVec 32 := 0#32
  let v20 : BitVec 1 := Scalar.cmpi .ne v19 c0_i32_5
  v20

def k0_cond6 (i : grid0.Coords) (v0 : BitVec 32) : BitVec 1 :=
  let arg1 : BitVec 32 := BitVec.ofNat 32 (i 1).val
  let v1 : BitVec 1 := Scalar.cmpi .slt arg1 v0
  let v_true : BitVec 1 := 1#1
  let v21 : BitVec 1 := Scalar.xori v1 v_true
  let v22 : BitVec 32 := Scalar.extui v21
  let c0_i32_6 : BitVec 32 := 0#32
  let v23 : BitVec 1 := Scalar.cmpi .ne v22 c0_i32_6
  v23

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ExpUpReferenceIdeal.lean ====
abbrev S36864x2048 : Shape := ⟨2, ![36864, 2048]⟩
abbrev S8x2048x5632 : Shape := ⟨3, ![8, 2048, 5632]⟩
abbrev S72 : Shape := ⟨1, ![72]⟩
abbrev S1 : Shape := ⟨1, ![1]⟩
abbrev S_ : Shape := ⟨0, ![]⟩
abbrev S72x512 : Shape := ⟨2, ![72, 512]⟩
abbrev S36864 : Shape := ⟨1, ![36864]⟩
abbrev S36864x8x5632 : Shape := ⟨3, ![36864, 8, 5632]⟩
abbrev S36864x1 : Shape := ⟨2, ![36864, 1]⟩
abbrev S8 : Shape := ⟨1, ![8]⟩
abbrev S1x8 : Shape := ⟨2, ![1, 8]⟩
abbrev S36864x8 : Shape := ⟨2, ![36864, 8]⟩
abbrev S36864x8x1 : Shape := ⟨3, ![36864, 8, 1]⟩
abbrev S36864x5632 : Shape := ⟨2, ![36864, 5632]⟩

abbrev nBuf : Space → Nat
  | .hbm => 42
  | .vmem => 0
  | .smem => 0
  | _ => 0

abbrev bufTy : (tb : Table) → Fin (tcTables nBuf tb) → BufTy
  | .hbm, ⟨0, _⟩ => ⟨S36864x2048, .f32⟩
  | .hbm, ⟨1, _⟩ => ⟨S8x2048x5632, .f32⟩
  | .hbm, ⟨2, _⟩ => ⟨S8x2048x5632, .f32⟩
  | .hbm, ⟨3, _⟩ => ⟨S72, .i32⟩
  | .hbm, ⟨4, _⟩ => ⟨S1, .i32⟩
  | .hbm, ⟨5, _⟩ => ⟨S72, .i32⟩
  | .hbm, ⟨6, _⟩ => ⟨S72, .i32⟩
  | .hbm, ⟨7, _⟩ => ⟨S72, .i32⟩
  | .hbm, ⟨8, _⟩ => ⟨S72, .i1⟩
  | .hbm, ⟨9, _⟩ => ⟨S_, .i32⟩
  | .hbm, ⟨10, _⟩ => ⟨S_, .i32⟩
  | .hbm, ⟨11, _⟩ => ⟨S72, .i32⟩
  | .hbm, ⟨12, _⟩ => ⟨S72, .i32⟩
  | .hbm, ⟨13, _⟩ => ⟨S72x512, .i32⟩
  | .hbm, ⟨14, _⟩ => ⟨S36864, .i32⟩
  | .hbm, ⟨15, _⟩ => ⟨S36864x8x5632, .f32⟩
  | .hbm, ⟨16, _⟩ => ⟨S36864x8x5632, .f32⟩
  | .hbm, ⟨17, _⟩ => ⟨S36864x8x5632, .f32⟩
  | .hbm, ⟨18, _⟩ => ⟨S_, .f32⟩
  | .hbm, ⟨19, _⟩ => ⟨S36864x8x5632, .f32⟩
  | .hbm, ⟨20, _⟩ => ⟨S36864x8x5632, .f32⟩
  | .hbm, ⟨21, _⟩ => ⟨S_, .f32⟩
  | .hbm, ⟨22, _⟩ => ⟨S36864x8x5632, .f32⟩
  | .hbm, ⟨23, _⟩ => ⟨S36864x8x5632, .f32⟩
  | .hbm, ⟨24, _⟩ => ⟨S36864x8x5632, .f32⟩
  | .hbm, ⟨25, _⟩ => ⟨S36864x8x5632, .f32⟩
  | .hbm, ⟨26, _⟩ => ⟨S36864x8x5632, .f32⟩
  | .hbm, ⟨27, _⟩ => ⟨S36864x1, .i32⟩
  | .hbm, ⟨28, _⟩ => ⟨S8, .i32⟩
  | .hbm, ⟨29, _⟩ => ⟨S1x8, .i32⟩
  | .hbm, ⟨30, _⟩ => ⟨S36864x8, .i32⟩
  | .hbm, ⟨31, _⟩ => ⟨S36864x8, .i32⟩
  | .hbm, ⟨32, _⟩ => ⟨S36864x8, .i1⟩
  | .hbm, ⟨33, _⟩ => ⟨S36864x8x1, .i1⟩
  | .hbm, ⟨34, _⟩ => ⟨S_, .f32⟩
  | .hbm, ⟨35, _⟩ => ⟨S_, .f32⟩
  | .hbm, ⟨36, _⟩ => ⟨S36864x8x5632, .i1⟩
  | .hbm, ⟨37, _⟩ => ⟨S36864x8x5632, .f32⟩
  | .hbm, ⟨38, _⟩ => ⟨S36864x8x5632, .f32⟩
  | .hbm, ⟨39, _⟩ => ⟨S_, .f32⟩
  | .hbm, ⟨40, _⟩ => ⟨S36864x5632, .f32⟩
  | .hbm, ⟨41, _⟩ => ⟨S36864x5632, .bf16⟩
  | _, _ => ⟨S36864x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call1_v0 : Ref sig .tc := ⟨.hbm, 16, rfl⟩
abbrev main_call1_v1 : Ref sig .tc := ⟨.hbm, 17, rfl⟩
abbrev main_call1_cst : Ref sig .tc := ⟨.hbm, 18, rfl⟩
abbrev main_call1_v2 : Ref sig .tc := ⟨.hbm, 19, rfl⟩
abbrev main_call1_v3 : Ref sig .tc := ⟨.hbm, 20, rfl⟩
abbrev main_call1_cst_0 : Ref sig .tc := ⟨.hbm, 21, rfl⟩
abbrev main_call1_v4 : Ref sig .tc := ⟨.hbm, 22, rfl⟩
abbrev main_call1_v5 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_v17 : Ref sig .tc := ⟨.hbm, 38, rfl⟩
abbrev main_cst_0 : Ref sig .tc := ⟨.hbm, 39, rfl⟩
abbrev main_v18 : Ref sig .tc := ⟨.hbm, 40, rfl⟩
abbrev main_v19 : Ref sig .tc := ⟨.hbm, 41, rfl⟩

abbrev nD : Nat := 1
abbrev τ : Topo := Topo.v7x

variable {F : FTy → Type} [FloatOps F]
-- ==== OddOut.lean ====
abbrev S16384x2048 : Shape := ⟨2, ![16384, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 9
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S2048x2048, .bf16⟩
  | .hbm, ⟨6, _⟩ => ⟨S1x2048, .f32⟩
  | .hbm, ⟨7, _⟩ => ⟨S1x2048, .f32⟩
  | .hbm, ⟨8, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OddOutReferenceIdeal.lean ====
abbrev S16384x2048 : Shape := ⟨2, ![16384, 2048]⟩
abbrev S2048x2048 : Shape := ⟨2, ![2048, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x2048, .f32⟩
  | .hbm, ⟨27, _⟩ => ⟨S16384x2048, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x2048, .f32⟩
  | .hbm, ⟨33, _⟩ => ⟨S16384x2048, .f32⟩
  | .hbm, ⟨34, _⟩ => ⟨S1x2048, .f32⟩
  | .hbm, ⟨35, _⟩ => ⟨S16384x2048, .f32⟩
  | .hbm, ⟨36, _⟩ => ⟨S16384x2048, .f32⟩
  | .hbm, ⟨37, _⟩ => ⟨S1x2048, .f32⟩
  | .hbm, ⟨38, _⟩ => ⟨S16384x2048, .f32⟩
  | .hbm, ⟨39, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Keys.lean ====
abbrev S2x8192x2048 : Shape := ⟨3, ![2, 8192, 2048]⟩
abbrev S2048x6144 : Shape := ⟨2, ![2048, 6144]⟩
abbrev S16384x2048 : Shape := ⟨2, ![16384, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2x8192x2048, .f32⟩
  | .hbm, ⟨1, _⟩ => ⟨S2048x6144, .f32⟩
  | .hbm, ⟨2, _⟩ => ⟨S2048x6144, .bf16⟩
  | .hbm, ⟨3, _⟩ => ⟨S16384x2048, .f32⟩
  | .hbm, ⟨4, _⟩ => ⟨S16384x2048, .bf16⟩
  | .hbm, ⟨5, _⟩ => ⟨S2048x2048, .bf16⟩
  | .hbm, ⟨6, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KeysReferenceIdeal.lean ====
abbrev S2x8192x2048 : Shape := ⟨3, ![2, 8192, 2048]⟩
abbrev S2048x6144 : Shape := ⟨2, ![2048, 6144]⟩
abbrev S2x8192x6144 : Shape := ⟨3, ![2, 8192, 6144]⟩
abbrev S16384x2048 : Shape := ⟨2, ![16384, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048x6144, .f32⟩
  | .hbm, ⟨2, _⟩ => ⟨S2x8192x6144, .f32⟩
  | .hbm, ⟨3, _⟩ => ⟨S2x8192x2048, .f32⟩
  | .hbm, ⟨4, _⟩ => ⟨S16384x2048, .f32⟩
  | .hbm, ⟨5, _⟩ => ⟨S16384x2048, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Vals.lean ====
abbrev S2x8192x2048 : Shape := ⟨3, ![2, 8192, 2048]⟩
abbrev S2048x6144 : Shape := ⟨2, ![2048, 6144]⟩
abbrev S2048x2048 : Shape := ⟨2, ![2048, 2048]⟩
abbrev S2x2048x8192 : Shape := ⟨3, ![2, 2048, 8192]⟩
abbrev S1024x2048 : Shape := ⟨2, ![1024, 2048]⟩
abbrev S1x1024x2048 : Shape := ⟨3, ![1, 1024, 2048]⟩
abbrev S1x1024x1024 : Shape := ⟨3, ![1, 1024, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2x8192x2048, .f32⟩
  | .hbm, ⟨1, _⟩ => ⟨S2048x6144, .f32⟩
  | .hbm, ⟨2, _⟩ => ⟨S2048x6144, .bf16⟩
  | .hbm, ⟨3, _⟩ => ⟨S2x8192x2048, .bf16⟩
  | .hbm, ⟨4, _⟩ => ⟨S2048x2048, .bf16⟩
  | .hbm, ⟨5, _⟩ => ⟨S2048x2048, .bf16⟩
  | .hbm, ⟨6, _⟩ => ⟨S2x2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1024x1024, .bf16⟩
  | .local _ .vmem, ⟨5, _⟩ => ⟨S1x1024x1024, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== ValsReferenceIdeal.lean ====
abbrev S2x8192x2048 : Shape := ⟨3, ![2, 8192, 2048]⟩
abbrev S2048x6144 : Shape := ⟨2, ![2048, 6144]⟩
abbrev S2x8192x6144 : Shape := ⟨3, ![2, 8192, 6144]⟩
abbrev S2x2048x8192 : Shape := ⟨3, ![2, 2048, 8192]⟩

abbrev nBuf : Space → Nat
  | .hbm => 6
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048x6144, .f32⟩
  | .hbm, ⟨2, _⟩ => ⟨S2x8192x6144, .f32⟩
  | .hbm, ⟨3, _⟩ => ⟨S2x8192x2048, .f32⟩
  | .hbm, ⟨4, _⟩ => ⟨S2x2048x8192, .f32⟩
  | .hbm, ⟨5, _⟩ => ⟨S2x2048x8192, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Tiles.lean ====
/- The tiles the attention kernel reads and the values it forms from them, stated over the arrays alone: the blocks of
   the queries, keys and values, the augmented keys, a tile of scores, one update of the running softmax, and the state
   after the first `j` tiles of a row of tiles. -/
module

public import proofs.«01_k».proof.Proof.Gen.KernelIdeal.Skeleton
public import Idealize.ShloMosaic.Lib.VecWindow
public import Idealize.ShloMosaic.Lib.ValueIdx

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

variable {F : FTy → Type} [FloatOps F] [Named F]

/-! ## The places of the tiles -/

theorem inb_cols {n : ℕ} (i : ℕ) (w : ℕ) (hw : w ≤ 1024) :
    ∀ a : Fin 3, (![0, 0, 1024 * (i % 8)] : Fin 3 → ℕ) a + (![1, n, w] : Fin 3 → ℕ) a ≤ (![1, n, 8192] : Fin 3 → ℕ) a := by
  intro a
  fin_cases a <;> simp <;> omega

theorem inb_rows {n : ℕ} (i : ℕ) :
    ∀ a : Fin 3, (![0, 1024 * (i % 8), 0] : Fin 3 → ℕ) a + (![1, 1024, n] : Fin 3 → ℕ) a ≤ (![1, 8192, n] : Fin 3 → ℕ) a := by
  intro a
  fin_cases a <;> simp <;> omega

theorem inb_aug {n : ℕ} (i : ℕ) :
    ∀ a : Fin 2, (![1024 * (i % 8), 0] : Fin 2 → ℕ) a + (![1024, n] : Fin 2 → ℕ) a ≤ (![8192, n] : Fin 2 → ℕ) a := by
  intro a
  fin_cases a <;> simp <;> omega

theorem inb_lanes (i : ℕ) :
    ∀ a : Fin 4, (![0, 0, 0, 1024 * (i % 8)] : Fin 4 → ℕ) a + (![1, 1, 1, 1024] : Fin 4 → ℕ) a ≤ (![1, 1, 1, 8192] : Fin 4 → ℕ) a := by
  intro a
  fin_cases a <;> simp <;> omega

/-! ## The blocks -/

/-- Tile `i` of an array of columns (the queries or the values, transposed). -/
def colsB (X : Vec F S1x128x8192 .bf16) (i : ℕ) : Vec F S1x128x1024 .bf16 :=
  VecWindow.window X ![0, 0, 1024 * (i % 8)] S1x128x1024.size (inb_cols i 1024 le_rfl)

/-- The first half of tile `i` of an array of columns. -/
def colsHalf (X : Vec F S1x128x8192 .bf16) (i : ℕ) : Vec F S1x128x512 .bf16 :=
  VecWindow.window X ![0, 0, 1024 * (i % 8)] S1x128x512.size (inb_cols i 512 (by omega))

/-- Tile `i` of an array of rows (the keys). -/
def rowsB (X : Vec F S1x8192x128 .bf16) (i : ℕ) : Vec F S1x1024x128 .bf16 :=
  VecWindow.window X ![0, 1024 * (i % 8), 0] S1x1024x128.size (inb_rows i)

/-- Tile `i` of the augmentation of the keys. -/
def augB (A : Vec F S8192x128 .bf16) (i : ℕ) : Vec F S1024x128 .bf16 :=
  VecWindow.window A ![1024 * (i % 8), 0] S1024x128.size (inb_aug i)

/-- Tile `i` of the accumulated forget gates. -/
def lanesB (X : Vec F S1x1x1x8192 .f32) (i : ℕ) : Vec F S1x1x1x1024 .f32 :=
  VecWindow.window X ![0, 0, 0, 1024 * (i % 8)] S1x1x1x1024.size (inb_lanes i)

/-! ## Scores and the running softmax -/

/-- The scores of the queries of tile `i` against the keys of tile `j`: rows are keys, columns queries. -/
def scores (Q : Vec F S1x128x8192 .bf16) (K : Vec F S1x8192x128 .bf16) (A : Vec F S8192x128 .bf16) (i j : ℕ) :
    FVec F S1024x1024 .f32 :=
  k0_pay21 (colsB Q i) (rowsB K j) (augB A j)

/-- What the running softmax of a tile of queries holds: the maxima, the sums and the weighted values. -/
structure Run (F : FTy → Type) [FloatOps F] where
  m : FVec F S1x1024 .f32
  l : FVec F S1x1024 .f32
  acc : FVec F S128x1024 .f32

/-- One tile of keys added to the running softmax. -/
def Run.add (r : Run F) (s : FVec F S1024x1024 .f32) (v : Vec F S1x128x1024 .bf16) : Run F where
  m := k0_pay22 r.m s
  l := k0_pay25 r.m r.l s
  acc := k0_pay26 (k0_pay23 r.m s) (k0_pay24 r.m s) r.acc v

/-- The running softmax of query tile `i` over the first `j` tiles of keys. -/
def runAt (Q : Vec F S1x128x8192 .bf16) (K : Vec F S1x8192x128 .bf16) (A : Vec F S8192x128 .bf16)
    (V : Vec F S1x128x8192 .bf16) (i : ℕ) : ℕ → Run F
  | 0 => ⟨k0_pay69, k0_pay70, k0_pay68⟩
  | j + 1 => (runAt Q K A V i j).add (scores Q K A i j) (colsB V j)

theorem runAt_two (Q : Vec F S1x128x8192 .bf16) (K : Vec F S1x8192x128 .bf16) (A : Vec F S8192x128 .bf16)
    (V : Vec F S1x128x8192 .bf16) (i k : ℕ) :
    runAt Q K A V i (2 * (k + 1)) = ((runAt Q K A V i (2 * k)).add (scores Q K A i (2 * k)) (colsB V (2 * k))).add
      (scores Q K A i (2 * k + 1)) (colsB V (2 * k + 1)) := rfl

/-! ## The diagonal tile and the result -/

/-- The last two steps of a tile of queries, on the two halves of its columns: the scores `d1` of the first half against
    the first half of the diagonal tile of keys, and `d2` of the second half against the whole of it, both masked. Yields
    the sums and the weighted values. -/
def finishL (r : Run F) (d1 : FVec F S512x512 .f32) (d2 : FVec F S1024x512 .f32) : FVec F S1x1024 .f32 :=
  k0_pay10 (k0_pay51 r.m r.l d1) (k0_pay66 r.m r.l d2)

/-- The weighted values once the first half of the columns is finished. -/
def finishHalf (r : Run F) (d1 : FVec F S512x512 .f32) (vh : Vec F S1x128x512 .bf16) : FVec F S128x1024 .f32 :=
  VecWindow.put (s := S128x1024) r.acc ![0, 0] S128x512.size
    (k0_pay52 r.m d1 (VecWindow.window (s := S128x1024) r.acc ![0, 0] S128x512.size inb_S128x1024_S128x512_0_0) vh)

/-- The weighted values once both halves of the columns are finished. -/
def finishAcc (r : Run F) (d1 : FVec F S512x512 .f32) (d2 : FVec F S1024x512 .f32) (vh : Vec F S1x128x512 .bf16)
    (v : Vec F S1x128x1024 .bf16) : FVec F S128x1024 .f32 :=
  VecWindow.put (s := S128x1024) (finishHalf r d1 vh) ![0, 512] S128x512.size
    (k0_pay9 (k0_pay65 r.m d2)
      (VecWindow.window (s := S128x1024) (finishHalf r d1 vh) ![0, 512] S128x512.size inb_S128x1024_S128x512_0_512) (k0_pay67 r.m d2) v)

/-- The scores of the first half of the columns of query tile `i` on the diagonal: formed on their own in an odd tile, a
    window of the tile's scores in an even one. -/
def diag1 (Q : Vec F S1x128x8192 .bf16) (K : Vec F S1x8192x128 .bf16) (A : Vec F S8192x128 .bf16) (i : ℕ) : FVec F S512x512 .f32 :=
  if i % 2 = 1 then k0_pay37 (colsB Q i) (rowsB K i) (augB A i)
  else VecWindow.window (s := S1024x1024) (scores Q K A i i) ![0, 0] S512x512.size inb_S1024x1024_S512x512_0_0

/-- The scores of the second half of the columns of query tile `i` on the diagonal. -/
def diag2 (Q : Vec F S1x128x8192 .bf16) (K : Vec F S1x8192x128 .bf16) (A : Vec F S8192x128 .bf16) (i : ℕ) : FVec F S1024x512 .f32 :=
  if i % 2 = 1 then k0_pay38 (colsB Q i) (rowsB K i) (augB A i)
  else VecWindow.window (s := S1024x1024) (scores Q K A i i) ![0, 512] S1024x512.size inb_S1024x1024_S1024x512_0_512

/-- Tile `i` of the result. -/
def outTile (Q : Vec F S1x128x8192 .bf16) (K : Vec F S1x8192x128 .bf16) (A : Vec F S8192x128 .bf16)
    (V : Vec F S1x128x8192 .bf16) (i : ℕ) : FVec F S1x1024x128 .bf16 :=
  k0_pay11 (finishL (runAt Q K A V i i) (diag1 Q K A i) (diag2 Q K A i))
    (finishAcc (runAt Q K A V i i) (diag1 Q K A i) (diag2 Q K A i) (colsHalf V i) (colsB V i))

theorem outTile_odd (Q : Vec F S1x128x8192 .bf16) (K : Vec F S1x8192x128 .bf16) (A : Vec F S8192x128 .bf16) (V : Vec F S1x128x8192 .bf16) (i : ℕ) (h : i % 2 = 1) :
    outTile Q K A V i =
      k0_pay11 (finishL ((runAt Q K A V i (2 * (i / 2))).add (scores Q K A i (2 * (i / 2))) (colsB V (i - 1)))
          (k0_pay37 (colsB Q i) (rowsB K i) (augB A i)) (k0_pay38 (colsB Q i) (rowsB K i) (augB A i)))
        (finishAcc ((runAt Q K A V i (2 * (i / 2))).add (scores Q K A i (2 * (i / 2))) (colsB V (i - 1)))
          (k0_pay37 (colsB Q i) (rowsB K i) (augB A i)) (k0_pay38 (colsB Q i) (rowsB K i) (augB A i)) (colsHalf V i) (colsB V i)) := by
  obtain ⟨n, rfl⟩ : ∃ n, i = 2 * n + 1 := ⟨i / 2, by omega⟩
  have e1 : 2 * ((2 * n + 1) / 2) = 2 * n := by omega
  have e2 : 2 * n + 1 - 1 = 2 * n := by omega
  rw [outTile, diag1, diag2, if_pos h, if_pos h, e1, e2]
  rfl

theorem outTile_even (Q : Vec F S1x128x8192 .bf16) (K : Vec F S1x8192x128 .bf16) (A : Vec F S8192x128 .bf16) (V : Vec F S1x128x8192 .bf16) (i : ℕ) (h : ¬ i % 2 = 1) :
    outTile Q K A V i =
      k0_pay11 (finishL (runAt Q K A V i (2 * (i / 2)))
          (VecWindow.window (s := S1024x1024) (scores Q K A i (2 * (i / 2))) ![0, 0] S512x512.size inb_S1024x1024_S512x512_0_0)
          (VecWindow.window (s := S1024x1024) (scores Q K A i (2 * (i / 2))) ![0, 512] S1024x512.size inb_S1024x1024_S1024x512_0_512))
        (finishAcc (runAt Q K A V i (2 * (i / 2)))
          (VecWindow.window (s := S1024x1024) (scores Q K A i (2 * (i / 2))) ![0, 0] S512x512.size inb_S1024x1024_S512x512_0_0)
          (VecWindow.window (s := S1024x1024) (scores Q K A i (2 * (i / 2))) ![0, 512] S1024x512.size inb_S1024x1024_S1024x512_0_512)
          (colsHalf V i) (colsB V i)) := by
  have e : 2 * (i / 2) = i := by omega
  rw [outTile, diag1, diag2, if_neg h, if_neg h, e]

/-- The augmentation of the keys, from the accumulated forget gates. -/
def augOf (C : Vec F S1x1x1x8192 .f32) : Vec F S8192x128 .bf16 := fun y =>
  k0_pay1 (lanesB C ((y 0).val / 1024)) (ValueIdx.ix2 ⟨(y 0).val % 1024, Nat.mod_lt _ (by norm_num)⟩ ⟨(y 1).val, (y 1).isLt⟩)

/-- The result of one head. -/
def headOut (Q : Vec F S1x128x8192 .bf16) (K : Vec F S1x8192x128 .bf16) (V : Vec F S1x128x8192 .bf16)
    (C : Vec F S1x1x1x8192 .f32) : Vec F S1x8192x128 .bf16 := fun y =>
  outTile Q K (augOf C) V ((y 1).val / 1024)
    (ValueIdx.ix3 ⟨(y 0).val, (y 0).isLt⟩ ⟨(y 1).val % 1024, Nat.mod_lt _ (by norm_num)⟩ ⟨(y 2).val, (y 2).isLt⟩)

/-! ## Windows at the places the kernel computes -/

theorem window_cols (X : Vec F S1x128x8192 .bf16) {off : Fin 3 → ℕ} (inb : ∀ a, off a + S1x128x1024.size a ≤ S1x128x8192.size a) (i : ℕ)
    (h : off = ![0, 0, 1024 * (i % 8)]) : VecWindow.window (s := S1x128x8192) X off S1x128x1024.size inb = colsB X i := by
  subst h; rfl
theorem window_half (X : Vec F S1x128x8192 .bf16) {off : Fin 3 → ℕ} (inb : ∀ a, off a + S1x128x512.size a ≤ S1x128x8192.size a) (i : ℕ)
    (h : off = ![0, 0, 1024 * (i % 8)]) : VecWindow.window (s := S1x128x8192) X off S1x128x512.size inb = colsHalf X i := by
  subst h; rfl
theorem window_rows (X : Vec F S1x8192x128 .bf16) {off : Fin 3 → ℕ} (inb : ∀ a, off a + S1x1024x128.size a ≤ S1x8192x128.size a) (i : ℕ)
    (h : off = ![0, 1024 * (i % 8), 0]) : VecWindow.window (s := S1x8192x128) X off S1x1024x128.size inb = rowsB X i := by
  subst h; rfl
theorem window_aug (X : Vec F S8192x128 .bf16) {off : Fin 2 → ℕ} (inb : ∀ a, off a + S1024x128.size a ≤ S8192x128.size a) (i : ℕ)
    (h : off = ![1024 * (i % 8), 0]) : VecWindow.window (s := S8192x128) X off S1024x128.size inb = augB X i := by
  subst h; rfl
theorem window_lanes (X : Vec F S1x1x1x8192 .f32) {off : Fin 4 → ℕ} (inb : ∀ a, off a + S1x1x1x1024.size a ≤ S1x1x1x8192.size a) (i : ℕ)
    (h : off = ![0, 0, 0, 1024 * (i % 8)]) : VecWindow.window (s := S1x1x1x8192) X off S1x1x1x1024.size inb = lanesB X i := by
  subst h; rfl

theorem window_rows0 (X : Vec F S1x8192x128 .bf16) (inb : ∀ a, (![0, 0, 0] : Fin 3 → ℕ) a + S1x1024x128.size a ≤ S1x8192x128.size a) :
    VecWindow.window (s := S1x8192x128) X ![0, 0, 0] S1x1024x128.size inb = rowsB X 0 := window_rows X inb 0 rfl
theorem window_cols0 (X : Vec F S1x128x8192 .bf16) (inb : ∀ a, (![0, 0, 0] : Fin 3 → ℕ) a + S1x128x1024.size a ≤ S1x128x8192.size a) :
    VecWindow.window (s := S1x128x8192) X ![0, 0, 0] S1x128x1024.size inb = colsB X 0 := window_cols X inb 0 rfl
theorem window_aug0 (X : Vec F S8192x128 .bf16) (inb : ∀ a, (![0, 0] : Fin 2 → ℕ) a + S1024x128.size a ≤ S8192x128.size a) :
    VecWindow.window (s := S8192x128) X ![0, 0] S1024x128.size inb = augB X 0 := window_aug X inb 0 rfl

/-- A window of the whole of an array is the array. -/
theorem window_whole {s : Shape} {α : Type} (x : s.Idx → α) {off : Fin s.rank → ℕ} (inb : ∀ a, off a + s.size a ≤ s.size a) :
    VecWindow.window x off s.size inb = x := by
  funext y
  exact congrArg x (funext fun a => Fin.ext (by
    show off a + 1 * (y a).val = (y a).val
    have := inb a; omega))

/-- A load covered by earlier stores reads a window of what they leave. -/
theorem readCov_window {κ : Kind} {sp : Space} {s : Shape} {e : EltTy} {Val : EltTy → Type} [∀ e, Nonempty (Val e)] (v : View sig κ sp s e)
    (L : List (View.Piece Val s e)) (off size : Fin s.rank → ℕ) (inb : ∀ a, off a + size a ≤ s.size a) :
    v.readCov L (Rect.unit off size inb).toLoadRect = VecWindow.window (v.read Val (v.writes Val v.junk L)) off size inb := rfl

/-- A load reads a window of what its buffer holds. -/
theorem readAt_window {κ : Kind} {sp : Space} {s : Shape} {e : EltTy} {Val : EltTy → Type} (v : View sig κ sp s e)
    (f : v.ty.Contents Val) (off size : Fin s.rank → ℕ) (inb : ∀ a, off a + size a ≤ s.size a) :
    v.readAt Val (Rect.unit off size inb).toLoadRect f = VecWindow.window (v.read Val f) off size inb := rfl

theorem load_cols (v : View sig .tc .vmem S1x128x8192 .bf16) (X : Vec F S1x128x8192 .bf16) {off : Fin 3 → ℕ} (inb : ∀ a, off a + S1x128x1024.size a ≤ S1x128x8192.size a) (i : ℕ)
    (h : off = ![0, 0, 1024 * (i % 8)]) : v.readAt (Elt F) (Rect.unit (s := S1x128x8192) off S1x128x1024.size inb).toLoadRect (v.rep X) = colsB X i := by
  subst h; rw [readAt_window, View.read_rep]; rfl
theorem load_half (v : View sig .tc .vmem S1x128x8192 .bf16) (X : Vec F S1x128x8192 .bf16) {off : Fin 3 → ℕ} (inb : ∀ a, off a + S1x128x512.size a ≤ S1x128x8192.size a) (i : ℕ)
    (h : off = ![0, 0, 1024 * (i % 8)]) : v.readAt (Elt F) (Rect.unit (s := S1x128x8192) off S1x128x512.size inb).toLoadRect (v.rep X) = colsHalf X i := by
  subst h; rw [readAt_window, View.read_rep]; rfl
theorem load_rows (v : View sig .tc .vmem S1x8192x128 .bf16) (X : Vec F S1x8192x128 .bf16) {off : Fin 3 → ℕ} (inb : ∀ a, off a + S1x1024x128.size a ≤ S1x8192x128.size a) (i : ℕ)
    (h : off = ![0, 1024 * (i % 8), 0]) : v.readAt (Elt F) (Rect.unit (s := S1x8192x128) off S1x1024x128.size inb).toLoadRect (v.rep X) = rowsB X i := by
  subst h; rw [readAt_window, View.read_rep]; rfl
theorem load_aug (v : View sig .tc .vmem S8192x128 .bf16) (X : Vec F S8192x128 .bf16) {off : Fin 2 → ℕ} (inb : ∀ a, off a + S1024x128.size a ≤ S8192x128.size a) (i : ℕ)
    (h : off = ![1024 * (i % 8), 0]) : v.readAt (Elt F) (Rect.unit (s := S8192x128) off S1024x128.size inb).toLoadRect (v.rep X) = augB X i := by
  subst h; rw [readAt_window, View.read_rep]; rfl
theorem load_lanes (v : View sig .tc .vmem S1x1x1x8192 .f32) (X : Vec F S1x1x1x8192 .f32) {off : Fin 4 → ℕ} (inb : ∀ a, off a + S1x1x1x1024.size a ≤ S1x1x1x8192.size a) (i : ℕ)
    (h : off = ![0, 0, 0, 1024 * (i % 8)]) : v.readAt (Elt F) (Rect.unit (s := S1x1x1x8192) off S1x1x1x1024.size inb).toLoadRect (v.rep X) = lanesB X i := by
  subst h; rw [readAt_window, View.read_rep]; rfl
theorem load_cols0 (v : View sig .tc .vmem S1x128x8192 .bf16) (X : Vec F S1x128x8192 .bf16) (inb : ∀ a, (![0, 0, 0] : Fin 3 → ℕ) a + S1x128x1024.size a ≤ S1x128x8192.size a) :
    v.readAt (Elt F) (Rect.unit (s := S1x128x8192) ![0, 0, 0] S1x128x1024.size inb).toLoadRect (v.rep X) = colsB X 0 := load_cols v X inb 0 rfl
theorem load_rows0 (v : View sig .tc .vmem S1x8192x128 .bf16) (X : Vec F S1x8192x128 .bf16) (inb : ∀ a, (![0, 0, 0] : Fin 3 → ℕ) a + S1x1024x128.size a ≤ S1x8192x128.size a) :
    v.readAt (Elt F) (Rect.unit (s := S1x8192x128) ![0, 0, 0] S1x1024x128.size inb).toLoadRect (v.rep X) = rowsB X 0 := load_rows v X inb 0 rfl
theorem load_aug0 (v : View sig .tc .vmem S8192x128 .bf16) (X : Vec F S8192x128 .bf16) (inb : ∀ a, (![0, 0] : Fin 2 → ℕ) a + S1024x128.size a ≤ S8192x128.size a) :
    v.readAt (Elt F) (Rect.unit (s := S8192x128) ![0, 0] S1024x128.size inb).toLoadRect (v.rep X) = augB X 0 := load_aug v X inb 0 rfl

/-! ## Loads over the pieces of the two halves -/

/-- Putting over the whole of an array leaves the payload. -/
theorem put_whole {s : Shape} {α : Type} (x : s.Idx → α) {off : Fin s.rank → ℕ} (inb : ∀ a, off a + s.size a ≤ s.size a) (w : s.Idx → α) :
    VecWindow.put x off s.size w = w := by
  have h := VecWindow.window_put_same x off s.size inb w
  rw [window_whole _ inb] at h
  exact h

theorem cov_second (v : View sig .tc .vmem S1024x1024 .f32) (inb : ∀ a, (![0, 512] : Fin 2 → ℕ) a + S1024x512.size a ≤ S1024x1024.size a)
    (inb' : ∀ a, (![0, 512] : Fin 2 → ℕ) a + S1024x512.size a ≤ S1024x1024.size a) (w : Vec F S1024x512 .f32) (L : List (View.Piece (Elt F) S1024x1024 .f32)) :
    v.readCov (⟨Rect.unit (s := S1024x1024) ![0, 512] S1024x512.size inb, w⟩ :: L) (Rect.unit (s := S1024x1024) ![0, 512] S1024x512.size inb').toLoadRect = w := by
  rw [readCov_window, View.read_writes_cons_put v _ inb w L rfl, VecWindow.window_put_same]

theorem cov_first (v : View sig .tc .vmem S1024x1024 .f32) (inb : ∀ a, (![0, 512] : Fin 2 → ℕ) a + S1024x512.size a ≤ S1024x1024.size a)
    (inb' inb'' : ∀ a, (![0, 0] : Fin 2 → ℕ) a + S512x512.size a ≤ S1024x1024.size a) (w : Vec F S1024x512 .f32) (w' : Vec F S512x512 .f32)
    (L : List (View.Piece (Elt F) S1024x1024 .f32)) :
    v.readCov (⟨Rect.unit (s := S1024x1024) ![0, 512] S1024x512.size inb, w⟩ :: ⟨Rect.unit (s := S1024x1024) ![0, 0] S512x512.size inb', w'⟩ :: L)
      (Rect.unit (s := S1024x1024) ![0, 0] S512x512.size inb'').toLoadRect = w' := by
  rw [readCov_window, View.read_writes_cons_put v _ inb w _ rfl, VecWindow.window_put_of_disjoint _ _ _ _ _ _ _ 1 (.inl (le_refl 512)),
    View.read_writes_cons_put v _ inb' w' L rfl, VecWindow.window_put_same]

theorem cov_acc0 (v : View sig .tc .vmem S128x1024 .f32) (inb : ∀ a, (![0, 0] : Fin 2 → ℕ) a + S128x1024.size a ≤ S128x1024.size a)
    (inb' : ∀ a, (![0, 0] : Fin 2 → ℕ) a + S128x512.size a ≤ S128x1024.size a) (w : Vec F S128x1024 .f32) (L : List (View.Piece (Elt F) S128x1024 .f32)) :
    v.readCov (⟨Rect.unit (s := S128x1024) ![0, 0] S128x1024.size inb, w⟩ :: L) (Rect.unit (s := S128x1024) ![0, 0] S128x512.size inb').toLoadRect =
      VecWindow.window (s := S128x1024) w ![0, 0] S128x512.size inb' := by
  rw [readCov_window, View.read_writes_full]

theorem cov_acc1 (v : View sig .tc .vmem S128x1024 .f32) (inb : ∀ a, (![0, 0] : Fin 2 → ℕ) a + S128x1024.size a ≤ S128x1024.size a)
    (inb₀ : ∀ a, (![0, 0] : Fin 2 → ℕ) a + S128x512.size a ≤ S128x1024.size a)
    (inb' : ∀ a, (![0, 512] : Fin 2 → ℕ) a + S128x512.size a ≤ S128x1024.size a) (u : Vec F S128x512 .f32) (w : Vec F S128x1024 .f32)
    (L : List (View.Piece (Elt F) S128x1024 .f32)) :
    v.readCov (⟨Rect.unit (s := S128x1024) ![0, 0] S128x512.size inb₀, u⟩ :: ⟨Rect.unit (s := S128x1024) ![0, 0] S128x1024.size inb, w⟩ :: L)
      (Rect.unit (s := S128x1024) ![0, 512] S128x512.size inb').toLoadRect =
      VecWindow.window (s := S128x1024) (VecWindow.put (s := S128x1024) w ![0, 0] S128x512.size u) ![0, 512] S128x512.size inb' := by
  rw [readCov_window, View.read_writes_cons_put v _ inb₀ u _ rfl, View.read_writes_full]

theorem cov_acc2 (v : View sig .tc .vmem S128x1024 .f32) (inb inb'' : ∀ a, (![0, 0] : Fin 2 → ℕ) a + S128x1024.size a ≤ S128x1024.size a)
    (inb₀ : ∀ a, (![0, 0] : Fin 2 → ℕ) a + S128x512.size a ≤ S128x1024.size a)
    (inb' : ∀ a, (![0, 512] : Fin 2 → ℕ) a + S128x512.size a ≤ S128x1024.size a) (u u' : Vec F S128x512 .f32) (w : Vec F S128x1024 .f32)
    (L : List (View.Piece (Elt F) S128x1024 .f32)) :
    v.readCov (⟨Rect.unit (s := S128x1024) ![0, 512] S128x512.size inb', u'⟩ :: ⟨Rect.unit (s := S128x1024) ![0, 0] S128x512.size inb₀, u⟩ ::
        ⟨Rect.unit (s := S128x1024) ![0, 0] S128x1024.size inb, w⟩ :: L)
      (Rect.unit (s := S128x1024) ![0, 0] S128x1024.size inb'').toLoadRect =
      VecWindow.put (s := S128x1024) (VecWindow.put (s := S128x1024) w ![0, 0] S128x512.size u) ![0, 512] S128x512.size u' := by
  rw [readCov_window, View.read_writes_cons_put v _ inb' u' _ rfl, View.read_writes_cons_put v _ inb₀ u _ rfl, View.read_writes_full]
  exact window_whole _ _

theorem at_acc1 (v : View sig .tc .vmem S128x1024 .f32)
    (inb₀ : ∀ a, (![0, 0] : Fin 2 → ℕ) a + S128x512.size a ≤ S128x1024.size a)
    (inb' : ∀ a, (![0, 512] : Fin 2 → ℕ) a + S128x512.size a ≤ S128x1024.size a) (u : Vec F S128x512 .f32) (w : Vec F S128x1024 .f32) :
    v.readAt (Elt F) (Rect.unit (s := S128x1024) ![0, 512] S128x512.size inb').toLoadRect
      (v.writes (Elt F) (v.rep w) [⟨Rect.unit (s := S128x1024) ![0, 0] S128x512.size inb₀, u⟩]) =
      VecWindow.window (s := S128x1024) (VecWindow.put (s := S128x1024) w ![0, 0] S128x512.size u) ![0, 512] S128x512.size inb' := by
  rw [readAt_window, View.read_writes_cons_put v _ inb₀ u _ rfl, View.writes_nil, View.read_rep]

theorem at_acc2 (v : View sig .tc .vmem S128x1024 .f32) (inb'' : ∀ a, (![0, 0] : Fin 2 → ℕ) a + S128x1024.size a ≤ S128x1024.size a)
    (inb₀ : ∀ a, (![0, 0] : Fin 2 → ℕ) a + S128x512.size a ≤ S128x1024.size a)
    (inb' : ∀ a, (![0, 512] : Fin 2 → ℕ) a + S128x512.size a ≤ S128x1024.size a) (u u' : Vec F S128x512 .f32) (w : Vec F S128x1024 .f32) :
    v.readAt (Elt F) (Rect.unit (s := S128x1024) ![0, 0] S128x1024.size inb'').toLoadRect
      (v.writes (Elt F) (v.rep w) [⟨Rect.unit (s := S128x1024) ![0, 512] S128x512.size inb', u'⟩, ⟨Rect.unit (s := S128x1024) ![0, 0] S128x512.size inb₀, u⟩]) =
      VecWindow.put (s := S128x1024) (VecWindow.put (s := S128x1024) w ![0, 0] S128x512.size u) ![0, 512] S128x512.size u' := by
  rw [readAt_window, View.read_writes_cons_put v _ inb' u' _ rfl, View.read_writes_cons_put v _ inb₀ u _ rfl, View.writes_nil, View.read_rep]
  exact window_whole _ _

theorem at_rep (v : View sig .tc .vmem S1024x1024 .f32) (X : Vec F S1024x1024 .f32) {off size : Fin 2 → ℕ} (inb : ∀ a, off a + size a ≤ S1024x1024.size a) :
    v.readAt (Elt F) (Rect.unit (s := S1024x1024) off size inb).toLoadRect (v.rep X) = VecWindow.window (s := S1024x1024) X off size inb :=
  View.readAt_rep_unit v X inb rfl inb
theorem at_acc (v : View sig .tc .vmem S128x1024 .f32) (X : Vec F S128x1024 .f32) {off size : Fin 2 → ℕ} (inb : ∀ a, off a + size a ≤ S128x1024.size a) :
    v.readAt (Elt F) (Rect.unit (s := S128x1024) off size inb).toLoadRect (v.rep X) = VecWindow.window (s := S128x1024) X off size inb :=
  View.readAt_rep_unit v X inb rfl inb

/-- Once both halves of the columns are put nothing of what was there before is left. -/
theorem put_halves (x x' : Vec F S128x1024 .f32) (u u' : Vec F S128x512 .f32) :
    VecWindow.put (s := S128x1024) (VecWindow.put (s := S128x1024) x ![0, 0] S128x512.size u) ![0, 512] S128x512.size u' =
      VecWindow.put (s := S128x1024) (VecWindow.put (s := S128x1024) x' ![0, 0] S128x512.size u) ![0, 512] S128x512.size u' := by
  funext y
  unfold VecWindow.put
  split
  · rfl
  · rename_i h
    have h0 : (y 0).val < 128 := (y 0).isLt
    have h1 : (y 1).val < 1024 := (y 1).isLt
    have hy : ∀ a, (![0, 0] : Fin 2 → ℕ) a ≤ (y a).val ∧ (y a).val < (![0, 0] : Fin 2 → ℕ) a + S128x512.size a := by
      refine Fin.forall_fin_two.mpr ⟨⟨Nat.zero_le _, by show (y 0).val < 0 + 128; omega⟩, ⟨Nat.zero_le _, ?_⟩⟩
      show (y 1).val < 0 + 512
      by_contra hc
      exact h (Fin.forall_fin_two.mpr ⟨⟨Nat.zero_le _, by show (y 0).val < 0 + 128; omega⟩, ⟨by show 512 ≤ (y 1).val; omega, by show (y 1).val < 512 + 512; omega⟩⟩)
    rw [dif_pos hy, dif_pos hy]

theorem cov_halves (x : Vec F S128x1024 .f32) (v : View sig .tc .vmem S128x1024 .f32) (inb'' : ∀ a, (![0, 0] : Fin 2 → ℕ) a + S128x1024.size a ≤ S128x1024.size a)
    (inb₀ : ∀ a, (![0, 0] : Fin 2 → ℕ) a + S128x512.size a ≤ S128x1024.size a)
    (inb' : ∀ a, (![0, 512] : Fin 2 → ℕ) a + S128x512.size a ≤ S128x1024.size a) (u u' : Vec F S128x512 .f32) :
    v.readCov [⟨Rect.unit (s := S128x1024) ![0, 512] S128x512.size inb', u'⟩, ⟨Rect.unit (s := S128x1024) ![0, 0] S128x512.size inb₀, u⟩]
      (Rect.unit (s := S128x1024) ![0, 0] S128x1024.size inb'').toLoadRect =
      VecWindow.put (s := S128x1024) (VecWindow.put (s := S128x1024) x ![0, 0] S128x512.size u) ![0, 512] S128x512.size u' := by
  rw [readCov_window, View.read_writes_cons_put v _ inb' u' _ rfl, View.read_writes_cons_put v _ inb₀ u _ rfl, put_halves _ x]
  exact window_whole _ _

theorem finishAcc_eq (r : Run F) (d1 : FVec F S512x512 .f32) (d2 : FVec F S1024x512 .f32) (vh : Vec F S1x128x512 .bf16) (v : Vec F S1x128x1024 .bf16) :
    finishAcc r d1 d2 vh v = VecWindow.put (s := S128x1024) (finishHalf r d1 vh) ![0, 512] S128x512.size
      (k0_pay9 (k0_pay65 r.m d2) (VecWindow.window (s := S128x1024) r.acc ![0, 512] S128x512.size inb_S128x1024_S128x512_0_512) (k0_pay67 r.m d2) v) := by
  rw [finishAcc, finishHalf, VecWindow.window_put_of_disjoint _ _ _ _ _ _ _ 1 (.inr (le_refl 512))]

/-! ## The loops' places in closed form -/

theorem off3_at : ∀ t : Fin k0_t2_loop.trips, k0_off3 t = ![0, 0, 1024 * ((t.val) % 8)] := by decide +kernel
theorem off4_at1 : ∀ (t : Fin k0_t2_loop.trips) (k : Fin (k0_t3_loop t).trips), k0_cond1 t = 1#1 → k0_off4 t k 1#32 = ![0, 1024 * ((2 * k.val + 1) % 8), 0] := by decide +kernel
theorem off4_at2 : ∀ (t : Fin k0_t2_loop.trips) (k : Fin (k0_t3_loop t).trips), k0_cond1 t = 1#1 → k0_off4 t k 2#32 = ![0, 1024 * ((2 * k.val + 2) % 8), 0] := by decide +kernel
theorem off5_at1 : ∀ (t : Fin k0_t2_loop.trips) (k : Fin (k0_t3_loop t).trips), k0_cond1 t = 1#1 → k0_off5 t k 1#32 = ![1024 * ((2 * k.val + 1) % 8), 0] := by decide +kernel
theorem off5_at2 : ∀ (t : Fin k0_t2_loop.trips) (k : Fin (k0_t3_loop t).trips), k0_cond1 t = 1#1 → k0_off5 t k 2#32 = ![1024 * ((2 * k.val + 2) % 8), 0] := by decide +kernel
theorem off6_at : ∀ (t : Fin k0_t2_loop.trips) (k : Fin (k0_t3_loop t).trips), k0_cond1 t = 1#1 → k0_off6 t k = ![0, 0, 1024 * ((2 * k.val) % 8)] := by decide +kernel
theorem off7_at : ∀ (t : Fin k0_t2_loop.trips) (k : Fin (k0_t3_loop t).trips), k0_cond1 t = 1#1 → k0_off7 t k = ![0, 0, 1024 * ((2 * k.val + 1) % 8)] := by decide +kernel
theorem off13_at : ∀ t : Fin k0_t2_loop.trips, k0_off13 t = ![0, 0, 1024 * ((t.val) % 8)] := by decide +kernel
theorem off14_at : ∀ t : Fin k0_t2_loop.trips, k0_off14 t = ![0, 1024 * ((t.val) % 8), 0] := by decide +kernel
theorem off15_at : ∀ t : Fin k0_t2_loop.trips, k0_off15 t = ![1024 * ((t.val) % 8), 0] := by decide +kernel
theorem off16_at : ∀ t : Fin k0_t2_loop.trips, k0_cond2 t = 1#1 → k0_off16 t = ![0, 0, 1024 * ((t.val - 1) % 8)] := by decide +kernel
theorem off17_at : ∀ t : Fin k0_t2_loop.trips, k0_off17 t = ![0, 0, 1024 * ((min (t.val + 1) 7) % 8)] := by decide +kernel
theorem off18_at : ∀ t : Fin k0_t2_loop.trips, k0_off18 t = ![0, 0, 1024 * ((t.val) % 8)] := by decide +kernel
theorem off19_at : ∀ t : Fin k0_t2_loop.trips, k0_off19 t = ![0, 0, 1024 * ((min (t.val + 1) 7) % 8)] := by decide +kernel
theorem off20_at : ∀ t : Fin k0_t2_loop.trips, k0_off20 t = ![0, 0, 1024 * ((t.val) % 8)] := by decide +kernel
theorem off21_at : ∀ t : Fin k0_t2_loop.trips, k0_off21 t = ![0, 0, 1024 * ((t.val) % 8)] := by decide +kernel
theorem off22_at : ∀ t : Fin k0_t2_loop.trips, k0_off22 t = ![0, 1024 * ((t.val) % 8), 0] := by decide +kernel
theorem t3_trips : ∀ t : Fin k0_t2_loop.trips, k0_cond1 t = 1#1 → 2 * (k0_t3_loop t).trips = 2 * (t.val / 2) := by decide +kernel
theorem t4_trips : ∀ t : Fin k0_t2_loop.trips, k0_cond1 t = 1#1 → (k0_t4_loop t).trips = 0 := by decide +kernel
theorem cond2_iff : ∀ t : Fin k0_t2_loop.trips, k0_cond2 t = 1#1 ↔ t.val % 2 = 1 := by decide +kernel
theorem off23_at : ∀ t : Fin k0_t2_loop.trips, k0_off23 t = ![0, 0, 1024 * ((t.val) % 8)] := by decide +kernel
theorem off24_at1 : ∀ (t : Fin k0_t2_loop.trips) (k : Fin (k0_t5_loop t).trips), ¬ k0_cond1 t = 1#1 → k0_off24 t k 1#32 = ![0, 1024 * ((2 * k.val + 1) % 8), 0] := by decide +kernel
theorem off24_at2 : ∀ (t : Fin k0_t2_loop.trips) (k : Fin (k0_t5_loop t).trips), ¬ k0_cond1 t = 1#1 → k0_off24 t k 2#32 = ![0, 1024 * ((2 * k.val + 2) % 8), 0] := by decide +kernel
theorem off25_at1 : ∀ (t : Fin k0_t2_loop.trips) (k : Fin (k0_t5_loop t).trips), ¬ k0_cond1 t = 1#1 → k0_off25 t k 1#32 = ![1024 * ((2 * k.val + 1) % 8), 0] := by decide +kernel
theorem off25_at2 : ∀ (t : Fin k0_t2_loop.trips) (k : Fin (k0_t5_loop t).trips), ¬ k0_cond1 t = 1#1 → k0_off25 t k 2#32 = ![1024 * ((2 * k.val + 2) % 8), 0] := by decide +kernel
theorem off26_at : ∀ (t : Fin k0_t2_loop.trips) (k : Fin (k0_t5_loop t).trips), ¬ k0_cond1 t = 1#1 → k0_off26 t k = ![0, 0, 1024 * ((2 * k.val) % 8)] := by decide +kernel
theorem off27_at : ∀ (t : Fin k0_t2_loop.trips) (k : Fin (k0_t5_loop t).trips), ¬ k0_cond1 t = 1#1 → k0_off27 t k = ![0, 0, 1024 * ((2 * k.val + 1) % 8)] := by decide +kernel
theorem off33_at : ∀ t : Fin k0_t2_loop.trips, k0_off33 t = ![0, 0, 1024 * ((t.val) % 8)] := by decide +kernel
theorem off34_at : ∀ t : Fin k0_t2_loop.trips, k0_off34 t = ![0, 1024 * ((t.val) % 8), 0] := by decide +kernel
theorem off35_at : ∀ t : Fin k0_t2_loop.trips, k0_off35 t = ![1024 * ((t.val) % 8), 0] := by decide +kernel
theorem off36_at : ∀ t : Fin k0_t2_loop.trips, k0_cond3 t = 1#1 → k0_off36 t = ![0, 0, 1024 * ((t.val - 1) % 8)] := by decide +kernel
theorem off37_at : ∀ t : Fin k0_t2_loop.trips, k0_off37 t = ![0, 0, 1024 * ((min (t.val + 1) 7) % 8)] := by decide +kernel
theorem off38_at : ∀ t : Fin k0_t2_loop.trips, k0_off38 t = ![0, 0, 1024 * ((t.val) % 8)] := by decide +kernel
theorem off39_at : ∀ t : Fin k0_t2_loop.trips, k0_off39 t = ![0, 0, 1024 * ((min (t.val + 1) 7) % 8)] := by decide +kernel
theorem off40_at : ∀ t : Fin k0_t2_loop.trips, k0_off40 t = ![0, 0, 1024 * ((t.val) % 8)] := by decide +kernel
theorem off41_at : ∀ t : Fin k0_t2_loop.trips, k0_off41 t = ![0, 0, 1024 * ((t.val) % 8)] := by decide +kernel
theorem off42_at : ∀ t : Fin k0_t2_loop.trips, k0_off42 t = ![0, 1024 * ((t.val) % 8), 0] := by decide +kernel
theorem t5_trips : ∀ t : Fin k0_t2_loop.trips, ¬ k0_cond1 t = 1#1 → 2 * (k0_t5_loop t).trips = 2 * (t.val / 2) := by decide +kernel
theorem t6_trips : ∀ t : Fin k0_t2_loop.trips, ¬ k0_cond1 t = 1#1 → (k0_t6_loop t).trips = 0 := by decide +kernel
theorem cond3_iff : ∀ t : Fin k0_t2_loop.trips, k0_cond3 t = 1#1 ↔ t.val % 2 = 1 := by decide +kernel
theorem cond1_iff : ∀ t : Fin k0_t2_loop.trips, k0_cond1 t = 1#1 ↔ ((t.val + 1) / 2) % 2 = 0 := by decide +kernel
theorem t2_trips : k0_t2_loop.trips = 8 := by decide +kernel
theorem t1_trips : k0_t1_loop.trips = 8 := by decide +kernel
theorem off1_at : ∀ t : Fin k0_t1_loop.trips, k0_off1 t = ![0, 0, 0, 1024 * (t.val % 8)] := by decide +kernel
theorem off2_at : ∀ t : Fin k0_t1_loop.trips, k0_off2 t = ![1024 * (t.val % 8), 0] := by decide +kernel

end Cert.Proof.KernelIdeal
-- ==== Proof.Inner.lean ====
/- The two loops over the pairs of unmasked tiles of keys: one trip of each adds two tiles to the running softmax of a
   tile of queries. The loops differ in which of the two score buffers holds the tile formed first. -/
module

public import proofs.«01_k».proof.Proof.Tiles
public import proofs.«01_k».proof.Proof.Gen.KernelIdeal.Loops
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

abbrev UU (nD : Nat) (τ : Topo) : Type := UR sig nD τ
abbrev 𝒱₀ : Variants := Variants.none
local notation "𝕄" => MT nD τ sig Unit (Elt F) ℕ (UR sig nD τ) ℕ

variable (c : Dev nD) (i : grid0.Coords) (arg2 : Memref sig .tc .vmem S1x128x8192 .bf16) (harg2 : arg2.IsWhole) (arg3 : Memref sig .tc .vmem S1x8192x128 .bf16) (harg3 : arg3.IsWhole) (arg4 : Memref sig .tc .vmem S1x128x8192 .bf16) (harg4 : arg4.IsWhole) (arg5 : Memref sig .tc .vmem S1x1x1x8192 .f32) (harg5 : arg5.IsWhole) (arg6 : Memref sig .tc .vmem S1x8192x128 .bf16) (harg6 : arg6.IsWhole) (arg7 : Memref sig .tc .vmem S128x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S8192x128 .bf16) (harg10 : arg10.IsWhole)

/-- One trip of loop 3: the two tiles of keys `2 k` and `2 k + 1` are added to the running softmax, the first from the
    scores `arg8` holds, and `arg8` is left with the scores of tile `2 k + 2`. -/
theorem trip3 (t : Fin k0_t2_loop.trips) (arg11 : BitVec 32) (h1 : k0_cond1 t = 1#1) (k : Fin (k0_t3_loop t).trips)
    (Q : Vec F S1x128x8192 .bf16) (K : Vec F S1x8192x128 .bf16) (V : Vec F S1x128x8192 .bf16) (A : Vec F S8192x128 .bf16)
    (r r' : Run F) (s s' : FVec F S1024x1024 .f32) (acc : FVec F S1x1024 .f32 × FVec F S1x1024 .f32)
    (hr : r' = (r.add s (colsB V (2 * k.val))).add (scores Q K A t.val (2 * k.val + 1)) (colsB V (2 * k.val + 1)))
    (hs : s' = scores Q K A t.val (2 * k.val + 2)) :
    iprop(⌜acc = (r.m, r.l)⌝ ∗
      (arg2.view.loc (c : Thread nD τ) ↦[arg2.view.set]{fullShare} arg2.view.rep Q) ∗
      (arg3.view.loc (c : Thread nD τ) ↦[arg3.view.set]{fullShare} arg3.view.rep K) ∗
      (arg4.view.loc (c : Thread nD τ) ↦[arg4.view.set]{fullShare} arg4.view.rep V) ∗
      (arg10.view.loc (c : Thread nD τ) ↦[arg10.view.set]{fullShare} arg10.view.rep A) ∗
      (arg7.view.loc (c : Thread nD τ) ↦[arg7.view.set]{fullShare} arg7.view.rep r.acc) ∗
      (arg8.view.loc (c : Thread nD τ) ↦[arg8.view.set]{fullShare} arg8.view.rep s) ∗
      (∃ g : BufTy.Contents (Elt F) arg9.view.ty, arg9.view.loc (c : Thread nD τ) ↦[arg9.view.set]{fullShare} g) : sProp 𝕄) ⊢
    wp frame (wpE (defs₀ (F := F)) 𝒱₀ (c : Thread nD τ) none) Set.univ (k0_t3_body (F := F) i arg2 harg2 arg3 harg3 arg4 harg4 arg5 harg5 arg6 harg6 arg7 harg7 arg8 harg8 arg9 harg9 arg10 harg10 t arg11 h1 k acc)
      (fun acc' => iprop(⌜acc' = (r'.m, r'.l)⌝ ∗
      (arg2.view.loc (c : Thread nD τ) ↦[arg2.view.set]{fullShare} arg2.view.rep Q) ∗
      (arg3.view.loc (c : Thread nD τ) ↦[arg3.view.set]{fullShare} arg3.view.rep K) ∗
      (arg4.view.loc (c : Thread nD τ) ↦[arg4.view.set]{fullShare} arg4.view.rep V) ∗
      (arg10.view.loc (c : Thread nD τ) ↦[arg10.view.set]{fullShare} arg10.view.rep A) ∗
      (arg7.view.loc (c : Thread nD τ) ↦[arg7.view.set]{fullShare} arg7.view.rep r'.acc) ∗
      (arg8.view.loc (c : Thread nD τ) ↦[arg8.view.set]{fullShare} arg8.view.rep s') ∗
      (∃ g : BufTy.Contents (Elt F) arg9.view.ty, arg9.view.loc (c : Thread nD τ) ↦[arg9.view.set]{fullShare} g))) := by
  subst hr hs
  iintro ⟨%he, H2, H3, H4, H10, H7, H8, %g9, H9⟩
  subst he
  unfold k0_t3_body
  sl_exec
  sl_step
  isplitr
  · ipureintro
    sl_unfold_run_names
    simp -proj only [View.readAt_rep_full, View.readCov_full, View.read_writes_full]
    try rw [load_cols _ _ _ _ (off3_at t)]
    try rw [load_rows _ _ _ _ (off4_at1 t k h1)]
    try rw [load_rows _ _ _ _ (off4_at2 t k h1)]
    try rw [load_aug _ _ _ _ (off5_at1 t k h1)]
    try rw [load_aug _ _ _ _ (off5_at2 t k h1)]
    try rw [load_cols _ _ _ _ (off6_at t k h1)]
    try rw [load_cols _ _ _ _ (off7_at t k h1)]
    rfl
  isplitl [H2]
  · iexact H2
  isplitl [H3]
  · iexact H3
  isplitl [H4]
  · iexact H4
  isplitl [H10]
  · iexact H10
  isplitl [H7]
  · iapply (pointsTo_rep_of_read (c : Thread nD τ) arg7 _ _ _ ?_) $$ H7
    sl_unfold_run_names
    simp -proj only [View.readAt_rep_full, View.readCov_full, View.read_writes_full]
    try rw [load_cols _ _ _ _ (off3_at t)]
    try rw [load_rows _ _ _ _ (off4_at1 t k h1)]
    try rw [load_rows _ _ _ _ (off4_at2 t k h1)]
    try rw [load_aug _ _ _ _ (off5_at1 t k h1)]
    try rw [load_aug _ _ _ _ (off5_at2 t k h1)]
    try rw [load_cols _ _ _ _ (off6_at t k h1)]
    try rw [load_cols _ _ _ _ (off7_at t k h1)]
    rfl
  isplitl [H8]
  · iapply (pointsTo_rep_of_read (c : Thread nD τ) arg8 _ _ _ ?_) $$ H8
    sl_unfold_run_names
    simp -proj only [View.readAt_rep_full, View.readCov_full, View.read_writes_full]
    try rw [load_cols _ _ _ _ (off3_at t)]
    try rw [load_rows _ _ _ _ (off4_at1 t k h1)]
    try rw [load_rows _ _ _ _ (off4_at2 t k h1)]
    try rw [load_aug _ _ _ _ (off5_at1 t k h1)]
    try rw [load_aug _ _ _ _ (off5_at2 t k h1)]
    try rw [load_cols _ _ _ _ (off6_at t k h1)]
    try rw [load_cols _ _ _ _ (off7_at t k h1)]
    rfl
  iexists _
  iexact H9

/-- The invariant of loop 3: before trip `k` the running softmax of query tile `t` is that of the first `2 k` tiles of
    keys, and `arg8` holds the scores of the next one. -/
@[instance_reducible] def loopInv3 (t : Fin k0_t2_loop.trips) (arg11 : BitVec 32) (h1 : k0_cond1 t = 1#1)
    (Q : Vec F S1x128x8192 .bf16) (K : Vec F S1x8192x128 .bf16) (V : Vec F S1x128x8192 .bf16) (A : Vec F S8192x128 .bf16) :
    LoopInvTy_k0_t3 (F := F) Unit ℕ (UU nD τ) ℕ 𝒱₀ c none Set.univ i arg2 harg2 arg3 harg3 arg4 harg4 arg5 harg5 arg6 harg6 arg7 harg7 arg8 harg8 arg9 harg9 arg10 harg10 t arg11 h1 (k0_pay69, k0_pay70) where
  inv := fun k acc => iprop(⌜acc = ((runAt Q K A V t.val (2 * k)).m, (runAt Q K A V t.val (2 * k)).l)⌝ ∗
      (arg2.view.loc (c : Thread nD τ) ↦[arg2.view.set]{fullShare} arg2.view.rep Q) ∗
      (arg3.view.loc (c : Thread nD τ) ↦[arg3.view.set]{fullShare} arg3.view.rep K) ∗
      (arg4.view.loc (c : Thread nD τ) ↦[arg4.view.set]{fullShare} arg4.view.rep V) ∗
      (arg10.view.loc (c : Thread nD τ) ↦[arg10.view.set]{fullShare} arg10.view.rep A) ∗
      (arg7.view.loc (c : Thread nD τ) ↦[arg7.view.set]{fullShare} arg7.view.rep (runAt Q K A V t.val (2 * k)).acc) ∗
      (arg8.view.loc (c : Thread nD τ) ↦[arg8.view.set]{fullShare} arg8.view.rep (scores Q K A t.val (2 * k))) ∗
      (∃ g : BufTy.Contents (Elt F) arg9.view.ty, arg9.view.loc (c : Thread nD τ) ↦[arg9.view.set]{fullShare} g))
  step := fun k acc => trip3 c i arg2 harg2 arg3 harg3 arg4 harg4 arg5 harg5 arg6 harg6 arg7 harg7 arg8 harg8 arg9 harg9 arg10 harg10 t arg11 h1 k Q K V A
    (runAt Q K A V t.val (2 * k.val)) (runAt Q K A V t.val (2 * (k.val + 1))) (scores Q K A t.val (2 * k.val)) _ acc
    (runAt_two Q K A V t.val k.val) rfl

/-- One trip of loop 5: the two tiles of keys `2 k` and `2 k + 1` are added to the running softmax, the first from the
    scores `arg9` holds, and `arg9` is left with the scores of tile `2 k + 2`. -/
theorem trip5 (t : Fin k0_t2_loop.trips) (arg11 : BitVec 32) (h1 : ¬ k0_cond1 t = 1#1) (k : Fin (k0_t5_loop t).trips)
    (Q : Vec F S1x128x8192 .bf16) (K : Vec F S1x8192x128 .bf16) (V : Vec F S1x128x8192 .bf16) (A : Vec F S8192x128 .bf16)
    (r r' : Run F) (s s' : FVec F S1024x1024 .f32) (acc : FVec F S1x1024 .f32 × FVec F S1x1024 .f32)
    (hr : r' = (r.add s (colsB V (2 * k.val))).add (scores Q K A t.val (2 * k.val + 1)) (colsB V (2 * k.val + 1)))
    (hs : s' = scores Q K A t.val (2 * k.val + 2)) :
    iprop(⌜acc = (r.m, r.l)⌝ ∗
      (arg2.view.loc (c : Thread nD τ) ↦[arg2.view.set]{fullShare} arg2.view.rep Q) ∗
      (arg3.view.loc (c : Thread nD τ) ↦[arg3.view.set]{fullShare} arg3.view.rep K) ∗
      (arg4.view.loc (c : Thread nD τ) ↦[arg4.view.set]{fullShare} arg4.view.rep V) ∗
      (arg10.view.loc (c : Thread nD τ) ↦[arg10.view.set]{fullShare} arg10.view.rep A) ∗
      (arg7.view.loc (c : Thread nD τ) ↦[arg7.view.set]{fullShare} arg7.view.rep r.acc) ∗
      (arg9.view.loc (c : Thread nD τ) ↦[arg9.view.set]{fullShare} arg9.view.rep s) ∗
      (∃ g : BufTy.Contents (Elt F) arg8.view.ty, arg8.view.loc (c : Thread nD τ) ↦[arg8.view.set]{fullShare} g) : sProp 𝕄) ⊢
    wp frame (wpE (defs₀ (F := F)) 𝒱₀ (c : Thread nD τ) none) Set.univ (k0_t5_body (F := F) i arg2 harg2 arg3 harg3 arg4 harg4 arg5 harg5 arg6 harg6 arg7 harg7 arg8 harg8 arg9 harg9 arg10 harg10 t arg11 h1 k acc)
      (fun acc' => iprop(⌜acc' = (r'.m, r'.l)⌝ ∗
      (arg2.view.loc (c : Thread nD τ) ↦[arg2.view.set]{fullShare} arg2.view.rep Q) ∗
      (arg3.view.loc (c : Thread nD τ) ↦[arg3.view.set]{fullShare} arg3.view.rep K) ∗
      (arg4.view.loc (c : Thread nD τ) ↦[arg4.view.set]{fullShare} arg4.view.rep V) ∗
      (arg10.view.loc (c : Thread nD τ) ↦[arg10.view.set]{fullShare} arg10.view.rep A) ∗
      (arg7.view.loc (c : Thread nD τ) ↦[arg7.view.set]{fullShare} arg7.view.rep r'.acc) ∗
      (arg9.view.loc (c : Thread nD τ) ↦[arg9.view.set]{fullShare} arg9.view.rep s') ∗
      (∃ g : BufTy.Contents (Elt F) arg8.view.ty, arg8.view.loc (c : Thread nD τ) ↦[arg8.view.set]{fullShare} g))) := by
  subst hr hs
  iintro ⟨%he, H2, H3, H4, H10, H7, H8, %g9, H9⟩
  subst he
  unfold k0_t5_body
  sl_exec
  sl_step
  isplitr
  · ipureintro
    sl_unfold_run_names
    simp -proj only [View.readAt_rep_full, View.readCov_full, View.read_writes_full]
    try rw [load_cols _ _ _ _ (off23_at t)]
    try rw [load_rows _ _ _ _ (off24_at1 t k h1)]
    try rw [load_rows _ _ _ _ (off24_at2 t k h1)]
    try rw [load_aug _ _ _ _ (off25_at1 t k h1)]
    try rw [load_aug _ _ _ _ (off25_at2 t k h1)]
    try rw [load_cols _ _ _ _ (off26_at t k h1)]
    try rw [load_cols _ _ _ _ (off27_at t k h1)]
    rfl
  isplitl [H2]
  · iexact H2
  isplitl [H3]
  · iexact H3
  isplitl [H4]
  · iexact H4
  isplitl [H10]
  · iexact H10
  isplitl [H7]
  · iapply (pointsTo_rep_of_read (c : Thread nD τ) arg7 _ _ _ ?_) $$ H7
    sl_unfold_run_names
    simp -proj only [View.readAt_rep_full, View.readCov_full, View.read_writes_full]
    try rw [load_cols _ _ _ _ (off23_at t)]
    try rw [load_rows _ _ _ _ (off24_at1 t k h1)]
    try rw [load_rows _ _ _ _ (off24_at2 t k h1)]
    try rw [load_aug _ _ _ _ (off25_at1 t k h1)]
    try rw [load_aug _ _ _ _ (off25_at2 t k h1)]
    try rw [load_cols _ _ _ _ (off26_at t k h1)]
    try rw [load_cols _ _ _ _ (off27_at t k h1)]
    rfl
  isplitl [H8]
  · iapply (pointsTo_rep_of_read (c : Thread nD τ) arg9 _ _ _ ?_) $$ H8
    sl_unfold_run_names
    simp -proj only [View.readAt_rep_full, View.readCov_full, View.read_writes_full]
    try rw [load_cols _ _ _ _ (off23_at t)]
    try rw [load_rows _ _ _ _ (off24_at1 t k h1)]
    try rw [load_rows _ _ _ _ (off24_at2 t k h1)]
    try rw [load_aug _ _ _ _ (off25_at1 t k h1)]
    try rw [load_aug _ _ _ _ (off25_at2 t k h1)]
    try rw [load_cols _ _ _ _ (off26_at t k h1)]
    try rw [load_cols _ _ _ _ (off27_at t k h1)]
    rfl
  iexists _
  iexact H9

/-- The invariant of loop 5: before trip `k` the running softmax of query tile `t` is that of the first `2 k` tiles of
    keys, and `arg9` holds the scores of the next one. -/
@[instance_reducible] def loopInv5 (t : Fin k0_t2_loop.trips) (arg11 : BitVec 32) (h1 : ¬ k0_cond1 t = 1#1)
    (Q : Vec F S1x128x8192 .bf16) (K : Vec F S1x8192x128 .bf16) (V : Vec F S1x128x8192 .bf16) (A : Vec F S8192x128 .bf16) :
    LoopInvTy_k0_t5 (F := F) Unit ℕ (UU nD τ) ℕ 𝒱₀ c none Set.univ i arg2 harg2 arg3 harg3 arg4 harg4 arg5 harg5 arg6 harg6 arg7 harg7 arg8 harg8 arg9 harg9 arg10 harg10 t arg11 h1 (k0_pay69, k0_pay70) where
  inv := fun k acc => iprop(⌜acc = ((runAt Q K A V t.val (2 * k)).m, (runAt Q K A V t.val (2 * k)).l)⌝ ∗
      (arg2.view.loc (c : Thread nD τ) ↦[arg2.view.set]{fullShare} arg2.view.rep Q) ∗
      (arg3.view.loc (c : Thread nD τ) ↦[arg3.view.set]{fullShare} arg3.view.rep K) ∗
      (arg4.view.loc (c : Thread nD τ) ↦[arg4.view.set]{fullShare} arg4.view.rep V) ∗
      (arg10.view.loc (c : Thread nD τ) ↦[arg10.view.set]{fullShare} arg10.view.rep A) ∗
      (arg7.view.loc (c : Thread nD τ) ↦[arg7.view.set]{fullShare} arg7.view.rep (runAt Q K A V t.val (2 * k)).acc) ∗
      (arg9.view.loc (c : Thread nD τ) ↦[arg9.view.set]{fullShare} arg9.view.rep (scores Q K A t.val (2 * k))) ∗
      (∃ g : BufTy.Contents (Elt F) arg8.view.ty, arg8.view.loc (c : Thread nD τ) ↦[arg8.view.set]{fullShare} g))
  step := fun k acc => trip5 c i arg2 harg2 arg3 harg3 arg4 harg4 arg5 harg5 arg6 harg6 arg7 harg7 arg8 harg8 arg9 harg9 arg10 harg10 t arg11 h1 k Q K V A
    (runAt Q K A V t.val (2 * k.val)) (runAt Q K A V t.val (2 * (k.val + 1))) (scores Q K A t.val (2 * k.val)) _ acc
    (runAt_two Q K A V t.val k.val) rfl

end Cert.Proof.KernelIdeal
-- ==== Proof.Outer.lean ====
/- One trip of the loop over the tiles of queries: the running softmax over the tiles of keys before the diagonal, then
   the diagonal tile on the two halves of its columns, then the division. In the four cases of which score buffer holds
   the tile's first scores and whether the tile's number is odd. -/
module

public import proofs.«01_k».proof.Proof.Inner
public import proofs.«01_k».proof.Proof.Gen.KernelIdeal.Loops
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords) (arg2 : Memref sig .tc .vmem S1x128x8192 .bf16) (harg2 : arg2.IsWhole) (arg3 : Memref sig .tc .vmem S1x8192x128 .bf16) (harg3 : arg3.IsWhole) (arg4 : Memref sig .tc .vmem S1x128x8192 .bf16) (harg4 : arg4.IsWhole) (arg5 : Memref sig .tc .vmem S1x1x1x8192 .f32) (harg5 : arg5.IsWhole) (arg6 : Memref sig .tc .vmem S1x8192x128 .bf16) (harg6 : arg6.IsWhole) (arg7 : Memref sig .tc .vmem S128x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S8192x128 .bf16) (harg10 : arg10.IsWhole)

/-- Loop 4 makes no trip. -/
@[instance_reducible] def loopInv4 (t : Fin k0_t2_loop.trips) (arg11 : BitVec 32) (h1 : k0_cond1 t = 1#1) (w : BitVec 32) (init : FVec F S1x1024 .f32 × FVec F S1x1024 .f32) :
    LoopInvTy_k0_t4 (F := F) Unit ℕ (UU nD τ) ℕ 𝒱₀ c none Set.univ i arg2 harg2 arg3 harg3 arg4 harg4 arg5 harg5 arg6 harg6 arg7 harg7 arg8 harg8 arg9 harg9 arg10 harg10 t arg11 h1 w init where
  inv := fun _ acc => iprop(⌜acc = init⌝)
  step := fun k _ => absurd k.isLt (by
    show ¬ k.val < (k0_t4_loop t).trips
    rw [t4_trips t h1]
    exact Nat.not_lt_zero _)

/-- Loop 6 makes no trip. -/
@[instance_reducible] def loopInv6 (t : Fin k0_t2_loop.trips) (arg11 : BitVec 32) (h1 : ¬ k0_cond1 t = 1#1) (w : BitVec 32) (init : FVec F S1x1024 .f32 × FVec F S1x1024 .f32) :
    LoopInvTy_k0_t6 (F := F) Unit ℕ (UU nD τ) ℕ 𝒱₀ c none Set.univ i arg2 harg2 arg3 harg3 arg4 harg4 arg5 harg5 arg6 harg6 arg7 harg7 arg8 harg8 arg9 harg9 arg10 harg10 t arg11 h1 w init where
  inv := fun _ acc => iprop(⌜acc = init⌝)
  step := fun k _ => absurd k.isLt (by
    show ¬ k.val < (k0_t6_loop t).trips
    rw [t6_trips t h1]
    exact Nat.not_lt_zero _)

set_option maxHeartbeats 2000000 in
theorem outer_odd1 (t : Fin k0_t2_loop.trips) (h1 : k0_cond1 t = 1#1) (h2 : k0_cond2 t = 1#1)
    (Q : Vec F S1x128x8192 .bf16) (K : Vec F S1x8192x128 .bf16) (V : Vec F S1x128x8192 .bf16) (A : Vec F S8192x128 .bf16)
    (X6 : Vec F S1x8192x128 .bf16) :
    iprop((arg2.view.loc (c : Thread nD τ) ↦[arg2.view.set]{fullShare} arg2.view.rep Q) ∗ (arg3.view.loc (c : Thread nD τ) ↦[arg3.view.set]{fullShare} arg3.view.rep K) ∗ (arg4.view.loc (c : Thread nD τ) ↦[arg4.view.set]{fullShare} arg4.view.rep V) ∗ (arg10.view.loc (c : Thread nD τ) ↦[arg10.view.set]{fullShare} arg10.view.rep A) ∗
      (arg6.view.loc (c : Thread nD τ) ↦[arg6.view.set]{fullShare} arg6.view.rep X6) ∗
      (∃ g : BufTy.Contents (Elt F) arg7.view.ty, arg7.view.loc (c : Thread nD τ) ↦[arg7.view.set]{fullShare} g) ∗
      (arg8.view.loc (c : Thread nD τ) ↦[arg8.view.set]{fullShare} arg8.view.rep (scores Q K A t.val 0)) ∗
      (∃ g : BufTy.Contents (Elt F) arg9.view.ty, arg9.view.loc (c : Thread nD τ) ↦[arg9.view.set]{fullShare} g) : sProp 𝕄) ⊢
    wp frame (wpE (defs₀ (F := F)) 𝒱₀ (c : Thread nD τ) none) Set.univ (k0_t2_body (F := F) i arg2 harg2 arg3 harg3 arg4 harg4 arg5 harg5 arg6 harg6 arg7 harg7 arg8 harg8 arg9 harg9 arg10 harg10 t ())
      (fun _ => iprop((arg2.view.loc (c : Thread nD τ) ↦[arg2.view.set]{fullShare} arg2.view.rep Q) ∗ (arg3.view.loc (c : Thread nD τ) ↦[arg3.view.set]{fullShare} arg3.view.rep K) ∗ (arg4.view.loc (c : Thread nD τ) ↦[arg4.view.set]{fullShare} arg4.view.rep V) ∗ (arg10.view.loc (c : Thread nD τ) ↦[arg10.view.set]{fullShare} arg10.view.rep A) ∗
      (arg6.view.loc (c : Thread nD τ) ↦[arg6.view.set]{fullShare} arg6.view.rep (VecWindow.put (s := S1x8192x128) X6 (k0_off22 t) S1x1024x128.size (outTile Q K A V t.val))) ∗
      (∃ g : BufTy.Contents (Elt F) arg7.view.ty, arg7.view.loc (c : Thread nD τ) ↦[arg7.view.set]{fullShare} g) ∗
      (arg8.view.loc (c : Thread nD τ) ↦[arg8.view.set]{fullShare} arg8.view.rep (scores Q K A (min (t.val + 1) 7) 0)) ∗
      (∃ g : BufTy.Contents (Elt F) arg9.view.ty, arg9.view.loc (c : Thread nD τ) ↦[arg9.view.set]{fullShare} g))) := by
  iintro ⟨H2, H3, H4, H10, H6, ⟨%g7, H7⟩, H8, %g9, H9⟩
  unfold k0_t2_body
  let L := loopInv3 c i arg2 harg2 arg3 harg3 arg4 harg4 arg5 harg5 arg6 harg6 arg7 harg7 arg8 harg8 arg9 harg9 arg10 harg10 t (Scf.iv 0#32 1#32 t) h1 Q K V A
  sl_exec
  ihave H7 := (pointsTo_rep_of_read (c : Thread nD τ) arg7 _ _ (k0_pay68 : FVec F S128x1024 .f32) ?_) $$ H7
  · sl_unfold_run_names
    simp -proj only [View.read_writes_full]
  let L' := loopInv4 c i arg2 harg2 arg3 harg3 arg4 harg4 arg5 harg5 arg6 harg6 arg7 harg7 arg8 harg8 arg9 harg9 arg10 harg10 t (outer_odd1.sl.arg11 t) h1 (outer_odd1.sl.v83 t) ((runAt Q K A V t.val (2 * Scf.trips (k0_t3_loop t).lb (k0_t3_loop t).ub (k0_t3_loop t).st)).m, (runAt Q K A V t.val (2 * Scf.trips (k0_t3_loop t).lb (k0_t3_loop t).ub (k0_t3_loop t).st)).l)
  sl_exec
  have hT : 2 * Scf.trips (k0_t3_loop t).lb (k0_t3_loop t).ub (k0_t3_loop t).st = 2 * (t.val / 2) := t3_trips t h1
  sl_step
  isplitl [H2]
  · iexact H2
  isplitl [H3]
  · iexact H3
  isplitl [H4]
  · iexact H4
  isplitl [H10]
  · iexact H10
  isplitl [H6]
  · iapply (pointsTo_rep_of_read (c : Thread nD τ) arg6 _ _ _ ?_) $$ H6
    rw [View.read_writes_cons_put]
    rw [View.writes_nil, View.read_rep]
    congr 1
    sl_unfold_run_names
    · rw [hT]
      repeat rw [View.readAt_rep_full]
      repeat rw [load_cols _ _ _ _ (off13_at t)]
      repeat rw [load_rows _ _ _ _ (off14_at t)]
      repeat rw [load_aug _ _ _ _ (off15_at t)]
      repeat rw [load_cols _ _ _ _ (off16_at t h2)]
      repeat rw [load_half _ _ _ _ (off18_at t)]
      repeat rw [load_half _ _ _ _ (off20_at t)]
      repeat rw [load_cols _ _ _ _ (off21_at t)]
      repeat rw [cov_second]
      repeat rw [cov_first]
      repeat rw [cov_acc0]
      repeat rw [cov_acc1]
      repeat rw [cov_acc2]
      repeat rw [at_acc1]
      repeat rw [at_acc2]
      repeat rw [at_rep]
      repeat rw [at_acc]
      rw [outTile_odd _ _ _ _ _ ((cond2_iff t).1 h2)]
      generalize runAt Q K A V t.val (2 * (t.val / 2)) = r
      generalize scores Q K A t.val (2 * (t.val / 2)) = s
      generalize colsB Q t.val = q
      generalize rowsB K t.val = kk
      generalize augB A t.val = aa
      generalize colsB V t.val = v
      generalize colsHalf V t.val = vh
      generalize colsB V (t.val - 1) = v'
      rfl
    rfl
  isplitl [H7]
  · iexists _
    iexact H7
  isplitl [H8]
  · iapply (pointsTo_rep_of_read (c : Thread nD τ) arg8 _ _ _ ?_) $$ H8
    rw [View.read_writes_full]
    sl_unfold_run_names
    repeat rw [load_cols _ _ _ _ (off17_at t)]
    repeat rw [load_rows0]
    repeat rw [load_aug0]
    rfl
  · iexists _
    iexact H9

set_option maxHeartbeats 2000000 in
theorem outer_even1 (t : Fin k0_t2_loop.trips) (h1 : k0_cond1 t = 1#1) (h2 : ¬ k0_cond2 t = 1#1)
    (Q : Vec F S1x128x8192 .bf16) (K : Vec F S1x8192x128 .bf16) (V : Vec F S1x128x8192 .bf16) (A : Vec F S8192x128 .bf16)
    (X6 : Vec F S1x8192x128 .bf16) :
    iprop((arg2.view.loc (c : Thread nD τ) ↦[arg2.view.set]{fullShare} arg2.view.rep Q) ∗ (arg3.view.loc (c : Thread nD τ) ↦[arg3.view.set]{fullShare} arg3.view.rep K) ∗ (arg4.view.loc (c : Thread nD τ) ↦[arg4.view.set]{fullShare} arg4.view.rep V) ∗ (arg10.view.loc (c : Thread nD τ) ↦[arg10.view.set]{fullShare} arg10.view.rep A) ∗
      (arg6.view.loc (c : Thread nD τ) ↦[arg6.view.set]{fullShare} arg6.view.rep X6) ∗
      (∃ g : BufTy.Contents (Elt F) arg7.view.ty, arg7.view.loc (c : Thread nD τ) ↦[arg7.view.set]{fullShare} g) ∗
      (arg8.view.loc (c : Thread nD τ) ↦[arg8.view.set]{fullShare} arg8.view.rep (scores Q K A t.val 0)) ∗
      (∃ g : BufTy.Contents (Elt F) arg9.view.ty, arg9.view.loc (c : Thread nD τ) ↦[arg9.view.set]{fullShare} g) : sProp 𝕄) ⊢
    wp frame (wpE (defs₀ (F := F)) 𝒱₀ (c : Thread nD τ) none) Set.univ (k0_t2_body (F := F) i arg2 harg2 arg3 harg3 arg4 harg4 arg5 harg5 arg6 harg6 arg7 harg7 arg8 harg8 arg9 harg9 arg10 harg10 t ())
      (fun _ => iprop((arg2.view.loc (c : Thread nD τ) ↦[arg2.view.set]{fullShare} arg2.view.rep Q) ∗ (arg3.view.loc (c : Thread nD τ) ↦[arg3.view.set]{fullShare} arg3.view.rep K) ∗ (arg4.view.loc (c : Thread nD τ) ↦[arg4.view.set]{fullShare} arg4.view.rep V) ∗ (arg10.view.loc (c : Thread nD τ) ↦[arg10.view.set]{fullShare} arg10.view.rep A) ∗
      (arg6.view.loc (c : Thread nD τ) ↦[arg6.view.set]{fullShare} arg6.view.rep (VecWindow.put (s := S1x8192x128) X6 (k0_off22 t) S1x1024x128.size (outTile Q K A V t.val))) ∗
      (∃ g : BufTy.Contents (Elt F) arg7.view.ty, arg7.view.loc (c : Thread nD τ) ↦[arg7.view.set]{fullShare} g) ∗
      (∃ g : BufTy.Contents (Elt F) arg8.view.ty, arg8.view.loc (c : Thread nD τ) ↦[arg8.view.set]{fullShare} g) ∗
      (arg9.view.loc (c : Thread nD τ) ↦[arg9.view.set]{fullShare} arg9.view.rep (scores Q K A (min (t.val + 1) 7) 0)))) := by
  iintro ⟨H2, H3, H4, H10, H6, ⟨%g7, H7⟩, H8, %g9, H9⟩
  unfold k0_t2_body
  let L := loopInv3 c i arg2 harg2 arg3 harg3 arg4 harg4 arg5 harg5 arg6 harg6 arg7 harg7 arg8 harg8 arg9 harg9 arg10 harg10 t (Scf.iv 0#32 1#32 t) h1 Q K V A
  sl_exec
  ihave H7 := (pointsTo_rep_of_read (c : Thread nD τ) arg7 _ _ (k0_pay68 : FVec F S128x1024 .f32) ?_) $$ H7
  · sl_unfold_run_names
    simp -proj only [View.read_writes_full]
  let L' := loopInv4 c i arg2 harg2 arg3 harg3 arg4 harg4 arg5 harg5 arg6 harg6 arg7 harg7 arg8 harg8 arg9 harg9 arg10 harg10 t (outer_even1.sl.arg11 t) h1 (outer_even1.sl.v83 t) ((runAt Q K A V t.val (2 * Scf.trips (k0_t3_loop t).lb (k0_t3_loop t).ub (k0_t3_loop t).st)).m, (runAt Q K A V t.val (2 * Scf.trips (k0_t3_loop t).lb (k0_t3_loop t).ub (k0_t3_loop t).st)).l)
  sl_exec
  have hT : 2 * Scf.trips (k0_t3_loop t).lb (k0_t3_loop t).ub (k0_t3_loop t).st = 2 * (t.val / 2) := t3_trips t h1
  sl_step
  isplitl [H2]
  · iexact H2
  isplitl [H3]
  · iexact H3
  isplitl [H4]
  · iexact H4
  isplitl [H10]
  · iexact H10
  isplitl [H6]
  · iapply (pointsTo_rep_of_read (c : Thread nD τ) arg6 _ _ _ ?_) $$ H6
    rw [View.read_writes_cons_put]
    rw [View.writes_nil, View.read_rep]
    congr 1
    sl_unfold_run_names
    · rw [hT]
      repeat rw [View.readAt_rep_full]
      repeat rw [load_half _ _ _ _ (off20_at t)]
      repeat rw [load_cols _ _ _ _ (off21_at t)]
      repeat rw [cov_second]
      repeat rw [cov_first]
      repeat rw [cov_acc0]
      repeat rw [cov_acc1]
      repeat rw [cov_acc2]
      repeat rw [at_acc1]
      repeat rw [at_acc2]
      repeat rw [at_rep]
      repeat rw [at_acc]
      rw [outTile_even _ _ _ _ _ (fun h => h2 ((cond2_iff t).2 h))]
      generalize runAt Q K A V t.val (2 * (t.val / 2)) = r
      generalize scores Q K A t.val (2 * (t.val / 2)) = s
      generalize colsB Q t.val = q
      generalize rowsB K t.val = kk
      generalize augB A t.val = aa
      generalize colsB V t.val = v
      generalize colsHalf V t.val = vh
      generalize colsB V (t.val - 1) = v'
      rw [finishAcc_eq, cov_halves r.acc]
      rfl
    rfl
  isplitl [H7]
  · iexists _
    iexact H7
  isplitl [H8]
  · iexists _
    iexact H8
  · iapply (pointsTo_rep_of_read (c : Thread nD τ) arg9 _ _ _ ?_) $$ H9
    rw [View.read_writes_full]
    sl_unfold_run_names
    repeat rw [load_cols _ _ _ _ (off19_at t)]
    repeat rw [load_rows0]
    repeat rw [load_aug0]
    rfl

set_option maxHeartbeats 2000000 in
theorem outer_odd2 (t : Fin k0_t2_loop.trips) (h1 : ¬ k0_cond1 t = 1#1) (h2 : k0_cond3 t = 1#1)
    (Q : Vec F S1x128x8192 .bf16) (K : Vec F S1x8192x128 .bf16) (V : Vec F S1x128x8192 .bf16) (A : Vec F S8192x128 .bf16)
    (X6 : Vec F S1x8192x128 .bf16) :
    iprop((arg2.view.loc (c : Thread nD τ) ↦[arg2.view.set]{fullShare} arg2.view.rep Q) ∗ (arg3.view.loc (c : Thread nD τ) ↦[arg3.view.set]{fullShare} arg3.view.rep K) ∗ (arg4.view.loc (c : Thread nD τ) ↦[arg4.view.set]{fullShare} arg4.view.rep V) ∗ (arg10.view.loc (c : Thread nD τ) ↦[arg10.view.set]{fullShare} arg10.view.rep A) ∗
      (arg6.view.loc (c : Thread nD τ) ↦[arg6.view.set]{fullShare} arg6.view.rep X6) ∗
      (∃ g : BufTy.Contents (Elt F) arg7.view.ty, arg7.view.loc (c : Thread nD τ) ↦[arg7.view.set]{fullShare} g) ∗
      (∃ g : BufTy.Contents (Elt F) arg8.view.ty, arg8.view.loc (c : Thread nD τ) ↦[arg8.view.set]{fullShare} g) ∗
      (arg9.view.loc (c : Thread nD τ) ↦[arg9.view.set]{fullShare} arg9.view.rep (scores Q K A t.val 0)) : sProp 𝕄) ⊢
    wp frame (wpE (defs₀ (F := F)) 𝒱₀ (c : Thread nD τ) none) Set.univ (k0_t2_body (F := F) i arg2 harg2 arg3 harg3 arg4 harg4 arg5 harg5 arg6 harg6 arg7 harg7 arg8 harg8 arg9 harg9 arg10 harg10 t ())
      (fun _ => iprop((arg2.view.loc (c : Thread nD τ) ↦[arg2.view.set]{fullShare} arg2.view.rep Q) ∗ (arg3.view.loc (c : Thread nD τ) ↦[arg3.view.set]{fullShare} arg3.view.rep K) ∗ (arg4.view.loc (c : Thread nD τ) ↦[arg4.view.set]{fullShare} arg4.view.rep V) ∗ (arg10.view.loc (c : Thread nD τ) ↦[arg10.view.set]{fullShare} arg10.view.rep A) ∗
      (arg6.view.loc (c : Thread nD τ) ↦[arg6.view.set]{fullShare} arg6.view.rep (VecWindow.put (s := S1x8192x128) X6 (k0_off42 t) S1x1024x128.size (outTile Q K A V t.val))) ∗
      (∃ g : BufTy.Contents (Elt F) arg7.view.ty, arg7.view.loc (c : Thread nD τ) ↦[arg7.view.set]{fullShare} g) ∗
      (∃ g : BufTy.Contents (Elt F) arg8.view.ty, arg8.view.loc (c : Thread nD τ) ↦[arg8.view.set]{fullShare} g) ∗
      (arg9.view.loc (c : Thread nD τ) ↦[arg9.view.set]{fullShare} arg9.view.rep (scores Q K A (min (t.val + 1) 7) 0)))) := by
  iintro ⟨H2, H3, H4, H10, H6, ⟨%g7, H7⟩, ⟨%g8, H8⟩, H9⟩
  unfold k0_t2_body
  let L := loopInv5 c i arg2 harg2 arg3 harg3 arg4 harg4 arg5 harg5 arg6 harg6 arg7 harg7 arg8 harg8 arg9 harg9 arg10 harg10 t (Scf.iv 0#32 1#32 t) h1 Q K V A
  sl_exec
  ihave H7 := (pointsTo_rep_of_read (c : Thread nD τ) arg7 _ _ (k0_pay130 : FVec F S128x1024 .f32) ?_) $$ H7
  · sl_unfold_run_names
    simp -proj only [View.read_writes_full]
  let L' := loopInv6 c i arg2 harg2 arg3 harg3 arg4 harg4 arg5 harg5 arg6 harg6 arg7 harg7 arg8 harg8 arg9 harg9 arg10 harg10 t (outer_odd2.sl.arg11 t) h1 (outer_odd2.sl.v83 t) ((runAt Q K A V t.val (2 * Scf.trips (k0_t5_loop t).lb (k0_t5_loop t).ub (k0_t5_loop t).st)).m, (runAt Q K A V t.val (2 * Scf.trips (k0_t5_loop t).lb (k0_t5_loop t).ub (k0_t5_loop t).st)).l)
  sl_exec
  have hT : 2 * Scf.trips (k0_t5_loop t).lb (k0_t5_loop t).ub (k0_t5_loop t).st = 2 * (t.val / 2) := t5_trips t h1
  sl_step
  isplitl [H2]
  · iexact H2
  isplitl [H3]
  · iexact H3
  isplitl [H4]
  · iexact H4
  isplitl [H10]
  · iexact H10
  isplitl [H6]
  · iapply (pointsTo_rep_of_read (c : Thread nD τ) arg6 _ _ _ ?_) $$ H6
    rw [View.read_writes_cons_put]
    rw [View.writes_nil, View.read_rep]
    congr 1
    sl_unfold_run_names
    · rw [hT]
      repeat rw [View.readAt_rep_full]
      repeat rw [load_cols _ _ _ _ (off33_at t)]
      repeat rw [load_rows _ _ _ _ (off34_at t)]
      repeat rw [load_aug _ _ _ _ (off35_at t)]
      repeat rw [load_cols _ _ _ _ (off36_at t h2)]
      repeat rw [load_half _ _ _ _ (off38_at t)]
      repeat rw [load_half _ _ _ _ (off40_at t)]
      repeat rw [load_cols _ _ _ _ (off41_at t)]
      repeat rw [cov_second]
      repeat rw [cov_first]
      repeat rw [cov_acc0]
      repeat rw [cov_acc1]
      repeat rw [cov_acc2]
      repeat rw [at_acc1]
      repeat rw [at_acc2]
      repeat rw [at_rep]
      repeat rw [at_acc]
      rw [outTile_odd _ _ _ _ _ ((cond3_iff t).1 h2)]
      generalize runAt Q K A V t.val (2 * (t.val / 2)) = r
      generalize scores Q K A t.val (2 * (t.val / 2)) = s
      generalize colsB Q t.val = q
      generalize rowsB K t.val = kk
      generalize augB A t.val = aa
      generalize colsB V t.val = v
      generalize colsHalf V t.val = vh
      generalize colsB V (t.val - 1) = v'
      rfl
    rfl
  isplitl [H7]
  · iexists _
    iexact H7
  isplitl [H8]
  · iexists _
    iexact H8
  · iapply (pointsTo_rep_of_read (c : Thread nD τ) arg9 _ _ _ ?_) $$ H9
    rw [View.read_writes_full]
    sl_unfold_run_names
    repeat rw [load_cols _ _ _ _ (off37_at t)]
    repeat rw [load_rows0]
    repeat rw [load_aug0]
    rfl

set_option maxHeartbeats 2000000 in
theorem outer_even2 (t : Fin k0_t2_loop.trips) (h1 : ¬ k0_cond1 t = 1#1) (h2 : ¬ k0_cond3 t = 1#1)
    (Q : Vec F S1x128x8192 .bf16) (K : Vec F S1x8192x128 .bf16) (V : Vec F S1x128x8192 .bf16) (A : Vec F S8192x128 .bf16)
    (X6 : Vec F S1x8192x128 .bf16) :
    iprop((arg2.view.loc (c : Thread nD τ) ↦[arg2.view.set]{fullShare} arg2.view.rep Q) ∗ (arg3.view.loc (c : Thread nD τ) ↦[arg3.view.set]{fullShare} arg3.view.rep K) ∗ (arg4.view.loc (c : Thread nD τ) ↦[arg4.view.set]{fullShare} arg4.view.rep V) ∗ (arg10.view.loc (c : Thread nD τ) ↦[arg10.view.set]{fullShare} arg10.view.rep A) ∗
      (arg6.view.loc (c : Thread nD τ) ↦[arg6.view.set]{fullShare} arg6.view.rep X6) ∗
      (∃ g : BufTy.Contents (Elt F) arg7.view.ty, arg7.view.loc (c : Thread nD τ) ↦[arg7.view.set]{fullShare} g) ∗
      (∃ g : BufTy.Contents (Elt F) arg8.view.ty, arg8.view.loc (c : Thread nD τ) ↦[arg8.view.set]{fullShare} g) ∗
      (arg9.view.loc (c : Thread nD τ) ↦[arg9.view.set]{fullShare} arg9.view.rep (scores Q K A t.val 0)) : sProp 𝕄) ⊢
    wp frame (wpE (defs₀ (F := F)) 𝒱₀ (c : Thread nD τ) none) Set.univ (k0_t2_body (F := F) i arg2 harg2 arg3 harg3 arg4 harg4 arg5 harg5 arg6 harg6 arg7 harg7 arg8 harg8 arg9 harg9 arg10 harg10 t ())
      (fun _ => iprop((arg2.view.loc (c : Thread nD τ) ↦[arg2.view.set]{fullShare} arg2.view.rep Q) ∗ (arg3.view.loc (c : Thread nD τ) ↦[arg3.view.set]{fullShare} arg3.view.rep K) ∗ (arg4.view.loc (c : Thread nD τ) ↦[arg4.view.set]{fullShare} arg4.view.rep V) ∗ (arg10.view.loc (c : Thread nD τ) ↦[arg10.view.set]{fullShare} arg10.view.rep A) ∗
      (arg6.view.loc (c : Thread nD τ) ↦[arg6.view.set]{fullShare} arg6.view.rep (VecWindow.put (s := S1x8192x128) X6 (k0_off42 t) S1x1024x128.size (outTile Q K A V t.val))) ∗
      (∃ g : BufTy.Contents (Elt F) arg7.view.ty, arg7.view.loc (c : Thread nD τ) ↦[arg7.view.set]{fullShare} g) ∗
      (arg8.view.loc (c : Thread nD τ) ↦[arg8.view.set]{fullShare} arg8.view.rep (scores Q K A (min (t.val + 1) 7) 0)) ∗
      (∃ g : BufTy.Contents (Elt F) arg9.view.ty, arg9.view.loc (c : Thread nD τ) ↦[arg9.view.set]{fullShare} g))) := by
  iintro ⟨H2, H3, H4, H10, H6, ⟨%g7, H7⟩, ⟨%g8, H8⟩, H9⟩
  unfold k0_t2_body
  let L := loopInv5 c i arg2 harg2 arg3 harg3 arg4 harg4 arg5 harg5 arg6 harg6 arg7 harg7 arg8 harg8 arg9 harg9 arg10 harg10 t (Scf.iv 0#32 1#32 t) h1 Q K V A
  sl_exec
  ihave H7 := (pointsTo_rep_of_read (c : Thread nD τ) arg7 _ _ (k0_pay130 : FVec F S128x1024 .f32) ?_) $$ H7
  · sl_unfold_run_names
    simp -proj only [View.read_writes_full]
  let L' := loopInv6 c i arg2 harg2 arg3 harg3 arg4 harg4 arg5 harg5 arg6 harg6 arg7 harg7 arg8 harg8 arg9 harg9 arg10 harg10 t (outer_even2.sl.arg11 t) h1 (outer_even2.sl.v83 t) ((runAt Q K A V t.val (2 * Scf.trips (k0_t5_loop t).lb (k0_t5_loop t).ub (k0_t5_loop t).st)).m, (runAt Q K A V t.val (2 * Scf.trips (k0_t5_loop t).lb (k0_t5_loop t).ub (k0_t5_loop t).st)).l)
  sl_exec
  have hT : 2 * Scf.trips (k0_t5_loop t).lb (k0_t5_loop t).ub (k0_t5_loop t).st = 2 * (t.val / 2) := t5_trips t h1
  sl_step
  isplitl [H2]
  · iexact H2
  isplitl [H3]
  · iexact H3
  isplitl [H4]
  · iexact H4
  isplitl [H10]
  · iexact H10
  isplitl [H6]
  · iapply (pointsTo_rep_of_read (c : Thread nD τ) arg6 _ _ _ ?_) $$ H6
    rw [View.read_writes_cons_put]
    rw [View.writes_nil, View.read_rep]
    congr 1
    sl_unfold_run_names
    · rw [hT]
      repeat rw [View.readAt_rep_full]
      repeat rw [load_half _ _ _ _ (off40_at t)]
      repeat rw [load_cols _ _ _ _ (off41_at t)]
      repeat rw [cov_second]
      repeat rw [cov_first]
      repeat rw [cov_acc0]
      repeat rw [cov_acc1]
      repeat rw [cov_acc2]
      repeat rw [at_acc1]
      repeat rw [at_acc2]
      repeat rw [at_rep]
      repeat rw [at_acc]
      rw [outTile_even _ _ _ _ _ (fun h => h2 ((cond3_iff t).2 h))]
      generalize runAt Q K A V t.val (2 * (t.val / 2)) = r
      generalize scores Q K A t.val (2 * (t.val / 2)) = s
      generalize colsB Q t.val = q
      generalize rowsB K t.val = kk
      generalize augB A t.val = aa
      generalize colsB V t.val = v
      generalize colsHalf V t.val = vh
      generalize colsB V (t.val - 1) = v'
      rw [finishAcc_eq, cov_halves r.acc]
      rfl
    rfl
  isplitl [H7]
  · iexists _
    iexact H7
  isplitl [H8]
  · iapply (pointsTo_rep_of_read (c : Thread nD τ) arg8 _ _ _ ?_) $$ H8
    rw [View.read_writes_full]
    sl_unfold_run_names
    repeat rw [load_cols _ _ _ _ (off39_at t)]
    repeat rw [load_rows0]
    repeat rw [load_aug0]
    rfl
  · iexists _
    iexact H9

end Cert.Proof.KernelIdeal
-- ==== Proof.Body.lean ====
/- The whole kernel on one head: the loop that fills the augmentation of the keys, the first tile of scores, and the loop
   over the tiles of queries. From the queries, keys, values and accumulated gates in the four input buffers, the result
   buffer ends with `headOut` of them. -/
module

public import proofs.«01_k».proof.Proof.Outer
public import proofs.«01_k».proof.Proof.Gen.KernelIdeal.Loops
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords) (arg2 : Memref sig .tc .vmem S1x128x8192 .bf16) (harg2 : arg2.IsWhole) (arg3 : Memref sig .tc .vmem S1x8192x128 .bf16) (harg3 : arg3.IsWhole) (arg4 : Memref sig .tc .vmem S1x128x8192 .bf16) (harg4 : arg4.IsWhole) (arg5 : Memref sig .tc .vmem S1x1x1x8192 .f32) (harg5 : arg5.IsWhole) (arg6 : Memref sig .tc .vmem S1x8192x128 .bf16) (harg6 : arg6.IsWhole) (arg7 : Memref sig .tc .vmem S128x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S8192x128 .bf16) (harg10 : arg10.IsWhole)

/-- Two arrays that agree on all eight tiles of rows, one of them written a tile at a time. -/
theorem rows_put (Q : Vec F S1x128x8192 .bf16) (K : Vec F S1x8192x128 .bf16) (A : Vec F S8192x128 .bf16) (V : Vec F S1x128x8192 .bf16) (X : Vec F S1x8192x128 .bf16)
    (t : ℕ) (ht : t < 8) {off : Fin 3 → ℕ} (ho : off = ![0, 1024 * (t % 8), 0]) (hX : ∀ j < t, rowsB X j = outTile Q K A V j) :
    ∀ j < t + 1, rowsB (VecWindow.put (s := S1x8192x128) X off S1x1024x128.size (outTile Q K A V t)) j = outTile Q K A V j := by
  subst ho
  intro j hj
  unfold rowsB
  rcases Nat.lt_succ_iff_lt_or_eq.1 hj with h | rfl
  · rw [VecWindow.window_put_of_disjoint (s := S1x8192x128) _ _ _ _ _ _ (w := _) (1 : Fin 3) (by
      simp only [Matrix.cons_val_one, Matrix.cons_val_zero, Matrix.head_cons]
      show 1024 * (j % 8) + 1024 ≤ 1024 * (t % 8) ∨ 1024 * (t % 8) + 1024 ≤ 1024 * (j % 8)
      omega)]
    exact hX j h
  · exact VecWindow.window_put_same _ _ _ _ _

theorem aug_put (C : Vec F S1x1x1x8192 .f32) (A : Vec F S8192x128 .bf16)
    (t : ℕ) (ht : t < 8) {off : Fin 2 → ℕ} (ho : off = ![1024 * (t % 8), 0]) (hA : ∀ j < t, augB A j = k0_pay1 (lanesB C j)) :
    ∀ j < t + 1, augB (VecWindow.put (s := S8192x128) A off S1024x128.size (k0_pay1 (lanesB C t))) j = k0_pay1 (lanesB C j) := by
  subst ho
  intro j hj
  unfold augB
  rcases Nat.lt_succ_iff_lt_or_eq.1 hj with h | rfl
  · rw [VecWindow.window_put_of_disjoint (s := S8192x128) _ _ _ _ _ _ (w := _) (0 : Fin 2) (by
      simp only [Matrix.cons_val_one, Matrix.cons_val_zero, Matrix.head_cons]
      show 1024 * (j % 8) + 1024 ≤ 1024 * (t % 8) ∨ 1024 * (t % 8) + 1024 ≤ 1024 * (j % 8)
      omega)]
    exact hA j h
  · exact VecWindow.window_put_same _ _ _ _ _

theorem aug_all (C : Vec F S1x1x1x8192 .f32) (A : Vec F S8192x128 .bf16) (hA : ∀ j < 8, augB A j = k0_pay1 (lanesB C j)) :
    A = augOf C := by
  funext y
  have hy : (y 0).val < 8192 := (y 0).isLt
  rw [augOf, ← hA ((y 0).val / 1024) (by omega)]
  unfold augB VecWindow.window
  congr 1
  funext a
  refine Fin.ext ?_
  fin_cases a
  · show (y 0).val = 1024 * ((y 0).val / 1024 % 8) + 1 * ((y 0).val % 1024)
    omega
  · show (y 1).val = 0 + 1 * (y 1).val
    omega

theorem rows_all (Q : Vec F S1x128x8192 .bf16) (K : Vec F S1x8192x128 .bf16) (V : Vec F S1x128x8192 .bf16) (C : Vec F S1x1x1x8192 .f32) (X : Vec F S1x8192x128 .bf16)
    (hX : ∀ j < 8, rowsB X j = outTile Q K (augOf C) V j) : X = headOut Q K V C := by
  funext y
  have hy : (y 1).val < 8192 := (y 1).isLt
  rw [headOut, ← hX ((y 1).val / 1024) (by omega)]
  unfold rowsB VecWindow.window
  congr 1
  funext a
  refine Fin.ext ?_
  fin_cases a
  · show (y 0).val = 0 + 1 * (y 0).val
    omega
  · show (y 1).val = 1024 * ((y 1).val / 1024 % 8) + 1 * ((y 1).val % 1024)
    omega
  · show (y 2).val = 0 + 1 * (y 2).val
    omega

/-- Before trip `k` of the first loop the first `k` tiles of the augmentation are filled. -/
def inv1 (C : Vec F S1x1x1x8192 .f32) (k : ℕ) : sProp 𝕄 :=
  iprop((arg5.view.loc (c : Thread nD τ) ↦[arg5.view.set]{fullShare} arg5.view.rep C) ∗
      (∃ A : Vec F S8192x128 .bf16, ⌜∀ j < k, augB A j = k0_pay1 (lanesB C j)⌝ ∗ (arg10.view.loc (c : Thread nD τ) ↦[arg10.view.set]{fullShare} arg10.view.rep A)))

/-- Before trip `k` of the loop over the tiles of queries the first `k` tiles of the result are written, and one of the
    two score buffers holds the first scores of the next tile. -/
def inv2 (Q : Vec F S1x128x8192 .bf16) (K : Vec F S1x8192x128 .bf16) (V : Vec F S1x128x8192 .bf16) (A : Vec F S8192x128 .bf16) (k : ℕ) : sProp 𝕄 :=
  iprop((arg2.view.loc (c : Thread nD τ) ↦[arg2.view.set]{fullShare} arg2.view.rep Q) ∗
      (arg3.view.loc (c : Thread nD τ) ↦[arg3.view.set]{fullShare} arg3.view.rep K) ∗
      (arg4.view.loc (c : Thread nD τ) ↦[arg4.view.set]{fullShare} arg4.view.rep V) ∗
      (arg10.view.loc (c : Thread nD τ) ↦[arg10.view.set]{fullShare} arg10.view.rep A) ∗
      (∃ X : Vec F S1x8192x128 .bf16, ⌜∀ j < k, rowsB X j = outTile Q K A V j⌝ ∗ (arg6.view.loc (c : Thread nD τ) ↦[arg6.view.set]{fullShare} arg6.view.rep X)) ∗
      (∃ g : BufTy.Contents (Elt F) arg7.view.ty, arg7.view.loc (c : Thread nD τ) ↦[arg7.view.set]{fullShare} g) ∗
      (∃ X8 X9 : FVec F S1024x1024 .f32, ⌜if ((k + 1) / 2) % 2 = 0 then X8 = scores Q K A (min k 7) 0 else X9 = scores Q K A (min k 7) 0⌝ ∗ (arg8.view.loc (c : Thread nD τ) ↦[arg8.view.set]{fullShare} arg8.view.rep X8) ∗ (arg9.view.loc (c : Thread nD τ) ↦[arg9.view.set]{fullShare} arg9.view.rep X9)))

theorem trip1 (C : Vec F S1x1x1x8192 .f32) (t : Fin k0_t1_loop.trips) :
    (inv1 c arg5 arg10 C t.val : sProp 𝕄) ⊢
    wp frame (wpE (defs₀ (F := F)) 𝒱₀ (c : Thread nD τ) none) Set.univ (k0_t1_body (F := F) i arg2 harg2 arg3 harg3 arg4 harg4 arg5 harg5 arg6 harg6 arg7 harg7 arg8 harg8 arg9 harg9 arg10 harg10 t ())
      (fun _ => inv1 c arg5 arg10 C (t.val + 1)) := by
  have ht : t.val < 8 := lt_of_lt_of_eq t.isLt t1_trips
  unfold inv1
  iintro ⟨H5, %A, %hA, H10⟩
  unfold k0_t1_body
  sl_exec
  sl_step
  isplitl [H5]; · iexact H5
  iexists (VecWindow.put (s := S8192x128) A (k0_off2 t) S1024x128.size (k0_pay1 (lanesB C t.val)))
  isplitr; swap
  · iapply (pointsTo_rep_of_read (c : Thread nD τ) arg10 _ _ _ ?_) $$ H10
    sl_unfold_run_names
    rw [load_lanes _ _ _ _ (off1_at t)]
    exact View.read_writes_rep_unit _ _ _ _ rfl
  ipureintro
  exact aug_put C A t.val ht (off2_at t) hA

theorem trip2 (Q : Vec F S1x128x8192 .bf16) (K : Vec F S1x8192x128 .bf16) (V : Vec F S1x128x8192 .bf16) (A : Vec F S8192x128 .bf16) (t : Fin k0_t2_loop.trips) :
    (inv2 c arg2 arg3 arg4 arg6 arg7 arg8 arg9 arg10 Q K V A t.val : sProp 𝕄) ⊢
    wp frame (wpE (defs₀ (F := F)) 𝒱₀ (c : Thread nD τ) none) Set.univ (k0_t2_body (F := F) i arg2 harg2 arg3 harg3 arg4 harg4 arg5 harg5 arg6 harg6 arg7 harg7 arg8 harg8 arg9 harg9 arg10 harg10 t ())
      (fun _ => inv2 c arg2 arg3 arg4 arg6 arg7 arg8 arg9 arg10 Q K V A (t.val + 1)) := by
  have ht : t.val < 8 := lt_of_lt_of_eq t.isLt t2_trips
  have hm : min t.val 7 = t.val := by omega
  unfold inv2
  iintro ⟨H2, H3, H4, H10, ⟨%X, %hX, H6⟩, H7, %X8, %X9, %hb, H8, H9⟩
  by_cases h1 : k0_cond1 t = 1#1
  · by_cases h2 : k0_cond2 t = 1#1
    · have hb' : X8 = scores Q K A t.val 0 := by
        have hc := (cond1_iff t).1 h1
        rw [if_pos hc, hm] at hb
        exact hb
      subst hb'
      iapply (wp_wand_r Idealize.ShloMosaic.frame (wpE (defs₀ (F := F)) 𝒱₀ (c : Thread nD τ) none) Set.univ)
      isplitl [H2 H3 H4 H10 H6 H7 H8 H9]
      · iapply (outer_odd1 c i arg2 harg2 arg3 harg3 arg4 harg4 arg5 harg5 arg6 harg6 arg7 harg7 arg8 harg8 arg9 harg9 arg10 harg10 t h1 h2 Q K V A X)
        isplitl [H2]; · iexact H2
        isplitl [H3]; · iexact H3
        isplitl [H4]; · iexact H4
        isplitl [H10]; · iexact H10
        isplitl [H6]; · iexact H6
        isplitl [H7]; · iexact H7
        isplitl [H8]; · iexact H8
        iexists _; iexact H9
      iintro %_ ⟨H2, H3, H4, H10, H6, H7, H8, %g9, H9⟩
      isplitl [H2]; · iexact H2
      isplitl [H3]; · iexact H3
      isplitl [H4]; · iexact H4
      isplitl [H10]; · iexact H10
      isplitl [H6]
      · iexists _
        isplitr; swap; (· iexact H6)
        ipureintro
        exact rows_put Q K A V X t.val ht (off22_at t) hX
      isplitl [H7]; · iexact H7
      ihave H9 := (pointsTo_rep_entails (c : Thread nD τ) arg9 g9 fullShare) $$ H9
      iexists _, _
      isplitr; swap
      · isplitl [H8]; · iexact H8
        iexact H9
      ipureintro
      have hq := (cond2_iff t).1 h2
      have hc := (cond1_iff t).1 h1
      rw [if_pos (by omega)]

    · have hb' : X8 = scores Q K A t.val 0 := by
        have hc := (cond1_iff t).1 h1
        rw [if_pos hc, hm] at hb
        exact hb
      subst hb'
      iapply (wp_wand_r Idealize.ShloMosaic.frame (wpE (defs₀ (F := F)) 𝒱₀ (c : Thread nD τ) none) Set.univ)
      isplitl [H2 H3 H4 H10 H6 H7 H8 H9]
      · iapply (outer_even1 c i arg2 harg2 arg3 harg3 arg4 harg4 arg5 harg5 arg6 harg6 arg7 harg7 arg8 harg8 arg9 harg9 arg10 harg10 t h1 h2 Q K V A X)
        isplitl [H2]; · iexact H2
        isplitl [H3]; · iexact H3
        isplitl [H4]; · iexact H4
        isplitl [H10]; · iexact H10
        isplitl [H6]; · iexact H6
        isplitl [H7]; · iexact H7
        isplitl [H8]; · iexact H8
        iexists _; iexact H9
      iintro %_ ⟨H2, H3, H4, H10, H6, H7, ⟨%g8, H8⟩, H9⟩
      isplitl [H2]; · iexact H2
      isplitl [H3]; · iexact H3
      isplitl [H4]; · iexact H4
      isplitl [H10]; · iexact H10
      isplitl [H6]
      · iexists _
        isplitr; swap; (· iexact H6)
        ipureintro
        exact rows_put Q K A V X t.val ht (off22_at t) hX
      isplitl [H7]; · iexact H7
      ihave H8 := (pointsTo_rep_entails (c : Thread nD τ) arg8 g8 fullShare) $$ H8
      iexists _, _
      isplitr; swap
      · isplitl [H8]; · iexact H8
        iexact H9
      ipureintro
      have hq := (cond2_iff t).not.1 h2
      have hc := (cond1_iff t).1 h1
      rw [if_neg (by omega)]

  · by_cases h2 : k0_cond3 t = 1#1
    · have hb' : X9 = scores Q K A t.val 0 := by
        have hc := (cond1_iff t).not.1 h1
        rw [if_neg hc, hm] at hb
        exact hb
      subst hb'
      iapply (wp_wand_r Idealize.ShloMosaic.frame (wpE (defs₀ (F := F)) 𝒱₀ (c : Thread nD τ) none) Set.univ)
      isplitl [H2 H3 H4 H10 H6 H7 H8 H9]
      · iapply (outer_odd2 c i arg2 harg2 arg3 harg3 arg4 harg4 arg5 harg5 arg6 harg6 arg7 harg7 arg8 harg8 arg9 harg9 arg10 harg10 t h1 h2 Q K V A X)
        isplitl [H2]; · iexact H2
        isplitl [H3]; · iexact H3
        isplitl [H4]; · iexact H4
        isplitl [H10]; · iexact H10
        isplitl [H6]; · iexact H6
        isplitl [H7]; · iexact H7
        isplitl [H8]; · iexists _; iexact H8
        iexact H9
      iintro %_ ⟨H2, H3, H4, H10, H6, H7, ⟨%g8, H8⟩, H9⟩
      isplitl [H2]; · iexact H2
      isplitl [H3]; · iexact H3
      isplitl [H4]; · iexact H4
      isplitl [H10]; · iexact H10
      isplitl [H6]
      · iexists _
        isplitr; swap; (· iexact H6)
        ipureintro
        exact rows_put Q K A V X t.val ht (off42_at t) hX
      isplitl [H7]; · iexact H7
      ihave H8 := (pointsTo_rep_entails (c : Thread nD τ) arg8 g8 fullShare) $$ H8
      iexists _, _
      isplitr; swap
      · isplitl [H8]; · iexact H8
        iexact H9
      ipureintro
      have hq := (cond3_iff t).1 h2
      have hc := (cond1_iff t).not.1 h1
      rw [if_neg (by omega)]

    · have hb' : X9 = scores Q K A t.val 0 := by
        have hc := (cond1_iff t).not.1 h1
        rw [if_neg hc, hm] at hb
        exact hb
      subst hb'
      iapply (wp_wand_r Idealize.ShloMosaic.frame (wpE (defs₀ (F := F)) 𝒱₀ (c : Thread nD τ) none) Set.univ)
      isplitl [H2 H3 H4 H10 H6 H7 H8 H9]
      · iapply (outer_even2 c i arg2 harg2 arg3 harg3 arg4 harg4 arg5 harg5 arg6 harg6 arg7 harg7 arg8 harg8 arg9 harg9 arg10 harg10 t h1 h2 Q K V A X)
        isplitl [H2]; · iexact H2
        isplitl [H3]; · iexact H3
        isplitl [H4]; · iexact H4
        isplitl [H10]; · iexact H10
        isplitl [H6]; · iexact H6
        isplitl [H7]; · iexact H7
        isplitl [H8]; · iexists _; iexact H8
        iexact H9
      iintro %_ ⟨H2, H3, H4, H10, H6, H7, H8, %g9, H9⟩
      isplitl [H2]; · iexact H2
      isplitl [H3]; · iexact H3
      isplitl [H4]; · iexact H4
      isplitl [H10]; · iexact H10
      isplitl [H6]
      · iexists _
        isplitr; swap; (· iexact H6)
        ipureintro
        exact rows_put Q K A V X t.val ht (off42_at t) hX
      isplitl [H7]; · iexact H7
      ihave H9 := (pointsTo_rep_entails (c : Thread nD τ) arg9 g9 fullShare) $$ H9
      iexists _, _
      isplitr; swap
      · isplitl [H8]; · iexact H8
        iexact H9
      ipureintro
      have hq := (cond3_iff t).not.1 h2
      have hc := (cond1_iff t).not.1 h1
      rw [if_pos (by omega)]

set_option maxHeartbeats 2000000 in
theorem kernelRun (Q : Vec F S1x128x8192 .bf16) (K : Vec F S1x8192x128 .bf16) (V : Vec F S1x128x8192 .bf16) (C : Vec F S1x1x1x8192 .f32) :
    iprop((arg2.view.loc (c : Thread nD τ) ↦[arg2.view.set]{fullShare} arg2.view.rep Q) ∗
      (arg3.view.loc (c : Thread nD τ) ↦[arg3.view.set]{fullShare} arg3.view.rep K) ∗
      (arg4.view.loc (c : Thread nD τ) ↦[arg4.view.set]{fullShare} arg4.view.rep V) ∗
      (arg5.view.loc (c : Thread nD τ) ↦[arg5.view.set]{fullShare} arg5.view.rep C) ∗
      (∃ g : BufTy.Contents (Elt F) arg6.view.ty, arg6.view.loc (c : Thread nD τ) ↦[arg6.view.set]{fullShare} g) ∗
      (∃ g : BufTy.Contents (Elt F) arg7.view.ty, arg7.view.loc (c : Thread nD τ) ↦[arg7.view.set]{fullShare} g) ∗
      (∃ g : BufTy.Contents (Elt F) arg8.view.ty, arg8.view.loc (c : Thread nD τ) ↦[arg8.view.set]{fullShare} g) ∗
      (∃ g : BufTy.Contents (Elt F) arg9.view.ty, arg9.view.loc (c : Thread nD τ) ↦[arg9.view.set]{fullShare} g) ∗
      (∃ g : BufTy.Contents (Elt F) arg10.view.ty, arg10.view.loc (c : Thread nD τ) ↦[arg10.view.set]{fullShare} g) : sProp 𝕄) ⊢
    wp frame (wpE (defs₀ (F := F)) 𝒱₀ (c : Thread nD τ) none) Set.univ (cc0_flash_fox (F := F) i arg2 harg2 arg3 harg3 arg4 harg4 arg5 harg5 arg6 harg6 arg7 harg7 arg8 harg8 arg9 harg9 arg10 harg10)
      (fun _ => iprop((arg2.view.loc (c : Thread nD τ) ↦[arg2.view.set]{fullShare} arg2.view.rep Q) ∗
      (arg3.view.loc (c : Thread nD τ) ↦[arg3.view.set]{fullShare} arg3.view.rep K) ∗
      (arg4.view.loc (c : Thread nD τ) ↦[arg4.view.set]{fullShare} arg4.view.rep V) ∗
      (arg5.view.loc (c : Thread nD τ) ↦[arg5.view.set]{fullShare} arg5.view.rep C) ∗
      (arg6.view.loc (c : Thread nD τ) ↦[arg6.view.set]{fullShare} arg6.view.rep (headOut Q K V C)) ∗
      (∃ g : BufTy.Contents (Elt F) arg7.view.ty, arg7.view.loc (c : Thread nD τ) ↦[arg7.view.set]{fullShare} g) ∗
      (∃ g : BufTy.Contents (Elt F) arg8.view.ty, arg8.view.loc (c : Thread nD τ) ↦[arg8.view.set]{fullShare} g) ∗
      (∃ g : BufTy.Contents (Elt F) arg9.view.ty, arg9.view.loc (c : Thread nD τ) ↦[arg9.view.set]{fullShare} g) ∗
      (∃ g : BufTy.Contents (Elt F) arg10.view.ty, arg10.view.loc (c : Thread nD τ) ↦[arg10.view.set]{fullShare} g))) := by
  iintro ⟨H2, H3, H4, H5, ⟨%g6, H6⟩, ⟨%g7, H7⟩, ⟨%g8, H8⟩, ⟨%g9, H9⟩, %g10, H10⟩
  ihave H10 := (pointsTo_rep_entails (c : Thread nD τ) arg10 g10 fullShare) $$ H10
  ihave H6 := (pointsTo_rep_entails (c : Thread nD τ) arg6 g6 fullShare) $$ H6
  ihave H9 := (pointsTo_rep_entails (c : Thread nD τ) arg9 g9 fullShare) $$ H9
  sl_unfold [cc0_flash_fox]
  unfold cc0_flash_fox_skel
  sl_for (fun k _ => inv1 c arg5 arg10 C k) $$ [H5 H10]
  case region =>
    intro t _
    exact trip1 c i arg2 harg2 arg3 harg3 arg4 harg4 arg5 harg5 arg6 harg6 arg7 harg7 arg8 harg8 arg9 harg9 arg10 harg10 C t
  · unfold inv1
    isplitl [H5]; · iexact H5
    iexists _
    isplitr; swap; (· iexact H10)
    ipureintro
    intro j hj
    exact absurd hj (Nat.not_lt_zero _)
  iintro %_ HI
  unfold inv1
  icases HI with ⟨H5, %A, %hA, H10⟩
  have hA' : A = augOf C := aug_all C A (by
    intro j hj
    exact hA j (lt_of_lt_of_eq hj t1_trips.symm))
  subst hA'
  sl_exec
  ihave H8 := (pointsTo_rep_of_read (c : Thread nD τ) arg8 _ _ (scores Q K (augOf C) 0 0) ?_) $$ H8
  · sl_unfold_run_names
    rw [View.read_writes_full]
    repeat rw [load_cols0]
    repeat rw [load_rows0]
    repeat rw [load_aug0]
    rfl
  sl_for (fun k _ => inv2 c arg2 arg3 arg4 arg6 arg7 arg8 arg9 arg10 Q K V (augOf C) k) $$ [H2 H3 H4 H6 H7 H8 H9 H10]
  case region =>
    intro t _
    exact trip2 c i arg2 harg2 arg3 harg3 arg4 harg4 arg5 harg5 arg6 harg6 arg7 harg7 arg8 harg8 arg9 harg9 arg10 harg10 Q K V (augOf C) t
  · unfold inv2
    isplitl [H2]; · iexact H2
    isplitl [H3]; · iexact H3
    isplitl [H4]; · iexact H4
    isplitl [H10]; · iexact H10
    isplitl [H6]
    · iexists _
      isplitr; swap; (· iexact H6)
      ipureintro
      intro j hj
      exact absurd hj (Nat.not_lt_zero _)
    isplitl [H7]; · iexists _; iexact H7
    iexists _, _
    isplitr; swap
    · isplitl [H8]; · iexact H8
      iexact H9
    ipureintro
    rw [if_pos (by norm_num)]
    rfl
  iintro %_ HI
  unfold inv2
  icases HI with ⟨H2, H3, H4, H10, ⟨%X, %hX, H6⟩, H7, %X8, %X9, %hb, H8, H9⟩
  have hX' : X = headOut Q K V C := rows_all Q K V C X (by
    intro j hj
    exact hX j (lt_of_lt_of_eq hj t2_trips.symm))
  subst hX'
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iexists _; iexact H10

end Cert.Proof.KernelIdeal

end
-- ==== Proof.Run.lean ====
/- The program's run: what each grid point leaves in the staging buffers, the body's triple at each point, and the run of
   @main through the pipeline. Every run ends with the result array at the blocks `headOut` gives, the arguments as
   launched and every semaphore counter at zero. -/
module

public import proofs.«01_k».proof.Proof.Body
public import proofs.«01_k».proof.Proof.Gen.KernelIdeal.Frame
public import proofs.«01_k».proof.Proof.Gen.KernelIdeal.Loops
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The block the body leaves in the result's staging buffer at point `t`. -/
def outsAt (c : Dev nD) (t : Fin cfg0.N) : Vec F S1x8192x128 .bf16 :=
  headOut (iblk m c 0 t) (iblk m c 1 t) (iblk m c 2 t) (iblk m c 3 t)

/-- The pipeline's proof data: the arrays as the region finds them; after the body each input's buffer at its block and the
    result's at `outsAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outsAt m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outsAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

omit [FloatOps F] [Named F] in
/-- A scratch buffer held whole is its own view held by its elements. -/
theorem scratch (c : Dev nD) (b : Ref sig .tc) (f : Buf (Elt F) ((c : Thread nD τ).loc b)) :
    (((c : Thread nD τ).loc b) ↦{fullShare} f : sProp 𝕄)
      = ((Memref.whole b).view.loc (c : Thread nD τ) ↦[(Memref.whole b).view.set]{fullShare} f) := by
  rw [show (Memref.whole b).view.set = Finset.univ from View.set_whole b]
  try rfl

/-- The body's triple at a grid point, over the staging buffers and the scratch buffers the pipeline hands it. -/
theorem pointRun (c : Dev nD) (t : Fin cfg0.N) (Q : Vec F S1x128x8192 .bf16) (K : Vec F S1x8192x128 .bf16) (V : Vec F S1x128x8192 .bf16)
    (C : Vec F S1x1x1x8192 .f32) :
    iprop(owns (c : Thread nD τ) (st0_0 t) fullShare Q ∗ owns (c : Thread nD τ) (st0_1 t) fullShare K ∗ owns (c : Thread nD τ) (st0_2 t) fullShare V ∗ owns (c : Thread nD τ) (st0_3 t) fullShare C ∗ (∃ X, owns (c : Thread nD τ) (st0_4 t) fullShare X) ∗
      (∃ f, ((c : Thread nD τ).loc cc0_scratch0) ↦{fullShare} f) ∗
      (∃ f, ((c : Thread nD τ).loc cc0_scratch1) ↦{fullShare} f) ∗
      (∃ f, ((c : Thread nD τ).loc cc0_scratch2) ↦{fullShare} f) ∗
      (∃ f, ((c : Thread nD τ).loc cc0_scratch3) ↦{fullShare} f) : sProp 𝕄) ⊢
    wp frame (wpE (defs₀ (F := F)) 𝒱₀ (c : Thread nD τ) none) Set.univ (bodyAt0 (F := F) t)
      (fun _ => iprop(owns (c : Thread nD τ) (st0_0 t) fullShare Q ∗ owns (c : Thread nD τ) (st0_1 t) fullShare K ∗ owns (c : Thread nD τ) (st0_2 t) fullShare V ∗ owns (c : Thread nD τ) (st0_3 t) fullShare C ∗ owns (c : Thread nD τ) (st0_4 t) fullShare (headOut Q K V C) ∗
      (∃ f, ((c : Thread nD τ).loc cc0_scratch0) ↦{fullShare} f) ∗
      (∃ f, ((c : Thread nD τ).loc cc0_scratch1) ↦{fullShare} f) ∗
      (∃ f, ((c : Thread nD τ).loc cc0_scratch2) ↦{fullShare} f) ∗
      (∃ f, ((c : Thread nD τ).loc cc0_scratch3) ↦{fullShare} f))) := by
  unfold owns
  iintro ⟨⟨%f2, %h2, H2⟩, ⟨%f3, %h3, H3⟩, ⟨%f4, %h4, H4⟩, ⟨%f5, %h5, H5⟩, ⟨%X6, %f6, %h6, H6⟩, ⟨%f7, H7⟩, ⟨%f8, H8⟩, ⟨%f9, H9⟩, %f10, H10⟩
  ihave H2 := (pointsTo_rep_of_read (c : Thread nD τ) (st0_0 t) _ _ _ h2) $$ H2
  ihave H3 := (pointsTo_rep_of_read (c : Thread nD τ) (st0_1 t) _ _ _ h3) $$ H3
  ihave H4 := (pointsTo_rep_of_read (c : Thread nD τ) (st0_2 t) _ _ _ h4) $$ H4
  ihave H5 := (pointsTo_rep_of_read (c : Thread nD τ) (st0_3 t) _ _ _ h5) $$ H5
  ihave H7 := (Entails.of_eq (scratch (F := F) c cc0_scratch0 f7)) $$ H7
  ihave H8 := (Entails.of_eq (scratch (F := F) c cc0_scratch1 f8)) $$ H8
  ihave H9 := (Entails.of_eq (scratch (F := F) c cc0_scratch2 f9)) $$ H9
  ihave H10 := (Entails.of_eq (scratch (F := F) c cc0_scratch3 f10)) $$ H10
  iapply (wp_wand_r Idealize.ShloMosaic.frame (wpE (defs₀ (F := F)) 𝒱₀ (c : Thread nD τ) none) Set.univ)
  isplitl [H2 H3 H4 H5 H6 H7 H8 H9 H10]
  · iapply (kernelRun c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _) Q K V C)
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    iexists _; iexact H10
  iintro %_ ⟨H2, H3, H4, H5, H6, ⟨%f7, H7⟩, ⟨%f8, H8⟩, ⟨%f9, H9⟩, %f10, H10⟩
  ihave H7 := (Entails.of_eq (scratch (F := F) c cc0_scratch0 f7).symm) $$ H7
  ihave H8 := (Entails.of_eq (scratch (F := F) c cc0_scratch1 f8).symm) $$ H8
  ihave H9 := (Entails.of_eq (scratch (F := F) c cc0_scratch2 f9).symm) $$ H9
  ihave H10 := (Entails.of_eq (scratch (F := F) c cc0_scratch3 f10).symm) $$ H10
  isplitl [H2]
  · iexists _
    isplitr; swap; (· iexact H2)
    ipureintro
    exact View.read_rep _ _
  isplitl [H3]
  · iexists _
    isplitr; swap; (· iexact H3)
    ipureintro
    exact View.read_rep _ _
  isplitl [H4]
  · iexists _
    isplitr; swap; (· iexact H4)
    ipureintro
    exact View.read_rep _ _
  isplitl [H5]
  · iexists _
    isplitr; swap; (· iexact H5)
    ipureintro
    exact View.read_rep _ _
  isplitl [H6]
  · iexists _
    isplitr; swap; (· iexact H6)
    ipureintro
    exact View.read_rep _ _
  isplitl [H7]; · iexists _; iexact H7
  isplitl [H8]; · iexists _; iexact H8
  isplitl [H9]; · iexists _; iexact H9
  iexists _; iexact H10

/-- The library's body obligation. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3]
  rw [show (dats m 0 c).Φ t.succ = (dats m 0 c).Φ t.castSucc from rfl,
    show (dats m 0 c).owesAt () t.succ = (dats m 0 c).owesAt () t.castSucc from rfl, after0_0, after0_1, after0_2, after0_3, after0_4,
    show (dats m 0 c).Φ t.castSucc = Pipeline.ΦA spec0 c from rfl]
  unfold outsAt Pipeline.ΦA
  rw [scopedRest0_eq]
  iintro ⟨⟨⟨H7, H8, H9, H10⟩, HP⟩, Ho, ⟨%d0, H0⟩, ⟨%d1, H1⟩, ⟨%d2, H2⟩, ⟨%d3, H3⟩, ⟨%d4, H4⟩⟩
  iapply (wp_wand_r Idealize.ShloMosaic.frame (wpE (defs₀ (F := F)) 𝒱₀ (c : Thread nD τ) none) Set.univ)
  isplitl [H0 H1 H2 H3 H4 H7 H8 H9 H10]
  · iapply (pointRun c t (iblk m c 0 t) (iblk m c 1 t) (iblk m c 2 t) (iblk m c 3 t))
    isplitl [H0]; · iexact H0
    isplitl [H1]; · iexact H1
    isplitl [H2]; · iexact H2
    isplitl [H3]; · iexact H3
    isplitl [H4]; · iexists _; iexact H4
    isplitl [H7]; · iexact H7
    isplitl [H8]; · iexact H8
    isplitl [H9]; · iexact H9
    iexact H10
  iintro %_ ⟨H0, H1, H2, H3, H4, H7, H8, H9, H10⟩
  isplitl [H7 H8 H9 H10 HP]
  · isplitr [HP]
    · isplitl [H7]; · iexact H7
      isplitl [H8]; · iexact H8
      isplitl [H9]; · iexact H9
      iexact H10
    iexact HP
  isplitl [Ho]; · iexact Ho
  isplitl [H0]; · iexact H0
  isplitl [H1]; · iexact H1
  isplitl [H2]; · iexact H2
  isplitl [H3]; · iexact H3
  iexact H4

-- `θ_run_frame`'s implicit arguments are found by unifying its conclusion with this one, which takes unfolding plain
-- definitions in a metavariable's type
set_option backward.isDefEq.respectTransparency.types false in
/-- Every weakly fair execution of @main from zero counters terminates with every array of the pipeline at what the library
    computes from the proof data and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun c w => A_eq m c w) (hΦ := fun _ _ => rfl)

end Cert.Proof.KernelIdeal

end
-- ==== Proof.Online.lean ====
/- The running softmax over the extended reals: what one tile of keys does to the maximum, the sum and the weighted values
   of one query, and that the quotient at the end is the softmax-weighted sum of the values. Scores are real or minus
   infinity (a masked key); values are any extended reals. -/
module

public import Idealize.ShloMosaic.PureOps.Ideal
public import Idealize.ShloMosaic.PureOps.Ideal.Laws

@[expose] public section

noncomputable section

namespace Cert.Proof.Soft

open Idealize.ShloMosaic Finset

/-- A sum of extended reals times a nonnegative real, term by term. -/
theorem sum_mul_coe {ι : Type} (s : Finset ι) (f : ι → EReal) (c : ℝ) (hc : 0 ≤ c) :
    (∑ k ∈ s, f k) * (c : EReal) = ∑ k ∈ s, f k * (c : EReal) := by
  classical
  induction s using Finset.induction_on with
  | empty => simp
  | insert a s ha ih =>
    rw [sum_insert ha, sum_insert ha, EReal.right_distrib_of_nonneg_of_ne_top (by exact_mod_cast hc) (EReal.coe_ne_top c), ih]

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [sum_insert ha, sum_insert ha, EReal.coe_add, ih]

/-- The sum of a function of the first `w` indices that is zero from there on. -/
theorem sum_first {n w : ℕ} (hw : w ≤ n) (f : Fin n → EReal) (g : ℕ → EReal) (h : ∀ k : Fin n, f k = if k.val < w then g k.val else 0) :
    ∑ k, f k = ∑ k ∈ range w, g k := by
  rw [Finset.sum_congr rfl fun k _ => h k, Fin.sum_univ_eq_sum_range (fun k => if k < w then g k else 0) n,
    ← Finset.sum_subset (range_subset_range.2 hw) (fun k _ hk => if_neg (by simpa using hk))]
  exact Finset.sum_congr rfl fun k hk => if_pos (by simpa using hk)

/-- The unnormalised weight of key `k` against the reference point `M`. -/
def wt (x : ℕ → ℝ) (M : ℝ) (k : ℕ) : ℝ := Real.rpow 2 (x k - M)

theorem wt_pos (x : ℕ → ℝ) (M : ℝ) (k : ℕ) : 0 < wt x M k := Real.rpow_pos_of_pos (by norm_num) _

theorem wt_shift (x : ℕ → ℝ) (M M' : ℝ) (k : ℕ) : wt x M k * Real.rpow 2 (M - M') = wt x M' k := by
  unfold wt
  show (2 : ℝ) ^ (x k - M) * (2 : ℝ) ^ (M - M') = (2 : ℝ) ^ (x k - M')
  rw [← Real.rpow_add (by norm_num)]
  congr 1
  ring

/-- The maximum, the sum and the weighted values of a query after its first `N` keys. -/
def St (x : ℕ → ℝ) (v : ℕ → EReal) (N : ℕ) (m l acc : EReal) : Prop :=
  (N = 0 ∧ m = ⊥ ∧ l = 0 ∧ acc = 0) ∨
    ∃ M : ℝ, m = (M : EReal) ∧ l = ((∑ k ∈ range N, wt x M k : ℝ) : EReal) ∧ acc = ∑ k ∈ range N, v k * (wt x M k : EReal)

theorem St.zero (x : ℕ → ℝ) (v : ℕ → EReal) : St x v 0 ⊥ 0 0 := .inl ⟨rfl, rfl, rfl, rfl⟩

theorem max_real {n w : ℕ} (hw : 0 < w) (hwn : w ≤ n) (y : ℕ → ℝ) (m : EReal) (hm : m < ⊤) (s : Fin n → EReal)
    (hs : ∀ k : Fin n, s k = if k.val < w then (y k.val : EReal) else ⊥) :
    ∃ M : ℝ, max m ((univ : Finset (Fin n)).fold max ⊥ s) = (M : EReal) := by
  have ht : max m ((univ : Finset (Fin n)).fold max ⊥ s) < ⊤ := by
    refine max_lt hm ((Finset.fold_max_lt _).2 ⟨bot_lt_top, fun k _ => ?_⟩)
    rw [hs k]
    split
    · exact EReal.coe_lt_top _
    · exact bot_lt_top
  have hb : ⊥ < max m ((univ : Finset (Fin n)).fold max ⊥ s) := by
    refine lt_of_lt_of_le (EReal.bot_lt_coe (y 0)) (le_max_of_le_right ((Finset.le_fold_max _).2 (.inr ⟨⟨0, by omega⟩, mem_univ _, ?_⟩)))
    rw [hs, if_pos hw]
  exact ⟨_, (EReal.coe_toReal ht.ne hb.ne').symm⟩

/-- One tile of keys, of which the first `w` count. -/
theorem St.step {x : ℕ → ℝ} {v : ℕ → EReal} {N : ℕ} {m l acc : EReal} (h : St x v N m l acc) {n w : ℕ} (hw : 0 < w) (hwn : w ≤ n)
    (s u : Fin n → EReal) (hs : ∀ k : Fin n, s k = if k.val < w then (x (N + k.val) : EReal) else ⊥)
    (hu : ∀ k : Fin n, k.val < w → u k = v (N + k.val)) {m' : EReal} (hm' : m' = max m ((univ : Finset (Fin n)).fold max ⊥ s)) :
    St x v (N + w) m' (Ideal.exp2 (m - m') * l + ∑ k, Ideal.exp2 (s k - m')) (Ideal.exp2 (m - m') * acc + ∑ k, u k * Ideal.exp2 (s k - m')) := by
  have hmt : m < ⊤ := by
    rcases h with ⟨-, rfl, -⟩ | ⟨M, rfl, -⟩
    · exact bot_lt_top
    · exact EReal.coe_lt_top _
  obtain ⟨M', hM⟩ := max_real hw hwn (fun k => x (N + k)) m hmt s hs
  rw [hM] at hm'
  subst hm'
  have hp : ∀ k : Fin n, Ideal.exp2 (s k - (M' : EReal)) = if k.val < w then (wt x M' (N + k.val) : EReal) else 0 := by
    intro k
    rw [hs k]
    split
    · rw [← EReal.coe_sub, Ideal.exp2_coe]; rfl
    · rw [EReal.bot_sub]; exact Ideal.exp2_bot
  have hl : ∑ k, Ideal.exp2 (s k - (M' : EReal)) = ∑ k ∈ range w, (wt x M' (N + k) : EReal) :=
    sum_first hwn _ (fun k => (wt x M' (N + k) : EReal)) hp
  have ha : ∑ k, u k * Ideal.exp2 (s k - (M' : EReal)) = ∑ k ∈ range w, v (N + k) * (wt x M' (N + k) : EReal) := by
    refine sum_first hwn _ (fun k => v (N + k) * (wt x M' (N + k) : EReal)) fun k => ?_
    rw [hp k]
    split
    · rename_i hk; rw [hu k hk]
    · exact mul_zero _
  rw [hl, ha]
  refine .inr ⟨M', rfl, ?_, ?_⟩
  · rw [sum_range_add, EReal.coe_add]
    congr 1
    · rcases h with ⟨rfl, rfl, rfl, rfl⟩ | ⟨M, rfl, rfl, rfl⟩
      · simp
      · rw [← EReal.coe_sub, Ideal.exp2_coe, ← EReal.coe_mul, mul_comm, sum_mul]
        exact congrArg _ (Finset.sum_congr rfl fun k _ => wt_shift x M M' k)
    · exact (coe_sum _ _).symm
  · rw [sum_range_add]
    congr 1
    rcases h with ⟨rfl, rfl, rfl, rfl⟩ | ⟨M, rfl, rfl, rfl⟩
    · simp
    · rw [← EReal.coe_sub, Ideal.exp2_coe, mul_comm, sum_mul_coe _ _ (Real.rpow 2 (M - M')) (Real.rpow_nonneg (by norm_num) _)]
      exact Finset.sum_congr rfl fun k _ => by rw [mul_assoc, ← EReal.coe_mul, wt_shift]

/-- The sum of the values of the first `N` keys weighted by the softmax of `y`, taken relative to the point `M`. -/
def soft (y : ℕ → ℝ) (v : ℕ → EReal) (N : ℕ) (M : ℝ) : EReal :=
  ∑ k ∈ range N, v k * ((Real.exp (y k - M) / ∑ j ∈ range N, Real.exp (y j - M) : ℝ) : EReal)

theorem soft_shift (y : ℕ → ℝ) (v : ℕ → EReal) (N : ℕ) (M M' : ℝ) : soft y v N M = soft y v N M' := by
  refine Finset.sum_congr rfl fun k _ => ?_
  congr 2
  have e : ∀ j, Real.exp (y j - M) = Real.exp (y j - M') * Real.exp (M' - M) := fun j => by
    rw [← Real.exp_add]; congr 1; ring
  simp only [e]
  rw [← sum_mul, mul_div_mul_right _ _ (Real.exp_pos _).ne']

/-- The quotient at the end is the softmax of the scores in base `e`, up to a common summand. -/
theorem St.final {x : ℕ → ℝ} {v : ℕ → EReal} {N : ℕ} {m l acc : EReal} (h : St x v N m l acc) (hN : 0 < N) (y : ℕ → ℝ) (c : ℝ)
    (hy : ∀ k, y k = Real.log 2 * x k + c) (M : ℝ) : Ideal.div acc l = soft y v N M := by
  rcases h with ⟨rfl, -⟩ | ⟨M₀, -, rfl, rfl⟩
  · exact absurd hN (lt_irrefl 0)
  have hpos : 0 < ∑ k ∈ range N, wt x M₀ k := sum_pos (fun k _ => wt_pos x M₀ k) ⟨0, mem_range.2 hN⟩
  rw [Ideal.div_coe hpos.ne', sum_mul_coe _ _ _ (by positivity), soft_shift y v N M (Real.log 2 * M₀ + c)]
  have e : ∀ k, Real.exp (y k - (Real.log 2 * M₀ + c)) = wt x M₀ k := fun k => by
    unfold wt
    show _ = (2 : ℝ) ^ (x k - M₀)
    rw [hy, Real.rpow_def_of_pos (by norm_num)]
    congr 1
    ring
  refine Finset.sum_congr rfl fun k _ => ?_
  rw [mul_assoc, ← EReal.coe_mul]
  simp only [e]
  rw [mul_one_div]

/-- One row of the softmax taken at once: the maximum, the exponentials, their sum, the quotients, the weighted values. -/
theorem row {n N : ℕ} (hN : 0 < N) (hNn : N ≤ n) (y : ℕ → ℝ) (v : ℕ → EReal) (s u : Fin n → EReal)
    (hs : ∀ k : Fin n, s k = if k.val < N then (y k.val : EReal) else ⊥) (hu : ∀ k : Fin n, u k = v k.val) {m : EReal}
    (hm : m = max ⊥ ((univ : Finset (Fin n)).fold max ⊥ s)) (M : ℝ) :
    ∑ k, u k * Ideal.div (Ideal.exp (s k - m)) (0 + ∑ j, Ideal.exp (s j - m)) = soft y v N M := by
  obtain ⟨M', hM⟩ := max_real hN hNn y ⊥ bot_lt_top s hs
  rw [hM] at hm
  subst hm
  have hp : ∀ k : Fin n, Ideal.exp (s k - (M' : EReal)) = if k.val < N then (Real.exp (y k.val - M') : EReal) else 0 := by
    intro k
    rw [hs k]
    split
    · rw [← EReal.coe_sub, Ideal.exp_coe]
    · rw [EReal.bot_sub]; exact Ideal.exp_bot
  have hl : ∑ k, Ideal.exp (s k - (M' : EReal)) = ((∑ k ∈ range N, Real.exp (y k - M') : ℝ) : EReal) :=
    (sum_first hNn _ (fun k => (Real.exp (y k - M') : EReal)) hp).trans (coe_sum _ _).symm
  have hpos : 0 < ∑ k ∈ range N, Real.exp (y k - M') := sum_pos (fun k _ => Real.exp_pos _) ⟨0, mem_range.2 hN⟩
  rw [hl, zero_add, soft_shift y v N M M']
  refine sum_first hNn _ (fun k => v k * ((Real.exp (y k - M') / ∑ j ∈ range N, Real.exp (y j - M') : ℝ) : EReal)) fun k => ?_
  rw [Ideal.div_coe hpos.ne', hp k, hu k]
  split
  · rw [← EReal.coe_mul, mul_one_div]
  · rw [zero_mul, mul_zero]

end Cert.Proof.Soft

end
-- ==== Proof.Pays.lean ====
/- The kernel's vector values at the ideal instance, read at an index: the augmentation of the keys, the scores, one update of
   the running softmax, its last two steps on the diagonal, and the quotient. -/
module

public import proofs.«01_k».proof.Proof.Tiles
public import proofs.«01_k».proof.Proof.Online
public import Idealize.ShloMosaic.Lib.MatmulPlain
public import Idealize.ShloMosaic.Lib.Pipeline.Value
public import Idealize.ShloMosaic.PureOps.IdealRules

@[expose] public section

set_option maxRecDepth 16384

noncomputable section

namespace Cert.Proof.KernelIdeal

open Cert.KernelIdeal Cert.KernelIdeal.Gen
open Idealize.ShloMosaic Idealize.ShloMosaic.ValueIdx
open Cert.Proof.Soft (St)
open Finset (univ)

/-! ## Constants -/

theorem bits_bot : (FloatOps.ofBits .f32 0xFF800000#32 : Ideal .f32) = ⊥ := by
  show Ideal.ofBits .f32 0xFF800000#32 = ⊥
  simp [Ideal.ofBits, Ideal.ieee]

theorem bits_zero : (FloatOps.ofBits .f32 0x00000000#32 : Ideal .f32) = 0 := by
  show Ideal.ofBits .f32 0x00000000#32 = 0
  simp [Ideal.ofBits, Ideal.ieee]

theorem named_mask : Named.named (F := Ideal) κ "mask" (φ := .f32) 0xF149F2CA#32 = (⊥ : EReal) :=
  IdealRules.named_const.ideal_named_scalar _ _ _ _ rfl

theorem named_log : Named.named (F := Ideal) κ "neg_log2e" (φ := .f32) 0xBFB8AA3B#32 = ((-((Real.log 2)⁻¹) : ℝ) : EReal) :=
  IdealRules.named_const.ideal_named_scalar _ _ _ _ rfl

/-! ## Columns of a matrix -/

section Columns
variable {M N : ℕ}

theorem col_max (x : FVec Ideal ⟨2, ![M, N]⟩ .f32) (h : Shape.Reduces ⟨2, ![M, N]⟩ [0] ⟨1, ![N]⟩) (hφ : FKind.Formats .f32)
    (hacc : (0xFF800000#32 : BitVec 32) = FKind.maximumf.neutral .f32 hφ) (r : Fin N) :
    multiReduction .maximumf [0] ⟨1, ![N]⟩ x 0xFF800000#32 h hφ hacc (ix1 r) = (univ : Finset (Fin M)).fold max ⊥ fun k => x (ix2 k r) := by
  rw [Ideal.multiReduction_maximumf_single, bits_bot]
  refine congrArg (fun f => Finset.fold max (⊥ : EReal) f univ) (funext fun k => congrArg x ?_)
  exact Shape.idx_ext₂ rfl rfl

theorem col_sum (x : FVec Ideal ⟨2, ![M, N]⟩ .f32) (h : Shape.Reduces ⟨2, ![M, N]⟩ [0] ⟨1, ![N]⟩) (hφ : FKind.Formats .f32)
    (hacc : (0x00000000#32 : BitVec 32) = FKind.add.neutral .f32 hφ) (r : Fin N) :
    multiReduction .add [0] ⟨1, ![N]⟩ x 0x00000000#32 h hφ hacc (ix1 r) = ∑ k : Fin M, x (ix2 k r) := by
  rw [Ideal.multiReduction_add_single]
  exact Finset.sum_congr rfl fun k _ => congrArg x (Shape.idx_ext₂ rfl rfl)

theorem row_of_flat {α : Type} (x : (⟨1, ![N]⟩ : Shape).Idx → α) (h : Shape.ShapeCasts ⟨1, ![N]⟩ ⟨2, ![1, N]⟩) (r : Fin N) :
    shapeCast ⟨2, ![1, N]⟩ x h (ix2 0 r) = x (ix1 r) :=
  (shapeCast_addUnit_apply ![N] x h (ix2 0 r)).trans (congrArg x (eq_ix1 _))

theorem drop_unit {α : Type} (x : (⟨3, ![1, M, N]⟩ : Shape).Idx → α) (h : Shape.ShapeCasts ⟨3, ![1, M, N]⟩ ⟨2, ![M, N]⟩) (d : Fin M) (r : Fin N) :
    shapeCast ⟨2, ![M, N]⟩ x h (ix2 d r) = x (ix3 0 d r) :=
  (shapeCast_dropUnit_apply ![M, N] x h (ix2 d r)).trans (congrArg x (eq_ix3 _))

theorem add_unit {α : Type} (x : (⟨2, ![M, N]⟩ : Shape).Idx → α) (h : Shape.ShapeCasts ⟨2, ![M, N]⟩ ⟨3, ![1, M, N]⟩) (d : Fin M) (r : Fin N) :
    shapeCast ⟨3, ![1, M, N]⟩ x h (ix3 0 d r) = x (ix2 d r) :=
  (shapeCast_addUnit_apply ![M, N] x h (ix3 0 d r)).trans (congrArg x (eq_ix2 _))

theorem row_bcast {α : Type} (hN : N ≠ 1) (x : (⟨2, ![1, N]⟩ : Shape).Idx → α) (h : Shape.Broadcasts ⟨2, ![1, N]⟩ ⟨2, ![M, N]⟩) (k : Fin M) (r : Fin N) :
    broadcastTo ⟨2, ![M, N]⟩ x h (ix2 k r) = x (ix2 0 r) :=
  broadcastTo_apply x h (ix2 k r) (ix2 0 r) fun a => match a with
    | ⟨0, _⟩ => by show 0 = if (1 : ℕ) = 1 then 0 else _; rw [if_pos rfl]
    | ⟨1, _⟩ => by show r.val = if N = 1 then 0 else r.val; rw [if_neg hN]

end Columns

theorem cmpi_apply {s : Shape} {w : ℕ} (p : CmpIPredicate) (a b : IVec s w) (i : s.Idx) : cmpi p a b i = IntOp.cmpi p (a i) (b i) := rfl

theorem addi_apply {s : Shape} {w : ℕ} (a b : IVec s w) (i : s.Idx) : addi a b i = a i + b i := rfl

theorem zero_acc {s : Shape} (i : s.Idx) : (constant s .f32 0x00000000#32 : FVec Ideal s .f32) i = 0 := bits_zero

/-! ## The augmentation of the keys -/

theorem lane_eq (n : ℕ) (hn : n < 128) (b : BitVec 32) (hb : b.toNat < 128) :
    IntOp.cmpi .eq (BitVec.ofNat 32 n) b = if n = b.toNat then 1#1 else 0#1 := by
  have e : (BitVec.ofNat 32 n).toNat = n := by rw [BitVec.toNat_ofNat]; exact Nat.mod_eq_of_lt (by omega)
  show BitVec.ofBool (BitVec.ofNat 32 n == b) = _
  by_cases h : n = b.toNat
  · rw [if_pos h, beq_iff_eq.mpr (BitVec.eq_of_toNat_eq (e.trans h))]; rfl
  · rw [if_neg h, beq_eq_false_iff_ne.mpr (fun hh => h (e.symm.trans (congrArg BitVec.toNat hh)))]; rfl

theorem select_if {α : Type} (p : Prop) [Decidable p] (a b : α) : Scalar.select (if p then 1#1 else 0#1) a b = if p then a else b := by
  split <;> rfl

theorem pay1_apply (X : Vec Ideal S1x1x1x1024 .f32) (k : Fin 1024) (a : Fin 128) (c : ℝ) (hc : X (ix4 0 0 0 k) = (c : EReal)) :
    k0_pay1 X (ix2 k a) = if a.val = 0 then ((-(Real.log 2)⁻¹ * c : ℝ) : EReal) else 0 := by
  have h29 : shapeCast S1x1024 X shapeCasts_S1x1x1x1024_S1x1024 (ix2 0 k) = (c : EReal) := by
    refine (shapeCast_apply X shapeCasts_S1x1x1x1024_S1x1024 (ix2 0 k) (ix4 0 0 0 k) ?_).trans hc
    rw [Shape.rowMajor_val_two, Shape.rowMajor_val_four]
    show ((0 * 1 + 0) * 1 + 0) * 1024 + k.val = 0 * 1024 + k.val
    omega
  unfold k0_pay1
  simp only [shapeCast_self]
  rw [truncf_apply, transpose_apply _ _ _ (ix2 k a) (ix2 a k) (fun b => match b with | ⟨0, _⟩ => rfl | ⟨1, _⟩ => rfl)]
  rw [select_apply, select_apply, select_apply]
  rw [row_bcast (by norm_num), row_bcast (by norm_num), row_bcast (by norm_num)]
  simp only [subf_apply, extf_apply, truncf_apply, mulf_apply, broadcast_apply, h29, named_log]
  have hi : iota .tc S128x1024 32 [0] iota_S128x1024_d0_w32 (ix2 a k) = BitVec.ofNat 32 a.val :=
    iota_single_apply .tc S128x1024 32 0 iota_S128x1024_d0_w32 (ix2 a k)
  simp only [cmpi_apply, hi, broadcast_apply]
  show Scalar.select (IntOp.cmpi .eq (BitVec.ofNat 32 a.val) 0#32) _ (Scalar.select (IntOp.cmpi .eq (BitVec.ofNat 32 a.val) 1#32) _
    (Scalar.select (IntOp.cmpi .eq (BitVec.ofNat 32 a.val) 2#32) _ (FloatOps.ofBits .f32 0x00000000#32 : Ideal .f32))) = _
  rw [lane_eq _ a.isLt _ (by decide), lane_eq _ a.isLt _ (by decide), lane_eq _ a.isLt _ (by decide), select_if, select_if, select_if, bits_zero]
  rw [← EReal.coe_mul, ← EReal.coe_sub, ← EReal.coe_sub, sub_self, sub_self]
  simp

/-! ## Scores -/

theorem pay35_lo (q : Vec Ideal S1x128x1024 .bf16) (d : Fin 128) (r : Fin 1024) :
    k0_pay35 q (ix2 (Fin.castAdd 128 d) r) = q (ix3 0 d r) := by
  unfold k0_pay35
  refine (concatenate_pair_apply_left (t := S256x1024) (s₁ := S128x1024) (s₂ := S128x1024) 0 _ _ _ (ix2 (Fin.castAdd 128 d) r) rfl (ix2 d r) ?_).trans ?_
  · intro b; match b with | ⟨0, _⟩ => rfl | ⟨1, _⟩ => rfl
  · exact drop_unit q _ d r

theorem lane_lt (n : ℕ) (hn : n < 128) :
    (Scalar.sitofp .f32 (BitVec.setWidth 32 (IntOp.cmpi .slt (BitVec.ofNat 32 n) 3#32)) : Ideal .f32) = if n < 3 then (1 : EReal) else 0 := by
  rw [Ideal.scalar_sitofp_def]
  interval_cases n <;> simp [IntOp.cmpi] <;> decide

theorem pay35_hi (q : Vec Ideal S1x128x1024 .bf16) (a : Fin 128) (r : Fin 1024) :
    k0_pay35 q (ix2 (Fin.natAdd 128 a) r) = if a.val < 3 then (1 : EReal) else 0 := by
  unfold k0_pay35
  refine (concatenate_pair_apply_right (t := S256x1024) (s₁ := S128x1024) (s₂ := S128x1024) 0 _ _ _ (ix2 (Fin.natAdd 128 a) r) rfl rfl (ix2 a r) ?_ ?_).trans ?_
  · intro b hb; match b with | ⟨0, _⟩ => exact absurd rfl hb | ⟨1, _⟩ => rfl
  · show a.val + 128 = 128 + a.val; omega
  · rw [truncf_apply, sitofp_apply, extui_apply, cmpi_apply, iota_single_apply]
    exact lane_lt a.val a.isLt

theorem pay36_lo (k : Vec Ideal S1x1024x128 .bf16) (A : Vec Ideal S1024x128 .bf16) (n : Fin 1024) (d : Fin 128) :
    k0_pay36 k A (ix2 n (Fin.castAdd 128 d)) = k (ix3 0 n d) := by
  unfold k0_pay36
  refine (concatenate_pair_apply_left (t := S1024x256) (s₁ := S1024x128) (s₂ := S1024x128) 1 _ _ _ (ix2 n (Fin.castAdd 128 d)) rfl (ix2 n d) ?_).trans ?_
  · intro b; match b with | ⟨0, _⟩ => rfl | ⟨1, _⟩ => rfl
  · exact drop_unit k _ n d

theorem pay36_hi (k : Vec Ideal S1x1024x128 .bf16) (A : Vec Ideal S1024x128 .bf16) (n : Fin 1024) (a : Fin 128) :
    k0_pay36 k A (ix2 n (Fin.natAdd 128 a)) = A (ix2 n a) := by
  unfold k0_pay36
  refine (concatenate_pair_apply_right (t := S1024x256) (s₁ := S1024x128) (s₂ := S1024x128) 1 _ _ _ (ix2 n (Fin.natAdd 128 a)) rfl rfl (ix2 n a) ?_ ?_)
  · intro b hb; match b with | ⟨0, _⟩ => rfl | ⟨1, _⟩ => exact absurd rfl hb
  · show a.val + 128 = 128 + a.val; omega

/-- One augmented product: the key's features against the query's, and the augmentation of the key against ones. -/
theorem aug_dot (q : Vec Ideal S1x128x1024 .bf16) (k : Vec Ideal S1x1024x128 .bf16) (A : Vec Ideal S1024x128 .bf16) (n r : Fin 1024)
    (θ κ' : Fin 128 → ℝ) (γ : ℝ) (hq : ∀ d, q (ix3 0 d r) = (θ d : EReal)) (hk : ∀ d, k (ix3 0 n d) = (κ' d : EReal))
    (hA : ∀ a : Fin 128, A (ix2 n a) = if a.val = 0 then (γ : EReal) else 0) :
    ∑ e : Fin 256, k0_pay36 k A (ix2 n e) * k0_pay35 q (ix2 e r) = ((∑ d, κ' d * θ d + γ : ℝ) : EReal) := by
  refine (Fin.sum_univ_add (a := 128) (b := 128) (fun e => k0_pay36 k A (ix2 n e) * k0_pay35 q (ix2 e r))).trans ?_
  rw [EReal.coe_add]
  refine congrArg₂ (fun a b : EReal => a + b) ?_ ?_
  · rw [Soft.coe_sum]
    refine Finset.sum_congr rfl fun d _ => ?_
    rw [pay36_lo, pay35_lo, hq, hk, EReal.coe_mul]
  · rw [Finset.sum_eq_single (0 : Fin 128)]
    · rw [pay36_hi, pay35_hi, hA]; simp
    · intro a _ ha
      rw [pay36_hi, hA, if_neg (show ¬ a.val = 0 from fun h => ha (Fin.ext h))]; simp
    · simp

variable (q : Vec Ideal S1x128x1024 .bf16) (k : Vec Ideal S1x1024x128 .bf16) (A : Vec Ideal S1024x128 .bf16)

theorem pay21_apply (n r : Fin 1024) : k0_pay21 q k A (ix2 n r) = ∑ e : Fin 256, k0_pay36 k A (ix2 n e) * k0_pay35 q (ix2 e r) := by
  show shapeCast S1024x1024 (matmul (DotDims.plain 1024 256 1024) none (k0_pay36 k A) (k0_pay35 q) (constant S1024x1024 .f32 0x00000000#32)) _ (ix2 n r) = _
  rw [shapeCast_self]
  refine (Ideal.matmul_plain_apply _ _ _ _ n r).trans ?_
  rw [zero_acc, zero_add]

theorem pay37_apply (n r : Fin 512) : k0_pay37 q k A (ix2 n r) =
    ∑ e : Fin 256, k0_pay36 k A (ix2 ⟨n.val, by omega⟩ e) * k0_pay35 q (ix2 e ⟨r.val, by omega⟩) := by
  unfold k0_pay37
  rw [shapeCast_self]
  refine (Ideal.matmul_plain_apply _ _ _ _ n r).trans ?_
  rw [zero_acc, zero_add]
  refine Finset.sum_congr rfl fun e _ => congrArg₂ (fun a b : EReal => a * b) ?_ ?_
  · exact extractStridedSlice_apply _ _ _ _ _ fun b => match b with | ⟨0, _⟩ => (Nat.zero_add _).symm | ⟨1, _⟩ => (Nat.zero_add _).symm
  · exact extractStridedSlice_apply _ _ _ _ _ fun b => match b with | ⟨0, _⟩ => (Nat.zero_add _).symm | ⟨1, _⟩ => (Nat.zero_add _).symm

theorem pay38_apply (n : Fin 1024) (r : Fin 512) : k0_pay38 q k A (ix2 n r) =
    ∑ e : Fin 256, k0_pay36 k A (ix2 n e) * k0_pay35 q (ix2 e ⟨512 + r.val, by omega⟩) := by
  unfold k0_pay38
  rw [shapeCast_self]
  refine (Ideal.matmul_plain_apply _ _ _ _ n r).trans ?_
  rw [zero_acc, zero_add]
  refine Finset.sum_congr rfl fun e _ => congrArg₂ (fun a b : EReal => a * b) rfl ?_
  exact extractStridedSlice_apply _ _ _ _ _ fun b => match b with | ⟨0, _⟩ => (Nat.zero_add _).symm | ⟨1, _⟩ => rfl

/-! ## One update of the running softmax -/

theorem pay22_apply (m : FVec Ideal S1x1024 .f32) (s : FVec Ideal S1024x1024 .f32) (r : Fin 1024) :
    k0_pay22 m s (ix2 0 r) = max (m (ix2 0 r)) ((univ : Finset (Fin 1024)).fold max ⊥ fun k => s (ix2 k r)) := by
  unfold k0_pay22
  rw [maximumf_apply, row_of_flat]
  exact congrArg _ (col_max _ _ _ _ r)

theorem pay23_apply (m : FVec Ideal S1x1024 .f32) (s : FVec Ideal S1024x1024 .f32) (r : Fin 1024) :
    k0_pay23 m s (ix2 0 r) = Ideal.exp2 (m (ix2 0 r) - k0_pay22 m s (ix2 0 r)) := rfl

theorem pay24_apply (m : FVec Ideal S1x1024 .f32) (s : FVec Ideal S1024x1024 .f32) (k r : Fin 1024) :
    k0_pay24 m s (ix2 k r) = Ideal.exp2 (s (ix2 k r) - k0_pay22 m s (ix2 0 r)) := by
  unfold k0_pay24
  show Ideal.exp2 (s (ix2 k r) - broadcastTo S1024x1024 (k0_pay22 m s) _ (ix2 k r)) = _
  rw [row_bcast (by norm_num)]

theorem pay25_apply (m l : FVec Ideal S1x1024 .f32) (s : FVec Ideal S1024x1024 .f32) (r : Fin 1024) :
    k0_pay25 m l s (ix2 0 r) = Ideal.exp2 (m (ix2 0 r) - k0_pay22 m s (ix2 0 r)) * l (ix2 0 r)
      + ∑ k : Fin 1024, Ideal.exp2 (s (ix2 k r) - k0_pay22 m s (ix2 0 r)) := by
  unfold k0_pay25
  rw [addf_apply, mulf_apply, row_of_flat, pay23_apply]
  refine congrArg _ ((col_sum _ _ _ _ r).trans ?_)
  simp only [pay24_apply]

theorem pay26_apply (a : FVec Ideal S1x1024 .f32) (p : FVec Ideal S1024x1024 .f32) (acc : FVec Ideal S128x1024 .f32) (v : Vec Ideal S1x128x1024 .bf16)
    (d : Fin 128) (r : Fin 1024) :
    k0_pay26 a p acc v (ix2 d r) = a (ix2 0 r) * acc (ix2 d r) + ∑ k : Fin 1024, v (ix3 0 d k) * p (ix2 k r) := by
  unfold k0_pay26
  rw [shapeCast_self, addf_apply, mulf_apply, row_bcast (by norm_num)]
  refine congrArg (fun z : EReal => a (ix2 0 r) * acc (ix2 d r) + z) ?_
  refine (Ideal.matmul_plain_apply _ _ _ _ d r).trans ?_
  rw [zero_acc, zero_add]
  refine Finset.sum_congr rfl fun e _ => congrArg₂ (fun a b : EReal => a * b) ?_ rfl
  exact drop_unit v _ d e

theorem add_step (R : Run Ideal) (s : FVec Ideal S1024x1024 .f32) (v : Vec Ideal S1x128x1024 .bf16) (d : Fin 128) (r : Fin 1024)
    {x : ℕ → ℝ} {w : ℕ → EReal} {N : ℕ} (h : St x w N (R.m (ix2 0 r)) (R.l (ix2 0 r)) (R.acc (ix2 d r)))
    (hs : ∀ k : Fin 1024, s (ix2 k r) = (x (N + k.val) : EReal)) (hv : ∀ k : Fin 1024, v (ix3 0 d k) = w (N + k.val)) :
    St x w (N + 1024) ((R.add s v).m (ix2 0 r)) ((R.add s v).l (ix2 0 r)) ((R.add s v).acc (ix2 d r)) := by
  have hstep := h.step (n := 1024) (w := 1024) (by norm_num) le_rfl (fun k => s (ix2 k r)) (fun k => v (ix3 0 d k))
    (fun k => by rw [if_pos k.isLt]; exact hs k) (fun k _ => hv k) rfl
  have e1 : (R.add s v).m (ix2 0 r) = _ := pay22_apply R.m s r
  have e2 : (R.add s v).l (ix2 0 r) = _ := pay25_apply R.m R.l s r
  have e3 : (R.add s v).acc (ix2 d r) = _ := pay26_apply (k0_pay23 R.m s) (k0_pay24 R.m s) R.acc v d r
  simp only [pay23_apply, pay24_apply] at e3
  rw [e1, e2, e3, pay22_apply]
  exact hstep

/-! ## The last two steps, on the diagonal -/

theorem mask_le (a b o : ℕ) (ha : a < 1024) (hb : b < 1024) (ho : o < 1024) :
    IntOp.cmpi .sle (BitVec.ofNat 32 a) (BitVec.ofNat 32 b + BitVec.ofNat 32 o) = if a < o + b + 1 then 1#1 else 0#1 := by
  have e : BitVec.ofNat 32 b + BitVec.ofNat 32 o = BitVec.ofNat 32 (b + o) := by rw [BitVec.ofNat_add]
  rw [e]
  have t : ∀ n : ℕ, n < 2048 → (BitVec.ofNat 32 n).toInt = n := fun n hn => by
    rw [BitVec.toInt_eq_toNat_of_lt (by rw [BitVec.toNat_ofNat, Nat.mod_eq_of_lt (by omega)]; omega), BitVec.toNat_ofNat, Nat.mod_eq_of_lt (by omega)]
  show BitVec.ofBool ((BitVec.ofNat 32 a).sle (BitVec.ofNat 32 (b + o))) = _
  rw [BitVec.sle, t _ (by omega), t _ (by omega)]
  by_cases h : a < o + b + 1
  · rw [if_pos h, decide_eq_true (by omega)]; rfl
  · rw [if_neg h, decide_eq_false (by omega)]; rfl

section First
variable (m l : FVec Ideal S1x1024 .f32) (s : FVec Ideal S512x512 .f32) (r : Fin 512)

def lo (r : Fin 512) : Fin 1024 := ⟨r.val, by omega⟩
def hi (r : Fin 512) : Fin 1024 := ⟨512 + r.val, by omega⟩

theorem slice_lo (x : FVec Ideal S1x1024 .f32) : extractStridedSlice S1x512 ![0, 0] x slices_S1x1024_o0_0_S1x512 (ix2 0 r) = x (ix2 0 (lo r)) :=
  extractStridedSlice_apply _ _ _ _ _ fun b => match b with | ⟨0, _⟩ => rfl | ⟨1, _⟩ => (Nat.zero_add _).symm

theorem slice_hi (x : FVec Ideal S1x1024 .f32) : extractStridedSlice S1x512 ![0, 512] x slices_S1x1024_o0_512_S1x512 (ix2 0 r) = x (ix2 0 (hi r)) :=
  extractStridedSlice_apply _ _ _ _ _ fun b => match b with | ⟨0, _⟩ => rfl | ⟨1, _⟩ => rfl

theorem pay47_apply (k : Fin 512) : k0_pay47 (F := Ideal) s (ix2 k r) = if k.val < r.val + 1 then s (ix2 k r) else ⊥ := by
  unfold k0_pay47
  rw [select_apply, broadcast_apply, named_mask]
  have e := mask_le k.val r.val 0 (by omega) (by omega) (by omega)
  rw [cmpi_apply, iota_single_apply, addi_apply, iota_single_apply, broadcast_apply]
  refine (congrArg (fun c => Scalar.select c (s (ix2 k r)) (⊥ : EReal)) e).trans ?_
  rw [select_if, Nat.zero_add]

theorem pay48_apply : k0_pay48 m s (ix2 0 r) = max (m (ix2 0 (lo r))) ((univ : Finset (Fin 512)).fold max ⊥ fun k => k0_pay47 (F := Ideal) s (ix2 k r)) := by
  unfold k0_pay48
  rw [maximumf_apply, row_of_flat, slice_lo]
  exact congrArg _ (col_max _ _ _ _ r)

theorem pay49_apply : k0_pay49 m s (ix2 0 r) = Ideal.exp2 (m (ix2 0 (lo r)) - k0_pay48 m s (ix2 0 r)) := by
  rw [← slice_lo r m]; rfl

theorem pay50_apply (k : Fin 512) : k0_pay50 m s (ix2 k r) = Ideal.exp2 (k0_pay47 (F := Ideal) s (ix2 k r) - k0_pay48 m s (ix2 0 r)) := by
  unfold k0_pay50
  show Ideal.exp2 (k0_pay47 (F := Ideal) s (ix2 k r) - broadcastTo S512x512 (k0_pay48 m s) _ (ix2 k r)) = _
  rw [row_bcast (by norm_num)]

theorem pay51_apply : k0_pay51 m l s (ix2 0 r) = Ideal.exp2 (m (ix2 0 (lo r)) - k0_pay48 m s (ix2 0 r)) * l (ix2 0 (lo r))
      + ∑ k : Fin 512, Ideal.exp2 (k0_pay47 (F := Ideal) s (ix2 k r) - k0_pay48 m s (ix2 0 r)) := by
  unfold k0_pay51
  rw [addf_apply, mulf_apply, row_of_flat, slice_lo, pay49_apply]
  refine congrArg _ ((col_sum _ _ _ _ r).trans ?_)
  simp only [pay50_apply]

theorem pay52_apply (acc : FVec Ideal S128x512 .f32) (v : Vec Ideal S1x128x512 .bf16) (d : Fin 128) :
    k0_pay52 m s acc v (ix2 d r) = Ideal.exp2 (m (ix2 0 (lo r)) - k0_pay48 m s (ix2 0 r)) * acc (ix2 d r)
      + ∑ k : Fin 512, v (ix3 0 d k) * Ideal.exp2 (k0_pay47 (F := Ideal) s (ix2 k r) - k0_pay48 m s (ix2 0 r)) := by
  unfold k0_pay52
  rw [shapeCast_self, addf_apply, mulf_apply, row_bcast (by norm_num), pay49_apply]
  refine congrArg (fun z : EReal => Ideal.exp2 (m (ix2 0 (lo r)) - k0_pay48 m s (ix2 0 r)) * acc (ix2 d r) + z) ?_
  refine (Ideal.matmul_plain_apply _ _ _ _ d r).trans ?_
  rw [zero_acc, zero_add]
  refine Finset.sum_congr rfl fun e _ => congrArg₂ (fun a b : EReal => a * b) ?_ ?_
  · exact drop_unit v _ d e
  · exact pay50_apply m s r e

theorem finish_lo {acc : EReal} (w512 : FVec Ideal S128x512 .f32) (v : Vec Ideal S1x128x512 .bf16) (d : Fin 128)
    {x : ℕ → ℝ} {w : ℕ → EReal} {N : ℕ} (h : St x w N (m (ix2 0 (lo r))) (l (ix2 0 (lo r))) acc) (hw : w512 (ix2 d r) = acc)
    (hs : ∀ k : Fin 512, s (ix2 k r) = (x (N + k.val) : EReal)) (hv : ∀ k : Fin 512, v (ix3 0 d k) = w (N + k.val)) :
    St x w (N + (r.val + 1)) (k0_pay48 m s (ix2 0 r)) (k0_pay51 m l s (ix2 0 r)) (k0_pay52 m s w512 v (ix2 d r)) := by
  have hstep := h.step (n := 512) (w := r.val + 1) (by omega) (by omega) (fun k => k0_pay47 (F := Ideal) s (ix2 k r)) (fun k => v (ix3 0 d k))
    (fun k => by rw [pay47_apply, hs]) (fun k _ => hv k) (pay48_apply m s r)
  rw [pay51_apply, pay52_apply, hw]
  exact hstep

end First

section Second
variable (m l : FVec Ideal S1x1024 .f32) (s : FVec Ideal S1024x512 .f32) (r : Fin 512)

theorem pay62_apply (k : Fin 1024) : k0_pay62 (F := Ideal) s (ix2 k r) = if k.val < (hi r).val + 1 then s (ix2 k r) else ⊥ := by
  unfold k0_pay62
  rw [select_apply, broadcast_apply, named_mask]
  have e := mask_le k.val r.val 512 (by omega) (by omega) (by omega)
  rw [cmpi_apply, iota_single_apply, addi_apply, iota_single_apply, broadcast_apply]
  refine (congrArg (fun c => Scalar.select c (s (ix2 k r)) (⊥ : EReal)) e).trans ?_
  rw [select_if]; rfl

theorem pay63_apply : k0_pay63 m s (ix2 0 r) = max (m (ix2 0 (hi r))) ((univ : Finset (Fin 1024)).fold max ⊥ fun k => k0_pay62 (F := Ideal) s (ix2 k r)) := by
  unfold k0_pay63
  rw [maximumf_apply, row_of_flat, slice_hi]
  exact congrArg _ (col_max _ _ _ _ r)

theorem pay64_apply : k0_pay64 m s (ix2 0 r) = Ideal.exp2 (m (ix2 0 (hi r)) - k0_pay63 m s (ix2 0 r)) := by
  rw [← slice_hi r m]; rfl

theorem pay65_apply (k : Fin 1024) : k0_pay65 m s (ix2 k r) = Ideal.exp2 (k0_pay62 (F := Ideal) s (ix2 k r) - k0_pay63 m s (ix2 0 r)) := by
  unfold k0_pay65
  show Ideal.exp2 (k0_pay62 (F := Ideal) s (ix2 k r) - broadcastTo S1024x512 (k0_pay63 m s) _ (ix2 k r)) = _
  rw [row_bcast (by norm_num)]

theorem pay66_apply : k0_pay66 m l s (ix2 0 r) = Ideal.exp2 (m (ix2 0 (hi r)) - k0_pay63 m s (ix2 0 r)) * l (ix2 0 (hi r))
      + ∑ k : Fin 1024, Ideal.exp2 (k0_pay62 (F := Ideal) s (ix2 k r) - k0_pay63 m s (ix2 0 r)) := by
  unfold k0_pay66
  rw [addf_apply, mulf_apply, row_of_flat, slice_hi, pay64_apply]
  refine congrArg _ ((col_sum _ _ _ _ r).trans ?_)
  simp only [pay65_apply]

theorem pay9_apply (acc : FVec Ideal S128x512 .f32) (v : Vec Ideal S1x128x1024 .bf16) (d : Fin 128) :
    k0_pay9 (k0_pay65 m s) acc (k0_pay67 m s) v (ix2 d r) = Ideal.exp2 (m (ix2 0 (hi r)) - k0_pay63 m s (ix2 0 r)) * acc (ix2 d r)
      + ∑ k : Fin 1024, v (ix3 0 d k) * Ideal.exp2 (k0_pay62 (F := Ideal) s (ix2 k r) - k0_pay63 m s (ix2 0 r)) := by
  unfold k0_pay9 k0_pay67
  rw [shapeCast_self, addf_apply, mulf_apply, row_bcast (by norm_num), pay64_apply]
  refine congrArg (fun z : EReal => Ideal.exp2 (m (ix2 0 (hi r)) - k0_pay63 m s (ix2 0 r)) * acc (ix2 d r) + z) ?_
  refine (Ideal.matmul_plain_apply _ _ _ _ d r).trans ?_
  rw [zero_acc, zero_add]
  refine Finset.sum_congr rfl fun e _ => congrArg₂ (fun a b : EReal => a * b) ?_ ?_
  · exact drop_unit v _ d e
  · exact pay65_apply m s r e

theorem finish_hi {acc : EReal} (w512 : FVec Ideal S128x512 .f32) (v : Vec Ideal S1x128x1024 .bf16) (d : Fin 128)
    {x : ℕ → ℝ} {w : ℕ → EReal} {N : ℕ} (h : St x w N (m (ix2 0 (hi r))) (l (ix2 0 (hi r))) acc) (hw : w512 (ix2 d r) = acc)
    (hs : ∀ k : Fin 1024, s (ix2 k r) = (x (N + k.val) : EReal)) (hv : ∀ k : Fin 1024, v (ix3 0 d k) = w (N + k.val)) :
    St x w (N + ((hi r).val + 1)) (k0_pay63 m s (ix2 0 r)) (k0_pay66 m l s (ix2 0 r)) (k0_pay9 (k0_pay65 m s) w512 (k0_pay67 m s) v (ix2 d r)) := by
  have hstep := h.step (n := 1024) (w := (hi r).val + 1) (by omega) (hi r).isLt (fun k => k0_pay62 (F := Ideal) s (ix2 k r)) (fun k => v (ix3 0 d k))
    (fun k => by rw [pay62_apply, hs]) (fun k _ => hv k) (pay63_apply m s r)
  rw [pay66_apply, pay9_apply, hw]
  exact hstep

end Second

theorem pay10_lo (a b : FVec Ideal S1x512 .f32) (r : Fin 512) : k0_pay10 a b (ix2 0 (lo r)) = a (ix2 0 r) := by
  unfold k0_pay10
  refine concatenate_pair_apply_left (t := S1x1024) (s₁ := S1x512) (s₂ := S1x512) 1 _ _ _ (ix2 0 (lo r)) rfl (ix2 0 r) ?_
  intro b; match b with | ⟨0, _⟩ => rfl | ⟨1, _⟩ => rfl

theorem pay10_hi (a b : FVec Ideal S1x512 .f32) (r : Fin 512) : k0_pay10 a b (ix2 0 (hi r)) = b (ix2 0 r) := by
  unfold k0_pay10
  refine concatenate_pair_apply_right (t := S1x1024) (s₁ := S1x512) (s₂ := S1x512) 1 _ _ _ (ix2 0 (hi r)) rfl rfl (ix2 0 r) ?_ ?_
  · intro b hb; match b with | ⟨0, _⟩ => rfl | ⟨1, _⟩ => exact absurd rfl hb
  · show r.val + 512 = 512 + r.val; omega

theorem pay11_apply (l : FVec Ideal S1x1024 .f32) (acc : FVec Ideal S128x1024 .f32) (r : Fin 1024) (d : Fin 128) :
    k0_pay11 l acc (ix3 0 r d) = Ideal.div (acc (ix2 d r)) (l (ix2 0 r)) := by
  unfold k0_pay11
  rw [add_unit, truncf_apply, transpose_apply _ _ _ (ix2 r d) (ix2 d r) (fun b => match b with | ⟨0, _⟩ => rfl | ⟨1, _⟩ => rfl), divf_apply,
    row_bcast (by norm_num)]

end Cert.Proof.KernelIdeal

end
-- ==== Proof.Heads.lean ====
/- One head of the kernel's result at an index: the softmax of the real scores over the keys up to the query's own, against
   the values. -/
module

public import proofs.«01_k».proof.Proof.Pays

@[expose] public section

set_option maxRecDepth 16384

noncomputable section

namespace Cert.Proof.KernelIdeal

open Cert.KernelIdeal Cert.KernelIdeal.Gen
open Idealize.ShloMosaic Idealize.ShloMosaic.ValueIdx
open Cert.Proof.Soft (St soft)
open Finset (univ)

/-! ## A window, and a put, read at an index -/

theorem window_apply {α : Type} {s : Shape} (x : s.Idx → α) (off size : Fin s.rank → ℕ) (inb : ∀ a, off a + size a ≤ s.size a)
    (y : (Rect.unit off size inb).shape.Idx) (j : s.Idx) (h : ∀ a, (j a).val = off a + (y a).val) : VecWindow.window x off size inb y = x j :=
  congrArg x (funext fun a => Fin.ext (by
    show off a + 1 * (y a).val = (j a).val
    rw [h a]; omega))

theorem put_inside {α : Type} {s : Shape} (x : s.Idx → α) (off size : Fin s.rank → ℕ) (w : ((a : Fin s.rank) → Fin (size a)) → α) (y : s.Idx)
    (i : (a : Fin s.rank) → Fin (size a)) (h : ∀ a, (y a).val = off a + (i a).val) : VecWindow.put x off size w y = w i := by
  have hin : ∀ a, off a ≤ (y a).val ∧ (y a).val < off a + size a := fun a => by have := (i a).isLt; rw [h a]; omega
  unfold VecWindow.put
  rw [dif_pos hin]
  exact congrArg w (funext fun a => Fin.ext (by
    show (y a).val - off a = (i a).val
    rw [h a]; omega))

theorem put_outside {α : Type} {s : Shape} (x : s.Idx → α) (off size : Fin s.rank → ℕ) (w : ((a : Fin s.rank) → Fin (size a)) → α) (y : s.Idx)
    (a : Fin s.rank) (h : (y a).val < off a ∨ off a + size a ≤ (y a).val) : VecWindow.put x off size w y = x y := by
  unfold VecWindow.put
  rw [dif_neg (fun hh => by have := hh a; omega)]

section Head
variable (Q : Vec Ideal S1x128x8192 .bf16) (K : Vec Ideal S1x8192x128 .bf16) (V : Vec Ideal S1x128x8192 .bf16) (C : Vec Ideal S1x1x1x8192 .f32)
variable (θ κ' : ℕ → Fin 128 → ℝ) (γ : ℕ → ℝ) (v : Fin 128 → ℕ → EReal)

/-- The score, in base two, of key `k` for query `n`. -/
def scr (n k : ℕ) : ℝ := ∑ d, κ' k d * θ n d + -(Real.log 2)⁻¹ * γ k

variable (hQ : ∀ (d : Fin 128) (n : Fin 8192), Q (ix3 0 d n) = (θ n.val d : EReal))
variable (hK : ∀ (n : Fin 8192) (d : Fin 128), K (ix3 0 n d) = (κ' n.val d : EReal))
variable (hV : ∀ (d : Fin 128) (n : Fin 8192), V (ix3 0 d n) = v d n.val)
variable (hC : ∀ n : Fin 8192, C (ix4 0 0 0 n) = (γ n.val : EReal))

theorem colsB_apply (X : Vec Ideal S1x128x8192 .bf16) (i : ℕ) (hi : i < 8) (d : Fin 128) (r : Fin 1024) :
    colsB X i (ix3 0 d r) = X (ix3 0 d ⟨1024 * i + r.val, by omega⟩) :=
  window_apply _ _ _ _ _ _ fun a => match a with
    | ⟨0, _⟩ => rfl
    | ⟨1, _⟩ => (Nat.zero_add _).symm
    | ⟨2, _⟩ => by show 1024 * i + r.val = 1024 * (i % 8) + r.val; rw [Nat.mod_eq_of_lt hi]

theorem colsHalf_apply (X : Vec Ideal S1x128x8192 .bf16) (i : ℕ) (hi : i < 8) (d : Fin 128) (r : Fin 512) :
    colsHalf X i (ix3 0 d r) = X (ix3 0 d ⟨1024 * i + r.val, by omega⟩) :=
  window_apply _ _ _ _ _ _ fun a => match a with
    | ⟨0, _⟩ => rfl
    | ⟨1, _⟩ => (Nat.zero_add _).symm
    | ⟨2, _⟩ => by show 1024 * i + r.val = 1024 * (i % 8) + r.val; rw [Nat.mod_eq_of_lt hi]

theorem rowsB_apply (X : Vec Ideal S1x8192x128 .bf16) (i : ℕ) (hi : i < 8) (r : Fin 1024) (d : Fin 128) :
    rowsB X i (ix3 0 r d) = X (ix3 0 ⟨1024 * i + r.val, by omega⟩ d) :=
  window_apply _ _ _ _ _ _ fun a => match a with
    | ⟨0, _⟩ => rfl
    | ⟨1, _⟩ => by show 1024 * i + r.val = 1024 * (i % 8) + r.val; rw [Nat.mod_eq_of_lt hi]
    | ⟨2, _⟩ => (Nat.zero_add _).symm

theorem augB_apply (X : Vec Ideal S8192x128 .bf16) (i : ℕ) (hi : i < 8) (r : Fin 1024) (d : Fin 128) :
    augB X i (ix2 r d) = X (ix2 ⟨1024 * i + r.val, by omega⟩ d) :=
  window_apply _ _ _ _ _ _ fun a => match a with
    | ⟨0, _⟩ => by show 1024 * i + r.val = 1024 * (i % 8) + r.val; rw [Nat.mod_eq_of_lt hi]
    | ⟨1, _⟩ => (Nat.zero_add _).symm

theorem lanesB_apply (X : Vec Ideal S1x1x1x8192 .f32) (i : ℕ) (hi : i < 8) (r : Fin 1024) :
    lanesB X i (ix4 0 0 0 r) = X (ix4 0 0 0 ⟨1024 * i + r.val, by omega⟩) :=
  window_apply _ _ _ _ _ _ fun a => match a with
    | ⟨0, _⟩ => rfl
    | ⟨1, _⟩ => rfl
    | ⟨2, _⟩ => rfl
    | ⟨3, _⟩ => by show 1024 * i + r.val = 1024 * (i % 8) + r.val; rw [Nat.mod_eq_of_lt hi]

include hC in
theorem augOf_apply (n : Fin 8192) (a : Fin 128) : augOf C (ix2 n a) = if a.val = 0 then ((-(Real.log 2)⁻¹ * γ n.val : ℝ) : EReal) else 0 := by
  have hn := n.isLt
  show k0_pay1 (lanesB C (n.val / 1024)) (ix2 ⟨n.val % 1024, _⟩ ⟨a.val, _⟩) = _
  refine pay1_apply _ _ _ (γ n.val) ?_
  rw [lanesB_apply C _ (by omega), hC]
  refine congrArg (fun k => ((γ k : ℝ) : EReal)) ?_
  show 1024 * (n.val / 1024) + n.val % 1024 = n.val
  omega

include hQ hK hC in
/-- The score of a key of tile `j` for a query of tile `i`. -/
theorem dot_apply (i j : ℕ) (hi : i < 8) (hj : j < 8) (k r : Fin 1024) :
    ∑ e : Fin 256, k0_pay36 (rowsB K j) (augB (augOf C) j) (ix2 k e) * k0_pay35 (colsB Q i) (ix2 e r)
      = (scr θ κ' γ (1024 * i + r.val) (1024 * j + k.val) : EReal) := by
  refine aug_dot _ _ _ _ _ (θ (1024 * i + r.val)) (κ' (1024 * j + k.val)) _ (fun d => ?_) (fun d => ?_) (fun a => ?_)
  · rw [colsB_apply Q i hi, hQ]
  · rw [rowsB_apply K j hj, hK]
  · rw [augB_apply _ j hj, augOf_apply C γ hC]

include hQ hK hC in
theorem scores_apply (i j : ℕ) (hi : i < 8) (hj : j < 8) (k r : Fin 1024) :
    scores Q K (augOf C) i j (ix2 k r) = (scr θ κ' γ (1024 * i + r.val) (1024 * j + k.val) : EReal) :=
  (pay21_apply _ _ _ k r).trans (dot_apply Q K C θ κ' γ hQ hK hC i j hi hj k r)

include hQ hK hC hV in
/-- The running softmax over the first `j` tiles of keys. -/
theorem runAt_st (i : ℕ) (hi : i < 8) (d : Fin 128) (r : Fin 1024) (j : ℕ) (hj : j ≤ 8) :
    St (scr θ κ' γ (1024 * i + r.val)) (v d) (1024 * j) ((runAt Q K (augOf C) V i j).m (ix2 0 r)) ((runAt Q K (augOf C) V i j).l (ix2 0 r))
      ((runAt Q K (augOf C) V i j).acc (ix2 d r)) := by
  induction j with
  | zero =>
    have e1 : (k0_pay69 : FVec Ideal S1x1024 .f32) (ix2 0 r) = (⊥ : EReal) := named_mask
    have e2 : (k0_pay70 : FVec Ideal S1x1024 .f32) (ix2 0 r) = (0 : EReal) := bits_zero
    have e3 : (k0_pay68 : FVec Ideal S128x1024 .f32) (ix2 d r) = (0 : EReal) := by
      unfold k0_pay68; rw [shapeCast_self]; exact bits_zero
    show St _ _ (1024 * 0) ((k0_pay69 : FVec Ideal S1x1024 .f32) (ix2 0 r)) ((k0_pay70 : FVec Ideal S1x1024 .f32) (ix2 0 r))
      ((k0_pay68 : FVec Ideal S128x1024 .f32) (ix2 d r))
    rw [e1, e2, e3]
    exact St.zero _ _
  | succ j ih =>
    have h := add_step (runAt Q K (augOf C) V i j) (scores Q K (augOf C) i j) (colsB V j) d r (ih (by omega))
      (fun k => scores_apply Q K C θ κ' γ hQ hK hC i j hi (by omega) k r) (fun k => by rw [colsB_apply V j (by omega), hV])
    have e : 1024 * j + 1024 = 1024 * (j + 1) := by ring
    rw [e] at h
    exact h

include hQ hK hC in
theorem diag1_apply (i : ℕ) (hi : i < 8) (k r : Fin 512) :
    diag1 Q K (augOf C) i (ix2 k r) = (scr θ κ' γ (1024 * i + (lo r).val) (1024 * i + k.val) : EReal) := by
  unfold diag1
  split
  · exact (pay37_apply _ _ _ k r).trans (dot_apply Q K C θ κ' γ hQ hK hC i i hi hi _ _)
  · refine (window_apply _ _ _ _ _ (ix2 (lo k) (lo r)) fun a => ?_).trans (scores_apply Q K C θ κ' γ hQ hK hC i i hi hi (lo k) (lo r))
    match a with | ⟨0, _⟩ => exact (Nat.zero_add _).symm | ⟨1, _⟩ => exact (Nat.zero_add _).symm

include hQ hK hC in
theorem diag2_apply (i : ℕ) (hi : i < 8) (k : Fin 1024) (r : Fin 512) :
    diag2 Q K (augOf C) i (ix2 k r) = (scr θ κ' γ (1024 * i + (KernelIdeal.hi r).val) (1024 * i + k.val) : EReal) := by
  unfold diag2
  split
  · exact (pay38_apply _ _ _ k r).trans (dot_apply Q K C θ κ' γ hQ hK hC i i hi hi _ _)
  · refine (window_apply _ _ _ _ _ (ix2 k (KernelIdeal.hi r)) fun a => ?_).trans (scores_apply Q K C θ κ' γ hQ hK hC i i hi hi k (KernelIdeal.hi r))
    match a with | ⟨0, _⟩ => exact (Nat.zero_add _).symm | ⟨1, _⟩ => rfl

/-! ## The finished weighted values at an index -/

theorem finishHalf_lo (R : Run Ideal) (d1 : FVec Ideal S512x512 .f32) (vh : Vec Ideal S1x128x512 .bf16) (d : Fin 128) (r : Fin 512) :
    finishHalf R d1 vh (ix2 d (lo r)) =
      k0_pay52 R.m d1 (VecWindow.window (s := S128x1024) R.acc ![0, 0] S128x512.size inb_S128x1024_S128x512_0_0) vh (ix2 d r) :=
  put_inside (s := S128x1024) _ _ _ _ (ix2 d (lo r)) (show S128x512.Idx from ix2 d r) fun a => match a with
    | ⟨0, _⟩ => (Nat.zero_add _).symm
    | ⟨1, _⟩ => (Nat.zero_add _).symm

theorem finishHalf_hi (R : Run Ideal) (d1 : FVec Ideal S512x512 .f32) (vh : Vec Ideal S1x128x512 .bf16) (d : Fin 128) (r : Fin 512) :
    finishHalf R d1 vh (ix2 d (hi r)) = R.acc (ix2 d (hi r)) :=
  put_outside (s := S128x1024) _ _ _ _ (ix2 d (hi r)) 1 (.inr (by show 0 + 512 ≤ 512 + r.val; omega))

theorem window_lo (x : FVec Ideal S128x1024 .f32) (d : Fin 128) (r : Fin 512) :
    VecWindow.window (s := S128x1024) x ![0, 0] S128x512.size inb_S128x1024_S128x512_0_0 (ix2 d r) = x (ix2 d (lo r)) :=
  window_apply (s := S128x1024) _ _ _ _ _ _ fun a => match a with | ⟨0, _⟩ => (Nat.zero_add _).symm | ⟨1, _⟩ => (Nat.zero_add _).symm

theorem window_hi (x : FVec Ideal S128x1024 .f32) (d : Fin 128) (r : Fin 512) :
    VecWindow.window (s := S128x1024) x ![0, 512] S128x512.size inb_S128x1024_S128x512_0_512 (ix2 d r) = x (ix2 d (hi r)) :=
  window_apply (s := S128x1024) _ _ _ _ _ _ fun a => match a with | ⟨0, _⟩ => (Nat.zero_add _).symm | ⟨1, _⟩ => rfl

theorem finishAcc_lo (R : Run Ideal) (d1 : FVec Ideal S512x512 .f32) (d2 : FVec Ideal S1024x512 .f32) (vh : Vec Ideal S1x128x512 .bf16)
    (w : Vec Ideal S1x128x1024 .bf16) (d : Fin 128) (r : Fin 512) :
    finishAcc R d1 d2 vh w (ix2 d (lo r)) =
      k0_pay52 R.m d1 (VecWindow.window (s := S128x1024) R.acc ![0, 0] S128x512.size inb_S128x1024_S128x512_0_0) vh (ix2 d r) :=
  (put_outside (s := S128x1024) _ _ _ _ (ix2 d (lo r)) 1 (.inl (by show r.val < 512; omega))).trans (finishHalf_lo R d1 vh d r)

theorem finishAcc_hi (R : Run Ideal) (d1 : FVec Ideal S512x512 .f32) (d2 : FVec Ideal S1024x512 .f32) (vh : Vec Ideal S1x128x512 .bf16)
    (w : Vec Ideal S1x128x1024 .bf16) (d : Fin 128) (r : Fin 512) :
    finishAcc R d1 d2 vh w (ix2 d (hi r)) = k0_pay9 (k0_pay65 R.m d2)
      (VecWindow.window (s := S128x1024) (finishHalf R d1 vh) ![0, 512] S128x512.size inb_S128x1024_S128x512_0_512) (k0_pay67 R.m d2) w (ix2 d r) :=
  put_inside (s := S128x1024) _ _ _ _ (ix2 d (hi r)) (show S128x512.Idx from ix2 d r) fun a => match a with
    | ⟨0, _⟩ => (Nat.zero_add _).symm
    | ⟨1, _⟩ => rfl

/-! ## The result -/

include hQ hK hC hV in
/-- A tile of the result: the softmax over the keys up to the query's own. -/
theorem outTile_apply (i : ℕ) (hi' : i < 8) (r : Fin 1024) (d : Fin 128) (y : ℕ → ℝ) (c : ℝ)
    (hy : ∀ k, y k = Real.log 2 * scr θ κ' γ (1024 * i + r.val) k + c) (M : ℝ) :
    outTile Q K (augOf C) V i (ix3 0 r d) = soft y (v d) (1024 * i + r.val + 1) M := by
  have hrun := runAt_st Q K V C θ κ' γ v hQ hK hV hC i hi' d
  unfold outTile
  rw [pay11_apply]
  by_cases hr : r.val < 512
  · obtain ⟨r', rfl⟩ : ∃ r' : Fin 512, r = lo r' := ⟨⟨r.val, hr⟩, rfl⟩
    rw [finishAcc_lo]
    unfold finishL
    rw [pay10_lo]
    have h := finish_lo (runAt Q K (augOf C) V i i).m (runAt Q K (augOf C) V i i).l (diag1 Q K (augOf C) i) r'
      (VecWindow.window (s := S128x1024) (runAt Q K (augOf C) V i i).acc ![0, 0] S128x512.size inb_S128x1024_S128x512_0_0) (colsHalf V i) d
      (hrun (lo r') i (by omega))
      (window_lo _ d r')
      (fun k => diag1_apply Q K C θ κ' γ hQ hK hC i hi' k r') (fun k => by rw [colsHalf_apply V i hi', hV])
    exact h.final (by omega) y c hy M
  · obtain ⟨r', rfl⟩ : ∃ r' : Fin 512, r = hi r' := ⟨⟨r.val - 512, by omega⟩, Fin.ext (by show r.val = 512 + (r.val - 512); omega)⟩
    rw [finishAcc_hi]
    unfold finishL
    rw [pay10_hi]
    have h := finish_hi (runAt Q K (augOf C) V i i).m (runAt Q K (augOf C) V i i).l (diag2 Q K (augOf C) i) r'
      (VecWindow.window (s := S128x1024) (finishHalf (runAt Q K (augOf C) V i i) (diag1 Q K (augOf C) i) (colsHalf V i)) ![0, 512] S128x512.size inb_S128x1024_S128x512_0_512)
      (colsB V i) d (hrun (hi r') i (by omega))
      ((window_hi _ d r').trans (finishHalf_hi _ _ _ d r'))
      (fun k => diag2_apply Q K C θ κ' γ hQ hK hC i hi' k r') (fun k => by rw [colsB_apply V i hi', hV])
    exact h.final (by omega) y c hy M

include hQ hK hC hV in
theorem headOut_apply (n : Fin 8192) (d : Fin 128) (y : ℕ → ℝ) (c : ℝ) (hy : ∀ k, y k = Real.log 2 * scr θ κ' γ n.val k + c) (M : ℝ) :
    headOut Q K V C (ix3 0 n d) = soft y (v d) (n.val + 1) M := by
  have hn := n.isLt
  have e : 1024 * (n.val / 1024) + n.val % 1024 = n.val := by omega
  have h := outTile_apply Q K V C θ κ' γ v hQ hK hV hC (n.val / 1024) (by omega) ⟨n.val % 1024, by omega⟩ d y c
    (by show ∀ k, y k = Real.log 2 * scr θ κ' γ (1024 * (n.val / 1024) + n.val % 1024) k + c; rw [e]; exact hy) M
  have h' : outTile Q K (augOf C) V (n.val / 1024) (ix3 0 ⟨n.val % 1024, by omega⟩ d) = soft y (v d) (1024 * (n.val / 1024) + n.val % 1024 + 1) M := h
  rw [e] at h'
  exact h'

end Head

end Cert.Proof.KernelIdeal

end
-- ==== Proof.Arrays.lean ====
/- The arrays around the kernel's one call at the ideal instance: what the host code hands to it, element by element, the
   blocks its grid reads, and the array it leaves. -/
module

public import proofs.«01_k».proof.Proof.Heads
public import proofs.«01_k».proof.Proof.Run
public import Idealize.ShloMosaic.Lib.Claim
public import Idealize.ShloMosaic.Lib.Pipeline.Covers

@[expose] public section

set_option maxRecDepth 16384

noncomputable section

namespace Cert.Proof.KernelIdeal

open Cert.KernelIdeal Cert.KernelIdeal.Gen
open Idealize.ShloMosaic Idealize.ShloMosaic.TcCoe Idealize.ShloMosaic.ValueIdx Idealize.SL.Sem
open Idealize.ShloMosaic.Pipeline (Dat)
open Cert.Proof.Soft (St soft)
open Finset (univ)

/-! ## The host code's constants -/

/-- The scale of the scores, the rounded inverse root of the head's width. -/
def σ : ℝ := 11863283 / 2 ^ 27

theorem bits_scale : (FloatOps.ofBits .f32 0x3DB504F3#32 : Ideal .f32) = ((σ : ℝ) : EReal) := by
  show Ideal.ofBits .f32 0x3DB504F3#32 = _
  simp [Ideal.ofBits, Ideal.ieee, -EReal.coe_mul, σ]
  norm_num

theorem bits_two : (FloatOps.ofBits .f32 0x40000000#32 : Ideal .f32) = ((2 : ℝ) : EReal) := by
  show Ideal.ofBits .f32 0x40000000#32 = _
  simp [Ideal.ofBits, Ideal.ieee, -EReal.coe_mul]
  norm_num

/-! ## What the host code hands to the call -/

section Host
variable (m : (ℓ : Loc nD τ sig) → Buf (Elt Ideal) ℓ) (c : Dev nD)

theorem V_v7 : V m c main_v7 = transpose S2x2048x8192 [0, 2, 1] (truncf .bf16 (Host.divf
      (mulf (shapeCast S2x8192x2048 (m ((c : Thread nD τ).loc main_arg0)) shapeCasts_S2x8192x16x128_S2x8192x2048 : FVec Ideal S2x8192x2048 .f32)
        (broadcastInDim S2x8192x2048 ![] bcast_S_S2x8192x2048 (constant (F := Ideal) S_ .f32 0x3DB504F3#32)))
      (broadcastInDim S2x8192x2048 ![] bcast_S_S2x8192x2048 (Host.log (constant (F := Ideal) S_ .f32 0x40000000#32))))
      bitsLt_bf16_f32) transposes_S2x8192x2048_S2x2048x8192_0_2_1 := by
  entry_read
  rfl

theorem V_v9 : V m c main_v9 = truncf .bf16 (shapeCast S2x8192x2048 (m ((c : Thread nD τ).loc main_arg1)) shapeCasts_S2x8192x16x128_S2x8192x2048 : FVec Ideal S2x8192x2048 .f32)
      bitsLt_bf16_f32 := by
  entry_read
  rfl

theorem V_v12 : V m c main_v12 = transpose S2x2048x8192 [0, 2, 1] (truncf .bf16
      (shapeCast S2x8192x2048 (m ((c : Thread nD τ).loc main_arg2)) shapeCasts_S2x8192x16x128_S2x8192x2048 : FVec Ideal S2x8192x2048 .f32) bitsLt_bf16_f32)
      transposes_S2x8192x2048_S2x2048x8192_0_2_1 := by
  entry_read
  rfl

theorem V_v14 : V m c main_v14 = shapeCast S2x16x1x8192 (transpose S2x16x8192 [0, 2, 1] (m ((c : Thread nD τ).loc main_arg3) : FVec Ideal S2x8192x16 .f32)
      transposes_S2x8192x16_S2x16x8192_0_2_1) shapeCasts_S2x16x8192_S2x16x1x8192 := by
  entry_read
  rfl

/-- Feature `d` of head `h` among the features of all heads. -/
def lane (h : Fin 16) (d : Fin 128) : Fin 2048 := ⟨128 * h.val + d.val, by omega⟩

theorem flat_apply {α : Type} (x : S2x8192x16x128.Idx → α) (b : Fin 2) (n : Fin 8192) (h : Fin 16) (d : Fin 128) :
    shapeCast S2x8192x2048 x shapeCasts_S2x8192x16x128_S2x8192x2048 (ix3 b n (lane h d)) = x (ix4 b n h d) := by
  refine shapeCast_apply _ _ _ _ ?_
  rw [Shape.rowMajor_val_three, Shape.rowMajor_val_four]
  show ((b.val * 8192 + n.val) * 16 + h.val) * 128 + d.val = (b.val * 8192 + n.val) * 2048 + (128 * h.val + d.val)
  omega

theorem log_two_ne : Real.log 2 ≠ 0 := (Real.log_pos (by norm_num)).ne'

theorem scaled_apply (X : S2x8192x16x128.Idx → EReal) (b : Fin 2) (n : Fin 8192) (h : Fin 16) (d : Fin 128) (x : ℝ) (hx : X (ix4 b n h d) = (x : EReal)) :
    Ideal.div (shapeCast S2x8192x2048 X shapeCasts_S2x8192x16x128_S2x8192x2048 (ix3 b n (lane h d)) * (FloatOps.ofBits .f32 0x3DB504F3#32 : Ideal .f32))
      (Ideal.log (FloatOps.ofBits .f32 0x40000000#32 : Ideal .f32)) = ((x * σ * (1 / Real.log 2) : ℝ) : EReal) := by
  rw [flat_apply, bits_scale, bits_two, Ideal.log_coe, if_neg (by norm_num), Ideal.div_coe log_two_ne, hx, ← EReal.coe_mul, ← EReal.coe_mul]

theorem V_v7_apply (b : Fin 2) (n : Fin 8192) (h : Fin 16) (d : Fin 128) (x : ℝ)
    (hx : (m ((c : Thread nD τ).loc main_arg0) : S2x8192x16x128.Idx → EReal) (ix4 b n h d) = (x : EReal)) :
    (V m c main_v7 : S2x2048x8192.Idx → EReal) (ix3 b (lane h d) n) = ((x * σ * (1 / Real.log 2) : ℝ) : EReal) := by
  rw [V_v7]
  rw [transpose_apply _ _ _ (ix3 b (lane h d) n) (ix3 b n (lane h d)) (fun a => match a with | ⟨0, _⟩ => rfl | ⟨1, _⟩ => rfl | ⟨2, _⟩ => rfl)]
  exact scaled_apply _ b n h d x hx

theorem V_v9_apply (b : Fin 2) (n : Fin 8192) (h : Fin 16) (d : Fin 128) :
    (V m c main_v9 : S2x8192x2048.Idx → EReal) (ix3 b n (lane h d)) = (m ((c : Thread nD τ).loc main_arg1) : S2x8192x16x128.Idx → EReal) (ix4 b n h d) := by
  rw [V_v9]
  exact flat_apply _ b n h d

theorem V_v12_apply (b : Fin 2) (n : Fin 8192) (h : Fin 16) (d : Fin 128) :
    (V m c main_v12 : S2x2048x8192.Idx → EReal) (ix3 b (lane h d) n) = (m ((c : Thread nD τ).loc main_arg2) : S2x8192x16x128.Idx → EReal) (ix4 b n h d) := by
  rw [V_v12]
  rw [transpose_apply _ _ _ (ix3 b (lane h d) n) (ix3 b n (lane h d)) (fun a => match a with | ⟨0, _⟩ => rfl | ⟨1, _⟩ => rfl | ⟨2, _⟩ => rfl)]
  exact flat_apply _ b n h d

theorem V_v14_apply (b : Fin 2) (n : Fin 8192) (h : Fin 16) :
    (V m c main_v14 : S2x16x1x8192.Idx → EReal) (ix4 b h 0 n) = (m ((c : Thread nD τ).loc main_arg3) : S2x8192x16.Idx → EReal) (ix3 b n h) := by
  rw [V_v14]
  refine (shapeCast_apply _ _ _ (ix3 b h n) ?_).trans ?_
  · rw [Shape.rowMajor_val_three, Shape.rowMajor_val_four]
    show (b.val * 16 + h.val) * 8192 + n.val = ((b.val * 16 + h.val) * 1 + 0) * 8192 + n.val
    omega
  · exact transpose_apply _ _ _ (ix3 b h n) (ix3 b n h) (fun a => match a with | ⟨0, _⟩ => rfl | ⟨1, _⟩ => rfl | ⟨2, _⟩ => rfl)

/-! ## The blocks at a point of the grid -/

variable (t : Fin cfg0.N)

/-- The batch of a point. -/
abbrev bat : Fin 2 := grid0.coords t 0
/-- The head of a point. -/
abbrev hea : Fin 16 := grid0.coords t 1

theorem word_val {n k : ℕ} (x : Fin n) (h : n ≤ k) (hk : k < 2 ^ 32) : (BitVec.ofNat 32 x.val).toNat = x.val := by
  rw [BitVec.toNat_ofNat]; exact Nat.mod_eq_of_lt (by have := x.isLt; omega)

theorem iblk0_apply (d : Fin 128) (n : Fin 8192) :
    (iblk m c 0 t : S1x128x8192.Idx → EReal) (ix3 0 d n) = (V m c main_v7 : S2x2048x8192.Idx → EReal) (ix3 (bat t) (lane (hea t) d) n) := by
  unfold iblk
  rw [View.read_apply]
  show (V m c main_v7 : S2x2048x8192.Idx → EReal) _ = _
  refine congrArg (V m c main_v7 : S2x2048x8192.Idx → EReal) (funext fun a => Fin.ext ?_)
  match a with
  | ⟨0, _⟩ => show (BitVec.ofNat 32 (grid0.coords t 0).val).toNat * 1 + 1 * 0 = (grid0.coords t 0).val; rw [word_val _ le_rfl (by decide)]; omega
  | ⟨1, _⟩ => show (BitVec.ofNat 32 (grid0.coords t 1).val).toNat * 128 + 1 * d.val = 128 * (grid0.coords t 1).val + d.val; rw [word_val _ le_rfl (by decide)]; omega
  | ⟨2, _⟩ => show 0 * 8192 + 1 * n.val = n.val; omega

theorem iblk1_apply (d : Fin 128) (n : Fin 8192) :
    (iblk m c 1 t : S1x8192x128.Idx → EReal) (ix3 0 n d) = (V m c main_v9 : S2x8192x2048.Idx → EReal) (ix3 (bat t) n (lane (hea t) d)) := by
  unfold iblk
  rw [View.read_apply]
  show (V m c main_v9 : S2x8192x2048.Idx → EReal) _ = _
  refine congrArg (V m c main_v9 : S2x8192x2048.Idx → EReal) (funext fun a => Fin.ext ?_)
  match a with
  | ⟨0, _⟩ => show (BitVec.ofNat 32 (grid0.coords t 0).val).toNat * 1 + 1 * 0 = (grid0.coords t 0).val; rw [word_val _ le_rfl (by decide)]; omega
  | ⟨1, _⟩ => show 0 * 8192 + 1 * n.val = n.val; omega
  | ⟨2, _⟩ => show (BitVec.ofNat 32 (grid0.coords t 1).val).toNat * 128 + 1 * d.val = 128 * (grid0.coords t 1).val + d.val; rw [word_val _ le_rfl (by decide)]; omega

theorem iblk2_apply (d : Fin 128) (n : Fin 8192) :
    (iblk m c 2 t : S1x128x8192.Idx → EReal) (ix3 0 d n) = (V m c main_v12 : S2x2048x8192.Idx → EReal) (ix3 (bat t) (lane (hea t) d) n) := by
  unfold iblk
  rw [View.read_apply]
  show (V m c main_v12 : S2x2048x8192.Idx → EReal) _ = _
  refine congrArg (V m c main_v12 : S2x2048x8192.Idx → EReal) (funext fun a => Fin.ext ?_)
  match a with
  | ⟨0, _⟩ => show (BitVec.ofNat 32 (grid0.coords t 0).val).toNat * 1 + 1 * 0 = (grid0.coords t 0).val; rw [word_val _ le_rfl (by decide)]; omega
  | ⟨1, _⟩ => show (BitVec.ofNat 32 (grid0.coords t 1).val).toNat * 128 + 1 * d.val = 128 * (grid0.coords t 1).val + d.val; rw [word_val _ le_rfl (by decide)]; omega
  | ⟨2, _⟩ => show 0 * 8192 + 1 * n.val = n.val; omega

theorem iblk3_apply (n : Fin 8192) :
    (iblk m c 3 t : S1x1x1x8192.Idx → EReal) (ix4 0 0 0 n) = (V m c main_v14 : S2x16x1x8192.Idx → EReal) (ix4 (bat t) (hea t) 0 n) := by
  unfold iblk
  rw [View.read_apply]
  show (V m c main_v14 : S2x16x1x8192.Idx → EReal) _ = _
  refine congrArg (V m c main_v14 : S2x16x1x8192.Idx → EReal) (funext fun a => Fin.ext ?_)
  match a with
  | ⟨0, _⟩ => show (BitVec.ofNat 32 (grid0.coords t 0).val).toNat * 1 + 1 * 0 = (grid0.coords t 0).val; rw [word_val _ le_rfl (by decide)]; omega
  | ⟨1, _⟩ => show (BitVec.ofNat 32 (grid0.coords t 1).val).toNat * 1 + 1 * 0 = (grid0.coords t 1).val; rw [word_val _ le_rfl (by decide)]; omega
  | ⟨2, _⟩ => rfl
  | ⟨3, _⟩ => show 0 * 8192 + 1 * n.val = n.val; omega

/-! ## The result's elements -/

/-- A sequence over the positions, carried on past their end. -/
def ext {α : Type} (f : Fin 8192 → α) (k : ℕ) : α := f ⟨k % 8192, Nat.mod_lt _ (by norm_num)⟩

theorem ext_val {α : Type} (f : Fin 8192 → α) (k : Fin 8192) : ext f k.val = f k := congrArg f (Fin.ext (Nat.mod_eq_of_lt k.isLt))

/-- The logit of key `k` for query `n` of head `h`. -/
def logit (q k : S2x8192x16x128.Idx → ℝ) (g : S2x8192x16.Idx → ℝ) (b : Fin 2) (h : Fin 16) (n : Fin 8192) : ℕ → ℝ :=
  ext fun j => (∑ d : Fin 128, q (ix4 b n h d) * k (ix4 b j h d)) * σ + (g (ix3 b n h) - g (ix3 b j h))

/-- The forgetting attention of real queries, keys and gates, at a position and a feature of a head. -/
def attn (q k : S2x8192x16x128.Idx → ℝ) (v : S2x8192x16x128.Idx → EReal) (g : S2x8192x16.Idx → ℝ) (b : Fin 2) (n : Fin 8192) (h : Fin 16) (d : Fin 128) : EReal :=
  soft (logit q k g b h n) (ext fun j => v (ix4 b j h d)) (n.val + 1) 0

variable (q k : S2x8192x16x128.Idx → ℝ) (g : S2x8192x16.Idx → ℝ)
variable (hq : ∀ i, (m ((c : Thread nD τ).loc main_arg0) : S2x8192x16x128.Idx → EReal) i = (q i : EReal))
variable (hk : ∀ i, (m ((c : Thread nD τ).loc main_arg1) : S2x8192x16x128.Idx → EReal) i = (k i : EReal))
variable (hg : ∀ i, (m ((c : Thread nD τ).loc main_arg3) : S2x8192x16.Idx → EReal) i = (g i : EReal))

include hq hk hg in
theorem outsAt_apply (n : Fin 8192) (d : Fin 128) : outsAt m c t (ix3 0 n d)
    = attn q k (m ((c : Thread nD τ).loc main_arg2)) g (bat t) n (hea t) d := by
  unfold outsAt attn
  refine headOut_apply (iblk m c 0 t) (iblk m c 1 t) (iblk m c 2 t) (iblk m c 3 t)
    (fun n d => ext (fun n => q (ix4 (bat t) n (hea t) d) * σ * (1 / Real.log 2)) n) (fun n d => ext (fun n => k (ix4 (bat t) n (hea t) d)) n)
    (ext fun n => g (ix3 (bat t) n (hea t))) (fun d => ext fun n => (m ((c : Thread nD τ).loc main_arg2) : S2x8192x16x128.Idx → EReal) (ix4 (bat t) n (hea t) d))
    (fun d n => ?_) (fun n d => ?_) (fun d n => ?_) (fun n => ?_) n d _ (g (ix3 (bat t) n (hea t))) (fun j => ?_) 0
  · rw [iblk0_apply, ext_val]
    exact V_v7_apply m c _ _ _ _ _ (hq _)
  · rw [iblk1_apply, ext_val, V_v9_apply]
    exact hk _
  · rw [iblk2_apply, ext_val, V_v12_apply]
  · rw [iblk3_apply, ext_val, V_v14_apply]
    exact hg _
  · unfold logit scr
    simp only [ext_val]
    unfold ext
    have e : ∀ j' : Fin 8192, Real.log 2 * (∑ d : Fin 128, k (ix4 (bat t) j' (hea t) d) * (q (ix4 (bat t) n (hea t) d) * σ * (1 / Real.log 2)))
        = (∑ d : Fin 128, q (ix4 (bat t) n (hea t) d) * k (ix4 (bat t) j' (hea t) d)) * σ := fun j' => by
      rw [Finset.mul_sum, Finset.sum_mul]
      refine Finset.sum_congr rfl fun d _ => ?_
      field_simp [log_two_ne]
    rw [mul_add, e]
    have := log_two_ne
    field_simp
    ring

/-! ## The array the call leaves -/

/-- The whole result. -/
def result : S2x8192x2048.Idx → EReal := fun i =>
  attn q k (m ((c : Thread nD τ).loc main_arg2)) g (i 0) (i 1) ⟨(i 2).val / 128, by have : (i 2).val < 2048 := (i 2).isLt; omega⟩ ⟨(i 2).val % 128, Nat.mod_lt _ (by norm_num)⟩

theorem result_apply (b : Fin 2) (n : Fin 8192) (h : Fin 16) (d : Fin 128) :
    result m c q k g (ix3 b n (lane h d)) = attn q k (m ((c : Thread nD τ).loc main_arg2)) g b n h d := by
  have hh : (⟨(128 * h.val + d.val) / 128, by omega⟩ : Fin 16) = h := Fin.ext (by show (128 * h.val + d.val) / 128 = h.val; omega)
  have hd : (⟨(128 * h.val + d.val) % 128, Nat.mod_lt _ (by norm_num)⟩ : Fin 128) = d := Fin.ext (by show (128 * h.val + d.val) % 128 = d.val; omega)
  show attn q k _ g b n ⟨(128 * h.val + d.val) / 128, _⟩ ⟨(128 * h.val + d.val) % 128, _⟩ = _
  rw [hh, hd]

include hq hk hg in
theorem flushed_eq : (dats m 0 c).flushed 4 t = ((cfg0.win 4).blk t).view.read (Elt Ideal) (result m c q k g) := by
  show (cfg0.win 4).cut (grid0.coords t) ((dats m 0 c).after 4 t) = _
  rw [after0_4]
  funext y
  rw [View.read_apply]
  have hy : y = ix3 0 (y 1) (y 2) := by
    funext a
    match a with
    | ⟨0, _⟩ => exact Fin.ext (by have : (y 0).val < 1 := (y 0).isLt; show (y 0).val = 0; omega)
    | ⟨1, _⟩ => rfl
    | ⟨2, _⟩ => rfl
  rw [hy]
  refine (outsAt_apply m c t q k g hq hk hg (y 1) (y 2)).trans ?_
  refine Eq.trans ?_ (congrArg (result m c q k g) (Eq.symm (?_ : ((cfg0.win 4).blk t).view.emb (ix3 0 (y 1) (y 2)) = ix3 (bat t) (y 1) (lane (hea t) (y 2)))))
  · exact (result_apply m c q k g _ _ _ _).symm
  · funext a
    refine Fin.ext ?_
    match a with
    | ⟨0, _⟩ => show (BitVec.ofNat 32 (grid0.coords t 0).val).toNat * 1 + 1 * 0 = (grid0.coords t 0).val; rw [word_val _ le_rfl (by decide)]; omega
    | ⟨1, _⟩ => show 0 * 8192 + 1 * (y 1).val = (y 1).val; omega
    | ⟨2, _⟩ => show (BitVec.ofNat 32 (grid0.coords t 1).val).toNat * 128 + 1 * (y 2).val = 128 * (grid0.coords t 1).val + (y 2).val; rw [word_val _ le_rfl (by decide)]; omega

theorem cover (i : S2x8192x2048.Idx) : ∃ t : Fin cfg0.N, (cfg0.win 4).flush t = true ∧ i ∈ ((cfg0.win 4).blk t).view.set := by
  have h0 : (i 0).val < 2 := (i 0).isLt
  have h1 : (i 1).val < 8192 := (i 1).isLt
  have h2 : (i 2).val < 2048 := (i 2).isLt
  obtain ⟨t, ht⟩ := Pipeline.Grid.coords_surjective grid0 (fun a => match a with | ⟨0, _⟩ => ⟨(i 0).val, h0⟩ | ⟨1, _⟩ => ⟨(i 2).val / 128, by show (i 2).val / 128 < 16; omega⟩)
  have e0 : (grid0.coords t 0).val = (i 0).val := congrArg Fin.val (congrFun ht 0)
  have e1 : (grid0.coords t 1).val = (i 2).val / 128 := congrArg Fin.val (congrFun ht 1)
  refine ⟨t, flush0_4 t, ?_⟩
  show i ∈ ((View.whole main_v15).slice (win0_4.rect t)).set
  rw [View.set_slice_whole, Rect.mem_set_unit]
  intro a
  match a with
  | ⟨0, _⟩ => show (BitVec.ofNat 32 (grid0.coords t 0).val).toNat * 1 ≤ (i 0).val ∧ (i 0).val < (BitVec.ofNat 32 (grid0.coords t 0).val).toNat * 1 + 1
              rw [word_val _ le_rfl (by decide)]; omega
  | ⟨1, _⟩ => show 0 * 8192 ≤ (i 1).val ∧ (i 1).val < 0 * 8192 + 8192; omega
  | ⟨2, _⟩ => show (BitVec.ofNat 32 (grid0.coords t 1).val).toNat * 128 ≤ (i 2).val ∧ (i 2).val < (BitVec.ofNat 32 (grid0.coords t 1).val).toNat * 128 + 128
              rw [word_val _ le_rfl (by decide)]; omega

include hq hk hg in
/-- The call leaves the forgetting attention of its arguments. -/
theorem final_out : (dats m 0 c).arrAt 4 cfg0.N = result m c q k g :=
  (dats m 0 c).arrAt_eq_of_cover 4 (result m c q k g) (fun t _ => flushed_eq m c t q k g hq hk hg) cover

end Host

end Cert.Proof.KernelIdeal

end
-- ==== Proof.RefRow.lean ====
/- The reference's result, element by element: the softmax over the keys at or before the query of the scaled scores plus
   the difference of the forgetting terms, and its sum with the values. -/
module

public import proofs.«01_k».proof.Proof.Arrays
public import proofs.«01_k».proof.Proof.Gen.ReferenceIdeal
public import proofs.«01_k».proof.Proof.Gen.ReferenceIdeal.Run

@[expose] public section

set_option maxRecDepth 16384

noncomputable section

namespace Cert.Proof.ReferenceIdeal

open Cert.ReferenceIdeal Cert.ReferenceIdeal.Gen Cert.ReferenceIdeal.Facts
open Idealize.ShloMosaic Idealize.ShloMosaic.TcCoe Idealize.ShloMosaic.ValueIdx Idealize.SL.Sem
open Cert.Proof.Soft (soft)
open Cert.Proof.KernelIdeal (σ ext ext_val logit attn lane bits_scale bits_bot bits_zero)
open Finset (univ)

/-! ## The parts of the result's term -/

/-- One where the key is at or before the query. -/
def causal : IVec S2x16x8192x8192 1 :=
  broadcastInDim S2x16x8192x8192 ![0, 1, 2, 3] bcast_S1x1x8192x8192_S2x16x8192x8192_0_1_2_3
    (broadcastInDim S1x1x8192x8192 ![2, 3] bcast_S8192x8192_S1x1x8192x8192_2_3 (cmpi .sle
      (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0)))))

/-- A value per row at every key of the row. -/
def spread (x : FVec Ideal S2x16x8192 .f32) : FVec Ideal S2x16x8192x8192 .f32 :=
  broadcastInDim S2x16x8192x8192 ![0, 1, 2, 3] bcast_S2x16x8192x1_S2x16x8192x8192_0_1_2_3
    (broadcastInDim S2x16x8192x1 ![0, 1, 2] bcast_S2x16x8192_S2x16x8192x1_0_1_2 x)

/-- A value per key at every row. -/
def across (x : FVec Ideal S2x16x8192 .f32) : FVec Ideal S2x16x8192x8192 .f32 :=
  broadcastInDim S2x16x8192x8192 ![0, 1, 2, 3] bcast_S2x16x1x8192_S2x16x8192x8192_0_1_2_3
    (broadcastInDim S2x16x1x8192 ![0, 1, 3] bcast_S2x16x8192_S2x16x1x8192_0_1_3 x)

/-- The forgetting terms, heads before positions. -/
def forget (g : FVec Ideal S2x8192x16 .f32) : FVec Ideal S2x16x8192 .f32 :=
  transpose S2x16x8192 [0, 2, 1] g transposes_S2x8192x16_S2x16x8192_0_2_1

/-- The scores, `-∞` at a key after the query. -/
def scores (q k : FVec Ideal S2x8192x16x128 .f32) (g : FVec Ideal S2x8192x16 .f32) : FVec Ideal S2x16x8192x8192 .f32 :=
  select causal
    (addf (mulf (Host.dotGeneral dot_S2x8192x16x128_S2x8192x16x128_S2x16x8192x8192_3_3_1_1_02_02 none q k)
        (broadcastInDim S2x16x8192x8192 ![] bcast_S_S2x16x8192x8192 (constant S_ .f32 0x3DB504F3#32)))
      (subf (spread (forget g)) (across (forget g))))
    (broadcastInDim S2x16x8192x8192 ![] bcast_S_S2x16x8192x8192 (id (constant S_ .f32 0xFF800000#32)))

/-- The row maxima. -/
def tops (s : FVec Ideal S2x16x8192x8192 .f32) : FVec Ideal S2x16x8192 .f32 :=
  maximumf (broadcastInDim S2x16x8192 ![] bcast_S_S2x16x8192 (constant S_ .f32 0xFF800000#32))
    (Host.reduce FloatOps.maximumf s (constant S_ .f32 0xFF800000#32) reducesTo_S2x16x8192x8192_S2x16x8192_d3 h_S_)

/-- The exponentials of the scores below their row's maximum. -/
def exps (s : FVec Ideal S2x16x8192x8192 .f32) : FVec Ideal S2x16x8192x8192 .f32 := Host.exp (subf s (spread (tops s)))

/-- The weights. -/
def weights (s : FVec Ideal S2x16x8192x8192 .f32) : FVec Ideal S2x16x8192x8192 .f32 :=
  Host.divf (exps s) (spread (Host.reduceAdd (exps s) (constant S_ .f32 0x00000000#32) reducesTo_S2x16x8192x8192_S2x16x8192_d3 h_S_))

theorem res_eq (m : (ℓ : Loc nD τ sig) → Buf (Elt Ideal) ℓ) (c : Dev nD) :
    Value.res_main_v32 m c = truncf .bf16 (shapeCast S2x8192x2048 (transpose S2x8192x16x128 [0, 3, 1, 2]
      (Host.dotGeneral (φ₁ := .f32) (φ₂ := .f32) dot_S2x8192x16x128_S2x16x8192x8192_S2x16x128x8192_1_3_3_2_02_01 none (m ((c.tc : Thread nD τ).loc main_arg2))
        (weights (scores (m ((c.tc : Thread nD τ).loc main_arg0)) (m ((c.tc : Thread nD τ).loc main_arg1)) (m ((c.tc : Thread nD τ).loc main_arg3)))) : FVec Ideal S2x16x128x8192 .f32)
      transposes_S2x16x128x8192_S2x8192x16x128_0_3_1_2) shapeCasts_S2x8192x16x128_S2x8192x2048 : FVec Ideal S2x8192x2048 .f32) bitsLt_bf16_f32 := rfl

/-! ## Each part at an index -/

theorem spread_apply (x : FVec Ideal S2x16x8192 .f32) (b : Fin 2) (h : Fin 16) (n j : Fin 8192) : spread x (ix4 b h n j) = x (ix3 b h n) := by
  unfold spread
  rw [broadcastInDim_apply _ _ _ (ix4 b h n j) (ix4 b h n (0 : Fin 1)) (fun a => match a with | ⟨0, _⟩ => rfl | ⟨1, _⟩ => rfl | ⟨2, _⟩ => rfl | ⟨3, _⟩ => rfl),
    broadcastInDim_apply _ _ _ (ix4 b h n (0 : Fin 1)) (ix3 b h n) (fun a => match a with | ⟨0, _⟩ => rfl | ⟨1, _⟩ => rfl | ⟨2, _⟩ => rfl)]

theorem across_apply (x : FVec Ideal S2x16x8192 .f32) (b : Fin 2) (h : Fin 16) (n j : Fin 8192) : across x (ix4 b h n j) = x (ix3 b h j) := by
  unfold across
  rw [broadcastInDim_apply _ _ _ (ix4 b h n j) (ix4 b h (0 : Fin 1) j) (fun a => match a with | ⟨0, _⟩ => rfl | ⟨1, _⟩ => rfl | ⟨2, _⟩ => rfl | ⟨3, _⟩ => rfl),
    broadcastInDim_apply _ _ _ (ix4 b h (0 : Fin 1) j) (ix3 b h j) (fun a => match a with | ⟨0, _⟩ => rfl | ⟨1, _⟩ => rfl | ⟨2, _⟩ => rfl)]

theorem forget_apply (g : FVec Ideal S2x8192x16 .f32) (b : Fin 2) (h : Fin 16) (n : Fin 8192) : forget g (ix3 b h n) = g (ix3 b n h) :=
  transpose_apply _ _ _ (ix3 b h n) (ix3 b n h) (fun a => match a with | ⟨0, _⟩ => rfl | ⟨1, _⟩ => rfl | ⟨2, _⟩ => rfl)

theorem causal_apply (b : Fin 2) (h : Fin 16) (n j : Fin 8192) : causal (ix4 b h n j) = IntOp.cmpi .sle (BitVec.ofNat 32 j.val) (BitVec.ofNat 32 n.val) := by
  unfold causal
  rw [broadcastInDim_apply _ _ _ (ix4 b h n j) (ix4 (0 : Fin 1) (0 : Fin 1) n j) (fun a => match a with | ⟨0, _⟩ => rfl | ⟨1, _⟩ => rfl | ⟨2, _⟩ => rfl | ⟨3, _⟩ => rfl),
    broadcastInDim_apply _ _ _ (ix4 (0 : Fin 1) (0 : Fin 1) n j) (ix2 n j) (fun a => match a with | ⟨0, _⟩ => rfl | ⟨1, _⟩ => rfl)]
  rw [KernelIdeal.cmpi_apply]
  rw [broadcastInDim_apply _ _ _ (ix2 n j) (ix2 (0 : Fin 1) j) (fun a => match a with | ⟨0, _⟩ => rfl | ⟨1, _⟩ => rfl),
    broadcastInDim_apply _ _ _ (ix2 (0 : Fin 1) j) (ix1 j) (fun a => match a with | ⟨0, _⟩ => rfl),
    broadcastInDim_apply _ _ _ (ix2 n j) (ix2 n (0 : Fin 1)) (fun a => match a with | ⟨0, _⟩ => rfl | ⟨1, _⟩ => rfl),
    broadcastInDim_apply _ _ _ (ix2 n (0 : Fin 1)) (ix1 n) (fun a => match a with | ⟨0, _⟩ => rfl)]
  rfl

theorem dot_qk (q k : FVec Ideal S2x8192x16x128 .f32) (b : Fin 2) (h : Fin 16) (n j : Fin 8192) :
    Host.dotGeneral dot_S2x8192x16x128_S2x8192x16x128_S2x16x8192x8192_3_3_1_1_02_02 none q k (ix4 b h n j)
      = ∑ d : Fin 128, q (ix4 b n h d) * k (ix4 b j h d) := by
  simp only [Host.dotGeneral, Ideal.dotGeneral_apply]
  rw [← Equiv.sum_comp (contrEquiv1 dot_S2x8192x16x128_S2x8192x16x128_S2x16x8192x8192_3_3_1_1_02_02 128 rfl rfl).symm]
  refine Finset.sum_congr rfl fun d _ => ?_
  congr 2
  · funext a
    refine Fin.ext ?_
    match a with
    | ⟨0, _⟩ => rfl
    | ⟨1, _⟩ => rfl
    | ⟨2, _⟩ => rfl
    | ⟨3, _⟩ => exact contrEquiv1_symm_val dot_S2x8192x16x128_S2x8192x16x128_S2x16x8192x8192_3_3_1_1_02_02 128 rfl rfl d
  · funext a
    refine Fin.ext ?_
    match a with
    | ⟨0, _⟩ => rfl
    | ⟨1, _⟩ => rfl
    | ⟨2, _⟩ => rfl
    | ⟨3, _⟩ => exact contrEquiv1_symm_val dot_S2x8192x16x128_S2x8192x16x128_S2x16x8192x8192_3_3_1_1_02_02 128 rfl rfl d

theorem dot_pv (v : FVec Ideal S2x8192x16x128 .f32) (p : FVec Ideal S2x16x8192x8192 .f32) (b : Fin 2) (h : Fin 16) (d : Fin 128) (n : Fin 8192) :
    Host.dotGeneral dot_S2x8192x16x128_S2x16x8192x8192_S2x16x128x8192_1_3_3_2_02_01 none v p (ix4 b h d n)
      = ∑ j : Fin 8192, v (ix4 b j h d) * p (ix4 b h n j) := by
  simp only [Host.dotGeneral, Ideal.dotGeneral_apply]
  rw [← Equiv.sum_comp (contrEquiv1 dot_S2x8192x16x128_S2x16x8192x8192_S2x16x128x8192_1_3_3_2_02_01 8192 rfl rfl).symm]
  refine Finset.sum_congr rfl fun j _ => ?_
  congr 2
  · funext a
    refine Fin.ext ?_
    match a with
    | ⟨0, _⟩ => rfl
    | ⟨1, _⟩ => exact contrEquiv1_symm_val dot_S2x8192x16x128_S2x16x8192x8192_S2x16x128x8192_1_3_3_2_02_01 8192 rfl rfl j
    | ⟨2, _⟩ => rfl
    | ⟨3, _⟩ => rfl
  · funext a
    refine Fin.ext ?_
    match a with
    | ⟨0, _⟩ => rfl
    | ⟨1, _⟩ => rfl
    | ⟨2, _⟩ => rfl
    | ⟨3, _⟩ => exact contrEquiv1_symm_val dot_S2x8192x16x128_S2x16x8192x8192_S2x16x128x8192_1_3_3_2_02_01 8192 rfl rfl j

/-- The last axis of the scores, dropped: the fact that names the index put back. -/
theorem drops : S2x16x8192x8192.Reduces [3] S2x16x8192 := by decide

theorem lift_eq (b : Fin 2) (h : Fin 16) (n j : Fin 8192) : drops.lift (ix3 b h n) j = ix4 b h n j := by
  funext a
  refine Fin.ext ?_
  match a with
  | ⟨0, _⟩ => rfl
  | ⟨1, _⟩ => rfl
  | ⟨2, _⟩ => rfl
  | ⟨3, _⟩ => rfl

theorem tops_apply (s : FVec Ideal S2x16x8192x8192 .f32) (b : Fin 2) (h : Fin 16) (n : Fin 8192) :
    tops s (ix3 b h n) = max ⊥ (univ.fold max ⊥ fun j => s (ix4 b h n j)) := by
  unfold tops
  rw [maximumf_apply]
  refine congrArg₂ max bits_bot ?_
  rw [Host.reduce_eq_fold_single _ _ _ _ drops]
  refine congrArg₂ (fun (z : EReal) (f : Fin 8192 → EReal) => univ.fold max z f) bits_bot (funext fun j => ?_)
  exact congrArg s (lift_eq b h n j)

theorem exps_apply (s : FVec Ideal S2x16x8192x8192 .f32) (b : Fin 2) (h : Fin 16) (n j : Fin 8192) :
    exps s (ix4 b h n j) = Ideal.exp (s (ix4 b h n j) - tops s (ix3 b h n)) :=
  congrArg (fun z : EReal => Ideal.exp (s (ix4 b h n j) - z)) (spread_apply (tops s) b h n j)

theorem weights_apply (s : FVec Ideal S2x16x8192x8192 .f32) (b : Fin 2) (h : Fin 16) (n j : Fin 8192) :
    weights s (ix4 b h n j) = Ideal.div (Ideal.exp (s (ix4 b h n j) - tops s (ix3 b h n)))
      (0 + ∑ k : Fin 8192, Ideal.exp (s (ix4 b h n k) - tops s (ix3 b h n))) := by
  refine congrArg₂ Ideal.div (exps_apply s b h n j) ?_
  rw [spread_apply]
  refine (Ideal.hostReduceAdd_single _ drops _ _ _).trans ?_
  refine congrArg₂ (fun (z w : EReal) => z + w) bits_zero (Finset.sum_congr rfl fun k _ => ?_)
  exact (congrArg (exps s) (lift_eq b h n k)).trans (exps_apply s b h n k)

/-! ## At real queries, keys and forgetting terms -/

theorem sle_eq (n j : Fin 8192) : IntOp.cmpi .sle (BitVec.ofNat 32 j.val) (BitVec.ofNat 32 n.val) = if j.val < n.val + 1 then 1#1 else 0#1 := by
  have hj := j.isLt
  have hn := n.isLt
  have e : (BitVec.ofNat 32 j.val).sle (BitVec.ofNat 32 n.val) = decide (j.val < n.val + 1) := by
    rw [BitVec.sle_eq_decide]
    refine decide_eq_decide.mpr ?_
    rw [BitVec.toInt_eq_toNat_of_lt (by simp; omega), BitVec.toInt_eq_toNat_of_lt (by simp; omega)]
    simp
    omega
  show BitVec.ofBool ((BitVec.ofNat 32 j.val).sle (BitVec.ofNat 32 n.val)) = _
  rw [e]
  by_cases hh : j.val < n.val + 1 <;> simp [hh]

theorem pick_one (x y : EReal) : Scalar.select (1#1) x y = x := rfl

theorem pick_zero (x y : EReal) : Scalar.select (0#1) x y = y := rfl

variable (Q K : FVec Ideal S2x8192x16x128 .f32) (V : FVec Ideal S2x8192x16x128 .f32) (G : FVec Ideal S2x8192x16 .f32)
  (q k : S2x8192x16x128.Idx → ℝ) (g : S2x8192x16.Idx → ℝ)
  (hq : ∀ i, Q i = ((q i : ℝ) : EReal)) (hk : ∀ i, K i = ((k i : ℝ) : EReal)) (hg : ∀ i, G i = ((g i : ℝ) : EReal))

include hq hk hg

theorem scores_apply (b : Fin 2) (h : Fin 16) (n j : Fin 8192) :
    scores Q K G (ix4 b h n j) = if j.val < n.val + 1 then ((logit q k g b h n j.val : ℝ) : EReal) else ⊥ := by
  unfold scores
  rw [select_apply, causal_apply, sle_eq]
  by_cases hh : j.val < n.val + 1
  · rw [if_pos hh, if_pos hh, pick_one, addf_apply, mulf_apply, subf_apply, spread_apply, across_apply, forget_apply, forget_apply, dot_qk]
    unfold logit
    rw [ext_val, EReal.coe_add, EReal.coe_mul, EReal.coe_sub, Soft.coe_sum, hg, hg]
    refine congrArg₂ (fun z w : EReal => z * w + _) (Finset.sum_congr rfl fun d _ => ?_) bits_scale
    rw [hq, hk, EReal.coe_mul]
  · rw [if_neg hh, if_neg hh, pick_zero]
    exact bits_bot

theorem dot_apply (b : Fin 2) (h : Fin 16) (d : Fin 128) (n : Fin 8192) :
    Host.dotGeneral dot_S2x8192x16x128_S2x16x8192x8192_S2x16x128x8192_1_3_3_2_02_01 none V (weights (scores Q K G)) (ix4 b h d n)
      = attn q k V g b n h d := by
  rw [dot_pv]
  refine (Finset.sum_congr rfl fun j _ => congrArg (fun z : EReal => V (ix4 b j h d) * z) (weights_apply _ b h n j)).trans ?_
  exact Soft.row (n := 8192) (N := n.val + 1) (Nat.succ_pos _) n.isLt (logit q k g b h n) (ext fun j => V (ix4 b j h d))
    (fun j => scores Q K G (ix4 b h n j)) (fun j => V (ix4 b j h d)) (fun j => scores_apply Q K G q k g hq hk hg b h n j)
    (fun j => (ext_val (fun j => V (ix4 b j h d)) j).symm) (tops_apply _ b h n) 0

omit hq hk hg in
/-- The reference's result is the array the kernel's call leaves. -/
theorem res_apply (m : (ℓ : Loc nD τ sig) → Buf (Elt Ideal) ℓ) (c : Dev nD)
    (hq : ∀ i, (m ((c.tc : Thread nD τ).loc main_arg0) : S2x8192x16x128.Idx → EReal) i = ((q i : ℝ) : EReal))
    (hk : ∀ i, (m ((c.tc : Thread nD τ).loc main_arg1) : S2x8192x16x128.Idx → EReal) i = ((k i : ℝ) : EReal))
    (hg : ∀ i, (m ((c.tc : Thread nD τ).loc main_arg3) : S2x8192x16.Idx → EReal) i = ((g i : ℝ) : EReal))
    (b : Fin 2) (n : Fin 8192) (h : Fin 16) (d : Fin 128) :
    (Value.res_main_v32 m c : S2x8192x2048.Idx → EReal) (ix3 b n (lane h d))
      = attn q k (m ((c.tc : Thread nD τ).loc main_arg2)) g b n h d := by
  rw [res_eq]
  refine (truncf_apply (φ := .f32) (ψ := .bf16) _ bitsLt_bf16_f32 _).trans ?_
  refine (KernelIdeal.flat_apply _ b n h d).trans ?_
  refine (transpose_apply _ _ _ (ix4 b n h d) (ix4 b h d n)
    (fun a => match a with | ⟨0, _⟩ => rfl | ⟨1, _⟩ => rfl | ⟨2, _⟩ => rfl | ⟨3, _⟩ => rfl)).trans ?_
  exact dot_apply _ _ _ _ q k g hq hk hg b h d n

end Cert.Proof.ReferenceIdeal

end
-- ==== Proof.Finite.lean ====
/- The precondition read: every query, key and forgetting term is a real number. -/
module

public import proofs.«01_k».proof.Defs
public import Idealize.ShloMosaic.Lib.ReduceAll
public import Idealize.ShloMosaic.Lib.ValueIdx

@[expose] public section

noncomputable section

namespace Cert.Proof.Finite

open Cert.Pre_finite
open Idealize.ShloMosaic Idealize.SL.Sem

/-- The shape relations of the precondition. -/
theorem facts : Cert.Pre_finite.Facts where
  bcast_S_S2x8192x16x128 := by decide
  reducesTo_S2x8192x16x128_S_d0_1_2_3 := by decide
  h_S_ := by decide
  bcast_S_S2x8192x16 := by decide
  reducesTo_S2x8192x16_S_d0_1_2 := by decide

theorem bits_top : (FloatOps.ofBits .f32 0x7F800000#32 : Ideal .f32) = (⊤ : EReal) := by
  show Ideal.ofBits .f32 0x7F800000#32 = _
  simp [Ideal.ofBits, Ideal.ieee]

theorem real_of (x : EReal) (h : Ideal.cmp .olt (max x (-x)) (FloatOps.ofBits .f32 0x7F800000#32 : Ideal .f32) = 1#1) : ∃ r : ℝ, x = (r : EReal) := by
  rw [bits_top] at h
  induction x with
  | bot => simp [Ideal.cmp] at h
  | coe r => exact ⟨r, rfl⟩
  | top => simp [Ideal.cmp] at h

theorem and_split (x y : BitVec 1) (h : IntOp.andi x y = 1#1) : x = 1#1 ∧ y = 1#1 := by
  revert h
  revert x y
  decide

variable (hF : Cert.Pre_finite.Facts) (Q K V : FVec Ideal Cert.Pre_finite.S2x8192x16x128 .f32) (G : FVec Ideal Cert.Pre_finite.S2x8192x16 .f32)

theorem reals (h : fn (F := Ideal) Q K V G = fun _ => 1#1) :
    (∀ i, ∃ r : ℝ, Q i = (r : EReal)) ∧ (∀ i, ∃ r : ℝ, K i = (r : EReal)) ∧ (∀ i, ∃ r : ℝ, G i = (r : EReal)) := by
  have e := congrFun h (fun a => a.elim0)
  have hs : Subsingleton S_.Idx := ⟨fun a b => funext fun i => i.elim0⟩
  obtain ⟨e₁, eg⟩ := and_split _ _ e
  obtain ⟨eq, ek⟩ := and_split _ _ e₁
  exact ⟨fun i => real_of _ (Host.reduce_andi_all _ _ _ _ _ eq i), fun i => real_of _ (Host.reduce_andi_all _ _ _ _ _ ek i),
    fun i => real_of _ (Host.reduce_andi_all _ _ _ _ _ eg i)⟩

end Cert.Proof.Finite

end
-- ==== Proof.Hidden.Points.lean ====
/- The call `ffn_up` point by point: the two scratches hold the rounded weight columns of the point's column block, stored at
   the first row block and kept by the fifteen that follow; the output's block is the body's one payload of the point's rows
   and of those columns. -/
module

public import proofs.«01_k».proof.Proof.Gen.UpIdeal.Value

@[expose] public section

noncomputable section

namespace Cert.Proof.Hidden

open Cert.UpIdeal Cert.UpIdeal.Gen Cert.UpIdeal.Value
open Idealize.ShloMosaic Idealize.ShloMosaic.TcCoe Idealize.SL.Sem

variable {F : FTy → Type} [FloatOps F]

theorem zeros : (![0, 0] : Fin 2 → Nat) = fun _ => 0 := funext fun a => by fin_cases a <;> rfl

/-! ## The two cases' contents -/

section Cases
variable (c : Dev nD) (i : grid0.Coords) (r : Memref sig .tc .vmem S1024x2048 .bf16) (hr : r.IsWhole)
  (g : Memref sig .tc .vmem S2048x512 .f32) (hg : g.IsWhole) (u : Memref sig .tc .vmem S2048x512 .f32) (hu : u.IsWhole)
  (o : Memref sig .tc .vmem S1024x512 .bf16) (ho : o.IsWhole) (sg : Memref sig .tc .vmem S2048x512 .bf16) (hsg : sg.IsWhole)
  (su : Memref sig .tc .vmem S2048x512 .bf16) (hsu : su.IsWhole)
  (x : Vec F S1024x2048 .bf16) (wg wu : Vec F S2048x512 .f32) (kg ku : Vec F S2048x512 .bf16)

theorem first_gate (h : cond0_0 i) : sout0_A_0 c i r hr g hg u hu o ho sg hsg su hsu h x wg wu = k0_pay1 wg := by
  unfold sout0_A_0
  rw [View.read_writes_eq_canon _ _ _ (scover0_A_0 c i r hr g hg u hu o ho sg hsg su hsu h x wg wu)]
  unfold kernelRun0_A
  dsimp only
  sl_unfold_words
  rw [View.canon_unit_zero zeros]
  simp only [View.readAt_eq_ld, hg.read_unread, View.ld_unit_zero (S := S2048x512) zeros]

theorem first_up (h : cond0_0 i) : sout0_A_1 c i r hr g hg u hu o ho sg hsg su hsu h x wg wu = k0_pay2 wu := by
  unfold sout0_A_1
  rw [View.read_writes_eq_canon _ _ _ (scover0_A_1 c i r hr g hg u hu o ho sg hsg su hsu h x wg wu)]
  unfold kernelRun0_A
  dsimp only
  sl_unfold_words
  rw [View.canon_unit_zero zeros]
  simp only [View.readAt_eq_ld, hu.read_unread, View.ld_unit_zero (S := S2048x512) zeros]

theorem first_out (h : cond0_0 i) :
    out0_A_3 c i r hr g hg u hu o ho sg hsg su hsu h x wg wu = k0_pay3 x (k0_pay1 wg) (k0_pay2 wu) := by
  unfold out0_A_3
  rw [View.read_writes_eq_canon _ _ _ (cover0_A_3 c i r hr g hg u hu o ho sg hsg su hsu h x wg wu)]
  unfold kernelRun0_A
  dsimp only
  sl_unfold_words
  rw [View.canon_unit_zero zeros, View.readCov_unit_zero (S := S2048x512) _ zeros, View.readCov_unit_zero (S := S2048x512) _ zeros]
  simp only [View.readAt_eq_ld, hr.read_unread, hg.read_unread, hu.read_unread, View.ld_unit_zero (S := S2048x512) zeros,
    View.ld_unit_zero (S := S1024x2048) zeros]

theorem later_out (h : ¬cond0_0 i) : out0_B_3 c i r hr g hg u hu o ho sg hsg su hsu h x wg wu kg ku = k0_pay3 x kg ku := by
  unfold out0_B_3
  rw [View.read_writes_eq_canon _ _ _ (cover0_B_3 c i r hr g hg u hu o ho sg hsg su hsu h x wg wu kg ku)]
  unfold kernelRun0_B
  dsimp only
  rw [View.canon_unit_zero zeros]
  simp only [View.readAt_eq_ld, hr.read_unread, hsg.read_unread, hsu.read_unread, View.ld_unit_zero (S := S2048x512) zeros,
    View.ld_unit_zero (S := S1024x2048) zeros]

end Cases

/-! ## The blocks -/

/-- Row block `i` of the rows. -/
def rows {α : Type} (x : S16384x2048.Idx → α) (i : ℕ) : S1024x2048.Idx → α := fun y =>
  x fun a => match a with
    | ⟨0, _⟩ => ⟨(i * 1024 + (y 0).val) % 16384, Nat.mod_lt _ (by decide)⟩
    | ⟨1, _⟩ => ⟨(y 1).val, (y 1).isLt⟩

/-- Column block `j` of a weight. -/
def columns {α : Type} (w : S2048x5632.Idx → α) (j : ℕ) : S2048x512.Idx → α := fun y =>
  w fun a => match a with
    | ⟨0, _⟩ => ⟨(y 0).val, (y 0).isLt⟩
    | ⟨1, _⟩ => ⟨(j * 512 + (y 1).val) % 5632, Nat.mod_lt _ (by decide)⟩

theorem places : ∀ t : Fin cfg0.N, (win0_0.index t (0 : Fin 2) = t.val % 16 ∧ win0_0.index t (1 : Fin 2) = 0)
    ∧ (win0_1.index t (0 : Fin 2) = 0 ∧ win0_1.index t (1 : Fin 2) = t.val / 16)
    ∧ (win0_2.index t (0 : Fin 2) = 0 ∧ win0_2.index t (1 : Fin 2) = t.val / 16)
    ∧ (win0_3.index t (0 : Fin 2) = t.val % 16 ∧ win0_3.index t (1 : Fin 2) = t.val / 16) :=
  (by decide +kernel : ∀ t : Fin grid0.N, _)

variable (m : (ℓ : Loc nD τ sig) → Buf (Elt F) ℓ)

theorem block_rows (c : Dev nD) (t : Fin cfg0.N) : (iblk m c 0 t : Vec F S1024x2048 .bf16) = rows (V m c main_v1) (t.val % 16) := by
  obtain ⟨⟨e₀, e₁⟩, -⟩ := places t
  funext y
  have h0 : (y 0).val < 1024 := (y 0).isLt
  show V m c main_v1 (((cfg0.win 0).blk t).view.emb y) = _
  refine congrArg (V m c main_v1) (funext fun a => Fin.ext ?_)
  match a with
  | ⟨0, _⟩ => show win0_0.index t (0 : Fin 2) * 1024 + 1 * (y 0).val = (t.val % 16 * 1024 + (y 0).val) % 16384; rw [e₀]; omega
  | ⟨1, _⟩ => show win0_0.index t (1 : Fin 2) * 2048 + 1 * (y 1).val = (y 1).val; rw [e₁]; omega

theorem block_gate (c : Dev nD) (t : Fin cfg0.N) : (iblk m c 1 t : Vec F S2048x512 .f32) = columns (V m c main_arg1) (t.val / 16) := by
  obtain ⟨-, ⟨e₀, e₁⟩, -⟩ := places t
  have ht : t.val < 176 := lt_of_lt_of_eq t.isLt N_0
  funext y
  have h1 : (y 1).val < 512 := (y 1).isLt
  show V m c main_arg1 (((cfg0.win 1).blk t).view.emb y) = _
  refine congrArg (V m c main_arg1) (funext fun a => Fin.ext ?_)
  match a with
  | ⟨0, _⟩ => show win0_1.index t (0 : Fin 2) * 2048 + 1 * (y 0).val = (y 0).val; rw [e₀]; omega
  | ⟨1, _⟩ => show win0_1.index t (1 : Fin 2) * 512 + 1 * (y 1).val = (t.val / 16 * 512 + (y 1).val) % 5632; rw [e₁]; omega

theorem block_up (c : Dev nD) (t : Fin cfg0.N) : (iblk m c 2 t : Vec F S2048x512 .f32) = columns (V m c main_arg2) (t.val / 16) := by
  obtain ⟨-, -, ⟨e₀, e₁⟩, -⟩ := places t
  have ht : t.val < 176 := lt_of_lt_of_eq t.isLt N_0
  funext y
  have h1 : (y 1).val < 512 := (y 1).isLt
  show V m c main_arg2 (((cfg0.win 2).blk t).view.emb y) = _
  refine congrArg (V m c main_arg2) (funext fun a => Fin.ext ?_)
  match a with
  | ⟨0, _⟩ => show win0_2.index t (0 : Fin 2) * 2048 + 1 * (y 0).val = (y 0).val; rw [e₀]; omega
  | ⟨1, _⟩ => show win0_2.index t (1 : Fin 2) * 512 + 1 * (y 1).val = (t.val / 16 * 512 + (y 1).val) % 5632; rw [e₁]; omega

/-! ## What the buffers hold after each point -/

/-- The rounded columns of the gate's weight and of the other one, at column block `j`. -/
def gate (c : Dev nD) (j : ℕ) : FVec F S2048x512 .bf16 := k0_pay1 (columns (V m c main_arg1) j)
def up (c : Dev nD) (j : ℕ) : FVec F S2048x512 .bf16 := k0_pay2 (columns (V m c main_arg2) j)

/-- The block that point `n` leaves. -/
def block (c : Dev nD) (n : ℕ) : FVec F S1024x512 .bf16 := k0_pay3 (rows (V m c main_v1) (n % 16)) (gate m c (n / 16)) (up m c (n / 16))

/-- After every point the output's buffer holds its block and the scratches the point's columns. -/
theorem holds (c : Dev nD) : ∀ (n : ℕ) (h : n < cfg0.N), outsAt0 m c n h = (block m c n, gate m c (n / 16), up m c (n / 16))
  | 0, h => by
    rw [outsAt0_A m c ⟨0, h⟩ rfl, first_out, first_gate, first_up, block_rows, block_gate, block_up]
    rfl
  | n + 1, h => by
    by_cases h0 : (n + 1) % 16 = 0
    · rw [outsAt0_A m c ⟨n + 1, h⟩ h0, first_out, first_gate, first_up, block_rows, block_gate, block_up]
      rfl
    · have hd : n / 16 = (n + 1) / 16 := by omega
      have ih := holds c n (Nat.lt_of_succ_lt h)
      rw [outsAt0_B m c ⟨n + 1, h⟩ h0, later_out, block_rows]
      have hs : outsAt0 m c ((⟨n + 1, h⟩ : Fin cfg0.N).val - 1) (Nat.lt_of_le_of_lt (Nat.sub_le _ _) (⟨n + 1, h⟩ : Fin cfg0.N).isLt)
          = (block m c n, gate m c (n / 16), up m c (n / 16)) := ih
      unfold sout0_B_0 sout0_B_1
      rw [hs, hd]
      rfl

/-! ## The array -/

/-- The result: each element from the point that leaves its block. -/
def result (c : Dev nD) : Buf (Elt F) ((c : Thread nD τ).loc main_v2) := fun i => block m c (run3Of i) (loc3Of i)

theorem flushed_eq (c : Dev nD) (t : Fin cfg0.N) : (dats m 0 c).flushed 3 t = ((cfg0.win 3).blk t).view.read (Elt F) (result m c) := by
  rw [flushed3, holds]
  obtain ⟨-, -, -, e₀, e₁⟩ := places t
  have ht : t.val < 176 := lt_of_lt_of_eq t.isLt N_0
  funext y
  have h0 : (y 0).val < 1024 := (y 0).isLt
  have h1 : (y 1).val < 512 := (y 1).isLt
  have b0 : (((cfg0.win 3).blk t).view.emb y 0).val = win0_3.index t (0 : Fin 2) * 1024 + 1 * (y 0).val := rfl
  have b1 : (((cfg0.win 3).blk t).view.emb y 1).val = win0_3.index t (1 : Fin 2) * 512 + 1 * (y 1).val := rfl
  rw [e₀] at b0
  rw [e₁] at b1
  have hr : run3Of (((cfg0.win 3).blk t).view.emb y) = t.val := by
    show 1 * ((((cfg0.win 3).blk t).view.emb y 0).val / 1024 - 0) + 16 * ((((cfg0.win 3).blk t).view.emb y 1).val / 512 - 0) = _
    rw [b0, b1]; omega
  have hl : loc3Of (((cfg0.win 3).blk t).view.emb y) = (cfg0.win 3).xinj (grid0.coords t) y := by
    funext a; apply Fin.ext
    match a with
    | ⟨0, _⟩ => show (((cfg0.win 3).blk t).view.emb y 0).val % 1024 = (y 0).val; rw [b0]; omega
    | ⟨1, _⟩ => show (((cfg0.win 3).blk t).view.emb y 1).val % 512 = (y 1).val; rw [b1]; omega
  show block m c t.val ((cfg0.win 3).xinj (grid0.coords t) y) = block m c (run3Of (((cfg0.win 3).blk t).view.emb y)) (loc3Of (((cfg0.win 3).blk t).view.emb y))
  rw [hr, hl]

theorem final (c : Dev nD) : (dats m 0 c).arrAt 3 cfg0.N = result m c :=
  (dats m 0 c).arrAt_eq_of_cover 3 _ (fun t _ => flushed_eq m c t) fun i => (covered_iff3 i).2
    ⟨Nat.zero_le _, (i 0).isLt, Nat.zero_le _, (i 1).isLt⟩

end Cert.Proof.Hidden

end
-- ==== Proof.Hidden.Values.lean ====
/- The call `ffn_up` and its reference element by element at the ideal instance: the gated product of a row's two sums
   against a column of the two weights. -/
module

public import proofs.«01_k».proof.Proof.Hidden.Points
public import proofs.«01_k».proof.Proof.Gen.UpReferenceIdeal
public import proofs.«01_k».proof.Proof.Gen.UpReferenceIdeal.Run
public import Idealize.ShloMosaic.Lib.Claim
public import Idealize.ShloMosaic.Lib.MatmulPlain
public import Idealize.ShloMosaic.Lib.ValueIdx
public import Idealize.ShloMosaic.PureOps.IdealRules

@[expose] public section

set_option maxRecDepth 16384

noncomputable section

namespace Cert.Proof.Hidden

open Idealize.ShloMosaic Idealize.ShloMosaic.TcCoe Idealize.ShloMosaic.ValueIdx Idealize.SL.Sem
open Finset (univ)

/-- `g` through the logistic gate, times `u`. -/
def gated (g u : EReal) : EReal := g * Ideal.div 1 (1 + Ideal.exp (-g)) * u

theorem bits_one : (FloatOps.ofBits .f32 0x3F800000#32 : Ideal .f32) = (1 : EReal) := by
  show Ideal.ofBits .f32 0x3F800000#32 = ((1 : ℝ) : EReal)
  simp [Ideal.ofBits, Ideal.ieee, -EReal.coe_mul]
  norm_num

theorem bits_nil : (FloatOps.ofBits .f32 0x00000000#32 : Ideal .f32) = (0 : EReal) := by
  show Ideal.ofBits .f32 0x00000000#32 = _
  simp [Ideal.ofBits, Ideal.ieee, -EReal.coe_mul]

/-- The sum of row `n` of batch `b` against column `e` of a weight. -/
def line (x : Cert.UpIdeal.S2x8192x2048.Idx → EReal) (w : Cert.UpIdeal.S2048x5632.Idx → EReal) (b : Fin 2) (n : Fin 8192) (e : Fin 5632) : EReal :=
  ∑ d : Fin 2048, x (ix3 b n d) * w (ix2 d e)

/-- Row `n` of batch `b` among all rows. -/
def flat (b : Fin 2) (n : Fin 8192) : Fin 16384 := ⟨8192 * b.val + n.val, by omega⟩

section Call
open Cert.UpIdeal Cert.UpIdeal.Gen Cert.UpIdeal.Value

theorem pay3_apply (x : Vec Ideal S1024x2048 .bf16) (wg wu : Vec Ideal S2048x512 .bf16) (r : Fin 1024) (e : Fin 512) :
    k0_pay3 x wg wu (ix2 r e) = gated (∑ d : Fin 2048, x (ix2 r d) * wg (ix2 d e)) (∑ d : Fin 2048, x (ix2 r d) * wu (ix2 d e)) := by
  have hm : ∀ w : Vec Ideal S2048x512 .bf16, matmul (F := Ideal) (φ₁ := .bf16) (φ₂ := .bf16) (DotDims.plain 1024 2048 512) none x w (constant S1024x512 .f32 0x00000000#32) (ix2 r e)
      = ∑ d : Fin 2048, x (ix2 r d) * w (ix2 d e) := fun w => by
    refine (Ideal.matmul_plain_apply _ _ _ _ r e).trans ?_
    show (FloatOps.ofBits .f32 0x00000000#32 : Ideal .f32) + _ = _
    rw [bits_nil, zero_add]
  unfold k0_pay3
  rw [shapeCast_self]
  show (matmul (F := Ideal) (φ₁ := .bf16) (φ₂ := .bf16) (DotDims.plain 1024 2048 512) none x wg (constant S1024x512 .f32 0x00000000#32) (ix2 r e)
      * Ideal.div (FloatOps.ofBits .f32 0x3F800000#32 : Ideal .f32) ((FloatOps.ofBits .f32 0x3F800000#32 : Ideal .f32)
        + Ideal.exp ((FloatOps.ofBits .f32 0x00000000#32 : Ideal .f32) - matmul (F := Ideal) (φ₁ := .bf16) (φ₂ := .bf16) (DotDims.plain 1024 2048 512) none x wg (constant S1024x512 .f32 0x00000000#32) (ix2 r e))))
      * matmul (F := Ideal) (φ₁ := .bf16) (φ₂ := .bf16) (DotDims.plain 1024 2048 512) none x wu (constant S1024x512 .f32 0x00000000#32) (ix2 r e) = _
  rw [hm wg, hm wu, bits_one, bits_nil, zero_sub]
  rfl

variable (m : (ℓ : Loc nD τ sig) → Buf (Elt Ideal) ℓ) (c : Dev nD)

theorem entry_rows : V m c main_v1 = truncf .bf16 (shapeCast S16384x2048 (m ((c : Thread nD τ).loc main_arg0)) shapeCasts_S2x8192x2048_S16384x2048 : FVec Ideal S16384x2048 .f32)
      bitsLt_bf16_f32 := by
  entry_read
  rfl

theorem entry_apply (b : Fin 2) (n : Fin 8192) (d : Fin 2048) :
    (V m c main_v1 : FVec Ideal S16384x2048 .bf16) (ix2 (flat b n) d) = (m ((c : Thread nD τ).loc main_arg0) : FVec Ideal S2x8192x2048 .f32) (ix3 b n d) := by
  rw [entry_rows]
  refine (truncf_apply (φ := .f32) (ψ := .bf16) _ _ _).trans ?_
  refine shapeCast_apply _ _ _ _ ?_
  show (S2x8192x2048.rowMajor (ix3 b n d)).val = (S16384x2048.rowMajor (ix2 (flat b n) d)).val
  rw [Shape.rowMajor_val_two, Shape.rowMajor_val_three]
  show (b.val * 8192 + n.val) * 2048 + d.val = (8192 * b.val + n.val) * 2048 + d.val
  omega

/-- The kernel's result at an index. -/
theorem result_apply (b : Fin 2) (n : Fin 8192) (e : Fin 5632) :
    (result m c : FVec Ideal S16384x5632 .bf16) (ix2 (flat b n) e)
      = gated (line (m ((c : Thread nD τ).loc main_arg0)) (m ((c : Thread nD τ).loc main_arg1)) b n e)
        (line (m ((c : Thread nD τ).loc main_arg0)) (m ((c : Thread nD τ).loc main_arg2)) b n e) := by
  have hn := n.isLt
  have hb := b.isLt
  have he := e.isLt
  have hrun : run3Of (ix2 (flat b n) e) = (8192 * b.val + n.val) / 1024 + 16 * (e.val / 512) := by
    show 1 * ((8192 * b.val + n.val) / 1024 - 0) + 16 * (e.val / 512 - 0) = _
    omega
  have hloc : loc3Of (ix2 (flat b n) e) = ix2 ⟨(8192 * b.val + n.val) % 1024, Nat.mod_lt _ (by decide)⟩ ⟨e.val % 512, Nat.mod_lt _ (by decide)⟩ := by
    funext a
    refine Fin.ext ?_
    match a with
    | ⟨0, _⟩ => rfl
    | ⟨1, _⟩ => rfl
  show block m c (run3Of (ix2 (flat b n) e)) (loc3Of (ix2 (flat b n) e)) = _
  rw [hrun, hloc]
  have h₁ : ((8192 * b.val + n.val) / 1024 + 16 * (e.val / 512)) % 16 = (8192 * b.val + n.val) / 1024 := by omega
  have h₂ : ((8192 * b.val + n.val) / 1024 + 16 * (e.val / 512)) / 16 = e.val / 512 := by omega
  unfold block
  rw [h₁, h₂, pay3_apply]
  have hx : ∀ d : Fin 2048, rows (V m c main_v1) ((8192 * b.val + n.val) / 1024) (ix2 ⟨(8192 * b.val + n.val) % 1024, Nat.mod_lt _ (by decide)⟩ d)
      = (m ((c : Thread nD τ).loc main_arg0) : FVec Ideal S2x8192x2048 .f32) (ix3 b n d) := fun d => by
    refine (congrArg (V m c main_v1) (funext fun a => Fin.ext ?_)).trans (entry_apply m c b n d)
    match a with
    | ⟨0, _⟩ => show ((8192 * b.val + n.val) / 1024 * 1024 + (8192 * b.val + n.val) % 1024) % 16384 = 8192 * b.val + n.val; omega
    | ⟨1, _⟩ => rfl
  have hc : ∀ (w : S2048x5632.Idx → EReal) (d : Fin 2048), columns w (e.val / 512) (ix2 d ⟨e.val % 512, Nat.mod_lt _ (by decide)⟩) = w (ix2 d e) := fun w d => by
    refine congrArg w (funext fun a => Fin.ext ?_)
    match a with
    | ⟨0, _⟩ => rfl
    | ⟨1, _⟩ => show (e.val / 512 * 512 + e.val % 512) % 5632 = e.val; omega
  have hg : ∀ d : Fin 2048, gate m c (e.val / 512) (ix2 d ⟨e.val % 512, Nat.mod_lt _ (by decide)⟩) = (m ((c : Thread nD τ).loc main_arg1) : FVec Ideal S2048x5632 .f32) (ix2 d e) := fun d => by
    unfold gate k0_pay1
    rw [shapeCast_self, V_main_arg1]
    exact (truncf_apply (φ := .f32) (ψ := .bf16) _ _ _).trans (hc _ d)
  have hu : ∀ d : Fin 2048, up m c (e.val / 512) (ix2 d ⟨e.val % 512, Nat.mod_lt _ (by decide)⟩) = (m ((c : Thread nD τ).loc main_arg2) : FVec Ideal S2048x5632 .f32) (ix2 d e) := fun d => by
    unfold up k0_pay2
    rw [shapeCast_self, V_main_arg2]
    exact (truncf_apply (φ := .f32) (ψ := .bf16) _ _ _).trans (hc _ d)
  simp only [hx, hg, hu]
  rfl

end Call

/-! ## The reference -/

section Plain
open Cert.UpReferenceIdeal Cert.UpReferenceIdeal.Gen

theorem dot_apply (x : FVec Ideal S2x8192x2048 .f32) (w : FVec Ideal S2048x5632 .f32) (b : Fin 2) (n : Fin 8192) (e : Fin 5632) :
    Host.dotGeneral (φ₁ := .f32) (φ₂ := .f32) dot_S2x8192x2048_S2048x5632_S2x8192x5632_2_0_01_1_n_n none x w (ix3 b n e) = line x w b n e := by
  simp only [Host.dotGeneral, Ideal.dotGeneral_apply]
  rw [← Equiv.sum_comp (contrEquiv1 dot_S2x8192x2048_S2048x5632_S2x8192x5632_2_0_01_1_n_n 2048 rfl rfl).symm]
  refine Finset.sum_congr rfl fun d _ => ?_
  congr 2
  · funext a
    refine Fin.ext ?_
    match a with
    | ⟨0, _⟩ => rfl
    | ⟨1, _⟩ => rfl
    | ⟨2, _⟩ => exact contrEquiv1_symm_val dot_S2x8192x2048_S2048x5632_S2x8192x5632_2_0_01_1_n_n 2048 rfl rfl d
  · funext a
    refine Fin.ext ?_
    match a with
    | ⟨0, _⟩ => exact contrEquiv1_symm_val dot_S2x8192x2048_S2048x5632_S2x8192x5632_2_0_01_1_n_n 2048 rfl rfl d
    | ⟨1, _⟩ => rfl

/-- The reference's result of its arguments. -/
def plain (x : FVec Ideal S2x8192x2048 .f32) (wg wu : FVec Ideal S2048x5632 .f32) : FVec Ideal S16384x5632 .bf16 :=
  truncf .bf16 (shapeCast _ (mulf (mulf (Host.dotGeneral dot_S2x8192x2048_S2048x5632_S2x8192x5632_2_0_01_1_n_n none x wg)
      (Host.divf (broadcastInDim S2x8192x5632 ![] bcast_S_S2x8192x5632 (constant S_ .f32 0x3F800000#32))
        (addf (broadcastInDim S2x8192x5632 ![] bcast_S_S2x8192x5632 (constant S_ .f32 0x3F800000#32))
          (Host.exp (Host.negf (Host.dotGeneral dot_S2x8192x2048_S2048x5632_S2x8192x5632_2_0_01_1_n_n none x wg))))))
      (Host.dotGeneral dot_S2x8192x2048_S2048x5632_S2x8192x5632_2_0_01_1_n_n none x wu)) shapeCasts_S2x8192x5632_S16384x5632) bitsLt_bf16_f32

theorem plain_apply (x : FVec Ideal S2x8192x2048 .f32) (wg wu : FVec Ideal S2048x5632 .f32) (b : Fin 2) (n : Fin 8192) (e : Fin 5632) :
    plain x wg wu (ix2 (flat b n) e) = gated (line x wg b n e) (line x wu b n e) := by
  refine (truncf_apply (φ := .f32) (ψ := .bf16) _ _ _).trans ?_
  refine (shapeCast_apply _ _ (ix2 (flat b n) e) (ix3 b n e) ?_).trans ?_
  · rw [Shape.rowMajor_val_two, Shape.rowMajor_val_three]
    show (b.val * 8192 + n.val) * 5632 + e.val = (8192 * b.val + n.val) * 5632 + e.val
    omega
  · show (Host.dotGeneral (φ₁ := .f32) (φ₂ := .f32) dot_S2x8192x2048_S2048x5632_S2x8192x5632_2_0_01_1_n_n none x wg (ix3 b n e)
        * Ideal.div (FloatOps.ofBits .f32 0x3F800000#32 : Ideal .f32) ((FloatOps.ofBits .f32 0x3F800000#32 : Ideal .f32)
          + Ideal.exp (-Host.dotGeneral (φ₁ := .f32) (φ₂ := .f32) dot_S2x8192x2048_S2048x5632_S2x8192x5632_2_0_01_1_n_n none x wg (ix3 b n e))))
        * Host.dotGeneral (φ₁ := .f32) (φ₂ := .f32) dot_S2x8192x2048_S2048x5632_S2x8192x5632_2_0_01_1_n_n none x wu (ix3 b n e) = _
    rw [dot_apply, dot_apply, bits_one]
    rfl

end Plain

/-- Every index of the result names a batch, a row of it and a column. -/
theorem index_eq (i : Cert.UpIdeal.S16384x5632.Idx) : ∃ (b : Fin 2) (n : Fin 8192) (e : Fin 5632), i = ix2 (flat b n) e := by
  have hi : (i 0).val < 16384 := (i 0).isLt
  refine ⟨⟨(i 0).val / 8192, by omega⟩, ⟨(i 0).val % 8192, by omega⟩, i 1, ?_⟩
  funext a
  refine Fin.ext ?_
  match a with
  | ⟨0, _⟩ => exact (Nat.div_add_mod (i 0).val 8192).symm
  | ⟨1, _⟩ => rfl

end Cert.Proof.Hidden

end
-- ==== Proof.Experts.Body.lean ====
module

public import proofs.«01_k».proof.Proof.Gen.ExpDownIdeal.Launch
public import proofs.«01_k».proof.Proof.Gen.ExpDownIdeal.Skeleton
public import Idealize.ShloMosaic.Lib.Pipeline.FrameBody
public import Idealize.ShloMosaic.Lib.VecWindow
public import Idealize.ShloMosaic.Lib.Pipeline.Value
public import Idealize.ShloMosaic.Lib.Tactic
public import Idealize.ShloMosaic.Lib.WordCmp

@[expose] public section

set_option maxRecDepth 16384

noncomputable section

namespace Cert.Proof.Experts

open Cert.ExpDownIdeal Cert.ExpDownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The algebra of the run: the pipeline's beside the transfers' counters. -/
local notation "𝕄" => MT nD τ sig Unit (Elt F) ℕ (Pipeline.UD sig nD τ) ℕ

/-- The three tables: each tile's expert, how many tiles are used, and the expert after each tile's run of tiles. -/
abbrev mTe : Memref sig .tc .smem S72 .i32 := Memref.whole main_arg2
abbrev mNu : Memref sig .tc .smem S1 .i32 := Memref.whole main_arg3
abbrev mNx : Memref sig .tc .smem S72 .i32 := Memref.whole main_arg4
/-- The weights of all experts, the block of them in arrival, and the rounded block in use. -/
abbrev mW : Memref sig .tc .hbm S8x5632x2048 .f32 := Memref.whole main_arg1
abbrev mS : Memref sig .tc .vmem S5632x1024 .f32 := Memref.whole cc0_scratch0
abbrev mB : Memref sig .tc .vmem S5632x1024 .bf16 := Memref.whole cc0_scratch1

/-! ## The words the body reads -/

section Words
variable (i : grid0.Coords) (T2 : BufTy.Contents (Elt F) mTe.view.ty) (T3 : BufTy.Contents (Elt F) mNu.view.ty) (T4 : BufTy.Contents (Elt F) mNx.view.ty)

abbrev usedW : BitVec 32 := mNu.view.readAt (Elt F) (Rect.unit (s := S1) ![0] S1.size inb_S1_S1_0).toLoadRect T3 (Shape.Idx.first (show 0 < S1.numel by decide))
abbrev hereW : BitVec 32 := mTe.view.readAt (Elt F) (Rect.unit (s := S72) (k0_off1 i) S1.size (k0_off1_inb i)).toLoadRect T2 (Shape.Idx.first (show 0 < S1.numel by decide))
abbrev backW : BitVec 32 := mTe.view.readAt (Elt F) (Rect.unit (s := S72) (k0_off2 i) S1.size (k0_off2_inb i)).toLoadRect T2 (Shape.Idx.first (show 0 < S1.numel by decide))
abbrev headW : BitVec 32 := mTe.view.readAt (Elt F) (Rect.unit (s := S72) ![0] S1.size inb_S72_S1_0).toLoadRect T2 (Shape.Idx.first (show 0 < S1.numel by decide))
abbrev nextW : BitVec 32 := mNx.view.readAt (Elt F) (Rect.unit (s := S72) (k0_off7 i) S1.size (k0_off7_inb i)).toLoadRect T4 (Shape.Idx.first (show 0 < S1.numel by decide))
end Words

/-! ## The blocks -/

/-- Columns `1024 * j` to `1024 * j + 1023` of expert `e`'s weights. -/
def weights {α : Type} (W : S8x5632x2048.Idx → α) (e j : ℕ) : S5632x1024.Idx → α := fun y =>
  W fun a => match a with
    | ⟨0, _⟩ => ⟨e % 8, Nat.mod_lt _ (by decide)⟩
    | ⟨1, _⟩ => ⟨(y 0).val, (y 0).isLt⟩
    | ⟨2, _⟩ => ⟨(1024 * j + (y 1).val) % 2048, Nat.mod_lt _ (by decide)⟩

/-- A block of weights, rounded. -/
def rounded (X : Vec F S5632x1024 .f32) : Vec F S5632x1024 .bf16 := truncf .bf16 X bitsLt_bf16_f32

/-- The product of a tile with a block of rounded weights, its two halves of columns one product each. -/
def product (X : Vec F S512x5632 .bf16) (B : Vec F S5632x1024 .bf16) : Vec F S512x1024 .f32 := fun y =>
  if h : (y 1).val < 512 then
    k0_pay2 X (VecWindow.window (s := S5632x1024) B ![0, 0] S5632x512.size inb_S5632x1024_S5632x512_0_0)
      (fun a => match a with | ⟨0, _⟩ => ⟨(y 0).val, (y 0).isLt⟩ | ⟨1, _⟩ => ⟨(y 1).val, h⟩)
  else
    k0_pay3 X (VecWindow.window (s := S5632x1024) B ![0, 512] S5632x512.size inb_S5632x1024_S5632x512_0_512)
      (fun a => match a with | ⟨0, _⟩ => ⟨(y 0).val, (y 0).isLt⟩ | ⟨1, _⟩ => ⟨(y 1).val - 512, by have : (y 1).val < 1024 := (y 1).isLt; show (y 1).val - 512 < 512; omega⟩)

/-! ## What the body holds -/

section Body
variable (c : Dev nD) (i : grid0.Coords) (q : PosShare TreeShare)
  (arg5 : Memref sig .tc .vmem S512x5632 .bf16) (harg5 : arg5.IsWhole) (arg7 : Memref sig .tc .vmem S512x1024 .f32) (harg7 : arg7.IsWhole)
  (T2 : BufTy.Contents (Elt F) mTe.view.ty) (T3 : BufTy.Contents (Elt F) mNu.view.ty) (T4 : BufTy.Contents (Elt F) mNx.view.ty)
  (W : BufTy.Contents (Elt F) mW.view.ty)

/-- A block of weights on its way into the first scratch buffer. -/
def flying (e j : ℕ) : sProp 𝕄 :=
  iprop(∃ (S : Finset mW.view.ty.shape.Idx) (g : BufTy.Contents (Elt F) mS.view.ty), ⌜mS.view.read (Elt F) g = weights (mW.view.read (Elt F) W) e j⌝
    ∗ Transfers.Flight (countersEmb (U := Pipeline.UD sig nD τ)) (c : Thread nD τ) (.dma cc0_scratch2.sem) () (mS.view.amount (SemLoc.dma (sig := sig) cc0_scratch2.sem))
        iprop((mS.view.loc (c : Thread nD τ) ↦[mS.view.set]{fullShare} g) ∗ (mW.view.loc (c : Thread nD τ) ↦[S]{fullShare} W))
    ∗ (mW.view.loc (c : Thread nD τ) ↦[Finset.univ \ S]{fullShare} W))

/-- No block on its way. -/
def resting : sProp 𝕄 :=
  iprop((∃ g : BufTy.Contents (Elt F) mS.view.ty, mS.view.loc (c : Thread nD τ) ↦[mS.view.set]{fullShare} g)
    ∗ semVal ((c : Thread nD τ), SemLoc.dma cc0_scratch2.sem) 0
    ∗ (mW.view.loc (c : Thread nD τ) ↦[Finset.univ]{fullShare} W))

/-! ## The rounding loop -/

/-- Before trip `k` the first `256 * k` rows are rounded. -/
def filling (X : Vec F S5632x1024 .f32) (k : ℕ) : sProp 𝕄 :=
  iprop((mS.view.loc (c : Thread nD τ) ↦[mS.view.set]{fullShare} mS.view.rep X)
    ∗ (∃ A : Vec F S5632x1024 .bf16, ⌜∀ y, (y 0).val < 256 * k → A y = rounded X y⌝ ∗ (mB.view.loc (c : Thread nD τ) ↦[mB.view.set]{fullShare} mB.view.rep A)))

theorem trips : k0_t1_loop.trips = 22 := by decide

theorem off6_at : ∀ t : Fin k0_t1_loop.trips, k0_off6 t = ![256 * t.val, 0] := by decide +kernel

theorem fill_step (X : Vec F S5632x1024 .f32) (A : Vec F S5632x1024 .bf16) (t : ℕ) (ht : t < 22) (inb : ∀ a, (![256 * t, 0] : Fin 2 → ℕ) a + S256x1024.size a ≤ S5632x1024.size a)
    (hA : ∀ y, (y 0).val < 256 * t → A y = rounded X y) (y : S5632x1024.Idx) (hy : (y 0).val < 256 * (t + 1)) :
    VecWindow.put (s := S5632x1024) A ![256 * t, 0] S256x1024.size (k0_pay1 (VecWindow.window (s := S5632x1024) X ![256 * t, 0] S256x1024.size inb)) y = rounded X y := by
  have h1 : (y 1).val < 1024 := (y 1).isLt
  by_cases h : (y 0).val < 256 * t
  · unfold VecWindow.put
    rw [dif_neg (by
      intro hall
      have := (hall 0).1
      simp only [Matrix.cons_val_zero] at this
      omega)]
    exact hA y h
  · have hall : ∀ a : Fin 2, (![256 * t, 0] : Fin 2 → ℕ) a ≤ (y a).val ∧ (y a).val < (![256 * t, 0] : Fin 2 → ℕ) a + S256x1024.size a := by
      intro a
      fin_cases a
      · show 256 * t ≤ (y 0).val ∧ (y 0).val < 256 * t + 256
        omega
      · show 0 ≤ (y 1).val ∧ (y 1).val < 0 + 1024
        omega
    unfold VecWindow.put
    rw [dif_pos hall]
    unfold k0_pay1
    dsimp only
    rw [shapeCast_self]
    show FloatOps.truncf .bf16 bitsLt_bf16_f32 (X _) = FloatOps.truncf .bf16 bitsLt_bf16_f32 (X y)
    refine congrArg _ (congrArg X (funext fun a => Fin.ext ?_))
    have := (hall a).1
    show (![256 * t, 0] : Fin 2 → ℕ) a + 1 * ((y a).val - (![256 * t, 0] : Fin 2 → ℕ) a) = (y a).val
    omega

theorem trip (X : Vec F S5632x1024 .f32) (t : Fin k0_t1_loop.trips) :
    (filling c X t.val : sProp 𝕄) ⊢
    wp frame (wpE (defs₀ (F := F)) Variants.none (c : Thread nD τ) none) Set.univ
      (k0_t1_body (F := F) i mTe (Memref.isWhole_whole _) mNu (Memref.isWhole_whole _) mNx (Memref.isWhole_whole _) arg5 harg5 mW (Memref.isWhole_whole _) arg7 harg7 mS (Memref.isWhole_whole _) mB (Memref.isWhole_whole _) cc0_scratch2 t ())
      (fun _ => filling c X (t.val + 1)) := by
  have ht : t.val < 22 := lt_of_lt_of_eq t.isLt trips
  unfold filling
  iintro ⟨H8, %A, %hA, H9⟩
  unfold k0_t1_body
  sl_exec
  sl_step
  isplitl [H8]; · iexact H8
  iexists (VecWindow.put (s := S5632x1024) A ![256 * t.val, 0] S256x1024.size (k0_pay1 (VecWindow.window (s := S5632x1024) X ![256 * t.val, 0] S256x1024.size (off6_at t ▸ k0_off6_inb t))))
  isplitr; swap
  · iapply (pointsTo_rep_of_read (c : Thread nD τ) mB _ _ _ ?_) $$ H9
    sl_unfold_run_names
    rw [View.readAt_rep_unit _ _ _ (off6_at t)]
    exact View.read_writes_rep_unit _ _ _ _ (off6_at t)
  ipureintro
  exact fill_step X A t.val ht _ hA

/-! ## What lies where -/

theorem column_at : ∀ j : Fin 2, (Scalar.muli (BitVec.ofNat 32 j.val) 1024#32).toNat = 1024 * j.val := by decide

theorem column_next : ∀ j : Fin 2, (Scalar.muli (Scalar.addi (BitVec.ofNat 32 j.val) 1#32) 1024#32).toNat = 1024 * (j.val + 1) := by decide

theorem off3_at (w : BitVec 32) : k0_off3 w = ![w.toNat, 0, 1024 * 0] := rfl

theorem off5_at (w : BitVec 32) : k0_off5 i w = ![w.toNat, 0, 1024 * (i 0).val] := by
  unfold k0_off5; dsimp only; rw [column_at (i 0)]

theorem off8_at (w : BitVec 32) : k0_off8 i w = ![w.toNat, 0, 1024 * (i 0).val] := by
  unfold k0_off8; dsimp only; rw [column_at (i 0)]

theorem off9_at (w : BitVec 32) : k0_off9 i w = ![w.toNat, 0, 1024 * ((i 0).val + 1)] := by
  unfold k0_off9; dsimp only; rw [column_next (i 0)]

/-- A slice of the weights that is one block reads as that block. -/
theorem arrive (off : Fin 3 → ℕ) (inb : ∀ a, off a + S1x5632x1024.size a ≤ S8x5632x2048.size a) (e j : ℕ) (h : off = ![e, 0, 1024 * j]) :
    ((mW.slice (Rect.unit (s := S8x5632x2048) off S1x5632x1024.size inb) (fun _ => rfl)).squeeze S5632x1024 squeezes_S1x5632x1024_S5632x1024).view.read (Elt F) W
      = weights (mW.view.read (Elt F) W) e j := by
  subst h
  have he : e + 1 ≤ 8 := inb 0
  have hj : 1024 * j + 1024 ≤ 2048 := inb 2
  funext y
  show mW.view.read (Elt F) W ((Rect.unit (s := S8x5632x2048) ![e, 0, 1024 * j] S1x5632x1024.size inb).emb (Shape.reshapeEquiv _ y)) = _
  have hr : ∀ h, Shape.reshapeEquiv (s := S1x5632x1024) (s' := S5632x1024) h y = (fun a => match a with | ⟨0, _⟩ => ⟨0, Nat.one_pos⟩ | ⟨1, _⟩ => ⟨(y 0).val, (y 0).isLt⟩ | ⟨2, _⟩ => ⟨(y 1).val, (y 1).isLt⟩) := fun h => by
    apply Shape.reshapeEquiv_eq_of_rowMajor
    unfold S1x5632x1024 S5632x1024
    rw [Shape.rowMajor_val_three, Shape.rowMajor_val_two]
    show (0 * 5632 + (y 0).val) * 1024 + (y 1).val = (y 0).val * 1024 + (y 1).val
    omega
  refine congrArg (mW.view.read (Elt F) W) ((congrArg _ (hr _)).trans ?_)
  have h1 : (y 1).val < 1024 := (y 1).isLt
  funext a
  apply Fin.ext
  match a with
  | ⟨0, _⟩ => show e + 1 * 0 = e % 8; omega
  | ⟨1, _⟩ => show 0 + 1 * (y 0).val = (y 0).val; omega
  | ⟨2, _⟩ => show 1024 * j + 1 * (y 1).val = (1024 * j + (y 1).val) % 2048; omega

/-- Written whole, a buffer reads what was written. -/
theorem landed {s : Shape} {e : EltTy} {sp : Space} (m : Memref sig .tc sp s e) (f : m.view.ty.Contents (Elt F)) (w : s.Idx → Elt F e) :
    m.view.read (Elt F) (m.view.writes (Elt F) f [⟨Rect.whole s, w⟩]) = w := by
  rw [← View.write_univ_eq_writes_whole, View.writes_nil]
  exact View.read_write_univ _ _

/-- The two stores of a used tile leave the product. -/
theorem stored (A : Vec F S512x1024 .f32) (X : Vec F S512x5632 .bf16) (B : Vec F S5632x1024 .bf16) :
    VecWindow.put (s := S512x1024) (VecWindow.put (s := S512x1024) A ![0, 0] S512x512.size
        (k0_pay2 X (VecWindow.window (s := S5632x1024) B ![0, 0] S5632x512.size inb_S5632x1024_S5632x512_0_0)))
      ![0, 512] S512x512.size (k0_pay3 X (VecWindow.window (s := S5632x1024) B ![0, 512] S5632x512.size inb_S5632x1024_S5632x512_0_512))
      = product X B := by
  funext y
  have h0 : (y 0).val < 512 := (y 0).isLt
  have h1 : (y 1).val < 1024 := (y 1).isLt
  unfold product
  by_cases h : (y 1).val < 512
  · have hin : ∀ a : Fin 2, (![0, 0] : Fin 2 → ℕ) a ≤ (y a).val ∧ (y a).val < (![0, 0] : Fin 2 → ℕ) a + S512x512.size a := by
      intro a
      fin_cases a
      · show 0 ≤ (y 0).val ∧ (y 0).val < 0 + 512
        omega
      · show 0 ≤ (y 1).val ∧ (y 1).val < 0 + 512
        omega
    have hout : ¬ ∀ a : Fin 2, (![0, 512] : Fin 2 → ℕ) a ≤ (y a).val ∧ (y a).val < (![0, 512] : Fin 2 → ℕ) a + S512x512.size a := fun hall => by
      have : 512 ≤ (y 1).val := (hall 1).1
      omega
    rw [dif_pos h]
    unfold VecWindow.put
    rw [dif_neg hout, dif_pos hin]
    refine congrArg _ (funext fun a => Fin.ext ?_)
    match a with
    | ⟨0, _⟩ => show (y 0).val - 0 = (y 0).val; omega
    | ⟨1, _⟩ => show (y 1).val - 0 = (y 1).val; omega
  · have hin : ∀ a : Fin 2, (![0, 512] : Fin 2 → ℕ) a ≤ (y a).val ∧ (y a).val < (![0, 512] : Fin 2 → ℕ) a + S512x512.size a := by
      intro a
      fin_cases a
      · show 0 ≤ (y 0).val ∧ (y 0).val < 0 + 512
        omega
      · show 512 ≤ (y 1).val ∧ (y 1).val < 512 + 512
        omega
    rw [dif_neg h]
    unfold VecWindow.put
    rw [dif_pos hin]
    refine congrArg _ (funext fun a => Fin.ext ?_)
    match a with
    | ⟨0, _⟩ => show (y 0).val - 0 = (y 0).val; omega
    | ⟨1, _⟩ => show (y 1).val - 512 = (y 1).val - 512; omega

/-- The three tables. -/
def tables : sProp 𝕄 :=
  iprop((mTe.view.loc (c : Thread nD τ) ↦[mTe.view.set]{q} T2) ∗ (mNu.view.loc (c : Thread nD τ) ↦[mNu.view.set]{q} T3)
    ∗ (mNx.view.loc (c : Thread nD τ) ↦[mNx.view.set]{q} T4))

/-- The tile, the result's block and the rounded weights. -/
def held (X5 : Vec F S512x5632 .bf16) (X7 : Vec F S512x1024 .f32) (B : Vec F S5632x1024 .bf16) : sProp 𝕄 :=
  iprop((arg5.view.loc (c : Thread nD τ) ↦[arg5.view.set]{fullShare} arg5.view.rep X5)
    ∗ (arg7.view.loc (c : Thread nD τ) ↦[arg7.view.set]{fullShare} arg7.view.rep X7)
    ∗ (mB.view.loc (c : Thread nD τ) ↦[mB.view.set]{fullShare} mB.view.rep B))

/-- The body at this point. -/
abbrev body : Prog (TpuEff nD τ sig (Elt F) Λ₀ .tc) PUnit :=
  cc0_moe_down i mTe (Memref.isWhole_whole _) mNu (Memref.isWhole_whole _) mNx (Memref.isWhole_whole _) arg5 harg5 mW (Memref.isWhole_whole _) arg7 harg7 mS (Memref.isWhole_whole _) mB (Memref.isWhole_whole _) cc0_scratch2

end Body

end Cert.Proof.Experts

end
-- ==== Proof.Experts.Route.lean ====
/- The tables of a routing: what the tiles' experts and their successors satisfy, and what the body's conditions say of them. -/
module

public import proofs.«01_k».proof.Proof.Experts.Body

@[expose] public section

set_option maxRecDepth 16384

noncomputable section

namespace Cert.Proof.Experts

open Cert.ExpDownIdeal Cert.ExpDownIdeal.Gen
open Idealize.ShloMosaic Idealize.ShloMosaic.TcCoe

variable {F : FTy → Type} [FloatOps F]

/-- Word `t` of a table of tiles. -/
def entry (T : S72.Idx → BitVec 32) (t : ℕ) : BitVec 32 := T fun a => match a with | ⟨0, _⟩ => ⟨t % 72, Nat.mod_lt _ (by decide)⟩

/-- The one word of the count. -/
def count (T : S1.Idx → BitVec 32) : BitVec 32 := T fun a => match a with | ⟨0, _⟩ => ⟨0, Nat.one_pos⟩

/-- Between 1 and 72 tiles are used; each used tile's expert is one of the eight; a used tile of the same expert as the next has the same
    successor, one of another expert has the next's expert; the last used tile has none. -/
structure Routed (te nx : ℕ → BitVec 32) (n : ℕ) : Prop where
  pos : 1 ≤ n
  le : n ≤ 72
  expert : ∀ t, t < n → (te t).toNat < 8
  same : ∀ t, t + 1 < n → te t = te (t + 1) → nx t = nx (t + 1)
  change : ∀ t, t + 1 < n → te t ≠ te (t + 1) → nx t = te (t + 1)
  last : ¬ (nx (n - 1)).toNat < 2 ^ 31

/-- A successor that is one is one of the eight experts. -/
theorem Routed.next_lt {te nx : ℕ → BitVec 32} {n : ℕ} (h : Routed te nx n) (t : ℕ) (ht : t < n) (hx : (nx t).toNat < 2 ^ 31) : (nx t).toNat < 8 := by
  have key : ∀ d t, t + d + 1 = n → (nx t).toNat < 2 ^ 31 → (nx t).toNat < 8 := by
    intro d
    induction d with
    | zero =>
      intro t e hx
      exact absurd hx (by rw [show t = n - 1 by omega]; exact h.last)
    | succ d ih =>
      intro t e hx
      by_cases hs : te t = te (t + 1)
      · rw [h.same t (by omega) hs] at hx ⊢
        exact ih (t + 1) (by omega) hx
      · rw [h.change t (by omega) hs]
        exact h.expert (t + 1) (by omega)
  exact key (n - 1 - t) t (by omega) hx

section Words
variable (i : grid0.Coords) (T2 : BufTy.Contents (Elt F) mTe.view.ty) (T3 : BufTy.Contents (Elt F) mNu.view.ty) (T4 : BufTy.Contents (Elt F) mNx.view.ty)

theorem here_off : ∀ b : Fin 72, (Scalar.indexCast (BitVec.ofNat 32 b.val) : Index).toNat = b.val % 72 := by decide
theorem back_off : ∀ b : Fin 72, (Scalar.indexCast (Scalar.maxsi (Scalar.subi (BitVec.ofNat 32 b.val) 1#32) 0#32) : Index).toNat = (b.val - 1) % 72 := by decide

theorem usedW_eq : usedW T3 = count T3 := by
  unfold count
  refine congrArg T3 (funext fun a => Fin.ext ?_)
  fin_cases a
  rfl

theorem hereW_eq : hereW i T2 = entry T2 (i 1).val := by
  unfold entry
  refine congrArg T2 (funext fun a => Fin.ext ?_)
  fin_cases a
  exact here_off (i 1)

theorem backW_eq : backW i T2 = entry T2 ((i 1).val - 1) := by
  unfold entry
  refine congrArg T2 (funext fun a => Fin.ext ?_)
  fin_cases a
  exact back_off (i 1)

theorem headW_eq : headW T2 = entry T2 0 := by
  unfold entry
  refine congrArg T2 (funext fun a => Fin.ext ?_)
  fin_cases a
  rfl

theorem nextW_eq : nextW i T4 = entry T4 (i 1).val := by
  unfold entry
  refine congrArg T4 (funext fun a => Fin.ext ?_)
  fin_cases a
  exact here_off (i 1)
end Words

/-! ## The conditions -/

section Conds
variable (i : grid0.Coords) (n w a b : BitVec 32)

theorem nonzero : ∀ x : BitVec 1, Scalar.cmpi .ne (Scalar.extui x) 0#32 = x := by decide

theorem flip : ∀ x : BitVec 1, Scalar.xori x 1#1 = 1#1 ↔ ¬ x = 1#1 := by decide

theorem both : ∀ x y : BitVec 1, Scalar.andi x y = 1#1 ↔ x = 1#1 ∧ y = 1#1 := by decide

theorem either : ∀ x y : BitVec 1, Scalar.ori x y = 1#1 ↔ x = 1#1 ∨ y = 1#1 := by decide

theorem zero_row : ∀ j : Fin 2, Scalar.cmpi .eq (BitVec.ofNat 32 j.val) 0#32 = 1#1 ↔ j.val = 0 := by decide

theorem zero_tile : ∀ t : Fin 72, Scalar.cmpi .eq (BitVec.ofNat 32 t.val) 0#32 = 1#1 ↔ t.val = 0 := by decide

theorem next_row : ∀ j : Fin 2, Scalar.cmpi .slt (Scalar.addi (BitVec.ofNat 32 j.val) 1#32) 2#32 = 1#1 ↔ j.val = 0 := by decide

theorem below (t : Fin 72) (hn : n.toNat ≤ 72) : Scalar.cmpi .slt (BitVec.ofNat 32 t.val) n = 1#1 ↔ t.val < n.toNat := by
  have ht : t.val < 72 := t.isLt
  have e : (BitVec.ofNat 32 t.val).toNat = t.val := by rw [BitVec.toNat_ofNat]; exact Nat.mod_eq_of_lt (by omega)
  show IntOp.cmpi .slt (BitVec.ofNat 32 t.val) n = 1#1 ↔ _
  rw [WordCmp.cmpi_slt_of_lt (by rw [e]; omega) (by omega), e]
  exact WordCmp.ofBool_decide_eq_one_iff _

theorem cond1_iff : k0_cond1 i = 1#1 ↔ (i 0).val = 0 ∧ (i 1).val = 0 := by
  unfold k0_cond1
  dsimp only
  rw [nonzero, both]
  exact and_congr (zero_row (i 0)) (zero_tile (i 1))

theorem cond2_iff (hn : n.toNat ≤ 72) : k0_cond2 i n a b = 1#1 ↔ (i 1).val < n.toNat ∧ ((i 1).val = 0 ∨ a ≠ b) := by
  unfold k0_cond2
  dsimp only
  rw [nonzero, both, either]
  refine and_congr (below n (i 1) hn) (or_congr (zero_tile (i 1)) ?_)
  show IntOp.cmpi .ne a b = 1#1 ↔ _
  rw [WordCmp.cmpi_ne_eq]
  exact WordCmp.ofBool_decide_eq_one_iff _

theorem cond3_iff : k0_cond3 w = 1#1 ↔ w.toNat < 2 ^ 31 := by
  unfold k0_cond3
  dsimp only
  rw [nonzero]
  show IntOp.cmpi .sge w 0#32 = 1#1 ↔ _
  rw [WordCmp.cmpi_sge_zero]
  exact WordCmp.ofBool_decide_eq_one_iff _

theorem cond4_iff : k0_cond4 i w = 1#1 ↔ ¬ w.toNat < 2 ^ 31 ∧ (i 0).val = 0 := by
  unfold k0_cond4
  dsimp only
  rw [nonzero, both]
  refine and_congr ?_ (next_row (i 0))
  show IntOp.cmpi .slt w 0#32 = 1#1 ↔ _
  rw [WordCmp.cmpi_slt_zero]
  exact (WordCmp.ofBool_decide_eq_one_iff _).trans Nat.not_lt.symm

theorem cond5_iff (hn : n.toNat ≤ 72) : k0_cond5 i n = 1#1 ↔ (i 1).val < n.toNat := by
  unfold k0_cond5
  dsimp only
  rw [nonzero]
  exact below n (i 1) hn

theorem cond6_iff (hn : n.toNat ≤ 72) : k0_cond6 i n = 1#1 ↔ ¬ (i 1).val < n.toNat := by
  unfold k0_cond6
  dsimp only
  rw [nonzero, flip]
  exact not_congr (below n (i 1) hn)

/-- A block of an expert's weights is inside the weights. -/
theorem inside (e j : ℕ) (he : e < 8) (hj : j < 2) : ∀ a : Fin 3, (![e, 0, 1024 * j] : Fin 3 → ℕ) a + S1x5632x1024.size a ≤ S8x5632x2048.size a := by
  intro a
  match a with
  | ⟨0, _⟩ => show e + 1 ≤ 8; omega
  | ⟨1, _⟩ => show 0 + 5632 ≤ 5632; omega
  | ⟨2, _⟩ => show 1024 * j + 1024 ≤ 2048; omega

theorem chk1_of (h : w.toNat < 8) : k0_chk1 i w := fun _ => by rw [off3_at]; exact inside _ 0 h (by decide)
theorem chk2_of (h : w.toNat < 8) : k0_chk2 i n a b w := fun _ => by rw [off5_at]; exact inside _ _ h (i 0).isLt
theorem chk3_of (h : w.toNat < 2 ^ 31 → w.toNat < 8) : k0_chk3 i n a b w := fun _ h3 => by
  rw [off8_at]; exact inside _ _ (h ((cond3_iff w).mp h3)) (i 0).isLt
theorem chk4_of (v : BitVec 32) (h : v.toNat < 8) : k0_chk4 i n a b w v := fun _ h4 => by
  rw [off9_at]; exact inside _ _ h (by have := ((cond4_iff i w).mp h4).2; omega)
end Conds

end Cert.Proof.Experts

end
-- ==== Proof.Experts.Next.lean ====
module

public import proofs.«01_k».proof.Proof.Experts.Body

@[expose] public section

set_option maxRecDepth 16384

noncomputable section

namespace Cert.Proof.Experts

open Cert.ExpDownIdeal Cert.ExpDownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords) (q : PosShare TreeShare)
  (arg5 : Memref sig .tc .vmem S512x5632 .bf16) (harg5 : arg5.IsWhole) (arg7 : Memref sig .tc .vmem S512x1024 .f32) (harg7 : arg7.IsWhole)
  (T2 : BufTy.Contents (Elt F) mTe.view.ty) (T3 : BufTy.Contents (Elt F) mNu.view.ty) (T4 : BufTy.Contents (Elt F) mNx.view.ty)
  (W : BufTy.Contents (Elt F) mW.view.ty)

set_option maxHeartbeats 4000000 in
/-- A fresh tile, the next expert's block sent for. -/
theorem run_next (e : ℕ) (X5 : Vec F S512x5632 .bf16) (X7 : Vec F S512x1024 .f32) (B : Vec F S5632x1024 .bf16) (W0 : Waits sig Unit) (Q : PUnit → sProp 𝕄)
    (h1 : ¬ k0_cond1 i = 1#1)
    (h2 : k0_cond2 i (usedW T3) (hereW i T2) (backW i T2) = 1#1)
    (h3 : k0_cond3 (nextW i T4) = 1#1)
    (h4 : ¬ k0_cond4 i (nextW i T4) = 1#1)
    (h5 : k0_cond5 i (usedW T3) = 1#1)
    (h6 : ¬ k0_cond6 i (usedW T3) = 1#1)
    (k2 : k0_chk2 i (usedW T3) (hereW i T2) (backW i T2) (hereW i T2))
    (k3 : k0_chk3 i (usedW T3) (hereW i T2) (backW i T2) (nextW i T4))
    :
    iprop(tables c q T2 T3 T4 ∗ held c arg5 arg7 X5 X7 B ∗ flying c W e (i 0).val ∗ owes (c : Thread nD τ) 0 W0
      ∗ (∀ W1 : Waits sig Unit, (tables c q T2 T3 T4 ∗ held c arg5 arg7 X5 (product X5 (rounded (weights (mW.view.read (Elt F) W) e (i 0).val))) (rounded (weights (mW.view.read (Elt F) W) e (i 0).val)) ∗ flying c W (nextW i T4).toNat (i 0).val ∗ owes (c : Thread nD τ) 0 W1) -∗ Q ⟨⟩))
    ⊢ wp frame (wpE (defs₀ (F := F)) Variants.none (c : Thread nD τ) none) Set.univ (body i arg5 harg5 arg7 harg7) Q := by
  unfold tables held flying
  iintro ⟨⟨H2, H3, H4⟩, ⟨H5, H7, H9⟩, ⟨%S, %g, %hg, HF, HW⟩, HO, Hk⟩
  unfold body
  sl_unfold [cc0_moe_down]
  unfold cc0_moe_down_skel
  sl_exec
  ihave H8 := (pointsTo_rep_of_read (c : Thread nD τ) mS g fullShare _ hg) $$ HF_dst
  sl_for (fun k _ => filling c (weights (mW.view.read (Elt F) W) e (i 0).val) k) $$ [H8 H9]
  case region =>
    intro t _
    exact trip c i arg5 harg5 arg7 harg7 _ t
  · unfold filling
    isplitl [H8]; · iexact H8
    iexists B
    isplitr
    · ipureintro
      intro y hy
      exact absurd hy (by omega)
    iexact H9
  iintro %_ HL
  unfold filling
  icases HL with ⟨H8, %A, %hA, H9⟩
  have hfull : A = rounded (weights (mW.view.read (Elt F) W) e (i 0).val) := funext fun y => hA y (by
    have h : (y 0).val < 5632 := (y 0).isLt
    exact lt_of_lt_of_eq h (congrArg (256 * ·) trips).symm)
  subst hfull
  sl_exec
  sl_step
  iapply Hk
  isplitl [H2 H3 H4]
  · isplitl [H2]; · iexact H2
    isplitl [H3]; · iexact H3
    iexact H4
  isplitl [H5 H7 H9]
  · isplitl [H5]; · iexact H5
    isplitl [H7]; swap; · iexact H9
    iapply (pointsTo_rep_of_read (c : Thread nD τ) arg7 _ _ _ ?_) $$ H7
    sl_unfold_run_names
    rw [View.read_writes_cons_put _ _ _ _ _ rfl, View.read_writes_cons_put _ _ _ _ _ rfl, View.readAt_rep_full arg5.view X5,
      View.readAt_rep_unit _ _ inb_S5632x1024_S5632x512_0_0 rfl inb_S5632x1024_S5632x512_0_0,
      View.readAt_rep_unit _ _ inb_S5632x1024_S5632x512_0_512 rfl inb_S5632x1024_S5632x512_0_512]
    exact stored _ _ _
  isplitr [HO]; swap; · iexact HO
  iexists _, _
  isplitr; swap
  · isplitl [HF]; · iexact HF
    iexact HW
  ipureintro
  refine (landed mS _ _).trans ?_
  sl_unfold_run_names
  exact arrive W _ _ _ _ (off8_at i _)

end Cert.Proof.Experts

end
-- ==== Proof.Experts.Wrap.lean ====
module

public import proofs.«01_k».proof.Proof.Experts.Body

@[expose] public section

set_option maxRecDepth 16384

noncomputable section

namespace Cert.Proof.Experts

open Cert.ExpDownIdeal Cert.ExpDownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords) (q : PosShare TreeShare)
  (arg5 : Memref sig .tc .vmem S512x5632 .bf16) (harg5 : arg5.IsWhole) (arg7 : Memref sig .tc .vmem S512x1024 .f32) (harg7 : arg7.IsWhole)
  (T2 : BufTy.Contents (Elt F) mTe.view.ty) (T3 : BufTy.Contents (Elt F) mNu.view.ty) (T4 : BufTy.Contents (Elt F) mNx.view.ty)
  (W : BufTy.Contents (Elt F) mW.view.ty)

set_option maxHeartbeats 4000000 in
/-- A fresh tile of the last expert in use, the next column's first block sent for. -/
theorem run_wrap (e : ℕ) (X5 : Vec F S512x5632 .bf16) (X7 : Vec F S512x1024 .f32) (B : Vec F S5632x1024 .bf16) (W0 : Waits sig Unit) (Q : PUnit → sProp 𝕄)
    (h1 : ¬ k0_cond1 i = 1#1)
    (h2 : k0_cond2 i (usedW T3) (hereW i T2) (backW i T2) = 1#1)
    (h3 : ¬ k0_cond3 (nextW i T4) = 1#1)
    (h4 : k0_cond4 i (nextW i T4) = 1#1)
    (h5 : k0_cond5 i (usedW T3) = 1#1)
    (h6 : ¬ k0_cond6 i (usedW T3) = 1#1)
    (k2 : k0_chk2 i (usedW T3) (hereW i T2) (backW i T2) (hereW i T2))
    (k3 : k0_chk3 i (usedW T3) (hereW i T2) (backW i T2) (nextW i T4))
    (k4 : k0_chk4 i (usedW T3) (hereW i T2) (backW i T2) (nextW i T4) (headW T2))
    :
    iprop(tables c q T2 T3 T4 ∗ held c arg5 arg7 X5 X7 B ∗ flying c W e (i 0).val ∗ owes (c : Thread nD τ) 0 W0
      ∗ (∀ W1 : Waits sig Unit, (tables c q T2 T3 T4 ∗ held c arg5 arg7 X5 (product X5 (rounded (weights (mW.view.read (Elt F) W) e (i 0).val))) (rounded (weights (mW.view.read (Elt F) W) e (i 0).val)) ∗ flying c W (headW T2).toNat ((i 0).val + 1) ∗ owes (c : Thread nD τ) 0 W1) -∗ Q ⟨⟩))
    ⊢ wp frame (wpE (defs₀ (F := F)) Variants.none (c : Thread nD τ) none) Set.univ (body i arg5 harg5 arg7 harg7) Q := by
  unfold tables held flying
  iintro ⟨⟨H2, H3, H4⟩, ⟨H5, H7, H9⟩, ⟨%S, %g, %hg, HF, HW⟩, HO, Hk⟩
  unfold body
  sl_unfold [cc0_moe_down]
  unfold cc0_moe_down_skel
  sl_exec
  ihave H8 := (pointsTo_rep_of_read (c : Thread nD τ) mS g fullShare _ hg) $$ HF_dst
  sl_for (fun k _ => filling c (weights (mW.view.read (Elt F) W) e (i 0).val) k) $$ [H8 H9]
  case region =>
    intro t _
    exact trip c i arg5 harg5 arg7 harg7 _ t
  · unfold filling
    isplitl [H8]; · iexact H8
    iexists B
    isplitr
    · ipureintro
      intro y hy
      exact absurd hy (by omega)
    iexact H9
  iintro %_ HL
  unfold filling
  icases HL with ⟨H8, %A, %hA, H9⟩
  have hfull : A = rounded (weights (mW.view.read (Elt F) W) e (i 0).val) := funext fun y => hA y (by
    have h : (y 0).val < 5632 := (y 0).isLt
    exact lt_of_lt_of_eq h (congrArg (256 * ·) trips).symm)
  subst hfull
  sl_exec
  sl_step
  iapply Hk
  isplitl [H2 H3 H4]
  · isplitl [H2]; · iexact H2
    isplitl [H3]; · iexact H3
    iexact H4
  isplitl [H5 H7 H9]
  · isplitl [H5]; · iexact H5
    isplitl [H7]; swap; · iexact H9
    iapply (pointsTo_rep_of_read (c : Thread nD τ) arg7 _ _ _ ?_) $$ H7
    sl_unfold_run_names
    rw [View.read_writes_cons_put _ _ _ _ _ rfl, View.read_writes_cons_put _ _ _ _ _ rfl, View.readAt_rep_full arg5.view X5,
      View.readAt_rep_unit _ _ inb_S5632x1024_S5632x512_0_0 rfl inb_S5632x1024_S5632x512_0_0,
      View.readAt_rep_unit _ _ inb_S5632x1024_S5632x512_0_512 rfl inb_S5632x1024_S5632x512_0_512]
    exact stored _ _ _
  isplitr [HO]; swap; · iexact HO
  iexists _, _
  isplitr; swap
  · isplitl [HF]; · iexact HF
    iexact HW
  ipureintro
  refine (landed mS _ _).trans ?_
  sl_unfold_run_names
  exact arrive W _ _ _ _ (off9_at i _)

end Cert.Proof.Experts

end
-- ==== Proof.Experts.Last.lean ====
module

public import proofs.«01_k».proof.Proof.Experts.Body

@[expose] public section

set_option maxRecDepth 16384

noncomputable section

namespace Cert.Proof.Experts

open Cert.ExpDownIdeal Cert.ExpDownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords) (q : PosShare TreeShare)
  (arg5 : Memref sig .tc .vmem S512x5632 .bf16) (harg5 : arg5.IsWhole) (arg7 : Memref sig .tc .vmem S512x1024 .f32) (harg7 : arg7.IsWhole)
  (T2 : BufTy.Contents (Elt F) mTe.view.ty) (T3 : BufTy.Contents (Elt F) mNu.view.ty) (T4 : BufTy.Contents (Elt F) mNx.view.ty)
  (W : BufTy.Contents (Elt F) mW.view.ty)

set_option maxHeartbeats 4000000 in
/-- A fresh tile of the last expert in use in the last column. -/
theorem run_end (e : ℕ) (X5 : Vec F S512x5632 .bf16) (X7 : Vec F S512x1024 .f32) (B : Vec F S5632x1024 .bf16) (W0 : Waits sig Unit) (Q : PUnit → sProp 𝕄)
    (h1 : ¬ k0_cond1 i = 1#1)
    (h2 : k0_cond2 i (usedW T3) (hereW i T2) (backW i T2) = 1#1)
    (h3 : ¬ k0_cond3 (nextW i T4) = 1#1)
    (h4 : ¬ k0_cond4 i (nextW i T4) = 1#1)
    (h5 : k0_cond5 i (usedW T3) = 1#1)
    (h6 : ¬ k0_cond6 i (usedW T3) = 1#1)
    (k2 : k0_chk2 i (usedW T3) (hereW i T2) (backW i T2) (hereW i T2))
    (k3 : k0_chk3 i (usedW T3) (hereW i T2) (backW i T2) (nextW i T4))
    :
    iprop(tables c q T2 T3 T4 ∗ held c arg5 arg7 X5 X7 B ∗ flying c W e (i 0).val ∗ owes (c : Thread nD τ) 0 W0
      ∗ (∀ W1 : Waits sig Unit, (tables c q T2 T3 T4 ∗ held c arg5 arg7 X5 (product X5 (rounded (weights (mW.view.read (Elt F) W) e (i 0).val))) (rounded (weights (mW.view.read (Elt F) W) e (i 0).val)) ∗ resting c W ∗ owes (c : Thread nD τ) 0 W1) -∗ Q ⟨⟩))
    ⊢ wp frame (wpE (defs₀ (F := F)) Variants.none (c : Thread nD τ) none) Set.univ (body i arg5 harg5 arg7 harg7) Q := by
  unfold tables held resting flying
  iintro ⟨⟨H2, H3, H4⟩, ⟨H5, H7, H9⟩, ⟨%S, %g, %hg, HF, HW⟩, HO, Hk⟩
  unfold body
  sl_unfold [cc0_moe_down]
  unfold cc0_moe_down_skel
  sl_exec
  ihave H8 := (pointsTo_rep_of_read (c : Thread nD τ) mS g fullShare _ hg) $$ HF_dst
  sl_for (fun k _ => filling c (weights (mW.view.read (Elt F) W) e (i 0).val) k) $$ [H8 H9]
  case region =>
    intro t _
    exact trip c i arg5 harg5 arg7 harg7 _ t
  · unfold filling
    isplitl [H8]; · iexact H8
    iexists B
    isplitr
    · ipureintro
      intro y hy
      exact absurd hy (by omega)
    iexact H9
  iintro %_ HL
  unfold filling
  icases HL with ⟨H8, %A, %hA, H9⟩
  have hfull : A = rounded (weights (mW.view.read (Elt F) W) e (i 0).val) := funext fun y => hA y (by
    have h : (y 0).val < 5632 := (y 0).isLt
    exact lt_of_lt_of_eq h (congrArg (256 * ·) trips).symm)
  subst hfull
  sl_exec
  sl_step
  iapply Hk
  isplitl [H2 H3 H4]
  · isplitl [H2]; · iexact H2
    isplitl [H3]; · iexact H3
    iexact H4
  isplitl [H5 H7 H9]
  · isplitl [H5]; · iexact H5
    isplitl [H7]; swap; · iexact H9
    iapply (pointsTo_rep_of_read (c : Thread nD τ) arg7 _ _ _ ?_) $$ H7
    sl_unfold_run_names
    rw [View.read_writes_cons_put _ _ _ _ _ rfl, View.read_writes_cons_put _ _ _ _ _ rfl, View.readAt_rep_full arg5.view X5,
      View.readAt_rep_unit _ _ inb_S5632x1024_S5632x512_0_0 rfl inb_S5632x1024_S5632x512_0_0,
      View.readAt_rep_unit _ _ inb_S5632x1024_S5632x512_0_512 rfl inb_S5632x1024_S5632x512_0_512]
    exact stored _ _ _
  isplitr [HO]; swap; · iexact HO
  isplitl [H8]; · iexists _; iexact H8
  isplitl [HF]; · iexact HF
  iexact HW

end Cert.Proof.Experts

end
-- ==== Proof.Experts.First.lean ====
module

public import proofs.«01_k».proof.Proof.Experts.Body

@[expose] public section

set_option maxRecDepth 16384

noncomputable section

namespace Cert.Proof.Experts

open Cert.ExpDownIdeal Cert.ExpDownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords) (q : PosShare TreeShare)
  (arg5 : Memref sig .tc .vmem S512x5632 .bf16) (harg5 : arg5.IsWhole) (arg7 : Memref sig .tc .vmem S512x1024 .f32) (harg7 : arg7.IsWhole)
  (T2 : BufTy.Contents (Elt F) mTe.view.ty) (T3 : BufTy.Contents (Elt F) mNu.view.ty) (T4 : BufTy.Contents (Elt F) mNx.view.ty)
  (W : BufTy.Contents (Elt F) mW.view.ty)

set_option maxHeartbeats 4000000 in
/-- The first tile, the next expert's block sent for. -/
theorem run_first_next (X5 : Vec F S512x5632 .bf16) (X7 : Vec F S512x1024 .f32) (B : Vec F S5632x1024 .bf16) (W0 : Waits sig Unit) (Q : PUnit → sProp 𝕄)
    (h1 : k0_cond1 i = 1#1)
    (h2 : k0_cond2 i (usedW T3) (hereW i T2) (backW i T2) = 1#1)
    (h3 : k0_cond3 (nextW i T4) = 1#1)
    (h4 : ¬ k0_cond4 i (nextW i T4) = 1#1)
    (h5 : k0_cond5 i (usedW T3) = 1#1)
    (h6 : ¬ k0_cond6 i (usedW T3) = 1#1)
    (k1 : k0_chk1 i (headW T2))
    (k2 : k0_chk2 i (usedW T3) (hereW i T2) (backW i T2) (hereW i T2))
    (k3 : k0_chk3 i (usedW T3) (hereW i T2) (backW i T2) (nextW i T4))
    :
    iprop(tables c q T2 T3 T4 ∗ held c arg5 arg7 X5 X7 B ∗ resting c W ∗ owes (c : Thread nD τ) 0 W0
      ∗ (∀ W1 : Waits sig Unit, (tables c q T2 T3 T4 ∗ held c arg5 arg7 X5 (product X5 (rounded (weights (mW.view.read (Elt F) W) (headW T2).toNat 0))) (rounded (weights (mW.view.read (Elt F) W) (headW T2).toNat 0)) ∗ flying c W (nextW i T4).toNat (i 0).val ∗ owes (c : Thread nD τ) 0 W1) -∗ Q ⟨⟩))
    ⊢ wp frame (wpE (defs₀ (F := F)) Variants.none (c : Thread nD τ) none) Set.univ (body i arg5 harg5 arg7 harg7) Q := by
  unfold tables held resting flying
  iintro ⟨⟨H2, H3, H4⟩, ⟨H5, H7, H9⟩, ⟨⟨%g0, H8⟩, HF, HW⟩, HO, Hk⟩
  unfold body
  sl_unfold [cc0_moe_down]
  unfold cc0_moe_down_skel
  sl_exec
  ihave H8 := (pointsTo_rep_of_read (c : Thread nD τ) mS _ fullShare (weights (mW.view.read (Elt F) W) (headW T2).toNat 0) ((landed mS _ _).trans (by sl_unfold_run_names; exact arrive W _ _ _ _ (off3_at _)))) $$ H8
  sl_for (fun k _ => filling c (weights (mW.view.read (Elt F) W) (headW T2).toNat 0) k) $$ [H8 H9]
  case region =>
    intro t _
    exact trip c i arg5 harg5 arg7 harg7 _ t
  · unfold filling
    isplitl [H8]; · iexact H8
    iexists B
    isplitr
    · ipureintro
      intro y hy
      exact absurd hy (by omega)
    iexact H9
  iintro %_ HL
  unfold filling
  icases HL with ⟨H8, %A, %hA, H9⟩
  have hfull : A = rounded (weights (mW.view.read (Elt F) W) (headW T2).toNat 0) := funext fun y => hA y (by
    have h : (y 0).val < 5632 := (y 0).isLt
    exact lt_of_lt_of_eq h (congrArg (256 * ·) trips).symm)
  subst hfull
  sl_exec
  sl_step
  iapply Hk
  isplitl [H2 H3 H4]
  · isplitl [H2]; · iexact H2
    isplitl [H3]; · iexact H3
    iexact H4
  isplitl [H5 H7 H9]
  · isplitl [H5]; · iexact H5
    isplitl [H7]; swap; · iexact H9
    iapply (pointsTo_rep_of_read (c : Thread nD τ) arg7 _ _ _ ?_) $$ H7
    sl_unfold_run_names
    rw [View.read_writes_cons_put _ _ _ _ _ rfl, View.read_writes_cons_put _ _ _ _ _ rfl, View.readAt_rep_full arg5.view X5,
      View.readAt_rep_unit _ _ inb_S5632x1024_S5632x512_0_0 rfl inb_S5632x1024_S5632x512_0_0,
      View.readAt_rep_unit _ _ inb_S5632x1024_S5632x512_0_512 rfl inb_S5632x1024_S5632x512_0_512]
    exact stored _ _ _
  isplitr [HO]; swap; · iexact HO
  iexists _, _
  isplitr; swap
  · isplitl [HF]; · iexact HF
    iexact HW
  ipureintro
  refine (landed mS _ _).trans ?_
  sl_unfold_run_names
  exact arrive W _ _ _ _ (off8_at i _)

set_option maxHeartbeats 4000000 in
/-- The first tile, of the one expert in use. -/
theorem run_first_wrap (X5 : Vec F S512x5632 .bf16) (X7 : Vec F S512x1024 .f32) (B : Vec F S5632x1024 .bf16) (W0 : Waits sig Unit) (Q : PUnit → sProp 𝕄)
    (h1 : k0_cond1 i = 1#1)
    (h2 : k0_cond2 i (usedW T3) (hereW i T2) (backW i T2) = 1#1)
    (h3 : ¬ k0_cond3 (nextW i T4) = 1#1)
    (h4 : k0_cond4 i (nextW i T4) = 1#1)
    (h5 : k0_cond5 i (usedW T3) = 1#1)
    (h6 : ¬ k0_cond6 i (usedW T3) = 1#1)
    (k1 : k0_chk1 i (headW T2))
    (k2 : k0_chk2 i (usedW T3) (hereW i T2) (backW i T2) (hereW i T2))
    (k3 : k0_chk3 i (usedW T3) (hereW i T2) (backW i T2) (nextW i T4))
    (k4 : k0_chk4 i (usedW T3) (hereW i T2) (backW i T2) (nextW i T4) (headW T2))
    :
    iprop(tables c q T2 T3 T4 ∗ held c arg5 arg7 X5 X7 B ∗ resting c W ∗ owes (c : Thread nD τ) 0 W0
      ∗ (∀ W1 : Waits sig Unit, (tables c q T2 T3 T4 ∗ held c arg5 arg7 X5 (product X5 (rounded (weights (mW.view.read (Elt F) W) (headW T2).toNat 0))) (rounded (weights (mW.view.read (Elt F) W) (headW T2).toNat 0)) ∗ flying c W (headW T2).toNat ((i 0).val + 1) ∗ owes (c : Thread nD τ) 0 W1) -∗ Q ⟨⟩))
    ⊢ wp frame (wpE (defs₀ (F := F)) Variants.none (c : Thread nD τ) none) Set.univ (body i arg5 harg5 arg7 harg7) Q := by
  unfold tables held resting flying
  iintro ⟨⟨H2, H3, H4⟩, ⟨H5, H7, H9⟩, ⟨⟨%g0, H8⟩, HF, HW⟩, HO, Hk⟩
  unfold body
  sl_unfold [cc0_moe_down]
  unfold cc0_moe_down_skel
  sl_exec
  ihave H8 := (pointsTo_rep_of_read (c : Thread nD τ) mS _ fullShare (weights (mW.view.read (Elt F) W) (headW T2).toNat 0) ((landed mS _ _).trans (by sl_unfold_run_names; exact arrive W _ _ _ _ (off3_at _)))) $$ H8
  sl_for (fun k _ => filling c (weights (mW.view.read (Elt F) W) (headW T2).toNat 0) k) $$ [H8 H9]
  case region =>
    intro t _
    exact trip c i arg5 harg5 arg7 harg7 _ t
  · unfold filling
    isplitl [H8]; · iexact H8
    iexists B
    isplitr
    · ipureintro
      intro y hy
      exact absurd hy (by omega)
    iexact H9
  iintro %_ HL
  unfold filling
  icases HL with ⟨H8, %A, %hA, H9⟩
  have hfull : A = rounded (weights (mW.view.read (Elt F) W) (headW T2).toNat 0) := funext fun y => hA y (by
    have h : (y 0).val < 5632 := (y 0).isLt
    exact lt_of_lt_of_eq h (congrArg (256 * ·) trips).symm)
  subst hfull
  sl_exec
  sl_step
  iapply Hk
  isplitl [H2 H3 H4]
  · isplitl [H2]; · iexact H2
    isplitl [H3]; · iexact H3
    iexact H4
  isplitl [H5 H7 H9]
  · isplitl [H5]; · iexact H5
    isplitl [H7]; swap; · iexact H9
    iapply (pointsTo_rep_of_read (c : Thread nD τ) arg7 _ _ _ ?_) $$ H7
    sl_unfold_run_names
    rw [View.read_writes_cons_put _ _ _ _ _ rfl, View.read_writes_cons_put _ _ _ _ _ rfl, View.readAt_rep_full arg5.view X5,
      View.readAt_rep_unit _ _ inb_S5632x1024_S5632x512_0_0 rfl inb_S5632x1024_S5632x512_0_0,
      View.readAt_rep_unit _ _ inb_S5632x1024_S5632x512_0_512 rfl inb_S5632x1024_S5632x512_0_512]
    exact stored _ _ _
  isplitr [HO]; swap; · iexact HO
  iexists _, _
  isplitr; swap
  · isplitl [HF]; · iexact HF
    iexact HW
  ipureintro
  refine (landed mS _ _).trans ?_
  sl_unfold_run_names
  exact arrive W _ _ _ _ (off9_at i _)

end Cert.Proof.Experts

end
-- ==== Proof.Experts.Same.lean ====
module

public import proofs.«01_k».proof.Proof.Experts.Body

@[expose] public section

set_option maxRecDepth 16384

noncomputable section

namespace Cert.Proof.Experts

open Cert.ExpDownIdeal Cert.ExpDownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords) (q : PosShare TreeShare)
  (arg5 : Memref sig .tc .vmem S512x5632 .bf16) (harg5 : arg5.IsWhole) (arg7 : Memref sig .tc .vmem S512x1024 .f32) (harg7 : arg7.IsWhole)
  (T2 : BufTy.Contents (Elt F) mTe.view.ty) (T3 : BufTy.Contents (Elt F) mNu.view.ty) (T4 : BufTy.Contents (Elt F) mNx.view.ty)
  (W : BufTy.Contents (Elt F) mW.view.ty)

set_option maxHeartbeats 4000000 in
/-- A used tile of the expert of the tile before. -/
theorem run_same (X5 : Vec F S512x5632 .bf16) (X7 : Vec F S512x1024 .f32) (B : Vec F S5632x1024 .bf16) (W0 : Waits sig Unit) (Q : PUnit → sProp 𝕄)
    (h1 : ¬ k0_cond1 i = 1#1)
    (h2 : ¬ k0_cond2 i (usedW T3) (hereW i T2) (backW i T2) = 1#1)
    (h5 : k0_cond5 i (usedW T3) = 1#1)
    (h6 : ¬ k0_cond6 i (usedW T3) = 1#1)
    :
    iprop(tables c q T2 T3 T4 ∗ held c arg5 arg7 X5 X7 B ∗ owes (c : Thread nD τ) 0 W0
      ∗ ((tables c q T2 T3 T4 ∗ held c arg5 arg7 X5 (product X5 B) B ∗ owes (c : Thread nD τ) 0 W0) -∗ Q ⟨⟩))
    ⊢ wp frame (wpE (defs₀ (F := F)) Variants.none (c : Thread nD τ) none) Set.univ (body i arg5 harg5 arg7 harg7) Q := by
  unfold tables held
  iintro ⟨⟨H2, H3, H4⟩, ⟨H5, H7, H9⟩, HO, Hk⟩
  unfold body
  sl_unfold [cc0_moe_down]
  unfold cc0_moe_down_skel
  sl_exec
  sl_step
  iapply Hk
  isplitl [H2 H3 H4]
  · isplitl [H2]; · iexact H2
    isplitl [H3]; · iexact H3
    iexact H4
  isplitl [H5 H7 H9]
  · isplitl [H5]; · iexact H5
    isplitl [H7]; swap; · iexact H9
    iapply (pointsTo_rep_of_read (c : Thread nD τ) arg7 _ _ _ ?_) $$ H7
    sl_unfold_run_names
    rw [View.read_writes_cons_put _ _ _ _ _ rfl, View.read_writes_cons_put _ _ _ _ _ rfl, View.readAt_rep_full arg5.view X5,
      View.readAt_rep_unit _ _ inb_S5632x1024_S5632x512_0_0 rfl inb_S5632x1024_S5632x512_0_0,
      View.readAt_rep_unit _ _ inb_S5632x1024_S5632x512_0_512 rfl inb_S5632x1024_S5632x512_0_512]
    exact stored _ _ _
  iexact HO

set_option maxHeartbeats 4000000 in
/-- An unused tile. -/
theorem run_unused (X5 : Vec F S512x5632 .bf16) (X7 : Vec F S512x1024 .f32) (B : Vec F S5632x1024 .bf16) (W0 : Waits sig Unit) (Q : PUnit → sProp 𝕄)
    (h1 : ¬ k0_cond1 i = 1#1)
    (h2 : ¬ k0_cond2 i (usedW T3) (hereW i T2) (backW i T2) = 1#1)
    (h5 : ¬ k0_cond5 i (usedW T3) = 1#1)
    (h6 : k0_cond6 i (usedW T3) = 1#1)
    :
    iprop(tables c q T2 T3 T4 ∗ held c arg5 arg7 X5 X7 B ∗ owes (c : Thread nD τ) 0 W0
      ∗ ((tables c q T2 T3 T4 ∗ held c arg5 arg7 X5 (k0_pay4 (F := F)) B ∗ owes (c : Thread nD τ) 0 W0) -∗ Q ⟨⟩))
    ⊢ wp frame (wpE (defs₀ (F := F)) Variants.none (c : Thread nD τ) none) Set.univ (body i arg5 harg5 arg7 harg7) Q := by
  unfold tables held
  iintro ⟨⟨H2, H3, H4⟩, ⟨H5, H7, H9⟩, HO, Hk⟩
  unfold body
  sl_unfold [cc0_moe_down]
  unfold cc0_moe_down_skel
  sl_exec
  sl_step
  iapply Hk
  isplitl [H2 H3 H4]
  · isplitl [H2]; · iexact H2
    isplitl [H3]; · iexact H3
    iexact H4
  isplitl [H5 H7 H9]
  · isplitl [H5]; · iexact H5
    isplitl [H7]; swap; · iexact H9
    iapply (pointsTo_rep_of_read (c : Thread nD τ) arg7 _ _ _ ?_) $$ H7
    exact View.read_writes_full _ _ _ _ _
  iexact HO

end Cert.Proof.Experts

end
-- ==== Proof.Experts.State.lean ====
/- What the loop holds between points — the block of weights in use, the one on its way — and the body's triple at a point over it. -/
module

public import proofs.«01_k».proof.Proof.Experts.Route
public import proofs.«01_k».proof.Proof.Experts.Next
public import proofs.«01_k».proof.Proof.Experts.Wrap
public import proofs.«01_k».proof.Proof.Experts.Last
public import proofs.«01_k».proof.Proof.Experts.First
public import proofs.«01_k».proof.Proof.Experts.Same

@[expose] public section

set_option maxRecDepth 16384

noncomputable section

namespace Cert.Proof.Experts

open Cert.ExpDownIdeal Cert.ExpDownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (W : BufTy.Contents (Elt F) mW.view.ty) (te nx : ℕ → BitVec 32) (n : ℕ)

/-- The block on its way after `t` tiles of half `j`: the successor's, or the first tile's of the next half, or none. -/
def pend (j t : ℕ) : sProp 𝕄 :=
  if t = 0 then (if j = 1 then flying c W (te 0).toNat 1 else resting c W)
  else if (nx (min (t - 1) (n - 1))).toNat < 2 ^ 31 then flying c W (nx (min (t - 1) (n - 1))).toNat j
  else if j = 0 then flying c W (te 0).toNat 1 else resting c W

/-- The rounded block of tile `t` of half `j`. -/
def block (j t : ℕ) : Vec F S5632x1024 .bf16 := rounded (weights (mW.view.read (Elt F) W) (te t).toNat j)

/-- What is held after `t` tiles of half `j`: the rounded block of the tile before, if that was used, and the block on its way. -/
def state (j t : ℕ) : sProp 𝕄 :=
  iprop(∃ B : Vec F S5632x1024 .bf16, ⌜t ≠ 0 → t - 1 < n → B = block W te j (t - 1)⌝
    ∗ (mB.view.loc (c : Thread nD τ) ↦[mB.view.set]{fullShare} mB.view.rep B) ∗ pend c W te nx n j t)

/-- What tile `t` of half `j` leaves of the result. -/
def outcome (X : Vec F S512x5632 .bf16) (j t : ℕ) : Vec F S512x1024 .f32 := if t < n then product X (block W te j t) else k0_pay4 (F := F)

variable {te nx n}

/-- After the last tile of half 0 is before the first of half 1, of half 1 the end. -/
theorem pend_wrap (R : Routed te nx n) (j : ℕ) (hj : j < 2) : pend c W te nx n j 72 = pend c W te nx n (j + 1) 0 := by
  have hn := R.le
  unfold pend
  rw [if_neg (by decide), if_pos rfl, show min (72 - 1) (n - 1) = n - 1 by omega, if_neg R.last]
  rcases Nat.lt_or_ge j 1 with h | h
  · rw [if_pos (by omega), if_pos (by omega)]
  · rw [if_neg (by omega), if_neg (by omega)]

theorem state_wrap (R : Routed te nx n) (j : ℕ) (hj : j < 2) : (state c W te nx n j 72 : sProp 𝕄) ⊢ state c W te nx n (j + 1) 0 := by
  unfold state
  rw [pend_wrap c W R j hj]
  iintro ⟨%B, %_, HB, HP⟩
  iexists B
  isplitr
  · ipureintro
    exact fun h => absurd rfl h
  isplitl [HB]; · iexact HB
  iexact HP

/-- Before a fresh tile, its own block is on its way. -/
theorem pend_fresh (R : Routed te nx n) (j t : ℕ) (hj : j < 2) (ht : t < n) (hf : t = 0 ∨ te t ≠ te (t - 1)) (h0 : ¬ (j = 0 ∧ t = 0)) :
    pend c W te nx n j t = (flying c W (te t).toNat j : sProp 𝕄) := by
  unfold pend
  by_cases h : t = 0
  · subst h
    rw [if_pos rfl, show j = 1 by omega, if_pos rfl]
  · have hc : nx (t - 1) = te t := by
      have := R.change (t - 1) (by omega) (by rw [show t - 1 + 1 = t by omega]; exact (hf.resolve_left h).symm)
      rwa [show t - 1 + 1 = t by omega] at this
    have := R.expert t ht
    rw [if_neg h, show min (t - 1) (n - 1) = t - 1 by omega, hc, if_pos (by omega)]

/-- A tile of the same expert, or unused, leaves what is on its way. -/
theorem pend_same (R : Routed te nx n) (j t : ℕ) (h0 : t ≠ 0) (h : t < n → te t = te (t - 1)) :
    pend c W te nx n j (t + 1) = (pend c W te nx n j t : sProp 𝕄) := by
  have key : nx (min (t + 1 - 1) (n - 1)) = nx (min (t - 1) (n - 1)) := by
    by_cases ht : t < n
    · have := R.same (t - 1) (by omega) (by rw [show t - 1 + 1 = t by omega]; exact (h ht).symm)
      rw [show t - 1 + 1 = t by omega] at this
      rw [show min (t + 1 - 1) (n - 1) = t by omega, show min (t - 1) (n - 1) = t - 1 by omega, this]
    · rw [show min (t + 1 - 1) (n - 1) = n - 1 by omega, show min (t - 1) (n - 1) = n - 1 by omega]
  unfold pend
  rw [if_neg (by omega), if_neg h0, key]

theorem pend_next (j t : ℕ) (ht : t < n) (hx : (nx t).toNat < 2 ^ 31) : pend c W te nx n j (t + 1) = (flying c W (nx t).toNat j : sProp 𝕄) := by
  unfold pend
  rw [if_neg (by omega), show min (t + 1 - 1) (n - 1) = t by omega, if_pos hx]

theorem pend_head (j t : ℕ) (ht : t < n) (hx : ¬ (nx t).toNat < 2 ^ 31) (hj : j = 0) : pend c W te nx n j (t + 1) = (flying c W (te 0).toNat (j + 1) : sProp 𝕄) := by
  unfold pend
  rw [if_neg (by omega), show min (t + 1 - 1) (n - 1) = t by omega, if_neg hx, if_pos hj, hj]

theorem pend_none (j t : ℕ) (ht : t < n) (hx : ¬ (nx t).toNat < 2 ^ 31) (hj : j ≠ 0) : pend c W te nx n j (t + 1) = (resting c W : sProp 𝕄) := by
  unfold pend
  rw [if_neg (by omega), show min (t + 1 - 1) (n - 1) = t by omega, if_neg hx, if_neg hj]

theorem pend_first : pend c W te nx n 0 0 = (resting c W : sProp 𝕄) := by
  unfold pend
  rw [if_pos rfl, if_neg (by decide)]

/-! ## The body at a point -/

section Step
variable (i : grid0.Coords) (q : PosShare TreeShare)
  (arg5 : Memref sig .tc .vmem S512x5632 .bf16) (harg5 : arg5.IsWhole) (arg7 : Memref sig .tc .vmem S512x1024 .f32) (harg7 : arg7.IsWhole)
  (T2 : BufTy.Contents (Elt F) mTe.view.ty) (T3 : BufTy.Contents (Elt F) mNu.view.ty) (T4 : BufTy.Contents (Elt F) mNx.view.ty)

/-- A run at a fresh tile, as a step from what is held before it to what is held after. -/
theorem step_fresh (P P' : sProp 𝕄) (B' : Vec F S5632x1024 .bf16) (j t : ℕ) (X5 : Vec F S512x5632 .bf16) (W0 : Waits sig Unit) (Q : PUnit → sProp 𝕄) (ht : t < n)
    (hP : pend c W te nx n j t = P) (hP' : pend c W te nx n j (t + 1) = P') (hB' : B' = block W te j t)
    (hrun : ∀ (X7 : Vec F S512x1024 .f32) (B : Vec F S5632x1024 .bf16),
      iprop(tables c q T2 T3 T4 ∗ held c arg5 arg7 X5 X7 B ∗ P ∗ owes (c : Thread nD τ) 0 W0
          ∗ (∀ W1 : Waits sig Unit, (tables c q T2 T3 T4 ∗ held c arg5 arg7 X5 (product X5 B') B' ∗ P' ∗ owes (c : Thread nD τ) 0 W1) -∗ Q ⟨⟩))
        ⊢ wp frame (wpE (defs₀ (F := F)) Variants.none (c : Thread nD τ) none) Set.univ (body i arg5 harg5 arg7 harg7) Q) :
    iprop(tables c q T2 T3 T4 ∗ (arg5.view.loc (c : Thread nD τ) ↦[arg5.view.set]{fullShare} arg5.view.rep X5)
      ∗ (∃ X7 : Vec F S512x1024 .f32, arg7.view.loc (c : Thread nD τ) ↦[arg7.view.set]{fullShare} arg7.view.rep X7)
      ∗ state c W te nx n j t ∗ owes (c : Thread nD τ) 0 W0
      ∗ (∀ W1 : Waits sig Unit, (tables c q T2 T3 T4 ∗ (arg5.view.loc (c : Thread nD τ) ↦[arg5.view.set]{fullShare} arg5.view.rep X5)
          ∗ (arg7.view.loc (c : Thread nD τ) ↦[arg7.view.set]{fullShare} arg7.view.rep (outcome W te n X5 j t))
          ∗ state c W te nx n j (t + 1) ∗ owes (c : Thread nD τ) 0 W1) -∗ Q ⟨⟩))
    ⊢ wp frame (wpE (defs₀ (F := F)) Variants.none (c : Thread nD τ) none) Set.univ (body i arg5 harg5 arg7 harg7) Q := by
  unfold state outcome
  rw [hP, hP', if_pos ht, ← hB']
  iintro ⟨HT, H5, ⟨%X7, H7⟩, ⟨%B, %_, HB, HP⟩, HO, Hk⟩
  iapply (hrun X7 B)
  unfold held
  isplitl [HT]; · iexact HT
  isplitl [H5 H7 HB]
  · isplitl [H5]; · iexact H5
    isplitl [H7]; · iexact H7
    iexact HB
  isplitl [HP]; · iexact HP
  isplitl [HO]; · iexact HO
  iintro %W1 ⟨HT, ⟨H5, H7, HB⟩, HP, HO⟩
  iapply Hk
  isplitl [HT]; · iexact HT
  isplitl [H5]; · iexact H5
  isplitl [H7]; · iexact H7
  isplitl [HB HP]
  · iexists B'
    isplitr
    · ipureintro
      intro _ _
      exact hB'
    isplitl [HB]; · iexact HB
    iexact HP
  iexact HO

/-- A run at any other tile, likewise. -/
theorem step_same (j t : ℕ) (X5 : Vec F S512x5632 .bf16) (W0 : Waits sig Unit) (Q : PUnit → sProp 𝕄) (h0 : t ≠ 0)
    (R : Routed te nx n) (hs : t < n → te t = te (t - 1))
    (out : Vec F S5632x1024 .bf16 → Vec F S512x1024 .f32) (hout : ∀ B, (t < n → B = block W te j t) → out B = outcome W te n X5 j t)
    (hrun : ∀ (X7 : Vec F S512x1024 .f32) (B : Vec F S5632x1024 .bf16) (Q : PUnit → sProp 𝕄),
      iprop(tables c q T2 T3 T4 ∗ held c arg5 arg7 X5 X7 B ∗ owes (c : Thread nD τ) 0 W0
          ∗ ((tables c q T2 T3 T4 ∗ held c arg5 arg7 X5 (out B) B ∗ owes (c : Thread nD τ) 0 W0) -∗ Q ⟨⟩))
        ⊢ wp frame (wpE (defs₀ (F := F)) Variants.none (c : Thread nD τ) none) Set.univ (body i arg5 harg5 arg7 harg7) Q) :
    iprop(tables c q T2 T3 T4 ∗ (arg5.view.loc (c : Thread nD τ) ↦[arg5.view.set]{fullShare} arg5.view.rep X5)
      ∗ (∃ X7 : Vec F S512x1024 .f32, arg7.view.loc (c : Thread nD τ) ↦[arg7.view.set]{fullShare} arg7.view.rep X7)
      ∗ state c W te nx n j t ∗ owes (c : Thread nD τ) 0 W0
      ∗ (∀ W1 : Waits sig Unit, (tables c q T2 T3 T4 ∗ (arg5.view.loc (c : Thread nD τ) ↦[arg5.view.set]{fullShare} arg5.view.rep X5)
          ∗ (arg7.view.loc (c : Thread nD τ) ↦[arg7.view.set]{fullShare} arg7.view.rep (outcome W te n X5 j t))
          ∗ state c W te nx n j (t + 1) ∗ owes (c : Thread nD τ) 0 W1) -∗ Q ⟨⟩))
    ⊢ wp frame (wpE (defs₀ (F := F)) Variants.none (c : Thread nD τ) none) Set.univ (body i arg5 harg5 arg7 harg7) Q := by
  unfold state
  rw [pend_same c W R j t h0 hs]
  iintro ⟨HT, H5, ⟨%X7, H7⟩, ⟨%B, %hB, HB, HP⟩, HO, Hk⟩
  have hB' : t < n → B = block W te j t := fun ht => by
    rw [hB h0 (by omega)]
    unfold block
    rw [hs ht]
  iapply (hrun X7 B)
  unfold held
  isplitl [HT]; · iexact HT
  isplitl [H5 H7 HB]
  · isplitl [H5]; · iexact H5
    isplitl [H7]; · iexact H7
    iexact HB
  isplitl [HO]; · iexact HO
  rw [hout B hB']
  iintro ⟨HT, ⟨H5, H7, HB⟩, HO⟩
  iapply Hk
  isplitl [HT]; · iexact HT
  isplitl [H5]; · iexact H5
  isplitl [H7]; · iexact H7
  isplitl [HB HP]
  · iexists B
    isplitr
    · ipureintro
      intro _ ht
      exact hB' ht
    isplitl [HB]; · iexact HB
    iexact HP
  iexact HO

/-- The body at a point takes what is held before it to what is held after, and leaves the point's block of the result. -/
theorem step (R : Routed (entry T2) (entry T4) (count T3).toNat) (X5 : Vec F S512x5632 .bf16) (W0 : Waits sig Unit) (Q : PUnit → sProp 𝕄) :
    iprop(tables c q T2 T3 T4 ∗ (arg5.view.loc (c : Thread nD τ) ↦[arg5.view.set]{fullShare} arg5.view.rep X5)
      ∗ (∃ X7 : Vec F S512x1024 .f32, arg7.view.loc (c : Thread nD τ) ↦[arg7.view.set]{fullShare} arg7.view.rep X7)
      ∗ state c W (entry T2) (entry T4) (count T3).toNat (i 0).val (i 1).val ∗ owes (c : Thread nD τ) 0 W0
      ∗ (∀ W1 : Waits sig Unit, (tables c q T2 T3 T4 ∗ (arg5.view.loc (c : Thread nD τ) ↦[arg5.view.set]{fullShare} arg5.view.rep X5)
          ∗ (arg7.view.loc (c : Thread nD τ) ↦[arg7.view.set]{fullShare} arg7.view.rep (outcome W (entry T2) (count T3).toNat X5 (i 0).val (i 1).val))
          ∗ state c W (entry T2) (entry T4) (count T3).toNat (i 0).val ((i 1).val + 1) ∗ owes (c : Thread nD τ) 0 W1) -∗ Q ⟨⟩))
    ⊢ wp frame (wpE (defs₀ (F := F)) Variants.none (c : Thread nD τ) none) Set.univ (body i arg5 harg5 arg7 harg7) Q := by
  have hle : (usedW T3).toNat ≤ 72 := by rw [usedW_eq]; exact R.le
  have hu : (count T3).toNat = (usedW T3).toNat := by rw [usedW_eq]
  have hj : (i 0).val < 2 := (i 0).isLt
  have hpos := R.pos
  have hhead : (entry T2 0).toNat < 8 := R.expert 0 (by omega)
  have c1 := cond1_iff i
  have c2 := cond2_iff i (usedW T3) (hereW i T2) (backW i T2) hle
  have c3 := cond3_iff (nextW i T4)
  have c4 := cond4_iff i (nextW i T4)
  have c5 := cond5_iff i (usedW T3) hle
  have c6 := cond6_iff i (usedW T3) hle
  have eh := hereW_eq (F := F) i T2
  have eb := backW_eq (F := F) i T2
  have ex := nextW_eq (F := F) i T4
  have e0 := headW_eq (F := F) T2
  by_cases ht : (i 1).val < (count T3).toNat
  · have h5 := c5.mpr (hu ▸ ht)
    have h6 : ¬ k0_cond6 i (usedW T3) = 1#1 := fun h => c6.mp h (hu ▸ ht)
    have hx := R.next_lt (i 1).val ht
    by_cases hf : (i 1).val = 0 ∨ entry T2 (i 1).val ≠ entry T2 ((i 1).val - 1)
    · have h2 := c2.mpr ⟨hu ▸ ht, by rw [eh, eb]; exact hf⟩
      have k2 := chk2_of i (usedW T3) (hereW i T2) (hereW i T2) (backW i T2) (by rw [eh]; exact R.expert _ ht)
      have k3 := chk3_of i (usedW T3) (nextW i T4) (hereW i T2) (backW i T2) (by rw [ex]; exact hx)
      have k4 := chk4_of i (usedW T3) (nextW i T4) (hereW i T2) (backW i T2) (headW T2) (by rw [e0]; exact hhead)
      have k1 := chk1_of i (headW T2) (by rw [e0]; exact hhead)
      by_cases hF : (i 0).val = 0 ∧ (i 1).val = 0
      · have h1 := c1.mpr hF
        by_cases hn : (nextW i T4).toNat < 2 ^ 31
        · have h3 := c3.mpr hn
          have h4 : ¬ k0_cond4 i (nextW i T4) = 1#1 := fun h => (c4.mp h).1 hn
          refine step_fresh c W i q arg5 harg5 arg7 harg7 T2 T3 T4 _ _ _ (i 0).val (i 1).val X5 W0 Q ht ?_ ?_ ?_ fun X7 B => run_first_next c i q arg5 harg5 arg7 harg7 T2 T3 T4 W X5 X7 B W0 Q h1 h2 h3 h4 h5 h6 k1 k2 k3
          · rw [hF.1, hF.2]; exact pend_first c W
          · rw [ex] at hn ⊢; exact pend_next c W _ _ ht hn
          · unfold block; rw [e0, hF.1, hF.2]
        · have h3 : ¬ k0_cond3 (nextW i T4) = 1#1 := fun h => hn (c3.mp h)
          have h4 := c4.mpr ⟨hn, hF.1⟩
          refine step_fresh c W i q arg5 harg5 arg7 harg7 T2 T3 T4 _ _ _ (i 0).val (i 1).val X5 W0 Q ht ?_ ?_ ?_ fun X7 B => run_first_wrap c i q arg5 harg5 arg7 harg7 T2 T3 T4 W X5 X7 B W0 Q h1 h2 h3 h4 h5 h6 k1 k2 k3 k4
          · rw [hF.1, hF.2]; exact pend_first c W
          · rw [ex] at hn; rw [e0]; exact pend_head c W _ _ ht hn hF.1
          · unfold block; rw [e0, hF.1, hF.2]
      · have h1 : ¬ k0_cond1 i = 1#1 := fun h => hF (c1.mp h)
        have hp := pend_fresh c W R (i 0).val (i 1).val hj ht hf hF
        by_cases hn : (nextW i T4).toNat < 2 ^ 31
        · have h3 := c3.mpr hn
          have h4 : ¬ k0_cond4 i (nextW i T4) = 1#1 := fun h => (c4.mp h).1 hn
          refine step_fresh c W i q arg5 harg5 arg7 harg7 T2 T3 T4 _ _ _ (i 0).val (i 1).val X5 W0 Q ht hp ?_ rfl fun X7 B => run_next c i q arg5 harg5 arg7 harg7 T2 T3 T4 W _ X5 X7 B W0 Q h1 h2 h3 h4 h5 h6 k2 k3
          rw [ex] at hn ⊢; exact pend_next c W _ _ ht hn
        · have h3 : ¬ k0_cond3 (nextW i T4) = 1#1 := fun h => hn (c3.mp h)
          by_cases hz : (i 0).val = 0
          · have h4 := c4.mpr ⟨hn, hz⟩
            refine step_fresh c W i q arg5 harg5 arg7 harg7 T2 T3 T4 _ _ _ (i 0).val (i 1).val X5 W0 Q ht hp ?_ rfl fun X7 B => run_wrap c i q arg5 harg5 arg7 harg7 T2 T3 T4 W _ X5 X7 B W0 Q h1 h2 h3 h4 h5 h6 k2 k3 k4
            rw [ex] at hn; rw [e0]; exact pend_head c W _ _ ht hn hz
          · have h4 : ¬ k0_cond4 i (nextW i T4) = 1#1 := fun h => hz (c4.mp h).2
            refine step_fresh c W i q arg5 harg5 arg7 harg7 T2 T3 T4 _ _ _ (i 0).val (i 1).val X5 W0 Q ht hp ?_ rfl fun X7 B => run_end c i q arg5 harg5 arg7 harg7 T2 T3 T4 W _ X5 X7 B W0 Q h1 h2 h3 h4 h5 h6 k2 k3
            rw [ex] at hn; exact pend_none c W _ _ ht hn hz
    · have h0 : (i 1).val ≠ 0 := fun h => hf (Or.inl h)
      have hs : entry T2 (i 1).val = entry T2 ((i 1).val - 1) := Classical.byContradiction fun h => hf (Or.inr h)
      have h1 : ¬ k0_cond1 i = 1#1 := fun h => h0 (c1.mp h).2
      have h2 : ¬ k0_cond2 i (usedW T3) (hereW i T2) (backW i T2) = 1#1 := fun h => by
        have := (c2.mp h).2
        rw [eh, eb] at this
        exact hf this
      refine step_same c W i q arg5 harg5 arg7 harg7 T2 T3 T4 (i 0).val (i 1).val X5 W0 Q h0 R (fun _ => hs) (fun B => product X5 B) (fun B hB => ?_) fun X7 B Q => run_same c i q arg5 harg5 arg7 harg7 T2 T3 T4 X5 X7 B W0 Q h1 h2 h5 h6
      unfold outcome
      rw [if_pos ht, hB ht]
  · have h0 : (i 1).val ≠ 0 := fun h => ht (by omega)
    have h1 : ¬ k0_cond1 i = 1#1 := fun h => h0 (c1.mp h).2
    have h2 : ¬ k0_cond2 i (usedW T3) (hereW i T2) (backW i T2) = 1#1 := fun h => ht (hu ▸ (c2.mp h).1)
    have h5 : ¬ k0_cond5 i (usedW T3) = 1#1 := fun h => ht (hu ▸ c5.mp h)
    have h6 := c6.mpr (hu ▸ ht)
    refine step_same c W i q arg5 harg5 arg7 harg7 T2 T3 T4 (i 0).val (i 1).val X5 W0 Q h0 R (fun h => absurd h ht) (fun _ => k0_pay4 (F := F)) (fun B _ => ?_) fun X7 B Q => run_unused c i q arg5 harg5 arg7 harg7 T2 T3 T4 X5 X7 B W0 Q h1 h2 h5 h6
    unfold outcome
    rw [if_neg ht]

end Step

end Cert.Proof.Experts

end
-- ==== Proof.Experts.Frame.lean ====
/- The run of @main through the pipeline at the tables a routing leaves: what the loop holds before each point, the body's triple at
   each, and every run's end with the result at the points' blocks, the arguments as launched and every counter at zero. -/
module

public import proofs.«01_k».proof.Proof.Experts.State
public import Idealize.ShloMosaic.Lib.Pipeline.Frame

@[expose] public section

set_option maxRecDepth 16384

noncomputable section

namespace Cert.Proof.Experts

open Cert.ExpDownIdeal Cert.ExpDownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A core's buffers when the pipeline starts: as launched. -/
abbrev V (c : Dev nD) (b : Ref sig .tc) : Buf (Elt F) ((c : Thread nD τ).loc b) := m ((c : Thread nD τ).loc b)

/-- The tables as launched. -/
def tbl : pre0.Contents (Elt F) := fun k => V m (0 : Dev nD) (pre0.ref k)

theorem V_pre (c : Dev nD) (k : Fin 3) : V m c (pre0.ref k) = tbl m k := by
  obtain rfl : c = 0 := Subsingleton.elim _ _
  rfl

/-- Tile `t`'s expert, the expert after its run of tiles, and how many tiles are used. -/
abbrev expertOf : ℕ → BitVec 32 := entry (V m 0 main_arg2)
abbrev nextOf : ℕ → BitVec 32 := entry (V m 0 main_arg4)
abbrev used : ℕ := (count (V m 0 main_arg3)).toNat

/-- The tables are of a routing. -/
abbrev IsRouted : Prop := Routed (expertOf m) (nextOf m) (used m)

/-! ## The windows' blocks -/

theorem low_word : ∀ (t : Fin 72) (n : Fin 73), 1 ≤ n.val →
    (Scalar.minsi (BitVec.ofNat 32 t.val) (Scalar.subi (BitVec.ofNat 32 n.val) 1#32)).toNat = min t.val (n.val - 1) := by decide +kernel

/-- The tile of the rows a point works on. -/
abbrev tileAt (i : grid0.Coords) : ℕ := min (i 1).val (used m - 1)

theorem rows_at (R : IsRouted m) (i : grid0.Coords) : cc0_transform_0 inb_S1_S1_0 numel1_S1 (tbl m) i = ![tileAt m i, 0] := by
  have hw : ((tbl m).at 1 (Rect.unit (s := S1) ![0] S1.size inb_S1_S1_0) numel1_S1 : BitVec 32) = BitVec.ofNat 32 (used m) := by
    have e : ((tbl m).at 1 (Rect.unit (s := S1) ![0] S1.size inb_S1_S1_0) numel1_S1 : BitVec 32) = count (V m 0 main_arg3) := by
      unfold count
      refine congrArg (V m 0 main_arg3) (funext fun a => Fin.ext ?_)
      fin_cases a
      rfl
    rw [e]
    exact BitVec.eq_of_toNat_eq (by rw [BitVec.toNat_ofNat]; exact (Nat.mod_eq_of_lt (count (V m 0 main_arg3)).isLt).symm)
  unfold cc0_transform_0
  dsimp only
  rw [hw]
  have := low_word (i 1) ⟨used m, by have := R.le; omega⟩ R.pos
  exact congrArg (fun x : ℕ => (![x, 0] : Fin 2 → ℕ)) this

theorem ok (R : IsRouted m) : ok0 (F := F) (tbl m) := fun i => by
  have hi : (i 1).val < 72 := (i 1).isLt
  refine ⟨fun a => ?_, .inr (Affine.block_words_dvd (of_decide_eq_true rfl) (by decide))⟩
  rw [rows_at m R i]
  match a with
  | ⟨0, _⟩ => show (min (i 1).val (used m - 1) + 1) * 512 ≤ 36864; omega
  | ⟨1, _⟩ => show (0 + 1) * 5632 ≤ 5632; omega

/-- The tables as the pipeline takes them, and the pipeline at them. -/
abbrev adm (R : IsRouted m) : (pcfg0 (F := F)).Adm := ⟨tbl m, ok m R⟩
abbrev cfgM (R : IsRouted m) : Cfg sig Λ₀ := cfg0 (adm m R)

variable (R : IsRouted m)

/-- Half and tile of a point. -/
theorem coords_at : ∀ t : Fin grid0.N, (grid0.coords t 0).val = t.val / 72 ∧ (grid0.coords t 1).val = t.val % 72 := by decide +kernel

/-- Tile `t` of the rows. -/
def tile (X : S36864x5632.Idx → Elt F .bf16) (t : ℕ) : Vec F S512x5632 .bf16 := fun y =>
  X fun a => match a with
    | ⟨0, _⟩ => ⟨(512 * t + (y 0).val) % 36864, Nat.mod_lt _ (by decide)⟩
    | ⟨1, _⟩ => ⟨(y 1).val, (y 1).isLt⟩

/-- The rows' block at a point. -/
def rowsAt (c : Dev nD) (t : Fin grid0.N) : Vec F S512x5632 .bf16 := tile (V m c main_arg0) (min (t.val % 72) (used m - 1))

/-- The result's block at a point. -/
def outAt (c : Dev nD) (t : Fin grid0.N) : Vec F S512x1024 .f32 :=
  outcome (V m c main_arg1) (expertOf m) (used m) (rowsAt m c t) (t.val / 72) (t.val % 72)

/-! ## What the loop holds -/

abbrev osem : Fin 1 → SemLoc sig := fun _ => SemLoc.dma cc0_scratch2.sem
theorem osem_facts : Pipeline.OwnSemFacts spec0 osem := by decide
theorem osem_eq (c : Dev nD) :
    (Pipeline.ownSems0 (Ix := Unit) (Name := ℕ) (U := Pipeline.UD sig nD τ) (Lvl := ℕ) (Val := Elt F) (τ := τ) osem c : sProp 𝕄)
      = semVal ((c : Thread nD τ), SemLoc.dma cc0_scratch2.sem) 0 := by
  rw [Pipeline.ownSems0_eq_of_list c osem [0] (by decide) (by decide)]; rfl

/-- The operand the body's transfers read. -/
def H0 : Finset (Ref sig .tc) := {main_arg1}
theorem H0_sub : H0 ⊆ Pipeline.restRefsP sig pre0 spec0 := by decide
theorem H0_eq (c : Dev nD) :
    (bigSep H0 (fun b => ((c : Thread nD τ).loc b) ↦{fullShare} V m c b) : sProp 𝕄) = (((c : Thread nD τ).loc main_arg1) ↦{fullShare} V m c main_arg1) := by
  rw [BI.bigSep_eq_bigSepL_of_eq [main_arg1] (by decide) (by decide)]; rfl

/-- A buffer held whole is its own view held by its elements. -/
theorem whole_eq (c : Dev nD) (b : Ref sig .tc) (q : PosShare TreeShare) (f : Buf (Elt F) ((c : Thread nD τ).loc b)) :
    (((c : Thread nD τ).loc b) ↦{q} f : sProp 𝕄) = ((Memref.whole b).view.loc (c : Thread nD τ) ↦[(Memref.whole b).view.set]{q} f) := by
  rw [show (Memref.whole b).view.set = Finset.univ from View.set_whole b]
  try rfl

theorem tables_eq (c : Dev nD) : (Pipeline.ΦT pre0 (tbl m) c : sProp 𝕄) = tables c fullShare.right (V m c main_arg2) (V m c main_arg3) (V m c main_arg4) := by
  obtain rfl : c = 0 := Subsingleton.elim _ _
  unfold tables
  rw [← whole_eq, ← whole_eq, ← whole_eq]
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- What is held before point `k`: the tables, the generator, the blocks of weights. -/
def inv (c : Dev nD) (k : ℕ) : sProp 𝕄 :=
  iprop(tables c fullShare.right (V m c main_arg2) (V m c main_arg3) (V m c main_arg4) ∗ (∃ r, prngReg c r)
    ∗ state c (V m c main_arg1) (expertOf m) (nextOf m) (used m) (k / 72) (k % 72))

theorem inv_in (c : Dev nD) : iprop(Pipeline.ΦD osem spec0 H0 (V m) c ∗ Pipeline.ΦT pre0 (tbl m) c) ⊢ (inv m c 0 : sProp 𝕄) := by
  rw [Pipeline.ΦD_eq, scopedRest0_eq, osem_eq, H0_eq, tables_eq]
  unfold inv state
  rw [show 0 / 72 = 0 from rfl, show 0 % 72 = 0 from rfl, pend_first]
  unfold resting
  iintro ⟨⟨⟨⟨%f, Hs⟩, %g, Hb⟩, Hp, Hq, Hw⟩, Ht⟩
  isplitl [Ht]; · iexact Ht
  isplitl [Hp]; · iexact Hp
  ihave Hs := (Entails.of_eq (whole_eq c cc0_scratch0 fullShare f)) $$ Hs
  ihave Hb := (Entails.of_eq (whole_eq c cc0_scratch1 fullShare g)) $$ Hb
  ihave Hb := (pointsTo_rep_of_read (c : Thread nD τ) mB g fullShare (mB.view.read (Elt F) g) rfl) $$ Hb
  iexists (mB.view.read (Elt F) g)
  isplitr
  · ipureintro
    exact fun h => absurd rfl h
  isplitl [Hb]; · iexact Hb
  isplitl [Hs]
  · iexists f; iexact Hs
  isplitl [Hq]; · iexact Hq
  iexact Hw

theorem inv_out (c : Dev nD) : (inv m c 144 : sProp 𝕄) ⊢ Pipeline.ΦD osem spec0 H0 (V m) c := by
  rw [Pipeline.ΦD_eq, scopedRest0_eq, osem_eq, H0_eq]
  unfold inv state
  rw [show 144 / 72 = 2 from rfl, show 144 % 72 = 0 from rfl,
    show (pend c (V m c main_arg1) (expertOf m) (nextOf m) (used m) 2 0 : sProp 𝕄) = resting c (V m c main_arg1) from by
      unfold pend; rw [if_pos rfl, if_neg (by decide)]]
  unfold resting
  iintro ⟨_, Hp, %B, _, Hb, ⟨%f, Hs⟩, Hq, Hw⟩
  isplitl [Hs Hb]
  · isplitl [Hs]
    · iexists f
      iapply (Entails.of_eq (whole_eq c cc0_scratch0 fullShare f).symm) $$ Hs
    · iexists _
      iapply (Entails.of_eq (whole_eq c cc0_scratch1 fullShare _).symm) $$ Hb
  isplitl [Hp]; · iexact Hp
  isplitl [Hq]; · iexact Hq
  iexact Hw

include R in
/-- The state after a point is the one before the next. -/
theorem state_succ (c : Dev nD) (k : ℕ) (hk : k < 144) :
    (state c (V m c main_arg1) (expertOf m) (nextOf m) (used m) (k / 72) (k % 72 + 1) : sProp 𝕄)
      ⊢ state c (V m c main_arg1) (expertOf m) (nextOf m) (used m) ((k + 1) / 72) ((k + 1) % 72) := by
  by_cases h : k % 72 + 1 = 72
  · rw [h, show (k + 1) / 72 = k / 72 + 1 by omega, show (k + 1) % 72 = 0 by omega]
    exact state_wrap c _ R (k / 72) (by omega)
  · rw [show (k + 1) / 72 = k / 72 by omega, show (k + 1) % 72 = k % 72 + 1 by omega]

/-- The pipeline's proof data. -/
def dats (p : Fin 1) (c : Dev nD) : Dat τ (Elt F) Unit ℕ (Pipeline.UD sig nD τ) ℕ (Pipeline.pin (pcfgs (F := F)) (fun _ => adm m R) p) c where
  A w := V m c (Pipeline.arrRef spec0 w)
  after w t := match w with
    | ⟨0, _⟩ => rowsAt m c t
    | ⟨1, _⟩ => outAt m c t
  Φ k := inv m c k.val
  q _ := fullShare
  owed _ := 0

theorem A_eq (c : Dev nD) (w : Fin 2) : (dats m R 0 c).A w = V m c (Pipeline.arrRef spec0 w) := by dsimp only [dats]
theorem after_rows (c : Dev nD) (t : Fin grid0.N) : (dats m R 0 c).after 0 t = rowsAt m c t := rfl
theorem after_out (c : Dev nD) (t : Fin grid0.N) : (dats m R 0 c).after 1 t = outAt m c t := rfl

/-- The rows' block at a point, read off the array, is its tile. -/
theorem block_rows (c : Dev nD) (t : Fin grid0.N) :
    ((((cfgM m R).win 0).blk t).view.read (Elt F) (V m c main_arg0) : Vec F S512x5632 .bf16) = rowsAt m c t := by
  have hn := R.le
  have hp := R.pos
  have ht : t.val % 72 < 72 := Nat.mod_lt _ (by decide)
  have e := rows_at m R (grid0.coords t)
  have e1 := (coords_at t).2
  refine funext fun (y : S512x5632.Idx) => ?_
  have h0 : (y 0).val < 512 := (y 0).isLt
  unfold rowsAt tile
  show V m c main_arg0 ((((cfgM m R).win 0).blk t).view.emb y) = _
  refine congrArg (V m c main_arg0) (funext fun a => Fin.ext ?_)
  match a with
  | ⟨0, _⟩ =>
    show cc0_transform_0 inb_S1_S1_0 numel1_S1 (tbl m) (grid0.coords t) (0 : Fin 2) * 512 + 1 * (y 0).val = (512 * min (t.val % 72) (used m - 1) + (y 0).val) % 36864
    rw [e]
    show min (grid0.coords t 1).val (used m - 1) * 512 + 1 * (y 0).val = _
    rw [e1]
    omega
  | ⟨1, _⟩ =>
    show cc0_transform_0 inb_S1_S1_0 numel1_S1 (tbl m) (grid0.coords t) (1 : Fin 2) * 5632 + 1 * (y 1).val = (y 1).val
    rw [e]
    show 0 * 5632 + 1 * (y 1).val = _
    omega

theorem before_rows (c : Dev nD) (t : Fin grid0.N) (d) : (dats m R 0 c).before 0 t d = rowsAt m c t :=
  ((dats m R 0 c).before_in_eq_fetched 0 rfl (fun _ => rfl) (fun _ _ _ => rfl) (fun t => by
    rw [after_rows]; unfold Dat.blockOf; rw [A_eq]; exact (block_rows m R c t).symm) t d).trans
    (by unfold Dat.fetched Dat.blockOf; rw [A_eq]; exact block_rows m R c t)

include R in
/-- No point is idle. -/
theorem busy (i : grid0.Coords) : idle0 (tbl m) 1 i = false := by
  have hle : (usedW (F := F) (V m 0 main_arg3)).toNat ≤ 72 := by rw [usedW_eq]; exact R.le
  have hw : ((tbl m).atD 1 ![0] : BitVec 32) = usedW (F := F) (V m 0 main_arg3) := by
    rw [usedW_eq]
    unfold count
    refine (dif_pos (show ∀ a, (![0] : Fin 1 → ℕ) a + 1 ≤ S1.size a by decide)).trans ?_
    refine congrArg (V m 0 main_arg3) (funext fun a => Fin.ext ?_)
    fin_cases a
    rfl
  show (!(k0_cond5 i ((tbl m).atD 1 ![0]) == 1#1) && !(k0_cond6 i ((tbl m).atD 1 ![0]) == 1#1)) = false
  rw [hw]
  by_cases h : (i 1).val < (usedW (F := F) (V m 0 main_arg3)).toNat
  · rw [(cond5_iff i _ hle).mpr h]; rfl
  · rw [(cond6_iff i _ hle).mpr h]; exact Bool.and_false _

/-! ## The body at a point -/

abbrev stRows (t : Fin grid0.N) : Memref sig .tc .vmem S512x5632 .bf16 := spec0_0.stage ((cfgM m R).slots t 0)
abbrev stOut (t : Fin grid0.N) : Memref sig .tc .vmem S512x1024 .f32 := spec0_1.stage ((cfgM m R).slots t 1)
abbrev bodyAt (t : Fin grid0.N) : Prog (TpuEff nD τ sig (Elt F) Λ₀ .tc) PUnit :=
  body (grid0.coords t) (stRows m R t) (hstage0_0 (((cfgM m R).slots t 0).cast nbuf0_0)) (stOut m R t) (hstage0_1 (((cfgM m R).slots t 1).cast nbuf0_1))

def bodyPre (c : Dev nD) (t : Fin grid0.N) : sProp 𝕄 :=
  iprop((dats m R 0 c).Φ t.castSucc ∗ (dats m R 0 c).owesAt () t.castSucc
    ∗ (∃ d, owns (c : Thread nD τ) (stRows m R t) fullShare ((dats m R 0 c).before 0 t d))
    ∗ (∃ d, owns (c : Thread nD τ) (stOut m R t) fullShare ((dats m R 0 c).before 1 t d)))
def bodyPost (c : Dev nD) (t : Fin grid0.N) : sProp 𝕄 :=
  iprop((dats m R 0 c).Φ t.succ ∗ (dats m R 0 c).owesAt () t.succ
    ∗ owns (c : Thread nD τ) (stRows m R t) fullShare ((dats m R 0 c).after 0 t)
    ∗ owns (c : Thread nD τ) (stOut m R t) fullShare ((dats m R 0 c).after 1 t))

theorem sound_body (c : Dev nD) (t : Fin grid0.N) :
    bodyPre m R c t ⊢ wp frame (wpE (defs₀ (F := F)) Variants.none c none) Set.univ (bodyAt m R t) (fun _ => bodyPost m R c t) := by
  obtain rfl : c = 0 := Subsingleton.elim _ _
  have hk : t.val < 144 := lt_of_lt_of_eq t.isLt N_0
  obtain ⟨ej, et⟩ := coords_at t
  have hs := state_succ m R (0 : Dev nD) t.val hk
  unfold bodyPre bodyPost
  rw [after_rows, after_out, show (dats m R 0 (0 : Dev nD)).Φ t.castSucc = inv m 0 t.val from rfl, show (dats m R 0 (0 : Dev nD)).Φ t.succ = inv m 0 (t.val + 1) from rfl]
  simp only [before_rows]
  unfold Dat.owesAt Pipeline.owesWithin
  rw [show (dats m R 0 (0 : Dev nD)).owed t.castSucc = 0 from rfl, show (dats m R 0 (0 : Dev nD)).owed t.succ = 0 from rfl]
  unfold inv outAt owns
  rw [← ej, ← et] at hs ⊢
  iintro ⟨⟨HT, Hp, HS⟩, ⟨%W, -, HW⟩, ⟨%d0, %f0, %h0, H0⟩, ⟨%d1, %f1, %h1, H1⟩⟩
  ihave H0 := (pointsTo_rep_of_read ((0 : Dev nD) : Thread nD τ) (stRows m R t) _ _ _ h0) $$ H0
  ihave H1 := (pointsTo_rep_of_read ((0 : Dev nD) : Thread nD τ) (stOut m R t) _ _ _ h1) $$ H1
  iapply (step (0 : Dev nD) (V m 0 main_arg1) (grid0.coords t) fullShare.right (stRows m R t) _ (stOut m R t) _ (V m 0 main_arg2) (V m 0 main_arg3) (V m 0 main_arg4) R (rowsAt m 0 t) W)
  isplitl [HT]; · iexact HT
  isplitl [H0]; · iexact H0
  isplitl [H1]; · iexists _; iexact H1
  isplitl [HS]; · iexact HS
  isplitl [HW]; · iexact HW
  iintro %W' ⟨HT, H0, H1, HS, HW⟩
  isplitl [HT Hp HS]
  · isplitl [HT]; · iexact HT
    isplitl [Hp]; · iexact Hp
    iapply hs $$ HS
  isplitl [HW]
  · iexists W'
    isplitr
    · ipureintro; exact fun _ _ => Or.inl trivial
    iexact HW
  isplitl [H0]
  · iexists _
    isplitr; swap; (· iexact H0)
    ipureintro
    exact View.read_rep _ _
  iexists _
  isplitr; swap; (· iexact H1)
  ipureintro
  exact View.read_rep _ _

theorem defs₀_row (t : Fin grid0.N) :
    defs₀ (F := F) .tc (cfgM m R).body ((cfgM m R).bodyArgs t ((cfgM m R).slots t)) = bodyAt m R t := by
  unfold defs₀; rw [Defs.onTc_tc]

/-- The first of two propositions where `b` holds, else the second. -/
def pick (b : Bool) (X Y : sProp 𝕄) : sProp 𝕄 := match b with | true => X | false => Y

theorem pick_eq (b : Bool) (X Y : sProp 𝕄) (h : b = false) : pick b X Y = Y := by subst h; rfl

theorem body_obligation (c : Dev nD) : BodyObligation (dats m R 0 c) (defs₀ (F := F)) Variants.none () Set.univ := fun t => by
  rw [bigSep_W0, bigSep_W0, defs₀_row m R t]
  have hb : (Pipeline.pin (pcfgs (F := F)) (fun _ => adm m R) 0).idle 1 ((Pipeline.pin (pcfgs (F := F)) (fun _ => adm m R) 0).grid.coords t) = false := busy m R _
  refine triple_restated (sound_body m R c t) rfl .rfl fun _ => ?_
  exact .of_eq (congrArg (fun X => iprop(_ ∗ _ ∗ _ ∗ X)) (show _ = pick _ _ _ from (pick_eq _ _ _ hb).symm))

set_option backward.isDefEq.respectTransparency.types false in
/-- Every weakly fair execution of @main from zero counters ends with every array of the pipeline at what its proof data give and every
    counter at zero. -/
theorem run_main : θ_run defs (onTc (τ := τ) (main (F := F))) (s₀ m ρ)
    (fun r => Pipeline.FramePost (Pipeline.pin (pcfgs (F := F)) (fun _ => adm m R)) (dats m R) 0 (V m) r ∧ r.2.sem = fun _ => 0) :=
  Pipeline.θ_run_frameP_dma (Q' := _) pcfgs (fun _ => adm m R) (dats m R) (0 : Fin 1) launch0 osem defs₀ Variants.none osem_facts H0 H0_sub m ρ main
    (hbody := fun c => (body_obligation m R c).loose) (hshare := fun c => (dats m R 0 c).share_full fun _ => rfl)
    (howed := fun _ _ => rfl) (V := V m) (hmain := Pipeline.hmainP_region _ _ _ _ m main fun _ => rfl) (hA := A_eq m R) (hpf := V_pre m)
    (hin := inv_in m) (hout := inv_out m)

end Cert.Proof.Experts

end
-- ==== Proof.Experts.Decode.lean ====
/- The precondition of the call `moe_down` read: the three tables route the tiles to experts (`Routed`, Route.lean). -/
module

public import proofs.«01_k».proof.Defs
public import proofs.«01_k».proof.Proof.Experts.Route
public import Idealize.ShloMosaic.Lib.ReduceAll
public import Idealize.ShloMosaic.Lib.StableHlo.Predicate

@[expose] public section

noncomputable section

namespace Cert.Proof.Experts

open Idealize.ShloMosaic Idealize.SL.Sem
open StableHlo.Predicate

/-- The shape relations of the precondition. -/
theorem pre_facts : Cert.Pre_routed3.Facts where
  bcast_S1_S72_0 := by decide
  shapeCasts_S1_S_ := by decide
  bcast_S_S72 := by decide
  reducesTo_S72_S_d0 := by decide
  h_S_ := by decide
  slices_S72_S71_0 := by decide
  slices_S72_S71_1 := by decide
  bcast_S_S1 := by decide
  bcast_S_S71 := by decide
  reducesTo_S71_S_d0 := by decide

theorem andi_both (x y : BitVec 1) (h : IntOp.andi x y = 1#1) : x = 1#1 ∧ y = 1#1 := by
  revert h
  revert x y
  decide

theorem chosen (c x y : BitVec 1) (h : Scalar.select c x y = 1#1) (hc : c = 1#1) : x = 1#1 := by
  subst hc
  exact h

theorem other (c x y : BitVec 1) (h : Scalar.select c x y = 1#1) (hc : c ≠ 1#1) : y = 1#1 := by
  exact (if_neg hc).symm.trans h

/-- A signed comparison with small words bounds the word. -/
theorem between (x : BitVec 32) (lo hi : ℕ) (hl : lo < 2 ^ 31) (hh : hi < 2 ^ 31) (h₁ : IntOp.cmpi .sge x (BitVec.ofNat 32 lo) = 1#1) (h₂ : IntOp.cmpi .sle x (BitVec.ofNat 32 hi) = 1#1) :
    lo ≤ x.toNat ∧ x.toNat ≤ hi := by
  unfold IntOp.cmpi at h₁ h₂
  simp only [ofBool_eq_one_iff, BitVec.sle, decide_eq_true_eq, toInt_ofNat_small _ hl, toInt_ofNat_small _ hh] at h₁ h₂
  rw [BitVec.toInt_eq_toNat_cond] at h₁ h₂
  have := x.isLt
  split at h₁ <;> split at h₂ <;> omega

theorem under_bound (x : BitVec 32) (hi : ℕ) (hh : hi < 2 ^ 31) (h₁ : IntOp.cmpi .sge x 0#32 = 1#1) (h₂ : IntOp.cmpi .slt x (BitVec.ofNat 32 hi) = 1#1) :
    x.toNat < hi := by
  unfold IntOp.cmpi at h₁ h₂
  simp only [ofBool_eq_one_iff, BitVec.sle, BitVec.slt, decide_eq_true_eq, toInt_ofNat_small _ hh, show (0#32 : BitVec 32).toInt = 0 from rfl] at h₁ h₂
  rw [BitVec.toInt_eq_toNat_cond] at h₁ h₂
  have := x.isLt
  split at h₁ <;> split at h₂ <;> omega

theorem negative (x : BitVec 32) (h : IntOp.cmpi .slt x 0#32 = 1#1) : ¬ x.toNat < 2 ^ 31 := fun hx => by
  have := (slt_iff_toNat hx (by decide)).mp h
  exact absurd this (Nat.not_lt_zero _)

section Read
open Cert.Pre_routed3

/-- Position `t` of a table, and of its pairs of neighbours. -/
def at72 (t : ℕ) : S72.Idx := fun a => match a with | ⟨0, _⟩ => ⟨t % 72, Nat.mod_lt _ (by decide)⟩
def at71 (t : ℕ) : S71.Idx := fun a => match a with | ⟨0, _⟩ => ⟨t % 71, Nat.mod_lt _ (by decide)⟩

theorem one_index (i j : S1.Idx) : i = j := by
  funext a
  refine Fin.ext ?_
  match a with
  | ⟨0, _⟩ =>
    have hi : (i 0).val < 1 := (i 0).isLt
    have hj : (j 0).val < 1 := (j 0).isLt
    show (i 0).val = (j 0).val
    omega

theorem head_slice {α : Type} (T : S72.Idx → α) (h : S72.Slices ![0] S71) (t : ℕ) (ht : t < 71) : extractStridedSlice S71 ![0] T h (at71 t) = T (at72 t) := by
  refine congrArg T (funext fun a => Fin.ext ?_)
  match a with
  | ⟨0, _⟩ => show 0 + t % 71 = t % 72; omega

theorem tail_slice {α : Type} (T : S72.Idx → α) (h : S72.Slices ![1] S71) (t : ℕ) (ht : t < 71) : extractStridedSlice S71 ![1] T h (at71 t) = T (at72 (t + 1)) := by
  refine congrArg T (funext fun a => Fin.ext ?_)
  match a with
  | ⟨0, _⟩ => show 1 + t % 71 = (t + 1) % 72; omega

theorem routed_of {F : FTy → Type} [FloatOps F] (hF : Cert.Pre_routed3.Facts) (X : FVec F S36864x5632 .bf16) (W : FVec F S8x5632x2048 .f32) (te : IVec S72 32) (nu : IVec S1 32) (nx : IVec S72 32)
    (h : fn (F := F) X W te nu nx = fun _ => 1#1) : Routed (entry te) (entry nx) (count nu).toNat := by
  have e := congrFun h (fun a => a.elim0)
  have hs : Subsingleton S_.Idx := ⟨fun a b => funext fun i => i.elim0⟩
  obtain ⟨e, el⟩ := andi_both _ _ e
  obtain ⟨e, ea⟩ := andi_both _ _ e
  obtain ⟨en, ee⟩ := andi_both _ _ e
  obtain ⟨e₁, e₂⟩ := andi_both _ _ en
  have hc : ∀ i : S1.Idx, nu i = count nu := fun i => congrArg nu (one_index _ _)
  have hn : 1 ≤ (count nu).toNat ∧ (count nu).toNat ≤ 72 := by
    refine between _ 1 72 (by decide) (by decide) ?_ ?_
    · exact (congrArg (fun x => IntOp.cmpi .sge x 1#32) (hc _)).symm.trans e₁
    · exact (congrArg (fun x => IntOp.cmpi .sle x 72#32) (hc _)).symm.trans e₂
  generalize hN : (count nu).toNat = n at hn
  have live : ∀ t, t < n → IntOp.cmpi .slt (BitVec.ofNat 32 (t % 72)) (count nu) = 1#1 := fun t ht => by
    rw [slt_iff_toNat (by rw [BitVec.toNat_ofNat]; omega) (by omega), BitVec.toNat_ofNat]
    omega
  have lives : ∀ t, t < n → cmpi .slt (iotaInDim S72 32 0) (broadcastInDim S72 ![0] Facts.bcast_S1_S72_0 nu) (at72 t) = 1#1 := fun t ht =>
    (congrArg (IntOp.cmpi .slt (BitVec.ofNat 32 (t % 72))) (hc _)).trans (live t ht)
  have after : ∀ t, t + 1 < n → Scalar.select (IntOp.cmpi .eq (entry te t) (entry te (t + 1))) (IntOp.cmpi .eq (entry nx t) (entry nx (t + 1)))
      (IntOp.cmpi .eq (entry nx t) (entry te (t + 1))) = 1#1 := fun t ht => by
    have ht' : t < 71 := by omega
    have q := chosen _ _ _ (Host.reduce_andi_all _ _ _ _ _ ea (at71 t)) ((tail_slice _ _ t ht').trans (lives (t + 1) ht))
    refine Eq.trans ?_ q
    show _ = Scalar.select (IntOp.cmpi .eq (extractStridedSlice S71 ![0] te Facts.slices_S72_S71_0 (at71 t)) (extractStridedSlice S71 ![1] te Facts.slices_S72_S71_1 (at71 t)))
      (IntOp.cmpi .eq (extractStridedSlice S71 ![0] nx Facts.slices_S72_S71_0 (at71 t)) (extractStridedSlice S71 ![1] nx Facts.slices_S72_S71_1 (at71 t)))
      (IntOp.cmpi .eq (extractStridedSlice S71 ![0] nx Facts.slices_S72_S71_0 (at71 t)) (extractStridedSlice S71 ![1] te Facts.slices_S72_S71_1 (at71 t)))
    rw [head_slice _ _ t ht', head_slice _ _ t ht', tail_slice _ _ t ht', tail_slice _ _ t ht']
    rfl
  refine ⟨hn.1, hn.2, fun t ht => ?_, fun t ht he => ?_, fun t ht he => ?_, ?_⟩
  · obtain ⟨q₁, q₂⟩ := andi_both _ _ (chosen _ _ _ (Host.reduce_andi_all _ _ _ _ _ ee (at72 t)) (lives t ht))
    exact under_bound _ 8 (by decide) q₁ q₂
  · exact cmpi_eq_iff.mp (chosen _ _ _ (after t ht) (cmpi_eq_iff.mpr he))
  · exact cmpi_eq_iff.mp (other _ _ _ (after t ht) (fun q => he (cmpi_eq_iff.mp q)))
  · refine negative _ (chosen _ _ _ (Host.reduce_andi_all _ _ _ _ _ el (at72 (n - 1))) ?_)
    refine (congrArg (fun x => IntOp.cmpi .eq (BitVec.ofNat 32 ((n - 1) % 72)) (x - 1#32)) (hc _)).trans (cmpi_eq_iff.mpr ?_)
    refine BitVec.eq_of_toNat_eq ?_
    rw [BitVec.toNat_sub, BitVec.toNat_ofNat, BitVec.toNat_ofNat, hN]
    omega

end Read

end Cert.Proof.Experts

end
-- ==== Proof.Experts.Whole.lean ====
/- The frame of the call `moe_down`: from tables that route, @main ends with its arguments unchanged and every counter at
   zero. -/
module

public import proofs.«01_k».proof.Proof.Experts.Frame
public import proofs.«01_k».proof.Proof.Experts.Decode

@[expose] public section

noncomputable section

namespace Cert.Proof.Experts

open Cert.ExpDownIdeal Cert.ExpDownIdeal.Gen
open Idealize.ShloMosaic Idealize.ShloMosaic.TcCoe Idealize.SL.Sem

variable {F : FTy → Type} [FloatOps F] (m : (ℓ : Loc nD τ sig) → Buf (Elt F) ℓ) (ρ : Dev nD → PrngReg) (R : IsRouted m)

/-- The arguments at the end are those at the start. -/
def Kept (m m' : (ℓ : Loc nD τ sig) → Buf (Elt F) ℓ) (c : Dev nD) : Prop :=
  m' ((c.tc : Thread nD τ).loc main_arg0) = m ((c.tc : Thread nD τ).loc main_arg0)
  ∧ m' ((c.tc : Thread nD τ).loc main_arg1) = m ((c.tc : Thread nD τ).loc main_arg1)
  ∧ m' ((c.tc : Thread nD τ).loc main_arg2) = m ((c.tc : Thread nD τ).loc main_arg2)
  ∧ m' ((c.tc : Thread nD τ).loc main_arg3) = m ((c.tc : Thread nD τ).loc main_arg3)
  ∧ m' ((c.tc : Thread nD τ).loc main_arg4) = m ((c.tc : Thread nD τ).loc main_arg4)

theorem kept_of {r : PUnit × MemSt nD τ sig (Elt F)} (h : Pipeline.FramePost (Pipeline.pin (pcfgs (F := F)) (fun _ => adm m R)) (dats m R) 0 (V m) r) (c : Dev nD) : Kept m r.2.mem c :=
  ⟨((h c).1 0).trans (((dats m R 0 c).arrAt_in 0 rfl _).trans (A_eq m R c 0)),
    (h c).2 main_arg1 (Pipeline.mem_restRefs_of main_arg1 (by decide) (show ∀ w : Fin 2, (spec0 w).arr.view.ref ≠ _ by decide)),
    (h c).2 main_arg2 (Pipeline.mem_restRefs_of main_arg2 (by decide) (show ∀ w : Fin 2, (spec0 w).arr.view.ref ≠ _ by decide)),
    (h c).2 main_arg3 (Pipeline.mem_restRefs_of main_arg3 (by decide) (show ∀ w : Fin 2, (spec0 w).arr.view.ref ≠ _ by decide)),
    (h c).2 main_arg4 (Pipeline.mem_restRefs_of main_arg4 (by decide) (show ∀ w : Fin 2, (spec0 w).arr.view.ref ≠ _ by decide))⟩

include R in
theorem frame_main : θ_run defs (onTc (τ := τ) (main (F := F))) ⟨m, fun _ => 0, ρ⟩ (fun r => (∀ c : Dev nD, Kept m r.2.mem c) ∧ r.2.sem = fun _ => 0) :=
  (θ_run defs _ _).mono (fun _ h => ⟨fun c => kept_of m R h.1 c, h.2⟩) (run_main m ρ R)

end Cert.Proof.Experts

end
-- ==== Proof.Experts.Array.lean ====
/- The array that the call `moe_down` leaves, at the ideal instance: of a row of a used tile, its sums against the columns of
   its tile's expert's weights; zero elsewhere. -/
module

public import proofs.«01_k».proof.Proof.Experts.Whole
public import Idealize.ShloMosaic.Lib.MatmulPlain
public import Idealize.ShloMosaic.Lib.ValueIdx
public import Idealize.ShloMosaic.PureOps.IdealRules

@[expose] public section

set_option maxRecDepth 16384

noncomputable section

namespace Cert.Proof.Experts

open Cert.ExpDownIdeal Cert.ExpDownIdeal.Gen
open Idealize.ShloMosaic Idealize.ShloMosaic.TcCoe Idealize.ShloMosaic.ValueIdx Idealize.SL.Sem
open Finset (univ)

theorem bits_nil : (FloatOps.ofBits .f32 0x00000000#32 : Ideal .f32) = (0 : EReal) := by
  show Ideal.ofBits .f32 0x00000000#32 = _
  simp [Ideal.ofBits, Ideal.ieee, -EReal.coe_mul]

/-- Row `r` against column `e` of the weights of one expert. -/
def sums (X : S36864x5632.Idx → EReal) (W : S8x5632x2048.Idx → EReal) (x : Fin 8) (r : Fin 36864) (e : Fin 2048) : EReal :=
  ∑ k : Fin 5632, X (ix2 r k) * W (ix3 x k e)

/-- The expert that a table names for a tile. -/
def own (te : ℕ → BitVec 32) (t : ℕ) : Fin 8 := ⟨(te t).toNat % 8, Nat.mod_lt _ (by decide)⟩

/-- The result at row `r` and column `e`: tile `r / 512`'s expert's, if that tile is used. -/
def value (X : S36864x5632.Idx → EReal) (W : S8x5632x2048.Idx → EReal) (te : ℕ → BitVec 32) (n : ℕ) (r : Fin 36864) (e : Fin 2048) : EReal :=
  if r.val / 512 < n then sums X W (own te (r.val / 512)) r e else 0

theorem half_apply (X : Vec Ideal S512x5632 .bf16) (B : Vec Ideal S5632x512 .bf16) (r : Fin 512) (e : Fin 512) :
    k0_pay2 X B (ix2 r e) = ∑ k : Fin 5632, X (ix2 r k) * B (ix2 k e) := by
  unfold k0_pay2
  show matmul (F := Ideal) (φ₁ := .bf16) (φ₂ := .bf16) (DotDims.plain 512 5632 512) none X B (constant S512x512 .f32 0x00000000#32) (ix2 r e) = _
  refine (Ideal.matmul_plain_apply _ _ _ _ r e).trans ?_
  show (FloatOps.ofBits .f32 0x00000000#32 : Ideal .f32) + _ = _
  rw [bits_nil, zero_add]

theorem halves_same (X : Vec Ideal S512x5632 .bf16) (B : Vec Ideal S5632x512 .bf16) : k0_pay3 X B = k0_pay2 X B := rfl

theorem product_apply (X : Vec Ideal S512x5632 .bf16) (B : Vec Ideal S5632x1024 .bf16) (y : S512x1024.Idx) :
    product X B y = ∑ k : Fin 5632, X (ix2 (y 0) k) * B (ix2 k (y 1)) := by
  have hy : (y 1).val < 1024 := (y 1).isLt
  have h0 : (y 0).val < 512 := (y 0).isLt
  unfold product
  split
  · rename_i h
    refine Eq.trans (congrArg (k0_pay2 X _) (?_ : _ = ix2 (⟨(y 0).val, h0⟩ : Fin 512) (⟨(y 1).val, h⟩ : Fin 512))) ((half_apply X _ _ _).trans ?_)
    · funext a
      match a with
      | ⟨0, _⟩ => rfl
      | ⟨1, _⟩ => rfl
    · refine Finset.sum_congr rfl fun k _ => ?_
      congr 1
      refine congrArg B (funext fun a => Fin.ext ?_)
      match a with
      | ⟨0, _⟩ => show 0 + 1 * k.val = k.val; omega
      | ⟨1, _⟩ => show 0 + 1 * (y 1).val = (y 1).val; omega
  · rename_i h
    rw [halves_same]
    refine Eq.trans (congrArg (k0_pay2 X _) (?_ : _ = ix2 (⟨(y 0).val, h0⟩ : Fin 512) (⟨(y 1).val - 512, by omega⟩ : Fin 512))) ((half_apply X _ _ _).trans ?_)
    · funext a
      match a with
      | ⟨0, _⟩ => rfl
      | ⟨1, _⟩ => rfl
    · refine Finset.sum_congr rfl fun k _ => ?_
      congr 1
      refine congrArg B (funext fun a => Fin.ext ?_)
      match a with
      | ⟨0, _⟩ => show 0 + 1 * k.val = k.val; omega
      | ⟨1, _⟩ => show 512 + 1 * ((y 1).val - 512) = (y 1).val; omega

variable (m : (ℓ : Loc nD τ sig) → Buf (Elt Ideal) ℓ) (R : IsRouted m) (c : Dev nD)

/-- The result. -/
def result : FVec Ideal S36864x2048 .f32 := fun i => value (V m c main_arg0) (V m c main_arg1) (expertOf m) (used m) (i 0) (i 1)

theorem out_apply (t : Fin grid0.N) (y : S512x1024.Idx) (r : Fin 36864) (e : Fin 2048) (hr : r.val = 512 * (t.val % 72) + (y 0).val) (he : e.val = 1024 * (t.val / 72) + (y 1).val) :
    outAt m c t y = value (V m c main_arg0) (V m c main_arg1) (expertOf m) (used m) r e := by
  have h0 : (y 0).val < 512 := (y 0).isLt
  have h1 : (y 1).val < 1024 := (y 1).isLt
  have ht : r.val / 512 = t.val % 72 := by omega
  have hm : t.val % 72 < 72 := Nat.mod_lt _ (by decide)
  unfold outAt outcome value
  rw [ht]
  split
  · rename_i h
    rw [product_apply]
    unfold sums
    refine Finset.sum_congr rfl fun k _ => ?_
    congr 1
    · unfold rowsAt tile
      refine congrArg (V m c main_arg0) (funext fun a => Fin.ext ?_)
      match a with
      | ⟨0, _⟩ => show (512 * min (t.val % 72) (used m - 1) + (y 0).val) % 36864 = r.val; rw [show min (t.val % 72) (used m - 1) = t.val % 72 by omega]; omega
      | ⟨1, _⟩ => rfl
    · unfold block rounded
      refine (truncf_apply (φ := .f32) (ψ := .bf16) _ _ _).trans ?_
      unfold weights
      refine congrArg (V m c main_arg1) (funext fun a => Fin.ext ?_)
      match a with
      | ⟨0, _⟩ => rfl
      | ⟨1, _⟩ => rfl
      | ⟨2, _⟩ => show (1024 * (t.val / 72) + (y 1).val) % 2048 = e.val; have := e.isLt; omega
  · exact bits_nil

theorem flush_out (t : Fin grid0.N) : ((cfgM m R).win 1).flush t = true :=
  (Pipeline.Window.flush_reads ((cfgM m R).win 1) rfl 1 (show 1 < grid0.bound 1 by decide) (show grid0.fixedAfter reads0_1 1 = true by decide) (Pipeline.Window.sep_of_coord cc0_transform_2 1 0 (fun _ => rfl) (by decide)) (P := 1) (m := 0) (show grid0.stride 1 = 1 by decide) rfl t).mpr (Nat.mod_one _)

theorem word_val (n : ℕ) (h : n < 144) : (BitVec.ofNat 32 n).toNat = n := by rw [BitVec.toNat_ofNat]; omega

theorem flushed_eq (t : Fin grid0.N) : (dats m R 0 c).flushed 1 t = (((cfgM m R).win 1).blk t).view.read (Elt Ideal) (result m c) := by
  show ((cfgM m R).win 1).cut (grid0.coords t) ((dats m R 0 c).after 1 t) = _
  rw [after_out]
  have ht : t.val < 144 := lt_of_lt_of_eq t.isLt N_0
  obtain ⟨e0, e1⟩ := coords_at t
  refine funext fun (y : S512x1024.Idx) => ?_
  have key : ∀ p : S36864x2048.Idx, (p 0).val = 512 * (t.val % 72) + (y 0).val → (p 1).val = 1024 * (t.val / 72) + (y 1).val → outAt m c t y = result m c p :=
    fun p h h' => out_apply m c t y (p 0) (p 1) h h'
  refine key ((((cfgM m R).win 1).blk t).view.emb y) ?_ ?_
  · show (BitVec.ofNat 32 (grid0.coords t 1).val).toNat * 512 + 1 * (y 0).val = _
    rw [e1, word_val _ (by omega)]; omega
  · show (BitVec.ofNat 32 (grid0.coords t 0).val).toNat * 1024 + 1 * (y 1).val = _
    rw [e0, word_val _ (by omega)]; omega

theorem in_slice (i : S36864x2048.Idx) (off : Fin 2 → ℕ) (h : ∀ a, off a + S512x1024.size a ≤ S36864x2048.size a)
    (hi : ∀ a, off a ≤ (i a).val ∧ (i a).val < off a + S512x1024.size a) :
    i ∈ ((View.whole main_v0).slice (Rect.unit (s := S36864x2048) off S512x1024.size h)).set := by
  rw [View.set_slice_whole, Rect.mem_set_unit]
  exact hi

theorem covered (i : S36864x2048.Idx) : ∃ t : Fin grid0.N, ((cfgM m R).win 1).flush t = true ∧ i ∈ (((cfgM m R).win 1).blk t).view.set := by
  have h0 : (i 0).val < 36864 := (i 0).isLt
  have h1 : (i 1).val < 2048 := (i 1).isLt
  have ht : (i 1).val / 1024 * 72 + (i 0).val / 512 < grid0.N := by rw [show grid0.N = 144 from N_0]; omega
  obtain ⟨e0, e1⟩ := coords_at ⟨_, ht⟩
  refine ⟨⟨_, ht⟩, flush_out m R _, ?_⟩
  refine in_slice i _ _ fun a => ?_
  match a with
  | ⟨0, _⟩ =>
    show (BitVec.ofNat 32 (grid0.coords ⟨_, ht⟩ 1).val).toNat * 512 ≤ (i 0).val ∧ (i 0).val < (BitVec.ofNat 32 (grid0.coords ⟨_, ht⟩ 1).val).toNat * 512 + 512
    rw [e1, word_val _ (by omega)]
    show ((i 1).val / 1024 * 72 + (i 0).val / 512) % 72 * 512 ≤ (i 0).val ∧ (i 0).val < ((i 1).val / 1024 * 72 + (i 0).val / 512) % 72 * 512 + 512
    omega
  | ⟨1, _⟩ =>
    show (BitVec.ofNat 32 (grid0.coords ⟨_, ht⟩ 0).val).toNat * 1024 ≤ (i 1).val ∧ (i 1).val < (BitVec.ofNat 32 (grid0.coords ⟨_, ht⟩ 0).val).toNat * 1024 + 1024
    rw [e0, word_val _ (by show ((i 1).val / 1024 * 72 + (i 0).val / 512) / 72 < 144; omega)]
    show ((i 1).val / 1024 * 72 + (i 0).val / 512) / 72 * 1024 ≤ (i 1).val ∧ (i 1).val < ((i 1).val / 1024 * 72 + (i 0).val / 512) / 72 * 1024 + 1024
    omega

/-- The call leaves the result. -/
theorem final_out : (dats m R 0 c).arrAt 1 (cfgM m R).N = result m c :=
  (dats m R 0 c).arrAt_eq_of_cover 1 (result m c) (fun t _ => flushed_eq m R c t) (covered m R)

end Cert.Proof.Experts

end
-- ==== Proof.Experts.Plain.lean ====
/- The reference of the call `moe_down` element by element at the ideal instance: of the eight experts' sums of a row, that of
   the row's own expert, or none. -/
module

public import proofs.«01_k».proof.Proof.Experts.Array
public import proofs.«01_k».proof.Proof.Gen.ExpDownReferenceIdeal
public import proofs.«01_k».proof.Proof.Gen.ExpDownReferenceIdeal.Run
public import Idealize.ShloMosaic.Lib.Claim
public import Idealize.ShloMosaic.Lib.Pointwise.Reduce
public import Idealize.ShloMosaic.Lib.StableHlo.Predicate

@[expose] public section

set_option maxRecDepth 16384

noncomputable section

namespace Cert.Proof.Experts

open Cert.ExpDownReferenceIdeal Cert.ExpDownReferenceIdeal.Gen
open Idealize.ShloMosaic hiding ix1 ix2 ix3 ix4
open Idealize.ShloMosaic.TcCoe Idealize.ShloMosaic.ValueIdx Idealize.SL.Sem
open StableHlo.Predicate
open Finset (univ)

/-- The sums of every row against the columns of every expert's weights. -/
def every (X : FVec Ideal S36864x5632 .f32) (W : FVec Ideal S8x5632x2048 .f32) : FVec Ideal S36864x8x2048 .f32 :=
  Host.dotGeneral dot_S36864x5632_S8x5632x2048_S36864x8x2048_1_1_0_02_n_n none X W

theorem every_apply (X : FVec Ideal S36864x5632 .f32) (W : FVec Ideal S8x5632x2048 .f32) (r : Fin 36864) (x : Fin 8) (e : Fin 2048) :
    every X W (ix3 r x e) = sums X W x r e := by
  unfold every
  simp only [Host.dotGeneral, Ideal.dotGeneral_apply]
  rw [← Equiv.sum_comp (contrEquiv1 dot_S36864x5632_S8x5632x2048_S36864x8x2048_1_1_0_02_n_n 5632 rfl rfl).symm]
  refine Finset.sum_congr rfl fun d _ => ?_
  congr 2
  · funext a
    refine Fin.ext ?_
    match a with
    | ⟨0, _⟩ => rfl
    | ⟨1, _⟩ => exact contrEquiv1_symm_val dot_S36864x5632_S8x5632x2048_S36864x8x2048_1_1_0_02_n_n 5632 rfl rfl d
  · funext a
    refine Fin.ext ?_
    match a with
    | ⟨0, _⟩ => rfl
    | ⟨1, _⟩ => exact contrEquiv1_symm_val dot_S36864x5632_S8x5632x2048_S36864x8x2048_1_1_0_02_n_n 5632 rfl rfl d
    | ⟨2, _⟩ => rfl

/-- A tile's expert, `-1` past the tiles in use. -/
def tileWord (te : IVec S72 32) (nu : IVec S1 32) : IVec S72 32 :=
  select (cmpi .slt (iotaInDim S72 32 0) (broadcastInDim S72 ![0] bcast_S1_S72_0 nu)) te (broadcastInDim S72 ![] bcast_S_S72 (id (constantI S_ 32 4294967295#32)))

/-- The same, for each row. -/
def rowWord (te : IVec S72 32) (nu : IVec S1 32) : IVec S36864 32 :=
  shapeCast _ (broadcastInDim S72x512 ![0] bcast_S72_S72x512_0 (tileWord te nu)) shapeCasts_S72x512_S36864

/-- Whether a row is an expert's. -/
def mine (te : IVec S72 32) (nu : IVec S1 32) : IVec S36864x8x2048 1 :=
  broadcastInDim S36864x8x2048 ![0, 1, 2] bcast_S36864x8x1_S36864x8x2048_0_1_2 (broadcastInDim S36864x8x1 ![0, 1] bcast_S36864x8_S36864x8x1_0_1
    (cmpi .eq (broadcastInDim S36864x8 ![0, 1] bcast_S36864x1_S36864x8_0_1 (broadcastInDim S36864x1 ![0] bcast_S36864_S36864x1_0 (rowWord te nu)))
      (broadcastInDim S36864x8 ![0, 1] bcast_S1x8_S36864x8_0_1 (broadcastInDim S1x8 ![1] bcast_S8_S1x8_1 (iotaInDim S8 32 0)))))

/-- The reference's result of its arguments. -/
def plain (X : FVec Ideal S36864x5632 .bf16) (W : FVec Ideal S8x5632x2048 .f32) (te : IVec S72 32) (nu : IVec S1 32) : FVec Ideal S36864x2048 .f32 :=
  Host.reduceAdd (select (mine te nu) (every (extf .f32 X bitsLt_bf16_f32) W) (broadcastInDim S36864x8x2048 ![] bcast_S_S36864x8x2048 (id (constant S_ .f32 0x00000000#32))))
    (constant S_ .f32 0x00000000#32) reducesTo_S36864x8x2048_S36864x2048_d1 h_S_

/-- The position of row `r` alone. -/
def at36864 (r : Fin 36864) : S36864.Idx := fun a => match a with | ⟨0, _⟩ => r

theorem tileWord_apply (te : IVec S72 32) (nu : IVec S1 32) (hn : (count nu).toNat ≤ 72) (t : ℕ) (ht : t < 72) :
    tileWord te nu (at72 t) = if t < (count nu).toNat then entry te t else 4294967295#32 := by
  have hc : broadcastInDim S72 ![0] bcast_S1_S72_0 nu (at72 t) = count nu := congrArg nu (one_index _ _)
  have hi : (BitVec.ofNat 32 (t % 72)).toNat = t := by rw [BitVec.toNat_ofNat]; omega
  show Scalar.select (IntOp.cmpi .slt (BitVec.ofNat 32 (t % 72)) (broadcastInDim S72 ![0] bcast_S1_S72_0 nu (at72 t))) (entry te t) 4294967295#32 = _
  rw [hc]
  have iff := slt_iff_toNat (a := BitVec.ofNat 32 (t % 72)) (b := count nu) (by omega) (by omega)
  rw [hi] at iff
  unfold Scalar.select
  by_cases h : t < (count nu).toNat
  · rw [if_pos h]; exact if_pos (iff.mpr h)
  · rw [if_neg h]; exact if_neg fun q => h (iff.mp q)

theorem rowWord_apply (te : IVec S72 32) (nu : IVec S1 32) (r : Fin 36864) : rowWord te nu (at36864 r) = tileWord te nu (at72 (r.val / 512)) := by
  have hr := r.isLt
  unfold rowWord
  refine (shapeCast_apply _ _ (at36864 r) (ix2 (⟨r.val / 512, by omega⟩ : Fin 72) (⟨r.val % 512, by omega⟩ : Fin 512)) ?_).trans ?_
  · rw [Shape.rowMajor_val_two, Shape.rowMajor_val_one]
    show r.val / 512 * 512 + r.val % 512 = r.val
    omega
  · refine congrArg (tileWord te nu) (funext fun a => Fin.ext ?_)
    match a with
    | ⟨0, _⟩ => show r.val / 512 = r.val / 512 % 72; omega

theorem mine_apply (te : IVec S72 32) (nu : IVec S1 32) (r : Fin 36864) (x : Fin 8) (e : Fin 2048) :
    mine te nu (ix3 r x e) = IntOp.cmpi .eq (rowWord te nu (at36864 r)) (BitVec.ofNat 32 x.val) := by
  refine congrArg (fun w => IntOp.cmpi .eq w (BitVec.ofNat 32 x.val)) (congrArg (rowWord te nu) (funext fun a => Fin.ext ?_))
  match a with
  | ⟨0, _⟩ => rfl

theorem term_apply (X : FVec Ideal S36864x5632 .bf16) (W : FVec Ideal S8x5632x2048 .f32) (te : IVec S72 32) (nu : IVec S1 32) (r : Fin 36864) (x : Fin 8) (e : Fin 2048) :
    select (mine te nu) (every (extf .f32 X bitsLt_bf16_f32) W) (broadcastInDim S36864x8x2048 ![] bcast_S_S36864x8x2048 (id (constant S_ .f32 0x00000000#32))) (ix3 r x e)
      = if rowWord te nu (at36864 r) = BitVec.ofNat 32 x.val then sums X W x r e else 0 := by
  show Scalar.select (mine te nu (ix3 r x e)) (every (extf .f32 X bitsLt_bf16_f32) W (ix3 r x e)) (FloatOps.ofBits .f32 0x00000000#32 : Ideal .f32) = _
  rw [mine_apply, every_apply, bits_nil]
  unfold Scalar.select
  by_cases h : rowWord te nu (at36864 r) = BitVec.ofNat 32 x.val
  · rw [if_pos h]; exact if_pos (cmpi_eq_iff.mpr h)
  · rw [if_neg h]; exact if_neg fun q => h (cmpi_eq_iff.mp q)

theorem plain_apply (X : FVec Ideal S36864x5632 .bf16) (W : FVec Ideal S8x5632x2048 .f32) (te nx : IVec S72 32) (nu : IVec S1 32)
    (R : Routed (entry te) (entry nx) (count nu).toNat) (r : Fin 36864) (e : Fin 2048) :
    plain X W te nu (ix2 r e) = value X W (entry te) (count nu).toNat r e := by
  have hr := r.isLt
  have hle := R.le
  have hp : plain X W te nu (ix2 r e) = ∑ x : Fin 8, if rowWord te nu (at36864 r) = BitVec.ofNat 32 x.val then sums X W x r e else 0 := by
    unfold plain
    rw [Host.reduceAdd_apply]
    refine (Ideal.hostReduceAdd_r3_a1 _ _ _ (ix2 r e)).trans ?_
    show (FloatOps.ofBits .f32 0x00000000#32 : Ideal .f32) + _ = _
    rw [bits_nil, zero_add]
    refine Finset.sum_congr rfl fun x _ => ?_
    exact term_apply X W te nu r x e
  rw [hp, rowWord_apply, tileWord_apply te nu hle _ (by omega)]
  unfold value
  by_cases h : r.val / 512 < (count nu).toNat
  · have hx := R.expert _ h
    rw [if_pos h, if_pos h]
    have own_eq : (own (entry te) (r.val / 512)).val = (entry te (r.val / 512)).toNat := Nat.mod_eq_of_lt hx
    rw [Finset.sum_eq_single (own (entry te) (r.val / 512))]
    · exact if_pos (BitVec.eq_of_toNat_eq (by rw [BitVec.toNat_ofNat, own_eq]; omega))
    · intro x _ hne
      refine if_neg fun q => hne (Fin.ext ?_)
      rw [own_eq, q, BitVec.toNat_ofNat]
      have := x.isLt
      omega
    · intro hn
      exact absurd (Finset.mem_univ _) hn
  · rw [if_neg h, if_neg h]
    refine Finset.sum_eq_zero fun x _ => if_neg fun q => ?_
    have := congrArg BitVec.toNat q
    rw [BitVec.toNat_ofNat, BitVec.toNat_ofNat] at this
    have := x.isLt
    omega

/-- Every index of the result names a row and a column. -/
theorem index_eq (i : S36864x2048.Idx) : ∃ (r : Fin 36864) (e : Fin 2048), i = ix2 r e := by
  refine ⟨i 0, i 1, funext fun a => ?_⟩
  match a with
  | ⟨0, _⟩ => rfl
  | ⟨1, _⟩ => rfl

end Cert.Proof.Experts

end
-- ==== Proof.Gated.Body.lean ====
module

public import proofs.«01_k».proof.Proof.Gen.ExpUpIdeal.Launch
public import proofs.«01_k».proof.Proof.Gen.ExpUpIdeal.Skeleton
public import Idealize.ShloMosaic.Lib.Pipeline.FrameBody
public import Idealize.ShloMosaic.Lib.VecWindow
public import Idealize.ShloMosaic.Lib.Pipeline.Value
public import Idealize.ShloMosaic.Lib.Tactic
public import Idealize.ShloMosaic.Lib.WordCmp

@[expose] public section

set_option maxRecDepth 16384

noncomputable section

namespace Cert.Proof.Gated

open Cert.ExpUpIdeal Cert.ExpUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The algebra of the run: the pipeline's beside the transfers' counters. -/
local notation "𝕄" => MT nD τ sig Unit (Elt F) ℕ (Pipeline.UD sig nD τ) ℕ

/-- The three tables: each tile's expert, how many tiles are used, and the expert after each tile's run of tiles. -/
abbrev mTe : Memref sig .tc .smem S72 .i32 := Memref.whole main_arg3
abbrev mNu : Memref sig .tc .smem S1 .i32 := Memref.whole main_arg4
abbrev mNx : Memref sig .tc .smem S72 .i32 := Memref.whole main_arg5
/-- The gate and up weights of all experts, the blocks of them in arrival, and the two rounded blocks in use, side by side in groups of columns. -/
abbrev mG : Memref sig .tc .hbm S8x2048x5632 .f32 := Memref.whole main_arg1
abbrev mU : Memref sig .tc .hbm S8x2048x5632 .f32 := Memref.whole main_arg2
abbrev mSg : Memref sig .tc .vmem S2048x1408 .f32 := Memref.whole cc0_scratch0
abbrev mSu : Memref sig .tc .vmem S2048x1408 .f32 := Memref.whole cc0_scratch1
abbrev mB : Memref sig .tc .vmem S2048x2816 .bf16 := Memref.whole cc0_scratch2
/-- The counters of the two arrivals. -/
abbrev sG : DmaSem sig := ((cc0_scratch3.slice (Rect.unit (s := S2) ![0] S1.size inb_S2_S1_0)).squeeze S_ squeezes_S1_S_).sem
abbrev sU : DmaSem sig := ((cc0_scratch3.slice (Rect.unit (s := S2) ![1] S1.size inb_S2_S1_1)).squeeze S_ squeezes_S1_S_).sem

/-! ## The words the body reads -/

section Words
variable (i : grid0.Coords) (T2 : BufTy.Contents (Elt F) mTe.view.ty) (T3 : BufTy.Contents (Elt F) mNu.view.ty) (T4 : BufTy.Contents (Elt F) mNx.view.ty)

abbrev usedW : BitVec 32 := mNu.view.readAt (Elt F) (Rect.unit (s := S1) ![0] S1.size inb_S1_S1_0).toLoadRect T3 (Shape.Idx.first (show 0 < S1.numel by decide))
abbrev hereW : BitVec 32 := mTe.view.readAt (Elt F) (Rect.unit (s := S72) (k0_off1 i) S1.size (k0_off1_inb i)).toLoadRect T2 (Shape.Idx.first (show 0 < S1.numel by decide))
abbrev backW : BitVec 32 := mTe.view.readAt (Elt F) (Rect.unit (s := S72) (k0_off2 i) S1.size (k0_off2_inb i)).toLoadRect T2 (Shape.Idx.first (show 0 < S1.numel by decide))
abbrev headW : BitVec 32 := mTe.view.readAt (Elt F) (Rect.unit (s := S72) ![0] S1.size inb_S72_S1_0).toLoadRect T2 (Shape.Idx.first (show 0 < S1.numel by decide))
abbrev nextW : BitVec 32 := mNx.view.readAt (Elt F) (Rect.unit (s := S72) (k0_off24 i) S1.size (k0_off24_inb i)).toLoadRect T4 (Shape.Idx.first (show 0 < S1.numel by decide))
end Words

/-! ## The blocks -/

/-- Columns `1408 * j` to `1408 * j + 1407` of expert `e`'s weights. -/
def weights {α : Type} (W : S8x2048x5632.Idx → α) (e j : ℕ) : S2048x1408.Idx → α := fun y =>
  W fun a => match a with
    | ⟨0, _⟩ => ⟨e % 8, Nat.mod_lt _ (by decide)⟩
    | ⟨1, _⟩ => ⟨(y 0).val, (y 0).isLt⟩
    | ⟨2, _⟩ => ⟨(1408 * j + (y 1).val) % 5632, Nat.mod_lt _ (by decide)⟩

/-- Row `r`, column `k` of a block. -/
def cell (r k : ℕ) : S2048x1408.Idx := fun a => match a with
  | ⟨0, _⟩ => ⟨r % 2048, Nat.mod_lt _ (by decide)⟩
  | ⟨1, _⟩ => ⟨k % 1408, Nat.mod_lt _ (by decide)⟩

/-- How many columns group `g` takes of each block. -/
def width (g : ℕ) : ℕ := if g < 5 then 256 else 128

/-- What column `p` of the two blocks side by side holds: of each group of columns first the gate's, then the up's. -/
def side {α : Type} (G U : S2048x1408.Idx → α) (r p : ℕ) : α :=
  if p - 512 * (p / 512) < width (p / 512) then G (cell r (256 * (p / 512) + (p - 512 * (p / 512))))
  else U (cell r (256 * (p / 512) + (p - 512 * (p / 512) - width (p / 512))))

/-- Two blocks of weights, rounded, side by side. -/
def packed (G U : Vec F S2048x1408 .f32) : Vec F S2048x2816 .bf16 := fun y =>
  FloatOps.truncf .bf16 bitsLt_bf16_f32 (side G U (y 0).val (y 1).val)

theorem gate_in {α : Type} (G U : S2048x1408.Idx → α) (r p g : ℕ) (x : S2048x1408.Idx) (hg : g ≤ 5) (h1 : 512 * g ≤ p) (h2 : p < 512 * g + width g)
    (hx0 : (x 0).val = r) (hx1 : (x 1).val = 256 * g + (p - 512 * g)) : G x = side G U r p := by
  have hr : (x 0).val < 2048 := (x 0).isLt
  have hk : (x 1).val < 1408 := (x 1).isLt
  have hw : width g ≤ 256 := by unfold width; split <;> omega
  have e : p / 512 = g := by omega
  unfold side
  rw [e, if_pos (by omega)]
  refine congrArg G (funext fun a => Fin.ext ?_)
  match a with
  | ⟨0, _⟩ => show (x 0).val = r % 2048; omega
  | ⟨1, _⟩ => show (x 1).val = (256 * g + (p - 512 * g)) % 1408; omega

theorem up_in {α : Type} (G U : S2048x1408.Idx → α) (r p g : ℕ) (x : S2048x1408.Idx) (hg : g ≤ 5) (h1 : 512 * g + width g ≤ p) (h2 : p < 512 * g + 2 * width g)
    (hx0 : (x 0).val = r) (hx1 : (x 1).val = 256 * g + (p - 512 * g - width g)) : U x = side G U r p := by
  have hr : (x 0).val < 2048 := (x 0).isLt
  have hk : (x 1).val < 1408 := (x 1).isLt
  have hw : width g ≤ 256 := by unfold width; split <;> omega
  have e : p / 512 = g := by omega
  unfold side
  rw [e, if_neg (by omega)]
  refine congrArg U (funext fun a => Fin.ext ?_)
  match a with
  | ⟨0, _⟩ => show (x 0).val = r % 2048; omega
  | ⟨1, _⟩ => show (x 1).val = (256 * g + (p - 512 * g - width g)) % 1408; omega

/-- A cell after a store: the payload's inside the window, what it was outside. -/
theorem put_at {α : Type} {n m : ℕ} (A : (⟨2, ![n, m]⟩ : Shape).Idx → α) (r0 c0 : ℕ) (size : Fin 2 → ℕ) (v : ((a : Fin 2) → Fin (size a)) → α)
    (y : (⟨2, ![n, m]⟩ : Shape).Idx) (z : α)
    (h1 : ∀ x : (a : Fin 2) → Fin (size a), (x 0).val + r0 = (y 0).val → (x 1).val + c0 = (y 1).val → v x = z)
    (h2 : ¬ (r0 ≤ (y 0).val ∧ (y 0).val < r0 + size 0 ∧ c0 ≤ (y 1).val ∧ (y 1).val < c0 + size 1) → A y = z) :
    VecWindow.put (s := ⟨2, ![n, m]⟩) A ![r0, c0] size v y = z := by
  unfold VecWindow.put
  split
  · rename_i h
    have ha : r0 ≤ (y 0).val := (h 0).1
    have hb : c0 ≤ (y 1).val := (h 1).1
    refine h1 _ ?_ ?_
    · show (y 0).val - r0 + r0 = (y 0).val
      omega
    · show (y 1).val - c0 + c0 = (y 1).val
      omega
  · rename_i h
    refine h2 fun hc => h fun a => ?_
    fin_cases a
    · exact ⟨hc.1, hc.2.1⟩
    · exact ⟨hc.2.2.1, hc.2.2.2⟩

/-- The hidden units of one group of columns of a tile. -/
def part (X : Vec F S512x2048 .f32) (B : Vec F S2048x2816 .bf16) (lo : ℕ) (inb : ∀ a, (![0, lo] : Fin 2 → ℕ) a + S2048x512.size a ≤ S2048x2816.size a) : FVec F S512x256 .bf16 :=
  k0_pay18 X (VecWindow.window (s := S2048x2816) B ![0, lo] S2048x512.size inb)

/-- A result's block after the six stores of a used tile. -/
def written (A : Vec F S512x1408 .bf16) (X : Vec F S512x2048 .f32) (B : Vec F S2048x2816 .bf16) : Vec F S512x1408 .bf16 :=
  VecWindow.put (s := S512x1408) (VecWindow.put (s := S512x1408) (VecWindow.put (s := S512x1408) (VecWindow.put (s := S512x1408) (VecWindow.put (s := S512x1408) (VecWindow.put (s := S512x1408) A ![0, 0] S512x256.size (part X B 0 inb_S2048x2816_S2048x512_0_0))
     ![0, 256] S512x256.size (part X B 512 inb_S2048x2816_S2048x512_0_512))
     ![0, 512] S512x256.size (part X B 1024 inb_S2048x2816_S2048x512_0_1024))
     ![0, 768] S512x256.size (part X B 1536 inb_S2048x2816_S2048x512_0_1536))
     ![0, 1024] S512x256.size (part X B 2048 inb_S2048x2816_S2048x512_0_2048))
     ![0, 1280] S512x128.size (k0_pay2 (k0_pay17 X) (VecWindow.window (s := S2048x2816) B ![0, 2560] S2048x256.size inb_S2048x2816_S2048x256_0_2560))

/-- The hidden units of a tile. -/
def product (X : Vec F S512x2048 .f32) (B : Vec F S2048x2816 .bf16) : Vec F S512x1408 .bf16 := written (k0_pay3 (F := F)) X B

theorem put_congr {α : Type} {n m : ℕ} (A A' : (⟨2, ![n, m]⟩ : Shape).Idx → α) (r0 c0 : ℕ) (size : Fin 2 → ℕ) (v : ((a : Fin 2) → Fin (size a)) → α)
    (y : (⟨2, ![n, m]⟩ : Shape).Idx)
    (h : ¬ (r0 ≤ (y 0).val ∧ (y 0).val < r0 + size 0 ∧ c0 ≤ (y 1).val ∧ (y 1).val < c0 + size 1) → A y = A' y) :
    VecWindow.put (s := ⟨2, ![n, m]⟩) A ![r0, c0] size v y = VecWindow.put (s := ⟨2, ![n, m]⟩) A' ![r0, c0] size v y := by
  unfold VecWindow.put
  split
  · rfl
  · rename_i hn
    refine h fun hc => hn fun a => ?_
    fin_cases a
    · exact ⟨hc.1, hc.2.1⟩
    · exact ⟨hc.2.2.1, hc.2.2.2⟩

/-- The six stores of a used tile leave its hidden units. -/
theorem stored (A : Vec F S512x1408 .bf16) (X : Vec F S512x2048 .f32) (B : Vec F S2048x2816 .bf16) : written A X B = product X B := by
  funext y
  have y0 : (y 0).val < 512 := (y 0).isLt
  have y1 : (y 1).val < 1408 := (y 1).isLt
  unfold product written
  refine put_congr _ _ _ _ _ _ _ fun n1 => put_congr _ _ _ _ _ _ _ fun n2 => put_congr _ _ _ _ _ _ _ fun n3 => put_congr _ _ _ _ _ _ _ fun n4 =>
    put_congr _ _ _ _ _ _ _ fun n5 => put_congr _ _ _ _ _ _ _ fun n6 => ?_
  replace n1 : ¬ (0 ≤ (y 0).val ∧ (y 0).val < 0 + 512 ∧ 1280 ≤ (y 1).val ∧ (y 1).val < 1280 + 128) := n1
  replace n2 : ¬ (0 ≤ (y 0).val ∧ (y 0).val < 0 + 512 ∧ 1024 ≤ (y 1).val ∧ (y 1).val < 1024 + 256) := n2
  replace n3 : ¬ (0 ≤ (y 0).val ∧ (y 0).val < 0 + 512 ∧ 768 ≤ (y 1).val ∧ (y 1).val < 768 + 256) := n3
  replace n4 : ¬ (0 ≤ (y 0).val ∧ (y 0).val < 0 + 512 ∧ 512 ≤ (y 1).val ∧ (y 1).val < 512 + 256) := n4
  replace n5 : ¬ (0 ≤ (y 0).val ∧ (y 0).val < 0 + 512 ∧ 256 ≤ (y 1).val ∧ (y 1).val < 256 + 256) := n5
  replace n6 : ¬ (0 ≤ (y 0).val ∧ (y 0).val < 0 + 512 ∧ 0 ≤ (y 1).val ∧ (y 1).val < 0 + 256) := n6
  omega

theorem pay19_eq : k0_pay19 (F := F) = k0_pay18 := rfl
theorem pay23_eq (X : Vec F S512x2048 .f32) (B : Vec F S2048x512 .bf16) : k0_pay23 (F := F) (k0_pay21 X B) (k0_pay22 X B) (Scalar.ofBits .f32 0x00000000#32) = k0_pay18 X B := rfl
theorem pay24_eq (X : Vec F S512x2048 .f32) (B : Vec F S2048x512 .bf16) : k0_pay24 (F := F) (k0_pay17 X) B = k0_pay18 X B := rfl
theorem pay25_eq (X : Vec F S512x2048 .f32) (B : Vec F S2048x512 .bf16) : k0_pay25 (F := F) (k0_pay17 X) B = k0_pay18 X B := rfl

/-! ## The rounding of one band of rows -/

theorem wide (t lo : ℕ) (ht : t < 8) (hlo : lo + 256 ≤ 1408) : ∀ a, (![256 * t, lo] : Fin 2 → ℕ) a + S256x256.size a ≤ S2048x1408.size a := by
  intro a
  fin_cases a
  · show 256 * t + 256 ≤ 2048
    omega
  · show lo + 256 ≤ 1408
    omega

theorem narrow (t : ℕ) (ht : t < 8) : ∀ a, (![256 * t, 1280] : Fin 2 → ℕ) a + S256x128.size a ≤ S2048x1408.size a := by
  intro a
  fin_cases a
  · show 256 * t + 256 ≤ 2048
    omega
  · show 1280 + 128 ≤ 1408
    omega

/-- The rounded blocks after the twelve stores of trip `t`. -/
def laid (G U : Vec F S2048x1408 .f32) (A : Vec F S2048x2816 .bf16) (t : ℕ) (ht : t < 8) : Vec F S2048x2816 .bf16 :=
  VecWindow.put (s := S2048x2816) (VecWindow.put (s := S2048x2816) (VecWindow.put (s := S2048x2816) (VecWindow.put (s := S2048x2816) (VecWindow.put (s := S2048x2816) (VecWindow.put (s := S2048x2816) (VecWindow.put (s := S2048x2816) (VecWindow.put (s := S2048x2816) (VecWindow.put (s := S2048x2816) (VecWindow.put (s := S2048x2816) (VecWindow.put (s := S2048x2816) (VecWindow.put (s := S2048x2816) A ![256 * t, 0] S256x256.size
    (k0_pay4 (VecWindow.window (s := S2048x1408) G ![256 * t, 0] S256x256.size (wide t 0 ht (by decide))))) ![256 * t, 256] S256x256.size
    (k0_pay5 (VecWindow.window (s := S2048x1408) U ![256 * t, 0] S256x256.size (wide t 0 ht (by decide))))) ![256 * t, 512] S256x256.size
    (k0_pay6 (VecWindow.window (s := S2048x1408) G ![256 * t, 256] S256x256.size (wide t 256 ht (by decide))))) ![256 * t, 768] S256x256.size
    (k0_pay7 (VecWindow.window (s := S2048x1408) U ![256 * t, 256] S256x256.size (wide t 256 ht (by decide))))) ![256 * t, 1024] S256x256.size
    (k0_pay8 (VecWindow.window (s := S2048x1408) G ![256 * t, 512] S256x256.size (wide t 512 ht (by decide))))) ![256 * t, 1280] S256x256.size
    (k0_pay10 (k0_pay9 (VecWindow.window (s := S2048x1408) U ![256 * t, 512] S256x256.size (wide t 512 ht (by decide)))))) ![256 * t, 1536] S256x256.size
    (k0_pay11 (VecWindow.window (s := S2048x1408) G ![256 * t, 768] S256x256.size (wide t 768 ht (by decide))))) ![256 * t, 1792] S256x256.size
    (k0_pay12 (VecWindow.window (s := S2048x1408) U ![256 * t, 768] S256x256.size (wide t 768 ht (by decide))))) ![256 * t, 2048] S256x256.size
    (k0_pay13 (VecWindow.window (s := S2048x1408) G ![256 * t, 1024] S256x256.size (wide t 1024 ht (by decide))))) ![256 * t, 2304] S256x256.size
    (k0_pay14 (VecWindow.window (s := S2048x1408) U ![256 * t, 1024] S256x256.size (wide t 1024 ht (by decide))))) ![256 * t, 2560] S256x128.size
    (k0_pay15 (VecWindow.window (s := S2048x1408) G ![256 * t, 1280] S256x128.size (narrow t ht)))) ![256 * t, 2688] S256x128.size
    (k0_pay1 (k0_pay16 (VecWindow.window (s := S2048x1408) U ![256 * t, 1280] S256x128.size (narrow t ht))))

theorem pay4_eq (v : Vec F S256x256 .f32) : k0_pay4 v = truncf .bf16 v bitsLt_bf16_f32 := by unfold k0_pay4; exact shapeCast_self _ _
theorem pay5_eq (v : Vec F S256x256 .f32) : k0_pay5 v = truncf .bf16 v bitsLt_bf16_f32 := by unfold k0_pay5; exact shapeCast_self _ _
theorem pay6_eq (v : Vec F S256x256 .f32) : k0_pay6 v = truncf .bf16 v bitsLt_bf16_f32 := by unfold k0_pay6; exact shapeCast_self _ _
theorem pay7_eq (v : Vec F S256x256 .f32) : k0_pay7 v = truncf .bf16 v bitsLt_bf16_f32 := by unfold k0_pay7; exact shapeCast_self _ _
theorem pay8_eq (v : Vec F S256x256 .f32) : k0_pay8 v = truncf .bf16 v bitsLt_bf16_f32 := by unfold k0_pay8; exact shapeCast_self _ _
theorem pay11_eq (v : Vec F S256x256 .f32) : k0_pay11 v = truncf .bf16 v bitsLt_bf16_f32 := by unfold k0_pay11; exact shapeCast_self _ _
theorem pay12_eq (v : Vec F S256x256 .f32) : k0_pay12 v = truncf .bf16 v bitsLt_bf16_f32 := by unfold k0_pay12; exact shapeCast_self _ _
theorem pay13_eq (v : Vec F S256x256 .f32) : k0_pay13 v = truncf .bf16 v bitsLt_bf16_f32 := by unfold k0_pay13; exact shapeCast_self _ _
theorem pay14_eq (v : Vec F S256x256 .f32) : k0_pay14 v = truncf .bf16 v bitsLt_bf16_f32 := by unfold k0_pay14; exact shapeCast_self _ _
theorem pay10_eq (v : Vec F S256x256 .f32) : k0_pay10 (k0_pay9 v) = truncf .bf16 v bitsLt_bf16_f32 := by unfold k0_pay10 k0_pay9; exact shapeCast_self _ _
theorem pay15_eq (v : Vec F S256x128 .f32) : k0_pay15 v = truncf .bf16 v bitsLt_bf16_f32 := by unfold k0_pay15; exact shapeCast_self _ _
theorem pay1_eq (v : Vec F S256x128 .f32) : k0_pay1 (k0_pay16 v) = truncf .bf16 v bitsLt_bf16_f32 := by unfold k0_pay1 k0_pay16; exact shapeCast_self _ _

theorem fill_step (G U : Vec F S2048x1408 .f32) (A : Vec F S2048x2816 .bf16) (t : ℕ) (ht : t < 8)
    (hA : ∀ y, (y 0).val < 256 * t → A y = packed G U y) (y : S2048x2816.Idx) (hy : (y 0).val < 256 * (t + 1)) :
    laid G U A t ht y = packed G U y := by
  have y1 : (y 1).val < 2816 := (y 1).isLt
  have w5 : width 5 = 128 := rfl
  have w0 : width 0 = 256 := rfl
  have w1 : width 1 = 256 := rfl
  have w2 : width 2 = 256 := rfl
  have w3 : width 3 = 256 := rfl
  have w4 : width 4 = 256 := rfl
  unfold laid
  rw [pay4_eq, pay5_eq, pay6_eq, pay7_eq, pay8_eq, pay10_eq, pay11_eq, pay12_eq, pay13_eq, pay14_eq, pay15_eq, pay1_eq]
  refine put_at _ _ _ _ _ y _ (fun x e0 e1 => congrArg (FloatOps.truncf (F := F) .bf16 bitsLt_bf16_f32) (up_in G U _ _ 5 _ (by decide) ?_ ?_ ?_ ?_)) fun n0 => ?_
  · have hx : (x 1).val < 128 := (x 1).isLt
    omega
  · have hx : (x 1).val < 128 := (x 1).isLt
    omega
  · show 256 * t + 1 * (x 0).val = (y 0).val
    omega
  · show 1280 + 1 * (x 1).val = _
    omega
  replace n0 : ¬ (256 * t ≤ (y 0).val ∧ (y 0).val < 256 * t + 256 ∧ 2688 ≤ (y 1).val ∧ (y 1).val < 2688 + 128) := n0
  refine put_at _ _ _ _ _ y _ (fun x e0 e1 => congrArg (FloatOps.truncf (F := F) .bf16 bitsLt_bf16_f32) (gate_in G U _ _ 5 _ (by decide) ?_ ?_ ?_ ?_)) fun n1 => ?_
  · have hx : (x 1).val < 128 := (x 1).isLt
    omega
  · have hx : (x 1).val < 128 := (x 1).isLt
    omega
  · show 256 * t + 1 * (x 0).val = (y 0).val
    omega
  · show 1280 + 1 * (x 1).val = _
    omega
  replace n1 : ¬ (256 * t ≤ (y 0).val ∧ (y 0).val < 256 * t + 256 ∧ 2560 ≤ (y 1).val ∧ (y 1).val < 2560 + 128) := n1
  refine put_at _ _ _ _ _ y _ (fun x e0 e1 => congrArg (FloatOps.truncf (F := F) .bf16 bitsLt_bf16_f32) (up_in G U _ _ 4 _ (by decide) ?_ ?_ ?_ ?_)) fun n2 => ?_
  · have hx : (x 1).val < 256 := (x 1).isLt
    omega
  · have hx : (x 1).val < 256 := (x 1).isLt
    omega
  · show 256 * t + 1 * (x 0).val = (y 0).val
    omega
  · show 1024 + 1 * (x 1).val = _
    omega
  replace n2 : ¬ (256 * t ≤ (y 0).val ∧ (y 0).val < 256 * t + 256 ∧ 2304 ≤ (y 1).val ∧ (y 1).val < 2304 + 256) := n2
  refine put_at _ _ _ _ _ y _ (fun x e0 e1 => congrArg (FloatOps.truncf (F := F) .bf16 bitsLt_bf16_f32) (gate_in G U _ _ 4 _ (by decide) ?_ ?_ ?_ ?_)) fun n3 => ?_
  · have hx : (x 1).val < 256 := (x 1).isLt
    omega
  · have hx : (x 1).val < 256 := (x 1).isLt
    omega
  · show 256 * t + 1 * (x 0).val = (y 0).val
    omega
  · show 1024 + 1 * (x 1).val = _
    omega
  replace n3 : ¬ (256 * t ≤ (y 0).val ∧ (y 0).val < 256 * t + 256 ∧ 2048 ≤ (y 1).val ∧ (y 1).val < 2048 + 256) := n3
  refine put_at _ _ _ _ _ y _ (fun x e0 e1 => congrArg (FloatOps.truncf (F := F) .bf16 bitsLt_bf16_f32) (up_in G U _ _ 3 _ (by decide) ?_ ?_ ?_ ?_)) fun n4 => ?_
  · have hx : (x 1).val < 256 := (x 1).isLt
    omega
  · have hx : (x 1).val < 256 := (x 1).isLt
    omega
  · show 256 * t + 1 * (x 0).val = (y 0).val
    omega
  · show 768 + 1 * (x 1).val = _
    omega
  replace n4 : ¬ (256 * t ≤ (y 0).val ∧ (y 0).val < 256 * t + 256 ∧ 1792 ≤ (y 1).val ∧ (y 1).val < 1792 + 256) := n4
  refine put_at _ _ _ _ _ y _ (fun x e0 e1 => congrArg (FloatOps.truncf (F := F) .bf16 bitsLt_bf16_f32) (gate_in G U _ _ 3 _ (by decide) ?_ ?_ ?_ ?_)) fun n5 => ?_
  · have hx : (x 1).val < 256 := (x 1).isLt
    omega
  · have hx : (x 1).val < 256 := (x 1).isLt
    omega
  · show 256 * t + 1 * (x 0).val = (y 0).val
    omega
  · show 768 + 1 * (x 1).val = _
    omega
  replace n5 : ¬ (256 * t ≤ (y 0).val ∧ (y 0).val < 256 * t + 256 ∧ 1536 ≤ (y 1).val ∧ (y 1).val < 1536 + 256) := n5
  refine put_at _ _ _ _ _ y _ (fun x e0 e1 => congrArg (FloatOps.truncf (F := F) .bf16 bitsLt_bf16_f32) (up_in G U _ _ 2 _ (by decide) ?_ ?_ ?_ ?_)) fun n6 => ?_
  · have hx : (x 1).val < 256 := (x 1).isLt
    omega
  · have hx : (x 1).val < 256 := (x 1).isLt
    omega
  · show 256 * t + 1 * (x 0).val = (y 0).val
    omega
  · show 512 + 1 * (x 1).val = _
    omega
  replace n6 : ¬ (256 * t ≤ (y 0).val ∧ (y 0).val < 256 * t + 256 ∧ 1280 ≤ (y 1).val ∧ (y 1).val < 1280 + 256) := n6
  refine put_at _ _ _ _ _ y _ (fun x e0 e1 => congrArg (FloatOps.truncf (F := F) .bf16 bitsLt_bf16_f32) (gate_in G U _ _ 2 _ (by decide) ?_ ?_ ?_ ?_)) fun n7 => ?_
  · have hx : (x 1).val < 256 := (x 1).isLt
    omega
  · have hx : (x 1).val < 256 := (x 1).isLt
    omega
  · show 256 * t + 1 * (x 0).val = (y 0).val
    omega
  · show 512 + 1 * (x 1).val = _
    omega
  replace n7 : ¬ (256 * t ≤ (y 0).val ∧ (y 0).val < 256 * t + 256 ∧ 1024 ≤ (y 1).val ∧ (y 1).val < 1024 + 256) := n7
  refine put_at _ _ _ _ _ y _ (fun x e0 e1 => congrArg (FloatOps.truncf (F := F) .bf16 bitsLt_bf16_f32) (up_in G U _ _ 1 _ (by decide) ?_ ?_ ?_ ?_)) fun n8 => ?_
  · have hx : (x 1).val < 256 := (x 1).isLt
    omega
  · have hx : (x 1).val < 256 := (x 1).isLt
    omega
  · show 256 * t + 1 * (x 0).val = (y 0).val
    omega
  · show 256 + 1 * (x 1).val = _
    omega
  replace n8 : ¬ (256 * t ≤ (y 0).val ∧ (y 0).val < 256 * t + 256 ∧ 768 ≤ (y 1).val ∧ (y 1).val < 768 + 256) := n8
  refine put_at _ _ _ _ _ y _ (fun x e0 e1 => congrArg (FloatOps.truncf (F := F) .bf16 bitsLt_bf16_f32) (gate_in G U _ _ 1 _ (by decide) ?_ ?_ ?_ ?_)) fun n9 => ?_
  · have hx : (x 1).val < 256 := (x 1).isLt
    omega
  · have hx : (x 1).val < 256 := (x 1).isLt
    omega
  · show 256 * t + 1 * (x 0).val = (y 0).val
    omega
  · show 256 + 1 * (x 1).val = _
    omega
  replace n9 : ¬ (256 * t ≤ (y 0).val ∧ (y 0).val < 256 * t + 256 ∧ 512 ≤ (y 1).val ∧ (y 1).val < 512 + 256) := n9
  refine put_at _ _ _ _ _ y _ (fun x e0 e1 => congrArg (FloatOps.truncf (F := F) .bf16 bitsLt_bf16_f32) (up_in G U _ _ 0 _ (by decide) ?_ ?_ ?_ ?_)) fun n10 => ?_
  · have hx : (x 1).val < 256 := (x 1).isLt
    omega
  · have hx : (x 1).val < 256 := (x 1).isLt
    omega
  · show 256 * t + 1 * (x 0).val = (y 0).val
    omega
  · show 0 + 1 * (x 1).val = _
    omega
  replace n10 : ¬ (256 * t ≤ (y 0).val ∧ (y 0).val < 256 * t + 256 ∧ 256 ≤ (y 1).val ∧ (y 1).val < 256 + 256) := n10
  refine put_at _ _ _ _ _ y _ (fun x e0 e1 => congrArg (FloatOps.truncf (F := F) .bf16 bitsLt_bf16_f32) (gate_in G U _ _ 0 _ (by decide) ?_ ?_ ?_ ?_)) fun n11 => ?_
  · have hx : (x 1).val < 256 := (x 1).isLt
    omega
  · have hx : (x 1).val < 256 := (x 1).isLt
    omega
  · show 256 * t + 1 * (x 0).val = (y 0).val
    omega
  · show 0 + 1 * (x 1).val = _
    omega
  replace n11 : ¬ (256 * t ≤ (y 0).val ∧ (y 0).val < 256 * t + 256 ∧ 0 ≤ (y 1).val ∧ (y 1).val < 0 + 256) := n11
  refine hA y ?_
  omega

/-! ## What the body holds -/

/-- A block of weights on its way into a scratch buffer. -/
def sent (c : Dev nD) (src : Memref sig .tc .hbm S8x2048x5632 .f32) (dst : Memref sig .tc .vmem S2048x1408 .f32) (sem : DmaSem sig)
    (W : BufTy.Contents (Elt F) src.view.ty) (e j : ℕ) : sProp 𝕄 :=
  iprop(∃ (S : Finset src.view.ty.shape.Idx) (g : BufTy.Contents (Elt F) dst.view.ty), ⌜dst.view.read (Elt F) g = weights (src.view.read (Elt F) W) e j⌝
    ∗ Transfers.Flight (countersEmb (U := Pipeline.UD sig nD τ)) (c : Thread nD τ) (.dma sem) () (dst.view.amount (SemLoc.dma (sig := sig) sem))
        iprop((dst.view.loc (c : Thread nD τ) ↦[dst.view.set]{fullShare} g) ∗ (src.view.loc (c : Thread nD τ) ↦[S]{fullShare} W))
    ∗ (src.view.loc (c : Thread nD τ) ↦[Finset.univ \ S]{fullShare} W))

/-- No block on its way into it. -/
def idle (c : Dev nD) (src : Memref sig .tc .hbm S8x2048x5632 .f32) (dst : Memref sig .tc .vmem S2048x1408 .f32) (sem : DmaSem sig)
    (W : BufTy.Contents (Elt F) src.view.ty) : sProp 𝕄 :=
  iprop((∃ g : BufTy.Contents (Elt F) dst.view.ty, dst.view.loc (c : Thread nD τ) ↦[dst.view.set]{fullShare} g)
    ∗ semVal ((c : Thread nD τ), SemLoc.dma sem) 0
    ∗ (src.view.loc (c : Thread nD τ) ↦[Finset.univ]{fullShare} W))

section Body
variable (c : Dev nD) (i : grid0.Coords) (q : PosShare TreeShare)
  (arg5 : Memref sig .tc .vmem S512x2048 .f32) (harg5 : arg5.IsWhole) (arg8 : Memref sig .tc .vmem S512x1408 .bf16) (harg8 : arg8.IsWhole)
  (T2 : BufTy.Contents (Elt F) mTe.view.ty) (T3 : BufTy.Contents (Elt F) mNu.view.ty) (T4 : BufTy.Contents (Elt F) mNx.view.ty)
  (WG : BufTy.Contents (Elt F) mG.view.ty) (WU : BufTy.Contents (Elt F) mU.view.ty)

/-- The two blocks of expert `e` and column tile `j` on their way. -/
def flying (e j : ℕ) : sProp 𝕄 := iprop(sent c mG mSg sG WG e j ∗ sent c mU mSu sU WU e j)

/-- No block on its way. -/
def resting : sProp 𝕄 := iprop(idle c mG mSg sG WG ∗ idle c mU mSu sU WU)

/-- The two blocks of expert `e` and column tile `j`, rounded. -/
abbrev pair (e j : ℕ) : Vec F S2048x2816 .bf16 := packed (weights (mG.view.read (Elt F) WG) e j) (weights (mU.view.read (Elt F) WU) e j)

/-! ## The rounding loop -/

/-- Before trip `k` the first `256 * k` rows are rounded. -/
def filling (G U : Vec F S2048x1408 .f32) (k : ℕ) : sProp 𝕄 :=
  iprop((mSg.view.loc (c : Thread nD τ) ↦[mSg.view.set]{fullShare} mSg.view.rep G)
    ∗ (mSu.view.loc (c : Thread nD τ) ↦[mSu.view.set]{fullShare} mSu.view.rep U)
    ∗ (∃ A : Vec F S2048x2816 .bf16, ⌜∀ y, (y 0).val < 256 * k → A y = packed G U y⌝ ∗ (mB.view.loc (c : Thread nD τ) ↦[mB.view.set]{fullShare} mB.view.rep A)))

theorem trips : k0_t1_loop.trips = 8 := by decide

theorem off6_at : ∀ t : Fin k0_t1_loop.trips, k0_off6 t = ![256 * t.val, 0] := by decide +kernel
theorem off7_at : ∀ t : Fin k0_t1_loop.trips, k0_off7 t = ![256 * t.val, 0] := by decide +kernel
theorem off8_at : ∀ t : Fin k0_t1_loop.trips, k0_off8 t = ![256 * t.val, 256] := by decide +kernel
theorem off9_at : ∀ t : Fin k0_t1_loop.trips, k0_off9 t = ![256 * t.val, 256] := by decide +kernel
theorem off10_at : ∀ t : Fin k0_t1_loop.trips, k0_off10 t = ![256 * t.val, 512] := by decide +kernel
theorem off11_at : ∀ t : Fin k0_t1_loop.trips, k0_off11 t = ![256 * t.val, 768] := by decide +kernel
theorem off12_at : ∀ t : Fin k0_t1_loop.trips, k0_off12 t = ![256 * t.val, 512] := by decide +kernel
theorem off13_at : ∀ t : Fin k0_t1_loop.trips, k0_off13 t = ![256 * t.val, 1024] := by decide +kernel
theorem off14_at : ∀ t : Fin k0_t1_loop.trips, k0_off14 t = ![256 * t.val, 1280] := by decide +kernel
theorem off15_at : ∀ t : Fin k0_t1_loop.trips, k0_off15 t = ![256 * t.val, 768] := by decide +kernel
theorem off16_at : ∀ t : Fin k0_t1_loop.trips, k0_off16 t = ![256 * t.val, 1536] := by decide +kernel
theorem off17_at : ∀ t : Fin k0_t1_loop.trips, k0_off17 t = ![256 * t.val, 1792] := by decide +kernel
theorem off18_at : ∀ t : Fin k0_t1_loop.trips, k0_off18 t = ![256 * t.val, 1024] := by decide +kernel
theorem off19_at : ∀ t : Fin k0_t1_loop.trips, k0_off19 t = ![256 * t.val, 2048] := by decide +kernel
theorem off20_at : ∀ t : Fin k0_t1_loop.trips, k0_off20 t = ![256 * t.val, 2304] := by decide +kernel
theorem off21_at : ∀ t : Fin k0_t1_loop.trips, k0_off21 t = ![256 * t.val, 1280] := by decide +kernel
theorem off22_at : ∀ t : Fin k0_t1_loop.trips, k0_off22 t = ![256 * t.val, 2560] := by decide +kernel
theorem off23_at : ∀ t : Fin k0_t1_loop.trips, k0_off23 t = ![256 * t.val, 2688] := by decide +kernel

set_option maxHeartbeats 4000000 in
theorem trip (G U : Vec F S2048x1408 .f32) (t : Fin k0_t1_loop.trips) :
    (filling c G U t.val : sProp 𝕄) ⊢
    wp frame (wpE (defs₀ (F := F)) Variants.none (c : Thread nD τ) none) Set.univ
      (k0_t1_body (F := F) i mTe (Memref.isWhole_whole _) mNu (Memref.isWhole_whole _) mNx (Memref.isWhole_whole _) arg5 harg5 mG (Memref.isWhole_whole _) mU (Memref.isWhole_whole _) arg8 harg8 mSg (Memref.isWhole_whole _) mSu (Memref.isWhole_whole _) mB (Memref.isWhole_whole _) cc0_scratch3 t ())
      (fun _ => filling c G U (t.val + 1)) := by
  have ht : t.val < 8 := lt_of_lt_of_eq t.isLt trips
  unfold k0_t1_body
  simp only [k0_part1_eq_skeleton, k0_part2_eq_skeleton]
  unfold filling
  iintro ⟨H9, H10, %A, %hA, H11⟩
  sl_exec
  sl_step
  isplitl [H9]; · iexact H9
  isplitl [H10]; · iexact H10
  iexists (laid G U A t.val ht)
  isplitr; swap
  · iapply (pointsTo_rep_of_read (c : Thread nD τ) mB _ _ _ ?_) $$ H11
    sl_unfold_run_names
    rw [View.read_writes_cons_put _ _ _ _ _ (off23_at t), View.read_writes_cons_put _ _ _ _ _ (off22_at t), View.read_writes_cons_put _ _ _ _ _ (off20_at t), View.read_writes_cons_put _ _ _ _ _ (off19_at t), View.read_writes_cons_put _ _ _ _ _ (off17_at t), View.read_writes_cons_put _ _ _ _ _ (off16_at t), View.read_writes_cons_put _ _ _ _ _ (off14_at t), View.read_writes_cons_put _ _ _ _ _ (off13_at t), View.read_writes_cons_put _ _ _ _ _ (off11_at t), View.read_writes_cons_put _ _ _ _ _ (off10_at t), View.read_writes_cons_put _ _ _ _ _ (off8_at t), View.read_writes_cons_put _ _ _ _ _ (off7_at t), View.writes_nil, View.read_rep]
    rw [View.readAt_rep_unit mSg.view _ _ (off6_at t) (wide t.val 0 ht (by decide)), View.readAt_rep_unit mSu.view _ _ (off6_at t) (wide t.val 0 ht (by decide)),
      View.readAt_rep_unit mSg.view _ _ (off9_at t) (wide t.val 256 ht (by decide)), View.readAt_rep_unit mSu.view _ _ (off9_at t) (wide t.val 256 ht (by decide)),
      View.readAt_rep_unit mSg.view _ _ (off12_at t) (wide t.val 512 ht (by decide)), View.readAt_rep_unit mSu.view _ _ (off12_at t) (wide t.val 512 ht (by decide)),
      View.readAt_rep_unit mSg.view _ _ (off15_at t) (wide t.val 768 ht (by decide)), View.readAt_rep_unit mSu.view _ _ (off15_at t) (wide t.val 768 ht (by decide)),
      View.readAt_rep_unit mSg.view _ _ (off18_at t) (wide t.val 1024 ht (by decide)), View.readAt_rep_unit mSu.view _ _ (off18_at t) (wide t.val 1024 ht (by decide)),
      View.readAt_rep_unit mSg.view _ _ (off21_at t) (narrow t.val ht), View.readAt_rep_unit mSu.view _ _ (off21_at t) (narrow t.val ht)]
    rfl
  ipureintro
  exact fill_step G U A t.val ht hA

/-! ## What lies where -/

theorem column_at : ∀ j : Fin 4, (Scalar.muli (BitVec.ofNat 32 j.val) 1408#32).toNat = 1408 * j.val := by decide

theorem column_next : ∀ j : Fin 4, (Scalar.muli (Scalar.addi (BitVec.ofNat 32 j.val) 1#32) 1408#32).toNat = 1408 * (j.val + 1) := by decide

theorem off3_at (w : BitVec 32) : k0_off3 w = ![w.toNat, 0, 1408 * 0] := rfl

theorem off5_at (w : BitVec 32) : k0_off5 i w = ![w.toNat, 0, 1408 * (i 0).val] := by
  unfold k0_off5; dsimp only; rw [column_at (i 0)]

theorem off25_at (w : BitVec 32) : k0_off25 i w = ![w.toNat, 0, 1408 * (i 0).val] := by
  unfold k0_off25; dsimp only; rw [column_at (i 0)]

theorem off26_at (w : BitVec 32) : k0_off26 i w = ![w.toNat, 0, 1408 * ((i 0).val + 1)] := by
  unfold k0_off26; dsimp only; rw [column_next (i 0)]

/-- A slice of the weights that is one block reads as that block. -/
theorem arrive (m : Memref sig .tc .hbm S8x2048x5632 .f32) (W : BufTy.Contents (Elt F) m.view.ty) (off : Fin 3 → ℕ) (inb : ∀ a, off a + S1x2048x1408.size a ≤ S8x2048x5632.size a) (e j : ℕ) (h : off = ![e, 0, 1408 * j]) :
    ((m.slice (Rect.unit (s := S8x2048x5632) off S1x2048x1408.size inb) (fun _ => rfl)).squeeze S2048x1408 squeezes_S1x2048x1408_S2048x1408).view.read (Elt F) W
      = weights (m.view.read (Elt F) W) e j := by
  subst h
  have he : e + 1 ≤ 8 := inb 0
  have hj : 1408 * j + 1408 ≤ 5632 := inb 2
  funext y
  show m.view.read (Elt F) W ((Rect.unit (s := S8x2048x5632) ![e, 0, 1408 * j] S1x2048x1408.size inb).emb (Shape.reshapeEquiv _ y)) = _
  have hr : ∀ h, Shape.reshapeEquiv (s := S1x2048x1408) (s' := S2048x1408) h y = (fun a => match a with | ⟨0, _⟩ => ⟨0, Nat.one_pos⟩ | ⟨1, _⟩ => ⟨(y 0).val, (y 0).isLt⟩ | ⟨2, _⟩ => ⟨(y 1).val, (y 1).isLt⟩) := fun h => by
    apply Shape.reshapeEquiv_eq_of_rowMajor
    unfold S1x2048x1408 S2048x1408
    rw [Shape.rowMajor_val_three, Shape.rowMajor_val_two]
    show (0 * 2048 + (y 0).val) * 1408 + (y 1).val = (y 0).val * 1408 + (y 1).val
    omega
  refine congrArg (m.view.read (Elt F) W) ((congrArg _ (hr _)).trans ?_)
  have h1 : (y 1).val < 1408 := (y 1).isLt
  funext a
  apply Fin.ext
  match a with
  | ⟨0, _⟩ => show e + 1 * 0 = e % 8; omega
  | ⟨1, _⟩ => show 0 + 1 * (y 0).val = (y 0).val; omega
  | ⟨2, _⟩ => show 1408 * j + 1 * (y 1).val = (1408 * j + (y 1).val) % 5632; omega

/-- Written whole, a buffer reads what was written. -/
theorem landed {s : Shape} {e : EltTy} {sp : Space} (m : Memref sig .tc sp s e) (f : m.view.ty.Contents (Elt F)) (w : s.Idx → Elt F e) :
    m.view.read (Elt F) (m.view.writes (Elt F) f [⟨Rect.whole s, w⟩]) = w := by
  rw [← View.write_univ_eq_writes_whole, View.writes_nil]
  exact View.read_write_univ _ _

/-- The three tables. -/
def tables : sProp 𝕄 :=
  iprop((mTe.view.loc (c : Thread nD τ) ↦[mTe.view.set]{q} T2) ∗ (mNu.view.loc (c : Thread nD τ) ↦[mNu.view.set]{q} T3)
    ∗ (mNx.view.loc (c : Thread nD τ) ↦[mNx.view.set]{q} T4))

/-- The tile, the result's block and the rounded weights. -/
def held (X5 : Vec F S512x2048 .f32) (X8 : Vec F S512x1408 .bf16) (B : Vec F S2048x2816 .bf16) : sProp 𝕄 :=
  iprop((arg5.view.loc (c : Thread nD τ) ↦[arg5.view.set]{fullShare} arg5.view.rep X5)
    ∗ (arg8.view.loc (c : Thread nD τ) ↦[arg8.view.set]{fullShare} arg8.view.rep X8)
    ∗ (mB.view.loc (c : Thread nD τ) ↦[mB.view.set]{fullShare} mB.view.rep B))

/-- The body at this point. -/
abbrev body : Prog (TpuEff nD τ sig (Elt F) Λ₀ .tc) PUnit :=
  cc0_moe_up i mTe (Memref.isWhole_whole _) mNu (Memref.isWhole_whole _) mNx (Memref.isWhole_whole _) arg5 harg5 mG (Memref.isWhole_whole _) mU (Memref.isWhole_whole _) arg8 harg8 mSg (Memref.isWhole_whole _) mSu (Memref.isWhole_whole _) mB (Memref.isWhole_whole _) cc0_scratch3

end Body

end Cert.Proof.Gated

end
-- ==== Proof.Gated.Route.lean ====
/- What the body of `moe_up` reads of the tables of a routing, and what its conditions say of them. -/
module

public import proofs.«01_k».proof.Proof.Gated.Body
public import proofs.«01_k».proof.Proof.Experts.Route

@[expose] public section

set_option maxRecDepth 16384

noncomputable section

namespace Cert.Proof.Gated

open Cert.ExpUpIdeal Cert.ExpUpIdeal.Gen
open Cert.Proof.Experts (entry Routed here_off back_off nonzero both either zero_tile below)
open Idealize.ShloMosaic Idealize.ShloMosaic.TcCoe

variable {F : FTy → Type} [FloatOps F]

section Words
variable (i : grid0.Coords) (T2 : BufTy.Contents (Elt F) mTe.view.ty) (T3 : BufTy.Contents (Elt F) mNu.view.ty) (T4 : BufTy.Contents (Elt F) mNx.view.ty)

theorem usedW_eq : usedW T3 = Experts.count T3 := by
  unfold Experts.count
  refine congrArg T3 (funext fun a => Fin.ext ?_)
  fin_cases a
  rfl

theorem hereW_eq : hereW i T2 = entry T2 (i 1).val := by
  unfold entry
  refine congrArg T2 (funext fun a => Fin.ext ?_)
  fin_cases a
  exact here_off (i 1)

theorem backW_eq : backW i T2 = entry T2 ((i 1).val - 1) := by
  unfold entry
  refine congrArg T2 (funext fun a => Fin.ext ?_)
  fin_cases a
  exact back_off (i 1)

theorem headW_eq : headW T2 = entry T2 0 := by
  unfold entry
  refine congrArg T2 (funext fun a => Fin.ext ?_)
  fin_cases a
  rfl

theorem nextW_eq : nextW i T4 = entry T4 (i 1).val := by
  unfold entry
  refine congrArg T4 (funext fun a => Fin.ext ?_)
  fin_cases a
  exact here_off (i 1)
end Words

/-! ## The conditions -/

section Conds
variable (i : grid0.Coords) (n w a b : BitVec 32)

theorem zero_row : ∀ j : Fin 4, Scalar.cmpi .eq (BitVec.ofNat 32 j.val) 0#32 = 1#1 ↔ j.val = 0 := by decide

theorem next_row : ∀ j : Fin 4, Scalar.cmpi .slt (Scalar.addi (BitVec.ofNat 32 j.val) 1#32) 4#32 = 1#1 ↔ j.val < 3 := by decide

theorem cond1_iff : k0_cond1 i = 1#1 ↔ (i 0).val = 0 ∧ (i 1).val = 0 := by
  unfold k0_cond1
  dsimp only
  rw [nonzero, both]
  exact and_congr (zero_row (i 0)) (zero_tile (i 1))

theorem cond2_iff (hn : n.toNat ≤ 72) : k0_cond2 i n a b = 1#1 ↔ (i 1).val < n.toNat ∧ ((i 1).val = 0 ∨ a ≠ b) := by
  unfold k0_cond2
  dsimp only
  rw [nonzero, both, either]
  refine and_congr (below n (i 1) hn) (or_congr (zero_tile (i 1)) ?_)
  show IntOp.cmpi .ne a b = 1#1 ↔ _
  rw [WordCmp.cmpi_ne_eq]
  exact WordCmp.ofBool_decide_eq_one_iff _

theorem cond3_iff : k0_cond3 w = 1#1 ↔ w.toNat < 2 ^ 31 := by
  unfold k0_cond3
  dsimp only
  rw [nonzero]
  show IntOp.cmpi .sge w 0#32 = 1#1 ↔ _
  rw [WordCmp.cmpi_sge_zero]
  exact WordCmp.ofBool_decide_eq_one_iff _

theorem cond4_iff : k0_cond4 i w = 1#1 ↔ ¬ w.toNat < 2 ^ 31 ∧ (i 0).val < 3 := by
  unfold k0_cond4
  dsimp only
  rw [nonzero, both]
  refine and_congr ?_ (next_row (i 0))
  show IntOp.cmpi .slt w 0#32 = 1#1 ↔ _
  rw [WordCmp.cmpi_slt_zero]
  exact (WordCmp.ofBool_decide_eq_one_iff _).trans Nat.not_lt.symm

theorem cond5_iff (hn : n.toNat ≤ 72) : k0_cond5 i n = 1#1 ↔ (i 1).val < n.toNat := by
  unfold k0_cond5
  dsimp only
  rw [nonzero]
  exact below n (i 1) hn

theorem cond6_iff (hn : n.toNat ≤ 72) : k0_cond6 i n = 1#1 ↔ ¬ (i 1).val < n.toNat := by
  unfold k0_cond6
  dsimp only
  rw [nonzero, Experts.flip]
  exact not_congr (below n (i 1) hn)

/-- A block of an expert's weights is inside the weights. -/
theorem inside (e j : ℕ) (he : e < 8) (hj : j < 4) : ∀ a : Fin 3, (![e, 0, 1408 * j] : Fin 3 → ℕ) a + S1x2048x1408.size a ≤ S8x2048x5632.size a := by
  intro a
  match a with
  | ⟨0, _⟩ => show e + 1 ≤ 8; omega
  | ⟨1, _⟩ => show 0 + 2048 ≤ 2048; omega
  | ⟨2, _⟩ => show 1408 * j + 1408 ≤ 5632; omega

theorem chk1_of (h : w.toNat < 8) : k0_chk1 i w := fun _ => by rw [off3_at]; exact inside _ 0 h (by decide)
theorem chk2_of (h : w.toNat < 8) : k0_chk2 i n a b w := fun _ => by rw [off5_at]; exact inside _ _ h (i 0).isLt
theorem chk3_of (h : w.toNat < 2 ^ 31 → w.toNat < 8) : k0_chk3 i n a b w := fun _ h3 => by
  rw [off25_at]; exact inside _ _ (h ((cond3_iff w).mp h3)) (i 0).isLt
theorem chk4_of (v : BitVec 32) (h : v.toNat < 8) : k0_chk4 i n a b w v := fun _ h4 => by
  rw [off26_at]; exact inside _ _ h (by have := ((cond4_iff i w).mp h4).2; omega)
end Conds

end Cert.Proof.Gated

end
-- ==== Proof.Gated.Next.lean ====
module

public import proofs.«01_k».proof.Proof.Gated.Body

@[expose] public section

set_option maxRecDepth 16384

noncomputable section

namespace Cert.Proof.Gated

open Cert.ExpUpIdeal Cert.ExpUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords) (q : PosShare TreeShare)
  (arg5 : Memref sig .tc .vmem S512x2048 .f32) (harg5 : arg5.IsWhole) (arg8 : Memref sig .tc .vmem S512x1408 .bf16) (harg8 : arg8.IsWhole)
  (T2 : BufTy.Contents (Elt F) mTe.view.ty) (T3 : BufTy.Contents (Elt F) mNu.view.ty) (T4 : BufTy.Contents (Elt F) mNx.view.ty)
  (WG : BufTy.Contents (Elt F) mG.view.ty) (WU : BufTy.Contents (Elt F) mU.view.ty)

set_option maxHeartbeats 4000000 in
/-- A fresh tile, the next expert's blocks sent for. -/
theorem run_next (e : ℕ) (X5 : Vec F S512x2048 .f32) (X8 : Vec F S512x1408 .bf16) (B : Vec F S2048x2816 .bf16) (W0 : Waits sig Unit) (Q : PUnit → sProp 𝕄)
    (h1 : ¬ k0_cond1 i = 1#1)
    (h2 : k0_cond2 i (usedW T3) (hereW i T2) (backW i T2) = 1#1)
    (h3 : k0_cond3 (nextW i T4) = 1#1)
    (h4 : ¬ k0_cond4 i (nextW i T4) = 1#1)
    (h5 : k0_cond5 i (usedW T3) = 1#1)
    (h6 : ¬ k0_cond6 i (usedW T3) = 1#1)
    (k2 : k0_chk2 i (usedW T3) (hereW i T2) (backW i T2) (hereW i T2))
    (k3 : k0_chk3 i (usedW T3) (hereW i T2) (backW i T2) (nextW i T4))
    :
    iprop(tables c q T2 T3 T4 ∗ held c arg5 arg8 X5 X8 B ∗ flying c WG WU e (i 0).val ∗ owes (c : Thread nD τ) 0 W0
      ∗ (∀ W1 : Waits sig Unit, (tables c q T2 T3 T4 ∗ held c arg5 arg8 X5 (product X5 (pair WG WU e (i 0).val)) (pair WG WU e (i 0).val) ∗ flying c WG WU (nextW i T4).toNat (i 0).val ∗ owes (c : Thread nD τ) 0 W1) -∗ Q ⟨⟩))
    ⊢ wp frame (wpE (defs₀ (F := F)) Variants.none (c : Thread nD τ) none) Set.univ (body i arg5 harg5 arg8 harg8) Q := by
  unfold body
  sl_unfold [cc0_moe_up]
  unfold cc0_moe_up_skel
  simp only [k0_part3_eq_skeleton, k0_part4_eq_skeleton]
  unfold tables held flying sent
  iintro ⟨⟨H2, H3, H4⟩, ⟨H5, H8, H11⟩, ⟨⟨%S, %g, %hg, HF, HWG⟩, ⟨%R, %u, %hu, HV, HWU⟩⟩, HO, Hk⟩
  sl_exec
  ihave H9 := (pointsTo_rep_of_read (c : Thread nD τ) mSg g fullShare _ hg) $$ HF_dst
  ihave H10 := (pointsTo_rep_of_read (c : Thread nD τ) mSu u fullShare _ hu) $$ HV_dst
  sl_for (fun k _ => filling c (weights (mG.view.read (Elt F) WG) e (i 0).val) (weights (mU.view.read (Elt F) WU) e (i 0).val) k) $$ [H9 H10 H11]
  case region =>
    intro t _
    exact trip c i arg5 harg5 arg8 harg8 _ _ t
  · unfold filling
    isplitl [H9]; · iexact H9
    isplitl [H10]; · iexact H10
    iexists B
    isplitr
    · ipureintro
      intro y hy
      exact absurd hy (by omega)
    iexact H11
  iintro %_ HL
  unfold filling
  icases HL with ⟨H9, H10, %A, %hA, H11⟩
  have hfull : A = pair WG WU e (i 0).val := funext fun y => hA y (by
    have h : (y 0).val < 2048 := (y 0).isLt
    exact lt_of_lt_of_eq h (congrArg (256 * ·) trips).symm)
  subst hfull
  sl_exec
  sl_step
  iapply Hk
  isplitl [H2 H3 H4]
  · isplitl [H2]; · iexact H2
    isplitl [H3]; · iexact H3
    iexact H4
  isplitl [H5 H8 H11]
  · isplitl [H5]; · iexact H5
    isplitl [H8]; swap; · iexact H11
    iapply (pointsTo_rep_of_read (c : Thread nD τ) arg8 _ _ _ ?_) $$ H8
    sl_unfold_run_names
    rw [View.read_writes_cons_put _ _ _ _ _ rfl, View.read_writes_cons_put _ _ _ _ _ rfl, View.read_writes_cons_put _ _ _ _ _ rfl,
      View.read_writes_cons_put _ _ _ _ _ rfl, View.read_writes_cons_put _ _ _ _ _ rfl, View.read_writes_cons_put _ _ _ _ _ rfl, View.readAt_rep_full arg5.view X5,
      View.readAt_rep_unit _ _ inb_S2048x2816_S2048x512_0_0 rfl inb_S2048x2816_S2048x512_0_0,
      View.readAt_rep_unit _ _ inb_S2048x2816_S2048x512_0_512 rfl inb_S2048x2816_S2048x512_0_512,
      View.readAt_rep_unit _ _ inb_S2048x2816_S2048x512_0_1024 rfl inb_S2048x2816_S2048x512_0_1024,
      View.readAt_rep_unit _ _ inb_S2048x2816_S2048x512_0_1536 rfl inb_S2048x2816_S2048x512_0_1536,
      View.readAt_rep_unit _ _ inb_S2048x2816_S2048x512_0_2048 rfl inb_S2048x2816_S2048x512_0_2048,
      View.readAt_rep_unit _ _ inb_S2048x2816_S2048x256_0_2560 rfl inb_S2048x2816_S2048x256_0_2560, pay19_eq, pay23_eq, pay24_eq, pay25_eq]
    exact stored _ _ _
  isplitr [HO]; swap; · iexact HO
  isplitl [HF HWG]
  · iexists _, _
    isplitr; swap
    · isplitl [HF]; · iexact HF
      iexact HWG
    ipureintro
    refine (landed mSg _ _).trans ?_
    sl_unfold_run_names
    exact arrive mG WG _ _ _ _ (off25_at i _)
  iexists _, _
  isplitr; swap
  · isplitl [HV]; · iexact HV
    iexact HWU
  ipureintro
  refine (landed mSu _ _).trans ?_
  sl_unfold_run_names
  exact arrive mU WU _ _ _ _ (off25_at i _)

end Cert.Proof.Gated

end
-- ==== Proof.Gated.Wrap.lean ====
module

public import proofs.«01_k».proof.Proof.Gated.Body

@[expose] public section

set_option maxRecDepth 16384

noncomputable section

namespace Cert.Proof.Gated

open Cert.ExpUpIdeal Cert.ExpUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords) (q : PosShare TreeShare)
  (arg5 : Memref sig .tc .vmem S512x2048 .f32) (harg5 : arg5.IsWhole) (arg8 : Memref sig .tc .vmem S512x1408 .bf16) (harg8 : arg8.IsWhole)
  (T2 : BufTy.Contents (Elt F) mTe.view.ty) (T3 : BufTy.Contents (Elt F) mNu.view.ty) (T4 : BufTy.Contents (Elt F) mNx.view.ty)
  (WG : BufTy.Contents (Elt F) mG.view.ty) (WU : BufTy.Contents (Elt F) mU.view.ty)

set_option maxHeartbeats 4000000 in
/-- A fresh tile of the last expert in use, the next column's first blocks sent for. -/
theorem run_wrap (e : ℕ) (X5 : Vec F S512x2048 .f32) (X8 : Vec F S512x1408 .bf16) (B : Vec F S2048x2816 .bf16) (W0 : Waits sig Unit) (Q : PUnit → sProp 𝕄)
    (h1 : ¬ k0_cond1 i = 1#1)
    (h2 : k0_cond2 i (usedW T3) (hereW i T2) (backW i T2) = 1#1)
    (h3 : ¬ k0_cond3 (nextW i T4) = 1#1)
    (h4 : k0_cond4 i (nextW i T4) = 1#1)
    (h5 : k0_cond5 i (usedW T3) = 1#1)
    (h6 : ¬ k0_cond6 i (usedW T3) = 1#1)
    (k2 : k0_chk2 i (usedW T3) (hereW i T2) (backW i T2) (hereW i T2))
    (k3 : k0_chk3 i (usedW T3) (hereW i T2) (backW i T2) (nextW i T4))
    (k4 : k0_chk4 i (usedW T3) (hereW i T2) (backW i T2) (nextW i T4) (headW T2))
    :
    iprop(tables c q T2 T3 T4 ∗ held c arg5 arg8 X5 X8 B ∗ flying c WG WU e (i 0).val ∗ owes (c : Thread nD τ) 0 W0
      ∗ (∀ W1 : Waits sig Unit, (tables c q T2 T3 T4 ∗ held c arg5 arg8 X5 (product X5 (pair WG WU e (i 0).val)) (pair WG WU e (i 0).val) ∗ flying c WG WU (headW T2).toNat ((i 0).val + 1) ∗ owes (c : Thread nD τ) 0 W1) -∗ Q ⟨⟩))
    ⊢ wp frame (wpE (defs₀ (F := F)) Variants.none (c : Thread nD τ) none) Set.univ (body i arg5 harg5 arg8 harg8) Q := by
  unfold body
  sl_unfold [cc0_moe_up]
  unfold cc0_moe_up_skel
  simp only [k0_part3_eq_skeleton, k0_part4_eq_skeleton]
  unfold tables held flying sent
  iintro ⟨⟨H2, H3, H4⟩, ⟨H5, H8, H11⟩, ⟨⟨%S, %g, %hg, HF, HWG⟩, ⟨%R, %u, %hu, HV, HWU⟩⟩, HO, Hk⟩
  sl_exec
  ihave H9 := (pointsTo_rep_of_read (c : Thread nD τ) mSg g fullShare _ hg) $$ HF_dst
  ihave H10 := (pointsTo_rep_of_read (c : Thread nD τ) mSu u fullShare _ hu) $$ HV_dst
  sl_for (fun k _ => filling c (weights (mG.view.read (Elt F) WG) e (i 0).val) (weights (mU.view.read (Elt F) WU) e (i 0).val) k) $$ [H9 H10 H11]
  case region =>
    intro t _
    exact trip c i arg5 harg5 arg8 harg8 _ _ t
  · unfold filling
    isplitl [H9]; · iexact H9
    isplitl [H10]; · iexact H10
    iexists B
    isplitr
    · ipureintro
      intro y hy
      exact absurd hy (by omega)
    iexact H11
  iintro %_ HL
  unfold filling
  icases HL with ⟨H9, H10, %A, %hA, H11⟩
  have hfull : A = pair WG WU e (i 0).val := funext fun y => hA y (by
    have h : (y 0).val < 2048 := (y 0).isLt
    exact lt_of_lt_of_eq h (congrArg (256 * ·) trips).symm)
  subst hfull
  sl_exec
  sl_step
  iapply Hk
  isplitl [H2 H3 H4]
  · isplitl [H2]; · iexact H2
    isplitl [H3]; · iexact H3
    iexact H4
  isplitl [H5 H8 H11]
  · isplitl [H5]; · iexact H5
    isplitl [H8]; swap; · iexact H11
    iapply (pointsTo_rep_of_read (c : Thread nD τ) arg8 _ _ _ ?_) $$ H8
    sl_unfold_run_names
    rw [View.read_writes_cons_put _ _ _ _ _ rfl, View.read_writes_cons_put _ _ _ _ _ rfl, View.read_writes_cons_put _ _ _ _ _ rfl,
      View.read_writes_cons_put _ _ _ _ _ rfl, View.read_writes_cons_put _ _ _ _ _ rfl, View.read_writes_cons_put _ _ _ _ _ rfl, View.readAt_rep_full arg5.view X5,
      View.readAt_rep_unit _ _ inb_S2048x2816_S2048x512_0_0 rfl inb_S2048x2816_S2048x512_0_0,
      View.readAt_rep_unit _ _ inb_S2048x2816_S2048x512_0_512 rfl inb_S2048x2816_S2048x512_0_512,
      View.readAt_rep_unit _ _ inb_S2048x2816_S2048x512_0_1024 rfl inb_S2048x2816_S2048x512_0_1024,
      View.readAt_rep_unit _ _ inb_S2048x2816_S2048x512_0_1536 rfl inb_S2048x2816_S2048x512_0_1536,
      View.readAt_rep_unit _ _ inb_S2048x2816_S2048x512_0_2048 rfl inb_S2048x2816_S2048x512_0_2048,
      View.readAt_rep_unit _ _ inb_S2048x2816_S2048x256_0_2560 rfl inb_S2048x2816_S2048x256_0_2560, pay19_eq, pay23_eq, pay24_eq, pay25_eq]
    exact stored _ _ _
  isplitr [HO]; swap; · iexact HO
  isplitl [HF HWG]
  · iexists _, _
    isplitr; swap
    · isplitl [HF]; · iexact HF
      iexact HWG
    ipureintro
    refine (landed mSg _ _).trans ?_
    sl_unfold_run_names
    exact arrive mG WG _ _ _ _ (off26_at i _)
  iexists _, _
  isplitr; swap
  · isplitl [HV]; · iexact HV
    iexact HWU
  ipureintro
  refine (landed mSu _ _).trans ?_
  sl_unfold_run_names
  exact arrive mU WU _ _ _ _ (off26_at i _)

end Cert.Proof.Gated

end
-- ==== Proof.Gated.Last.lean ====
module

public import proofs.«01_k».proof.Proof.Gated.Body

@[expose] public section

set_option maxRecDepth 16384

noncomputable section

namespace Cert.Proof.Gated

open Cert.ExpUpIdeal Cert.ExpUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords) (q : PosShare TreeShare)
  (arg5 : Memref sig .tc .vmem S512x2048 .f32) (harg5 : arg5.IsWhole) (arg8 : Memref sig .tc .vmem S512x1408 .bf16) (harg8 : arg8.IsWhole)
  (T2 : BufTy.Contents (Elt F) mTe.view.ty) (T3 : BufTy.Contents (Elt F) mNu.view.ty) (T4 : BufTy.Contents (Elt F) mNx.view.ty)
  (WG : BufTy.Contents (Elt F) mG.view.ty) (WU : BufTy.Contents (Elt F) mU.view.ty)

set_option maxHeartbeats 4000000 in
/-- A fresh tile of the last expert in use in the last column. -/
theorem run_end (e : ℕ) (X5 : Vec F S512x2048 .f32) (X8 : Vec F S512x1408 .bf16) (B : Vec F S2048x2816 .bf16) (W0 : Waits sig Unit) (Q : PUnit → sProp 𝕄)
    (h1 : ¬ k0_cond1 i = 1#1)
    (h2 : k0_cond2 i (usedW T3) (hereW i T2) (backW i T2) = 1#1)
    (h3 : ¬ k0_cond3 (nextW i T4) = 1#1)
    (h4 : ¬ k0_cond4 i (nextW i T4) = 1#1)
    (h5 : k0_cond5 i (usedW T3) = 1#1)
    (h6 : ¬ k0_cond6 i (usedW T3) = 1#1)
    (k2 : k0_chk2 i (usedW T3) (hereW i T2) (backW i T2) (hereW i T2))
    (k3 : k0_chk3 i (usedW T3) (hereW i T2) (backW i T2) (nextW i T4))
    :
    iprop(tables c q T2 T3 T4 ∗ held c arg5 arg8 X5 X8 B ∗ flying c WG WU e (i 0).val ∗ owes (c : Thread nD τ) 0 W0
      ∗ (∀ W1 : Waits sig Unit, (tables c q T2 T3 T4 ∗ held c arg5 arg8 X5 (product X5 (pair WG WU e (i 0).val)) (pair WG WU e (i 0).val) ∗ resting c WG WU ∗ owes (c : Thread nD τ) 0 W1) -∗ Q ⟨⟩))
    ⊢ wp frame (wpE (defs₀ (F := F)) Variants.none (c : Thread nD τ) none) Set.univ (body i arg5 harg5 arg8 harg8) Q := by
  unfold body
  sl_unfold [cc0_moe_up]
  unfold cc0_moe_up_skel
  simp only [k0_part3_eq_skeleton, k0_part4_eq_skeleton]
  unfold tables held resting idle flying sent
  iintro ⟨⟨H2, H3, H4⟩, ⟨H5, H8, H11⟩, ⟨⟨%S, %g, %hg, HF, HWG⟩, ⟨%R, %u, %hu, HV, HWU⟩⟩, HO, Hk⟩
  sl_exec
  ihave H9 := (pointsTo_rep_of_read (c : Thread nD τ) mSg g fullShare _ hg) $$ HF_dst
  ihave H10 := (pointsTo_rep_of_read (c : Thread nD τ) mSu u fullShare _ hu) $$ HV_dst
  sl_for (fun k _ => filling c (weights (mG.view.read (Elt F) WG) e (i 0).val) (weights (mU.view.read (Elt F) WU) e (i 0).val) k) $$ [H9 H10 H11]
  case region =>
    intro t _
    exact trip c i arg5 harg5 arg8 harg8 _ _ t
  · unfold filling
    isplitl [H9]; · iexact H9
    isplitl [H10]; · iexact H10
    iexists B
    isplitr
    · ipureintro
      intro y hy
      exact absurd hy (by omega)
    iexact H11
  iintro %_ HL
  unfold filling
  icases HL with ⟨H9, H10, %A, %hA, H11⟩
  have hfull : A = pair WG WU e (i 0).val := funext fun y => hA y (by
    have h : (y 0).val < 2048 := (y 0).isLt
    exact lt_of_lt_of_eq h (congrArg (256 * ·) trips).symm)
  subst hfull
  sl_exec
  sl_step
  iapply Hk
  isplitl [H2 H3 H4]
  · isplitl [H2]; · iexact H2
    isplitl [H3]; · iexact H3
    iexact H4
  isplitl [H5 H8 H11]
  · isplitl [H5]; · iexact H5
    isplitl [H8]; swap; · iexact H11
    iapply (pointsTo_rep_of_read (c : Thread nD τ) arg8 _ _ _ ?_) $$ H8
    sl_unfold_run_names
    rw [View.read_writes_cons_put _ _ _ _ _ rfl, View.read_writes_cons_put _ _ _ _ _ rfl, View.read_writes_cons_put _ _ _ _ _ rfl,
      View.read_writes_cons_put _ _ _ _ _ rfl, View.read_writes_cons_put _ _ _ _ _ rfl, View.read_writes_cons_put _ _ _ _ _ rfl, View.readAt_rep_full arg5.view X5,
      View.readAt_rep_unit _ _ inb_S2048x2816_S2048x512_0_0 rfl inb_S2048x2816_S2048x512_0_0,
      View.readAt_rep_unit _ _ inb_S2048x2816_S2048x512_0_512 rfl inb_S2048x2816_S2048x512_0_512,
      View.readAt_rep_unit _ _ inb_S2048x2816_S2048x512_0_1024 rfl inb_S2048x2816_S2048x512_0_1024,
      View.readAt_rep_unit _ _ inb_S2048x2816_S2048x512_0_1536 rfl inb_S2048x2816_S2048x512_0_1536,
      View.readAt_rep_unit _ _ inb_S2048x2816_S2048x512_0_2048 rfl inb_S2048x2816_S2048x512_0_2048,
      View.readAt_rep_unit _ _ inb_S2048x2816_S2048x256_0_2560 rfl inb_S2048x2816_S2048x256_0_2560, pay19_eq, pay23_eq, pay24_eq, pay25_eq]
    exact stored _ _ _
  isplitr [HO]; swap; · iexact HO
  isplitl [H9 HF HWG]
  · isplitl [H9]; · iexists _; iexact H9
    isplitl [HF]; · iexact HF
    iexact HWG
  isplitl [H10]; · iexists _; iexact H10
  isplitl [HV]; · iexact HV
  iexact HWU

end Cert.Proof.Gated

end
-- ==== Proof.Gated.First.lean ====
module

public import proofs.«01_k».proof.Proof.Gated.Body

@[expose] public section

set_option maxRecDepth 16384

noncomputable section

namespace Cert.Proof.Gated

open Cert.ExpUpIdeal Cert.ExpUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords) (q : PosShare TreeShare)
  (arg5 : Memref sig .tc .vmem S512x2048 .f32) (harg5 : arg5.IsWhole) (arg8 : Memref sig .tc .vmem S512x1408 .bf16) (harg8 : arg8.IsWhole)
  (T2 : BufTy.Contents (Elt F) mTe.view.ty) (T3 : BufTy.Contents (Elt F) mNu.view.ty) (T4 : BufTy.Contents (Elt F) mNx.view.ty)
  (WG : BufTy.Contents (Elt F) mG.view.ty) (WU : BufTy.Contents (Elt F) mU.view.ty)

set_option maxHeartbeats 4000000 in
/-- The first tile, the next expert's blocks sent for. -/
theorem run_first_next (X5 : Vec F S512x2048 .f32) (X8 : Vec F S512x1408 .bf16) (B : Vec F S2048x2816 .bf16) (W0 : Waits sig Unit) (Q : PUnit → sProp 𝕄)
    (h1 : k0_cond1 i = 1#1)
    (h2 : k0_cond2 i (usedW T3) (hereW i T2) (backW i T2) = 1#1)
    (h3 : k0_cond3 (nextW i T4) = 1#1)
    (h4 : ¬ k0_cond4 i (nextW i T4) = 1#1)
    (h5 : k0_cond5 i (usedW T3) = 1#1)
    (h6 : ¬ k0_cond6 i (usedW T3) = 1#1)
    (k1 : k0_chk1 i (headW T2))
    (k2 : k0_chk2 i (usedW T3) (hereW i T2) (backW i T2) (hereW i T2))
    (k3 : k0_chk3 i (usedW T3) (hereW i T2) (backW i T2) (nextW i T4))
    :
    iprop(tables c q T2 T3 T4 ∗ held c arg5 arg8 X5 X8 B ∗ resting c WG WU ∗ owes (c : Thread nD τ) 0 W0
      ∗ (∀ W1 : Waits sig Unit, (tables c q T2 T3 T4 ∗ held c arg5 arg8 X5 (product X5 (pair WG WU (headW T2).toNat 0)) (pair WG WU (headW T2).toNat 0) ∗ flying c WG WU (nextW i T4).toNat (i 0).val ∗ owes (c : Thread nD τ) 0 W1) -∗ Q ⟨⟩))
    ⊢ wp frame (wpE (defs₀ (F := F)) Variants.none (c : Thread nD τ) none) Set.univ (body i arg5 harg5 arg8 harg8) Q := by
  unfold body
  sl_unfold [cc0_moe_up]
  unfold cc0_moe_up_skel
  simp only [k0_part3_eq_skeleton, k0_part4_eq_skeleton]
  unfold tables held resting idle flying sent
  iintro ⟨⟨H2, H3, H4⟩, ⟨H5, H8, H11⟩, ⟨⟨⟨%g0, H9⟩, HF, HWG⟩, ⟨⟨%u0, H10⟩, HV, HWU⟩⟩, HO, Hk⟩
  sl_exec
  ihave H9 := (pointsTo_rep_of_read (c : Thread nD τ) mSg _ fullShare (weights (mG.view.read (Elt F) WG) (headW T2).toNat 0) ((landed mSg _ _).trans (by sl_unfold_run_names; exact arrive mG WG _ _ _ _ (off3_at _)))) $$ H9
  ihave H10 := (pointsTo_rep_of_read (c : Thread nD τ) mSu _ fullShare (weights (mU.view.read (Elt F) WU) (headW T2).toNat 0) ((landed mSu _ _).trans (by sl_unfold_run_names; exact arrive mU WU _ _ _ _ (off3_at _)))) $$ H10
  sl_for (fun k _ => filling c (weights (mG.view.read (Elt F) WG) (headW T2).toNat 0) (weights (mU.view.read (Elt F) WU) (headW T2).toNat 0) k) $$ [H9 H10 H11]
  case region =>
    intro t _
    exact trip c i arg5 harg5 arg8 harg8 _ _ t
  · unfold filling
    isplitl [H9]; · iexact H9
    isplitl [H10]; · iexact H10
    iexists B
    isplitr
    · ipureintro
      intro y hy
      exact absurd hy (by omega)
    iexact H11
  iintro %_ HL
  unfold filling
  icases HL with ⟨H9, H10, %A, %hA, H11⟩
  have hfull : A = pair WG WU (headW T2).toNat 0 := funext fun y => hA y (by
    have h : (y 0).val < 2048 := (y 0).isLt
    exact lt_of_lt_of_eq h (congrArg (256 * ·) trips).symm)
  subst hfull
  sl_exec
  sl_step
  iapply Hk
  isplitl [H2 H3 H4]
  · isplitl [H2]; · iexact H2
    isplitl [H3]; · iexact H3
    iexact H4
  isplitl [H5 H8 H11]
  · isplitl [H5]; · iexact H5
    isplitl [H8]; swap; · iexact H11
    iapply (pointsTo_rep_of_read (c : Thread nD τ) arg8 _ _ _ ?_) $$ H8
    sl_unfold_run_names
    rw [View.read_writes_cons_put _ _ _ _ _ rfl, View.read_writes_cons_put _ _ _ _ _ rfl, View.read_writes_cons_put _ _ _ _ _ rfl,
      View.read_writes_cons_put _ _ _ _ _ rfl, View.read_writes_cons_put _ _ _ _ _ rfl, View.read_writes_cons_put _ _ _ _ _ rfl, View.readAt_rep_full arg5.view X5,
      View.readAt_rep_unit _ _ inb_S2048x2816_S2048x512_0_0 rfl inb_S2048x2816_S2048x512_0_0,
      View.readAt_rep_unit _ _ inb_S2048x2816_S2048x512_0_512 rfl inb_S2048x2816_S2048x512_0_512,
      View.readAt_rep_unit _ _ inb_S2048x2816_S2048x512_0_1024 rfl inb_S2048x2816_S2048x512_0_1024,
      View.readAt_rep_unit _ _ inb_S2048x2816_S2048x512_0_1536 rfl inb_S2048x2816_S2048x512_0_1536,
      View.readAt_rep_unit _ _ inb_S2048x2816_S2048x512_0_2048 rfl inb_S2048x2816_S2048x512_0_2048,
      View.readAt_rep_unit _ _ inb_S2048x2816_S2048x256_0_2560 rfl inb_S2048x2816_S2048x256_0_2560, pay19_eq, pay23_eq, pay24_eq, pay25_eq]
    exact stored _ _ _
  isplitr [HO]; swap; · iexact HO
  isplitl [HF HWG]
  · iexists _, _
    isplitr; swap
    · isplitl [HF]; · iexact HF
      iexact HWG
    ipureintro
    refine (landed mSg _ _).trans ?_
    sl_unfold_run_names
    exact arrive mG WG _ _ _ _ (off25_at i _)
  iexists _, _
  isplitr; swap
  · isplitl [HV]; · iexact HV
    iexact HWU
  ipureintro
  refine (landed mSu _ _).trans ?_
  sl_unfold_run_names
  exact arrive mU WU _ _ _ _ (off25_at i _)

set_option maxHeartbeats 4000000 in
/-- The first tile, of the one expert in use. -/
theorem run_first_wrap (X5 : Vec F S512x2048 .f32) (X8 : Vec F S512x1408 .bf16) (B : Vec F S2048x2816 .bf16) (W0 : Waits sig Unit) (Q : PUnit → sProp 𝕄)
    (h1 : k0_cond1 i = 1#1)
    (h2 : k0_cond2 i (usedW T3) (hereW i T2) (backW i T2) = 1#1)
    (h3 : ¬ k0_cond3 (nextW i T4) = 1#1)
    (h4 : k0_cond4 i (nextW i T4) = 1#1)
    (h5 : k0_cond5 i (usedW T3) = 1#1)
    (h6 : ¬ k0_cond6 i (usedW T3) = 1#1)
    (k1 : k0_chk1 i (headW T2))
    (k2 : k0_chk2 i (usedW T3) (hereW i T2) (backW i T2) (hereW i T2))
    (k3 : k0_chk3 i (usedW T3) (hereW i T2) (backW i T2) (nextW i T4))
    (k4 : k0_chk4 i (usedW T3) (hereW i T2) (backW i T2) (nextW i T4) (headW T2))
    :
    iprop(tables c q T2 T3 T4 ∗ held c arg5 arg8 X5 X8 B ∗ resting c WG WU ∗ owes (c : Thread nD τ) 0 W0
      ∗ (∀ W1 : Waits sig Unit, (tables c q T2 T3 T4 ∗ held c arg5 arg8 X5 (product X5 (pair WG WU (headW T2).toNat 0)) (pair WG WU (headW T2).toNat 0) ∗ flying c WG WU (headW T2).toNat ((i 0).val + 1) ∗ owes (c : Thread nD τ) 0 W1) -∗ Q ⟨⟩))
    ⊢ wp frame (wpE (defs₀ (F := F)) Variants.none (c : Thread nD τ) none) Set.univ (body i arg5 harg5 arg8 harg8) Q := by
  unfold body
  sl_unfold [cc0_moe_up]
  unfold cc0_moe_up_skel
  simp only [k0_part3_eq_skeleton, k0_part4_eq_skeleton]
  unfold tables held resting idle flying sent
  iintro ⟨⟨H2, H3, H4⟩, ⟨H5, H8, H11⟩, ⟨⟨⟨%g0, H9⟩, HF, HWG⟩, ⟨⟨%u0, H10⟩, HV, HWU⟩⟩, HO, Hk⟩
  sl_exec
  ihave H9 := (pointsTo_rep_of_read (c : Thread nD τ) mSg _ fullShare (weights (mG.view.read (Elt F) WG) (headW T2).toNat 0) ((landed mSg _ _).trans (by sl_unfold_run_names; exact arrive mG WG _ _ _ _ (off3_at _)))) $$ H9
  ihave H10 := (pointsTo_rep_of_read (c : Thread nD τ) mSu _ fullShare (weights (mU.view.read (Elt F) WU) (headW T2).toNat 0) ((landed mSu _ _).trans (by sl_unfold_run_names; exact arrive mU WU _ _ _ _ (off3_at _)))) $$ H10
  sl_for (fun k _ => filling c (weights (mG.view.read (Elt F) WG) (headW T2).toNat 0) (weights (mU.view.read (Elt F) WU) (headW T2).toNat 0) k) $$ [H9 H10 H11]
  case region =>
    intro t _
    exact trip c i arg5 harg5 arg8 harg8 _ _ t
  · unfold filling
    isplitl [H9]; · iexact H9
    isplitl [H10]; · iexact H10
    iexists B
    isplitr
    · ipureintro
      intro y hy
      exact absurd hy (by omega)
    iexact H11
  iintro %_ HL
  unfold filling
  icases HL with ⟨H9, H10, %A, %hA, H11⟩
  have hfull : A = pair WG WU (headW T2).toNat 0 := funext fun y => hA y (by
    have h : (y 0).val < 2048 := (y 0).isLt
    exact lt_of_lt_of_eq h (congrArg (256 * ·) trips).symm)
  subst hfull
  sl_exec
  sl_step
  iapply Hk
  isplitl [H2 H3 H4]
  · isplitl [H2]; · iexact H2
    isplitl [H3]; · iexact H3
    iexact H4
  isplitl [H5 H8 H11]
  · isplitl [H5]; · iexact H5
    isplitl [H8]; swap; · iexact H11
    iapply (pointsTo_rep_of_read (c : Thread nD τ) arg8 _ _ _ ?_) $$ H8
    sl_unfold_run_names
    rw [View.read_writes_cons_put _ _ _ _ _ rfl, View.read_writes_cons_put _ _ _ _ _ rfl, View.read_writes_cons_put _ _ _ _ _ rfl,
      View.read_writes_cons_put _ _ _ _ _ rfl, View.read_writes_cons_put _ _ _ _ _ rfl, View.read_writes_cons_put _ _ _ _ _ rfl, View.readAt_rep_full arg5.view X5,
      View.readAt_rep_unit _ _ inb_S2048x2816_S2048x512_0_0 rfl inb_S2048x2816_S2048x512_0_0,
      View.readAt_rep_unit _ _ inb_S2048x2816_S2048x512_0_512 rfl inb_S2048x2816_S2048x512_0_512,
      View.readAt_rep_unit _ _ inb_S2048x2816_S2048x512_0_1024 rfl inb_S2048x2816_S2048x512_0_1024,
      View.readAt_rep_unit _ _ inb_S2048x2816_S2048x512_0_1536 rfl inb_S2048x2816_S2048x512_0_1536,
      View.readAt_rep_unit _ _ inb_S2048x2816_S2048x512_0_2048 rfl inb_S2048x2816_S2048x512_0_2048,
      View.readAt_rep_unit _ _ inb_S2048x2816_S2048x256_0_2560 rfl inb_S2048x2816_S2048x256_0_2560, pay19_eq, pay23_eq, pay24_eq, pay25_eq]
    exact stored _ _ _
  isplitr [HO]; swap; · iexact HO
  isplitl [HF HWG]
  · iexists _, _
    isplitr; swap
    · isplitl [HF]; · iexact HF
      iexact HWG
    ipureintro
    refine (landed mSg _ _).trans ?_
    sl_unfold_run_names
    exact arrive mG WG _ _ _ _ (off26_at i _)
  iexists _, _
  isplitr; swap
  · isplitl [HV]; · iexact HV
    iexact HWU
  ipureintro
  refine (landed mSu _ _).trans ?_
  sl_unfold_run_names
  exact arrive mU WU _ _ _ _ (off26_at i _)

end Cert.Proof.Gated

end
-- ==== Proof.Gated.Same.lean ====
module

public import proofs.«01_k».proof.Proof.Gated.Body

@[expose] public section

set_option maxRecDepth 16384

noncomputable section

namespace Cert.Proof.Gated

open Cert.ExpUpIdeal Cert.ExpUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords) (q : PosShare TreeShare)
  (arg5 : Memref sig .tc .vmem S512x2048 .f32) (harg5 : arg5.IsWhole) (arg8 : Memref sig .tc .vmem S512x1408 .bf16) (harg8 : arg8.IsWhole)
  (T2 : BufTy.Contents (Elt F) mTe.view.ty) (T3 : BufTy.Contents (Elt F) mNu.view.ty) (T4 : BufTy.Contents (Elt F) mNx.view.ty)
  (WG : BufTy.Contents (Elt F) mG.view.ty) (WU : BufTy.Contents (Elt F) mU.view.ty)

set_option maxHeartbeats 4000000 in
/-- A used tile of the expert of the tile before. -/
theorem run_same (X5 : Vec F S512x2048 .f32) (X8 : Vec F S512x1408 .bf16) (B : Vec F S2048x2816 .bf16) (W0 : Waits sig Unit) (Q : PUnit → sProp 𝕄)
    (h1 : ¬ k0_cond1 i = 1#1)
    (h2 : ¬ k0_cond2 i (usedW T3) (hereW i T2) (backW i T2) = 1#1)
    (h5 : k0_cond5 i (usedW T3) = 1#1)
    (h6 : ¬ k0_cond6 i (usedW T3) = 1#1)
    :
    iprop(tables c q T2 T3 T4 ∗ held c arg5 arg8 X5 X8 B ∗ owes (c : Thread nD τ) 0 W0
      ∗ ((tables c q T2 T3 T4 ∗ held c arg5 arg8 X5 (product X5 B) B ∗ owes (c : Thread nD τ) 0 W0) -∗ Q ⟨⟩))
    ⊢ wp frame (wpE (defs₀ (F := F)) Variants.none (c : Thread nD τ) none) Set.univ (body i arg5 harg5 arg8 harg8) Q := by
  unfold body
  sl_unfold [cc0_moe_up]
  unfold cc0_moe_up_skel
  simp only [k0_part3_eq_skeleton, k0_part4_eq_skeleton]
  unfold tables held
  iintro ⟨⟨H2, H3, H4⟩, ⟨H5, H8, H11⟩, HO, Hk⟩
  sl_exec
  sl_step
  iapply Hk
  isplitl [H2 H3 H4]
  · isplitl [H2]; · iexact H2
    isplitl [H3]; · iexact H3
    iexact H4
  isplitl [H5 H8 H11]
  · isplitl [H5]; · iexact H5
    isplitl [H8]; swap; · iexact H11
    iapply (pointsTo_rep_of_read (c : Thread nD τ) arg8 _ _ _ ?_) $$ H8
    sl_unfold_run_names
    rw [View.read_writes_cons_put _ _ _ _ _ rfl, View.read_writes_cons_put _ _ _ _ _ rfl, View.read_writes_cons_put _ _ _ _ _ rfl,
      View.read_writes_cons_put _ _ _ _ _ rfl, View.read_writes_cons_put _ _ _ _ _ rfl, View.read_writes_cons_put _ _ _ _ _ rfl, View.readAt_rep_full arg5.view X5,
      View.readAt_rep_unit _ _ inb_S2048x2816_S2048x512_0_0 rfl inb_S2048x2816_S2048x512_0_0,
      View.readAt_rep_unit _ _ inb_S2048x2816_S2048x512_0_512 rfl inb_S2048x2816_S2048x512_0_512,
      View.readAt_rep_unit _ _ inb_S2048x2816_S2048x512_0_1024 rfl inb_S2048x2816_S2048x512_0_1024,
      View.readAt_rep_unit _ _ inb_S2048x2816_S2048x512_0_1536 rfl inb_S2048x2816_S2048x512_0_1536,
      View.readAt_rep_unit _ _ inb_S2048x2816_S2048x512_0_2048 rfl inb_S2048x2816_S2048x512_0_2048,
      View.readAt_rep_unit _ _ inb_S2048x2816_S2048x256_0_2560 rfl inb_S2048x2816_S2048x256_0_2560, pay19_eq, pay23_eq, pay24_eq, pay25_eq]
    exact stored _ _ _
  iexact HO

set_option maxHeartbeats 4000000 in
/-- An unused tile. -/
theorem run_unused (X5 : Vec F S512x2048 .f32) (X8 : Vec F S512x1408 .bf16) (B : Vec F S2048x2816 .bf16) (W0 : Waits sig Unit) (Q : PUnit → sProp 𝕄)
    (h1 : ¬ k0_cond1 i = 1#1)
    (h2 : ¬ k0_cond2 i (usedW T3) (hereW i T2) (backW i T2) = 1#1)
    (h5 : ¬ k0_cond5 i (usedW T3) = 1#1)
    (h6 : k0_cond6 i (usedW T3) = 1#1)
    :
    iprop(tables c q T2 T3 T4 ∗ held c arg5 arg8 X5 X8 B ∗ owes (c : Thread nD τ) 0 W0
      ∗ ((tables c q T2 T3 T4 ∗ held c arg5 arg8 X5 (k0_pay3 (F := F)) B ∗ owes (c : Thread nD τ) 0 W0) -∗ Q ⟨⟩))
    ⊢ wp frame (wpE (defs₀ (F := F)) Variants.none (c : Thread nD τ) none) Set.univ (body i arg5 harg5 arg8 harg8) Q := by
  unfold body
  sl_unfold [cc0_moe_up]
  unfold cc0_moe_up_skel
  simp only [k0_part3_eq_skeleton, k0_part4_eq_skeleton]
  unfold tables held
  iintro ⟨⟨H2, H3, H4⟩, ⟨H5, H8, H11⟩, HO, Hk⟩
  sl_exec
  sl_step
  iapply Hk
  isplitl [H2 H3 H4]
  · isplitl [H2]; · iexact H2
    isplitl [H3]; · iexact H3
    iexact H4
  isplitl [H5 H8 H11]
  · isplitl [H5]; · iexact H5
    isplitl [H8]; swap; · iexact H11
    iapply (pointsTo_rep_of_read (c : Thread nD τ) arg8 _ _ _ ?_) $$ H8
    exact View.read_writes_full _ _ _ _ _
  iexact HO

end Cert.Proof.Gated

end
-- ==== Proof.Gated.State.lean ====
/- What the loop holds between points — the blocks of weights in use, those on their way — and the body's triple at a point over it. -/
module

public import proofs.«01_k».proof.Proof.Gated.Route
public import proofs.«01_k».proof.Proof.Gated.Next
public import proofs.«01_k».proof.Proof.Gated.Wrap
public import proofs.«01_k».proof.Proof.Gated.Last
public import proofs.«01_k».proof.Proof.Gated.First
public import proofs.«01_k».proof.Proof.Gated.Same

@[expose] public section

set_option maxRecDepth 16384

noncomputable section

namespace Cert.Proof.Gated

open Cert.ExpUpIdeal Cert.ExpUpIdeal.Gen
open Cert.Proof.Experts (entry Routed)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (WG : BufTy.Contents (Elt F) mG.view.ty) (WU : BufTy.Contents (Elt F) mU.view.ty) (te nx : ℕ → BitVec 32) (n : ℕ)

/-- The blocks on their way after `t` tiles of column tile `j`: the successor's, or the first tile's of the next column tile, or none. -/
def pend (j t : ℕ) : sProp 𝕄 :=
  if t = 0 then (if 1 ≤ j ∧ j ≤ 3 then flying c WG WU (te 0).toNat j else resting c WG WU)
  else if (nx (min (t - 1) (n - 1))).toNat < 2 ^ 31 then flying c WG WU (nx (min (t - 1) (n - 1))).toNat j
  else if j < 3 then flying c WG WU (te 0).toNat (j + 1) else resting c WG WU

/-- The rounded blocks of tile `t` of column tile `j`. -/
def block (j t : ℕ) : Vec F S2048x2816 .bf16 := pair WG WU (te t).toNat j

/-- What is held after `t` tiles of column tile `j`: the rounded blocks of the tile before, if that was used, and the blocks on their way. -/
def state (j t : ℕ) : sProp 𝕄 :=
  iprop(∃ B : Vec F S2048x2816 .bf16, ⌜t ≠ 0 → t - 1 < n → B = block WG WU te j (t - 1)⌝
    ∗ (mB.view.loc (c : Thread nD τ) ↦[mB.view.set]{fullShare} mB.view.rep B) ∗ pend c WG WU te nx n j t)

/-- What tile `t` of column tile `j` leaves of the result. -/
def outcome (X : Vec F S512x2048 .f32) (j t : ℕ) : Vec F S512x1408 .bf16 := if t < n then product X (block WG WU te j t) else k0_pay3 (F := F)

variable {te nx n}

/-- After the last tile of a column tile is before the first of the next. -/
theorem pend_wrap (R : Routed te nx n) (j : ℕ) (hj : j < 4) : pend c WG WU te nx n j 72 = pend c WG WU te nx n (j + 1) 0 := by
  have hn := R.le
  unfold pend
  rw [if_neg (by decide), if_pos rfl, show min (72 - 1) (n - 1) = n - 1 by omega, if_neg R.last]
  rcases Nat.lt_or_ge j 3 with h | h
  · rw [if_pos h, if_pos (by omega)]
  · rw [if_neg (by omega), if_neg (by omega)]

theorem state_wrap (R : Routed te nx n) (j : ℕ) (hj : j < 4) : (state c WG WU te nx n j 72 : sProp 𝕄) ⊢ state c WG WU te nx n (j + 1) 0 := by
  unfold state
  rw [pend_wrap c WG WU R j hj]
  iintro ⟨%B, %_, HB, HP⟩
  iexists B
  isplitr
  · ipureintro
    exact fun h => absurd rfl h
  isplitl [HB]; · iexact HB
  iexact HP

/-- Before a fresh tile, its own blocks are on their way. -/
theorem pend_fresh (R : Routed te nx n) (j t : ℕ) (hj : j < 4) (ht : t < n) (hf : t = 0 ∨ te t ≠ te (t - 1)) (h0 : ¬ (j = 0 ∧ t = 0)) :
    pend c WG WU te nx n j t = (flying c WG WU (te t).toNat j : sProp 𝕄) := by
  unfold pend
  by_cases h : t = 0
  · subst h
    rw [if_pos rfl, if_pos (by omega)]
  · have hc : nx (t - 1) = te t := by
      have := R.change (t - 1) (by omega) (by rw [show t - 1 + 1 = t by omega]; exact (hf.resolve_left h).symm)
      rwa [show t - 1 + 1 = t by omega] at this
    have := R.expert t ht
    rw [if_neg h, show min (t - 1) (n - 1) = t - 1 by omega, hc, if_pos (by omega)]

/-- A tile of the same expert, or unused, leaves what is on its way. -/
theorem pend_same (R : Routed te nx n) (j t : ℕ) (h0 : t ≠ 0) (h : t < n → te t = te (t - 1)) :
    pend c WG WU te nx n j (t + 1) = (pend c WG WU te nx n j t : sProp 𝕄) := by
  have key : nx (min (t + 1 - 1) (n - 1)) = nx (min (t - 1) (n - 1)) := by
    by_cases ht : t < n
    · have := R.same (t - 1) (by omega) (by rw [show t - 1 + 1 = t by omega]; exact (h ht).symm)
      rw [show t - 1 + 1 = t by omega] at this
      rw [show min (t + 1 - 1) (n - 1) = t by omega, show min (t - 1) (n - 1) = t - 1 by omega, this]
    · rw [show min (t + 1 - 1) (n - 1) = n - 1 by omega, show min (t - 1) (n - 1) = n - 1 by omega]
  unfold pend
  rw [if_neg (by omega), if_neg h0, key]

theorem pend_next (j t : ℕ) (ht : t < n) (hx : (nx t).toNat < 2 ^ 31) : pend c WG WU te nx n j (t + 1) = (flying c WG WU (nx t).toNat j : sProp 𝕄) := by
  unfold pend
  rw [if_neg (by omega), show min (t + 1 - 1) (n - 1) = t by omega, if_pos hx]

theorem pend_head (j t : ℕ) (ht : t < n) (hx : ¬ (nx t).toNat < 2 ^ 31) (hj : j < 3) : pend c WG WU te nx n j (t + 1) = (flying c WG WU (te 0).toNat (j + 1) : sProp 𝕄) := by
  unfold pend
  rw [if_neg (by omega), show min (t + 1 - 1) (n - 1) = t by omega, if_neg hx, if_pos hj]

theorem pend_none (j t : ℕ) (ht : t < n) (hx : ¬ (nx t).toNat < 2 ^ 31) (hj : ¬ j < 3) : pend c WG WU te nx n j (t + 1) = (resting c WG WU : sProp 𝕄) := by
  unfold pend
  rw [if_neg (by omega), show min (t + 1 - 1) (n - 1) = t by omega, if_neg hx, if_neg hj]

theorem pend_first : pend c WG WU te nx n 0 0 = (resting c WG WU : sProp 𝕄) := by
  unfold pend
  rw [if_pos rfl, if_neg (by decide)]

/-! ## The body at a point -/

section Step
variable (i : grid0.Coords) (q : PosShare TreeShare)
  (arg5 : Memref sig .tc .vmem S512x2048 .f32) (harg5 : arg5.IsWhole) (arg8 : Memref sig .tc .vmem S512x1408 .bf16) (harg8 : arg8.IsWhole)
  (T2 : BufTy.Contents (Elt F) mTe.view.ty) (T3 : BufTy.Contents (Elt F) mNu.view.ty) (T4 : BufTy.Contents (Elt F) mNx.view.ty)

/-- A run at a fresh tile, as a step from what is held before it to what is held after. -/
theorem step_fresh (P P' : sProp 𝕄) (B' : Vec F S2048x2816 .bf16) (j t : ℕ) (X5 : Vec F S512x2048 .f32) (W0 : Waits sig Unit) (Q : PUnit → sProp 𝕄) (ht : t < n)
    (hP : pend c WG WU te nx n j t = P) (hP' : pend c WG WU te nx n j (t + 1) = P') (hB' : B' = block WG WU te j t)
    (hrun : ∀ (X8 : Vec F S512x1408 .bf16) (B : Vec F S2048x2816 .bf16),
      iprop(tables c q T2 T3 T4 ∗ held c arg5 arg8 X5 X8 B ∗ P ∗ owes (c : Thread nD τ) 0 W0
          ∗ (∀ W1 : Waits sig Unit, (tables c q T2 T3 T4 ∗ held c arg5 arg8 X5 (product X5 B') B' ∗ P' ∗ owes (c : Thread nD τ) 0 W1) -∗ Q ⟨⟩))
        ⊢ wp frame (wpE (defs₀ (F := F)) Variants.none (c : Thread nD τ) none) Set.univ (body i arg5 harg5 arg8 harg8) Q) :
    iprop(tables c q T2 T3 T4 ∗ (arg5.view.loc (c : Thread nD τ) ↦[arg5.view.set]{fullShare} arg5.view.rep X5)
      ∗ (∃ X8 : Vec F S512x1408 .bf16, arg8.view.loc (c : Thread nD τ) ↦[arg8.view.set]{fullShare} arg8.view.rep X8)
      ∗ state c WG WU te nx n j t ∗ owes (c : Thread nD τ) 0 W0
      ∗ (∀ W1 : Waits sig Unit, (tables c q T2 T3 T4 ∗ (arg5.view.loc (c : Thread nD τ) ↦[arg5.view.set]{fullShare} arg5.view.rep X5)
          ∗ (arg8.view.loc (c : Thread nD τ) ↦[arg8.view.set]{fullShare} arg8.view.rep (outcome WG WU te n X5 j t))
          ∗ state c WG WU te nx n j (t + 1) ∗ owes (c : Thread nD τ) 0 W1) -∗ Q ⟨⟩))
    ⊢ wp frame (wpE (defs₀ (F := F)) Variants.none (c : Thread nD τ) none) Set.univ (body i arg5 harg5 arg8 harg8) Q := by
  unfold state outcome
  rw [hP, hP', if_pos ht, ← hB']
  iintro ⟨HT, H5, ⟨%X8, H8⟩, ⟨%B, %_, HB, HP⟩, HO, Hk⟩
  iapply (hrun X8 B)
  unfold held
  isplitl [HT]; · iexact HT
  isplitl [H5 H8 HB]
  · isplitl [H5]; · iexact H5
    isplitl [H8]; · iexact H8
    iexact HB
  isplitl [HP]; · iexact HP
  isplitl [HO]; · iexact HO
  iintro %W1 ⟨HT, ⟨H5, H8, HB⟩, HP, HO⟩
  iapply Hk
  isplitl [HT]; · iexact HT
  isplitl [H5]; · iexact H5
  isplitl [H8]; · iexact H8
  isplitl [HB HP]
  · iexists B'
    isplitr
    · ipureintro
      intro _ _
      exact hB'
    isplitl [HB]; · iexact HB
    iexact HP
  iexact HO

/-- A run at any other tile, likewise. -/
theorem step_same (j t : ℕ) (X5 : Vec F S512x2048 .f32) (W0 : Waits sig Unit) (Q : PUnit → sProp 𝕄) (h0 : t ≠ 0)
    (R : Routed te nx n) (hs : t < n → te t = te (t - 1))
    (out : Vec F S2048x2816 .bf16 → Vec F S512x1408 .bf16) (hout : ∀ B, (t < n → B = block WG WU te j t) → out B = outcome WG WU te n X5 j t)
    (hrun : ∀ (X8 : Vec F S512x1408 .bf16) (B : Vec F S2048x2816 .bf16) (Q : PUnit → sProp 𝕄),
      iprop(tables c q T2 T3 T4 ∗ held c arg5 arg8 X5 X8 B ∗ owes (c : Thread nD τ) 0 W0
          ∗ ((tables c q T2 T3 T4 ∗ held c arg5 arg8 X5 (out B) B ∗ owes (c : Thread nD τ) 0 W0) -∗ Q ⟨⟩))
        ⊢ wp frame (wpE (defs₀ (F := F)) Variants.none (c : Thread nD τ) none) Set.univ (body i arg5 harg5 arg8 harg8) Q) :
    iprop(tables c q T2 T3 T4 ∗ (arg5.view.loc (c : Thread nD τ) ↦[arg5.view.set]{fullShare} arg5.view.rep X5)
      ∗ (∃ X8 : Vec F S512x1408 .bf16, arg8.view.loc (c : Thread nD τ) ↦[arg8.view.set]{fullShare} arg8.view.rep X8)
      ∗ state c WG WU te nx n j t ∗ owes (c : Thread nD τ) 0 W0
      ∗ (∀ W1 : Waits sig Unit, (tables c q T2 T3 T4 ∗ (arg5.view.loc (c : Thread nD τ) ↦[arg5.view.set]{fullShare} arg5.view.rep X5)
          ∗ (arg8.view.loc (c : Thread nD τ) ↦[arg8.view.set]{fullShare} arg8.view.rep (outcome WG WU te n X5 j t))
          ∗ state c WG WU te nx n j (t + 1) ∗ owes (c : Thread nD τ) 0 W1) -∗ Q ⟨⟩))
    ⊢ wp frame (wpE (defs₀ (F := F)) Variants.none (c : Thread nD τ) none) Set.univ (body i arg5 harg5 arg8 harg8) Q := by
  unfold state
  rw [pend_same c WG WU R j t h0 hs]
  iintro ⟨HT, H5, ⟨%X8, H8⟩, ⟨%B, %hB, HB, HP⟩, HO, Hk⟩
  have hB' : t < n → B = block WG WU te j t := fun ht => by
    rw [hB h0 (by omega)]
    unfold block
    rw [hs ht]
  iapply (hrun X8 B)
  unfold held
  isplitl [HT]; · iexact HT
  isplitl [H5 H8 HB]
  · isplitl [H5]; · iexact H5
    isplitl [H8]; · iexact H8
    iexact HB
  isplitl [HO]; · iexact HO
  rw [hout B hB']
  iintro ⟨HT, ⟨H5, H8, HB⟩, HO⟩
  iapply Hk
  isplitl [HT]; · iexact HT
  isplitl [H5]; · iexact H5
  isplitl [H8]; · iexact H8
  isplitl [HB HP]
  · iexists B
    isplitr
    · ipureintro
      intro _ ht
      exact hB' ht
    isplitl [HB]; · iexact HB
    iexact HP
  iexact HO

/-- The body at a point takes what is held before it to what is held after, and leaves the point's block of the result. -/
theorem step (R : Routed (entry T2) (entry T4) (Experts.count T3).toNat) (X5 : Vec F S512x2048 .f32) (W0 : Waits sig Unit) (Q : PUnit → sProp 𝕄) :
    iprop(tables c q T2 T3 T4 ∗ (arg5.view.loc (c : Thread nD τ) ↦[arg5.view.set]{fullShare} arg5.view.rep X5)
      ∗ (∃ X8 : Vec F S512x1408 .bf16, arg8.view.loc (c : Thread nD τ) ↦[arg8.view.set]{fullShare} arg8.view.rep X8)
      ∗ state c WG WU (entry T2) (entry T4) (Experts.count T3).toNat (i 0).val (i 1).val ∗ owes (c : Thread nD τ) 0 W0
      ∗ (∀ W1 : Waits sig Unit, (tables c q T2 T3 T4 ∗ (arg5.view.loc (c : Thread nD τ) ↦[arg5.view.set]{fullShare} arg5.view.rep X5)
          ∗ (arg8.view.loc (c : Thread nD τ) ↦[arg8.view.set]{fullShare} arg8.view.rep (outcome WG WU (entry T2) (Experts.count T3).toNat X5 (i 0).val (i 1).val))
          ∗ state c WG WU (entry T2) (entry T4) (Experts.count T3).toNat (i 0).val ((i 1).val + 1) ∗ owes (c : Thread nD τ) 0 W1) -∗ Q ⟨⟩))
    ⊢ wp frame (wpE (defs₀ (F := F)) Variants.none (c : Thread nD τ) none) Set.univ (body i arg5 harg5 arg8 harg8) Q := by
  have hle : (usedW T3).toNat ≤ 72 := by rw [usedW_eq]; exact R.le
  have hu : (Experts.count T3).toNat = (usedW T3).toNat := by rw [usedW_eq]
  have hj : (i 0).val < 4 := (i 0).isLt
  have hpos := R.pos
  have hhead : (entry T2 0).toNat < 8 := R.expert 0 (by omega)
  have c1 := cond1_iff i
  have c2 := cond2_iff i (usedW T3) (hereW i T2) (backW i T2) hle
  have c3 := cond3_iff (nextW i T4)
  have c4 := cond4_iff i (nextW i T4)
  have c5 := cond5_iff i (usedW T3) hle
  have c6 := cond6_iff i (usedW T3) hle
  have eh := hereW_eq (F := F) i T2
  have eb := backW_eq (F := F) i T2
  have ex := nextW_eq (F := F) i T4
  have e0 := headW_eq (F := F) T2
  by_cases ht : (i 1).val < (Experts.count T3).toNat
  · have h5 := c5.mpr (hu ▸ ht)
    have h6 : ¬ k0_cond6 i (usedW T3) = 1#1 := fun h => c6.mp h (hu ▸ ht)
    have hx := R.next_lt (i 1).val ht
    by_cases hf : (i 1).val = 0 ∨ entry T2 (i 1).val ≠ entry T2 ((i 1).val - 1)
    · have h2 := c2.mpr ⟨hu ▸ ht, by rw [eh, eb]; exact hf⟩
      have k2 := chk2_of i (usedW T3) (hereW i T2) (hereW i T2) (backW i T2) (by rw [eh]; exact R.expert _ ht)
      have k3 := chk3_of i (usedW T3) (nextW i T4) (hereW i T2) (backW i T2) (by rw [ex]; exact hx)
      have k4 := chk4_of i (usedW T3) (nextW i T4) (hereW i T2) (backW i T2) (headW T2) (by rw [e0]; exact hhead)
      have k1 := chk1_of i (headW T2) (by rw [e0]; exact hhead)
      by_cases hF : (i 0).val = 0 ∧ (i 1).val = 0
      · have h1 := c1.mpr hF
        by_cases hn : (nextW i T4).toNat < 2 ^ 31
        · have h3 := c3.mpr hn
          have h4 : ¬ k0_cond4 i (nextW i T4) = 1#1 := fun h => (c4.mp h).1 hn
          refine step_fresh c WG WU i q arg5 harg5 arg8 harg8 T2 T3 T4 _ _ _ (i 0).val (i 1).val X5 W0 Q ht ?_ ?_ ?_ fun X8 B => run_first_next c i q arg5 harg5 arg8 harg8 T2 T3 T4 WG WU X5 X8 B W0 Q h1 h2 h3 h4 h5 h6 k1 k2 k3
          · rw [hF.1, hF.2]; exact pend_first c WG WU
          · rw [ex] at hn ⊢; exact pend_next c WG WU _ _ ht hn
          · unfold block; rw [e0, hF.1, hF.2]
        · have h3 : ¬ k0_cond3 (nextW i T4) = 1#1 := fun h => hn (c3.mp h)
          have h4 := c4.mpr ⟨hn, by omega⟩
          refine step_fresh c WG WU i q arg5 harg5 arg8 harg8 T2 T3 T4 _ _ _ (i 0).val (i 1).val X5 W0 Q ht ?_ ?_ ?_ fun X8 B => run_first_wrap c i q arg5 harg5 arg8 harg8 T2 T3 T4 WG WU X5 X8 B W0 Q h1 h2 h3 h4 h5 h6 k1 k2 k3 k4
          · rw [hF.1, hF.2]; exact pend_first c WG WU
          · rw [ex] at hn; rw [e0]; exact pend_head c WG WU _ _ ht hn (by omega)
          · unfold block; rw [e0, hF.1, hF.2]
      · have h1 : ¬ k0_cond1 i = 1#1 := fun h => hF (c1.mp h)
        have hp := pend_fresh c WG WU R (i 0).val (i 1).val hj ht hf hF
        by_cases hn : (nextW i T4).toNat < 2 ^ 31
        · have h3 := c3.mpr hn
          have h4 : ¬ k0_cond4 i (nextW i T4) = 1#1 := fun h => (c4.mp h).1 hn
          refine step_fresh c WG WU i q arg5 harg5 arg8 harg8 T2 T3 T4 _ _ _ (i 0).val (i 1).val X5 W0 Q ht hp ?_ rfl fun X8 B => run_next c i q arg5 harg5 arg8 harg8 T2 T3 T4 WG WU _ X5 X8 B W0 Q h1 h2 h3 h4 h5 h6 k2 k3
          rw [ex] at hn ⊢; exact pend_next c WG WU _ _ ht hn
        · have h3 : ¬ k0_cond3 (nextW i T4) = 1#1 := fun h => hn (c3.mp h)
          by_cases hz : (i 0).val < 3
          · have h4 := c4.mpr ⟨hn, hz⟩
            refine step_fresh c WG WU i q arg5 harg5 arg8 harg8 T2 T3 T4 _ _ _ (i 0).val (i 1).val X5 W0 Q ht hp ?_ rfl fun X8 B => run_wrap c i q arg5 harg5 arg8 harg8 T2 T3 T4 WG WU _ X5 X8 B W0 Q h1 h2 h3 h4 h5 h6 k2 k3 k4
            rw [ex] at hn; rw [e0]; exact pend_head c WG WU _ _ ht hn hz
          · have h4 : ¬ k0_cond4 i (nextW i T4) = 1#1 := fun h => hz (c4.mp h).2
            refine step_fresh c WG WU i q arg5 harg5 arg8 harg8 T2 T3 T4 _ _ _ (i 0).val (i 1).val X5 W0 Q ht hp ?_ rfl fun X8 B => run_end c i q arg5 harg5 arg8 harg8 T2 T3 T4 WG WU _ X5 X8 B W0 Q h1 h2 h3 h4 h5 h6 k2 k3
            rw [ex] at hn; exact pend_none c WG WU _ _ ht hn hz
    · have h0 : (i 1).val ≠ 0 := fun h => hf (Or.inl h)
      have hs : entry T2 (i 1).val = entry T2 ((i 1).val - 1) := Classical.byContradiction fun h => hf (Or.inr h)
      have h1 : ¬ k0_cond1 i = 1#1 := fun h => h0 (c1.mp h).2
      have h2 : ¬ k0_cond2 i (usedW T3) (hereW i T2) (backW i T2) = 1#1 := fun h => by
        have := (c2.mp h).2
        rw [eh, eb] at this
        exact hf this
      refine step_same c WG WU i q arg5 harg5 arg8 harg8 T2 T3 T4 (i 0).val (i 1).val X5 W0 Q h0 R (fun _ => hs) (fun B => product X5 B) (fun B hB => ?_) fun X8 B Q => run_same c i q arg5 harg5 arg8 harg8 T2 T3 T4 X5 X8 B W0 Q h1 h2 h5 h6
      unfold outcome
      rw [if_pos ht, hB ht]
  · have h0 : (i 1).val ≠ 0 := fun h => ht (by omega)
    have h1 : ¬ k0_cond1 i = 1#1 := fun h => h0 (c1.mp h).2
    have h2 : ¬ k0_cond2 i (usedW T3) (hereW i T2) (backW i T2) = 1#1 := fun h => ht (hu ▸ (c2.mp h).1)
    have h5 : ¬ k0_cond5 i (usedW T3) = 1#1 := fun h => ht (hu ▸ c5.mp h)
    have h6 := c6.mpr (hu ▸ ht)
    refine step_same c WG WU i q arg5 harg5 arg8 harg8 T2 T3 T4 (i 0).val (i 1).val X5 W0 Q h0 R (fun h => absurd h ht) (fun _ => k0_pay3 (F := F)) (fun B _ => ?_) fun X8 B Q => run_unused c i q arg5 harg5 arg8 harg8 T2 T3 T4 X5 X8 B W0 Q h1 h2 h5 h6
    unfold outcome
    rw [if_neg ht]

end Step

end Cert.Proof.Gated

end
-- ==== Proof.Gated.Frame.lean ====
/- The run of @main through the pipeline at the tables a routing leaves: what the loop holds before each point, the body's triple at
   each, and every run's end with the result at the points' blocks, the arguments as launched and every counter at zero. -/
module

public import proofs.«01_k».proof.Proof.Gated.State
public import proofs.«01_k».proof.Proof.Experts.Frame
public import Idealize.ShloMosaic.Lib.Pipeline.Frame

@[expose] public section

set_option maxRecDepth 16384

noncomputable section

namespace Cert.Proof.Gated

open Cert.ExpUpIdeal Cert.ExpUpIdeal.Gen
open Cert.Proof.Experts (entry Routed low_word)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A core's buffers when the pipeline starts: as launched. -/
abbrev V (c : Dev nD) (b : Ref sig .tc) : Buf (Elt F) ((c : Thread nD τ).loc b) := m ((c : Thread nD τ).loc b)

/-- The tables as launched. -/
def tbl : pre0.Contents (Elt F) := fun k => V m (0 : Dev nD) (pre0.ref k)

theorem V_pre (c : Dev nD) (k : Fin 3) : V m c (pre0.ref k) = tbl m k := by
  obtain rfl : c = 0 := Subsingleton.elim _ _
  rfl

/-- Tile `t`'s expert, the expert after its run of tiles, and how many tiles are used. -/
abbrev expertOf : ℕ → BitVec 32 := entry (V m 0 main_arg3)
abbrev nextOf : ℕ → BitVec 32 := entry (V m 0 main_arg5)
abbrev used : ℕ := (Experts.count (V m 0 main_arg4)).toNat

/-- The tables are of a routing. -/
abbrev IsRouted : Prop := Routed (expertOf m) (nextOf m) (used m)

/-! ## The windows' blocks -/

/-- The tile of the rows a point works on. -/
abbrev tileAt (i : grid0.Coords) : ℕ := min (i 1).val (used m - 1)

theorem rows_at (R : IsRouted m) (i : grid0.Coords) : cc0_transform_0 inb_S1_S1_0 numel1_S1 (tbl m) i = ![tileAt m i, 0] := by
  have hw : ((tbl m).at 1 (Rect.unit (s := S1) ![0] S1.size inb_S1_S1_0) numel1_S1 : BitVec 32) = BitVec.ofNat 32 (used m) := by
    have e : ((tbl m).at 1 (Rect.unit (s := S1) ![0] S1.size inb_S1_S1_0) numel1_S1 : BitVec 32) = Experts.count (V m 0 main_arg4) := by
      unfold Experts.count
      refine congrArg (V m 0 main_arg4) (funext fun a => Fin.ext ?_)
      fin_cases a
      rfl
    rw [e]
    exact BitVec.eq_of_toNat_eq (by rw [BitVec.toNat_ofNat]; exact (Nat.mod_eq_of_lt (Experts.count (V m 0 main_arg4)).isLt).symm)
  unfold cc0_transform_0
  dsimp only
  rw [hw]
  have := low_word (i 1) ⟨used m, by have := R.le; omega⟩ R.pos
  exact congrArg (fun x : ℕ => (![x, 0] : Fin 2 → ℕ)) this

theorem ok (R : IsRouted m) : ok0 (F := F) (tbl m) := fun i => by
  have hi : (i 1).val < 72 := (i 1).isLt
  refine ⟨fun a => ?_, .inr (Affine.block_words_dvd (of_decide_eq_true rfl) (by decide))⟩
  rw [rows_at m R i]
  match a with
  | ⟨0, _⟩ => show (min (i 1).val (used m - 1) + 1) * 512 ≤ 36864; omega
  | ⟨1, _⟩ => show (0 + 1) * 2048 ≤ 2048; omega

/-- The tables as the pipeline takes them, and the pipeline at them. -/
abbrev adm (R : IsRouted m) : (pcfg0 (F := F)).Adm := ⟨tbl m, ok m R⟩
abbrev cfgM (R : IsRouted m) : Cfg sig Λ₀ := cfg0 (adm m R)

variable (R : IsRouted m)

/-- Column tile and tile of a point. -/
theorem coords_at : ∀ t : Fin grid0.N, (grid0.coords t 0).val = t.val / 72 ∧ (grid0.coords t 1).val = t.val % 72 := by decide +kernel

/-- Tile `t` of the rows. -/
def tile (X : S36864x2048.Idx → Elt F .f32) (t : ℕ) : Vec F S512x2048 .f32 := fun y =>
  X fun a => match a with
    | ⟨0, _⟩ => ⟨(512 * t + (y 0).val) % 36864, Nat.mod_lt _ (by decide)⟩
    | ⟨1, _⟩ => ⟨(y 1).val, (y 1).isLt⟩

/-- The rows' block at a point. -/
def rowsAt (c : Dev nD) (t : Fin grid0.N) : Vec F S512x2048 .f32 := tile (V m c main_arg0) (min (t.val % 72) (used m - 1))

/-- The result's block at a point. -/
def outAt (c : Dev nD) (t : Fin grid0.N) : Vec F S512x1408 .bf16 :=
  outcome (V m c main_arg1) (V m c main_arg2) (expertOf m) (used m) (rowsAt m c t) (t.val / 72) (t.val % 72)

/-! ## What the loop holds -/

abbrev osem : Fin 2 → SemLoc sig := ![SemLoc.dma sG, SemLoc.dma sU]
theorem osem_facts : Pipeline.OwnSemFacts spec0 osem := by decide
theorem osem_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma sG) 0 ∗ semVal ((c : Thread nD τ), SemLoc.dma sU) 0) := by
  rw [Pipeline.ownSems0_eq_of_list c osem [0, 1] (by decide) (by decide)]; rfl

/-- The operands the body's transfers read. -/
def H0 : Finset (Ref sig .tc) := {main_arg1, main_arg2}
theorem H0_sub : H0 ⊆ Pipeline.restRefsP sig pre0 spec0 := by decide
theorem H0_eq (c : Dev nD) :
    (bigSep H0 (fun b => ((c : Thread nD τ).loc b) ↦{fullShare} V m c b) : sProp 𝕄)
      = iprop((((c : Thread nD τ).loc main_arg1) ↦{fullShare} V m c main_arg1) ∗ (((c : Thread nD τ).loc main_arg2) ↦{fullShare} V m c main_arg2)) := by
  rw [BI.bigSep_eq_bigSepL_of_eq [main_arg1, main_arg2] (by decide) (by decide)]; rfl

/-- A buffer held whole is its own view held by its elements. -/
theorem whole_eq (c : Dev nD) (b : Ref sig .tc) (q : PosShare TreeShare) (f : Buf (Elt F) ((c : Thread nD τ).loc b)) :
    (((c : Thread nD τ).loc b) ↦{q} f : sProp 𝕄) = ((Memref.whole b).view.loc (c : Thread nD τ) ↦[(Memref.whole b).view.set]{q} f) := by
  rw [show (Memref.whole b).view.set = Finset.univ from View.set_whole b]
  try rfl

theorem tables_eq (c : Dev nD) : (Pipeline.ΦT pre0 (tbl m) c : sProp 𝕄) = tables c fullShare.right (V m c main_arg3) (V m c main_arg4) (V m c main_arg5) := by
  obtain rfl : c = 0 := Subsingleton.elim _ _
  unfold tables
  rw [← whole_eq, ← whole_eq, ← whole_eq]
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- What is held before point `k`: the tables, the generator, the blocks of weights. -/
def inv (c : Dev nD) (k : ℕ) : sProp 𝕄 :=
  iprop(tables c fullShare.right (V m c main_arg3) (V m c main_arg4) (V m c main_arg5) ∗ (∃ r, prngReg c r)
    ∗ state c (V m c main_arg1) (V m c main_arg2) (expertOf m) (nextOf m) (used m) (k / 72) (k % 72))

theorem inv_in (c : Dev nD) : iprop(Pipeline.ΦD osem spec0 H0 (V m) c ∗ Pipeline.ΦT pre0 (tbl m) c) ⊢ (inv m c 0 : sProp 𝕄) := by
  rw [Pipeline.ΦD_eq, scopedRest0_eq, osem_eq, H0_eq, tables_eq]
  unfold inv state
  rw [show 0 / 72 = 0 from rfl, show 0 % 72 = 0 from rfl, pend_first]
  unfold resting idle
  iintro ⟨⟨⟨⟨%f, Hs⟩, ⟨%h, Hr⟩, %g, Hb⟩, Hp, ⟨Hq, Hv⟩, Hw, Hx⟩, Ht⟩
  isplitl [Ht]; · iexact Ht
  isplitl [Hp]; · iexact Hp
  ihave Hs := (Entails.of_eq (whole_eq c cc0_scratch0 fullShare f)) $$ Hs
  ihave Hr := (Entails.of_eq (whole_eq c cc0_scratch1 fullShare h)) $$ Hr
  ihave Hb := (Entails.of_eq (whole_eq c cc0_scratch2 fullShare g)) $$ Hb
  ihave Hb := (pointsTo_rep_of_read (c : Thread nD τ) mB g fullShare (mB.view.read (Elt F) g) rfl) $$ Hb
  iexists (mB.view.read (Elt F) g)
  isplitr
  · ipureintro
    exact fun h => absurd rfl h
  isplitl [Hb]; · iexact Hb
  isplitl [Hs Hq Hw]
  · isplitl [Hs]
    · iexists f; iexact Hs
    isplitl [Hq]; · iexact Hq
    iexact Hw
  isplitl [Hr]
  · iexists h; iexact Hr
  isplitl [Hv]; · iexact Hv
  iexact Hx

theorem inv_out (c : Dev nD) : (inv m c 288 : sProp 𝕄) ⊢ Pipeline.ΦD osem spec0 H0 (V m) c := by
  rw [Pipeline.ΦD_eq, scopedRest0_eq, osem_eq, H0_eq]
  unfold inv state
  rw [show 288 / 72 = 4 from rfl, show 288 % 72 = 0 from rfl,
    show (pend c (V m c main_arg1) (V m c main_arg2) (expertOf m) (nextOf m) (used m) 4 0 : sProp 𝕄) = resting c (V m c main_arg1) (V m c main_arg2) from by
      unfold pend; rw [if_pos rfl, if_neg (by decide)]]
  unfold resting idle
  iintro ⟨_, Hp, %B, _, Hb, ⟨⟨%f, Hs⟩, Hq, Hw⟩, ⟨%h, Hr⟩, Hv, Hx⟩
  isplitl [Hs Hr Hb]
  · isplitl [Hs]
    · iexists f
      iapply (Entails.of_eq (whole_eq c cc0_scratch0 fullShare f).symm) $$ Hs
    isplitl [Hr]
    · iexists h
      iapply (Entails.of_eq (whole_eq c cc0_scratch1 fullShare h).symm) $$ Hr
    · iexists _
      iapply (Entails.of_eq (whole_eq c cc0_scratch2 fullShare _).symm) $$ Hb
  isplitl [Hp]; · iexact Hp
  isplitl [Hq Hv]
  · isplitl [Hq]; · iexact Hq
    iexact Hv
  isplitl [Hw]; · iexact Hw
  iexact Hx

include R in
/-- The state after a point is the one before the next. -/
theorem state_succ (c : Dev nD) (k : ℕ) (hk : k < 288) :
    (state c (V m c main_arg1) (V m c main_arg2) (expertOf m) (nextOf m) (used m) (k / 72) (k % 72 + 1) : sProp 𝕄)
      ⊢ state c (V m c main_arg1) (V m c main_arg2) (expertOf m) (nextOf m) (used m) ((k + 1) / 72) ((k + 1) % 72) := by
  by_cases h : k % 72 + 1 = 72
  · rw [h, show (k + 1) / 72 = k / 72 + 1 by omega, show (k + 1) % 72 = 0 by omega]
    exact state_wrap c _ _ R (k / 72) (by omega)
  · rw [show (k + 1) / 72 = k / 72 by omega, show (k + 1) % 72 = k % 72 + 1 by omega]

/-- The pipeline's proof data. -/
def dats (p : Fin 1) (c : Dev nD) : Dat τ (Elt F) Unit ℕ (Pipeline.UD sig nD τ) ℕ (Pipeline.pin (pcfgs (F := F)) (fun _ => adm m R) p) c where
  A w := V m c (Pipeline.arrRef spec0 w)
  after w t := match w with
    | ⟨0, _⟩ => rowsAt m c t
    | ⟨1, _⟩ => outAt m c t
  Φ k := inv m c k.val
  q _ := fullShare
  owed _ := 0

theorem A_eq (c : Dev nD) (w : Fin 2) : (dats m R 0 c).A w = V m c (Pipeline.arrRef spec0 w) := by dsimp only [dats]
theorem after_rows (c : Dev nD) (t : Fin grid0.N) : (dats m R 0 c).after 0 t = rowsAt m c t := rfl
theorem after_out (c : Dev nD) (t : Fin grid0.N) : (dats m R 0 c).after 1 t = outAt m c t := rfl

/-- The rows' block at a point, read off the array, is its tile. -/
theorem block_rows (c : Dev nD) (t : Fin grid0.N) :
    ((((cfgM m R).win 0).blk t).view.read (Elt F) (V m c main_arg0) : Vec F S512x2048 .f32) = rowsAt m c t := by
  have hn := R.le
  have hp := R.pos
  have ht : t.val % 72 < 72 := Nat.mod_lt _ (by decide)
  have e := rows_at m R (grid0.coords t)
  have e1 := (coords_at t).2
  refine funext fun (y : S512x2048.Idx) => ?_
  have h0 : (y 0).val < 512 := (y 0).isLt
  unfold rowsAt tile
  show V m c main_arg0 ((((cfgM m R).win 0).blk t).view.emb y) = _
  refine congrArg (V m c main_arg0) (funext fun a => Fin.ext ?_)
  match a with
  | ⟨0, _⟩ =>
    show cc0_transform_0 inb_S1_S1_0 numel1_S1 (tbl m) (grid0.coords t) (0 : Fin 2) * 512 + 1 * (y 0).val = (512 * min (t.val % 72) (used m - 1) + (y 0).val) % 36864
    rw [e]
    show min (grid0.coords t 1).val (used m - 1) * 512 + 1 * (y 0).val = _
    rw [e1]
    omega
  | ⟨1, _⟩ =>
    show cc0_transform_0 inb_S1_S1_0 numel1_S1 (tbl m) (grid0.coords t) (1 : Fin 2) * 2048 + 1 * (y 1).val = (y 1).val
    rw [e]
    show 0 * 2048 + 1 * (y 1).val = _
    omega

theorem before_rows (c : Dev nD) (t : Fin grid0.N) (d) : (dats m R 0 c).before 0 t d = rowsAt m c t :=
  ((dats m R 0 c).before_in_eq_fetched 0 rfl (fun _ => rfl) (fun _ _ _ => rfl) (fun t => by
    rw [after_rows]; unfold Dat.blockOf; rw [A_eq]; exact (block_rows m R c t).symm) t d).trans
    (by unfold Dat.fetched Dat.blockOf; rw [A_eq]; exact block_rows m R c t)

include R in
/-- No point is idle. -/
theorem busy (i : grid0.Coords) : idle0 (tbl m) 1 i = false := by
  have hle : (usedW (F := F) (V m 0 main_arg4)).toNat ≤ 72 := by rw [usedW_eq]; exact R.le
  have hw : ((tbl m).atD 1 ![0] : BitVec 32) = usedW (F := F) (V m 0 main_arg4) := by
    rw [usedW_eq]
    unfold Experts.count
    refine (dif_pos (show ∀ a, (![0] : Fin 1 → ℕ) a + 1 ≤ S1.size a by decide)).trans ?_
    refine congrArg (V m 0 main_arg4) (funext fun a => Fin.ext ?_)
    fin_cases a
    rfl
  show (!(k0_cond5 i ((tbl m).atD 1 ![0]) == 1#1) && !(k0_cond6 i ((tbl m).atD 1 ![0]) == 1#1)) = false
  rw [hw]
  by_cases h : (i 1).val < (usedW (F := F) (V m 0 main_arg4)).toNat
  · rw [(cond5_iff i _ hle).mpr h]; rfl
  · rw [(cond6_iff i _ hle).mpr h]; exact Bool.and_false _

/-! ## The body at a point -/

abbrev stRows (t : Fin grid0.N) : Memref sig .tc .vmem S512x2048 .f32 := spec0_0.stage ((cfgM m R).slots t 0)
abbrev stOut (t : Fin grid0.N) : Memref sig .tc .vmem S512x1408 .bf16 := spec0_1.stage ((cfgM m R).slots t 1)
abbrev bodyAt (t : Fin grid0.N) : Prog (TpuEff nD τ sig (Elt F) Λ₀ .tc) PUnit :=
  body (grid0.coords t) (stRows m R t) (hstage0_0 (((cfgM m R).slots t 0).cast nbuf0_0)) (stOut m R t) (hstage0_1 (((cfgM m R).slots t 1).cast nbuf0_1))

def bodyPre (c : Dev nD) (t : Fin grid0.N) : sProp 𝕄 :=
  iprop((dats m R 0 c).Φ t.castSucc ∗ (dats m R 0 c).owesAt () t.castSucc
    ∗ (∃ d, owns (c : Thread nD τ) (stRows m R t) fullShare ((dats m R 0 c).before 0 t d))
    ∗ (∃ d, owns (c : Thread nD τ) (stOut m R t) fullShare ((dats m R 0 c).before 1 t d)))
def bodyPost (c : Dev nD) (t : Fin grid0.N) : sProp 𝕄 :=
  iprop((dats m R 0 c).Φ t.succ ∗ (dats m R 0 c).owesAt () t.succ
    ∗ owns (c : Thread nD τ) (stRows m R t) fullShare ((dats m R 0 c).after 0 t)
    ∗ owns (c : Thread nD τ) (stOut m R t) fullShare ((dats m R 0 c).after 1 t))

theorem sound_body (c : Dev nD) (t : Fin grid0.N) :
    bodyPre m R c t ⊢ wp frame (wpE (defs₀ (F := F)) Variants.none c none) Set.univ (bodyAt m R t) (fun _ => bodyPost m R c t) := by
  obtain rfl : c = 0 := Subsingleton.elim _ _
  have hk : t.val < 288 := lt_of_lt_of_eq t.isLt N_0
  obtain ⟨ej, et⟩ := coords_at t
  have hs := state_succ m R (0 : Dev nD) t.val hk
  unfold bodyPre bodyPost
  rw [after_rows, after_out, show (dats m R 0 (0 : Dev nD)).Φ t.castSucc = inv m 0 t.val from rfl, show (dats m R 0 (0 : Dev nD)).Φ t.succ = inv m 0 (t.val + 1) from rfl]
  simp only [before_rows]
  unfold Dat.owesAt Pipeline.owesWithin
  rw [show (dats m R 0 (0 : Dev nD)).owed t.castSucc = 0 from rfl, show (dats m R 0 (0 : Dev nD)).owed t.succ = 0 from rfl]
  unfold inv outAt owns
  rw [← ej, ← et] at hs ⊢
  iintro ⟨⟨HT, Hp, HS⟩, ⟨%W, -, HW⟩, ⟨%d0, %f0, %h0, H0⟩, ⟨%d1, %f1, %h1, H1⟩⟩
  ihave H0 := (pointsTo_rep_of_read ((0 : Dev nD) : Thread nD τ) (stRows m R t) _ _ _ h0) $$ H0
  ihave H1 := (pointsTo_rep_of_read ((0 : Dev nD) : Thread nD τ) (stOut m R t) _ _ _ h1) $$ H1
  iapply (step (0 : Dev nD) (V m 0 main_arg1) (V m 0 main_arg2) (grid0.coords t) fullShare.right (stRows m R t) _ (stOut m R t) _ (V m 0 main_arg3) (V m 0 main_arg4) (V m 0 main_arg5) R (rowsAt m 0 t) W)
  isplitl [HT]; · iexact HT
  isplitl [H0]; · iexact H0
  isplitl [H1]; · iexists _; iexact H1
  isplitl [HS]; · iexact HS
  isplitl [HW]; · iexact HW
  iintro %W' ⟨HT, H0, H1, HS, HW⟩
  isplitl [HT Hp HS]
  · isplitl [HT]; · iexact HT
    isplitl [Hp]; · iexact Hp
    iapply hs $$ HS
  isplitl [HW]
  · iexists W'
    isplitr
    · ipureintro; exact fun _ _ => Or.inl trivial
    iexact HW
  isplitl [H0]
  · iexists _
    isplitr; swap; (· iexact H0)
    ipureintro
    exact View.read_rep _ _
  iexists _
  isplitr; swap; (· iexact H1)
  ipureintro
  exact View.read_rep _ _

theorem defs₀_row (t : Fin grid0.N) :
    defs₀ (F := F) .tc (cfgM m R).body ((cfgM m R).bodyArgs t ((cfgM m R).slots t)) = bodyAt m R t := by
  unfold defs₀; rw [Defs.onTc_tc]

/-- The first of two propositions where `b` holds, else the second. -/
def pick (b : Bool) (X Y : sProp 𝕄) : sProp 𝕄 := match b with | true => X | false => Y

theorem pick_eq (b : Bool) (X Y : sProp 𝕄) (h : b = false) : pick b X Y = Y := by subst h; rfl

theorem body_obligation (c : Dev nD) : BodyObligation (dats m R 0 c) (defs₀ (F := F)) Variants.none () Set.univ := fun t => by
  rw [bigSep_W0, bigSep_W0, defs₀_row m R t]
  have hb : (Pipeline.pin (pcfgs (F := F)) (fun _ => adm m R) 0).idle 1 ((Pipeline.pin (pcfgs (F := F)) (fun _ => adm m R) 0).grid.coords t) = false := busy m R _
  refine triple_restated (sound_body m R c t) rfl .rfl fun _ => ?_
  exact .of_eq (congrArg (fun X => iprop(_ ∗ _ ∗ _ ∗ X)) (show _ = pick _ _ _ from (pick_eq _ _ _ hb).symm))

set_option backward.isDefEq.respectTransparency.types false in
/-- Every weakly fair execution of @main from zero counters ends with every array of the pipeline at what its proof data give and every
    counter at zero. -/
theorem run_main : θ_run defs (onTc (τ := τ) (main (F := F))) (s₀ m ρ)
    (fun r => Pipeline.FramePost (Pipeline.pin (pcfgs (F := F)) (fun _ => adm m R)) (dats m R) 0 (V m) r ∧ r.2.sem = fun _ => 0) :=
  Pipeline.θ_run_frameP_dma (Q' := _) pcfgs (fun _ => adm m R) (dats m R) (0 : Fin 1) launch0 osem defs₀ Variants.none osem_facts H0 H0_sub m ρ main
    (hbody := fun c => (body_obligation m R c).loose) (hshare := fun c => (dats m R 0 c).share_full fun _ => rfl)
    (howed := fun _ _ => rfl) (V := V m) (hmain := Pipeline.hmainP_region _ _ _ _ m main fun _ => rfl) (hA := A_eq m R) (hpf := V_pre m)
    (hin := inv_in m) (hout := inv_out m)

end Cert.Proof.Gated

end
-- ==== Proof.Gated.Decode.lean ====
/- The precondition of the call `moe_up` read: it is that of `moe_down` on the same three tables. -/
module

public import proofs.«01_k».proof.Defs
public import proofs.«01_k».proof.Proof.Experts.Decode

@[expose] public section

noncomputable section

namespace Cert.Proof.Gated

open Idealize.ShloMosaic Idealize.SL.Sem
open Cert.Proof.Experts (entry Routed)

/-- The shape relations of the precondition. -/
theorem pre_facts : Cert.Pre_routed4.Facts where
  bcast_S1_S72_0 := by decide
  shapeCasts_S1_S_ := by decide
  bcast_S_S72 := by decide
  reducesTo_S72_S_d0 := by decide
  h_S_ := by decide
  slices_S72_S71_0 := by decide
  slices_S72_S71_1 := by decide
  bcast_S_S1 := by decide
  bcast_S_S71 := by decide
  reducesTo_S71_S_d0 := by decide

section Read
open Cert.Pre_routed4

theorem routed_of {F : FTy → Type} [FloatOps F] (hF : Cert.Pre_routed4.Facts) (X : FVec F S36864x2048 .f32) (G U : FVec F S8x2048x5632 .f32) (te : IVec S72 32) (nu : IVec S1 32) (nx : IVec S72 32)
    (h : fn (F := F) X G U te nu nx = fun _ => 1#1) : Routed (entry te) (entry nx) (Experts.count nu).toNat :=
  Experts.routed_of (F := F) Experts.pre_facts (fun _ => FloatOps.ofBits .bf16 0) (fun _ => FloatOps.ofBits .f32 0) te nu nx h

end Read

end Cert.Proof.Gated

end
-- ==== Proof.Gated.Whole.lean ====
/- The frame of the call `moe_up`: from tables that route, @main ends with its arguments unchanged and every counter at
   zero. -/
module

public import proofs.«01_k».proof.Proof.Gated.Frame
public import proofs.«01_k».proof.Proof.Gated.Decode

@[expose] public section

noncomputable section

namespace Cert.Proof.Gated

open Cert.ExpUpIdeal Cert.ExpUpIdeal.Gen
open Idealize.ShloMosaic Idealize.ShloMosaic.TcCoe Idealize.SL.Sem

variable {F : FTy → Type} [FloatOps F] (m : (ℓ : Loc nD τ sig) → Buf (Elt F) ℓ) (ρ : Dev nD → PrngReg) (R : IsRouted m)

/-- The arguments at the end are those at the start. -/
def Kept (m m' : (ℓ : Loc nD τ sig) → Buf (Elt F) ℓ) (c : Dev nD) : Prop :=
  m' ((c.tc : Thread nD τ).loc main_arg0) = m ((c.tc : Thread nD τ).loc main_arg0)
  ∧ m' ((c.tc : Thread nD τ).loc main_arg1) = m ((c.tc : Thread nD τ).loc main_arg1)
  ∧ m' ((c.tc : Thread nD τ).loc main_arg2) = m ((c.tc : Thread nD τ).loc main_arg2)
  ∧ m' ((c.tc : Thread nD τ).loc main_arg3) = m ((c.tc : Thread nD τ).loc main_arg3)
  ∧ m' ((c.tc : Thread nD τ).loc main_arg4) = m ((c.tc : Thread nD τ).loc main_arg4)
  ∧ m' ((c.tc : Thread nD τ).loc main_arg5) = m ((c.tc : Thread nD τ).loc main_arg5)

theorem kept_of {r : PUnit × MemSt nD τ sig (Elt F)} (h : Pipeline.FramePost (Pipeline.pin (pcfgs (F := F)) (fun _ => adm m R)) (dats m R) 0 (V m) r) (c : Dev nD) : Kept m r.2.mem c :=
  ⟨((h c).1 0).trans (((dats m R 0 c).arrAt_in 0 rfl _).trans (A_eq m R c 0)),
    (h c).2 main_arg1 (Pipeline.mem_restRefs_of main_arg1 (by decide) (show ∀ w : Fin 2, (spec0 w).arr.view.ref ≠ _ by decide)),
    (h c).2 main_arg2 (Pipeline.mem_restRefs_of main_arg2 (by decide) (show ∀ w : Fin 2, (spec0 w).arr.view.ref ≠ _ by decide)),
    (h c).2 main_arg3 (Pipeline.mem_restRefs_of main_arg3 (by decide) (show ∀ w : Fin 2, (spec0 w).arr.view.ref ≠ _ by decide)),
    (h c).2 main_arg4 (Pipeline.mem_restRefs_of main_arg4 (by decide) (show ∀ w : Fin 2, (spec0 w).arr.view.ref ≠ _ by decide)),
    (h c).2 main_arg5 (Pipeline.mem_restRefs_of main_arg5 (by decide) (show ∀ w : Fin 2, (spec0 w).arr.view.ref ≠ _ by decide))⟩

include R in
theorem frame_main : θ_run defs (onTc (τ := τ) (main (F := F))) ⟨m, fun _ => 0, ρ⟩ (fun r => (∀ c : Dev nD, Kept m r.2.mem c) ∧ r.2.sem = fun _ => 0) :=
  (θ_run defs _ _).mono (fun _ h => ⟨fun c => kept_of m R h.1 c, h.2⟩) (run_main m ρ R)

end Cert.Proof.Gated

end
-- ==== Proof.Gated.Array.lean ====
/- The array that the call `moe_up` leaves, at the ideal instance: of a row of a used tile, the gated product of its sums against
   the columns of its tile's expert's two weights; zero elsewhere. -/
module

public import proofs.«01_k».proof.Proof.Gated.Whole
public import proofs.«01_k».proof.Proof.Experts.Array
public import proofs.«01_k».proof.Proof.Hidden.Values
public import Idealize.ShloMosaic.Lib.MatmulPlain
public import Idealize.ShloMosaic.Lib.ValueIdx
public import Idealize.ShloMosaic.PureOps.IdealRules

@[expose] public section

set_option maxRecDepth 16384

noncomputable section

namespace Cert.Proof.Gated

open Cert.ExpUpIdeal Cert.ExpUpIdeal.Gen
open Idealize.ShloMosaic Idealize.ShloMosaic.TcCoe Idealize.ShloMosaic.ValueIdx Idealize.SL.Sem
open Cert.Proof.Hidden (gated bits_one bits_nil)
open Cert.Proof.Experts (own)
open Finset (univ)

theorem half_nil : (FloatOps.ofBits .bf16 0x0000#16 : Ideal .bf16) = (0 : EReal) := by
  show Ideal.ofBits .bf16 0x0000#16 = _
  simp [Ideal.ofBits, Ideal.ieee, -EReal.coe_mul]

/-- Row `r` against column `e` of the weights of one expert. -/
def sums (X : S36864x2048.Idx → EReal) (W : S8x2048x5632.Idx → EReal) (x : Fin 8) (r : Fin 36864) (e : Fin 5632) : EReal :=
  ∑ k : Fin 2048, X (ix2 r k) * W (ix3 x k e)

/-- The result at row `r` and column `e`: tile `r / 512`'s expert's, if that tile is used. -/
def value (X : S36864x2048.Idx → EReal) (G U : S8x2048x5632.Idx → EReal) (te : ℕ → BitVec 32) (n : ℕ) (r : Fin 36864) (e : Fin 5632) : EReal :=
  if r.val / 512 < n then gated (sums X G (own te (r.val / 512)) r e) (sums X U (own te (r.val / 512)) r e) else 0

/-- The hidden unit of a row of a tile at a column of two blocks of weights. -/
def unit (X : S512x2048.Idx → EReal) (G U : S2048x1408.Idx → EReal) (r : Fin 512) (q : Fin 1408) : EReal :=
  gated (∑ k : Fin 2048, X (ix2 r k) * G (ix2 k q)) (∑ k : Fin 2048, X (ix2 r k) * U (ix2 k q))

theorem pay18_apply (X : Vec Ideal S512x2048 .f32) (B : Vec Ideal S2048x512 .bf16) (r : Fin 512) (e : Fin 256) (p q : Fin 512) (hp : p.val = e.val) (hq : q.val = 256 + e.val) :
    k0_pay18 X B (ix2 r e) = gated (∑ k : Fin 2048, X (ix2 r k) * B (ix2 k p)) (∑ k : Fin 2048, X (ix2 r k) * B (ix2 k q)) := by
  have hm : ∀ e : Fin 512, matmul (F := Ideal) (φ₁ := .bf16) (φ₂ := .bf16) (DotDims.plain 512 2048 512) none (k0_pay17 X) B (constant S512x512 .f32 0x00000000#32) (ix2 r e)
      = ∑ k : Fin 2048, X (ix2 r k) * B (ix2 k e) := fun e => by
    refine (Ideal.matmul_plain_apply _ _ _ _ r e).trans ?_
    show (FloatOps.ofBits .f32 0x00000000#32 : Ideal .f32) + _ = _
    rw [bits_nil, zero_add]
    rfl
  have h0 : extractStridedSlice S512x256 ![0, 0] (matmul (F := Ideal) (φ₁ := .bf16) (φ₂ := .bf16) (DotDims.plain 512 2048 512) none (k0_pay17 X) B (constant S512x512 .f32 0x00000000#32)) slices_S512x512_o0_0_S512x256 (ix2 r e)
      = ∑ k : Fin 2048, X (ix2 r k) * B (ix2 k p) := by
    refine Eq.trans (congrArg (matmul (F := Ideal) (φ₁ := .bf16) (φ₂ := .bf16) (DotDims.plain 512 2048 512) none (k0_pay17 X) B (constant S512x512 .f32 0x00000000#32)) (funext fun a => Fin.ext ?_)) (hm p)
    match a with
    | ⟨0, _⟩ => show 0 + r.val = r.val; omega
    | ⟨1, _⟩ => show 0 + e.val = p.val; omega
  have h1 : extractStridedSlice S512x256 ![0, 256] (matmul (F := Ideal) (φ₁ := .bf16) (φ₂ := .bf16) (DotDims.plain 512 2048 512) none (k0_pay17 X) B (constant S512x512 .f32 0x00000000#32)) slices_S512x512_o0_256_S512x256 (ix2 r e)
      = ∑ k : Fin 2048, X (ix2 r k) * B (ix2 k q) := by
    refine Eq.trans (congrArg (matmul (F := Ideal) (φ₁ := .bf16) (φ₂ := .bf16) (DotDims.plain 512 2048 512) none (k0_pay17 X) B (constant S512x512 .f32 0x00000000#32)) (funext fun a => Fin.ext ?_)) (hm q)
    match a with
    | ⟨0, _⟩ => show 0 + r.val = r.val; omega
    | ⟨1, _⟩ => show 256 + e.val = q.val; omega
  unfold k0_pay18
  show (extractStridedSlice S512x256 ![0, 0] (matmul (F := Ideal) (φ₁ := .bf16) (φ₂ := .bf16) (DotDims.plain 512 2048 512) none (k0_pay17 X) B (constant S512x512 .f32 0x00000000#32)) slices_S512x512_o0_0_S512x256 (ix2 r e)
      * Ideal.div (FloatOps.ofBits .f32 0x3F800000#32 : Ideal .f32) ((FloatOps.ofBits .f32 0x3F800000#32 : Ideal .f32)
        + Ideal.exp ((FloatOps.ofBits .f32 0x00000000#32 : Ideal .f32) - extractStridedSlice S512x256 ![0, 0] (matmul (F := Ideal) (φ₁ := .bf16) (φ₂ := .bf16) (DotDims.plain 512 2048 512) none (k0_pay17 X) B (constant S512x512 .f32 0x00000000#32)) slices_S512x512_o0_0_S512x256 (ix2 r e))))
      * extractStridedSlice S512x256 ![0, 256] (matmul (F := Ideal) (φ₁ := .bf16) (φ₂ := .bf16) (DotDims.plain 512 2048 512) none (k0_pay17 X) B (constant S512x512 .f32 0x00000000#32)) slices_S512x512_o0_256_S512x256 (ix2 r e) = _
  rw [h0, h1, bits_one, bits_nil, zero_sub]
  rfl

theorem pay2_apply (X : Vec Ideal S512x2048 .f32) (B : Vec Ideal S2048x256 .bf16) (r : Fin 512) (e : Fin 128) (p q : Fin 256) (hp : p.val = e.val) (hq : q.val = 128 + e.val) :
    k0_pay2 (k0_pay17 X) B (ix2 r e) = gated (∑ k : Fin 2048, X (ix2 r k) * B (ix2 k p)) (∑ k : Fin 2048, X (ix2 r k) * B (ix2 k q)) := by
  have hm : ∀ e : Fin 256, matmul (F := Ideal) (φ₁ := .bf16) (φ₂ := .bf16) (DotDims.plain 512 2048 256) none (k0_pay17 X) B (constant S512x256 .f32 0x00000000#32) (ix2 r e)
      = ∑ k : Fin 2048, X (ix2 r k) * B (ix2 k e) := fun e => by
    refine (Ideal.matmul_plain_apply _ _ _ _ r e).trans ?_
    show (FloatOps.ofBits .f32 0x00000000#32 : Ideal .f32) + _ = _
    rw [bits_nil, zero_add]
    rfl
  have h0 : extractStridedSlice S512x128 ![0, 0] (matmul (F := Ideal) (φ₁ := .bf16) (φ₂ := .bf16) (DotDims.plain 512 2048 256) none (k0_pay17 X) B (constant S512x256 .f32 0x00000000#32)) slices_S512x256_o0_0_S512x128 (ix2 r e)
      = ∑ k : Fin 2048, X (ix2 r k) * B (ix2 k p) := by
    refine Eq.trans (congrArg (matmul (F := Ideal) (φ₁ := .bf16) (φ₂ := .bf16) (DotDims.plain 512 2048 256) none (k0_pay17 X) B (constant S512x256 .f32 0x00000000#32)) (funext fun a => Fin.ext ?_)) (hm p)
    match a with
    | ⟨0, _⟩ => show 0 + r.val = r.val; omega
    | ⟨1, _⟩ => show 0 + e.val = p.val; omega
  have h1 : extractStridedSlice S512x128 ![0, 128] (matmul (F := Ideal) (φ₁ := .bf16) (φ₂ := .bf16) (DotDims.plain 512 2048 256) none (k0_pay17 X) B (constant S512x256 .f32 0x00000000#32)) slices_S512x256_o0_128_S512x128 (ix2 r e)
      = ∑ k : Fin 2048, X (ix2 r k) * B (ix2 k q) := by
    refine Eq.trans (congrArg (matmul (F := Ideal) (φ₁ := .bf16) (φ₂ := .bf16) (DotDims.plain 512 2048 256) none (k0_pay17 X) B (constant S512x256 .f32 0x00000000#32)) (funext fun a => Fin.ext ?_)) (hm q)
    match a with
    | ⟨0, _⟩ => show 0 + r.val = r.val; omega
    | ⟨1, _⟩ => show 128 + e.val = q.val; omega
  unfold k0_pay2
  show (extractStridedSlice S512x128 ![0, 0] (matmul (F := Ideal) (φ₁ := .bf16) (φ₂ := .bf16) (DotDims.plain 512 2048 256) none (k0_pay17 X) B (constant S512x256 .f32 0x00000000#32)) slices_S512x256_o0_0_S512x128 (ix2 r e)
      * Ideal.div (FloatOps.ofBits .f32 0x3F800000#32 : Ideal .f32) ((FloatOps.ofBits .f32 0x3F800000#32 : Ideal .f32)
        + Ideal.exp ((FloatOps.ofBits .f32 0x00000000#32 : Ideal .f32) - extractStridedSlice S512x128 ![0, 0] (matmul (F := Ideal) (φ₁ := .bf16) (φ₂ := .bf16) (DotDims.plain 512 2048 256) none (k0_pay17 X) B (constant S512x256 .f32 0x00000000#32)) slices_S512x256_o0_0_S512x128 (ix2 r e))))
      * extractStridedSlice S512x128 ![0, 128] (matmul (F := Ideal) (φ₁ := .bf16) (φ₂ := .bf16) (DotDims.plain 512 2048 256) none (k0_pay17 X) B (constant S512x256 .f32 0x00000000#32)) slices_S512x256_o0_128_S512x128 (ix2 r e) = _
  rw [h0, h1, bits_one, bits_nil, zero_sub]
  rfl

/-- Five groups of 256 columns: the hidden units of a tile at one of them. -/
theorem part_apply (X : Vec Ideal S512x2048 .f32) (G U : Vec Ideal S2048x1408 .f32) (g lo : ℕ) (hg : g < 5) (hlo : lo = 512 * g) (inb : ∀ a, (![0, lo] : Fin 2 → ℕ) a + S2048x512.size a ≤ S2048x2816.size a)
    (x : S512x256.Idx) (r : Fin 512) (q : Fin 1408) (h0 : (x 0).val = r.val) (h1 : (x 1).val + 256 * g = q.val) :
    part X (packed G U) lo inb x = unit X G U r q := by
  subst hlo
  have hx : (x 1).val < 256 := (x 1).isLt
  have hw : width g = 256 := if_pos hg
  have ex : x = ix2 r (⟨(x 1).val, hx⟩ : Fin 256) := funext fun a => Fin.ext (match a with | ⟨0, _⟩ => h0 | ⟨1, _⟩ => rfl)
  unfold part unit
  refine (congrArg (k0_pay18 X _) ex).trans ((pay18_apply X _ r _ ⟨(x 1).val, by omega⟩ ⟨256 + (x 1).val, by omega⟩ rfl rfl).trans ?_)
  refine congrArg₂ gated (Finset.sum_congr rfl fun k _ => congrArg (X (ix2 r k) * ·) ?_) (Finset.sum_congr rfl fun k _ => congrArg (X (ix2 r k) * ·) ?_)
  · show side G U (0 + 1 * k.val) (512 * g + 1 * (x 1).val) = _
    refine (gate_in G U _ _ g (ix2 k q) (by omega) (by omega) (by omega) ?_ ?_).symm
    · show k.val = 0 + 1 * k.val; omega
    · show q.val = _; omega
  · show side G U (0 + 1 * k.val) (512 * g + 1 * (256 + (x 1).val)) = _
    refine (up_in G U _ _ g (ix2 k q) (by omega) (by omega) (by omega) ?_ ?_).symm
    · show k.val = 0 + 1 * k.val; omega
    · show q.val = _; omega

/-- And one of 128. -/
theorem last_apply (X : Vec Ideal S512x2048 .f32) (G U : Vec Ideal S2048x1408 .f32) (x : S512x128.Idx) (r : Fin 512) (q : Fin 1408) (h0 : (x 0).val = r.val) (h1 : (x 1).val + 1280 = q.val) :
    k0_pay2 (k0_pay17 X) (VecWindow.window (s := S2048x2816) (packed G U) ![0, 2560] S2048x256.size inb_S2048x2816_S2048x256_0_2560) x = unit X G U r q := by
  have hx : (x 1).val < 128 := (x 1).isLt
  have hw : width 5 = 128 := rfl
  have ex : x = ix2 r (⟨(x 1).val, hx⟩ : Fin 128) := funext fun a => Fin.ext (match a with | ⟨0, _⟩ => h0 | ⟨1, _⟩ => rfl)
  unfold unit
  refine (congrArg (k0_pay2 (k0_pay17 X) _) ex).trans ((pay2_apply X _ r _ ⟨(x 1).val, by omega⟩ ⟨128 + (x 1).val, by omega⟩ rfl rfl).trans ?_)
  refine congrArg₂ gated (Finset.sum_congr rfl fun k _ => congrArg (X (ix2 r k) * ·) ?_) (Finset.sum_congr rfl fun k _ => congrArg (X (ix2 r k) * ·) ?_)
  · show side G U (0 + 1 * k.val) (2560 + 1 * (x 1).val) = _
    refine (gate_in G U _ _ 5 (ix2 k q) (by omega) (by omega) (by omega) ?_ ?_).symm
    · show k.val = 0 + 1 * k.val; omega
    · show q.val = _; omega
  · show side G U (0 + 1 * k.val) (2560 + 1 * (128 + (x 1).val)) = _
    refine (up_in G U _ _ 5 (ix2 k q) (by omega) (by omega) (by omega) ?_ ?_).symm
    · show k.val = 0 + 1 * k.val; omega
    · show q.val = _; omega

theorem product_apply (X : Vec Ideal S512x2048 .f32) (G U : Vec Ideal S2048x1408 .f32) (y : S512x1408.Idx) : product X (packed G U) y = unit X G U (y 0) (y 1) := by
  have y0 : (y 0).val < 512 := (y 0).isLt
  have y1 : (y 1).val < 1408 := (y 1).isLt
  unfold product written
  refine put_at _ _ _ _ _ y _ (fun x e0 e1 => last_apply X G U x (y 0) (y 1) e0 e1) fun n5 => ?_
  refine put_at _ _ _ _ _ y _ (fun x e0 e1 => part_apply X G U 4 2048 (by decide) rfl _ x (y 0) (y 1) e0 e1) fun n4 => ?_
  refine put_at _ _ _ _ _ y _ (fun x e0 e1 => part_apply X G U 3 1536 (by decide) rfl _ x (y 0) (y 1) e0 e1) fun n3 => ?_
  refine put_at _ _ _ _ _ y _ (fun x e0 e1 => part_apply X G U 2 1024 (by decide) rfl _ x (y 0) (y 1) e0 e1) fun n2 => ?_
  refine put_at _ _ _ _ _ y _ (fun x e0 e1 => part_apply X G U 1 512 (by decide) rfl _ x (y 0) (y 1) e0 e1) fun n1 => ?_
  refine put_at _ _ _ _ _ y _ (fun x e0 e1 => part_apply X G U 0 0 (by decide) rfl _ x (y 0) (y 1) e0 e1) fun n0 => ?_
  exfalso
  replace n0 : ¬ (0 ≤ (y 0).val ∧ (y 0).val < 0 + 512 ∧ 0 ≤ (y 1).val ∧ (y 1).val < 0 + 256) := n0
  replace n1 : ¬ (0 ≤ (y 0).val ∧ (y 0).val < 0 + 512 ∧ 256 ≤ (y 1).val ∧ (y 1).val < 256 + 256) := n1
  replace n2 : ¬ (0 ≤ (y 0).val ∧ (y 0).val < 0 + 512 ∧ 512 ≤ (y 1).val ∧ (y 1).val < 512 + 256) := n2
  replace n3 : ¬ (0 ≤ (y 0).val ∧ (y 0).val < 0 + 512 ∧ 768 ≤ (y 1).val ∧ (y 1).val < 768 + 256) := n3
  replace n4 : ¬ (0 ≤ (y 0).val ∧ (y 0).val < 0 + 512 ∧ 1024 ≤ (y 1).val ∧ (y 1).val < 1024 + 256) := n4
  replace n5 : ¬ (0 ≤ (y 0).val ∧ (y 0).val < 0 + 512 ∧ 1280 ≤ (y 1).val ∧ (y 1).val < 1280 + 128) := n5
  omega

variable (m : (ℓ : Loc nD τ sig) → Buf (Elt Ideal) ℓ) (R : IsRouted m) (c : Dev nD)

/-- The result. -/
def result : FVec Ideal S36864x5632 .bf16 := fun i => value (V m c main_arg0) (V m c main_arg1) (V m c main_arg2) (expertOf m) (used m) (i 0) (i 1)

theorem out_apply (t : Fin grid0.N) (y : S512x1408.Idx) (r : Fin 36864) (e : Fin 5632) (hr : r.val = 512 * (t.val % 72) + (y 0).val) (he : e.val = 1408 * (t.val / 72) + (y 1).val) :
    outAt m c t y = value (V m c main_arg0) (V m c main_arg1) (V m c main_arg2) (expertOf m) (used m) r e := by
  have h0 : (y 0).val < 512 := (y 0).isLt
  have h1 : (y 1).val < 1408 := (y 1).isLt
  have ht : r.val / 512 = t.val % 72 := by omega
  have hm : t.val % 72 < 72 := Nat.mod_lt _ (by decide)
  unfold outAt outcome value
  rw [ht]
  split
  · rename_i h
    have hx : ∀ k : Fin 2048, rowsAt m c t (ix2 (y 0) k) = V m c main_arg0 (ix2 r k) := fun k => by
      unfold rowsAt tile
      refine congrArg (V m c main_arg0) (funext fun a => Fin.ext ?_)
      match a with
      | ⟨0, _⟩ => show (512 * min (t.val % 72) (used m - 1) + (y 0).val) % 36864 = r.val; rw [show min (t.val % 72) (used m - 1) = t.val % 72 by omega]; omega
      | ⟨1, _⟩ => rfl
    have hb : ∀ (W : S8x2048x5632.Idx → EReal) (k : Fin 2048), weights W (expertOf m (t.val % 72)).toNat (t.val / 72) (ix2 k (y 1)) = W (ix3 (own (expertOf m) (t.val % 72)) k e) := fun W k => by
      unfold weights
      refine congrArg W (funext fun a => Fin.ext ?_)
      match a with
      | ⟨0, _⟩ => rfl
      | ⟨1, _⟩ => rfl
      | ⟨2, _⟩ => show (1408 * (t.val / 72) + (y 1).val) % 5632 = e.val; have := e.isLt; omega
    unfold block pair
    rw [product_apply]
    unfold unit sums
    refine congrArg₂ gated (Finset.sum_congr rfl fun k _ => ?_) (Finset.sum_congr rfl fun k _ => ?_)
    · exact congrArg₂ (fun a b : EReal => a * b) (hx k) (hb (V m c main_arg1) k)
    · exact congrArg₂ (fun a b : EReal => a * b) (hx k) (hb (V m c main_arg2) k)
  · exact half_nil

theorem small_val (n : ℕ) (h : n < 288) : (BitVec.ofNat 32 n).toNat = n := by rw [BitVec.toNat_ofNat]; omega

theorem flush_out (t : Fin grid0.N) : ((cfgM m R).win 1).flush t = true :=
  (Pipeline.Window.flush_reads ((cfgM m R).win 1) rfl 1 (show 1 < grid0.bound 1 by decide) (show grid0.fixedAfter reads0_1 1 = true by decide) (Pipeline.Window.sep_of_coord cc0_transform_3 1 0 (fun _ => rfl) (by decide)) (P := 1) (m := 0) (show grid0.stride 1 = 1 by decide) rfl t).mpr (Nat.mod_one _)

theorem flushed_eq (t : Fin grid0.N) : (dats m R 0 c).flushed 1 t = (((cfgM m R).win 1).blk t).view.read (Elt Ideal) (result m c) := by
  show ((cfgM m R).win 1).cut (grid0.coords t) ((dats m R 0 c).after 1 t) = _
  rw [after_out]
  have ht : t.val < 288 := lt_of_lt_of_eq t.isLt N_0
  obtain ⟨e0, e1⟩ := coords_at t
  refine funext fun (y : S512x1408.Idx) => ?_
  have key : ∀ p : S36864x5632.Idx, (p 0).val = 512 * (t.val % 72) + (y 0).val → (p 1).val = 1408 * (t.val / 72) + (y 1).val → outAt m c t y = result m c p :=
    fun p h h' => out_apply m c t y (p 0) (p 1) h h'
  refine key ((((cfgM m R).win 1).blk t).view.emb y) ?_ ?_
  · show (BitVec.ofNat 32 (grid0.coords t 1).val).toNat * 512 + 1 * (y 0).val = _
    rw [e1, small_val _ (by omega)]; omega
  · show (BitVec.ofNat 32 (grid0.coords t 0).val).toNat * 1408 + 1 * (y 1).val = _
    rw [e0, small_val _ (by omega)]; omega

theorem in_slice (i : S36864x5632.Idx) (off : Fin 2 → ℕ) (h : ∀ a, off a + S512x1408.size a ≤ S36864x5632.size a)
    (hi : ∀ a, off a ≤ (i a).val ∧ (i a).val < off a + S512x1408.size a) :
    i ∈ ((View.whole main_v0).slice (Rect.unit (s := S36864x5632) off S512x1408.size h)).set := by
  rw [View.set_slice_whole, Rect.mem_set_unit]
  exact hi

theorem covered (i : S36864x5632.Idx) : ∃ t : Fin grid0.N, ((cfgM m R).win 1).flush t = true ∧ i ∈ (((cfgM m R).win 1).blk t).view.set := by
  have h0 : (i 0).val < 36864 := (i 0).isLt
  have h1 : (i 1).val < 5632 := (i 1).isLt
  have ht : (i 1).val / 1408 * 72 + (i 0).val / 512 < grid0.N := by rw [show grid0.N = 288 from N_0]; omega
  obtain ⟨e0, e1⟩ := coords_at ⟨_, ht⟩
  refine ⟨⟨_, ht⟩, flush_out m R _, ?_⟩
  refine in_slice i _ _ fun a => ?_
  match a with
  | ⟨0, _⟩ =>
    show (BitVec.ofNat 32 (grid0.coords ⟨_, ht⟩ 1).val).toNat * 512 ≤ (i 0).val ∧ (i 0).val < (BitVec.ofNat 32 (grid0.coords ⟨_, ht⟩ 1).val).toNat * 512 + 512
    rw [e1, small_val _ (by omega)]
    show ((i 1).val / 1408 * 72 + (i 0).val / 512) % 72 * 512 ≤ (i 0).val ∧ (i 0).val < ((i 1).val / 1408 * 72 + (i 0).val / 512) % 72 * 512 + 512
    omega
  | ⟨1, _⟩ =>
    show (BitVec.ofNat 32 (grid0.coords ⟨_, ht⟩ 0).val).toNat * 1408 ≤ (i 1).val ∧ (i 1).val < (BitVec.ofNat 32 (grid0.coords ⟨_, ht⟩ 0).val).toNat * 1408 + 1408
    rw [e0, small_val _ (by show ((i 1).val / 1408 * 72 + (i 0).val / 512) / 72 < 288; omega)]
    show ((i 1).val / 1408 * 72 + (i 0).val / 512) / 72 * 1408 ≤ (i 1).val ∧ (i 1).val < ((i 1).val / 1408 * 72 + (i 0).val / 512) / 72 * 1408 + 1408
    omega

/-- The call leaves the result. -/
theorem final_out : (dats m R 0 c).arrAt 1 (cfgM m R).N = result m c :=
  (dats m R 0 c).arrAt_eq_of_cover 1 (result m c) (fun t _ => flushed_eq m R c t) (covered m R)

end Cert.Proof.Gated

end
-- ==== Proof.Gated.Plain.lean ====
/- The reference of the call `moe_up` element by element at the ideal instance: of the eight experts' gated products of a row,
   that of the row's own expert, or none. -/
module

public import proofs.«01_k».proof.Proof.Gated.Array
public import proofs.«01_k».proof.Proof.Experts.Plain
public import proofs.«01_k».proof.Proof.Gen.ExpUpReferenceIdeal
public import proofs.«01_k».proof.Proof.Gen.ExpUpReferenceIdeal.Run
public import Idealize.ShloMosaic.Lib.Claim
public import Idealize.ShloMosaic.Lib.Pointwise.Reduce
public import Idealize.ShloMosaic.Lib.StableHlo.Predicate

@[expose] public section

set_option maxRecDepth 16384

noncomputable section

namespace Cert.Proof.Gated

open Cert.ExpUpReferenceIdeal Cert.ExpUpReferenceIdeal.Gen
open Idealize.ShloMosaic hiding ix1 ix2 ix3 ix4
open Idealize.ShloMosaic.TcCoe Idealize.ShloMosaic.ValueIdx Idealize.SL.Sem
open StableHlo.Predicate
open Cert.Proof.Hidden (gated bits_one bits_nil)
open Cert.Proof.Experts (own entry Routed rowWord rowWord_apply tileWord_apply at36864)
open Finset (univ)

/-- The sums of every row against the columns of every expert's weights. -/
def every (X : FVec Ideal S36864x2048 .f32) (W : FVec Ideal S8x2048x5632 .f32) : FVec Ideal S36864x8x5632 .f32 :=
  Host.dotGeneral dot_S36864x2048_S8x2048x5632_S36864x8x5632_1_1_0_02_n_n none X W

theorem every_apply (X : FVec Ideal S36864x2048 .f32) (W : FVec Ideal S8x2048x5632 .f32) (r : Fin 36864) (x : Fin 8) (e : Fin 5632) :
    every X W (ix3 r x e) = sums X W x r e := by
  unfold every
  simp only [Host.dotGeneral, Ideal.dotGeneral_apply]
  rw [← Equiv.sum_comp (contrEquiv1 dot_S36864x2048_S8x2048x5632_S36864x8x5632_1_1_0_02_n_n 2048 rfl rfl).symm]
  refine Finset.sum_congr rfl fun d _ => ?_
  congr 2
  · funext a
    refine Fin.ext ?_
    match a with
    | ⟨0, _⟩ => rfl
    | ⟨1, _⟩ => exact contrEquiv1_symm_val dot_S36864x2048_S8x2048x5632_S36864x8x5632_1_1_0_02_n_n 2048 rfl rfl d
  · funext a
    refine Fin.ext ?_
    match a with
    | ⟨0, _⟩ => rfl
    | ⟨1, _⟩ => exact contrEquiv1_symm_val dot_S36864x2048_S8x2048x5632_S36864x8x5632_1_1_0_02_n_n 2048 rfl rfl d
    | ⟨2, _⟩ => rfl

/-- Whether a row is an expert's. -/
def mine (te : IVec S72 32) (nu : IVec S1 32) : IVec S36864x8x5632 1 :=
  broadcastInDim S36864x8x5632 ![0, 1, 2] bcast_S36864x8x1_S36864x8x5632_0_1_2 (broadcastInDim S36864x8x1 ![0, 1] bcast_S36864x8_S36864x8x1_0_1
    (cmpi .eq (broadcastInDim S36864x8 ![0, 1] bcast_S36864x1_S36864x8_0_1 (broadcastInDim S36864x1 ![0] bcast_S36864_S36864x1_0 (rowWord te nu)))
      (broadcastInDim S36864x8 ![0, 1] bcast_S1x8_S36864x8_0_1 (broadcastInDim S1x8 ![1] bcast_S8_S1x8_1 (iotaInDim S8 32 0)))))

/-- Every expert's gated products of every row. -/
def units (X : FVec Ideal S36864x2048 .f32) (G U : FVec Ideal S8x2048x5632 .f32) : FVec Ideal S36864x8x5632 .f32 :=
  mulf (mulf (every X G) (Host.divf (broadcastInDim S36864x8x5632 ![] bcast_S_S36864x8x5632 (constant S_ .f32 0x3F800000#32))
    (addf (broadcastInDim S36864x8x5632 ![] bcast_S_S36864x8x5632 (constant S_ .f32 0x3F800000#32)) (Host.exp (Host.negf (every X G)))))) (every X U)

theorem units_apply (X : FVec Ideal S36864x2048 .f32) (G U : FVec Ideal S8x2048x5632 .f32) (r : Fin 36864) (x : Fin 8) (e : Fin 5632) :
    units X G U (ix3 r x e) = gated (sums X G x r e) (sums X U x r e) := by
  show (every X G (ix3 r x e) * Ideal.div (FloatOps.ofBits .f32 0x3F800000#32 : Ideal .f32) ((FloatOps.ofBits .f32 0x3F800000#32 : Ideal .f32)
      + Ideal.exp (-every X G (ix3 r x e)))) * every X U (ix3 r x e) = _
  rw [every_apply, every_apply, bits_one]
  rfl

/-- The reference's result of its arguments. -/
def plain (X : FVec Ideal S36864x2048 .f32) (G U : FVec Ideal S8x2048x5632 .f32) (te : IVec S72 32) (nu : IVec S1 32) : FVec Ideal S36864x5632 .bf16 :=
  truncf .bf16 (Host.reduceAdd (select (mine te nu) (units X G U) (broadcastInDim S36864x8x5632 ![] bcast_S_S36864x8x5632 (id (constant S_ .f32 0x00000000#32))))
    (constant S_ .f32 0x00000000#32) reducesTo_S36864x8x5632_S36864x5632_d1 h_S_) bitsLt_bf16_f32

theorem mine_apply (te : IVec S72 32) (nu : IVec S1 32) (r : Fin 36864) (x : Fin 8) (e : Fin 5632) :
    mine te nu (ix3 r x e) = IntOp.cmpi .eq (rowWord te nu (at36864 r)) (BitVec.ofNat 32 x.val) := by
  refine congrArg (fun w => IntOp.cmpi .eq w (BitVec.ofNat 32 x.val)) (congrArg (rowWord te nu) (funext fun a => Fin.ext ?_))
  match a with
  | ⟨0, _⟩ => rfl

theorem term_apply (X : FVec Ideal S36864x2048 .f32) (G U : FVec Ideal S8x2048x5632 .f32) (te : IVec S72 32) (nu : IVec S1 32) (r : Fin 36864) (x : Fin 8) (e : Fin 5632) :
    select (mine te nu) (units X G U) (broadcastInDim S36864x8x5632 ![] bcast_S_S36864x8x5632 (id (constant S_ .f32 0x00000000#32))) (ix3 r x e)
      = if rowWord te nu (at36864 r) = BitVec.ofNat 32 x.val then gated (sums X G x r e) (sums X U x r e) else 0 := by
  show Scalar.select (mine te nu (ix3 r x e)) (units X G U (ix3 r x e)) (FloatOps.ofBits .f32 0x00000000#32 : Ideal .f32) = _
  rw [mine_apply, units_apply, bits_nil]
  unfold Scalar.select
  by_cases h : rowWord te nu (at36864 r) = BitVec.ofNat 32 x.val
  · rw [if_pos h]; exact if_pos (cmpi_eq_iff.mpr h)
  · rw [if_neg h]; exact if_neg fun q => h (cmpi_eq_iff.mp q)

theorem plain_apply (X : FVec Ideal S36864x2048 .f32) (G U : FVec Ideal S8x2048x5632 .f32) (te nx : IVec S72 32) (nu : IVec S1 32)
    (R : Routed (entry te) (entry nx) (Experts.count nu).toNat) (r : Fin 36864) (e : Fin 5632) :
    plain X G U te nu (ix2 r e) = value X G U (entry te) (Experts.count nu).toNat r e := by
  have hr := r.isLt
  have hle := R.le
  have hp : plain X G U te nu (ix2 r e) = ∑ x : Fin 8, if rowWord te nu (at36864 r) = BitVec.ofNat 32 x.val then gated (sums X G x r e) (sums X U x r e) else 0 := by
    unfold plain
    refine (truncf_apply (φ := .f32) (ψ := .bf16) _ _ _).trans ?_
    rw [Host.reduceAdd_apply]
    refine (Ideal.hostReduceAdd_r3_a1 _ _ _ (ix2 r e)).trans ?_
    show (FloatOps.ofBits .f32 0x00000000#32 : Ideal .f32) + _ = _
    rw [bits_nil, zero_add]
    refine Finset.sum_congr rfl fun x _ => ?_
    exact term_apply X G U te nu r x e
  rw [hp, rowWord_apply, tileWord_apply te nu hle _ (by omega)]
  unfold value
  by_cases h : r.val / 512 < (Experts.count nu).toNat
  · have hx := R.expert _ h
    rw [if_pos h, if_pos h]
    have own_eq : (own (entry te) (r.val / 512)).val = (entry te (r.val / 512)).toNat := Nat.mod_eq_of_lt hx
    rw [Finset.sum_eq_single (own (entry te) (r.val / 512))]
    · exact if_pos (BitVec.eq_of_toNat_eq (by rw [BitVec.toNat_ofNat, own_eq]; omega))
    · intro x _ hne
      refine if_neg fun q => hne (Fin.ext ?_)
      rw [own_eq, q, BitVec.toNat_ofNat]
      have := x.isLt
      omega
    · intro hn
      exact absurd (Finset.mem_univ _) hn
  · rw [if_neg h, if_neg h]
    refine Finset.sum_eq_zero fun x _ => if_neg fun q => ?_
    have := congrArg BitVec.toNat q
    rw [BitVec.toNat_ofNat, BitVec.toNat_ofNat] at this
    have := x.isLt
    omega

/-- Every index of the result names a row and a column. -/
theorem index_eq (i : S36864x5632.Idx) : ∃ (r : Fin 36864) (e : Fin 5632), i = ix2 r e := by
  refine ⟨i 0, i 1, funext fun a => ?_⟩
  match a with
  | ⟨0, _⟩ => rfl
  | ⟨1, _⟩ => rfl

end Cert.Proof.Gated

end
-- ==== Proof.Projections.Out.lean ====
/- The call `odd_out_ln` and its reference element by element at the ideal instance: a row of the scaled input and the sums
   against the weight's columns, less its mean, times the reciprocal root of its variance, the gain and the bias. -/
module

public import proofs.«01_k».proof.Proof.Gen.OddOutIdeal.Value
public import proofs.«01_k».proof.Proof.Gen.OddOutReferenceIdeal
public import proofs.«01_k».proof.Proof.Gen.OddOutReferenceIdeal.Run
public import Idealize.ShloMosaic.Lib.Claim
public import Idealize.ShloMosaic.Lib.MatmulPlain
public import Idealize.ShloMosaic.Lib.StackMember
public import Idealize.ShloMosaic.Lib.Pointwise.Reduce
public import Idealize.ShloMosaic.Lib.ValueIdx
public import Idealize.ShloMosaic.PureOps.IdealRules

@[expose] public section

set_option maxRecDepth 16384

noncomputable section

namespace Cert.Proof.OddOut

open Idealize.ShloMosaic hiding ix1 ix2 ix3 eq_ix1 eq_ix2 eq_ix3
open Idealize.ShloMosaic.TcCoe Idealize.ShloMosaic.ValueIdx Idealize.SL.Sem
open Finset (univ)

theorem zeros : (![0, 0] : Fin 2 → Nat) = fun _ => 0 := funext fun a => by fin_cases a <;> rfl

theorem bits_nil : (FloatOps.ofBits .f32 0x00000000#32 : Ideal .f32) = (0 : EReal) := Ideal.ofBits_zero_f32

/-! ## A row's mean and its normalisation -/

/-- The mean of a row. -/
def mean (y : Fin 2048 → EReal) : EReal := Ideal.div (∑ k : Fin 2048, y k) (Ideal.ofBits .f32 0x45000000#32)

/-- A row less its mean. -/
def centred (y : Fin 2048 → EReal) (k : Fin 2048) : EReal := y k - mean y

/-- The row normalised, at column `e`, with gain `g` and bias `b` there. -/
def normed (y : Fin 2048 → EReal) (g b : EReal) (e : Fin 2048) : EReal :=
  centred y e * Ideal.rsqrt (mean (fun k => centred y k * centred y k) + Ideal.ofBits .f32 0x3727C5AC#32) * g + b

/-- Row `r` of the scaled input and the sums against the weight's columns. -/
def summed {M : ℕ} (o x : (⟨2, ![M, 2048]⟩ : Shape).Idx → EReal) (w : (⟨2, ![2048, 2048]⟩ : Shape).Idx → EReal) (r : Fin M) (e : Fin 2048) : EReal :=
  Ideal.ofBits .f32 0x3FB504F3#32 * x (ix2 r e) + ∑ d : Fin 2048, o (ix2 r d) * w (ix2 d e)

section Rows
variable {M : ℕ}

theorem row_sum (x : FVec Ideal ⟨2, ![M, 2048]⟩ .f32) (h : Shape.Reduces ⟨2, ![M, 2048]⟩ [1] ⟨1, ![M]⟩) (hφ : FKind.Formats .f32)
    (hacc : (0x00000000#32 : BitVec 32) = FKind.add.neutral .f32 hφ) (r : Fin M) :
    multiReduction .add [1] ⟨1, ![M]⟩ x 0x00000000#32 h hφ hacc (ix1 r) = ∑ k : Fin 2048, x (ix2 r k) := by
  rw [Ideal.multiReduction_add_single]
  exact Finset.sum_congr rfl fun k _ => congrArg x (Shape.idx_ext₂ rfl rfl)

theorem column_of_flat {α : Type} (x : (⟨1, ![M]⟩ : Shape).Idx → α) (h : Shape.ShapeCasts ⟨1, ![M]⟩ ⟨2, ![M, 1]⟩) (r : Fin M) :
    shapeCast ⟨2, ![M, 1]⟩ x h (ix2 r 0) = x (ix1 r) := by
  refine shapeCast_apply _ _ _ _ ?_
  rw [Shape.rowMajor_val_two, Shape.rowMajor_val_one]
  show r.val = r.val * 1 + 0
  omega

theorem column_bcast {α : Type} (hM : M ≠ 1) (x : (⟨2, ![M, 1]⟩ : Shape).Idx → α) (h : Shape.Broadcasts ⟨2, ![M, 1]⟩ ⟨2, ![M, 2048]⟩) (r : Fin M) (e : Fin 2048) :
    broadcastTo ⟨2, ![M, 2048]⟩ x h (ix2 r e) = x (ix2 r 0) :=
  broadcastTo_apply x h (ix2 r e) (ix2 r 0) fun a => match a with
    | ⟨0, _⟩ => by show r.val = if M = 1 then 0 else r.val; rw [if_neg hM]
    | ⟨1, _⟩ => by show 0 = if (1 : ℕ) = 1 then 0 else _; rw [if_pos rfl]

theorem row_bcast {α : Type} (x : (⟨2, ![1, 2048]⟩ : Shape).Idx → α) (h : Shape.Broadcasts ⟨2, ![1, 2048]⟩ ⟨2, ![M, 2048]⟩) (r : Fin M) (e : Fin 2048) :
    broadcastTo ⟨2, ![M, 2048]⟩ x h (ix2 r e) = x (ix2 0 e) :=
  broadcastTo_apply x h (ix2 r e) (ix2 0 e) fun a => match a with
    | ⟨0, _⟩ => by show 0 = if (1 : ℕ) = 1 then 0 else _; rw [if_pos rfl]
    | ⟨1, _⟩ => by show e.val = if (2048 : ℕ) = 1 then 0 else e.val; rw [if_neg (by decide)]

end Rows

section Call
open Cert.OddOutIdeal Cert.OddOutIdeal.Gen Cert.OddOutIdeal.Value

/-- The means of a block's rows, as the body spreads them. -/
def means (y : FVec Ideal S512x2048 .f32) : FVec Ideal S512x1 .f32 :=
  divf (shapeCast S512x1 (multiReduction .add [1] S512 y 0x00000000#32 reduces_S512x2048_S512 (.inl rfl) rfl) shapeCasts_S512_S512x1)
    (broadcast S512x1 (Scalar.ofBits .f32 0x45000000#32))

theorem means_apply (y : FVec Ideal S512x2048 .f32) (r : Fin 512) : means y (ix2 r 0) = mean fun k => y (ix2 r k) := by
  show Ideal.div (shapeCast S512x1 _ shapeCasts_S512_S512x1 (ix2 r 0)) (Ideal.ofBits .f32 0x45000000#32) = _
  exact congrArg (fun s => Ideal.div s (Ideal.ofBits .f32 0x45000000#32)) ((column_of_flat _ _ r).trans (row_sum y _ _ _ r))

/-- A block's rows less their means. -/
def centre (y : FVec Ideal S512x2048 .f32) : FVec Ideal S512x2048 .f32 := subf y (broadcastTo S512x2048 (means y) broadcasts_S512x1_S512x2048)

theorem centre_apply (y : FVec Ideal S512x2048 .f32) (r : Fin 512) (e : Fin 2048) : centre y (ix2 r e) = centred (fun k => y (ix2 r k)) e := by
  show y (ix2 r e) - broadcastTo S512x2048 (means y) broadcasts_S512x1_S512x2048 (ix2 r e) = _
  exact congrArg (fun s : EReal => y (ix2 r e) - s) ((column_bcast (by decide) _ _ r e).trans (means_apply y r))

/-- The sums that the body normalises. -/
def sums (x : FVec Ideal S512x2048 .f32) (o : FVec Ideal S512x2048 .bf16) (w : FVec Ideal S2048x2048 .bf16) : FVec Ideal S512x2048 .f32 :=
  addf (mulf (broadcast S512x2048 (Scalar.ofBits .f32 0x3FB504F3#32)) x)
    (matmul dot_S512x2048_S2048x2048_S512x2048_1_0_0_1_n_n none o w (constant S512x2048 .f32 0x00000000#32))

theorem sums_apply (x : FVec Ideal S512x2048 .f32) (o : FVec Ideal S512x2048 .bf16) (w : FVec Ideal S2048x2048 .bf16) (r : Fin 512) (e : Fin 2048) :
    sums x o w (ix2 r e) = summed o x w r e := by
  show Ideal.ofBits .f32 0x3FB504F3#32 * x (ix2 r e)
      + FloatOps.matmul (F := Ideal) (φ₁ := .bf16) (φ₂ := .bf16) (DotDims.plain 512 2048 2048) none o w (constant S512x2048 .f32 0x00000000#32) (ix2 r e) = _
  refine congrArg (fun s : EReal => Ideal.ofBits .f32 0x3FB504F3#32 * x (ix2 r e) + s) ?_
  refine (Ideal.matmul_plain_apply (φ₁ := .bf16) (φ₂ := .bf16) _ _ _ _ r e).trans ?_
  show Ideal.ofBits .f32 0x00000000#32 + _ = _
  rw [Ideal.ofBits_zero_f32, zero_add]

theorem pay_eq (x : Vec Ideal S512x2048 .f32) (o : Vec Ideal S512x2048 .bf16) (w : Vec Ideal S2048x2048 .bf16) (g b : Vec Ideal S1x2048 .f32) :
    k0_pay1 x o w g b = addf (mulf (mulf (centre (sums x o w)) (broadcastTo S512x2048 (rsqrt (addf (means (mulf (centre (sums x o w)) (centre (sums x o w))))
        (broadcast S512x1 (Scalar.ofBits .f32 0x3727C5AC#32)))) broadcasts_S512x1_S512x2048)) (broadcastTo S512x2048 g broadcasts_S1x2048_S512x2048))
      (broadcastTo S512x2048 b broadcasts_S1x2048_S512x2048) := by
  unfold k0_pay1
  simp only [shapeCast_self]
  rfl

theorem pay_apply (x : Vec Ideal S512x2048 .f32) (o : Vec Ideal S512x2048 .bf16) (w : Vec Ideal S2048x2048 .bf16) (g b : Vec Ideal S1x2048 .f32)
    (r : Fin 512) (e : Fin 2048) : k0_pay1 x o w g b (ix2 r e) = normed (summed o x w r) (g (ix2 0 e)) (b (ix2 0 e)) e := by
  have hs : (fun k => sums x o w (ix2 r k)) = summed o x w r := funext fun k => sums_apply x o w r k
  have hc : ∀ k, centre (sums x o w) (ix2 r k) = centred (summed o x w r) k := fun k => by rw [centre_apply, hs]
  have hv : means (mulf (centre (sums x o w)) (centre (sums x o w))) (ix2 r 0)
      = mean fun k => centred (summed o x w r) k * centred (summed o x w r) k := by
    rw [means_apply]
    refine congrArg mean (funext fun k => ?_)
    show centre (sums x o w) (ix2 r k) * centre (sums x o w) (ix2 r k) = _
    rw [hc]
  rw [pay_eq]
  show centre (sums x o w) (ix2 r e) * broadcastTo S512x2048 _ broadcasts_S512x1_S512x2048 (ix2 r e)
      * broadcastTo S512x2048 g broadcasts_S1x2048_S512x2048 (ix2 r e) + broadcastTo S512x2048 b broadcasts_S1x2048_S512x2048 (ix2 r e) = _
  have h₁ := row_bcast g broadcasts_S1x2048_S512x2048 r e
  have h₂ := row_bcast b broadcasts_S1x2048_S512x2048 r e
  have h₃ := column_bcast (by decide) (rsqrt (addf (means (mulf (centre (sums x o w)) (centre (sums x o w))))
    (broadcast S512x1 (Scalar.ofBits .f32 0x3727C5AC#32) : FVec Ideal S512x1 .f32)) : FVec Ideal S512x1 .f32) broadcasts_S512x1_S512x2048 r e
  rw [hc]
  refine (congrArg₂ (fun p q : EReal => centred (summed o x w r) e * p * q + broadcastTo S512x2048 b broadcasts_S1x2048_S512x2048 (ix2 r e)) h₃ h₁).trans ?_
  refine (congrArg (fun p : EReal => _ + p) h₂).trans ?_
  show centred (summed o x w r) e * Ideal.rsqrt (means (mulf (centre (sums x o w)) (centre (sums x o w))) (ix2 r 0) + Ideal.ofBits .f32 0x3727C5AC#32)
    * g (ix2 0 e) + b (ix2 0 e) = _
  rw [hv]
  rfl

theorem places : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (cfg0.win 5).flush t = true :=
  (by decide +kernel : ∀ t : Fin grid0.N, _)

variable (m : (ℓ : Loc nD τ sig) → Buf (Elt Ideal) ℓ) (c : Dev nD)

/-- The final array at a place of point `t`'s block is the point's payload there. -/
theorem at_block (t : Fin cfg0.N) (y : S512x2048.Idx) :
    (dats m 0 c).arrAt 5 cfg0.N (((cfg0.win 5).blk t).view.emb y) = k0_pay1 (iblk m c 2 t) (iblk m c 0 t) (iblk m c 1 t) (iblk m c 3 t) (iblk m c 4 t) y := by
  refine (congrFun (blocks5 m c t (places t).2.2.2.2.2.2) y).trans ?_
  rw [flushed5]
  have hl : (cfg0.win 5).xinj (grid0.coords t) y = y := by
    funext a; apply Fin.ext
    match a with
    | ⟨0, _⟩ => rfl
    | ⟨1, _⟩ => rfl
  show out0_5 (iblk m c 0 t) (iblk m c 1 t) (iblk m c 2 t) (iblk m c 3 t) (iblk m c 4 t) ((cfg0.win 5).xinj (grid0.coords t) y) = _
  rw [hl]
  unfold out0_5 r0_0 r0_1 r0_2
  rw [View.canon_unit_zero zeros]
  simp only [View.ld_unit_zero (S := S512x2048) zeros, View.ld_unit_zero (S := S2048x2048) zeros, View.ld_unit_zero (S := S1x2048) zeros]

theorem entry_weight : V m c main_v0 = (truncf .bf16 (m ((c : Thread nD τ).loc main_arg2) : FVec Ideal S2048x2048 .f32) bitsLt_bf16_f32 : FVec Ideal S2048x2048 .bf16) := by
  entry_read
  rfl

theorem entry_gain : V m c main_v1 = (shapeCast S1x2048 (m ((c : Thread nD τ).loc main_arg3) : FVec Ideal S2048 .f32) shapeCasts_S2048_S1x2048 : FVec Ideal S1x2048 .f32) := by
  entry_read
  rfl

theorem entry_bias : V m c main_v2 = (shapeCast S1x2048 (m ((c : Thread nD τ).loc main_arg4) : FVec Ideal S2048 .f32) shapeCasts_S2048_S1x2048 : FVec Ideal S1x2048 .f32) := by
  entry_read
  rfl

theorem row_of_flat {α : Type} (x : S2048.Idx → α) (e : Fin 2048) : shapeCast S1x2048 x shapeCasts_S2048_S1x2048 (ix2 0 e) = x (ix1 e) :=
  (shapeCast_addUnit_apply ![2048] x shapeCasts_S2048_S1x2048 (ix2 0 e)).trans (congrArg x (eq_ix1 _))

/-- The result of the five arguments. -/
def value (o x : S16384x2048.Idx → EReal) (w : S2048x2048.Idx → EReal) (g b : S2048.Idx → EReal) (r : Fin 16384) (e : Fin 2048) : EReal :=
  normed (summed o x w r) (g (ix1 e)) (b (ix1 e)) e

/-- The kernel's result at an index. -/
theorem final_apply (r : Fin 16384) (e : Fin 2048) :
    ((dats m 0 c).arrAt 5 cfg0.N : FVec Ideal S16384x2048 .f32) (ix2 r e)
      = value (m ((c : Thread nD τ).loc main_arg0)) (m ((c : Thread nD τ).loc main_arg1)) (m ((c : Thread nD τ).loc main_arg2))
        (m ((c : Thread nD τ).loc main_arg3)) (m ((c : Thread nD τ).loc main_arg4)) r e := by
  have hr := r.isLt
  have hN : r.val / 512 < cfg0.N := by rw [show cfg0.N = 32 from N_0]; omega
  obtain ⟨t, ht⟩ : ∃ t : Fin cfg0.N, t.val = r.val / 512 := ⟨⟨_, hN⟩, rfl⟩
  obtain ⟨⟨a₀, a₁⟩, ⟨w₀, w₁⟩, ⟨x₀, x₁⟩, ⟨g₀, g₁⟩, ⟨b₀, b₁⟩, ⟨o₀, o₁⟩, -⟩ := places t
  have hi : ((cfg0.win 5).blk t).view.emb (ix2 ⟨r.val % 512, Nat.mod_lt _ (by decide)⟩ e : S512x2048.Idx) = (ix2 r e : S16384x2048.Idx) := by
    funext a; apply Fin.ext
    match a with
    | ⟨0, _⟩ => show win0_5.index t (0 : Fin 2) * 512 + 1 * (r.val % 512) = r.val; rw [o₀, ht]; omega
    | ⟨1, _⟩ => show win0_5.index t (1 : Fin 2) * 2048 + 1 * e.val = e.val; rw [o₁]; omega
  have ho : ∀ d : Fin 2048, (iblk m c 0 t : Vec Ideal S512x2048 .bf16) (ix2 ⟨r.val % 512, Nat.mod_lt _ (by decide)⟩ d)
      = (m ((c : Thread nD τ).loc main_arg0) : FVec Ideal S16384x2048 .bf16) (ix2 r d) := fun d => by
    show V m c main_arg0 (((cfg0.win 0).blk t).view.emb _) = _
    rw [V_main_arg0]
    refine congrArg (m ((c : Thread nD τ).loc main_arg0)) (funext fun a => Fin.ext ?_)
    match a with
    | ⟨0, _⟩ => show win0_0.index t (0 : Fin 2) * 512 + 1 * (r.val % 512) = r.val; rw [a₀, ht]; omega
    | ⟨1, _⟩ => show win0_0.index t (1 : Fin 2) * 2048 + 1 * d.val = d.val; rw [a₁]; omega
  have hx : ∀ d : Fin 2048, (iblk m c 2 t : Vec Ideal S512x2048 .f32) (ix2 ⟨r.val % 512, Nat.mod_lt _ (by decide)⟩ d)
      = (m ((c : Thread nD τ).loc main_arg1) : FVec Ideal S16384x2048 .f32) (ix2 r d) := fun d => by
    show V m c main_arg1 (((cfg0.win 2).blk t).view.emb _) = _
    rw [V_main_arg1]
    refine congrArg (m ((c : Thread nD τ).loc main_arg1)) (funext fun a => Fin.ext ?_)
    match a with
    | ⟨0, _⟩ => show win0_2.index t (0 : Fin 2) * 512 + 1 * (r.val % 512) = r.val; rw [x₀, ht]; omega
    | ⟨1, _⟩ => show win0_2.index t (1 : Fin 2) * 2048 + 1 * d.val = d.val; rw [x₁]; omega
  have hw : ∀ d k : Fin 2048, (iblk m c 1 t : Vec Ideal S2048x2048 .bf16) (ix2 d k)
      = (m ((c : Thread nD τ).loc main_arg2) : FVec Ideal S2048x2048 .f32) (ix2 d k) := fun d k => by
    show V m c main_v0 (((cfg0.win 1).blk t).view.emb _) = _
    rw [entry_weight]
    refine (truncf_apply (φ := .f32) (ψ := .bf16) _ _ _).trans (congrArg (m ((c : Thread nD τ).loc main_arg2)) (funext fun a => Fin.ext ?_))
    match a with
    | ⟨0, _⟩ => show win0_1.index t (0 : Fin 2) * 2048 + 1 * d.val = d.val; rw [w₀]; omega
    | ⟨1, _⟩ => show win0_1.index t (1 : Fin 2) * 2048 + 1 * k.val = k.val; rw [w₁]; omega
  have hg : (iblk m c 3 t : Vec Ideal S1x2048 .f32) (ix2 0 e) = (m ((c : Thread nD τ).loc main_arg3) : FVec Ideal S2048 .f32) (ix1 e) := by
    show V m c main_v1 (((cfg0.win 3).blk t).view.emb _) = _
    rw [entry_gain]
    refine (congrArg (shapeCast S1x2048 (m ((c : Thread nD τ).loc main_arg3) : FVec Ideal S2048 .f32) shapeCasts_S2048_S1x2048) (funext fun a => Fin.ext ?_)).trans (row_of_flat _ e)
    match a with
    | ⟨0, _⟩ => show win0_3.index t (0 : Fin 2) * 1 + 1 * 0 = 0; rw [g₀]
    | ⟨1, _⟩ => show win0_3.index t (1 : Fin 2) * 2048 + 1 * e.val = e.val; rw [g₁]; omega
  have hb : (iblk m c 4 t : Vec Ideal S1x2048 .f32) (ix2 0 e) = (m ((c : Thread nD τ).loc main_arg4) : FVec Ideal S2048 .f32) (ix1 e) := by
    show V m c main_v2 (((cfg0.win 4).blk t).view.emb _) = _
    rw [entry_bias]
    refine (congrArg (shapeCast S1x2048 (m ((c : Thread nD τ).loc main_arg4) : FVec Ideal S2048 .f32) shapeCasts_S2048_S1x2048) (funext fun a => Fin.ext ?_)).trans (row_of_flat _ e)
    match a with
    | ⟨0, _⟩ => show win0_4.index t (0 : Fin 2) * 1 + 1 * 0 = 0; rw [b₀]
    | ⟨1, _⟩ => show win0_4.index t (1 : Fin 2) * 2048 + 1 * e.val = e.val; rw [b₁]; omega
  have hs : summed (iblk m c 0 t : Vec Ideal S512x2048 .bf16) (iblk m c 2 t : Vec Ideal S512x2048 .f32) (iblk m c 1 t : Vec Ideal S2048x2048 .bf16)
        (⟨r.val % 512, Nat.mod_lt _ (by decide)⟩ : Fin 512)
      = summed (m ((c : Thread nD τ).loc main_arg0) : FVec Ideal S16384x2048 .bf16) (m ((c : Thread nD τ).loc main_arg1) : FVec Ideal S16384x2048 .f32)
        (m ((c : Thread nD τ).loc main_arg2) : FVec Ideal S2048x2048 .f32) r := funext fun k =>
    congrArg₂ (fun p q : EReal => Ideal.ofBits .f32 0x3FB504F3#32 * p + q) (hx k)
      (Finset.sum_congr rfl fun d _ => congrArg₂ (fun p q : EReal => p * q) (ho d) (hw d k))
  rw [← hi]
  refine (at_block m c t _).trans ((pay_apply _ _ _ _ _ _ _).trans ?_)
  rw [hs]
  exact congrArg₂ (fun p q : EReal => normed _ p q e) hg hb

end Call

/-! ## The reference -/

section Plain
open Cert.OddOutReferenceIdeal Cert.OddOutReferenceIdeal.Gen

/-- The rows' sums. -/
def totals (y : FVec Ideal S16384x2048 .f32) : FVec Ideal S16384 .f32 := Host.reduceAdd y (constant S_ .f32 0x00000000#32) reducesTo_S16384x2048_S16384_d1 h_S_

theorem totals_apply (y : FVec Ideal S16384x2048 .f32) (r : Fin 16384) : totals y (ix1 r) = ∑ k : Fin 2048, y (ix2 r k) := by
  unfold totals
  rw [Host.reduceAdd_apply]
  refine (Ideal.hostReduceAdd_r2_a1 _ _ _ (ix1 r)).trans ?_
  show (FloatOps.ofBits .f32 0x00000000#32 : Ideal .f32) + _ = _
  rw [bits_nil, zero_add]
  exact Finset.sum_congr rfl fun k _ => congrArg y (Shape.idx_ext₂ rfl rfl)

theorem columnT {α : Type} (x : S16384.Idx → α) (r : Fin 16384) : broadcastInDim S16384x1 ![0] bcast_S16384_S16384x1_0 x (ix2 r 0) = x (ix1 r) :=
  broadcastInDim_apply _ _ _ (ix2 r 0) (ix1 r) fun a => match a with
    | ⟨0, _⟩ => by show r.val = if (16384 : ℕ) = 1 then 0 else r.val; rw [if_neg (by decide)]

/-- The means of the rows. -/
def meansR (y : FVec Ideal S16384x2048 .f32) : FVec Ideal S16384x1 .f32 :=
  Host.divf (broadcastInDim S16384x1 ![0] bcast_S16384_S16384x1_0 (totals y)) (broadcastInDim S16384x1 ![] bcast_S_S16384x1 (constant S_ .f32 0x45000000#32))

theorem meansR_apply (y : FVec Ideal S16384x2048 .f32) (r : Fin 16384) : meansR y (ix2 r 0) = mean fun k => y (ix2 r k) := by
  show Ideal.div (broadcastInDim S16384x1 ![0] bcast_S16384_S16384x1_0 (totals y) (ix2 r 0)) (Ideal.ofBits .f32 0x45000000#32)
    = Ideal.div (∑ k : Fin 2048, y (ix2 r k)) (Ideal.ofBits .f32 0x45000000#32)
  rw [columnT, totals_apply]

theorem columnR {α : Type} (x : S16384x1.Idx → α) (r : Fin 16384) (e : Fin 2048) :
    broadcastInDim S16384x2048 ![0, 1] bcast_S16384x1_S16384x2048_0_1 x (ix2 r e) = x (ix2 r 0) :=
  broadcastInDim_apply _ _ _ (ix2 r e) (ix2 r 0) fun a => match a with
    | ⟨0, _⟩ => by show r.val = if (16384 : ℕ) = 1 then 0 else r.val; rw [if_neg (by decide)]
    | ⟨1, _⟩ => by show 0 = if (1 : ℕ) = 1 then 0 else _; rw [if_pos rfl]

theorem rowR {α : Type} (x : S2048.Idx → α) (r : Fin 16384) (e : Fin 2048) :
    broadcastInDim S16384x2048 ![0, 1] bcast_S1x2048_S16384x2048_0_1 (broadcastInDim S1x2048 ![1] bcast_S2048_S1x2048_1 x) (ix2 r e) = x (ix1 e) :=
  (broadcastInDim_apply _ _ _ (ix2 r e) (ix2 0 e) fun a => match a with
    | ⟨0, _⟩ => by show 0 = if (1 : ℕ) = 1 then 0 else _; rw [if_pos rfl]
    | ⟨1, _⟩ => by show e.val = if (2048 : ℕ) = 1 then 0 else e.val; rw [if_neg (by decide)]).trans
  (broadcastInDim_apply _ _ _ (ix2 0 e) (ix1 e) fun a => match a with
    | ⟨0, _⟩ => by show e.val = if (2048 : ℕ) = 1 then 0 else e.val; rw [if_neg (by decide)])

/-- The rows less their means. -/
def centreR (y : FVec Ideal S16384x2048 .f32) : FVec Ideal S16384x2048 .f32 :=
  subf y (broadcastInDim S16384x2048 ![0, 1] bcast_S16384x1_S16384x2048_0_1 (meansR y))

theorem centreR_apply (y : FVec Ideal S16384x2048 .f32) (r : Fin 16384) (e : Fin 2048) : centreR y (ix2 r e) = centred (fun k => y (ix2 r k)) e := by
  show y (ix2 r e) - broadcastInDim S16384x2048 ![0, 1] bcast_S16384x1_S16384x2048_0_1 (meansR y) (ix2 r e) = _
  rw [columnR, meansR_apply]
  rfl

/-- The sums that the reference normalises. -/
def sumsR (o : FVec Ideal S16384x2048 .bf16) (x : FVec Ideal S16384x2048 .f32) (w : FVec Ideal S2048x2048 .f32) : FVec Ideal S16384x2048 .f32 :=
  addf (mulf (broadcastInDim S16384x2048 ![] bcast_S_S16384x2048 (constant S_ .f32 0x3FB504F3#32)) x)
    (Host.dotGeneral dot_S16384x2048_S2048x2048_S16384x2048_1_0_0_1_n_n none (extf .f32 o bitsLt_bf16_f32) w)

theorem sumsR_apply (o : FVec Ideal S16384x2048 .bf16) (x : FVec Ideal S16384x2048 .f32) (w : FVec Ideal S2048x2048 .f32) (r : Fin 16384) (e : Fin 2048) :
    sumsR o x w (ix2 r e) = summed o x w r e := by
  show Ideal.ofBits .f32 0x3FB504F3#32 * x (ix2 r e)
      + Host.dotGeneral (F := Ideal) (φ₁ := .f32) (φ₂ := .f32) (DotDims.plain 16384 2048 2048) none (extf .f32 o bitsLt_bf16_f32) w (ix2 r e) = _
  exact congrArg (fun s : EReal => Ideal.ofBits .f32 0x3FB504F3#32 * x (ix2 r e) + s)
    (StackMember.dotGeneral_plain_apply (φ₁ := .f32) (φ₂ := .f32) none (extf .f32 o bitsLt_bf16_f32) w r e)

/-- The reference's result of its arguments. -/
def plain (o : FVec Ideal S16384x2048 .bf16) (x : FVec Ideal S16384x2048 .f32) (w : FVec Ideal S2048x2048 .f32) (g b : FVec Ideal S2048 .f32) : FVec Ideal S16384x2048 .f32 :=
  addf (mulf (mulf (centreR (sumsR o x w)) (broadcastInDim S16384x2048 ![0, 1] bcast_S16384x1_S16384x2048_0_1
      (Host.rsqrt (addf (meansR (mulf (centreR (sumsR o x w)) (centreR (sumsR o x w)))) (broadcastInDim S16384x1 ![] bcast_S_S16384x1 (constant S_ .f32 0x3727C5AC#32))))))
    (broadcastInDim S16384x2048 ![0, 1] bcast_S1x2048_S16384x2048_0_1 (broadcastInDim S1x2048 ![1] bcast_S2048_S1x2048_1 g)))
    (broadcastInDim S16384x2048 ![0, 1] bcast_S1x2048_S16384x2048_0_1 (broadcastInDim S1x2048 ![1] bcast_S2048_S1x2048_1 b))

theorem plain_apply (o : FVec Ideal S16384x2048 .bf16) (x : FVec Ideal S16384x2048 .f32) (w : FVec Ideal S2048x2048 .f32) (g b : FVec Ideal S2048 .f32)
    (r : Fin 16384) (e : Fin 2048) : plain o x w g b (ix2 r e) = value o x w g b r e := by
  have hs : (fun k => sumsR o x w (ix2 r k)) = summed o x w r := funext fun k => sumsR_apply o x w r k
  have hc : ∀ k, centreR (sumsR o x w) (ix2 r k) = centred (summed o x w r) k := fun k => by rw [centreR_apply, hs]
  have hv : meansR (mulf (centreR (sumsR o x w)) (centreR (sumsR o x w))) (ix2 r 0)
      = mean fun k => centred (summed o x w r) k * centred (summed o x w r) k := by
    rw [meansR_apply]
    refine congrArg mean (funext fun k => ?_)
    show centreR (sumsR o x w) (ix2 r k) * centreR (sumsR o x w) (ix2 r k) = _
    rw [hc]
  show centreR (sumsR o x w) (ix2 r e) * broadcastInDim S16384x2048 ![0, 1] bcast_S16384x1_S16384x2048_0_1 (Host.rsqrt (addf
        (meansR (mulf (centreR (sumsR o x w)) (centreR (sumsR o x w)))) (broadcastInDim S16384x1 ![] bcast_S_S16384x1 (constant S_ .f32 0x3727C5AC#32)))
        : FVec Ideal S16384x1 .f32) (ix2 r e)
      * broadcastInDim S16384x2048 ![0, 1] bcast_S1x2048_S16384x2048_0_1 (broadcastInDim S1x2048 ![1] bcast_S2048_S1x2048_1 g) (ix2 r e)
      + broadcastInDim S16384x2048 ![0, 1] bcast_S1x2048_S16384x2048_0_1 (broadcastInDim S1x2048 ![1] bcast_S2048_S1x2048_1 b) (ix2 r e) = _
  rw [rowR, rowR, columnR, hc]
  show centred (summed o x w r) e * Ideal.rsqrt (meansR (mulf (centreR (sumsR o x w)) (centreR (sumsR o x w))) (ix2 r 0) + Ideal.ofBits .f32 0x3727C5AC#32)
    * g (ix1 e) + b (ix1 e) = _
  rw [hv]
  rfl

end Plain

/-- Every index of the result names a row and a column. -/
theorem index_eq (i : Cert.OddOutIdeal.S16384x2048.Idx) : ∃ (r : Fin 16384) (e : Fin 2048), i = ix2 r e := ⟨i 0, i 1, eq_ix2 i⟩

end Cert.Proof.OddOut

end
-- ==== Proof.Projections.Keys.lean ====
/- The call `proj` and its reference element by element at the ideal instance: the sum of a row against a column of the
   weight's second third. -/
module

public import proofs.«01_k».proof.Proof.Gen.KeysIdeal.Value
public import proofs.«01_k».proof.Proof.Gen.KeysReferenceIdeal
public import proofs.«01_k».proof.Proof.Gen.KeysReferenceIdeal.Run
public import Idealize.ShloMosaic.Lib.Claim
public import Idealize.ShloMosaic.Lib.MatmulPlain
public import Idealize.ShloMosaic.Lib.ValueIdx
public import Idealize.ShloMosaic.PureOps.IdealRules

@[expose] public section

set_option maxRecDepth 16384

noncomputable section

namespace Cert.Proof.Keys

open Idealize.ShloMosaic Idealize.ShloMosaic.TcCoe Idealize.ShloMosaic.ValueIdx Idealize.SL.Sem

theorem zeros : (![0, 0] : Fin 2 → Nat) = fun _ => 0 := funext fun a => by fin_cases a <;> rfl

/-- Column `e` of the weight's second third. -/
def second (e : Fin 2048) : Fin 6144 := ⟨2048 + e.val, by omega⟩

/-- The sum of row `n` of batch `b` against column `e` of the second third. -/
def line (x : Cert.KeysIdeal.S2x8192x2048.Idx → EReal) (w : Cert.KeysIdeal.S2048x6144.Idx → EReal) (b : Fin 2) (n : Fin 8192) (e : Fin 2048) : EReal :=
  ∑ d : Fin 2048, x (ix3 b n d) * w (ix2 d (second e))

/-- Row `n` of batch `b` among all rows. -/
def flat (b : Fin 2) (n : Fin 8192) : Fin 16384 := ⟨8192 * b.val + n.val, by omega⟩

section Call
open Cert.KeysIdeal Cert.KeysIdeal.Gen Cert.KeysIdeal.Value

theorem places : ∀ t : Fin cfg0.N, (win0_0.index t (0 : Fin 2) = t.val % 16 ∧ win0_0.index t (1 : Fin 2) = 0)
    ∧ (win0_1.index t (0 : Fin 2) = 0 ∧ win0_1.index t (1 : Fin 2) = t.val / 16)
    ∧ (win0_2.index t (0 : Fin 2) = t.val % 16 ∧ win0_2.index t (1 : Fin 2) = t.val / 16)
    ∧ (cfg0.win 2).flush t = true :=
  (by decide +kernel : ∀ t : Fin grid0.N, _)

variable (m : (ℓ : Loc nD τ sig) → Buf (Elt Ideal) ℓ) (c : Dev nD)

/-- The final array at a place of point `t`'s block is the point's payload there. -/
theorem at_block (t : Fin cfg0.N) (y : S1024x1024.Idx) :
    (dats m 0 c).arrAt 2 cfg0.N (((cfg0.win 2).blk t).view.emb y) = k0_pay1 (iblk m c 0 t) (iblk m c 1 t) y := by
  refine (congrFun (blocks2 m c t (places t).2.2.2) y).trans ?_
  rw [flushed2]
  have hl : (cfg0.win 2).xinj (grid0.coords t) y = y := by
    funext a; apply Fin.ext
    match a with
    | ⟨0, _⟩ => rfl
    | ⟨1, _⟩ => rfl
  show out0_2 (iblk m c 0 t) (iblk m c 1 t) ((cfg0.win 2).xinj (grid0.coords t) y) = _
  rw [hl]
  unfold out0_2 r0_2 r0_0 r0_1
  rw [View.canon_unit_zero zeros, View.ld_unit_zero (S := S1024x2048) zeros, View.ld_unit_zero (S := S2048x1024) zeros]

theorem pay_apply (x : Vec Ideal S1024x2048 .bf16) (w : Vec Ideal S2048x1024 .bf16) (r : Fin 1024) (e : Fin 1024) :
    k0_pay1 x w (ix2 r e) = ∑ d : Fin 2048, x (ix2 r d) * w (ix2 d e) := by
  unfold k0_pay1
  rw [shapeCast_self, shapeCast_self]
  refine (truncf_apply (φ := .f32) (ψ := .bf16) _ _ _).trans ?_
  refine (Ideal.matmul_plain_apply (M := 1024) (K := 2048) (N := 1024) (φ₁ := .bf16) (φ₂ := .bf16) none x w _ r e).trans ?_
  show Ideal.ofBits .f32 0x00000000#32 + _ = _
  rw [Ideal.ofBits_zero_f32, zero_add]

theorem entry_rows : V m c main_v2 = truncf .bf16 (shapeCast S16384x2048 (m ((c : Thread nD τ).loc main_arg0)) shapeCasts_S2x8192x2048_S16384x2048 : FVec Ideal S16384x2048 .f32)
      bitsLt_bf16_f32 := by
  entry_read
  rfl

theorem entry_weight : V m c main_v3 = (extractStridedSlice S2048x2048 ![0, 2048] (truncf .bf16 (m ((c : Thread nD τ).loc main_arg1) : FVec Ideal S2048x6144 .f32)
      bitsLt_bf16_f32 : FVec Ideal S2048x6144 .bf16) slices_S2048x6144_S2048x2048_0_2048 : FVec Ideal S2048x2048 .bf16) := by
  entry_read
  rfl

theorem rows_apply (b : Fin 2) (n : Fin 8192) (d : Fin 2048) :
    (V m c main_v2 : FVec Ideal S16384x2048 .bf16) (ix2 (flat b n) d) = (m ((c : Thread nD τ).loc main_arg0) : FVec Ideal S2x8192x2048 .f32) (ix3 b n d) := by
  rw [entry_rows]
  refine (truncf_apply (φ := .f32) (ψ := .bf16) _ _ _).trans ?_
  refine shapeCast_apply _ _ _ _ ?_
  show (S2x8192x2048.rowMajor (ix3 b n d)).val = (S16384x2048.rowMajor (ix2 (flat b n) d)).val
  rw [Shape.rowMajor_val_two, Shape.rowMajor_val_three]
  show (b.val * 8192 + n.val) * 2048 + d.val = (8192 * b.val + n.val) * 2048 + d.val
  omega

theorem weight_apply (d e : Fin 2048) :
    (V m c main_v3 : FVec Ideal S2048x2048 .bf16) (ix2 d e) = (m ((c : Thread nD τ).loc main_arg1) : FVec Ideal S2048x6144 .f32) (ix2 d (second e)) := by
  rw [entry_weight]
  refine (extractStridedSlice_apply _ _ _ (ix2 d e) (ix2 d (second e)) fun a => ?_).trans (truncf_apply (φ := .f32) (ψ := .bf16) _ _ _)
  match a with
  | ⟨0, _⟩ => exact (Nat.zero_add _).symm
  | ⟨1, _⟩ => rfl

/-- The kernel's result at an index. -/
theorem final_apply (b : Fin 2) (n : Fin 8192) (e : Fin 2048) :
    ((dats m 0 c).arrAt 2 cfg0.N : FVec Ideal S16384x2048 .bf16) (ix2 (flat b n) e)
      = line (m ((c : Thread nD τ).loc main_arg0)) (m ((c : Thread nD τ).loc main_arg1)) b n e := by
  have hn := n.isLt
  have hb := b.isLt
  have he := e.isLt
  have hN : (8192 * b.val + n.val) / 1024 + 16 * (e.val / 1024) < cfg0.N := by rw [show cfg0.N = 32 from N_0]; omega
  obtain ⟨t, ht⟩ : ∃ t : Fin cfg0.N, t.val = (8192 * b.val + n.val) / 1024 + 16 * (e.val / 1024) := ⟨⟨_, hN⟩, rfl⟩
  have h₁ : t.val % 16 = (8192 * b.val + n.val) / 1024 := by omega
  have h₂ : t.val / 16 = e.val / 1024 := by omega
  obtain ⟨⟨x₀, x₁⟩, ⟨w₀, w₁⟩, ⟨o₀, o₁⟩, -⟩ := places t
  have hi : ((cfg0.win 2).blk t).view.emb (ix2 ⟨(8192 * b.val + n.val) % 1024, Nat.mod_lt _ (by decide)⟩ ⟨e.val % 1024, Nat.mod_lt _ (by decide)⟩ : S1024x1024.Idx)
      = (ix2 (flat b n) e : S16384x2048.Idx) := by
    funext a; apply Fin.ext
    match a with
    | ⟨0, _⟩ => show win0_2.index t (0 : Fin 2) * 1024 + 1 * ((8192 * b.val + n.val) % 1024) = 8192 * b.val + n.val; rw [o₀, h₁]; omega
    | ⟨1, _⟩ => show win0_2.index t (1 : Fin 2) * 1024 + 1 * (e.val % 1024) = e.val; rw [o₁, h₂]; omega
  rw [← hi]
  refine (at_block m c t _).trans ((pay_apply _ _ _ _).trans (Finset.sum_congr rfl fun d _ => ?_))
  have hx : (iblk m c 0 t : Vec Ideal S1024x2048 .bf16) (ix2 ⟨(8192 * b.val + n.val) % 1024, Nat.mod_lt _ (by decide)⟩ d)
      = (m ((c : Thread nD τ).loc main_arg0) : FVec Ideal S2x8192x2048 .f32) (ix3 b n d) := by
    show V m c main_v2 (((cfg0.win 0).blk t).view.emb _) = _
    refine (congrArg (V m c main_v2) (funext fun a => Fin.ext ?_)).trans (rows_apply m c b n d)
    match a with
    | ⟨0, _⟩ => show win0_0.index t (0 : Fin 2) * 1024 + 1 * ((8192 * b.val + n.val) % 1024) = 8192 * b.val + n.val; rw [x₀, h₁]; omega
    | ⟨1, _⟩ => show win0_0.index t (1 : Fin 2) * 2048 + 1 * d.val = d.val; rw [x₁]; omega
  have hw : (iblk m c 1 t : Vec Ideal S2048x1024 .bf16) (ix2 d ⟨e.val % 1024, Nat.mod_lt _ (by decide)⟩)
      = (m ((c : Thread nD τ).loc main_arg1) : FVec Ideal S2048x6144 .f32) (ix2 d (second e)) := by
    show V m c main_v3 (((cfg0.win 1).blk t).view.emb _) = _
    refine (congrArg (V m c main_v3) (funext fun a => Fin.ext ?_)).trans (weight_apply m c d e)
    match a with
    | ⟨0, _⟩ => show win0_1.index t (0 : Fin 2) * 2048 + 1 * d.val = d.val; rw [w₀]; omega
    | ⟨1, _⟩ => show win0_1.index t (1 : Fin 2) * 1024 + 1 * (e.val % 1024) = e.val; rw [w₁, h₂]; omega
  exact congrArg₂ (fun p q : EReal => p * q) hx hw

end Call

/-! ## The reference -/

section Plain
open Cert.KeysReferenceIdeal Cert.KeysReferenceIdeal.Gen

theorem dot_apply (x : FVec Ideal S2x8192x2048 .f32) (w : FVec Ideal S2048x6144 .f32) (b : Fin 2) (n : Fin 8192) (e : Fin 6144) :
    Host.dotGeneral (φ₁ := .f32) (φ₂ := .f32) dot_S2x8192x2048_S2048x6144_S2x8192x6144_2_0_01_1_n_n none x w (ix3 b n e)
      = ∑ d : Fin 2048, x (ix3 b n d) * w (ix2 d e) := by
  simp only [Host.dotGeneral, Ideal.dotGeneral_apply]
  rw [← Equiv.sum_comp (contrEquiv1 dot_S2x8192x2048_S2048x6144_S2x8192x6144_2_0_01_1_n_n 2048 rfl rfl).symm]
  refine Finset.sum_congr rfl fun d _ => ?_
  congr 2
  · funext a
    refine Fin.ext ?_
    match a with
    | ⟨0, _⟩ => rfl
    | ⟨1, _⟩ => rfl
    | ⟨2, _⟩ => exact contrEquiv1_symm_val dot_S2x8192x2048_S2048x6144_S2x8192x6144_2_0_01_1_n_n 2048 rfl rfl d
  · funext a
    refine Fin.ext ?_
    match a with
    | ⟨0, _⟩ => exact contrEquiv1_symm_val dot_S2x8192x2048_S2048x6144_S2x8192x6144_2_0_01_1_n_n 2048 rfl rfl d
    | ⟨1, _⟩ => rfl

/-- The reference's result of its arguments. -/
def plain (x : FVec Ideal S2x8192x2048 .f32) (w : FVec Ideal S2048x6144 .f32) : FVec Ideal S16384x2048 .bf16 :=
  truncf .bf16 (shapeCast _ (extractStridedSlice S2x8192x2048 ![0, 0, 2048] (Host.dotGeneral dot_S2x8192x2048_S2048x6144_S2x8192x6144_2_0_01_1_n_n none x w)
    slices_S2x8192x6144_S2x8192x2048_0_0_2048) shapeCasts_S2x8192x2048_S16384x2048) bitsLt_bf16_f32

theorem plain_apply (x : FVec Ideal S2x8192x2048 .f32) (w : FVec Ideal S2048x6144 .f32) (b : Fin 2) (n : Fin 8192) (e : Fin 2048) :
    plain x w (ix2 (flat b n) e) = line x w b n e := by
  refine (truncf_apply (φ := .f32) (ψ := .bf16) _ _ _).trans ?_
  refine (shapeCast_apply _ _ (ix2 (flat b n) e) (ix3 b n e) ?_).trans ?_
  · rw [Shape.rowMajor_val_two, Shape.rowMajor_val_three]
    show (b.val * 8192 + n.val) * 2048 + e.val = (8192 * b.val + n.val) * 2048 + e.val
    omega
  · refine (extractStridedSlice_apply _ _ _ (ix3 b n e) (ix3 b n (second e)) fun a => ?_).trans (dot_apply x w b n (second e))
    match a with
    | ⟨0, _⟩ => exact (Nat.zero_add _).symm
    | ⟨1, _⟩ => exact (Nat.zero_add _).symm
    | ⟨2, _⟩ => rfl

end Plain

/-- Every index of the result names a batch, a row of it and a column. -/
theorem index_eq (i : Cert.KeysIdeal.S16384x2048.Idx) : ∃ (b : Fin 2) (n : Fin 8192) (e : Fin 2048), i = ix2 (flat b n) e := by
  have hi : (i 0).val < 16384 := (i 0).isLt
  refine ⟨⟨(i 0).val / 8192, by omega⟩, ⟨(i 0).val % 8192, by omega⟩, i 1, ?_⟩
  funext a
  refine Fin.ext ?_
  match a with
  | ⟨0, _⟩ => exact (Nat.div_add_mod (i 0).val 8192).symm
  | ⟨1, _⟩ => rfl

end Cert.Proof.Keys

end
-- ==== Proof.Projections.Values.lean ====
/- The call `proj_t` that makes the values, and its reference, element by element at the ideal instance: the sum of a row
   against a column of the weight's last third, with the positions last. -/
module

public import proofs.«01_k».proof.Proof.Gen.ValsIdeal.Value
public import proofs.«01_k».proof.Proof.Gen.ValsReferenceIdeal
public import proofs.«01_k».proof.Proof.Gen.ValsReferenceIdeal.Run
public import Idealize.ShloMosaic.Lib.Claim
public import Idealize.ShloMosaic.Lib.MatmulPlain
public import Idealize.ShloMosaic.Lib.ValueIdx
public import Idealize.ShloMosaic.PureOps.IdealRules

@[expose] public section

set_option maxRecDepth 16384

noncomputable section

namespace Cert.Proof.Vals

open Idealize.ShloMosaic Idealize.ShloMosaic.TcCoe Idealize.ShloMosaic.ValueIdx Idealize.SL.Sem

theorem zeros₂ : (![0, 0] : Fin 2 → Nat) = fun _ => 0 := funext fun a => by fin_cases a <;> rfl
theorem zeros₃ : (![0, 0, 0] : Fin 3 → Nat) = fun _ => 0 := funext fun a => by fin_cases a <;> rfl

theorem bits_one : (FloatOps.ofBits .f32 0x3F800000#32 : Ideal .f32) = (1 : EReal) := by
  show Ideal.ofBits .f32 0x3F800000#32 = ((1 : ℝ) : EReal)
  simp [Ideal.ofBits, Ideal.ieee, -EReal.coe_mul]
  norm_num

/-- Column `e` of the weight's last third. -/
def third (e : Fin 2048) : Fin 6144 := ⟨4096 + e.val, by omega⟩

/-- The sum of row `n` of batch `b` against column `e` of the last third. -/
def line (x : Cert.ValsIdeal.S2x8192x2048.Idx → EReal) (w : Cert.ValsIdeal.S2048x6144.Idx → EReal) (b : Fin 2) (n : Fin 8192) (e : Fin 2048) : EReal :=
  ∑ d : Fin 2048, x (ix3 b n d) * w (ix2 d (third e))

section Call
open Cert.ValsIdeal Cert.ValsIdeal.Gen Cert.ValsIdeal.Value

theorem places : ∀ t : Fin cfg0.N, (win0_0.index t (0 : Fin 2) = t.val / 16 ∧ win0_0.index t (1 : Fin 2) = 0)
    ∧ (win0_1.index t (0 : Fin 3) = t.val % 16 / 8 ∧ win0_1.index t (1 : Fin 3) = t.val % 8 ∧ win0_1.index t (2 : Fin 3) = 0)
    ∧ (win0_2.index t (0 : Fin 3) = t.val % 16 / 8 ∧ win0_2.index t (1 : Fin 3) = t.val / 16 ∧ win0_2.index t (2 : Fin 3) = t.val % 8)
    ∧ (cfg0.win 2).flush t = true :=
  (by decide +kernel : ∀ t : Fin grid0.N, _)

variable (m : (ℓ : Loc nD τ sig) → Buf (Elt Ideal) ℓ) (c : Dev nD)

/-- The final array at a place of point `t`'s block is the point's payload there. -/
theorem at_block (t : Fin cfg0.N) (y : S1x1024x1024.Idx) :
    (dats m 0 c).arrAt 2 cfg0.N (((cfg0.win 2).blk t).view.emb y) = k0_pay1 (iblk m c 0 t) (iblk m c 1 t) y := by
  refine (congrFun (blocks2 m c t (places t).2.2.2) y).trans ?_
  rw [flushed2]
  have hl : (cfg0.win 2).xinj (grid0.coords t) y = y := by
    funext a; apply Fin.ext
    match a with
    | ⟨0, _⟩ => rfl
    | ⟨1, _⟩ => rfl
    | ⟨2, _⟩ => rfl
  show out0_2 (iblk m c 0 t) (iblk m c 1 t) ((cfg0.win 2).xinj (grid0.coords t) y) = _
  rw [hl]
  unfold out0_2 r0_2 r0_0 r0_1
  rw [View.canon_unit_zero zeros₃, View.ld_unit_zero (S := S1024x2048) zeros₂, View.ld_unit_zero (S := S1x1024x2048) zeros₃]

theorem pay_apply (w : Vec Ideal S1024x2048 .bf16) (x : Vec Ideal S1x1024x2048 .bf16) (e : Fin 1024) (r : Fin 1024) :
    k0_pay1 w x (ix3 0 e r) = ∑ d : Fin 2048, x (ix3 0 r d) * w (ix2 e d) := by
  unfold k0_pay1
  rw [shapeCast_self]
  refine ((shapeCast_addUnit_apply ![1024, 1024] _ shapeCasts_S1024x1024_S1x1024x1024 (ix3 0 e r)).trans (congrArg _ (eq_ix2 _))).trans ?_
  refine (truncf_apply (φ := .f32) (ψ := .bf16) _ _ _).trans ?_
  show FloatOps.matmul (F := Ideal) (φ₁ := .bf16) (φ₂ := .bf16) (DotDims.transposedRhs 1024 2048 1024) none w (shapeCast S1024x2048 x shapeCasts_S1x1024x2048_S1024x2048)
      (constant S1024x1024 .f32 0x00000000#32) (ix2 e r) * (FloatOps.ofBits .f32 0x3F800000#32 : Ideal .f32) = _
  rw [bits_one, mul_one]
  refine (Ideal.matmul_transposedRhs_apply (φ₁ := .bf16) (φ₂ := .bf16) _ _ _ _ e r).trans ?_
  show Ideal.ofBits .f32 0x00000000#32 + _ = _
  rw [Ideal.ofBits_zero_f32, zero_add]
  refine Finset.sum_congr rfl fun d _ => ?_
  rw [mul_comm]
  refine congrArg (fun p : EReal => p * w (ix2 e d)) ?_
  exact (shapeCast_dropUnit_apply ![1024, 2048] x shapeCasts_S1x1024x2048_S1024x2048 (ix2 r d)).trans (congrArg x (eq_ix3 _))

theorem entry_rows : V m c main_v1 = (truncf .bf16 (m ((c : Thread nD τ).loc main_arg0) : FVec Ideal S2x8192x2048 .f32) bitsLt_bf16_f32 : FVec Ideal S2x8192x2048 .bf16) := by
  entry_read
  rfl

theorem entry_weight : V m c main_v3 = (transpose S2048x2048 [1, 0] (extractStridedSlice S2048x2048 ![0, 4096] (truncf .bf16 (m ((c : Thread nD τ).loc main_arg1) : FVec Ideal S2048x6144 .f32)
      bitsLt_bf16_f32 : FVec Ideal S2048x6144 .bf16) slices_S2048x6144_S2048x2048_0_4096 : FVec Ideal S2048x2048 .bf16) transposes_S2048x2048_S2048x2048_1_0 : FVec Ideal S2048x2048 .bf16) := by
  entry_read
  rfl

theorem rows_apply (b : Fin 2) (n : Fin 8192) (d : Fin 2048) :
    (V m c main_v1 : FVec Ideal S2x8192x2048 .bf16) (ix3 b n d) = (m ((c : Thread nD τ).loc main_arg0) : FVec Ideal S2x8192x2048 .f32) (ix3 b n d) := by
  rw [entry_rows]
  exact truncf_apply (φ := .f32) (ψ := .bf16) _ _ _

theorem weight_apply (e d : Fin 2048) :
    (V m c main_v3 : FVec Ideal S2048x2048 .bf16) (ix2 e d) = (m ((c : Thread nD τ).loc main_arg1) : FVec Ideal S2048x6144 .f32) (ix2 d (third e)) := by
  rw [entry_weight]
  refine (transpose_apply _ _ _ (ix2 e d) (ix2 d e) fun a => ?_).trans
    ((extractStridedSlice_apply _ _ _ (ix2 d e) (ix2 d (third e)) fun a => ?_).trans (truncf_apply (φ := .f32) (ψ := .bf16) _ _ _))
  · match a with
    | ⟨0, _⟩ => rfl
    | ⟨1, _⟩ => rfl
  · match a with
    | ⟨0, _⟩ => exact (Nat.zero_add _).symm
    | ⟨1, _⟩ => rfl

/-- The kernel's result at an index. -/
theorem final_apply (b : Fin 2) (e : Fin 2048) (n : Fin 8192) :
    ((dats m 0 c).arrAt 2 cfg0.N : FVec Ideal S2x2048x8192 .bf16) (ix3 b e n)
      = line (m ((c : Thread nD τ).loc main_arg0)) (m ((c : Thread nD τ).loc main_arg1)) b n e := by
  have hn := n.isLt
  have hb := b.isLt
  have he := e.isLt
  have hN : n.val / 1024 + 8 * b.val + 16 * (e.val / 1024) < cfg0.N := by rw [show cfg0.N = 32 from N_0]; omega
  obtain ⟨t, ht⟩ : ∃ t : Fin cfg0.N, t.val = n.val / 1024 + 8 * b.val + 16 * (e.val / 1024) := ⟨⟨_, hN⟩, rfl⟩
  have h₁ : t.val % 8 = n.val / 1024 := by omega
  have h₂ : t.val / 16 = e.val / 1024 := by omega
  have h₃ : t.val % 16 / 8 = b.val := by omega
  obtain ⟨⟨w₀, w₁⟩, ⟨x₀, x₁, x₂⟩, ⟨o₀, o₁, o₂⟩, -⟩ := places t
  have hi : ((cfg0.win 2).blk t).view.emb (ix3 0 ⟨e.val % 1024, Nat.mod_lt _ (by decide)⟩ ⟨n.val % 1024, Nat.mod_lt _ (by decide)⟩ : S1x1024x1024.Idx)
      = (ix3 b e n : S2x2048x8192.Idx) := by
    funext a; apply Fin.ext
    match a with
    | ⟨0, _⟩ => show win0_2.index t (0 : Fin 3) * 1 + 1 * 0 = b.val; rw [o₀, h₃]; omega
    | ⟨1, _⟩ => show win0_2.index t (1 : Fin 3) * 1024 + 1 * (e.val % 1024) = e.val; rw [o₁, h₂]; omega
    | ⟨2, _⟩ => show win0_2.index t (2 : Fin 3) * 1024 + 1 * (n.val % 1024) = n.val; rw [o₂, h₁]; omega
  rw [← hi]
  refine (at_block m c t _).trans ((pay_apply _ _ _ _).trans (Finset.sum_congr rfl fun d _ => ?_))
  have hx : (iblk m c 1 t : Vec Ideal S1x1024x2048 .bf16) (ix3 0 ⟨n.val % 1024, Nat.mod_lt _ (by decide)⟩ d)
      = (m ((c : Thread nD τ).loc main_arg0) : FVec Ideal S2x8192x2048 .f32) (ix3 b n d) := by
    show V m c main_v1 (((cfg0.win 1).blk t).view.emb _) = _
    refine (congrArg (V m c main_v1) (funext fun a => Fin.ext ?_)).trans (rows_apply m c b n d)
    match a with
    | ⟨0, _⟩ => show win0_1.index t (0 : Fin 3) * 1 + 1 * 0 = b.val; rw [x₀, h₃]; omega
    | ⟨1, _⟩ => show win0_1.index t (1 : Fin 3) * 1024 + 1 * (n.val % 1024) = n.val; rw [x₁, h₁]; omega
    | ⟨2, _⟩ => show win0_1.index t (2 : Fin 3) * 2048 + 1 * d.val = d.val; rw [x₂]; omega
  have hw : (iblk m c 0 t : Vec Ideal S1024x2048 .bf16) (ix2 ⟨e.val % 1024, Nat.mod_lt _ (by decide)⟩ d)
      = (m ((c : Thread nD τ).loc main_arg1) : FVec Ideal S2048x6144 .f32) (ix2 d (third e)) := by
    show V m c main_v3 (((cfg0.win 0).blk t).view.emb _) = _
    refine (congrArg (V m c main_v3) (funext fun a => Fin.ext ?_)).trans (weight_apply m c e d)
    match a with
    | ⟨0, _⟩ => show win0_0.index t (0 : Fin 2) * 1024 + 1 * (e.val % 1024) = e.val; rw [w₀, h₂]; omega
    | ⟨1, _⟩ => show win0_0.index t (1 : Fin 2) * 2048 + 1 * d.val = d.val; rw [w₁]; omega
  exact congrArg₂ (fun p q : EReal => p * q) hx hw

end Call

/-! ## The reference -/

section Plain
open Cert.ValsReferenceIdeal Cert.ValsReferenceIdeal.Gen

theorem dot_apply (x : FVec Ideal S2x8192x2048 .f32) (w : FVec Ideal S2048x6144 .f32) (b : Fin 2) (n : Fin 8192) (e : Fin 6144) :
    Host.dotGeneral (φ₁ := .f32) (φ₂ := .f32) dot_S2x8192x2048_S2048x6144_S2x8192x6144_2_0_01_1_n_n none x w (ix3 b n e)
      = ∑ d : Fin 2048, x (ix3 b n d) * w (ix2 d e) := by
  simp only [Host.dotGeneral, Ideal.dotGeneral_apply]
  rw [← Equiv.sum_comp (contrEquiv1 dot_S2x8192x2048_S2048x6144_S2x8192x6144_2_0_01_1_n_n 2048 rfl rfl).symm]
  refine Finset.sum_congr rfl fun d _ => ?_
  congr 2
  · funext a
    refine Fin.ext ?_
    match a with
    | ⟨0, _⟩ => rfl
    | ⟨1, _⟩ => rfl
    | ⟨2, _⟩ => exact contrEquiv1_symm_val dot_S2x8192x2048_S2048x6144_S2x8192x6144_2_0_01_1_n_n 2048 rfl rfl d
  · funext a
    refine Fin.ext ?_
    match a with
    | ⟨0, _⟩ => exact contrEquiv1_symm_val dot_S2x8192x2048_S2048x6144_S2x8192x6144_2_0_01_1_n_n 2048 rfl rfl d
    | ⟨1, _⟩ => rfl

/-- The reference's result of its arguments. -/
def plain (x : FVec Ideal S2x8192x2048 .f32) (w : FVec Ideal S2048x6144 .f32) : FVec Ideal S2x2048x8192 .bf16 :=
  truncf .bf16 (transpose S2x2048x8192 [0, 2, 1] (extractStridedSlice S2x8192x2048 ![0, 0, 4096] (Host.dotGeneral dot_S2x8192x2048_S2048x6144_S2x8192x6144_2_0_01_1_n_n none x w)
    slices_S2x8192x6144_S2x8192x2048_0_0_4096) transposes_S2x8192x2048_S2x2048x8192_0_2_1) bitsLt_bf16_f32

theorem plain_apply (x : FVec Ideal S2x8192x2048 .f32) (w : FVec Ideal S2048x6144 .f32) (b : Fin 2) (e : Fin 2048) (n : Fin 8192) :
    plain x w (ix3 b e n) = line x w b n e := by
  refine (truncf_apply (φ := .f32) (ψ := .bf16) _ _ _).trans ?_
  refine (transpose_apply _ _ _ (ix3 b e n) (ix3 b n e) fun a => ?_).trans
    ((extractStridedSlice_apply _ _ _ (ix3 b n e) (ix3 b n (third e)) fun a => ?_).trans (dot_apply x w b n (third e)))
  · match a with
    | ⟨0, _⟩ => rfl
    | ⟨1, _⟩ => rfl
    | ⟨2, _⟩ => rfl
  · match a with
    | ⟨0, _⟩ => exact (Nat.zero_add _).symm
    | ⟨1, _⟩ => exact (Nat.zero_add _).symm
    | ⟨2, _⟩ => rfl

end Plain

end Cert.Proof.Vals

end
-- ==== Proof.lean ====
module

public import proofs.«01_k».proof.Defs
public import proofs.«01_k».proof.Proof.Run
public import proofs.«01_k».proof.Proof.Word.Run
public import proofs.«01_k».proof.Proof.Arrays
public import proofs.«01_k».proof.Proof.RefRow
public import proofs.«01_k».proof.Proof.Finite
public import proofs.«01_k».proof.Proof.Hidden.Values
public import proofs.«01_k».proof.Proof.Experts.Whole
public import proofs.«01_k».proof.Proof.Experts.Array
public import proofs.«01_k».proof.Proof.Experts.Plain
public import proofs.«01_k».proof.Proof.Gated.Whole
public import proofs.«01_k».proof.Proof.Gated.Array
public import proofs.«01_k».proof.Proof.Gated.Plain
public import proofs.«01_k».proof.Proof.Projections.Out
public import proofs.«01_k».proof.Proof.Projections.Keys
public import proofs.«01_k».proof.Proof.Projections.Values
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpIdeal.Value
public import proofs.«01_k».proof.Proof.Gen.UpReferenceIdeal
public import proofs.«01_k».proof.Proof.Gen.UpReferenceIdeal.Run
public import proofs.«01_k».proof.Proof.Gen.ExpDown
public import proofs.«01_k».proof.Proof.Gen.ExpDownIdeal
public import proofs.«01_k».proof.Proof.Gen.ExpDownReferenceIdeal
public import proofs.«01_k».proof.Proof.Gen.ExpDownReferenceIdeal.Run
public import proofs.«01_k».proof.Proof.Gen.ExpUp
public import proofs.«01_k».proof.Proof.Gen.ExpUpIdeal
public import proofs.«01_k».proof.Proof.Gen.ExpUpIdeal.Launch
public import proofs.«01_k».proof.Proof.Gen.ExpUpIdeal.Skeleton
public import proofs.«01_k».proof.Proof.Gen.ExpUpReferenceIdeal
public import proofs.«01_k».proof.Proof.Gen.ExpUpReferenceIdeal.Run
public import Idealize.ShloMosaic.Lib.Claim
public import Idealize.ShloMosaic.Adequacy
public import Idealize.ShloMosaic.Init
public import proofs.«01_k».proof.Proof.Gen.OddOut.Frame
public import proofs.«01_k».proof.Proof.Gen.OddOutIdeal.Value
public import proofs.«01_k».proof.Proof.Gen.OddOutReferenceIdeal.Run
public import proofs.«01_k».proof.Proof.Gen.Keys.Frame
public import proofs.«01_k».proof.Proof.Gen.KeysIdeal.Value
public import proofs.«01_k».proof.Proof.Gen.KeysReferenceIdeal.Run
public import proofs.«01_k».proof.Proof.Gen.Vals.Frame
public import proofs.«01_k».proof.Proof.Gen.ValsIdeal.Value
public import proofs.«01_k».proof.Proof.Gen.ValsReferenceIdeal.Run

@[expose] public section

noncomputable section

namespace Cert.Proof

open Idealize.ShloMosaic Idealize.SL.Sem

theorem frame_p : Cert.quiescent_Kernel := fun m g _ =>
  θ_run_with_sems (Cert.Kernel.Gen.frame_of m g (Kernel.dats m) fun c w => Kernel.A_eq m c w) (Kernel.run_main m g)

theorem frame_pi : Cert.quiescent_KernelIdeal := fun m g _ =>
  θ_run_with_sems (Cert.KernelIdeal.Gen.frame_of m g (KernelIdeal.dats m) fun c w => KernelIdeal.A_eq m c w) (KernelIdeal.run_main m g)

theorem frame_ri : Cert.quiescent_ReferenceIdeal := fun m g _ =>
  (θ_run _ _ _).mono (fun r h => ⟨fun c => (h c).2, sem_eq_zero_of_no_sems (by decide) r.2⟩)
    (Cert.ReferenceIdeal.Value.run m g)

theorem preserves : Cert.preserves_Kernel_KernelIdeal :=
  ⟨IdealRules.named_const.statement Cert.KernelIdeal.κ "neg_log2e" .f32 0xBFB8AA3B#32 _ rfl,
    IdealRules.named_const.statement Cert.KernelIdeal.κ "mask" .f32 0xF149F2CA#32 ⊥ rfl⟩

theorem frame_pi_finite [hPre_finite : Cert.Pre_finite.Facts] : Cert.quiescent_KernelIdeal_pre_finite := fun m g _ => frame_pi m g trivial

theorem frame_ri_finite [hPre_finite : Cert.Pre_finite.Facts] : Cert.quiescent_ReferenceIdeal_pre_finite := fun m g _ => frame_ri m g trivial

/-- Every index of the result names a batch, a position, a head and a feature. -/
theorem index_eq (i : Cert.KernelIdeal.S2x8192x2048.Idx) :
    ∃ (b : Fin 2) (n : Fin 8192) (h : Fin 16) (d : Fin 128), i = ValueIdx.ix3 b n (KernelIdeal.lane h d) := by
  have hi : (i 2).val < 2048 := (i 2).isLt
  refine ⟨i 0, i 1, ⟨(i 2).val / 128, by omega⟩, ⟨(i 2).val % 128, by omega⟩, ?_⟩
  funext a
  refine Fin.ext ?_
  match a with
  | ⟨0, _⟩ => rfl
  | ⟨1, _⟩ => rfl
  | ⟨2, _⟩ => exact (Nat.div_add_mod (i 2).val 128).symm

theorem algebraic (hP : Cert.Pre_finite.Facts) : Cert.algebraic_KernelIdeal_ReferenceIdeal_pre_finite := by
  intro m g m' g' hpre hagree
  have hr := fun c => Finite.reals hP _ _ _ _ (hpre c)
  choose q hq using fun c => (hr c).1
  choose k hk using fun c => (hr c).2.1
  choose l hl using fun c => (hr c).2.2
  refine ⟨fun c => KernelIdeal.result m c (q c) (k c) (l c), ?_, ?_⟩
  · refine (θ_run _ _ _).mono (fun r h c => ⟨?_, h.2 c⟩) (θ_run_and (KernelIdeal.run_main m g)
      (Cert.KernelIdeal.Gen.frame_of m g (KernelIdeal.dats m) (fun c w => KernelIdeal.A_eq m c w)
        ((θ_run _ _ _).mono (fun _ h => h.1) (KernelIdeal.run_main m g))))
    exact ((h.1.1 c).1 4).trans (KernelIdeal.final_out m c (q c) (k c) (l c) (hq c) (hk c) (hl c))
  · refine (θ_run _ _ _).mono (fun r h c => ⟨(h c).1.trans ?_, (h c).2⟩) (Cert.ReferenceIdeal.Value.run m' g')
    obtain ⟨e₀, e₁, e₂, e₃⟩ := hagree c
    funext i
    obtain ⟨b, n, h, d, rfl⟩ := index_eq i
    refine (ReferenceIdeal.res_apply (q c) (k c) (l c) m' c (fun i => (congrFun e₀ i).trans (hq c i)) (fun i => (congrFun e₁ i).trans (hk c i))
      (fun i => (congrFun e₃ i).trans (hl c i)) b n h d).trans ?_
    rw [e₂]
    exact (KernelIdeal.result_apply m c (q c) (k c) (l c) b n h d).symm

/-! ## The call `ffn_up` -/

theorem frame_up : Cert.quiescent_Up := fun m g _ => Cert.Up.Gen.frame m g

theorem frame_up_ideal : Cert.quiescent_UpIdeal := fun m g _ => Cert.UpIdeal.Gen.frame m g

theorem frame_up_reference : Cert.quiescent_UpReferenceIdeal := fun m g _ =>
  (θ_run _ _ _).mono (fun r h => ⟨fun c => (h c).2, sem_eq_zero_of_no_sems (by decide) r.2⟩)
    (Cert.UpReferenceIdeal.Value.run m g)

theorem preserves_up : Cert.preserves_Up_UpIdeal := trivial

theorem algebraic_up : Cert.algebraic_UpIdeal_UpReferenceIdeal := by
  intro m g m' g' _ hagree
  refine ⟨fun c => Hidden.result m c, ?_, ?_⟩
  · exact (θ_run _ _ _).mono (fun r h c => ⟨(h c).1.trans (Hidden.final m c), (h c).2⟩) (Cert.UpIdeal.Value.run_blocks m g)
  · refine (θ_run _ _ _).mono (fun r h c => ⟨(h c).1.trans ?_, (h c).2⟩) (Cert.UpReferenceIdeal.Value.run m' g')
    obtain ⟨e₀, e₁, e₂⟩ := hagree c
    rw [e₀, e₁, e₂]
    funext i
    obtain ⟨b, n, e, rfl⟩ := Hidden.index_eq i
    exact (Hidden.plain_apply _ _ _ b n e).trans (Hidden.result_apply m c b n e).symm

/-! ## The call `moe_down` -/

/-- The printed kernel's body table is the idealization's, at words. -/
theorem body_table : Cert.ExpDown.defs₀ (F := Bits) = Cert.ExpDownIdeal.defs₀ := by
  unfold Cert.ExpDown.defs₀ Cert.ExpDownIdeal.defs₀
  refine congrArg Defs.onTc (funext fun k => funext fun a => ?_)
  obtain ⟨_ | k, hk⟩ := k
  · rfl
  · exact absurd hk (by omega)

theorem call_table : Cert.ExpDown.defs (F := Bits) = Cert.ExpDownIdeal.defs :=
  congrArg (Pipeline.defs (Cert.ExpDownIdeal.pcfgs (F := Bits))) body_table

/-- The printed kernel's run is the idealization's, at words. -/
theorem run_down (m : (ℓ : Loc Cert.ExpDownIdeal.nD Cert.ExpDownIdeal.τ Cert.ExpDownIdeal.sig) → Buf (Elt Bits) ℓ)
    (g : Dev Cert.ExpDownIdeal.nD → PrngReg) (R : Experts.IsRouted m) :
    θ_run (Cert.ExpDown.defs (F := Bits)) (onTc (τ := Cert.ExpDown.τ) (Cert.ExpDown.main (F := Bits))) ⟨m, fun _ => 0, g⟩
      (fun r => (∀ c, Experts.Kept m r.2.mem c) ∧ r.2.sem = fun _ => 0) := by
  rw [call_table]
  exact Experts.frame_main m g R

theorem frame_down [hPre_routed3 : Cert.Pre_routed3.Facts] : Cert.quiescent_ExpDown := fun m g hpre =>
  run_down m g (Experts.routed_of hPre_routed3 _ _ _ _ _ (hpre 0))

theorem frame_down_ideal [hPre_routed3 : Cert.Pre_routed3.Facts] : Cert.quiescent_ExpDownIdeal := fun m g hpre =>
  (θ_run _ _ _).mono (fun _ h => h) (Experts.frame_main m g (Experts.routed_of hPre_routed3 _ _ _ _ _ (hpre 0)))

theorem frame_down_reference : Cert.quiescent_ExpDownReferenceIdeal := fun m g _ =>
  (θ_run _ _ _).mono (fun r h => ⟨fun c => (h c).2, sem_eq_zero_of_no_sems (by decide) r.2⟩)
    (Cert.ExpDownReferenceIdeal.Value.run m g)

theorem frame_down_reference_routed [hPre_routed3 : Cert.Pre_routed3.Facts] : Cert.quiescent_ExpDownReferenceIdeal_pre_routed3 :=
  fun m g _ => frame_down_reference m g trivial

theorem preserves_down : Cert.preserves_ExpDown_ExpDownIdeal := trivial

theorem algebraic_down (hP : Cert.Pre_routed3.Facts) : Cert.algebraic_ExpDownIdeal_ExpDownReferenceIdeal := by
  intro m g m' g' hpre hagree
  have R : Experts.IsRouted m := Experts.routed_of hP _ _ _ _ _ (hpre 0)
  refine ⟨fun c => Experts.result m c, ?_, ?_⟩
  · exact (θ_run _ _ _).mono (fun r h c => ⟨((h.1 c).1 1).trans (Experts.final_out m R c), Experts.kept_of m R h.1 c⟩) (Experts.run_main m g R)
  · refine (θ_run _ _ _).mono (fun r h c => ⟨(h c).1.trans ?_, (h c).2⟩) (Cert.ExpDownReferenceIdeal.Value.run m' g')
    obtain rfl : c = 0 := Subsingleton.elim _ _
    obtain ⟨e₀, e₁, e₂, e₃, _⟩ := hagree 0
    rw [e₀, e₁, e₂, e₃]
    funext i
    obtain ⟨r, e, rfl⟩ := Experts.index_eq i
    exact Experts.plain_apply _ _ _ _ _ R r e

/-! ## The call `moe_up` -/

/-- The printed kernel's body table is the idealization's, at words. -/
theorem unit_body_table : Cert.ExpUp.defs₀ (F := Bits) = Cert.ExpUpIdeal.defs₀ := by
  unfold Cert.ExpUp.defs₀ Cert.ExpUpIdeal.defs₀
  refine congrArg Defs.onTc (funext fun k => funext fun a => ?_)
  obtain ⟨_ | k, hk⟩ := k
  · rfl
  · exact absurd hk (by omega)

theorem unit_call_table : Cert.ExpUp.defs (F := Bits) = Cert.ExpUpIdeal.defs :=
  congrArg (Pipeline.defs (Cert.ExpUpIdeal.pcfgs (F := Bits))) unit_body_table

/-- The printed kernel's run is the idealization's, at words. -/
theorem run_units (m : (ℓ : Loc Cert.ExpUpIdeal.nD Cert.ExpUpIdeal.τ Cert.ExpUpIdeal.sig) → Buf (Elt Bits) ℓ)
    (g : Dev Cert.ExpUpIdeal.nD → PrngReg) (R : Gated.IsRouted m) :
    θ_run (Cert.ExpUp.defs (F := Bits)) (onTc (τ := Cert.ExpUp.τ) (Cert.ExpUp.main (F := Bits))) ⟨m, fun _ => 0, g⟩
      (fun r => (∀ c, Gated.Kept m r.2.mem c) ∧ r.2.sem = fun _ => 0) := by
  rw [unit_call_table]
  exact Gated.frame_main m g R

theorem frame_units [hPre_routed4 : Cert.Pre_routed4.Facts] : Cert.quiescent_ExpUp := fun m g hpre =>
  run_units m g (Gated.routed_of hPre_routed4 _ _ _ _ _ _ (hpre 0))

theorem frame_units_ideal [hPre_routed4 : Cert.Pre_routed4.Facts] : Cert.quiescent_ExpUpIdeal := fun m g hpre =>
  (θ_run _ _ _).mono (fun _ h => h) (Gated.frame_main m g (Gated.routed_of hPre_routed4 _ _ _ _ _ _ (hpre 0)))

theorem frame_units_reference : Cert.quiescent_ExpUpReferenceIdeal := fun m g _ =>
  (θ_run _ _ _).mono (fun r h => ⟨fun c => (h c).2, sem_eq_zero_of_no_sems (by decide) r.2⟩)
    (Cert.ExpUpReferenceIdeal.Value.run m g)

theorem frame_units_reference_routed [hPre_routed4 : Cert.Pre_routed4.Facts] : Cert.quiescent_ExpUpReferenceIdeal_pre_routed4 :=
  fun m g _ => frame_units_reference m g trivial

theorem preserves_units : Cert.preserves_ExpUp_ExpUpIdeal := trivial

theorem algebraic_units (hP : Cert.Pre_routed4.Facts) : Cert.algebraic_ExpUpIdeal_ExpUpReferenceIdeal := by
  intro m g m' g' hpre hagree
  have R : Gated.IsRouted m := Gated.routed_of hP _ _ _ _ _ _ (hpre 0)
  refine ⟨fun c => Gated.result m c, ?_, ?_⟩
  · exact (θ_run _ _ _).mono (fun r h c => ⟨((h.1 c).1 1).trans (Gated.final_out m R c), Gated.kept_of m R h.1 c⟩) (Gated.run_main m g R)
  · refine (θ_run _ _ _).mono (fun r h c => ⟨(h c).1.trans ?_, (h c).2⟩) (Cert.ExpUpReferenceIdeal.Value.run m' g')
    obtain rfl : c = 0 := Subsingleton.elim _ _
    obtain ⟨e₀, e₁, e₂, e₃, e₄, _⟩ := hagree 0
    rw [e₀, e₁, e₂, e₃, e₄]
    funext i
    obtain ⟨r, e, rfl⟩ := Gated.index_eq i
    exact Gated.plain_apply _ _ _ _ _ _ R r e

/-! ## The call `odd_out_ln` -/

theorem frame_out : Cert.quiescent_OddOut := fun m g _ => Cert.OddOut.Gen.frame m g

theorem frame_out_ideal : Cert.quiescent_OddOutIdeal := fun m g _ => Cert.OddOutIdeal.Gen.frame m g

theorem frame_out_reference : Cert.quiescent_OddOutReferenceIdeal := fun m g _ =>
  (θ_run _ _ _).mono (fun r h => ⟨fun c => (h c).2, sem_eq_zero_of_no_sems (by decide) r.2⟩)
    (Cert.OddOutReferenceIdeal.Value.run m g)

theorem preserves_out : Cert.preserves_OddOut_OddOutIdeal := trivial

theorem algebraic_out : Cert.algebraic_OddOutIdeal_OddOutReferenceIdeal := by
  intro m g m' g' _ hagree
  refine ⟨fun c => (Cert.OddOutIdeal.Gen.dats m 0 c).arrAt 5 Cert.OddOutIdeal.cfg0.N, Cert.OddOutIdeal.Value.run_blocks m g, ?_⟩
  refine (θ_run _ _ _).mono (fun r h c => ⟨(h c).1.trans ?_, (h c).2⟩) (Cert.OddOutReferenceIdeal.Value.run m' g')
  obtain ⟨e₀, e₁, e₂, e₃, e₄⟩ := hagree c
  rw [e₀, e₁, e₂, e₃, e₄]
  funext i
  obtain ⟨r, e, rfl⟩ := OddOut.index_eq i
  exact (OddOut.plain_apply _ _ _ _ _ r e).trans (OddOut.final_apply m c r e).symm

/-! ## The call `proj` -/

theorem frame_keys : Cert.quiescent_Keys := fun m g _ => Cert.Keys.Gen.frame m g

theorem frame_keys_ideal : Cert.quiescent_KeysIdeal := fun m g _ => Cert.KeysIdeal.Gen.frame m g

theorem frame_keys_reference : Cert.quiescent_KeysReferenceIdeal := fun m g _ =>
  (θ_run _ _ _).mono (fun r h => ⟨fun c => (h c).2, sem_eq_zero_of_no_sems (by decide) r.2⟩)
    (Cert.KeysReferenceIdeal.Value.run m g)

theorem preserves_keys : Cert.preserves_Keys_KeysIdeal := trivial

theorem algebraic_keys : Cert.algebraic_KeysIdeal_KeysReferenceIdeal := by
  intro m g m' g' _ hagree
  refine ⟨fun c => (Cert.KeysIdeal.Gen.dats m 0 c).arrAt 2 Cert.KeysIdeal.cfg0.N, Cert.KeysIdeal.Value.run_blocks m g, ?_⟩
  refine (θ_run _ _ _).mono (fun r h c => ⟨(h c).1.trans ?_, (h c).2⟩) (Cert.KeysReferenceIdeal.Value.run m' g')
  obtain ⟨e₀, e₁⟩ := hagree c
  rw [e₀, e₁]
  funext i
  obtain ⟨b, n, e, rfl⟩ := Keys.index_eq i
  exact (Keys.plain_apply _ _ b n e).trans (Keys.final_apply m c b n e).symm

/-! ## The call `proj_t` -/

theorem frame_vals : Cert.quiescent_Vals := fun m g _ => Cert.Vals.Gen.frame m g

theorem frame_vals_ideal : Cert.quiescent_ValsIdeal := fun m g _ => Cert.ValsIdeal.Gen.frame m g

theorem frame_vals_reference : Cert.quiescent_ValsReferenceIdeal := fun m g _ =>
  (θ_run _ _ _).mono (fun r h => ⟨fun c => (h c).2, sem_eq_zero_of_no_sems (by decide) r.2⟩)
    (Cert.ValsReferenceIdeal.Value.run m g)

theorem preserves_vals : Cert.preserves_Vals_ValsIdeal := trivial

theorem algebraic_vals : Cert.algebraic_ValsIdeal_ValsReferenceIdeal := by
  intro m g m' g' _ hagree
  refine ⟨fun c => (Cert.ValsIdeal.Gen.dats m 0 c).arrAt 2 Cert.ValsIdeal.cfg0.N, Cert.ValsIdeal.Value.run_blocks m g, ?_⟩
  refine (θ_run _ _ _).mono (fun r h c => ⟨(h c).1.trans ?_, (h c).2⟩) (Cert.ValsReferenceIdeal.Value.run m' g')
  obtain ⟨e₀, e₁⟩ := hagree c
  rw [e₀, e₁]
  funext i
  obtain ⟨b, e, n, rfl⟩ : ∃ (b : Fin 2) (e : Fin 2048) (n : Fin 8192), i = ValueIdx.ix3 b e n := ⟨i 0, i 1, i 2, ValueIdx.eq_ix3 i⟩
  exact (Vals.plain_apply _ _ b e n).trans (Vals.final_apply m c b e n).symm

/-- The claim. -/
theorem claim : Cert.Claim :=
  ⟨Cert.Kernel.Gen.facts, Cert.KernelIdeal.Gen.facts, Cert.ReferenceIdeal.Gen.facts, Cert.Up.Gen.facts, Cert.UpIdeal.Gen.facts,
    Cert.UpReferenceIdeal.Gen.facts, Cert.ExpDown.Gen.facts, Cert.ExpDownIdeal.Gen.facts, Cert.ExpDownReferenceIdeal.Gen.facts,
    Cert.ExpUp.Gen.facts, Cert.ExpUpIdeal.Gen.facts, Cert.ExpUpReferenceIdeal.Gen.facts,
    Cert.OddOut.Gen.facts, Cert.OddOutIdeal.Gen.facts, Cert.OddOutReferenceIdeal.Gen.facts,
    Cert.Keys.Gen.facts, Cert.KeysIdeal.Gen.facts, Cert.KeysReferenceIdeal.Gen.facts,
    Cert.Vals.Gen.facts, Cert.ValsIdeal.Gen.facts, Cert.ValsReferenceIdeal.Gen.facts,
    Finite.facts, Experts.pre_facts, Gated.pre_facts, frame_p, frame_pi, frame_pi_finite (hPre_finite := Finite.facts), frame_ri,
    frame_ri_finite (hPre_finite := Finite.facts), frame_up, frame_up_ideal, frame_up_reference,
    frame_down (hPre_routed3 := Experts.pre_facts), frame_down_ideal (hPre_routed3 := Experts.pre_facts), frame_down_reference,
    frame_down_reference_routed (hPre_routed3 := Experts.pre_facts), frame_units (hPre_routed4 := Gated.pre_facts),
    frame_units_ideal (hPre_routed4 := Gated.pre_facts), frame_units_reference,
    frame_units_reference_routed (hPre_routed4 := Gated.pre_facts),
    frame_out, frame_out_ideal, frame_out_reference, frame_keys, frame_keys_ideal, frame_keys_reference,
    frame_vals, frame_vals_ideal, frame_vals_reference, preserves, algebraic Finite.facts, preserves_up, algebraic_up, preserves_down,
    algebraic_down Experts.pre_facts, preserves_units, algebraic_units Gated.pre_facts, preserves_out, algebraic_out,
    preserves_keys, algebraic_keys, preserves_vals, algebraic_vals⟩

end Cert.Proof

end
